-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S48x896x960 : Shape := ⟨3, ![48, 896, 960]⟩
abbrev S48 : Shape := ⟨1, ![48]⟩
abbrev S_ : Shape := ⟨0, ![]⟩

class Facts : Prop where
  bcast_S_S48 : S_.BroadcastsInDim S48 (![] : Fin 0 → Fin S48.rank)

variable [Facts]

def fn {F : FTy → Type} [FloatOps F] (main_arg0 : FVec F S48x8192x896 .fp8e4m3) (main_arg1 : FVec F S48x64x896 .f32) (main_arg2 : FVec F S48x8192x960 .fp8e5m2) (main_arg3 : FVec F S48x64x960 .f32) (main_arg4 : FVec F S48x896x960 .f32) (main_arg5 : IVec S48 32) : IVec S48 1 :=
  let main_c : IVec S_ 32 := constantI S_ 32 0#32
  let main_v0 : IVec S48 32 := broadcastInDim S48 ![] bcast_S_S48 main_c
  let main_v1 : IVec S48 1 := cmpi .sge main_arg5 main_v0
  let main_c_0 : IVec S_ 32 := constantI S_ 32 8192#32
  let main_v2 : IVec S48 32 := broadcastInDim S48 ![] bcast_S_S48 main_c_0
  let main_v3 : IVec S48 1 := cmpi .sle main_arg5 main_v2
  let main_v4 : IVec S48 1 := andi main_v1 main_v3
  main_v4
-- ==== Kernel.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S48x896x960 : Shape := ⟨3, ![48, 896, 960]⟩
abbrev S48 : Shape := ⟨1, ![48]⟩
abbrev S48x960x8192 : Shape := ⟨3, ![48, 960, 8192]⟩
abbrev S48x960x896 : Shape := ⟨3, ![48, 960, 896]⟩
abbrev S5x1024x896 : Shape := ⟨3, ![5, 1024, 896]⟩
abbrev S5x960x1024 : Shape := ⟨3, ![5, 960, 1024]⟩
abbrev S5x8x896 : Shape := ⟨3, ![5, 8, 896]⟩
abbrev S5x8x960 : Shape := ⟨3, ![5, 8, 960]⟩
abbrev S10x960x896 : Shape := ⟨3, ![10, 960, 896]⟩
abbrev S1024x896 : Shape := ⟨2, ![1024, 896]⟩
abbrev S960x1024 : Shape := ⟨2, ![960, 1024]⟩
abbrev S5 : Shape := ⟨1, ![5]⟩
abbrev S10 : Shape := ⟨1, ![10]⟩
abbrev S1 : Shape := ⟨1, ![1]⟩
abbrev S_ : Shape := ⟨0, ![]⟩
abbrev S1x960x896 : Shape := ⟨3, ![1, 960, 896]⟩
abbrev S960x896 : Shape := ⟨2, ![960, 896]⟩
abbrev S1x8x896 : Shape := ⟨3, ![1, 8, 896]⟩
abbrev S8x896 : Shape := ⟨2, ![8, 896]⟩
abbrev S1x8x960 : Shape := ⟨3, ![1, 8, 960]⟩
abbrev S8x960 : Shape := ⟨2, ![8, 960]⟩
abbrev S1x1024x896 : Shape := ⟨3, ![1, 1024, 896]⟩
abbrev S1x960x1024 : Shape := ⟨3, ![1, 960, 1024]⟩
abbrev S1x512x896 : Shape := ⟨3, ![1, 512, 896]⟩
abbrev S512x896 : Shape := ⟨2, ![512, 896]⟩
abbrev S1x960x512 : Shape := ⟨3, ![1, 960, 512]⟩
abbrev S960x512 : Shape := ⟨2, ![960, 512]⟩
abbrev S1x256x896 : Shape := ⟨3, ![1, 256, 896]⟩
abbrev S256x896 : Shape := ⟨2, ![256, 896]⟩
abbrev S1x960x256 : Shape := ⟨3, ![1, 960, 256]⟩
abbrev S960x256 : Shape := ⟨2, ![960, 256]⟩
abbrev S1x128x896 : Shape := ⟨3, ![1, 128, 896]⟩
abbrev S128x896 : Shape := ⟨2, ![128, 896]⟩
abbrev S1x960x128 : Shape := ⟨3, ![1, 960, 128]⟩
abbrev S960x128 : Shape := ⟨2, ![960, 128]⟩
abbrev S960x8 : Shape := ⟨2, ![960, 8]⟩
abbrev S1x128 : Shape := ⟨2, ![1, 128]⟩
abbrev S1x896 : Shape := ⟨2, ![1, 896]⟩
abbrev S960x1 : Shape := ⟨2, ![960, 1]⟩

abbrev nBuf : Space → Nat
  | .hbm => 10
  | .vmem => 7
  | .smem => 1
  | _ => 0

abbrev bufTy : (tb : Table) → Fin (tcTables nBuf tb) → BufTy
  | .hbm, ⟨0, _⟩ => ⟨S48x8192x896, .fp8e4m3⟩
  | .hbm, ⟨1, _⟩ => ⟨S48x64x896, .f32⟩
  | .hbm, ⟨2, _⟩ => ⟨S48x8192x960, .fp8e5m2⟩
  | .hbm, ⟨3, _⟩ => ⟨S48x64x960, .f32⟩
  | .hbm, ⟨4, _⟩ => ⟨S48x896x960, .f32⟩
  | .hbm, ⟨5, _⟩ => ⟨S48, .i32⟩
  | .hbm, ⟨6, _⟩ => ⟨S48x960x8192, .fp8e5m2⟩
  | .hbm, ⟨7, _⟩ => ⟨S48x960x896, .f32⟩
  | .hbm, ⟨8, _⟩ => ⟨S48x960x896, .f32⟩
  | .hbm, ⟨9, _⟩ => ⟨S48x896x960, .f32⟩
  | .local _ .vmem, ⟨0, _⟩ => ⟨S5x1024x896, .fp8e4m3⟩
  | .local _ .vmem, ⟨1, _⟩ => ⟨S5x960x1024, .fp8e5m2⟩
  | .local _ .vmem, ⟨2, _⟩ => ⟨S5x8x896, .f32⟩
  | .local _ .vmem, ⟨3, _⟩ => ⟨S5x8x960, .f32⟩
  | .local _ .vmem, ⟨4, _⟩ => ⟨S10x960x896, .f32⟩
  | .local _ .vmem, ⟨5, _⟩ => ⟨S1024x896, .bf16⟩
  | .local _ .vmem, ⟨6, _⟩ => ⟨S960x1024, .bf16⟩
  | .local _ .smem, ⟨0, _⟩ => ⟨S48, .i32⟩
  | _, _ => ⟨S48x8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_43 : BitVec 32 := 0#32
  let c48_i32_44 : BitVec 32 := 48#32
  let v42 : BitVec 32 := Scalar.addi c0_i32_43 c48_i32_44
  let c1_i32_45 : BitVec 32 := 1#32
  ⟨c0_i32_43, v42, c1_i32_45⟩
def k0_off1 (k0_t1 : Fin k0_t1_loop.trips) : Fin 1 → Nat :=
  let c47_i32_185 : BitVec 32 := 47#32
  let c0_i32_43 : BitVec 32 := 0#32
  let c1_i32_45 : BitVec 32 := 1#32
  let arg18 : BitVec 32 := Scf.iv c0_i32_43 c1_i32_45 k0_t1
  let v266 : BitVec 32 := Scalar.subi c47_i32_185 arg18
  let v268 : Index := Scalar.indexCast v266
  ![v268.toNat]
def k0_off2 (v43 : BitVec 32) : Fin 1 → Nat :=
  let c47_i32 : BitVec 32 := 47#32
  let v45 : BitVec 32 := Scalar.minsi v43 c47_i32
  let v266 : Index := Scalar.indexCast v45
  ![v266.toNat]
def k0_cond1 (v43 : BitVec 32) : BitVec 1 :=
  let c48_i32_47 : BitVec 32 := 48#32
  let v44 : BitVec 1 := Scalar.cmpi .slt v43 c48_i32_47
  let v46 : BitVec 32 := Scalar.extui v44
  let c0_i32_49 : BitVec 32 := 0#32
  let v47 : BitVec 1 := Scalar.cmpi .ne v46 c0_i32_49
  v47

def k0_mult1 : BitVec 32 :=
  let c0_i32_48 : BitVec 32 := 0#32
  let c8_i32_193 : BitVec 32 := 8#32
  let v289 : BitVec 32 := Scalar.muli c0_i32_48 c8_i32_193
  v289
def k0_off3 (v43 : BitVec 32) : Fin 3 → Nat :=
  let c47_i32 : BitVec 32 := 47#32
  let v45 : BitVec 32 := Scalar.minsi v43 c47_i32
  let c0_i32_48 : BitVec 32 := 0#32
  let c8_i32_193 : BitVec 32 := 8#32
  let v289 : BitVec 32 := Scalar.muli c0_i32_48 c8_i32_193
  let v290 : BitVec 32 := v289
  let c0_i32_198 : BitVec 32 := 0#32
  ![v45.toNat, v290.toNat, 0]
def k0_off4 (v43 : BitVec 32) : Fin 3 → Nat :=
  let c47_i32 : BitVec 32 := 47#32
  let v45 : BitVec 32 := Scalar.minsi v43 c47_i32
  let c0_i32_48 : BitVec 32 := 0#32
  let c8_i32_193 : BitVec 32 := 8#32
  let v289 : BitVec 32 := Scalar.muli c0_i32_48 c8_i32_193
  let v290 : BitVec 32 := v289
  let c0_i32_203 : BitVec 32 := 0#32
  ![v45.toNat, v290.toNat, 0]
def k0_mult2 (v267 : BitVec 32) : BitVec 32 :=
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  v325
def k0_cond2 (v267 : BitVec 32) : BitVec 1 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_205 : BitVec 32 := 8#32
  let v304 : BitVec 32 := Scalar.andi v288 c8_i32_205
  let c0_i32_206 : BitVec 32 := 0#32
  let v305 : BitVec 1 := Scalar.cmpi .ne v304 c0_i32_206
  let v306 : BitVec 32 := Scalar.extui v305
  let c0_i32_207 : BitVec 32 := 0#32
  let v307 : BitVec 1 := Scalar.cmpi .ne v306 c0_i32_207
  v307

def k0_mult3 (v267 : BitVec 32) : BitVec 32 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  v327
def k0_off5 (v267 : BitVec 32) : Fin 3 → Nat :=
  let c0_i32_221 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  let c0_i32_223 : BitVec 32 := 0#32
  ![0, v328.toNat, 0]
def k0_off6 (v43 : BitVec 32) (v267 : BitVec 32) : Fin 3 → Nat :=
  let c47_i32 : BitVec 32 := 47#32
  let v45 : BitVec 32 := Scalar.minsi v43 c47_i32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  let c0_i32_224 : BitVec 32 := 0#32
  ![v45.toNat, v326.toNat, 0]
def k0_off7 (v267 : BitVec 32) : Fin 3 → Nat :=
  let c0_i32_225 : BitVec 32 := 0#32
  let c0_i32_227 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  ![0, 0, v328.toNat]
def k0_off8 (v43 : BitVec 32) (v267 : BitVec 32) : Fin 3 → Nat :=
  let c47_i32 : BitVec 32 := 47#32
  let v45 : BitVec 32 := Scalar.minsi v43 c47_i32
  let c0_i32_228 : BitVec 32 := 0#32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  ![v45.toNat, 0, v326.toNat]
def k0_mult4 (v267 : BitVec 32) : BitVec 32 :=
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  v325
def k0_cond3 (v267 : BitVec 32) : BitVec 1 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c4_i32_209 : BitVec 32 := 4#32
  let v309 : BitVec 32 := Scalar.andi v288 c4_i32_209
  let c0_i32_210 : BitVec 32 := 0#32
  let v310 : BitVec 1 := Scalar.cmpi .ne v309 c0_i32_210
  let v311 : BitVec 32 := Scalar.extui v310
  let c0_i32_211 : BitVec 32 := 0#32
  let v312 : BitVec 1 := Scalar.cmpi .ne v311 c0_i32_211
  v312

def k0_mult5 (v267 : BitVec 32) : BitVec 32 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  v327
def k0_off9 (v267 : BitVec 32) : Fin 3 → Nat :=
  let c0_i32_221 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  let c0_i32_223 : BitVec 32 := 0#32
  ![0, v328.toNat, 0]
def k0_off10 (v43 : BitVec 32) (v267 : BitVec 32) : Fin 3 → Nat :=
  let c47_i32 : BitVec 32 := 47#32
  let v45 : BitVec 32 := Scalar.minsi v43 c47_i32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  let c0_i32_224 : BitVec 32 := 0#32
  ![v45.toNat, v326.toNat, 0]
def k0_off11 (v267 : BitVec 32) : Fin 3 → Nat :=
  let c0_i32_225 : BitVec 32 := 0#32
  let c0_i32_227 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  ![0, 0, v328.toNat]
def k0_off12 (v43 : BitVec 32) (v267 : BitVec 32) : Fin 3 → Nat :=
  let c47_i32 : BitVec 32 := 47#32
  let v45 : BitVec 32 := Scalar.minsi v43 c47_i32
  let c0_i32_228 : BitVec 32 := 0#32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  ![v45.toNat, 0, v326.toNat]
def k0_mult6 (v267 : BitVec 32) : BitVec 32 :=
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  v325
def k0_cond4 (v267 : BitVec 32) : BitVec 1 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c2_i32_212 : BitVec 32 := 2#32
  let v314 : BitVec 32 := Scalar.andi v288 c2_i32_212
  let c0_i32_213 : BitVec 32 := 0#32
  let v315 : BitVec 1 := Scalar.cmpi .ne v314 c0_i32_213
  let v316 : BitVec 32 := Scalar.extui v315
  let c0_i32_214 : BitVec 32 := 0#32
  let v317 : BitVec 1 := Scalar.cmpi .ne v316 c0_i32_214
  v317

def k0_mult7 (v267 : BitVec 32) : BitVec 32 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  v327
def k0_off13 (v267 : BitVec 32) : Fin 3 → Nat :=
  let c0_i32_221 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  let c0_i32_223 : BitVec 32 := 0#32
  ![0, v328.toNat, 0]
def k0_off14 (v43 : BitVec 32) (v267 : BitVec 32) : Fin 3 → Nat :=
  let c47_i32 : BitVec 32 := 47#32
  let v45 : BitVec 32 := Scalar.minsi v43 c47_i32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  let c0_i32_224 : BitVec 32 := 0#32
  ![v45.toNat, v326.toNat, 0]
def k0_off15 (v267 : BitVec 32) : Fin 3 → Nat :=
  let c0_i32_225 : BitVec 32 := 0#32
  let c0_i32_227 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  ![0, 0, v328.toNat]
def k0_off16 (v43 : BitVec 32) (v267 : BitVec 32) : Fin 3 → Nat :=
  let c47_i32 : BitVec 32 := 47#32
  let v45 : BitVec 32 := Scalar.minsi v43 c47_i32
  let c0_i32_228 : BitVec 32 := 0#32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  ![v45.toNat, 0, v326.toNat]
def k0_mult8 (v267 : BitVec 32) : BitVec 32 :=
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  v325
def k0_cond5 (v267 : BitVec 32) : BitVec 1 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c1_i32_215 : BitVec 32 := 1#32
  let v319 : BitVec 32 := Scalar.andi v288 c1_i32_215
  let c0_i32_216 : BitVec 32 := 0#32
  let v320 : BitVec 1 := Scalar.cmpi .ne v319 c0_i32_216
  let v321 : BitVec 32 := Scalar.extui v320
  let c0_i32_217 : BitVec 32 := 0#32
  let v322 : BitVec 1 := Scalar.cmpi .ne v321 c0_i32_217
  v322

def k0_mult9 (v267 : BitVec 32) : BitVec 32 :=
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  v327
def k0_off17 (v267 : BitVec 32) : Fin 3 → Nat :=
  let c0_i32_221 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  let c0_i32_223 : BitVec 32 := 0#32
  ![0, v328.toNat, 0]
def k0_off18 (v43 : BitVec 32) (v267 : BitVec 32) : Fin 3 → Nat :=
  let c47_i32 : BitVec 32 := 47#32
  let v45 : BitVec 32 := Scalar.minsi v43 c47_i32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  let c0_i32_224 : BitVec 32 := 0#32
  ![v45.toNat, v326.toNat, 0]
def k0_off19 (v267 : BitVec 32) : Fin 3 → Nat :=
  let c0_i32_225 : BitVec 32 := 0#32
  let c0_i32_227 : BitVec 32 := 0#32
  let c0_i32_48 : BitVec 32 := 0#32
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  ![0, 0, v328.toNat]
def k0_off20 (v43 : BitVec 32) (v267 : BitVec 32) : Fin 3 → Nat :=
  let c47_i32 : BitVec 32 := 47#32
  let v45 : BitVec 32 := Scalar.minsi v43 c47_i32
  let c0_i32_228 : BitVec 32 := 0#32
  let c0_i32_48 : BitVec 32 := 0#32
  let c1024_i32_218 : BitVec 32 := 1024#32
  let v323 : BitVec 32 := Scalar.muli c0_i32_48 c1024_i32_218
  let c1024_i32_185 : BitVec 32 := 1024#32
  let v268 : BitVec 32 := Scalar.muli c0_i32_48 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  ![v45.toNat, 0, v326.toNat]

def k0_chk2_0 (v43 : BitVec 32) (v267 : BitVec 32) : Prop :=
  (∀ (k0_h1 : k0_cond1 v43 = 1#1), ∀ (k0_h2 : k0_cond2 v267 = 1#1), 128 ∣ (k0_mult2 v267).toNat) ∧
  (∀ (k0_h1 : k0_cond1 v43 = 1#1), ∀ (k0_h2 : k0_cond2 v267 = 1#1), 128 ∣ (k0_mult3 v267).toNat) ∧
  (∀ (k0_h1 : k0_cond1 v43 = 1#1), ∀ (k0_h2 : k0_cond2 v267 = 1#1), ∀ a, (k0_off5 v267) a + S1x1024x896.size a ≤ S5x1024x896.size a) ∧
  (∀ (k0_h1 : k0_cond1 v43 = 1#1), ∀ (k0_h2 : k0_cond2 v267 = 1#1), ∀ a, (k0_off6 v43 v267) a + S1x1024x896.size a ≤ S48x8192x896.size a) ∧
  (∀ (k0_h1 : k0_cond1 v43 = 1#1), ∀ (k0_h2 : k0_cond2 v267 = 1#1), ∀ (hinb : ∀ a, (k0_off6 v43 v267) a + S1x1024x896.size a ≤ S48x8192x896.size a), (Rect.unit (s := S48x8192x896) (k0_off6 v43 v267) S1x1024x896.size hinb).WholeWords (EltTy.packing .fp8e4m3)) ∧
  (∀ (k0_h1 : k0_cond1 v43 = 1#1), ∀ (k0_h2 : k0_cond2 v267 = 1#1), ∀ (hinb : ∀ a, (k0_off5 v267) a + S1x1024x896.size a ≤ S5x1024x896.size a), (Rect.unit (s := S5x1024x896) (k0_off5 v267) S1x1024x896.size hinb).WholeWords (EltTy.packing .fp8e4m3)) ∧
  (∀ (k0_h1 : k0_cond1 v43 = 1#1), ∀ (k0_h2 : k0_cond2 v267 = 1#1), ∀ a, (k0_off7 v267) a + S1x960x1024.size a ≤ S5x960x1024.size a) ∧
  (∀ (k0_h1 : k0_cond1 v43 = 1#1), ∀ (k0_h2 : k0_cond2 v267 = 1#1), ∀ a, (k0_off8 v43 v267) a + S1x960x1024.size a ≤ S48x960x8192.size a) ∧
  (∀ (k0_h1 : k0_cond1 v43 = 1#1), ∀ (k0_h2 : k0_cond2 v267 = 1#1), ∀ (hinb : ∀ a, (k0_off8 v43 v267) a + S1x960x1024.size a ≤ S48x960x8192.size a), (Rect.unit (s := S48x960x8192) (k0_off8 v43 v267) S1x960x1024.size hinb).WholeWords (EltTy.packing .fp8e5m2)) ∧
  (∀ (k0_h1 : k0_cond1 v43 = 1#1), ∀ (k0_h2 : k0_cond2 v267 = 1#1), ∀ (hinb : ∀ a, (k0_off7 v267) a + S1x960x1024.size a ≤ S5x960x1024.size a), (Rect.unit (s := S5x960x1024) (k0_off7 v267) S1x960x1024.size hinb).WholeWords (EltTy.packing .fp8e5m2)) ∧
  (∀ (k0_h1 : k0_cond1 v43 = 1#1), ∀ (k0_h3 : k0_cond3 v267 = 1#1), 128 ∣ (k0_mult4 v267).toNat) ∧
  (∀ (k0_h1 : k0_cond1 v43 = 1#1), ∀ (k0_h3 : k0_cond3 v267 = 1#1), 128 ∣ (k0_mult5 v267).toNat) ∧
  (∀ (k0_h1 : k0_cond1 v43 = 1#1), ∀ (k0_h3 : k0_cond3 v267 = 1#1), ∀ a, (k0_off9 v267) a + S1x512x896.size a ≤ S5x1024x896.size a) ∧
  (∀ (k0_h1 : k0_cond1 v43 = 1#1), ∀ (k0_h3 : k0_cond3 v267 = 1#1), ∀ a, (k0_off10 v43 v267) a + S1x512x896.size a ≤ S48x8192x896.size a) ∧
  (∀ (k0_h1 : k0_cond1 v43 = 1#1), ∀ (k0_h3 : k0_cond3 v267 = 1#1), ∀ (hinb : ∀ a, (k0_off10 v43 v267) a + S1x512x896.size a ≤ S48x8192x896.size a), (Rect.unit (s := S48x8192x896) (k0_off10 v43 v267) S1x512x896.size hinb).WholeWords (EltTy.packing .fp8e4m3)) ∧
  (∀ (k0_h1 : k0_cond1 v43 = 1#1), ∀ (k0_h3 : k0_cond3 v267 = 1#1), ∀ (hinb : ∀ a, (k0_off9 v267) a + S1x512x896.size a ≤ S5x1024x896.size a), (Rect.unit (s := S5x1024x896) (k0_off9 v267) S1x512x896.size hinb).WholeWords (EltTy.packing .fp8e4m3)) ∧
  (∀ (k0_h1 : k0_cond1 v43 = 1#1), ∀ (k0_h3 : k0_cond3 v267 = 1#1), ∀ a, (k0_off11 v267) a + S1x960x512.size a ≤ S5x960x1024.size a) ∧
  (∀ (k0_h1 : k0_cond1 v43 = 1#1), ∀ (k0_h3 : k0_cond3 v267 = 1#1), ∀ a, (k0_off12 v43 v267) a + S1x960x512.size a ≤ S48x960x8192.size a) ∧
  (∀ (k0_h1 : k0_cond1 v43 = 1#1), ∀ (k0_h3 : k0_cond3 v267 = 1#1), ∀ (hinb : ∀ a, (k0_off12 v43 v267) a + S1x960x512.size a ≤ S48x960x8192.size a), (Rect.unit (s := S48x960x8192) (k0_off12 v43 v267) S1x960x512.size hinb).WholeWords (EltTy.packing .fp8e5m2)) ∧
  (∀ (k0_h1 : k0_cond1 v43 = 1#1), ∀ (k0_h3 : k0_cond3 v267 = 1#1), ∀ (hinb : ∀ a, (k0_off11 v267) a + S1x960x512.size a ≤ S5x960x1024.size a), (Rect.unit (s := S5x960x1024) (k0_off11 v267) S1x960x512.size hinb).WholeWords (EltTy.packing .fp8e5m2)) ∧
  (∀ (k0_h1 : k0_cond1 v43 = 1#1), ∀ (k0_h4 : k0_cond4 v267 = 1#1), 128 ∣ (k0_mult6 v267).toNat) ∧
  (∀ (k0_h1 : k0_cond1 v43 = 1#1), ∀ (k0_h4 : k0_cond4 v267 = 1#1), 128 ∣ (k0_mult7 v267).toNat) ∧
  (∀ (k0_h1 : k0_cond1 v43 = 1#1), ∀ (k0_h4 : k0_cond4 v267 = 1#1), ∀ a, (k0_off13 v267) a + S1x256x896.size a ≤ S5x1024x896.size a) ∧
  (∀ (k0_h1 : k0_cond1 v43 = 1#1), ∀ (k0_h4 : k0_cond4 v267 = 1#1), ∀ a, (k0_off14 v43 v267) a + S1x256x896.size a ≤ S48x8192x896.size a) ∧
  (∀ (k0_h1 : k0_cond1 v43 = 1#1), ∀ (k0_h4 : k0_cond4 v267 = 1#1), ∀ (hinb : ∀ a, (k0_off14 v43 v267) a + S1x256x896.size a ≤ S48x8192x896.size a), (Rect.unit (s := S48x8192x896) (k0_off14 v43 v267) S1x256x896.size hinb).WholeWords (EltTy.packing .fp8e4m3)) ∧
  (∀ (k0_h1 : k0_cond1 v43 = 1#1), ∀ (k0_h4 : k0_cond4 v267 = 1#1), ∀ (hinb : ∀ a, (k0_off13 v267) a + S1x256x896.size a ≤ S5x1024x896.size a), (Rect.unit (s := S5x1024x896) (k0_off13 v267) S1x256x896.size hinb).WholeWords (EltTy.packing .fp8e4m3)) ∧
  (∀ (k0_h1 : k0_cond1 v43 = 1#1), ∀ (k0_h4 : k0_cond4 v267 = 1#1), ∀ a, (k0_off15 v267) a + S1x960x256.size a ≤ S5x960x1024.size a) ∧
  (∀ (k0_h1 : k0_cond1 v43 = 1#1), ∀ (k0_h4 : k0_cond4 v267 = 1#1), ∀ a, (k0_off16 v43 v267) a + S1x960x256.size a ≤ S48x960x8192.size a) ∧
  (∀ (k0_h1 : k0_cond1 v43 = 1#1), ∀ (k0_h4 : k0_cond4 v267 = 1#1), ∀ (hinb : ∀ a, (k0_off16 v43 v267) a + S1x960x256.size a ≤ S48x960x8192.size a), (Rect.unit (s := S48x960x8192) (k0_off16 v43 v267) S1x960x256.size hinb).WholeWords (EltTy.packing .fp8e5m2)) ∧
  (∀ (k0_h1 : k0_cond1 v43 = 1#1), ∀ (k0_h4 : k0_cond4 v267 = 1#1), ∀ (hinb : ∀ a, (k0_off15 v267) a + S1x960x256.size a ≤ S5x960x1024.size a), (Rect.unit (s := S5x960x1024) (k0_off15 v267) S1x960x256.size hinb).WholeWords (EltTy.packing .fp8e5m2)) ∧
  (∀ (k0_h1 : k0_cond1 v43 = 1#1), ∀ (k0_h5 : k0_cond5 v267 = 1#1), 128 ∣ (k0_mult8 v267).toNat) ∧
  (∀ (k0_h1 : k0_cond1 v43 = 1#1), ∀ (k0_h5 : k0_cond5 v267 = 1#1), 128 ∣ (k0_mult9 v267).toNat)
def k0_chk2_1 (v43 : BitVec 32) (v267 : BitVec 32) : Prop :=
  (∀ (k0_h1 : k0_cond1 v43 = 1#1), ∀ (k0_h5 : k0_cond5 v267 = 1#1), ∀ a, (k0_off17 v267) a + S1x128x896.size a ≤ S5x1024x896.size a) ∧
  (∀ (k0_h1 : k0_cond1 v43 = 1#1), ∀ (k0_h5 : k0_cond5 v267 = 1#1), ∀ a, (k0_off18 v43 v267) a + S1x128x896.size a ≤ S48x8192x896.size a) ∧
  (∀ (k0_h1 : k0_cond1 v43 = 1#1), ∀ (k0_h5 : k0_cond5 v267 = 1#1), ∀ (hinb : ∀ a, (k0_off18 v43 v267) a + S1x128x896.size a ≤ S48x8192x896.size a), (Rect.unit (s := S48x8192x896) (k0_off18 v43 v267) S1x128x896.size hinb).WholeWords (EltTy.packing .fp8e4m3)) ∧
  (∀ (k0_h1 : k0_cond1 v43 = 1#1), ∀ (k0_h5 : k0_cond5 v267 = 1#1), ∀ (hinb : ∀ a, (k0_off17 v267) a + S1x128x896.size a ≤ S5x1024x896.size a), (Rect.unit (s := S5x1024x896) (k0_off17 v267) S1x128x896.size hinb).WholeWords (EltTy.packing .fp8e4m3)) ∧
  (∀ (k0_h1 : k0_cond1 v43 = 1#1), ∀ (k0_h5 : k0_cond5 v267 = 1#1), ∀ a, (k0_off19 v267) a + S1x960x128.size a ≤ S5x960x1024.size a) ∧
  (∀ (k0_h1 : k0_cond1 v43 = 1#1), ∀ (k0_h5 : k0_cond5 v267 = 1#1), ∀ a, (k0_off20 v43 v267) a + S1x960x128.size a ≤ S48x960x8192.size a) ∧
  (∀ (k0_h1 : k0_cond1 v43 = 1#1), ∀ (k0_h5 : k0_cond5 v267 = 1#1), ∀ (hinb : ∀ a, (k0_off20 v43 v267) a + S1x960x128.size a ≤ S48x960x8192.size a), (Rect.unit (s := S48x960x8192) (k0_off20 v43 v267) S1x960x128.size hinb).WholeWords (EltTy.packing .fp8e5m2)) ∧
  (∀ (k0_h1 : k0_cond1 v43 = 1#1), ∀ (k0_h5 : k0_cond5 v267 = 1#1), ∀ (hinb : ∀ a, (k0_off19 v267) a + S1x960x128.size a ≤ S5x960x1024.size a), (Rect.unit (s := S5x960x1024) (k0_off19 v267) S1x960x128.size hinb).WholeWords (EltTy.packing .fp8e5m2))
def k0_chk2 (v43 : BitVec 32) (v267 : BitVec 32) : Prop :=
  k0_chk2_0 v43 v267 ∧
  k0_chk2_1 v43 v267
theorem k0_mult2_dvd : ∀ (v43 : BitVec 32) (v267 : BitVec 32) (k0_hw2 : k0_chk2 v43 v267), ∀ (k0_h1 : k0_cond1 v43 = 1#1), ∀ (k0_h2 : k0_cond2 v267 = 1#1), 128 ∣ (k0_mult2 v267).toNat := fun v43 v267 k0_hw2 k0_h1 k0_h2 => k0_hw2.1.1 k0_h1 k0_h2
theorem k0_mult3_dvd : ∀ (v43 : BitVec 32) (v267 : BitVec 32) (k0_hw2 : k0_chk2 v43 v267), ∀ (k0_h1 : k0_cond1 v43 = 1#1), ∀ (k0_h2 : k0_cond2 v267 = 1#1), 128 ∣ (k0_mult3 v267).toNat := fun v43 v267 k0_hw2 k0_h1 k0_h2 => k0_hw2.1.2.1 k0_h1 k0_h2
theorem k0_off5_inb : ∀ (v43 : BitVec 32) (v267 : BitVec 32) (k0_hw2 : k0_chk2 v43 v267), ∀ (k0_h1 : k0_cond1 v43 = 1#1), ∀ (k0_h2 : k0_cond2 v267 = 1#1), ∀ a, (k0_off5 v267) a + S1x1024x896.size a ≤ S5x1024x896.size a := fun v43 v267 k0_hw2 k0_h1 k0_h2 => k0_hw2.1.2.2.1 k0_h1 k0_h2
theorem k0_off6_inb : ∀ (v43 : BitVec 32) (v267 : BitVec 32) (k0_hw2 : k0_chk2 v43 v267), ∀ (k0_h1 : k0_cond1 v43 = 1#1), ∀ (k0_h2 : k0_cond2 v267 = 1#1), ∀ a, (k0_off6 v43 v267) a + S1x1024x896.size a ≤ S48x8192x896.size a := fun v43 v267 k0_hw2 k0_h1 k0_h2 => k0_hw2.1.2.2.2.1 k0_h1 k0_h2
theorem k0_off6_wordsfp8e4m3 : ∀ (v43 : BitVec 32) (v267 : BitVec 32) (k0_hw2 : k0_chk2 v43 v267), ∀ (k0_h1 : k0_cond1 v43 = 1#1), ∀ (k0_h2 : k0_cond2 v267 = 1#1), (Rect.unit (s := S48x8192x896) (k0_off6 v43 v267) S1x1024x896.size (k0_off6_inb v43 v267 k0_hw2 k0_h1 k0_h2)).WholeWords (EltTy.packing .fp8e4m3) := fun v43 v267 k0_hw2 k0_h1 k0_h2 => k0_hw2.1.2.2.2.2.1 k0_h1 k0_h2 (k0_off6_inb v43 v267 k0_hw2 k0_h1 k0_h2)
theorem k0_off5_wordsfp8e4m3 : ∀ (v43 : BitVec 32) (v267 : BitVec 32) (k0_hw2 : k0_chk2 v43 v267), ∀ (k0_h1 : k0_cond1 v43 = 1#1), ∀ (k0_h2 : k0_cond2 v267 = 1#1), (Rect.unit (s := S5x1024x896) (k0_off5 v267) S1x1024x896.size (k0_off5_inb v43 v267 k0_hw2 k0_h1 k0_h2)).WholeWords (EltTy.packing .fp8e4m3) := fun v43 v267 k0_hw2 k0_h1 k0_h2 => k0_hw2.1.2.2.2.2.2.1 k0_h1 k0_h2 (k0_off5_inb v43 v267 k0_hw2 k0_h1 k0_h2)
theorem k0_off7_inb : ∀ (v43 : BitVec 32) (v267 : BitVec 32) (k0_hw2 : k0_chk2 v43 v267), ∀ (k0_h1 : k0_cond1 v43 = 1#1), ∀ (k0_h2 : k0_cond2 v267 = 1#1), ∀ a, (k0_off7 v267) a + S1x960x1024.size a ≤ S5x960x1024.size a := fun v43 v267 k0_hw2 k0_h1 k0_h2 => k0_hw2.1.2.2.2.2.2.2.1 k0_h1 k0_h2
theorem k0_off8_inb : ∀ (v43 : BitVec 32) (v267 : BitVec 32) (k0_hw2 : k0_chk2 v43 v267), ∀ (k0_h1 : k0_cond1 v43 = 1#1), ∀ (k0_h2 : k0_cond2 v267 = 1#1), ∀ a, (k0_off8 v43 v267) a + S1x960x1024.size a ≤ S48x960x8192.size a := fun v43 v267 k0_hw2 k0_h1 k0_h2 => k0_hw2.1.2.2.2.2.2.2.2.1 k0_h1 k0_h2
theorem k0_off8_wordsfp8e5m2 : ∀ (v43 : BitVec 32) (v267 : BitVec 32) (k0_hw2 : k0_chk2 v43 v267), ∀ (k0_h1 : k0_cond1 v43 = 1#1), ∀ (k0_h2 : k0_cond2 v267 = 1#1), (Rect.unit (s := S48x960x8192) (k0_off8 v43 v267) S1x960x1024.size (k0_off8_inb v43 v267 k0_hw2 k0_h1 k0_h2)).WholeWords (EltTy.packing .fp8e5m2) := fun v43 v267 k0_hw2 k0_h1 k0_h2 => k0_hw2.1.2.2.2.2.2.2.2.2.1 k0_h1 k0_h2 (k0_off8_inb v43 v267 k0_hw2 k0_h1 k0_h2)
theorem k0_off7_wordsfp8e5m2 : ∀ (v43 : BitVec 32) (v267 : BitVec 32) (k0_hw2 : k0_chk2 v43 v267), ∀ (k0_h1 : k0_cond1 v43 = 1#1), ∀ (k0_h2 : k0_cond2 v267 = 1#1), (Rect.unit (s := S5x960x1024) (k0_off7 v267) S1x960x1024.size (k0_off7_inb v43 v267 k0_hw2 k0_h1 k0_h2)).WholeWords (EltTy.packing .fp8e5m2) := fun v43 v267 k0_hw2 k0_h1 k0_h2 => k0_hw2.1.2.2.2.2.2.2.2.2.2.1 k0_h1 k0_h2 (k0_off7_inb v43 v267 k0_hw2 k0_h1 k0_h2)
theorem k0_mult4_dvd : ∀ (v43 : BitVec 32) (v267 : BitVec 32) (k0_hw2 : k0_chk2 v43 v267), ∀ (k0_h1 : k0_cond1 v43 = 1#1), ∀ (k0_h3 : k0_cond3 v267 = 1#1), 128 ∣ (k0_mult4 v267).toNat := fun v43 v267 k0_hw2 k0_h1 k0_h3 => k0_hw2.1.2.2.2.2.2.2.2.2.2.2.1 k0_h1 k0_h3
theorem k0_mult5_dvd : ∀ (v43 : BitVec 32) (v267 : BitVec 32) (k0_hw2 : k0_chk2 v43 v267), ∀ (k0_h1 : k0_cond1 v43 = 1#1), ∀ (k0_h3 : k0_cond3 v267 = 1#1), 128 ∣ (k0_mult5 v267).toNat := fun v43 v267 k0_hw2 k0_h1 k0_h3 => k0_hw2.1.2.2.2.2.2.2.2.2.2.2.2.1 k0_h1 k0_h3
theorem k0_off9_inb : ∀ (v43 : BitVec 32) (v267 : BitVec 32) (k0_hw2 : k0_chk2 v43 v267), ∀ (k0_h1 : k0_cond1 v43 = 1#1), ∀ (k0_h3 : k0_cond3 v267 = 1#1), ∀ a, (k0_off9 v267) a + S1x512x896.size a ≤ S5x1024x896.size a := fun v43 v267 k0_hw2 k0_h1 k0_h3 => k0_hw2.1.2.2.2.2.2.2.2.2.2.2.2.2.1 k0_h1 k0_h3
theorem k0_off10_inb : ∀ (v43 : BitVec 32) (v267 : BitVec 32) (k0_hw2 : k0_chk2 v43 v267), ∀ (k0_h1 : k0_cond1 v43 = 1#1), ∀ (k0_h3 : k0_cond3 v267 = 1#1), ∀ a, (k0_off10 v43 v267) a + S1x512x896.size a ≤ S48x8192x896.size a := fun v43 v267 k0_hw2 k0_h1 k0_h3 => k0_hw2.1.2.2.2.2.2.2.2.2.2.2.2.2.2.1 k0_h1 k0_h3
theorem k0_off10_wordsfp8e4m3 : ∀ (v43 : BitVec 32) (v267 : BitVec 32) (k0_hw2 : k0_chk2 v43 v267), ∀ (k0_h1 : k0_cond1 v43 = 1#1), ∀ (k0_h3 : k0_cond3 v267 = 1#1), (Rect.unit (s := S48x8192x896) (k0_off10 v43 v267) S1x512x896.size (k0_off10_inb v43 v267 k0_hw2 k0_h1 k0_h3)).WholeWords (EltTy.packing .fp8e4m3) := fun v43 v267 k0_hw2 k0_h1 k0_h3 => k0_hw2.1.2.2.2.2.2.2.2.2.2.2.2.2.2.2.1 k0_h1 k0_h3 (k0_off10_inb v43 v267 k0_hw2 k0_h1 k0_h3)
theorem k0_off9_wordsfp8e4m3 : ∀ (v43 : BitVec 32) (v267 : BitVec 32) (k0_hw2 : k0_chk2 v43 v267), ∀ (k0_h1 : k0_cond1 v43 = 1#1), ∀ (k0_h3 : k0_cond3 v267 = 1#1), (Rect.unit (s := S5x1024x896) (k0_off9 v267) S1x512x896.size (k0_off9_inb v43 v267 k0_hw2 k0_h1 k0_h3)).WholeWords (EltTy.packing .fp8e4m3) := fun v43 v267 k0_hw2 k0_h1 k0_h3 => k0_hw2.1.2.2.2.2.2.2.2.2.2.2.2.2.2.2.2.1 k0_h1 k0_h3 (k0_off9_inb v43 v267 k0_hw2 k0_h1 k0_h3)
theorem k0_off11_inb : ∀ (v43 : BitVec 32) (v267 : BitVec 32) (k0_hw2 : k0_chk2 v43 v267), ∀ (k0_h1 : k0_cond1 v43 = 1#1), ∀ (k0_h3 : k0_cond3 v267 = 1#1), ∀ a, (k0_off11 v267) a + S1x960x512.size a ≤ S5x960x1024.size a := fun v43 v267 k0_hw2 k0_h1 k0_h3 => k0_hw2.1.2.2.2.2.2.2.2.2.2.2.2.2.2.2.2.2.1 k0_h1 k0_h3
theorem k0_off12_inb : ∀ (v43 : BitVec 32) (v267 : BitVec 32) (k0_hw2 : k0_chk2 v43 v267), ∀ (k0_h1 : k0_cond1 v43 = 1#1), ∀ (k0_h3 : k0_cond3 v267 = 1#1), ∀ a, (k0_off12 v43 v267) a + S1x960x512.size a ≤ S48x960x8192.size a := fun v43 v267 k0_hw2 k0_h1 k0_h3 => k0_hw2.1.2.2.2.2.2.2.2.2.2.2.2.2.2.2.2.2.2.1 k0_h1 k0_h3
theorem k0_off12_wordsfp8e5m2 : ∀ (v43 : BitVec 32) (v267 : BitVec 32) (k0_hw2 : k0_chk2 v43 v267), ∀ (k0_h1 : k0_cond1 v43 = 1#1), ∀ (k0_h3 : k0_cond3 v267 = 1#1), (Rect.unit (s := S48x960x8192) (k0_off12 v43 v267) S1x960x512.size (k0_off12_inb v43 v267 k0_hw2 k0_h1 k0_h3)).WholeWords (EltTy.packing .fp8e5m2) := fun v43 v267 k0_hw2 k0_h1 k0_h3 => k0_hw2.1.2.2.2.2.2.2.2.2.2.2.2.2.2.2.2.2.2.2.1 k0_h1 k0_h3 (k0_off12_inb v43 v267 k0_hw2 k0_h1 k0_h3)
theorem k0_off11_wordsfp8e5m2 : ∀ (v43 : BitVec 32) (v267 : BitVec 32) (k0_hw2 : k0_chk2 v43 v267), ∀ (k0_h1 : k0_cond1 v43 = 1#1), ∀ (k0_h3 : k0_cond3 v267 = 1#1), (Rect.unit (s := S5x960x1024) (k0_off11 v267) S1x960x512.size (k0_off11_inb v43 v267 k0_hw2 k0_h1 k0_h3)).WholeWords (EltTy.packing .fp8e5m2) := fun v43 v267 k0_hw2 k0_h1 k0_h3 => k0_hw2.1.2.2.2.2.2.2.2.2.2.2.2.2.2.2.2.2.2.2.2.1 k0_h1 k0_h3 (k0_off11_inb v43 v267 k0_hw2 k0_h1 k0_h3)
theorem k0_mult6_dvd : ∀ (v43 : BitVec 32) (v267 : BitVec 32) (k0_hw2 : k0_chk2 v43 v267), ∀ (k0_h1 : k0_cond1 v43 = 1#1), ∀ (k0_h4 : k0_cond4 v267 = 1#1), 128 ∣ (k0_mult6 v267).toNat := fun v43 v267 k0_hw2 k0_h1 k0_h4 => k0_hw2.1.2.2.2.2.2.2.2.2.2.2.2.2.2.2.2.2.2.2.2.2.1 k0_h1 k0_h4
theorem k0_mult7_dvd : ∀ (v43 : BitVec 32) (v267 : BitVec 32) (k0_hw2 : k0_chk2 v43 v267), ∀ (k0_h1 : k0_cond1 v43 = 1#1), ∀ (k0_h4 : k0_cond4 v267 = 1#1), 128 ∣ (k0_mult7 v267).toNat := fun v43 v267 k0_hw2 k0_h1 k0_h4 => k0_hw2.1.2.2.2.2.2.2.2.2.2.2.2.2.2.2.2.2.2.2.2.2.2.1 k0_h1 k0_h4
theorem k0_off13_inb : ∀ (v43 : BitVec 32) (v267 : BitVec 32) (k0_hw2 : k0_chk2 v43 v267), ∀ (k0_h1 : k0_cond1 v43 = 1#1), ∀ (k0_h4 : k0_cond4 v267 = 1#1), ∀ a, (k0_off13 v267) a + S1x256x896.size a ≤ S5x1024x896.size a := fun v43 v267 k0_hw2 k0_h1 k0_h4 => k0_hw2.1.2.2.2.2.2.2.2.2.2.2.2.2.2.2.2.2.2.2.2.2.2.2.1 k0_h1 k0_h4
theorem k0_off14_inb : ∀ (v43 : BitVec 32) (v267 : BitVec 32) (k0_hw2 : k0_chk2 v43 v267), ∀ (k0_h1 : k0_cond1 v43 = 1#1), ∀ (k0_h4 : k0_cond4 v267 = 1#1), ∀ a, (k0_off14 v43 v267) a + S1x256x896.size a ≤ S48x8192x896.size a := fun v43 v267 k0_hw2 k0_h1 k0_h4 => k0_hw2.1.2.2.2.2.2.2.2.2.2.2.2.2.2.2.2.2.2.2.2.2.2.2.2.1 k0_h1 k0_h4
theorem k0_off14_wordsfp8e4m3 : ∀ (v43 : BitVec 32) (v267 : BitVec 32) (k0_hw2 : k0_chk2 v43 v267), ∀ (k0_h1 : k0_cond1 v43 = 1#1), ∀ (k0_h4 : k0_cond4 v267 = 1#1), (Rect.unit (s := S48x8192x896) (k0_off14 v43 v267) S1x256x896.size (k0_off14_inb v43 v267 k0_hw2 k0_h1 k0_h4)).WholeWords (EltTy.packing .fp8e4m3) := fun v43 v267 k0_hw2 k0_h1 k0_h4 => k0_hw2.1.2.2.2.2.2.2.2.2.2.2.2.2.2.2.2.2.2.2.2.2.2.2.2.2.1 k0_h1 k0_h4 (k0_off14_inb v43 v267 k0_hw2 k0_h1 k0_h4)
theorem k0_off13_wordsfp8e4m3 : ∀ (v43 : BitVec 32) (v267 : BitVec 32) (k0_hw2 : k0_chk2 v43 v267), ∀ (k0_h1 : k0_cond1 v43 = 1#1), ∀ (k0_h4 : k0_cond4 v267 = 1#1), (Rect.unit (s := S5x1024x896) (k0_off13 v267) S1x256x896.size (k0_off13_inb v43 v267 k0_hw2 k0_h1 k0_h4)).WholeWords (EltTy.packing .fp8e4m3) := fun v43 v267 k0_hw2 k0_h1 k0_h4 => k0_hw2.1.2.2.2.2.2.2.2.2.2.2.2.2.2.2.2.2.2.2.2.2.2.2.2.2.2.1 k0_h1 k0_h4 (k0_off13_inb v43 v267 k0_hw2 k0_h1 k0_h4)
theorem k0_off15_inb : ∀ (v43 : BitVec 32) (v267 : BitVec 32) (k0_hw2 : k0_chk2 v43 v267), ∀ (k0_h1 : k0_cond1 v43 = 1#1), ∀ (k0_h4 : k0_cond4 v267 = 1#1), ∀ a, (k0_off15 v267) a + S1x960x256.size a ≤ S5x960x1024.size a := fun v43 v267 k0_hw2 k0_h1 k0_h4 => k0_hw2.1.2.2.2.2.2.2.2.2.2.2.2.2.2.2.2.2.2.2.2.2.2.2.2.2.2.2.1 k0_h1 k0_h4
theorem k0_off16_inb : ∀ (v43 : BitVec 32) (v267 : BitVec 32) (k0_hw2 : k0_chk2 v43 v267), ∀ (k0_h1 : k0_cond1 v43 = 1#1), ∀ (k0_h4 : k0_cond4 v267 = 1#1), ∀ a, (k0_off16 v43 v267) a + S1x960x256.size a ≤ S48x960x8192.size a := fun v43 v267 k0_hw2 k0_h1 k0_h4 => k0_hw2.1.2.2.2.2.2.2.2.2.2.2.2.2.2.2.2.2.2.2.2.2.2.2.2.2.2.2.2.1 k0_h1 k0_h4
theorem k0_off16_wordsfp8e5m2 : ∀ (v43 : BitVec 32) (v267 : BitVec 32) (k0_hw2 : k0_chk2 v43 v267), ∀ (k0_h1 : k0_cond1 v43 = 1#1), ∀ (k0_h4 : k0_cond4 v267 = 1#1), (Rect.unit (s := S48x960x8192) (k0_off16 v43 v267) S1x960x256.size (k0_off16_inb v43 v267 k0_hw2 k0_h1 k0_h4)).WholeWords (EltTy.packing .fp8e5m2) := fun v43 v267 k0_hw2 k0_h1 k0_h4 => k0_hw2.1.2.2.2.2.2.2.2.2.2.2.2.2.2.2.2.2.2.2.2.2.2.2.2.2.2.2.2.2.1 k0_h1 k0_h4 (k0_off16_inb v43 v267 k0_hw2 k0_h1 k0_h4)
theorem k0_off15_wordsfp8e5m2 : ∀ (v43 : BitVec 32) (v267 : BitVec 32) (k0_hw2 : k0_chk2 v43 v267), ∀ (k0_h1 : k0_cond1 v43 = 1#1), ∀ (k0_h4 : k0_cond4 v267 = 1#1), (Rect.unit (s := S5x960x1024) (k0_off15 v267) S1x960x256.size (k0_off15_inb v43 v267 k0_hw2 k0_h1 k0_h4)).WholeWords (EltTy.packing .fp8e5m2) := fun v43 v267 k0_hw2 k0_h1 k0_h4 => k0_hw2.1.2.2.2.2.2.2.2.2.2.2.2.2.2.2.2.2.2.2.2.2.2.2.2.2.2.2.2.2.2.1 k0_h1 k0_h4 (k0_off15_inb v43 v267 k0_hw2 k0_h1 k0_h4)
theorem k0_mult8_dvd : ∀ (v43 : BitVec 32) (v267 : BitVec 32) (k0_hw2 : k0_chk2 v43 v267), ∀ (k0_h1 : k0_cond1 v43 = 1#1), ∀ (k0_h5 : k0_cond5 v267 = 1#1), 128 ∣ (k0_mult8 v267).toNat := fun v43 v267 k0_hw2 k0_h1 k0_h5 => k0_hw2.1.2.2.2.2.2.2.2.2.2.2.2.2.2.2.2.2.2.2.2.2.2.2.2.2.2.2.2.2.2.2.1 k0_h1 k0_h5
theorem k0_mult9_dvd : ∀ (v43 : BitVec 32) (v267 : BitVec 32) (k0_hw2 : k0_chk2 v43 v267), ∀ (k0_h1 : k0_cond1 v43 = 1#1), ∀ (k0_h5 : k0_cond5 v267 = 1#1), 128 ∣ (k0_mult9 v267).toNat := fun v43 v267 k0_hw2 k0_h1 k0_h5 => k0_hw2.1.2.2.2.2.2.2.2.2.2.2.2.2.2.2.2.2.2.2.2.2.2.2.2.2.2.2.2.2.2.2.2 k0_h1 k0_h5
theorem k0_off17_inb : ∀ (v43 : BitVec 32) (v267 : BitVec 32) (k0_hw2 : k0_chk2 v43 v267), ∀ (k0_h1 : k0_cond1 v43 = 1#1), ∀ (k0_h5 : k0_cond5 v267 = 1#1), ∀ a, (k0_off17 v267) a + S1x128x896.size a ≤ S5x1024x896.size a := fun v43 v267 k0_hw2 k0_h1 k0_h5 => k0_hw2.2.1 k0_h1 k0_h5
theorem k0_off18_inb : ∀ (v43 : BitVec 32) (v267 : BitVec 32) (k0_hw2 : k0_chk2 v43 v267), ∀ (k0_h1 : k0_cond1 v43 = 1#1), ∀ (k0_h5 : k0_cond5 v267 = 1#1), ∀ a, (k0_off18 v43 v267) a + S1x128x896.size a ≤ S48x8192x896.size a := fun v43 v267 k0_hw2 k0_h1 k0_h5 => k0_hw2.2.2.1 k0_h1 k0_h5
theorem k0_off18_wordsfp8e4m3 : ∀ (v43 : BitVec 32) (v267 : BitVec 32) (k0_hw2 : k0_chk2 v43 v267), ∀ (k0_h1 : k0_cond1 v43 = 1#1), ∀ (k0_h5 : k0_cond5 v267 = 1#1), (Rect.unit (s := S48x8192x896) (k0_off18 v43 v267) S1x128x896.size (k0_off18_inb v43 v267 k0_hw2 k0_h1 k0_h5)).WholeWords (EltTy.packing .fp8e4m3) := fun v43 v267 k0_hw2 k0_h1 k0_h5 => k0_hw2.2.2.2.1 k0_h1 k0_h5 (k0_off18_inb v43 v267 k0_hw2 k0_h1 k0_h5)
theorem k0_off17_wordsfp8e4m3 : ∀ (v43 : BitVec 32) (v267 : BitVec 32) (k0_hw2 : k0_chk2 v43 v267), ∀ (k0_h1 : k0_cond1 v43 = 1#1), ∀ (k0_h5 : k0_cond5 v267 = 1#1), (Rect.unit (s := S5x1024x896) (k0_off17 v267) S1x128x896.size (k0_off17_inb v43 v267 k0_hw2 k0_h1 k0_h5)).WholeWords (EltTy.packing .fp8e4m3) := fun v43 v267 k0_hw2 k0_h1 k0_h5 => k0_hw2.2.2.2.2.1 k0_h1 k0_h5 (k0_off17_inb v43 v267 k0_hw2 k0_h1 k0_h5)
theorem k0_off19_inb : ∀ (v43 : BitVec 32) (v267 : BitVec 32) (k0_hw2 : k0_chk2 v43 v267), ∀ (k0_h1 : k0_cond1 v43 = 1#1), ∀ (k0_h5 : k0_cond5 v267 = 1#1), ∀ a, (k0_off19 v267) a + S1x960x128.size a ≤ S5x960x1024.size a := fun v43 v267 k0_hw2 k0_h1 k0_h5 => k0_hw2.2.2.2.2.2.1 k0_h1 k0_h5
theorem k0_off20_inb : ∀ (v43 : BitVec 32) (v267 : BitVec 32) (k0_hw2 : k0_chk2 v43 v267), ∀ (k0_h1 : k0_cond1 v43 = 1#1), ∀ (k0_h5 : k0_cond5 v267 = 1#1), ∀ a, (k0_off20 v43 v267) a + S1x960x128.size a ≤ S48x960x8192.size a := fun v43 v267 k0_hw2 k0_h1 k0_h5 => k0_hw2.2.2.2.2.2.2.1 k0_h1 k0_h5
theorem k0_off20_wordsfp8e5m2 : ∀ (v43 : BitVec 32) (v267 : BitVec 32) (k0_hw2 : k0_chk2 v43 v267), ∀ (k0_h1 : k0_cond1 v43 = 1#1), ∀ (k0_h5 : k0_cond5 v267 = 1#1), (Rect.unit (s := S48x960x8192) (k0_off20 v43 v267) S1x960x128.size (k0_off20_inb v43 v267 k0_hw2 k0_h1 k0_h5)).WholeWords (EltTy.packing .fp8e5m2) := fun v43 v267 k0_hw2 k0_h1 k0_h5 => k0_hw2.2.2.2.2.2.2.2.1 k0_h1 k0_h5 (k0_off20_inb v43 v267 k0_hw2 k0_h1 k0_h5)
theorem k0_off19_wordsfp8e5m2 : ∀ (v43 : BitVec 32) (v267 : BitVec 32) (k0_hw2 : k0_chk2 v43 v267), ∀ (k0_h1 : k0_cond1 v43 = 1#1), ∀ (k0_h5 : k0_cond5 v267 = 1#1), (Rect.unit (s := S5x960x1024) (k0_off19 v267) S1x960x128.size (k0_off19_inb v43 v267 k0_hw2 k0_h1 k0_h5)).WholeWords (EltTy.packing .fp8e5m2) := fun v43 v267 k0_hw2 k0_h1 k0_h5 => k0_hw2.2.2.2.2.2.2.2.2 k0_h1 k0_h5 (k0_off19_inb v43 v267 k0_hw2 k0_h1 k0_h5)

def k0_off21 (v43 : BitVec 32) : Fin 1 → Nat :=
  let c47_i32 : BitVec 32 := 47#32
  let v45 : BitVec 32 := Scalar.minsi v43 c47_i32
  let v49 : Index := Scalar.indexCast v45
  ![v49.toNat]

def k0_chk1 (v43 : BitVec 32) : Prop :=
  (∀ (k0_h1 : k0_cond1 v43 = 1#1), ∀ a, (k0_off2 v43) a + S1.size a ≤ S48.size a) ∧
  (∀ (k0_h1 : k0_cond1 v43 = 1#1), ∀ a, (k0_off3 v43) a + S1x8x896.size a ≤ S48x64x896.size a) ∧
  (∀ (k0_h1 : k0_cond1 v43 = 1#1), ∀ a, (k0_off4 v43) a + S1x8x960.size a ≤ S48x64x960.size a) ∧
  (∀ a, (k0_off21 v43) a + S1.size a ≤ S48.size a)
theorem k0_off2_inb : ∀ (v43 : BitVec 32) (k0_hw1 : k0_chk1 v43), ∀ (k0_h1 : k0_cond1 v43 = 1#1), ∀ a, (k0_off2 v43) a + S1.size a ≤ S48.size a := fun v43 k0_hw1 k0_h1 => k0_hw1.1 k0_h1
theorem k0_off3_inb : ∀ (v43 : BitVec 32) (k0_hw1 : k0_chk1 v43), ∀ (k0_h1 : k0_cond1 v43 = 1#1), ∀ a, (k0_off3 v43) a + S1x8x896.size a ≤ S48x64x896.size a := fun v43 k0_hw1 k0_h1 => k0_hw1.2.1 k0_h1
theorem k0_off4_inb : ∀ (v43 : BitVec 32) (k0_hw1 : k0_chk1 v43), ∀ (k0_h1 : k0_cond1 v43 = 1#1), ∀ a, (k0_off4 v43) a + S1x8x960.size a ≤ S48x64x960.size a := fun v43 k0_hw1 k0_h1 => k0_hw1.2.2.1 k0_h1
theorem k0_off21_inb : ∀ (v43 : BitVec 32) (k0_hw1 : k0_chk1 v43), ∀ a, (k0_off21 v43) a + S1.size a ≤ S48.size a := fun v43 k0_hw1 => k0_hw1.2.2.2

@[reducible] def k0_t2_loop : Scf.Loop 32 :=
  let c0_i32_187 : BitVec 32 := 0#32
  let c48_i32_188 : BitVec 32 := 48#32
  let v267 : BitVec 32 := Scalar.addi c0_i32_187 c48_i32_188
  let c1_i32_189 : BitVec 32 := 1#32
  ⟨c0_i32_187, v267, c1_i32_189⟩
def k0_off22 (k0_t2 : Fin k0_t2_loop.trips) : Fin 1 → Nat :=
  let c47_i32_191 : BitVec 32 := 47#32
  let c0_i32_187 : BitVec 32 := 0#32
  let c1_i32_189 : BitVec 32 := 1#32
  let arg18 : BitVec 32 := Scf.iv c0_i32_187 c1_i32_189 k0_t2
  let v269 : BitVec 32 := Scalar.subi c47_i32_191 arg18
  let v271 : Index := Scalar.indexCast v269
  ![v271.toNat]
def k0_off23 (v73 : BitVec 32) : Fin 1 → Nat :=
  let c47_i32_63 : BitVec 32 := 47#32
  let v77 : BitVec 32 := Scalar.minsi v73 c47_i32_63
  let v266 : Index := Scalar.indexCast v77
  ![v266.toNat]
def k0_cond7 (v73 : BitVec 32) : BitVec 1 :=
  let c48_i32_62 : BitVec 32 := 48#32
  let v76 : BitVec 1 := Scalar.cmpi .slt v73 c48_i32_62
  let v78 : BitVec 32 := Scalar.extui v76
  let c0_i32_64 : BitVec 32 := 0#32
  let v79 : BitVec 1 := Scalar.cmpi .ne v78 c0_i32_64
  v79

def k0_mult10 (v50 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c8_i32_193 : BitVec 32 := 8#32
  let v289 : BitVec 32 := Scalar.muli v75 c8_i32_193
  v289
def k0_off24 (v50 : BitVec 32) (v73 : BitVec 32) : Fin 3 → Nat :=
  let c47_i32_63 : BitVec 32 := 47#32
  let v77 : BitVec 32 := Scalar.minsi v73 c47_i32_63
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c8_i32_193 : BitVec 32 := 8#32
  let v289 : BitVec 32 := Scalar.muli v75 c8_i32_193
  let v290 : BitVec 32 := v289
  let c0_i32_198 : BitVec 32 := 0#32
  ![v77.toNat, v290.toNat, 0]
def k0_off25 (v50 : BitVec 32) (v73 : BitVec 32) : Fin 3 → Nat :=
  let c47_i32_63 : BitVec 32 := 47#32
  let v77 : BitVec 32 := Scalar.minsi v73 c47_i32_63
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c8_i32_193 : BitVec 32 := 8#32
  let v289 : BitVec 32 := Scalar.muli v75 c8_i32_193
  let v290 : BitVec 32 := v289
  let c0_i32_203 : BitVec 32 := 0#32
  ![v77.toNat, v290.toNat, 0]
def k0_mult11 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  v325
def k0_cond8 (v50 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_205 : BitVec 32 := 8#32
  let v304 : BitVec 32 := Scalar.andi v288 c8_i32_205
  let c0_i32_206 : BitVec 32 := 0#32
  let v305 : BitVec 1 := Scalar.cmpi .ne v304 c0_i32_206
  let v306 : BitVec 32 := Scalar.extui v305
  let c0_i32_207 : BitVec 32 := 0#32
  let v307 : BitVec 1 := Scalar.cmpi .ne v306 c0_i32_207
  v307

def k0_mult12 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  v327
def k0_off26 (v50 : BitVec 32) (v267 : BitVec 32) : Fin 3 → Nat :=
  let c1_i32_221 : BitVec 32 := 1#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  let c0_i32_223 : BitVec 32 := 0#32
  ![1, v328.toNat, 0]
def k0_off27 (v50 : BitVec 32) (v73 : BitVec 32) (v267 : BitVec 32) : Fin 3 → Nat :=
  let c47_i32_63 : BitVec 32 := 47#32
  let v77 : BitVec 32 := Scalar.minsi v73 c47_i32_63
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  let c0_i32_224 : BitVec 32 := 0#32
  ![v77.toNat, v326.toNat, 0]
def k0_off28 (v50 : BitVec 32) (v267 : BitVec 32) : Fin 3 → Nat :=
  let c1_i32_225 : BitVec 32 := 1#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  ![1, 0, v328.toNat]
def k0_off29 (v50 : BitVec 32) (v73 : BitVec 32) (v267 : BitVec 32) : Fin 3 → Nat :=
  let c47_i32_63 : BitVec 32 := 47#32
  let v77 : BitVec 32 := Scalar.minsi v73 c47_i32_63
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  ![v77.toNat, 0, v326.toNat]
def k0_mult13 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  v325
def k0_cond9 (v50 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c4_i32_209 : BitVec 32 := 4#32
  let v309 : BitVec 32 := Scalar.andi v288 c4_i32_209
  let c0_i32_210 : BitVec 32 := 0#32
  let v310 : BitVec 1 := Scalar.cmpi .ne v309 c0_i32_210
  let v311 : BitVec 32 := Scalar.extui v310
  let c0_i32_211 : BitVec 32 := 0#32
  let v312 : BitVec 1 := Scalar.cmpi .ne v311 c0_i32_211
  v312

def k0_mult14 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  v327
def k0_off30 (v50 : BitVec 32) (v267 : BitVec 32) : Fin 3 → Nat :=
  let c1_i32_221 : BitVec 32 := 1#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  let c0_i32_223 : BitVec 32 := 0#32
  ![1, v328.toNat, 0]
def k0_off31 (v50 : BitVec 32) (v73 : BitVec 32) (v267 : BitVec 32) : Fin 3 → Nat :=
  let c47_i32_63 : BitVec 32 := 47#32
  let v77 : BitVec 32 := Scalar.minsi v73 c47_i32_63
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  let c0_i32_224 : BitVec 32 := 0#32
  ![v77.toNat, v326.toNat, 0]
def k0_off32 (v50 : BitVec 32) (v267 : BitVec 32) : Fin 3 → Nat :=
  let c1_i32_225 : BitVec 32 := 1#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  ![1, 0, v328.toNat]
def k0_off33 (v50 : BitVec 32) (v73 : BitVec 32) (v267 : BitVec 32) : Fin 3 → Nat :=
  let c47_i32_63 : BitVec 32 := 47#32
  let v77 : BitVec 32 := Scalar.minsi v73 c47_i32_63
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  ![v77.toNat, 0, v326.toNat]
def k0_mult15 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  v325
def k0_cond10 (v50 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c2_i32_212 : BitVec 32 := 2#32
  let v314 : BitVec 32 := Scalar.andi v288 c2_i32_212
  let c0_i32_213 : BitVec 32 := 0#32
  let v315 : BitVec 1 := Scalar.cmpi .ne v314 c0_i32_213
  let v316 : BitVec 32 := Scalar.extui v315
  let c0_i32_214 : BitVec 32 := 0#32
  let v317 : BitVec 1 := Scalar.cmpi .ne v316 c0_i32_214
  v317

def k0_mult16 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  v327
def k0_off34 (v50 : BitVec 32) (v267 : BitVec 32) : Fin 3 → Nat :=
  let c1_i32_221 : BitVec 32 := 1#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  let c0_i32_223 : BitVec 32 := 0#32
  ![1, v328.toNat, 0]
def k0_off35 (v50 : BitVec 32) (v73 : BitVec 32) (v267 : BitVec 32) : Fin 3 → Nat :=
  let c47_i32_63 : BitVec 32 := 47#32
  let v77 : BitVec 32 := Scalar.minsi v73 c47_i32_63
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  let c0_i32_224 : BitVec 32 := 0#32
  ![v77.toNat, v326.toNat, 0]
def k0_off36 (v50 : BitVec 32) (v267 : BitVec 32) : Fin 3 → Nat :=
  let c1_i32_225 : BitVec 32 := 1#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  ![1, 0, v328.toNat]
def k0_off37 (v50 : BitVec 32) (v73 : BitVec 32) (v267 : BitVec 32) : Fin 3 → Nat :=
  let c47_i32_63 : BitVec 32 := 47#32
  let v77 : BitVec 32 := Scalar.minsi v73 c47_i32_63
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  ![v77.toNat, 0, v326.toNat]
def k0_mult17 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  v325
def k0_cond11 (v50 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c1_i32_215 : BitVec 32 := 1#32
  let v319 : BitVec 32 := Scalar.andi v288 c1_i32_215
  let c0_i32_216 : BitVec 32 := 0#32
  let v320 : BitVec 1 := Scalar.cmpi .ne v319 c0_i32_216
  let v321 : BitVec 32 := Scalar.extui v320
  let c0_i32_217 : BitVec 32 := 0#32
  let v322 : BitVec 1 := Scalar.cmpi .ne v321 c0_i32_217
  v322

def k0_mult18 (v50 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  v327
def k0_off38 (v50 : BitVec 32) (v267 : BitVec 32) : Fin 3 → Nat :=
  let c1_i32_221 : BitVec 32 := 1#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  let c0_i32_223 : BitVec 32 := 0#32
  ![1, v328.toNat, 0]
def k0_off39 (v50 : BitVec 32) (v73 : BitVec 32) (v267 : BitVec 32) : Fin 3 → Nat :=
  let c47_i32_63 : BitVec 32 := 47#32
  let v77 : BitVec 32 := Scalar.minsi v73 c47_i32_63
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  let c0_i32_224 : BitVec 32 := 0#32
  ![v77.toNat, v326.toNat, 0]
def k0_off40 (v50 : BitVec 32) (v267 : BitVec 32) : Fin 3 → Nat :=
  let c1_i32_225 : BitVec 32 := 1#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  ![1, 0, v328.toNat]
def k0_off41 (v50 : BitVec 32) (v73 : BitVec 32) (v267 : BitVec 32) : Fin 3 → Nat :=
  let c47_i32_63 : BitVec 32 := 47#32
  let v77 : BitVec 32 := Scalar.minsi v73 c47_i32_63
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1024_i32_218 : BitVec 32 := 1024#32
  let v323 : BitVec 32 := Scalar.muli v75 c1024_i32_218
  let c1024_i32_185 : BitVec 32 := 1024#32
  let v268 : BitVec 32 := Scalar.muli v75 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  ![v77.toNat, 0, v326.toNat]

def k0_chk4_0 (v50 : BitVec 32) (v73 : BitVec 32) (v267 : BitVec 32) : Prop :=
  (∀ (k0_h7 : k0_cond7 v73 = 1#1), ∀ (k0_h8 : k0_cond8 v50 v267 = 1#1), 128 ∣ (k0_mult11 v50 v267).toNat) ∧
  (∀ (k0_h7 : k0_cond7 v73 = 1#1), ∀ (k0_h8 : k0_cond8 v50 v267 = 1#1), 128 ∣ (k0_mult12 v50 v267).toNat) ∧
  (∀ (k0_h7 : k0_cond7 v73 = 1#1), ∀ (k0_h8 : k0_cond8 v50 v267 = 1#1), ∀ a, (k0_off26 v50 v267) a + S1x1024x896.size a ≤ S5x1024x896.size a) ∧
  (∀ (k0_h7 : k0_cond7 v73 = 1#1), ∀ (k0_h8 : k0_cond8 v50 v267 = 1#1), ∀ a, (k0_off27 v50 v73 v267) a + S1x1024x896.size a ≤ S48x8192x896.size a) ∧
  (∀ (k0_h7 : k0_cond7 v73 = 1#1), ∀ (k0_h8 : k0_cond8 v50 v267 = 1#1), ∀ (hinb : ∀ a, (k0_off27 v50 v73 v267) a + S1x1024x896.size a ≤ S48x8192x896.size a), (Rect.unit (s := S48x8192x896) (k0_off27 v50 v73 v267) S1x1024x896.size hinb).WholeWords (EltTy.packing .fp8e4m3)) ∧
  (∀ (k0_h7 : k0_cond7 v73 = 1#1), ∀ (k0_h8 : k0_cond8 v50 v267 = 1#1), ∀ (hinb : ∀ a, (k0_off26 v50 v267) a + S1x1024x896.size a ≤ S5x1024x896.size a), (Rect.unit (s := S5x1024x896) (k0_off26 v50 v267) S1x1024x896.size hinb).WholeWords (EltTy.packing .fp8e4m3)) ∧
  (∀ (k0_h7 : k0_cond7 v73 = 1#1), ∀ (k0_h8 : k0_cond8 v50 v267 = 1#1), ∀ a, (k0_off28 v50 v267) a + S1x960x1024.size a ≤ S5x960x1024.size a) ∧
  (∀ (k0_h7 : k0_cond7 v73 = 1#1), ∀ (k0_h8 : k0_cond8 v50 v267 = 1#1), ∀ a, (k0_off29 v50 v73 v267) a + S1x960x1024.size a ≤ S48x960x8192.size a) ∧
  (∀ (k0_h7 : k0_cond7 v73 = 1#1), ∀ (k0_h8 : k0_cond8 v50 v267 = 1#1), ∀ (hinb : ∀ a, (k0_off29 v50 v73 v267) a + S1x960x1024.size a ≤ S48x960x8192.size a), (Rect.unit (s := S48x960x8192) (k0_off29 v50 v73 v267) S1x960x1024.size hinb).WholeWords (EltTy.packing .fp8e5m2)) ∧
  (∀ (k0_h7 : k0_cond7 v73 = 1#1), ∀ (k0_h8 : k0_cond8 v50 v267 = 1#1), ∀ (hinb : ∀ a, (k0_off28 v50 v267) a + S1x960x1024.size a ≤ S5x960x1024.size a), (Rect.unit (s := S5x960x1024) (k0_off28 v50 v267) S1x960x1024.size hinb).WholeWords (EltTy.packing .fp8e5m2)) ∧
  (∀ (k0_h7 : k0_cond7 v73 = 1#1), ∀ (k0_h9 : k0_cond9 v50 v267 = 1#1), 128 ∣ (k0_mult13 v50 v267).toNat) ∧
  (∀ (k0_h7 : k0_cond7 v73 = 1#1), ∀ (k0_h9 : k0_cond9 v50 v267 = 1#1), 128 ∣ (k0_mult14 v50 v267).toNat) ∧
  (∀ (k0_h7 : k0_cond7 v73 = 1#1), ∀ (k0_h9 : k0_cond9 v50 v267 = 1#1), ∀ a, (k0_off30 v50 v267) a + S1x512x896.size a ≤ S5x1024x896.size a) ∧
  (∀ (k0_h7 : k0_cond7 v73 = 1#1), ∀ (k0_h9 : k0_cond9 v50 v267 = 1#1), ∀ a, (k0_off31 v50 v73 v267) a + S1x512x896.size a ≤ S48x8192x896.size a) ∧
  (∀ (k0_h7 : k0_cond7 v73 = 1#1), ∀ (k0_h9 : k0_cond9 v50 v267 = 1#1), ∀ (hinb : ∀ a, (k0_off31 v50 v73 v267) a + S1x512x896.size a ≤ S48x8192x896.size a), (Rect.unit (s := S48x8192x896) (k0_off31 v50 v73 v267) S1x512x896.size hinb).WholeWords (EltTy.packing .fp8e4m3)) ∧
  (∀ (k0_h7 : k0_cond7 v73 = 1#1), ∀ (k0_h9 : k0_cond9 v50 v267 = 1#1), ∀ (hinb : ∀ a, (k0_off30 v50 v267) a + S1x512x896.size a ≤ S5x1024x896.size a), (Rect.unit (s := S5x1024x896) (k0_off30 v50 v267) S1x512x896.size hinb).WholeWords (EltTy.packing .fp8e4m3)) ∧
  (∀ (k0_h7 : k0_cond7 v73 = 1#1), ∀ (k0_h9 : k0_cond9 v50 v267 = 1#1), ∀ a, (k0_off32 v50 v267) a + S1x960x512.size a ≤ S5x960x1024.size a) ∧
  (∀ (k0_h7 : k0_cond7 v73 = 1#1), ∀ (k0_h9 : k0_cond9 v50 v267 = 1#1), ∀ a, (k0_off33 v50 v73 v267) a + S1x960x512.size a ≤ S48x960x8192.size a) ∧
  (∀ (k0_h7 : k0_cond7 v73 = 1#1), ∀ (k0_h9 : k0_cond9 v50 v267 = 1#1), ∀ (hinb : ∀ a, (k0_off33 v50 v73 v267) a + S1x960x512.size a ≤ S48x960x8192.size a), (Rect.unit (s := S48x960x8192) (k0_off33 v50 v73 v267) S1x960x512.size hinb).WholeWords (EltTy.packing .fp8e5m2)) ∧
  (∀ (k0_h7 : k0_cond7 v73 = 1#1), ∀ (k0_h9 : k0_cond9 v50 v267 = 1#1), ∀ (hinb : ∀ a, (k0_off32 v50 v267) a + S1x960x512.size a ≤ S5x960x1024.size a), (Rect.unit (s := S5x960x1024) (k0_off32 v50 v267) S1x960x512.size hinb).WholeWords (EltTy.packing .fp8e5m2)) ∧
  (∀ (k0_h7 : k0_cond7 v73 = 1#1), ∀ (k0_h10 : k0_cond10 v50 v267 = 1#1), 128 ∣ (k0_mult15 v50 v267).toNat) ∧
  (∀ (k0_h7 : k0_cond7 v73 = 1#1), ∀ (k0_h10 : k0_cond10 v50 v267 = 1#1), 128 ∣ (k0_mult16 v50 v267).toNat) ∧
  (∀ (k0_h7 : k0_cond7 v73 = 1#1), ∀ (k0_h10 : k0_cond10 v50 v267 = 1#1), ∀ a, (k0_off34 v50 v267) a + S1x256x896.size a ≤ S5x1024x896.size a) ∧
  (∀ (k0_h7 : k0_cond7 v73 = 1#1), ∀ (k0_h10 : k0_cond10 v50 v267 = 1#1), ∀ a, (k0_off35 v50 v73 v267) a + S1x256x896.size a ≤ S48x8192x896.size a) ∧
  (∀ (k0_h7 : k0_cond7 v73 = 1#1), ∀ (k0_h10 : k0_cond10 v50 v267 = 1#1), ∀ (hinb : ∀ a, (k0_off35 v50 v73 v267) a + S1x256x896.size a ≤ S48x8192x896.size a), (Rect.unit (s := S48x8192x896) (k0_off35 v50 v73 v267) S1x256x896.size hinb).WholeWords (EltTy.packing .fp8e4m3)) ∧
  (∀ (k0_h7 : k0_cond7 v73 = 1#1), ∀ (k0_h10 : k0_cond10 v50 v267 = 1#1), ∀ (hinb : ∀ a, (k0_off34 v50 v267) a + S1x256x896.size a ≤ S5x1024x896.size a), (Rect.unit (s := S5x1024x896) (k0_off34 v50 v267) S1x256x896.size hinb).WholeWords (EltTy.packing .fp8e4m3)) ∧
  (∀ (k0_h7 : k0_cond7 v73 = 1#1), ∀ (k0_h10 : k0_cond10 v50 v267 = 1#1), ∀ a, (k0_off36 v50 v267) a + S1x960x256.size a ≤ S5x960x1024.size a) ∧
  (∀ (k0_h7 : k0_cond7 v73 = 1#1), ∀ (k0_h10 : k0_cond10 v50 v267 = 1#1), ∀ a, (k0_off37 v50 v73 v267) a + S1x960x256.size a ≤ S48x960x8192.size a) ∧
  (∀ (k0_h7 : k0_cond7 v73 = 1#1), ∀ (k0_h10 : k0_cond10 v50 v267 = 1#1), ∀ (hinb : ∀ a, (k0_off37 v50 v73 v267) a + S1x960x256.size a ≤ S48x960x8192.size a), (Rect.unit (s := S48x960x8192) (k0_off37 v50 v73 v267) S1x960x256.size hinb).WholeWords (EltTy.packing .fp8e5m2)) ∧
  (∀ (k0_h7 : k0_cond7 v73 = 1#1), ∀ (k0_h10 : k0_cond10 v50 v267 = 1#1), ∀ (hinb : ∀ a, (k0_off36 v50 v267) a + S1x960x256.size a ≤ S5x960x1024.size a), (Rect.unit (s := S5x960x1024) (k0_off36 v50 v267) S1x960x256.size hinb).WholeWords (EltTy.packing .fp8e5m2)) ∧
  (∀ (k0_h7 : k0_cond7 v73 = 1#1), ∀ (k0_h11 : k0_cond11 v50 v267 = 1#1), 128 ∣ (k0_mult17 v50 v267).toNat) ∧
  (∀ (k0_h7 : k0_cond7 v73 = 1#1), ∀ (k0_h11 : k0_cond11 v50 v267 = 1#1), 128 ∣ (k0_mult18 v50 v267).toNat)
def k0_chk4_1 (v50 : BitVec 32) (v73 : BitVec 32) (v267 : BitVec 32) : Prop :=
  (∀ (k0_h7 : k0_cond7 v73 = 1#1), ∀ (k0_h11 : k0_cond11 v50 v267 = 1#1), ∀ a, (k0_off38 v50 v267) a + S1x128x896.size a ≤ S5x1024x896.size a) ∧
  (∀ (k0_h7 : k0_cond7 v73 = 1#1), ∀ (k0_h11 : k0_cond11 v50 v267 = 1#1), ∀ a, (k0_off39 v50 v73 v267) a + S1x128x896.size a ≤ S48x8192x896.size a) ∧
  (∀ (k0_h7 : k0_cond7 v73 = 1#1), ∀ (k0_h11 : k0_cond11 v50 v267 = 1#1), ∀ (hinb : ∀ a, (k0_off39 v50 v73 v267) a + S1x128x896.size a ≤ S48x8192x896.size a), (Rect.unit (s := S48x8192x896) (k0_off39 v50 v73 v267) S1x128x896.size hinb).WholeWords (EltTy.packing .fp8e4m3)) ∧
  (∀ (k0_h7 : k0_cond7 v73 = 1#1), ∀ (k0_h11 : k0_cond11 v50 v267 = 1#1), ∀ (hinb : ∀ a, (k0_off38 v50 v267) a + S1x128x896.size a ≤ S5x1024x896.size a), (Rect.unit (s := S5x1024x896) (k0_off38 v50 v267) S1x128x896.size hinb).WholeWords (EltTy.packing .fp8e4m3)) ∧
  (∀ (k0_h7 : k0_cond7 v73 = 1#1), ∀ (k0_h11 : k0_cond11 v50 v267 = 1#1), ∀ a, (k0_off40 v50 v267) a + S1x960x128.size a ≤ S5x960x1024.size a) ∧
  (∀ (k0_h7 : k0_cond7 v73 = 1#1), ∀ (k0_h11 : k0_cond11 v50 v267 = 1#1), ∀ a, (k0_off41 v50 v73 v267) a + S1x960x128.size a ≤ S48x960x8192.size a) ∧
  (∀ (k0_h7 : k0_cond7 v73 = 1#1), ∀ (k0_h11 : k0_cond11 v50 v267 = 1#1), ∀ (hinb : ∀ a, (k0_off41 v50 v73 v267) a + S1x960x128.size a ≤ S48x960x8192.size a), (Rect.unit (s := S48x960x8192) (k0_off41 v50 v73 v267) S1x960x128.size hinb).WholeWords (EltTy.packing .fp8e5m2)) ∧
  (∀ (k0_h7 : k0_cond7 v73 = 1#1), ∀ (k0_h11 : k0_cond11 v50 v267 = 1#1), ∀ (hinb : ∀ a, (k0_off40 v50 v267) a + S1x960x128.size a ≤ S5x960x1024.size a), (Rect.unit (s := S5x960x1024) (k0_off40 v50 v267) S1x960x128.size hinb).WholeWords (EltTy.packing .fp8e5m2))
def k0_chk4 (v50 : BitVec 32) (v73 : BitVec 32) (v267 : BitVec 32) : Prop :=
  k0_chk4_0 v50 v73 v267 ∧
  k0_chk4_1 v50 v73 v267
theorem k0_mult11_dvd : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), 128 ∣ (k0_mult11 v50 v267).toNat := fun v50 v73 v267 k0_hw4 k0_h7 k0_h8 => k0_hw4.1.1 k0_h7 k0_h8
theorem k0_mult12_dvd : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), 128 ∣ (k0_mult12 v50 v267).toNat := fun v50 v73 v267 k0_hw4 k0_h7 k0_h8 => k0_hw4.1.2.1 k0_h7 k0_h8
theorem k0_off26_inb : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), ∀ a, (k0_off26 v50 v267) a + S1x1024x896.size a ≤ S5x1024x896.size a := fun v50 v73 v267 k0_hw4 k0_h7 k0_h8 => k0_hw4.1.2.2.1 k0_h7 k0_h8
theorem k0_off27_inb : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), ∀ a, (k0_off27 v50 v73 v267) a + S1x1024x896.size a ≤ S48x8192x896.size a := fun v50 v73 v267 k0_hw4 k0_h7 k0_h8 => k0_hw4.1.2.2.2.1 k0_h7 k0_h8
theorem k0_off27_wordsfp8e4m3 : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), (Rect.unit (s := S48x8192x896) (k0_off27 v50 v73 v267) S1x1024x896.size (k0_off27_inb v50 v73 v267 k0_hw4 k0_h7 k0_h8)).WholeWords (EltTy.packing .fp8e4m3) := fun v50 v73 v267 k0_hw4 k0_h7 k0_h8 => k0_hw4.1.2.2.2.2.1 k0_h7 k0_h8 (k0_off27_inb v50 v73 v267 k0_hw4 k0_h7 k0_h8)
theorem k0_off26_wordsfp8e4m3 : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), (Rect.unit (s := S5x1024x896) (k0_off26 v50 v267) S1x1024x896.size (k0_off26_inb v50 v73 v267 k0_hw4 k0_h7 k0_h8)).WholeWords (EltTy.packing .fp8e4m3) := fun v50 v73 v267 k0_hw4 k0_h7 k0_h8 => k0_hw4.1.2.2.2.2.2.1 k0_h7 k0_h8 (k0_off26_inb v50 v73 v267 k0_hw4 k0_h7 k0_h8)
theorem k0_off28_inb : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), ∀ a, (k0_off28 v50 v267) a + S1x960x1024.size a ≤ S5x960x1024.size a := fun v50 v73 v267 k0_hw4 k0_h7 k0_h8 => k0_hw4.1.2.2.2.2.2.2.1 k0_h7 k0_h8
theorem k0_off29_inb : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), ∀ a, (k0_off29 v50 v73 v267) a + S1x960x1024.size a ≤ S48x960x8192.size a := fun v50 v73 v267 k0_hw4 k0_h7 k0_h8 => k0_hw4.1.2.2.2.2.2.2.2.1 k0_h7 k0_h8
theorem k0_off29_wordsfp8e5m2 : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), (Rect.unit (s := S48x960x8192) (k0_off29 v50 v73 v267) S1x960x1024.size (k0_off29_inb v50 v73 v267 k0_hw4 k0_h7 k0_h8)).WholeWords (EltTy.packing .fp8e5m2) := fun v50 v73 v267 k0_hw4 k0_h7 k0_h8 => k0_hw4.1.2.2.2.2.2.2.2.2.1 k0_h7 k0_h8 (k0_off29_inb v50 v73 v267 k0_hw4 k0_h7 k0_h8)
theorem k0_off28_wordsfp8e5m2 : ∀ (v50 : BitVec 32) (v73 : BitVec 32) (v267 : BitVec 32) (k0_hw4 : k0_chk4 v50 v73 v267), ∀ (k0_h7 : k0_cond7 v73 = 1#1), ∀ (k0_h8 : k0_cond8 v50 v267 = 1#1), (Rect.unit (s := S5x960x1024) (k0_off28 v50 v267) S1x960x1024.size (k0_off28_inb v50 v73 v267 k0_hw4 k0_h7 k0_h8)).WholeWords (EltTy.packing .fp8e5m2) := fun v50 v73 v267 k0_hw4 k0_h7 k0_h8 => k0_hw4.1.2.2.2.2.2.2.2.2.2.1 k0_h7 k0_h8 (k0_off28_inb v50 v73 v267 k0_hw4 k0_h7 k0_h8)
theorem k0_mult13_dvd : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), 128 ∣ (k0_mult13 v50 v267).toNat := fun v50 v73 v267 k0_hw4 k0_h7 k0_h9 => k0_hw4.1.2.2.2.2.2.2.2.2.2.2.1 k0_h7 k0_h9
theorem k0_mult14_dvd : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), 128 ∣ (k0_mult14 v50 v267).toNat := fun v50 v73 v267 k0_hw4 k0_h7 k0_h9 => k0_hw4.1.2.2.2.2.2.2.2.2.2.2.2.1 k0_h7 k0_h9
theorem k0_off30_inb : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), ∀ a, (k0_off30 v50 v267) a + S1x512x896.size a ≤ S5x1024x896.size a := fun v50 v73 v267 k0_hw4 k0_h7 k0_h9 => k0_hw4.1.2.2.2.2.2.2.2.2.2.2.2.2.1 k0_h7 k0_h9
theorem k0_off31_inb : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), ∀ a, (k0_off31 v50 v73 v267) a + S1x512x896.size a ≤ S48x8192x896.size a := fun v50 v73 v267 k0_hw4 k0_h7 k0_h9 => k0_hw4.1.2.2.2.2.2.2.2.2.2.2.2.2.2.1 k0_h7 k0_h9
theorem k0_off31_wordsfp8e4m3 : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), (Rect.unit (s := S48x8192x896) (k0_off31 v50 v73 v267) S1x512x896.size (k0_off31_inb v50 v73 v267 k0_hw4 k0_h7 k0_h9)).WholeWords (EltTy.packing .fp8e4m3) := fun v50 v73 v267 k0_hw4 k0_h7 k0_h9 => k0_hw4.1.2.2.2.2.2.2.2.2.2.2.2.2.2.2.1 k0_h7 k0_h9 (k0_off31_inb v50 v73 v267 k0_hw4 k0_h7 k0_h9)
theorem k0_off30_wordsfp8e4m3 : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), (Rect.unit (s := S5x1024x896) (k0_off30 v50 v267) S1x512x896.size (k0_off30_inb v50 v73 v267 k0_hw4 k0_h7 k0_h9)).WholeWords (EltTy.packing .fp8e4m3) := fun v50 v73 v267 k0_hw4 k0_h7 k0_h9 => k0_hw4.1.2.2.2.2.2.2.2.2.2.2.2.2.2.2.2.1 k0_h7 k0_h9 (k0_off30_inb v50 v73 v267 k0_hw4 k0_h7 k0_h9)
theorem k0_off32_inb : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), ∀ a, (k0_off32 v50 v267) a + S1x960x512.size a ≤ S5x960x1024.size a := fun v50 v73 v267 k0_hw4 k0_h7 k0_h9 => k0_hw4.1.2.2.2.2.2.2.2.2.2.2.2.2.2.2.2.2.1 k0_h7 k0_h9
theorem k0_off33_inb : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), ∀ a, (k0_off33 v50 v73 v267) a + S1x960x512.size a ≤ S48x960x8192.size a := fun v50 v73 v267 k0_hw4 k0_h7 k0_h9 => k0_hw4.1.2.2.2.2.2.2.2.2.2.2.2.2.2.2.2.2.2.1 k0_h7 k0_h9
theorem k0_off33_wordsfp8e5m2 : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), (Rect.unit (s := S48x960x8192) (k0_off33 v50 v73 v267) S1x960x512.size (k0_off33_inb v50 v73 v267 k0_hw4 k0_h7 k0_h9)).WholeWords (EltTy.packing .fp8e5m2) := fun v50 v73 v267 k0_hw4 k0_h7 k0_h9 => k0_hw4.1.2.2.2.2.2.2.2.2.2.2.2.2.2.2.2.2.2.2.1 k0_h7 k0_h9 (k0_off33_inb v50 v73 v267 k0_hw4 k0_h7 k0_h9)
theorem k0_off32_wordsfp8e5m2 : ∀ (v50 : BitVec 32) (v73 : BitVec 32) (v267 : BitVec 32) (k0_hw4 : k0_chk4 v50 v73 v267), ∀ (k0_h7 : k0_cond7 v73 = 1#1), ∀ (k0_h9 : k0_cond9 v50 v267 = 1#1), (Rect.unit (s := S5x960x1024) (k0_off32 v50 v267) S1x960x512.size (k0_off32_inb v50 v73 v267 k0_hw4 k0_h7 k0_h9)).WholeWords (EltTy.packing .fp8e5m2) := fun v50 v73 v267 k0_hw4 k0_h7 k0_h9 => k0_hw4.1.2.2.2.2.2.2.2.2.2.2.2.2.2.2.2.2.2.2.2.1 k0_h7 k0_h9 (k0_off32_inb v50 v73 v267 k0_hw4 k0_h7 k0_h9)
theorem k0_mult15_dvd : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), 128 ∣ (k0_mult15 v50 v267).toNat := fun v50 v73 v267 k0_hw4 k0_h7 k0_h10 => k0_hw4.1.2.2.2.2.2.2.2.2.2.2.2.2.2.2.2.2.2.2.2.2.1 k0_h7 k0_h10
theorem k0_mult16_dvd : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), 128 ∣ (k0_mult16 v50 v267).toNat := fun v50 v73 v267 k0_hw4 k0_h7 k0_h10 => k0_hw4.1.2.2.2.2.2.2.2.2.2.2.2.2.2.2.2.2.2.2.2.2.2.1 k0_h7 k0_h10
theorem k0_off34_inb : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), ∀ a, (k0_off34 v50 v267) a + S1x256x896.size a ≤ S5x1024x896.size a := fun v50 v73 v267 k0_hw4 k0_h7 k0_h10 => k0_hw4.1.2.2.2.2.2.2.2.2.2.2.2.2.2.2.2.2.2.2.2.2.2.2.1 k0_h7 k0_h10
theorem k0_off35_inb : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), ∀ a, (k0_off35 v50 v73 v267) a + S1x256x896.size a ≤ S48x8192x896.size a := fun v50 v73 v267 k0_hw4 k0_h7 k0_h10 => k0_hw4.1.2.2.2.2.2.2.2.2.2.2.2.2.2.2.2.2.2.2.2.2.2.2.2.1 k0_h7 k0_h10
theorem k0_off35_wordsfp8e4m3 : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), (Rect.unit (s := S48x8192x896) (k0_off35 v50 v73 v267) S1x256x896.size (k0_off35_inb v50 v73 v267 k0_hw4 k0_h7 k0_h10)).WholeWords (EltTy.packing .fp8e4m3) := fun v50 v73 v267 k0_hw4 k0_h7 k0_h10 => k0_hw4.1.2.2.2.2.2.2.2.2.2.2.2.2.2.2.2.2.2.2.2.2.2.2.2.2.1 k0_h7 k0_h10 (k0_off35_inb v50 v73 v267 k0_hw4 k0_h7 k0_h10)
theorem k0_off34_wordsfp8e4m3 : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), (Rect.unit (s := S5x1024x896) (k0_off34 v50 v267) S1x256x896.size (k0_off34_inb v50 v73 v267 k0_hw4 k0_h7 k0_h10)).WholeWords (EltTy.packing .fp8e4m3) := fun v50 v73 v267 k0_hw4 k0_h7 k0_h10 => k0_hw4.1.2.2.2.2.2.2.2.2.2.2.2.2.2.2.2.2.2.2.2.2.2.2.2.2.2.1 k0_h7 k0_h10 (k0_off34_inb v50 v73 v267 k0_hw4 k0_h7 k0_h10)
theorem k0_off36_inb : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), ∀ a, (k0_off36 v50 v267) a + S1x960x256.size a ≤ S5x960x1024.size a := fun v50 v73 v267 k0_hw4 k0_h7 k0_h10 => k0_hw4.1.2.2.2.2.2.2.2.2.2.2.2.2.2.2.2.2.2.2.2.2.2.2.2.2.2.2.1 k0_h7 k0_h10
theorem k0_off37_inb : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), ∀ a, (k0_off37 v50 v73 v267) a + S1x960x256.size a ≤ S48x960x8192.size a := fun v50 v73 v267 k0_hw4 k0_h7 k0_h10 => k0_hw4.1.2.2.2.2.2.2.2.2.2.2.2.2.2.2.2.2.2.2.2.2.2.2.2.2.2.2.2.1 k0_h7 k0_h10
theorem k0_off37_wordsfp8e5m2 : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), (Rect.unit (s := S48x960x8192) (k0_off37 v50 v73 v267) S1x960x256.size (k0_off37_inb v50 v73 v267 k0_hw4 k0_h7 k0_h10)).WholeWords (EltTy.packing .fp8e5m2) := fun v50 v73 v267 k0_hw4 k0_h7 k0_h10 => k0_hw4.1.2.2.2.2.2.2.2.2.2.2.2.2.2.2.2.2.2.2.2.2.2.2.2.2.2.2.2.2.1 k0_h7 k0_h10 (k0_off37_inb v50 v73 v267 k0_hw4 k0_h7 k0_h10)
theorem k0_off36_wordsfp8e5m2 : ∀ (v50 : BitVec 32) (v73 : BitVec 32) (v267 : BitVec 32) (k0_hw4 : k0_chk4 v50 v73 v267), ∀ (k0_h7 : k0_cond7 v73 = 1#1), ∀ (k0_h10 : k0_cond10 v50 v267 = 1#1), (Rect.unit (s := S5x960x1024) (k0_off36 v50 v267) S1x960x256.size (k0_off36_inb v50 v73 v267 k0_hw4 k0_h7 k0_h10)).WholeWords (EltTy.packing .fp8e5m2) := fun v50 v73 v267 k0_hw4 k0_h7 k0_h10 => k0_hw4.1.2.2.2.2.2.2.2.2.2.2.2.2.2.2.2.2.2.2.2.2.2.2.2.2.2.2.2.2.2.1 k0_h7 k0_h10 (k0_off36_inb v50 v73 v267 k0_hw4 k0_h7 k0_h10)
theorem k0_mult17_dvd : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), 128 ∣ (k0_mult17 v50 v267).toNat := fun v50 v73 v267 k0_hw4 k0_h7 k0_h11 => k0_hw4.1.2.2.2.2.2.2.2.2.2.2.2.2.2.2.2.2.2.2.2.2.2.2.2.2.2.2.2.2.2.2.1 k0_h7 k0_h11
theorem k0_mult18_dvd : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), 128 ∣ (k0_mult18 v50 v267).toNat := fun v50 v73 v267 k0_hw4 k0_h7 k0_h11 => k0_hw4.1.2.2.2.2.2.2.2.2.2.2.2.2.2.2.2.2.2.2.2.2.2.2.2.2.2.2.2.2.2.2.2 k0_h7 k0_h11
theorem k0_off38_inb : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), ∀ a, (k0_off38 v50 v267) a + S1x128x896.size a ≤ S5x1024x896.size a := fun v50 v73 v267 k0_hw4 k0_h7 k0_h11 => k0_hw4.2.1 k0_h7 k0_h11
theorem k0_off39_inb : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), ∀ a, (k0_off39 v50 v73 v267) a + S1x128x896.size a ≤ S48x8192x896.size a := fun v50 v73 v267 k0_hw4 k0_h7 k0_h11 => k0_hw4.2.2.1 k0_h7 k0_h11
theorem k0_off39_wordsfp8e4m3 : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), (Rect.unit (s := S48x8192x896) (k0_off39 v50 v73 v267) S1x128x896.size (k0_off39_inb v50 v73 v267 k0_hw4 k0_h7 k0_h11)).WholeWords (EltTy.packing .fp8e4m3) := fun v50 v73 v267 k0_hw4 k0_h7 k0_h11 => k0_hw4.2.2.2.1 k0_h7 k0_h11 (k0_off39_inb v50 v73 v267 k0_hw4 k0_h7 k0_h11)
theorem k0_off38_wordsfp8e4m3 : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), (Rect.unit (s := S5x1024x896) (k0_off38 v50 v267) S1x128x896.size (k0_off38_inb v50 v73 v267 k0_hw4 k0_h7 k0_h11)).WholeWords (EltTy.packing .fp8e4m3) := fun v50 v73 v267 k0_hw4 k0_h7 k0_h11 => k0_hw4.2.2.2.2.1 k0_h7 k0_h11 (k0_off38_inb v50 v73 v267 k0_hw4 k0_h7 k0_h11)
theorem k0_off40_inb : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), ∀ a, (k0_off40 v50 v267) a + S1x960x128.size a ≤ S5x960x1024.size a := fun v50 v73 v267 k0_hw4 k0_h7 k0_h11 => k0_hw4.2.2.2.2.2.1 k0_h7 k0_h11
theorem k0_off41_inb : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), ∀ a, (k0_off41 v50 v73 v267) a + S1x960x128.size a ≤ S48x960x8192.size a := fun v50 v73 v267 k0_hw4 k0_h7 k0_h11 => k0_hw4.2.2.2.2.2.2.1 k0_h7 k0_h11
theorem k0_off41_wordsfp8e5m2 : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), (Rect.unit (s := S48x960x8192) (k0_off41 v50 v73 v267) S1x960x128.size (k0_off41_inb v50 v73 v267 k0_hw4 k0_h7 k0_h11)).WholeWords (EltTy.packing .fp8e5m2) := fun v50 v73 v267 k0_hw4 k0_h7 k0_h11 => k0_hw4.2.2.2.2.2.2.2.1 k0_h7 k0_h11 (k0_off41_inb v50 v73 v267 k0_hw4 k0_h7 k0_h11)
theorem k0_off40_wordsfp8e5m2 : ∀ (v50 : BitVec 32) (v73 : BitVec 32) (v267 : BitVec 32) (k0_hw4 : k0_chk4 v50 v73 v267), ∀ (k0_h7 : k0_cond7 v73 = 1#1), ∀ (k0_h11 : k0_cond11 v50 v267 = 1#1), (Rect.unit (s := S5x960x1024) (k0_off40 v50 v267) S1x960x128.size (k0_off40_inb v50 v73 v267 k0_hw4 k0_h7 k0_h11)).WholeWords (EltTy.packing .fp8e5m2) := fun v50 v73 v267 k0_hw4 k0_h7 k0_h11 => k0_hw4.2.2.2.2.2.2.2.2 k0_h7 k0_h11 (k0_off40_inb v50 v73 v267 k0_hw4 k0_h7 k0_h11)

def k0_off42 (v73 : BitVec 32) : Fin 1 → Nat :=
  let c47_i32_63 : BitVec 32 := 47#32
  let v77 : BitVec 32 := Scalar.minsi v73 c47_i32_63
  let v81 : Index := Scalar.indexCast v77
  ![v81.toNat]

def k0_chk3 (v50 : BitVec 32) (v73 : BitVec 32) : Prop :=
  (∀ (k0_h7 : k0_cond7 v73 = 1#1), ∀ a, (k0_off23 v73) a + S1.size a ≤ S48.size a) ∧
  (∀ (k0_h7 : k0_cond7 v73 = 1#1), 8 ∣ (k0_mult10 v50).toNat) ∧
  (∀ (k0_h7 : k0_cond7 v73 = 1#1), ∀ a, (k0_off24 v50 v73) a + S1x8x896.size a ≤ S48x64x896.size a) ∧
  (∀ (k0_h7 : k0_cond7 v73 = 1#1), ∀ a, (k0_off25 v50 v73) a + S1x8x960.size a ≤ S48x64x960.size a) ∧
  (∀ a, (k0_off42 v73) a + S1.size a ≤ S48.size a)
theorem k0_off23_inb : ∀ (v50 : BitVec 32) (v73 : BitVec 32) (k0_hw3 : k0_chk3 v50 v73), ∀ (k0_h7 : k0_cond7 v73 = 1#1), ∀ a, (k0_off23 v73) a + S1.size a ≤ S48.size a := fun v50 v73 k0_hw3 k0_h7 => k0_hw3.1 k0_h7
theorem k0_mult10_dvd : ∀ (v50 : BitVec 32) (v73 : BitVec 32) (k0_hw3 : k0_chk3 v50 v73), ∀ (k0_h7 : k0_cond7 v73 = 1#1), 8 ∣ (k0_mult10 v50).toNat := fun v50 v73 k0_hw3 k0_h7 => k0_hw3.2.1 k0_h7
theorem k0_off24_inb : ∀ (v50 : BitVec 32) (v73 : BitVec 32) (k0_hw3 : k0_chk3 v50 v73), ∀ (k0_h7 : k0_cond7 v73 = 1#1), ∀ a, (k0_off24 v50 v73) a + S1x8x896.size a ≤ S48x64x896.size a := fun v50 v73 k0_hw3 k0_h7 => k0_hw3.2.2.1 k0_h7
theorem k0_off25_inb : ∀ (v50 : BitVec 32) (v73 : BitVec 32) (k0_hw3 : k0_chk3 v50 v73), ∀ (k0_h7 : k0_cond7 v73 = 1#1), ∀ a, (k0_off25 v50 v73) a + S1x8x960.size a ≤ S48x64x960.size a := fun v50 v73 k0_hw3 k0_h7 => k0_hw3.2.2.2.1 k0_h7
theorem k0_off42_inb : ∀ (v50 : BitVec 32) (v73 : BitVec 32) (k0_hw3 : k0_chk3 v50 v73), ∀ a, (k0_off42 v73) a + S1.size a ≤ S48.size a := fun v50 v73 k0_hw3 => k0_hw3.2.2.2.2

@[reducible] def k0_t3_loop : Scf.Loop 32 :=
  let c0_i32_187 : BitVec 32 := 0#32
  let c48_i32_188 : BitVec 32 := 48#32
  let v267 : BitVec 32 := Scalar.addi c0_i32_187 c48_i32_188
  let c1_i32_189 : BitVec 32 := 1#32
  ⟨c0_i32_187, v267, c1_i32_189⟩
def k0_off43 (k0_t3 : Fin k0_t3_loop.trips) : Fin 1 → Nat :=
  let c47_i32_191 : BitVec 32 := 47#32
  let c0_i32_187 : BitVec 32 := 0#32
  let c1_i32_189 : BitVec 32 := 1#32
  let arg18 : BitVec 32 := Scf.iv c0_i32_187 c1_i32_189 k0_t3
  let v269 : BitVec 32 := Scalar.subi c47_i32_191 arg18
  let v271 : Index := Scalar.indexCast v269
  ![v271.toNat]
def k0_off44 (v105 : BitVec 32) : Fin 1 → Nat :=
  let c47_i32_78 : BitVec 32 := 47#32
  let v109 : BitVec 32 := Scalar.minsi v105 c47_i32_78
  let v266 : Index := Scalar.indexCast v109
  ![v266.toNat]
def k0_cond13 (v105 : BitVec 32) : BitVec 1 :=
  let c48_i32_77 : BitVec 32 := 48#32
  let v108 : BitVec 1 := Scalar.cmpi .slt v105 c48_i32_77
  let v110 : BitVec 32 := Scalar.extui v108
  let c0_i32_79 : BitVec 32 := 0#32
  let v111 : BitVec 1 := Scalar.cmpi .ne v110 c0_i32_79
  v111

def k0_mult19 (v50 : BitVec 32) (v82 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c8_i32_193 : BitVec 32 := 8#32
  let v289 : BitVec 32 := Scalar.muli v107 c8_i32_193
  v289
def k0_off45 (v50 : BitVec 32) (v82 : BitVec 32) (v105 : BitVec 32) : Fin 3 → Nat :=
  let c47_i32_78 : BitVec 32 := 47#32
  let v109 : BitVec 32 := Scalar.minsi v105 c47_i32_78
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c8_i32_193 : BitVec 32 := 8#32
  let v289 : BitVec 32 := Scalar.muli v107 c8_i32_193
  let v290 : BitVec 32 := v289
  let c0_i32_198 : BitVec 32 := 0#32
  ![v109.toNat, v290.toNat, 0]
def k0_off46 (v50 : BitVec 32) (v82 : BitVec 32) (v105 : BitVec 32) : Fin 3 → Nat :=
  let c47_i32_78 : BitVec 32 := 47#32
  let v109 : BitVec 32 := Scalar.minsi v105 c47_i32_78
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c8_i32_193 : BitVec 32 := 8#32
  let v289 : BitVec 32 := Scalar.muli v107 c8_i32_193
  let v290 : BitVec 32 := v289
  let c0_i32_203 : BitVec 32 := 0#32
  ![v109.toNat, v290.toNat, 0]
def k0_mult20 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  v325
def k0_cond14 (v50 : BitVec 32) (v82 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_205 : BitVec 32 := 8#32
  let v304 : BitVec 32 := Scalar.andi v288 c8_i32_205
  let c0_i32_206 : BitVec 32 := 0#32
  let v305 : BitVec 1 := Scalar.cmpi .ne v304 c0_i32_206
  let v306 : BitVec 32 := Scalar.extui v305
  let c0_i32_207 : BitVec 32 := 0#32
  let v307 : BitVec 1 := Scalar.cmpi .ne v306 c0_i32_207
  v307

def k0_mult21 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  v327
def k0_off47 (v50 : BitVec 32) (v82 : BitVec 32) (v267 : BitVec 32) : Fin 3 → Nat :=
  let c2_i32_221 : BitVec 32 := 2#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  let c0_i32_223 : BitVec 32 := 0#32
  ![2, v328.toNat, 0]
def k0_off48 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  let c0_i32_224 : BitVec 32 := 0#32
  ![v109.toNat, v326.toNat, 0]
def k0_off49 (v50 : BitVec 32) (v82 : BitVec 32) (v267 : BitVec 32) : Fin 3 → Nat :=
  let c2_i32_225 : BitVec 32 := 2#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  ![2, 0, v328.toNat]
def k0_off50 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  ![v109.toNat, 0, v326.toNat]
def k0_mult22 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  v325
def k0_cond15 (v50 : BitVec 32) (v82 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c4_i32_209 : BitVec 32 := 4#32
  let v309 : BitVec 32 := Scalar.andi v288 c4_i32_209
  let c0_i32_210 : BitVec 32 := 0#32
  let v310 : BitVec 1 := Scalar.cmpi .ne v309 c0_i32_210
  let v311 : BitVec 32 := Scalar.extui v310
  let c0_i32_211 : BitVec 32 := 0#32
  let v312 : BitVec 1 := Scalar.cmpi .ne v311 c0_i32_211
  v312

def k0_mult23 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  v327
def k0_off51 (v50 : BitVec 32) (v82 : BitVec 32) (v267 : BitVec 32) : Fin 3 → Nat :=
  let c2_i32_221 : BitVec 32 := 2#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  let c0_i32_223 : BitVec 32 := 0#32
  ![2, v328.toNat, 0]
def k0_off52 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  let c0_i32_224 : BitVec 32 := 0#32
  ![v109.toNat, v326.toNat, 0]
def k0_off53 (v50 : BitVec 32) (v82 : BitVec 32) (v267 : BitVec 32) : Fin 3 → Nat :=
  let c2_i32_225 : BitVec 32 := 2#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  ![2, 0, v328.toNat]
def k0_off54 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  ![v109.toNat, 0, v326.toNat]
def k0_mult24 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  v325
def k0_cond16 (v50 : BitVec 32) (v82 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c2_i32_212 : BitVec 32 := 2#32
  let v314 : BitVec 32 := Scalar.andi v288 c2_i32_212
  let c0_i32_213 : BitVec 32 := 0#32
  let v315 : BitVec 1 := Scalar.cmpi .ne v314 c0_i32_213
  let v316 : BitVec 32 := Scalar.extui v315
  let c0_i32_214 : BitVec 32 := 0#32
  let v317 : BitVec 1 := Scalar.cmpi .ne v316 c0_i32_214
  v317

def k0_mult25 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  v327
def k0_off55 (v50 : BitVec 32) (v82 : BitVec 32) (v267 : BitVec 32) : Fin 3 → Nat :=
  let c2_i32_221 : BitVec 32 := 2#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  let c0_i32_223 : BitVec 32 := 0#32
  ![2, v328.toNat, 0]
def k0_off56 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  let c0_i32_224 : BitVec 32 := 0#32
  ![v109.toNat, v326.toNat, 0]
def k0_off57 (v50 : BitVec 32) (v82 : BitVec 32) (v267 : BitVec 32) : Fin 3 → Nat :=
  let c2_i32_225 : BitVec 32 := 2#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  ![2, 0, v328.toNat]
def k0_off58 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  ![v109.toNat, 0, v326.toNat]
def k0_mult26 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  v325
def k0_cond17 (v50 : BitVec 32) (v82 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c1_i32_215 : BitVec 32 := 1#32
  let v319 : BitVec 32 := Scalar.andi v288 c1_i32_215
  let c0_i32_216 : BitVec 32 := 0#32
  let v320 : BitVec 1 := Scalar.cmpi .ne v319 c0_i32_216
  let v321 : BitVec 32 := Scalar.extui v320
  let c0_i32_217 : BitVec 32 := 0#32
  let v322 : BitVec 1 := Scalar.cmpi .ne v321 c0_i32_217
  v322

def k0_mult27 (v50 : BitVec 32) (v82 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  v327
def k0_off59 (v50 : BitVec 32) (v82 : BitVec 32) (v267 : BitVec 32) : Fin 3 → Nat :=
  let c2_i32_221 : BitVec 32 := 2#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  let c0_i32_223 : BitVec 32 := 0#32
  ![2, v328.toNat, 0]
def k0_off60 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  let c0_i32_224 : BitVec 32 := 0#32
  ![v109.toNat, v326.toNat, 0]
def k0_off61 (v50 : BitVec 32) (v82 : BitVec 32) (v267 : BitVec 32) : Fin 3 → Nat :=
  let c2_i32_225 : BitVec 32 := 2#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  ![2, 0, v328.toNat]
def k0_off62 (v50 : BitVec 32) (v82 : BitVec 32) (v105 : BitVec 32) (v267 : BitVec 32) : Fin 3 → Nat :=
  let c47_i32_78 : BitVec 32 := 47#32
  let v109 : BitVec 32 := Scalar.minsi v105 c47_i32_78
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1024_i32_218 : BitVec 32 := 1024#32
  let v323 : BitVec 32 := Scalar.muli v107 c1024_i32_218
  let c1024_i32_185 : BitVec 32 := 1024#32
  let v268 : BitVec 32 := Scalar.muli v107 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  ![v109.toNat, 0, v326.toNat]

def k0_chk6_0 (v50 : BitVec 32) (v82 : BitVec 32) (v105 : BitVec 32) (v267 : BitVec 32) : Prop :=
  (∀ (k0_h13 : k0_cond13 v105 = 1#1), ∀ (k0_h14 : k0_cond14 v50 v82 v267 = 1#1), 128 ∣ (k0_mult20 v50 v82 v267).toNat) ∧
  (∀ (k0_h13 : k0_cond13 v105 = 1#1), ∀ (k0_h14 : k0_cond14 v50 v82 v267 = 1#1), 128 ∣ (k0_mult21 v50 v82 v267).toNat) ∧
  (∀ (k0_h13 : k0_cond13 v105 = 1#1), ∀ (k0_h14 : k0_cond14 v50 v82 v267 = 1#1), ∀ a, (k0_off47 v50 v82 v267) a + S1x1024x896.size a ≤ S5x1024x896.size a) ∧
  (∀ (k0_h13 : k0_cond13 v105 = 1#1), ∀ (k0_h14 : k0_cond14 v50 v82 v267 = 1#1), ∀ a, (k0_off48 v50 v82 v105 v267) a + S1x1024x896.size a ≤ S48x8192x896.size a) ∧
  (∀ (k0_h13 : k0_cond13 v105 = 1#1), ∀ (k0_h14 : k0_cond14 v50 v82 v267 = 1#1), ∀ (hinb : ∀ a, (k0_off48 v50 v82 v105 v267) a + S1x1024x896.size a ≤ S48x8192x896.size a), (Rect.unit (s := S48x8192x896) (k0_off48 v50 v82 v105 v267) S1x1024x896.size hinb).WholeWords (EltTy.packing .fp8e4m3)) ∧
  (∀ (k0_h13 : k0_cond13 v105 = 1#1), ∀ (k0_h14 : k0_cond14 v50 v82 v267 = 1#1), ∀ (hinb : ∀ a, (k0_off47 v50 v82 v267) a + S1x1024x896.size a ≤ S5x1024x896.size a), (Rect.unit (s := S5x1024x896) (k0_off47 v50 v82 v267) S1x1024x896.size hinb).WholeWords (EltTy.packing .fp8e4m3)) ∧
  (∀ (k0_h13 : k0_cond13 v105 = 1#1), ∀ (k0_h14 : k0_cond14 v50 v82 v267 = 1#1), ∀ a, (k0_off49 v50 v82 v267) a + S1x960x1024.size a ≤ S5x960x1024.size a) ∧
  (∀ (k0_h13 : k0_cond13 v105 = 1#1), ∀ (k0_h14 : k0_cond14 v50 v82 v267 = 1#1), ∀ a, (k0_off50 v50 v82 v105 v267) a + S1x960x1024.size a ≤ S48x960x8192.size a) ∧
  (∀ (k0_h13 : k0_cond13 v105 = 1#1), ∀ (k0_h14 : k0_cond14 v50 v82 v267 = 1#1), ∀ (hinb : ∀ a, (k0_off50 v50 v82 v105 v267) a + S1x960x1024.size a ≤ S48x960x8192.size a), (Rect.unit (s := S48x960x8192) (k0_off50 v50 v82 v105 v267) S1x960x1024.size hinb).WholeWords (EltTy.packing .fp8e5m2)) ∧
  (∀ (k0_h13 : k0_cond13 v105 = 1#1), ∀ (k0_h14 : k0_cond14 v50 v82 v267 = 1#1), ∀ (hinb : ∀ a, (k0_off49 v50 v82 v267) a + S1x960x1024.size a ≤ S5x960x1024.size a), (Rect.unit (s := S5x960x1024) (k0_off49 v50 v82 v267) S1x960x1024.size hinb).WholeWords (EltTy.packing .fp8e5m2)) ∧
  (∀ (k0_h13 : k0_cond13 v105 = 1#1), ∀ (k0_h15 : k0_cond15 v50 v82 v267 = 1#1), 128 ∣ (k0_mult22 v50 v82 v267).toNat) ∧
  (∀ (k0_h13 : k0_cond13 v105 = 1#1), ∀ (k0_h15 : k0_cond15 v50 v82 v267 = 1#1), 128 ∣ (k0_mult23 v50 v82 v267).toNat) ∧
  (∀ (k0_h13 : k0_cond13 v105 = 1#1), ∀ (k0_h15 : k0_cond15 v50 v82 v267 = 1#1), ∀ a, (k0_off51 v50 v82 v267) a + S1x512x896.size a ≤ S5x1024x896.size a) ∧
  (∀ (k0_h13 : k0_cond13 v105 = 1#1), ∀ (k0_h15 : k0_cond15 v50 v82 v267 = 1#1), ∀ a, (k0_off52 v50 v82 v105 v267) a + S1x512x896.size a ≤ S48x8192x896.size a) ∧
  (∀ (k0_h13 : k0_cond13 v105 = 1#1), ∀ (k0_h15 : k0_cond15 v50 v82 v267 = 1#1), ∀ (hinb : ∀ a, (k0_off52 v50 v82 v105 v267) a + S1x512x896.size a ≤ S48x8192x896.size a), (Rect.unit (s := S48x8192x896) (k0_off52 v50 v82 v105 v267) S1x512x896.size hinb).WholeWords (EltTy.packing .fp8e4m3)) ∧
  (∀ (k0_h13 : k0_cond13 v105 = 1#1), ∀ (k0_h15 : k0_cond15 v50 v82 v267 = 1#1), ∀ (hinb : ∀ a, (k0_off51 v50 v82 v267) a + S1x512x896.size a ≤ S5x1024x896.size a), (Rect.unit (s := S5x1024x896) (k0_off51 v50 v82 v267) S1x512x896.size hinb).WholeWords (EltTy.packing .fp8e4m3)) ∧
  (∀ (k0_h13 : k0_cond13 v105 = 1#1), ∀ (k0_h15 : k0_cond15 v50 v82 v267 = 1#1), ∀ a, (k0_off53 v50 v82 v267) a + S1x960x512.size a ≤ S5x960x1024.size a) ∧
  (∀ (k0_h13 : k0_cond13 v105 = 1#1), ∀ (k0_h15 : k0_cond15 v50 v82 v267 = 1#1), ∀ a, (k0_off54 v50 v82 v105 v267) a + S1x960x512.size a ≤ S48x960x8192.size a) ∧
  (∀ (k0_h13 : k0_cond13 v105 = 1#1), ∀ (k0_h15 : k0_cond15 v50 v82 v267 = 1#1), ∀ (hinb : ∀ a, (k0_off54 v50 v82 v105 v267) a + S1x960x512.size a ≤ S48x960x8192.size a), (Rect.unit (s := S48x960x8192) (k0_off54 v50 v82 v105 v267) S1x960x512.size hinb).WholeWords (EltTy.packing .fp8e5m2)) ∧
  (∀ (k0_h13 : k0_cond13 v105 = 1#1), ∀ (k0_h15 : k0_cond15 v50 v82 v267 = 1#1), ∀ (hinb : ∀ a, (k0_off53 v50 v82 v267) a + S1x960x512.size a ≤ S5x960x1024.size a), (Rect.unit (s := S5x960x1024) (k0_off53 v50 v82 v267) S1x960x512.size hinb).WholeWords (EltTy.packing .fp8e5m2)) ∧
  (∀ (k0_h13 : k0_cond13 v105 = 1#1), ∀ (k0_h16 : k0_cond16 v50 v82 v267 = 1#1), 128 ∣ (k0_mult24 v50 v82 v267).toNat) ∧
  (∀ (k0_h13 : k0_cond13 v105 = 1#1), ∀ (k0_h16 : k0_cond16 v50 v82 v267 = 1#1), 128 ∣ (k0_mult25 v50 v82 v267).toNat) ∧
  (∀ (k0_h13 : k0_cond13 v105 = 1#1), ∀ (k0_h16 : k0_cond16 v50 v82 v267 = 1#1), ∀ a, (k0_off55 v50 v82 v267) a + S1x256x896.size a ≤ S5x1024x896.size a) ∧
  (∀ (k0_h13 : k0_cond13 v105 = 1#1), ∀ (k0_h16 : k0_cond16 v50 v82 v267 = 1#1), ∀ a, (k0_off56 v50 v82 v105 v267) a + S1x256x896.size a ≤ S48x8192x896.size a) ∧
  (∀ (k0_h13 : k0_cond13 v105 = 1#1), ∀ (k0_h16 : k0_cond16 v50 v82 v267 = 1#1), ∀ (hinb : ∀ a, (k0_off56 v50 v82 v105 v267) a + S1x256x896.size a ≤ S48x8192x896.size a), (Rect.unit (s := S48x8192x896) (k0_off56 v50 v82 v105 v267) S1x256x896.size hinb).WholeWords (EltTy.packing .fp8e4m3)) ∧
  (∀ (k0_h13 : k0_cond13 v105 = 1#1), ∀ (k0_h16 : k0_cond16 v50 v82 v267 = 1#1), ∀ (hinb : ∀ a, (k0_off55 v50 v82 v267) a + S1x256x896.size a ≤ S5x1024x896.size a), (Rect.unit (s := S5x1024x896) (k0_off55 v50 v82 v267) S1x256x896.size hinb).WholeWords (EltTy.packing .fp8e4m3)) ∧
  (∀ (k0_h13 : k0_cond13 v105 = 1#1), ∀ (k0_h16 : k0_cond16 v50 v82 v267 = 1#1), ∀ a, (k0_off57 v50 v82 v267) a + S1x960x256.size a ≤ S5x960x1024.size a) ∧
  (∀ (k0_h13 : k0_cond13 v105 = 1#1), ∀ (k0_h16 : k0_cond16 v50 v82 v267 = 1#1), ∀ a, (k0_off58 v50 v82 v105 v267) a + S1x960x256.size a ≤ S48x960x8192.size a) ∧
  (∀ (k0_h13 : k0_cond13 v105 = 1#1), ∀ (k0_h16 : k0_cond16 v50 v82 v267 = 1#1), ∀ (hinb : ∀ a, (k0_off58 v50 v82 v105 v267) a + S1x960x256.size a ≤ S48x960x8192.size a), (Rect.unit (s := S48x960x8192) (k0_off58 v50 v82 v105 v267) S1x960x256.size hinb).WholeWords (EltTy.packing .fp8e5m2)) ∧
  (∀ (k0_h13 : k0_cond13 v105 = 1#1), ∀ (k0_h16 : k0_cond16 v50 v82 v267 = 1#1), ∀ (hinb : ∀ a, (k0_off57 v50 v82 v267) a + S1x960x256.size a ≤ S5x960x1024.size a), (Rect.unit (s := S5x960x1024) (k0_off57 v50 v82 v267) S1x960x256.size hinb).WholeWords (EltTy.packing .fp8e5m2)) ∧
  (∀ (k0_h13 : k0_cond13 v105 = 1#1), ∀ (k0_h17 : k0_cond17 v50 v82 v267 = 1#1), 128 ∣ (k0_mult26 v50 v82 v267).toNat) ∧
  (∀ (k0_h13 : k0_cond13 v105 = 1#1), ∀ (k0_h17 : k0_cond17 v50 v82 v267 = 1#1), 128 ∣ (k0_mult27 v50 v82 v267).toNat)
def k0_chk6_1 (v50 : BitVec 32) (v82 : BitVec 32) (v105 : BitVec 32) (v267 : BitVec 32) : Prop :=
  (∀ (k0_h13 : k0_cond13 v105 = 1#1), ∀ (k0_h17 : k0_cond17 v50 v82 v267 = 1#1), ∀ a, (k0_off59 v50 v82 v267) a + S1x128x896.size a ≤ S5x1024x896.size a) ∧
  (∀ (k0_h13 : k0_cond13 v105 = 1#1), ∀ (k0_h17 : k0_cond17 v50 v82 v267 = 1#1), ∀ a, (k0_off60 v50 v82 v105 v267) a + S1x128x896.size a ≤ S48x8192x896.size a) ∧
  (∀ (k0_h13 : k0_cond13 v105 = 1#1), ∀ (k0_h17 : k0_cond17 v50 v82 v267 = 1#1), ∀ (hinb : ∀ a, (k0_off60 v50 v82 v105 v267) a + S1x128x896.size a ≤ S48x8192x896.size a), (Rect.unit (s := S48x8192x896) (k0_off60 v50 v82 v105 v267) S1x128x896.size hinb).WholeWords (EltTy.packing .fp8e4m3)) ∧
  (∀ (k0_h13 : k0_cond13 v105 = 1#1), ∀ (k0_h17 : k0_cond17 v50 v82 v267 = 1#1), ∀ (hinb : ∀ a, (k0_off59 v50 v82 v267) a + S1x128x896.size a ≤ S5x1024x896.size a), (Rect.unit (s := S5x1024x896) (k0_off59 v50 v82 v267) S1x128x896.size hinb).WholeWords (EltTy.packing .fp8e4m3)) ∧
  (∀ (k0_h13 : k0_cond13 v105 = 1#1), ∀ (k0_h17 : k0_cond17 v50 v82 v267 = 1#1), ∀ a, (k0_off61 v50 v82 v267) a + S1x960x128.size a ≤ S5x960x1024.size a) ∧
  (∀ (k0_h13 : k0_cond13 v105 = 1#1), ∀ (k0_h17 : k0_cond17 v50 v82 v267 = 1#1), ∀ a, (k0_off62 v50 v82 v105 v267) a + S1x960x128.size a ≤ S48x960x8192.size a) ∧
  (∀ (k0_h13 : k0_cond13 v105 = 1#1), ∀ (k0_h17 : k0_cond17 v50 v82 v267 = 1#1), ∀ (hinb : ∀ a, (k0_off62 v50 v82 v105 v267) a + S1x960x128.size a ≤ S48x960x8192.size a), (Rect.unit (s := S48x960x8192) (k0_off62 v50 v82 v105 v267) S1x960x128.size hinb).WholeWords (EltTy.packing .fp8e5m2)) ∧
  (∀ (k0_h13 : k0_cond13 v105 = 1#1), ∀ (k0_h17 : k0_cond17 v50 v82 v267 = 1#1), ∀ (hinb : ∀ a, (k0_off61 v50 v82 v267) a + S1x960x128.size a ≤ S5x960x1024.size a), (Rect.unit (s := S5x960x1024) (k0_off61 v50 v82 v267) S1x960x128.size hinb).WholeWords (EltTy.packing .fp8e5m2))
def k0_chk6 (v50 : BitVec 32) (v82 : BitVec 32) (v105 : BitVec 32) (v267 : BitVec 32) : Prop :=
  k0_chk6_0 v50 v82 v105 v267 ∧
  k0_chk6_1 v50 v82 v105 v267
theorem k0_mult20_dvd : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), 128 ∣ (k0_mult20 v50 v82 v267).toNat := fun v50 v82 v105 v267 k0_hw6 k0_h13 k0_h14 => k0_hw6.1.1 k0_h13 k0_h14
theorem k0_mult21_dvd : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), 128 ∣ (k0_mult21 v50 v82 v267).toNat := fun v50 v82 v105 v267 k0_hw6 k0_h13 k0_h14 => k0_hw6.1.2.1 k0_h13 k0_h14
theorem k0_off47_inb : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), ∀ a, (k0_off47 v50 v82 v267) a + S1x1024x896.size a ≤ S5x1024x896.size a := fun v50 v82 v105 v267 k0_hw6 k0_h13 k0_h14 => k0_hw6.1.2.2.1 k0_h13 k0_h14
theorem k0_off48_inb : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), ∀ a, (k0_off48 v50 v82 v105 v267) a + S1x1024x896.size a ≤ S48x8192x896.size a := fun v50 v82 v105 v267 k0_hw6 k0_h13 k0_h14 => k0_hw6.1.2.2.2.1 k0_h13 k0_h14
theorem k0_off48_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), (Rect.unit (s := S48x8192x896) (k0_off48 v50 v82 v105 v267) S1x1024x896.size (k0_off48_inb v50 v82 v105 v267 k0_hw6 k0_h13 k0_h14)).WholeWords (EltTy.packing .fp8e4m3) := fun v50 v82 v105 v267 k0_hw6 k0_h13 k0_h14 => k0_hw6.1.2.2.2.2.1 k0_h13 k0_h14 (k0_off48_inb v50 v82 v105 v267 k0_hw6 k0_h13 k0_h14)
theorem k0_off47_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), (Rect.unit (s := S5x1024x896) (k0_off47 v50 v82 v267) S1x1024x896.size (k0_off47_inb v50 v82 v105 v267 k0_hw6 k0_h13 k0_h14)).WholeWords (EltTy.packing .fp8e4m3) := fun v50 v82 v105 v267 k0_hw6 k0_h13 k0_h14 => k0_hw6.1.2.2.2.2.2.1 k0_h13 k0_h14 (k0_off47_inb v50 v82 v105 v267 k0_hw6 k0_h13 k0_h14)
theorem k0_off49_inb : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), ∀ a, (k0_off49 v50 v82 v267) a + S1x960x1024.size a ≤ S5x960x1024.size a := fun v50 v82 v105 v267 k0_hw6 k0_h13 k0_h14 => k0_hw6.1.2.2.2.2.2.2.1 k0_h13 k0_h14
theorem k0_off50_inb : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), ∀ a, (k0_off50 v50 v82 v105 v267) a + S1x960x1024.size a ≤ S48x960x8192.size a := fun v50 v82 v105 v267 k0_hw6 k0_h13 k0_h14 => k0_hw6.1.2.2.2.2.2.2.2.1 k0_h13 k0_h14
theorem k0_off50_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), (Rect.unit (s := S48x960x8192) (k0_off50 v50 v82 v105 v267) S1x960x1024.size (k0_off50_inb v50 v82 v105 v267 k0_hw6 k0_h13 k0_h14)).WholeWords (EltTy.packing .fp8e5m2) := fun v50 v82 v105 v267 k0_hw6 k0_h13 k0_h14 => k0_hw6.1.2.2.2.2.2.2.2.2.1 k0_h13 k0_h14 (k0_off50_inb v50 v82 v105 v267 k0_hw6 k0_h13 k0_h14)
theorem k0_off49_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h14 : k0_cond14 v50 v82 v267 = 1#1), (Rect.unit (s := S5x960x1024) (k0_off49 v50 v82 v267) S1x960x1024.size (k0_off49_inb v50 v82 v105 v267 k0_hw6 k0_h13 k0_h14)).WholeWords (EltTy.packing .fp8e5m2) := fun v50 v82 v105 v267 k0_hw6 k0_h13 k0_h14 => k0_hw6.1.2.2.2.2.2.2.2.2.2.1 k0_h13 k0_h14 (k0_off49_inb v50 v82 v105 v267 k0_hw6 k0_h13 k0_h14)
theorem k0_mult22_dvd : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), 128 ∣ (k0_mult22 v50 v82 v267).toNat := fun v50 v82 v105 v267 k0_hw6 k0_h13 k0_h15 => k0_hw6.1.2.2.2.2.2.2.2.2.2.2.1 k0_h13 k0_h15
theorem k0_mult23_dvd : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), 128 ∣ (k0_mult23 v50 v82 v267).toNat := fun v50 v82 v105 v267 k0_hw6 k0_h13 k0_h15 => k0_hw6.1.2.2.2.2.2.2.2.2.2.2.2.1 k0_h13 k0_h15
theorem k0_off51_inb : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), ∀ a, (k0_off51 v50 v82 v267) a + S1x512x896.size a ≤ S5x1024x896.size a := fun v50 v82 v105 v267 k0_hw6 k0_h13 k0_h15 => k0_hw6.1.2.2.2.2.2.2.2.2.2.2.2.2.1 k0_h13 k0_h15
theorem k0_off52_inb : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), ∀ a, (k0_off52 v50 v82 v105 v267) a + S1x512x896.size a ≤ S48x8192x896.size a := fun v50 v82 v105 v267 k0_hw6 k0_h13 k0_h15 => k0_hw6.1.2.2.2.2.2.2.2.2.2.2.2.2.2.1 k0_h13 k0_h15
theorem k0_off52_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), (Rect.unit (s := S48x8192x896) (k0_off52 v50 v82 v105 v267) S1x512x896.size (k0_off52_inb v50 v82 v105 v267 k0_hw6 k0_h13 k0_h15)).WholeWords (EltTy.packing .fp8e4m3) := fun v50 v82 v105 v267 k0_hw6 k0_h13 k0_h15 => k0_hw6.1.2.2.2.2.2.2.2.2.2.2.2.2.2.2.1 k0_h13 k0_h15 (k0_off52_inb v50 v82 v105 v267 k0_hw6 k0_h13 k0_h15)
theorem k0_off51_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), (Rect.unit (s := S5x1024x896) (k0_off51 v50 v82 v267) S1x512x896.size (k0_off51_inb v50 v82 v105 v267 k0_hw6 k0_h13 k0_h15)).WholeWords (EltTy.packing .fp8e4m3) := fun v50 v82 v105 v267 k0_hw6 k0_h13 k0_h15 => k0_hw6.1.2.2.2.2.2.2.2.2.2.2.2.2.2.2.2.1 k0_h13 k0_h15 (k0_off51_inb v50 v82 v105 v267 k0_hw6 k0_h13 k0_h15)
theorem k0_off53_inb : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), ∀ a, (k0_off53 v50 v82 v267) a + S1x960x512.size a ≤ S5x960x1024.size a := fun v50 v82 v105 v267 k0_hw6 k0_h13 k0_h15 => k0_hw6.1.2.2.2.2.2.2.2.2.2.2.2.2.2.2.2.2.1 k0_h13 k0_h15
theorem k0_off54_inb : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), ∀ a, (k0_off54 v50 v82 v105 v267) a + S1x960x512.size a ≤ S48x960x8192.size a := fun v50 v82 v105 v267 k0_hw6 k0_h13 k0_h15 => k0_hw6.1.2.2.2.2.2.2.2.2.2.2.2.2.2.2.2.2.2.1 k0_h13 k0_h15
theorem k0_off54_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), (Rect.unit (s := S48x960x8192) (k0_off54 v50 v82 v105 v267) S1x960x512.size (k0_off54_inb v50 v82 v105 v267 k0_hw6 k0_h13 k0_h15)).WholeWords (EltTy.packing .fp8e5m2) := fun v50 v82 v105 v267 k0_hw6 k0_h13 k0_h15 => k0_hw6.1.2.2.2.2.2.2.2.2.2.2.2.2.2.2.2.2.2.2.1 k0_h13 k0_h15 (k0_off54_inb v50 v82 v105 v267 k0_hw6 k0_h13 k0_h15)
theorem k0_off53_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h15 : k0_cond15 v50 v82 v267 = 1#1), (Rect.unit (s := S5x960x1024) (k0_off53 v50 v82 v267) S1x960x512.size (k0_off53_inb v50 v82 v105 v267 k0_hw6 k0_h13 k0_h15)).WholeWords (EltTy.packing .fp8e5m2) := fun v50 v82 v105 v267 k0_hw6 k0_h13 k0_h15 => k0_hw6.1.2.2.2.2.2.2.2.2.2.2.2.2.2.2.2.2.2.2.2.1 k0_h13 k0_h15 (k0_off53_inb v50 v82 v105 v267 k0_hw6 k0_h13 k0_h15)
theorem k0_mult24_dvd : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), 128 ∣ (k0_mult24 v50 v82 v267).toNat := fun v50 v82 v105 v267 k0_hw6 k0_h13 k0_h16 => k0_hw6.1.2.2.2.2.2.2.2.2.2.2.2.2.2.2.2.2.2.2.2.2.1 k0_h13 k0_h16
theorem k0_mult25_dvd : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), 128 ∣ (k0_mult25 v50 v82 v267).toNat := fun v50 v82 v105 v267 k0_hw6 k0_h13 k0_h16 => k0_hw6.1.2.2.2.2.2.2.2.2.2.2.2.2.2.2.2.2.2.2.2.2.2.1 k0_h13 k0_h16
theorem k0_off55_inb : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), ∀ a, (k0_off55 v50 v82 v267) a + S1x256x896.size a ≤ S5x1024x896.size a := fun v50 v82 v105 v267 k0_hw6 k0_h13 k0_h16 => k0_hw6.1.2.2.2.2.2.2.2.2.2.2.2.2.2.2.2.2.2.2.2.2.2.2.1 k0_h13 k0_h16
theorem k0_off56_inb : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), ∀ a, (k0_off56 v50 v82 v105 v267) a + S1x256x896.size a ≤ S48x8192x896.size a := fun v50 v82 v105 v267 k0_hw6 k0_h13 k0_h16 => k0_hw6.1.2.2.2.2.2.2.2.2.2.2.2.2.2.2.2.2.2.2.2.2.2.2.2.1 k0_h13 k0_h16
theorem k0_off56_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), (Rect.unit (s := S48x8192x896) (k0_off56 v50 v82 v105 v267) S1x256x896.size (k0_off56_inb v50 v82 v105 v267 k0_hw6 k0_h13 k0_h16)).WholeWords (EltTy.packing .fp8e4m3) := fun v50 v82 v105 v267 k0_hw6 k0_h13 k0_h16 => k0_hw6.1.2.2.2.2.2.2.2.2.2.2.2.2.2.2.2.2.2.2.2.2.2.2.2.2.1 k0_h13 k0_h16 (k0_off56_inb v50 v82 v105 v267 k0_hw6 k0_h13 k0_h16)
theorem k0_off55_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), (Rect.unit (s := S5x1024x896) (k0_off55 v50 v82 v267) S1x256x896.size (k0_off55_inb v50 v82 v105 v267 k0_hw6 k0_h13 k0_h16)).WholeWords (EltTy.packing .fp8e4m3) := fun v50 v82 v105 v267 k0_hw6 k0_h13 k0_h16 => k0_hw6.1.2.2.2.2.2.2.2.2.2.2.2.2.2.2.2.2.2.2.2.2.2.2.2.2.2.1 k0_h13 k0_h16 (k0_off55_inb v50 v82 v105 v267 k0_hw6 k0_h13 k0_h16)
theorem k0_off57_inb : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), ∀ a, (k0_off57 v50 v82 v267) a + S1x960x256.size a ≤ S5x960x1024.size a := fun v50 v82 v105 v267 k0_hw6 k0_h13 k0_h16 => k0_hw6.1.2.2.2.2.2.2.2.2.2.2.2.2.2.2.2.2.2.2.2.2.2.2.2.2.2.2.1 k0_h13 k0_h16
theorem k0_off58_inb : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), ∀ a, (k0_off58 v50 v82 v105 v267) a + S1x960x256.size a ≤ S48x960x8192.size a := fun v50 v82 v105 v267 k0_hw6 k0_h13 k0_h16 => k0_hw6.1.2.2.2.2.2.2.2.2.2.2.2.2.2.2.2.2.2.2.2.2.2.2.2.2.2.2.2.1 k0_h13 k0_h16
theorem k0_off58_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), (Rect.unit (s := S48x960x8192) (k0_off58 v50 v82 v105 v267) S1x960x256.size (k0_off58_inb v50 v82 v105 v267 k0_hw6 k0_h13 k0_h16)).WholeWords (EltTy.packing .fp8e5m2) := fun v50 v82 v105 v267 k0_hw6 k0_h13 k0_h16 => k0_hw6.1.2.2.2.2.2.2.2.2.2.2.2.2.2.2.2.2.2.2.2.2.2.2.2.2.2.2.2.2.1 k0_h13 k0_h16 (k0_off58_inb v50 v82 v105 v267 k0_hw6 k0_h13 k0_h16)
theorem k0_off57_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h16 : k0_cond16 v50 v82 v267 = 1#1), (Rect.unit (s := S5x960x1024) (k0_off57 v50 v82 v267) S1x960x256.size (k0_off57_inb v50 v82 v105 v267 k0_hw6 k0_h13 k0_h16)).WholeWords (EltTy.packing .fp8e5m2) := fun v50 v82 v105 v267 k0_hw6 k0_h13 k0_h16 => k0_hw6.1.2.2.2.2.2.2.2.2.2.2.2.2.2.2.2.2.2.2.2.2.2.2.2.2.2.2.2.2.2.1 k0_h13 k0_h16 (k0_off57_inb v50 v82 v105 v267 k0_hw6 k0_h13 k0_h16)
theorem k0_mult26_dvd : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), 128 ∣ (k0_mult26 v50 v82 v267).toNat := fun v50 v82 v105 v267 k0_hw6 k0_h13 k0_h17 => k0_hw6.1.2.2.2.2.2.2.2.2.2.2.2.2.2.2.2.2.2.2.2.2.2.2.2.2.2.2.2.2.2.2.1 k0_h13 k0_h17
theorem k0_mult27_dvd : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), 128 ∣ (k0_mult27 v50 v82 v267).toNat := fun v50 v82 v105 v267 k0_hw6 k0_h13 k0_h17 => k0_hw6.1.2.2.2.2.2.2.2.2.2.2.2.2.2.2.2.2.2.2.2.2.2.2.2.2.2.2.2.2.2.2.2 k0_h13 k0_h17
theorem k0_off59_inb : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), ∀ a, (k0_off59 v50 v82 v267) a + S1x128x896.size a ≤ S5x1024x896.size a := fun v50 v82 v105 v267 k0_hw6 k0_h13 k0_h17 => k0_hw6.2.1 k0_h13 k0_h17
theorem k0_off60_inb : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), ∀ a, (k0_off60 v50 v82 v105 v267) a + S1x128x896.size a ≤ S48x8192x896.size a := fun v50 v82 v105 v267 k0_hw6 k0_h13 k0_h17 => k0_hw6.2.2.1 k0_h13 k0_h17
theorem k0_off60_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), (Rect.unit (s := S48x8192x896) (k0_off60 v50 v82 v105 v267) S1x128x896.size (k0_off60_inb v50 v82 v105 v267 k0_hw6 k0_h13 k0_h17)).WholeWords (EltTy.packing .fp8e4m3) := fun v50 v82 v105 v267 k0_hw6 k0_h13 k0_h17 => k0_hw6.2.2.2.1 k0_h13 k0_h17 (k0_off60_inb v50 v82 v105 v267 k0_hw6 k0_h13 k0_h17)
theorem k0_off59_wordsfp8e4m3 : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), (Rect.unit (s := S5x1024x896) (k0_off59 v50 v82 v267) S1x128x896.size (k0_off59_inb v50 v82 v105 v267 k0_hw6 k0_h13 k0_h17)).WholeWords (EltTy.packing .fp8e4m3) := fun v50 v82 v105 v267 k0_hw6 k0_h13 k0_h17 => k0_hw6.2.2.2.2.1 k0_h13 k0_h17 (k0_off59_inb v50 v82 v105 v267 k0_hw6 k0_h13 k0_h17)
theorem k0_off61_inb : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), ∀ a, (k0_off61 v50 v82 v267) a + S1x960x128.size a ≤ S5x960x1024.size a := fun v50 v82 v105 v267 k0_hw6 k0_h13 k0_h17 => k0_hw6.2.2.2.2.2.1 k0_h13 k0_h17
theorem k0_off62_inb : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), ∀ a, (k0_off62 v50 v82 v105 v267) a + S1x960x128.size a ≤ S48x960x8192.size a := fun v50 v82 v105 v267 k0_hw6 k0_h13 k0_h17 => k0_hw6.2.2.2.2.2.2.1 k0_h13 k0_h17
theorem k0_off62_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), (Rect.unit (s := S48x960x8192) (k0_off62 v50 v82 v105 v267) S1x960x128.size (k0_off62_inb v50 v82 v105 v267 k0_hw6 k0_h13 k0_h17)).WholeWords (EltTy.packing .fp8e5m2) := fun v50 v82 v105 v267 k0_hw6 k0_h13 k0_h17 => k0_hw6.2.2.2.2.2.2.2.1 k0_h13 k0_h17 (k0_off62_inb v50 v82 v105 v267 k0_hw6 k0_h13 k0_h17)
theorem k0_off61_wordsfp8e5m2 : ∀ (v50 : BitVec 32) (v82 : BitVec 32) (v105 : BitVec 32) (v267 : BitVec 32) (k0_hw6 : k0_chk6 v50 v82 v105 v267), ∀ (k0_h13 : k0_cond13 v105 = 1#1), ∀ (k0_h17 : k0_cond17 v50 v82 v267 = 1#1), (Rect.unit (s := S5x960x1024) (k0_off61 v50 v82 v267) S1x960x128.size (k0_off61_inb v50 v82 v105 v267 k0_hw6 k0_h13 k0_h17)).WholeWords (EltTy.packing .fp8e5m2) := fun v50 v82 v105 v267 k0_hw6 k0_h13 k0_h17 => k0_hw6.2.2.2.2.2.2.2.2 k0_h13 k0_h17 (k0_off61_inb v50 v82 v105 v267 k0_hw6 k0_h13 k0_h17)

def k0_off63 (v105 : BitVec 32) : Fin 1 → Nat :=
  let c47_i32_78 : BitVec 32 := 47#32
  let v109 : BitVec 32 := Scalar.minsi v105 c47_i32_78
  let v113 : Index := Scalar.indexCast v109
  ![v113.toNat]

def k0_chk5 (v50 : BitVec 32) (v82 : BitVec 32) (v105 : BitVec 32) : Prop :=
  (∀ (k0_h13 : k0_cond13 v105 = 1#1), ∀ a, (k0_off44 v105) a + S1.size a ≤ S48.size a) ∧
  (∀ (k0_h13 : k0_cond13 v105 = 1#1), 8 ∣ (k0_mult19 v50 v82).toNat) ∧
  (∀ (k0_h13 : k0_cond13 v105 = 1#1), ∀ a, (k0_off45 v50 v82 v105) a + S1x8x896.size a ≤ S48x64x896.size a) ∧
  (∀ (k0_h13 : k0_cond13 v105 = 1#1), ∀ a, (k0_off46 v50 v82 v105) a + S1x8x960.size a ≤ S48x64x960.size a) ∧
  (∀ a, (k0_off63 v105) a + S1.size a ≤ S48.size a)
theorem k0_off44_inb : ∀ (v50 : BitVec 32) (v82 : BitVec 32) (v105 : BitVec 32) (k0_hw5 : k0_chk5 v50 v82 v105), ∀ (k0_h13 : k0_cond13 v105 = 1#1), ∀ a, (k0_off44 v105) a + S1.size a ≤ S48.size a := fun v50 v82 v105 k0_hw5 k0_h13 => k0_hw5.1 k0_h13
theorem k0_mult19_dvd : ∀ (v50 : BitVec 32) (v82 : BitVec 32) (v105 : BitVec 32) (k0_hw5 : k0_chk5 v50 v82 v105), ∀ (k0_h13 : k0_cond13 v105 = 1#1), 8 ∣ (k0_mult19 v50 v82).toNat := fun v50 v82 v105 k0_hw5 k0_h13 => k0_hw5.2.1 k0_h13
theorem k0_off45_inb : ∀ (v50 : BitVec 32) (v82 : BitVec 32) (v105 : BitVec 32) (k0_hw5 : k0_chk5 v50 v82 v105), ∀ (k0_h13 : k0_cond13 v105 = 1#1), ∀ a, (k0_off45 v50 v82 v105) a + S1x8x896.size a ≤ S48x64x896.size a := fun v50 v82 v105 k0_hw5 k0_h13 => k0_hw5.2.2.1 k0_h13
theorem k0_off46_inb : ∀ (v50 : BitVec 32) (v82 : BitVec 32) (v105 : BitVec 32) (k0_hw5 : k0_chk5 v50 v82 v105), ∀ (k0_h13 : k0_cond13 v105 = 1#1), ∀ a, (k0_off46 v50 v82 v105) a + S1x8x960.size a ≤ S48x64x960.size a := fun v50 v82 v105 k0_hw5 k0_h13 => k0_hw5.2.2.2.1 k0_h13
theorem k0_off63_inb : ∀ (v50 : BitVec 32) (v82 : BitVec 32) (v105 : BitVec 32) (k0_hw5 : k0_chk5 v50 v82 v105), ∀ a, (k0_off63 v105) a + S1.size a ≤ S48.size a := fun v50 v82 v105 k0_hw5 => k0_hw5.2.2.2.2

@[reducible] def k0_t4_loop : Scf.Loop 32 :=
  let c0_i32_187 : BitVec 32 := 0#32
  let c48_i32_188 : BitVec 32 := 48#32
  let v267 : BitVec 32 := Scalar.addi c0_i32_187 c48_i32_188
  let c1_i32_189 : BitVec 32 := 1#32
  ⟨c0_i32_187, v267, c1_i32_189⟩
def k0_off64 (k0_t4 : Fin k0_t4_loop.trips) : Fin 1 → Nat :=
  let c47_i32_191 : BitVec 32 := 47#32
  let c0_i32_187 : BitVec 32 := 0#32
  let c1_i32_189 : BitVec 32 := 1#32
  let arg18 : BitVec 32 := Scf.iv c0_i32_187 c1_i32_189 k0_t4
  let v269 : BitVec 32 := Scalar.subi c47_i32_191 arg18
  let v271 : Index := Scalar.indexCast v269
  ![v271.toNat]
def k0_off65 (v137 : BitVec 32) : Fin 1 → Nat :=
  let c47_i32_93 : BitVec 32 := 47#32
  let v141 : BitVec 32 := Scalar.minsi v137 c47_i32_93
  let v266 : Index := Scalar.indexCast v141
  ![v266.toNat]
def k0_cond19 (v137 : BitVec 32) : BitVec 1 :=
  let c48_i32_92 : BitVec 32 := 48#32
  let v140 : BitVec 1 := Scalar.cmpi .slt v137 c48_i32_92
  let v142 : BitVec 32 := Scalar.extui v140
  let c0_i32_94 : BitVec 32 := 0#32
  let v143 : BitVec 1 := Scalar.cmpi .ne v142 c0_i32_94
  v143

def k0_mult28 (v50 : BitVec 32) (v82 : BitVec 32) (v114 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c8_i32_193 : BitVec 32 := 8#32
  let v289 : BitVec 32 := Scalar.muli v139 c8_i32_193
  v289
def k0_off66 (v50 : BitVec 32) (v82 : BitVec 32) (v114 : BitVec 32) (v137 : BitVec 32) : Fin 3 → Nat :=
  let c47_i32_93 : BitVec 32 := 47#32
  let v141 : BitVec 32 := Scalar.minsi v137 c47_i32_93
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c8_i32_193 : BitVec 32 := 8#32
  let v289 : BitVec 32 := Scalar.muli v139 c8_i32_193
  let v290 : BitVec 32 := v289
  let c0_i32_198 : BitVec 32 := 0#32
  ![v141.toNat, v290.toNat, 0]
def k0_off67 (v50 : BitVec 32) (v82 : BitVec 32) (v114 : BitVec 32) (v137 : BitVec 32) : Fin 3 → Nat :=
  let c47_i32_93 : BitVec 32 := 47#32
  let v141 : BitVec 32 := Scalar.minsi v137 c47_i32_93
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c8_i32_193 : BitVec 32 := 8#32
  let v289 : BitVec 32 := Scalar.muli v139 c8_i32_193
  let v290 : BitVec 32 := v289
  let c0_i32_203 : BitVec 32 := 0#32
  ![v141.toNat, v290.toNat, 0]
def k0_mult29 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  v325
def k0_cond20 (v50 : BitVec 32) (v82 : BitVec 32) (v114 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_205 : BitVec 32 := 8#32
  let v304 : BitVec 32 := Scalar.andi v288 c8_i32_205
  let c0_i32_206 : BitVec 32 := 0#32
  let v305 : BitVec 1 := Scalar.cmpi .ne v304 c0_i32_206
  let v306 : BitVec 32 := Scalar.extui v305
  let c0_i32_207 : BitVec 32 := 0#32
  let v307 : BitVec 1 := Scalar.cmpi .ne v306 c0_i32_207
  v307

def k0_mult30 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  v327
def k0_off68 (v50 : BitVec 32) (v82 : BitVec 32) (v114 : BitVec 32) (v267 : BitVec 32) : Fin 3 → Nat :=
  let c3_i32_221 : BitVec 32 := 3#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  let c0_i32_223 : BitVec 32 := 0#32
  ![3, v328.toNat, 0]
def k0_off69 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  let c0_i32_224 : BitVec 32 := 0#32
  ![v141.toNat, v326.toNat, 0]
def k0_off70 (v50 : BitVec 32) (v82 : BitVec 32) (v114 : BitVec 32) (v267 : BitVec 32) : Fin 3 → Nat :=
  let c3_i32_225 : BitVec 32 := 3#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  ![3, 0, v328.toNat]
def k0_off71 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  ![v141.toNat, 0, v326.toNat]
def k0_mult31 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  v325
def k0_cond21 (v50 : BitVec 32) (v82 : BitVec 32) (v114 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c4_i32_209 : BitVec 32 := 4#32
  let v309 : BitVec 32 := Scalar.andi v288 c4_i32_209
  let c0_i32_210 : BitVec 32 := 0#32
  let v310 : BitVec 1 := Scalar.cmpi .ne v309 c0_i32_210
  let v311 : BitVec 32 := Scalar.extui v310
  let c0_i32_211 : BitVec 32 := 0#32
  let v312 : BitVec 1 := Scalar.cmpi .ne v311 c0_i32_211
  v312

def k0_mult32 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  v327
def k0_off72 (v50 : BitVec 32) (v82 : BitVec 32) (v114 : BitVec 32) (v267 : BitVec 32) : Fin 3 → Nat :=
  let c3_i32_221 : BitVec 32 := 3#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  let c0_i32_223 : BitVec 32 := 0#32
  ![3, v328.toNat, 0]
def k0_off73 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  let c0_i32_224 : BitVec 32 := 0#32
  ![v141.toNat, v326.toNat, 0]
def k0_off74 (v50 : BitVec 32) (v82 : BitVec 32) (v114 : BitVec 32) (v267 : BitVec 32) : Fin 3 → Nat :=
  let c3_i32_225 : BitVec 32 := 3#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  ![3, 0, v328.toNat]
def k0_off75 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  ![v141.toNat, 0, v326.toNat]
def k0_mult33 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  v325
def k0_cond22 (v50 : BitVec 32) (v82 : BitVec 32) (v114 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c2_i32_212 : BitVec 32 := 2#32
  let v314 : BitVec 32 := Scalar.andi v288 c2_i32_212
  let c0_i32_213 : BitVec 32 := 0#32
  let v315 : BitVec 1 := Scalar.cmpi .ne v314 c0_i32_213
  let v316 : BitVec 32 := Scalar.extui v315
  let c0_i32_214 : BitVec 32 := 0#32
  let v317 : BitVec 1 := Scalar.cmpi .ne v316 c0_i32_214
  v317

def k0_mult34 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  v327
def k0_off76 (v50 : BitVec 32) (v82 : BitVec 32) (v114 : BitVec 32) (v267 : BitVec 32) : Fin 3 → Nat :=
  let c3_i32_221 : BitVec 32 := 3#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  let c0_i32_223 : BitVec 32 := 0#32
  ![3, v328.toNat, 0]
def k0_off77 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  let c0_i32_224 : BitVec 32 := 0#32
  ![v141.toNat, v326.toNat, 0]
def k0_off78 (v50 : BitVec 32) (v82 : BitVec 32) (v114 : BitVec 32) (v267 : BitVec 32) : Fin 3 → Nat :=
  let c3_i32_225 : BitVec 32 := 3#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  ![3, 0, v328.toNat]
def k0_off79 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  ![v141.toNat, 0, v326.toNat]
def k0_mult35 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  v325
def k0_cond23 (v50 : BitVec 32) (v82 : BitVec 32) (v114 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c1_i32_215 : BitVec 32 := 1#32
  let v319 : BitVec 32 := Scalar.andi v288 c1_i32_215
  let c0_i32_216 : BitVec 32 := 0#32
  let v320 : BitVec 1 := Scalar.cmpi .ne v319 c0_i32_216
  let v321 : BitVec 32 := Scalar.extui v320
  let c0_i32_217 : BitVec 32 := 0#32
  let v322 : BitVec 1 := Scalar.cmpi .ne v321 c0_i32_217
  v322

def k0_mult36 (v50 : BitVec 32) (v82 : BitVec 32) (v114 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  v327
def k0_off80 (v50 : BitVec 32) (v82 : BitVec 32) (v114 : BitVec 32) (v267 : BitVec 32) : Fin 3 → Nat :=
  let c3_i32_221 : BitVec 32 := 3#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  let c0_i32_223 : BitVec 32 := 0#32
  ![3, v328.toNat, 0]
def k0_off81 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  let c0_i32_224 : BitVec 32 := 0#32
  ![v141.toNat, v326.toNat, 0]
def k0_off82 (v50 : BitVec 32) (v82 : BitVec 32) (v114 : BitVec 32) (v267 : BitVec 32) : Fin 3 → Nat :=
  let c3_i32_225 : BitVec 32 := 3#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  ![3, 0, v328.toNat]
def k0_off83 (v50 : BitVec 32) (v82 : BitVec 32) (v114 : BitVec 32) (v137 : BitVec 32) (v267 : BitVec 32) : Fin 3 → Nat :=
  let c47_i32_93 : BitVec 32 := 47#32
  let v141 : BitVec 32 := Scalar.minsi v137 c47_i32_93
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1024_i32_218 : BitVec 32 := 1024#32
  let v323 : BitVec 32 := Scalar.muli v139 c1024_i32_218
  let c1024_i32_185 : BitVec 32 := 1024#32
  let v268 : BitVec 32 := Scalar.muli v139 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  ![v141.toNat, 0, v326.toNat]

def k0_chk8_0 (v50 : BitVec 32) (v82 : BitVec 32) (v114 : BitVec 32) (v137 : BitVec 32) (v267 : BitVec 32) : Prop :=
  (∀ (k0_h19 : k0_cond19 v137 = 1#1), ∀ (k0_h20 : k0_cond20 v50 v82 v114 v267 = 1#1), 128 ∣ (k0_mult29 v50 v82 v114 v267).toNat) ∧
  (∀ (k0_h19 : k0_cond19 v137 = 1#1), ∀ (k0_h20 : k0_cond20 v50 v82 v114 v267 = 1#1), 128 ∣ (k0_mult30 v50 v82 v114 v267).toNat) ∧
  (∀ (k0_h19 : k0_cond19 v137 = 1#1), ∀ (k0_h20 : k0_cond20 v50 v82 v114 v267 = 1#1), ∀ a, (k0_off68 v50 v82 v114 v267) a + S1x1024x896.size a ≤ S5x1024x896.size a) ∧
  (∀ (k0_h19 : k0_cond19 v137 = 1#1), ∀ (k0_h20 : k0_cond20 v50 v82 v114 v267 = 1#1), ∀ a, (k0_off69 v50 v82 v114 v137 v267) a + S1x1024x896.size a ≤ S48x8192x896.size a) ∧
  (∀ (k0_h19 : k0_cond19 v137 = 1#1), ∀ (k0_h20 : k0_cond20 v50 v82 v114 v267 = 1#1), ∀ (hinb : ∀ a, (k0_off69 v50 v82 v114 v137 v267) a + S1x1024x896.size a ≤ S48x8192x896.size a), (Rect.unit (s := S48x8192x896) (k0_off69 v50 v82 v114 v137 v267) S1x1024x896.size hinb).WholeWords (EltTy.packing .fp8e4m3)) ∧
  (∀ (k0_h19 : k0_cond19 v137 = 1#1), ∀ (k0_h20 : k0_cond20 v50 v82 v114 v267 = 1#1), ∀ (hinb : ∀ a, (k0_off68 v50 v82 v114 v267) a + S1x1024x896.size a ≤ S5x1024x896.size a), (Rect.unit (s := S5x1024x896) (k0_off68 v50 v82 v114 v267) S1x1024x896.size hinb).WholeWords (EltTy.packing .fp8e4m3)) ∧
  (∀ (k0_h19 : k0_cond19 v137 = 1#1), ∀ (k0_h20 : k0_cond20 v50 v82 v114 v267 = 1#1), ∀ a, (k0_off70 v50 v82 v114 v267) a + S1x960x1024.size a ≤ S5x960x1024.size a) ∧
  (∀ (k0_h19 : k0_cond19 v137 = 1#1), ∀ (k0_h20 : k0_cond20 v50 v82 v114 v267 = 1#1), ∀ a, (k0_off71 v50 v82 v114 v137 v267) a + S1x960x1024.size a ≤ S48x960x8192.size a) ∧
  (∀ (k0_h19 : k0_cond19 v137 = 1#1), ∀ (k0_h20 : k0_cond20 v50 v82 v114 v267 = 1#1), ∀ (hinb : ∀ a, (k0_off71 v50 v82 v114 v137 v267) a + S1x960x1024.size a ≤ S48x960x8192.size a), (Rect.unit (s := S48x960x8192) (k0_off71 v50 v82 v114 v137 v267) S1x960x1024.size hinb).WholeWords (EltTy.packing .fp8e5m2)) ∧
  (∀ (k0_h19 : k0_cond19 v137 = 1#1), ∀ (k0_h20 : k0_cond20 v50 v82 v114 v267 = 1#1), ∀ (hinb : ∀ a, (k0_off70 v50 v82 v114 v267) a + S1x960x1024.size a ≤ S5x960x1024.size a), (Rect.unit (s := S5x960x1024) (k0_off70 v50 v82 v114 v267) S1x960x1024.size hinb).WholeWords (EltTy.packing .fp8e5m2)) ∧
  (∀ (k0_h19 : k0_cond19 v137 = 1#1), ∀ (k0_h21 : k0_cond21 v50 v82 v114 v267 = 1#1), 128 ∣ (k0_mult31 v50 v82 v114 v267).toNat) ∧
  (∀ (k0_h19 : k0_cond19 v137 = 1#1), ∀ (k0_h21 : k0_cond21 v50 v82 v114 v267 = 1#1), 128 ∣ (k0_mult32 v50 v82 v114 v267).toNat) ∧
  (∀ (k0_h19 : k0_cond19 v137 = 1#1), ∀ (k0_h21 : k0_cond21 v50 v82 v114 v267 = 1#1), ∀ a, (k0_off72 v50 v82 v114 v267) a + S1x512x896.size a ≤ S5x1024x896.size a) ∧
  (∀ (k0_h19 : k0_cond19 v137 = 1#1), ∀ (k0_h21 : k0_cond21 v50 v82 v114 v267 = 1#1), ∀ a, (k0_off73 v50 v82 v114 v137 v267) a + S1x512x896.size a ≤ S48x8192x896.size a) ∧
  (∀ (k0_h19 : k0_cond19 v137 = 1#1), ∀ (k0_h21 : k0_cond21 v50 v82 v114 v267 = 1#1), ∀ (hinb : ∀ a, (k0_off73 v50 v82 v114 v137 v267) a + S1x512x896.size a ≤ S48x8192x896.size a), (Rect.unit (s := S48x8192x896) (k0_off73 v50 v82 v114 v137 v267) S1x512x896.size hinb).WholeWords (EltTy.packing .fp8e4m3)) ∧
  (∀ (k0_h19 : k0_cond19 v137 = 1#1), ∀ (k0_h21 : k0_cond21 v50 v82 v114 v267 = 1#1), ∀ (hinb : ∀ a, (k0_off72 v50 v82 v114 v267) a + S1x512x896.size a ≤ S5x1024x896.size a), (Rect.unit (s := S5x1024x896) (k0_off72 v50 v82 v114 v267) S1x512x896.size hinb).WholeWords (EltTy.packing .fp8e4m3)) ∧
  (∀ (k0_h19 : k0_cond19 v137 = 1#1), ∀ (k0_h21 : k0_cond21 v50 v82 v114 v267 = 1#1), ∀ a, (k0_off74 v50 v82 v114 v267) a + S1x960x512.size a ≤ S5x960x1024.size a) ∧
  (∀ (k0_h19 : k0_cond19 v137 = 1#1), ∀ (k0_h21 : k0_cond21 v50 v82 v114 v267 = 1#1), ∀ a, (k0_off75 v50 v82 v114 v137 v267) a + S1x960x512.size a ≤ S48x960x8192.size a) ∧
  (∀ (k0_h19 : k0_cond19 v137 = 1#1), ∀ (k0_h21 : k0_cond21 v50 v82 v114 v267 = 1#1), ∀ (hinb : ∀ a, (k0_off75 v50 v82 v114 v137 v267) a + S1x960x512.size a ≤ S48x960x8192.size a), (Rect.unit (s := S48x960x8192) (k0_off75 v50 v82 v114 v137 v267) S1x960x512.size hinb).WholeWords (EltTy.packing .fp8e5m2)) ∧
  (∀ (k0_h19 : k0_cond19 v137 = 1#1), ∀ (k0_h21 : k0_cond21 v50 v82 v114 v267 = 1#1), ∀ (hinb : ∀ a, (k0_off74 v50 v82 v114 v267) a + S1x960x512.size a ≤ S5x960x1024.size a), (Rect.unit (s := S5x960x1024) (k0_off74 v50 v82 v114 v267) S1x960x512.size hinb).WholeWords (EltTy.packing .fp8e5m2)) ∧
  (∀ (k0_h19 : k0_cond19 v137 = 1#1), ∀ (k0_h22 : k0_cond22 v50 v82 v114 v267 = 1#1), 128 ∣ (k0_mult33 v50 v82 v114 v267).toNat) ∧
  (∀ (k0_h19 : k0_cond19 v137 = 1#1), ∀ (k0_h22 : k0_cond22 v50 v82 v114 v267 = 1#1), 128 ∣ (k0_mult34 v50 v82 v114 v267).toNat) ∧
  (∀ (k0_h19 : k0_cond19 v137 = 1#1), ∀ (k0_h22 : k0_cond22 v50 v82 v114 v267 = 1#1), ∀ a, (k0_off76 v50 v82 v114 v267) a + S1x256x896.size a ≤ S5x1024x896.size a) ∧
  (∀ (k0_h19 : k0_cond19 v137 = 1#1), ∀ (k0_h22 : k0_cond22 v50 v82 v114 v267 = 1#1), ∀ a, (k0_off77 v50 v82 v114 v137 v267) a + S1x256x896.size a ≤ S48x8192x896.size a) ∧
  (∀ (k0_h19 : k0_cond19 v137 = 1#1), ∀ (k0_h22 : k0_cond22 v50 v82 v114 v267 = 1#1), ∀ (hinb : ∀ a, (k0_off77 v50 v82 v114 v137 v267) a + S1x256x896.size a ≤ S48x8192x896.size a), (Rect.unit (s := S48x8192x896) (k0_off77 v50 v82 v114 v137 v267) S1x256x896.size hinb).WholeWords (EltTy.packing .fp8e4m3)) ∧
  (∀ (k0_h19 : k0_cond19 v137 = 1#1), ∀ (k0_h22 : k0_cond22 v50 v82 v114 v267 = 1#1), ∀ (hinb : ∀ a, (k0_off76 v50 v82 v114 v267) a + S1x256x896.size a ≤ S5x1024x896.size a), (Rect.unit (s := S5x1024x896) (k0_off76 v50 v82 v114 v267) S1x256x896.size hinb).WholeWords (EltTy.packing .fp8e4m3)) ∧
  (∀ (k0_h19 : k0_cond19 v137 = 1#1), ∀ (k0_h22 : k0_cond22 v50 v82 v114 v267 = 1#1), ∀ a, (k0_off78 v50 v82 v114 v267) a + S1x960x256.size a ≤ S5x960x1024.size a) ∧
  (∀ (k0_h19 : k0_cond19 v137 = 1#1), ∀ (k0_h22 : k0_cond22 v50 v82 v114 v267 = 1#1), ∀ a, (k0_off79 v50 v82 v114 v137 v267) a + S1x960x256.size a ≤ S48x960x8192.size a) ∧
  (∀ (k0_h19 : k0_cond19 v137 = 1#1), ∀ (k0_h22 : k0_cond22 v50 v82 v114 v267 = 1#1), ∀ (hinb : ∀ a, (k0_off79 v50 v82 v114 v137 v267) a + S1x960x256.size a ≤ S48x960x8192.size a), (Rect.unit (s := S48x960x8192) (k0_off79 v50 v82 v114 v137 v267) S1x960x256.size hinb).WholeWords (EltTy.packing .fp8e5m2)) ∧
  (∀ (k0_h19 : k0_cond19 v137 = 1#1), ∀ (k0_h22 : k0_cond22 v50 v82 v114 v267 = 1#1), ∀ (hinb : ∀ a, (k0_off78 v50 v82 v114 v267) a + S1x960x256.size a ≤ S5x960x1024.size a), (Rect.unit (s := S5x960x1024) (k0_off78 v50 v82 v114 v267) S1x960x256.size hinb).WholeWords (EltTy.packing .fp8e5m2)) ∧
  (∀ (k0_h19 : k0_cond19 v137 = 1#1), ∀ (k0_h23 : k0_cond23 v50 v82 v114 v267 = 1#1), 128 ∣ (k0_mult35 v50 v82 v114 v267).toNat) ∧
  (∀ (k0_h19 : k0_cond19 v137 = 1#1), ∀ (k0_h23 : k0_cond23 v50 v82 v114 v267 = 1#1), 128 ∣ (k0_mult36 v50 v82 v114 v267).toNat)
def k0_chk8_1 (v50 : BitVec 32) (v82 : BitVec 32) (v114 : BitVec 32) (v137 : BitVec 32) (v267 : BitVec 32) : Prop :=
  (∀ (k0_h19 : k0_cond19 v137 = 1#1), ∀ (k0_h23 : k0_cond23 v50 v82 v114 v267 = 1#1), ∀ a, (k0_off80 v50 v82 v114 v267) a + S1x128x896.size a ≤ S5x1024x896.size a) ∧
  (∀ (k0_h19 : k0_cond19 v137 = 1#1), ∀ (k0_h23 : k0_cond23 v50 v82 v114 v267 = 1#1), ∀ a, (k0_off81 v50 v82 v114 v137 v267) a + S1x128x896.size a ≤ S48x8192x896.size a) ∧
  (∀ (k0_h19 : k0_cond19 v137 = 1#1), ∀ (k0_h23 : k0_cond23 v50 v82 v114 v267 = 1#1), ∀ (hinb : ∀ a, (k0_off81 v50 v82 v114 v137 v267) a + S1x128x896.size a ≤ S48x8192x896.size a), (Rect.unit (s := S48x8192x896) (k0_off81 v50 v82 v114 v137 v267) S1x128x896.size hinb).WholeWords (EltTy.packing .fp8e4m3)) ∧
  (∀ (k0_h19 : k0_cond19 v137 = 1#1), ∀ (k0_h23 : k0_cond23 v50 v82 v114 v267 = 1#1), ∀ (hinb : ∀ a, (k0_off80 v50 v82 v114 v267) a + S1x128x896.size a ≤ S5x1024x896.size a), (Rect.unit (s := S5x1024x896) (k0_off80 v50 v82 v114 v267) S1x128x896.size hinb).WholeWords (EltTy.packing .fp8e4m3)) ∧
  (∀ (k0_h19 : k0_cond19 v137 = 1#1), ∀ (k0_h23 : k0_cond23 v50 v82 v114 v267 = 1#1), ∀ a, (k0_off82 v50 v82 v114 v267) a + S1x960x128.size a ≤ S5x960x1024.size a) ∧
  (∀ (k0_h19 : k0_cond19 v137 = 1#1), ∀ (k0_h23 : k0_cond23 v50 v82 v114 v267 = 1#1), ∀ a, (k0_off83 v50 v82 v114 v137 v267) a + S1x960x128.size a ≤ S48x960x8192.size a) ∧
  (∀ (k0_h19 : k0_cond19 v137 = 1#1), ∀ (k0_h23 : k0_cond23 v50 v82 v114 v267 = 1#1), ∀ (hinb : ∀ a, (k0_off83 v50 v82 v114 v137 v267) a + S1x960x128.size a ≤ S48x960x8192.size a), (Rect.unit (s := S48x960x8192) (k0_off83 v50 v82 v114 v137 v267) S1x960x128.size hinb).WholeWords (EltTy.packing .fp8e5m2)) ∧
  (∀ (k0_h19 : k0_cond19 v137 = 1#1), ∀ (k0_h23 : k0_cond23 v50 v82 v114 v267 = 1#1), ∀ (hinb : ∀ a, (k0_off82 v50 v82 v114 v267) a + S1x960x128.size a ≤ S5x960x1024.size a), (Rect.unit (s := S5x960x1024) (k0_off82 v50 v82 v114 v267) S1x960x128.size hinb).WholeWords (EltTy.packing .fp8e5m2))
def k0_chk8 (v50 : BitVec 32) (v82 : BitVec 32) (v114 : BitVec 32) (v137 : BitVec 32) (v267 : BitVec 32) : Prop :=
  k0_chk8_0 v50 v82 v114 v137 v267 ∧
  k0_chk8_1 v50 v82 v114 v137 v267
theorem k0_mult29_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), 128 ∣ (k0_mult29 v50 v82 v114 v267).toNat := fun v50 v82 v114 v137 v267 k0_hw8 k0_h19 k0_h20 => k0_hw8.1.1 k0_h19 k0_h20
theorem k0_mult30_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), 128 ∣ (k0_mult30 v50 v82 v114 v267).toNat := fun v50 v82 v114 v137 v267 k0_hw8 k0_h19 k0_h20 => k0_hw8.1.2.1 k0_h19 k0_h20
theorem k0_off68_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), ∀ a, (k0_off68 v50 v82 v114 v267) a + S1x1024x896.size a ≤ S5x1024x896.size a := fun v50 v82 v114 v137 v267 k0_hw8 k0_h19 k0_h20 => k0_hw8.1.2.2.1 k0_h19 k0_h20
theorem k0_off69_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), ∀ a, (k0_off69 v50 v82 v114 v137 v267) a + S1x1024x896.size a ≤ S48x8192x896.size a := fun v50 v82 v114 v137 v267 k0_hw8 k0_h19 k0_h20 => k0_hw8.1.2.2.2.1 k0_h19 k0_h20
theorem k0_off69_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), (Rect.unit (s := S48x8192x896) (k0_off69 v50 v82 v114 v137 v267) S1x1024x896.size (k0_off69_inb v50 v82 v114 v137 v267 k0_hw8 k0_h19 k0_h20)).WholeWords (EltTy.packing .fp8e4m3) := fun v50 v82 v114 v137 v267 k0_hw8 k0_h19 k0_h20 => k0_hw8.1.2.2.2.2.1 k0_h19 k0_h20 (k0_off69_inb v50 v82 v114 v137 v267 k0_hw8 k0_h19 k0_h20)
theorem k0_off68_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), (Rect.unit (s := S5x1024x896) (k0_off68 v50 v82 v114 v267) S1x1024x896.size (k0_off68_inb v50 v82 v114 v137 v267 k0_hw8 k0_h19 k0_h20)).WholeWords (EltTy.packing .fp8e4m3) := fun v50 v82 v114 v137 v267 k0_hw8 k0_h19 k0_h20 => k0_hw8.1.2.2.2.2.2.1 k0_h19 k0_h20 (k0_off68_inb v50 v82 v114 v137 v267 k0_hw8 k0_h19 k0_h20)
theorem k0_off70_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), ∀ a, (k0_off70 v50 v82 v114 v267) a + S1x960x1024.size a ≤ S5x960x1024.size a := fun v50 v82 v114 v137 v267 k0_hw8 k0_h19 k0_h20 => k0_hw8.1.2.2.2.2.2.2.1 k0_h19 k0_h20
theorem k0_off71_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), ∀ a, (k0_off71 v50 v82 v114 v137 v267) a + S1x960x1024.size a ≤ S48x960x8192.size a := fun v50 v82 v114 v137 v267 k0_hw8 k0_h19 k0_h20 => k0_hw8.1.2.2.2.2.2.2.2.1 k0_h19 k0_h20
theorem k0_off71_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), (Rect.unit (s := S48x960x8192) (k0_off71 v50 v82 v114 v137 v267) S1x960x1024.size (k0_off71_inb v50 v82 v114 v137 v267 k0_hw8 k0_h19 k0_h20)).WholeWords (EltTy.packing .fp8e5m2) := fun v50 v82 v114 v137 v267 k0_hw8 k0_h19 k0_h20 => k0_hw8.1.2.2.2.2.2.2.2.2.1 k0_h19 k0_h20 (k0_off71_inb v50 v82 v114 v137 v267 k0_hw8 k0_h19 k0_h20)
theorem k0_off70_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h20 : k0_cond20 v50 v82 v114 v267 = 1#1), (Rect.unit (s := S5x960x1024) (k0_off70 v50 v82 v114 v267) S1x960x1024.size (k0_off70_inb v50 v82 v114 v137 v267 k0_hw8 k0_h19 k0_h20)).WholeWords (EltTy.packing .fp8e5m2) := fun v50 v82 v114 v137 v267 k0_hw8 k0_h19 k0_h20 => k0_hw8.1.2.2.2.2.2.2.2.2.2.1 k0_h19 k0_h20 (k0_off70_inb v50 v82 v114 v137 v267 k0_hw8 k0_h19 k0_h20)
theorem k0_mult31_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), 128 ∣ (k0_mult31 v50 v82 v114 v267).toNat := fun v50 v82 v114 v137 v267 k0_hw8 k0_h19 k0_h21 => k0_hw8.1.2.2.2.2.2.2.2.2.2.2.1 k0_h19 k0_h21
theorem k0_mult32_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), 128 ∣ (k0_mult32 v50 v82 v114 v267).toNat := fun v50 v82 v114 v137 v267 k0_hw8 k0_h19 k0_h21 => k0_hw8.1.2.2.2.2.2.2.2.2.2.2.2.1 k0_h19 k0_h21
theorem k0_off72_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), ∀ a, (k0_off72 v50 v82 v114 v267) a + S1x512x896.size a ≤ S5x1024x896.size a := fun v50 v82 v114 v137 v267 k0_hw8 k0_h19 k0_h21 => k0_hw8.1.2.2.2.2.2.2.2.2.2.2.2.2.1 k0_h19 k0_h21
theorem k0_off73_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), ∀ a, (k0_off73 v50 v82 v114 v137 v267) a + S1x512x896.size a ≤ S48x8192x896.size a := fun v50 v82 v114 v137 v267 k0_hw8 k0_h19 k0_h21 => k0_hw8.1.2.2.2.2.2.2.2.2.2.2.2.2.2.1 k0_h19 k0_h21
theorem k0_off73_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), (Rect.unit (s := S48x8192x896) (k0_off73 v50 v82 v114 v137 v267) S1x512x896.size (k0_off73_inb v50 v82 v114 v137 v267 k0_hw8 k0_h19 k0_h21)).WholeWords (EltTy.packing .fp8e4m3) := fun v50 v82 v114 v137 v267 k0_hw8 k0_h19 k0_h21 => k0_hw8.1.2.2.2.2.2.2.2.2.2.2.2.2.2.2.1 k0_h19 k0_h21 (k0_off73_inb v50 v82 v114 v137 v267 k0_hw8 k0_h19 k0_h21)
theorem k0_off72_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), (Rect.unit (s := S5x1024x896) (k0_off72 v50 v82 v114 v267) S1x512x896.size (k0_off72_inb v50 v82 v114 v137 v267 k0_hw8 k0_h19 k0_h21)).WholeWords (EltTy.packing .fp8e4m3) := fun v50 v82 v114 v137 v267 k0_hw8 k0_h19 k0_h21 => k0_hw8.1.2.2.2.2.2.2.2.2.2.2.2.2.2.2.2.1 k0_h19 k0_h21 (k0_off72_inb v50 v82 v114 v137 v267 k0_hw8 k0_h19 k0_h21)
theorem k0_off74_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), ∀ a, (k0_off74 v50 v82 v114 v267) a + S1x960x512.size a ≤ S5x960x1024.size a := fun v50 v82 v114 v137 v267 k0_hw8 k0_h19 k0_h21 => k0_hw8.1.2.2.2.2.2.2.2.2.2.2.2.2.2.2.2.2.1 k0_h19 k0_h21
theorem k0_off75_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), ∀ a, (k0_off75 v50 v82 v114 v137 v267) a + S1x960x512.size a ≤ S48x960x8192.size a := fun v50 v82 v114 v137 v267 k0_hw8 k0_h19 k0_h21 => k0_hw8.1.2.2.2.2.2.2.2.2.2.2.2.2.2.2.2.2.2.1 k0_h19 k0_h21
theorem k0_off75_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), (Rect.unit (s := S48x960x8192) (k0_off75 v50 v82 v114 v137 v267) S1x960x512.size (k0_off75_inb v50 v82 v114 v137 v267 k0_hw8 k0_h19 k0_h21)).WholeWords (EltTy.packing .fp8e5m2) := fun v50 v82 v114 v137 v267 k0_hw8 k0_h19 k0_h21 => k0_hw8.1.2.2.2.2.2.2.2.2.2.2.2.2.2.2.2.2.2.2.1 k0_h19 k0_h21 (k0_off75_inb v50 v82 v114 v137 v267 k0_hw8 k0_h19 k0_h21)
theorem k0_off74_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h21 : k0_cond21 v50 v82 v114 v267 = 1#1), (Rect.unit (s := S5x960x1024) (k0_off74 v50 v82 v114 v267) S1x960x512.size (k0_off74_inb v50 v82 v114 v137 v267 k0_hw8 k0_h19 k0_h21)).WholeWords (EltTy.packing .fp8e5m2) := fun v50 v82 v114 v137 v267 k0_hw8 k0_h19 k0_h21 => k0_hw8.1.2.2.2.2.2.2.2.2.2.2.2.2.2.2.2.2.2.2.2.1 k0_h19 k0_h21 (k0_off74_inb v50 v82 v114 v137 v267 k0_hw8 k0_h19 k0_h21)
theorem k0_mult33_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), 128 ∣ (k0_mult33 v50 v82 v114 v267).toNat := fun v50 v82 v114 v137 v267 k0_hw8 k0_h19 k0_h22 => k0_hw8.1.2.2.2.2.2.2.2.2.2.2.2.2.2.2.2.2.2.2.2.2.1 k0_h19 k0_h22
theorem k0_mult34_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), 128 ∣ (k0_mult34 v50 v82 v114 v267).toNat := fun v50 v82 v114 v137 v267 k0_hw8 k0_h19 k0_h22 => k0_hw8.1.2.2.2.2.2.2.2.2.2.2.2.2.2.2.2.2.2.2.2.2.2.1 k0_h19 k0_h22
theorem k0_off76_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), ∀ a, (k0_off76 v50 v82 v114 v267) a + S1x256x896.size a ≤ S5x1024x896.size a := fun v50 v82 v114 v137 v267 k0_hw8 k0_h19 k0_h22 => k0_hw8.1.2.2.2.2.2.2.2.2.2.2.2.2.2.2.2.2.2.2.2.2.2.2.1 k0_h19 k0_h22
theorem k0_off77_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), ∀ a, (k0_off77 v50 v82 v114 v137 v267) a + S1x256x896.size a ≤ S48x8192x896.size a := fun v50 v82 v114 v137 v267 k0_hw8 k0_h19 k0_h22 => k0_hw8.1.2.2.2.2.2.2.2.2.2.2.2.2.2.2.2.2.2.2.2.2.2.2.2.1 k0_h19 k0_h22
theorem k0_off77_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), (Rect.unit (s := S48x8192x896) (k0_off77 v50 v82 v114 v137 v267) S1x256x896.size (k0_off77_inb v50 v82 v114 v137 v267 k0_hw8 k0_h19 k0_h22)).WholeWords (EltTy.packing .fp8e4m3) := fun v50 v82 v114 v137 v267 k0_hw8 k0_h19 k0_h22 => k0_hw8.1.2.2.2.2.2.2.2.2.2.2.2.2.2.2.2.2.2.2.2.2.2.2.2.2.1 k0_h19 k0_h22 (k0_off77_inb v50 v82 v114 v137 v267 k0_hw8 k0_h19 k0_h22)
theorem k0_off76_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), (Rect.unit (s := S5x1024x896) (k0_off76 v50 v82 v114 v267) S1x256x896.size (k0_off76_inb v50 v82 v114 v137 v267 k0_hw8 k0_h19 k0_h22)).WholeWords (EltTy.packing .fp8e4m3) := fun v50 v82 v114 v137 v267 k0_hw8 k0_h19 k0_h22 => k0_hw8.1.2.2.2.2.2.2.2.2.2.2.2.2.2.2.2.2.2.2.2.2.2.2.2.2.2.1 k0_h19 k0_h22 (k0_off76_inb v50 v82 v114 v137 v267 k0_hw8 k0_h19 k0_h22)
theorem k0_off78_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), ∀ a, (k0_off78 v50 v82 v114 v267) a + S1x960x256.size a ≤ S5x960x1024.size a := fun v50 v82 v114 v137 v267 k0_hw8 k0_h19 k0_h22 => k0_hw8.1.2.2.2.2.2.2.2.2.2.2.2.2.2.2.2.2.2.2.2.2.2.2.2.2.2.2.1 k0_h19 k0_h22
theorem k0_off79_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), ∀ a, (k0_off79 v50 v82 v114 v137 v267) a + S1x960x256.size a ≤ S48x960x8192.size a := fun v50 v82 v114 v137 v267 k0_hw8 k0_h19 k0_h22 => k0_hw8.1.2.2.2.2.2.2.2.2.2.2.2.2.2.2.2.2.2.2.2.2.2.2.2.2.2.2.2.1 k0_h19 k0_h22
theorem k0_off79_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), (Rect.unit (s := S48x960x8192) (k0_off79 v50 v82 v114 v137 v267) S1x960x256.size (k0_off79_inb v50 v82 v114 v137 v267 k0_hw8 k0_h19 k0_h22)).WholeWords (EltTy.packing .fp8e5m2) := fun v50 v82 v114 v137 v267 k0_hw8 k0_h19 k0_h22 => k0_hw8.1.2.2.2.2.2.2.2.2.2.2.2.2.2.2.2.2.2.2.2.2.2.2.2.2.2.2.2.2.1 k0_h19 k0_h22 (k0_off79_inb v50 v82 v114 v137 v267 k0_hw8 k0_h19 k0_h22)
theorem k0_off78_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h22 : k0_cond22 v50 v82 v114 v267 = 1#1), (Rect.unit (s := S5x960x1024) (k0_off78 v50 v82 v114 v267) S1x960x256.size (k0_off78_inb v50 v82 v114 v137 v267 k0_hw8 k0_h19 k0_h22)).WholeWords (EltTy.packing .fp8e5m2) := fun v50 v82 v114 v137 v267 k0_hw8 k0_h19 k0_h22 => k0_hw8.1.2.2.2.2.2.2.2.2.2.2.2.2.2.2.2.2.2.2.2.2.2.2.2.2.2.2.2.2.2.1 k0_h19 k0_h22 (k0_off78_inb v50 v82 v114 v137 v267 k0_hw8 k0_h19 k0_h22)
theorem k0_mult35_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), 128 ∣ (k0_mult35 v50 v82 v114 v267).toNat := fun v50 v82 v114 v137 v267 k0_hw8 k0_h19 k0_h23 => k0_hw8.1.2.2.2.2.2.2.2.2.2.2.2.2.2.2.2.2.2.2.2.2.2.2.2.2.2.2.2.2.2.2.1 k0_h19 k0_h23
theorem k0_mult36_dvd : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), 128 ∣ (k0_mult36 v50 v82 v114 v267).toNat := fun v50 v82 v114 v137 v267 k0_hw8 k0_h19 k0_h23 => k0_hw8.1.2.2.2.2.2.2.2.2.2.2.2.2.2.2.2.2.2.2.2.2.2.2.2.2.2.2.2.2.2.2.2 k0_h19 k0_h23
theorem k0_off80_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), ∀ a, (k0_off80 v50 v82 v114 v267) a + S1x128x896.size a ≤ S5x1024x896.size a := fun v50 v82 v114 v137 v267 k0_hw8 k0_h19 k0_h23 => k0_hw8.2.1 k0_h19 k0_h23
theorem k0_off81_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), ∀ a, (k0_off81 v50 v82 v114 v137 v267) a + S1x128x896.size a ≤ S48x8192x896.size a := fun v50 v82 v114 v137 v267 k0_hw8 k0_h19 k0_h23 => k0_hw8.2.2.1 k0_h19 k0_h23
theorem k0_off81_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), (Rect.unit (s := S48x8192x896) (k0_off81 v50 v82 v114 v137 v267) S1x128x896.size (k0_off81_inb v50 v82 v114 v137 v267 k0_hw8 k0_h19 k0_h23)).WholeWords (EltTy.packing .fp8e4m3) := fun v50 v82 v114 v137 v267 k0_hw8 k0_h19 k0_h23 => k0_hw8.2.2.2.1 k0_h19 k0_h23 (k0_off81_inb v50 v82 v114 v137 v267 k0_hw8 k0_h19 k0_h23)
theorem k0_off80_wordsfp8e4m3 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), (Rect.unit (s := S5x1024x896) (k0_off80 v50 v82 v114 v267) S1x128x896.size (k0_off80_inb v50 v82 v114 v137 v267 k0_hw8 k0_h19 k0_h23)).WholeWords (EltTy.packing .fp8e4m3) := fun v50 v82 v114 v137 v267 k0_hw8 k0_h19 k0_h23 => k0_hw8.2.2.2.2.1 k0_h19 k0_h23 (k0_off80_inb v50 v82 v114 v137 v267 k0_hw8 k0_h19 k0_h23)
theorem k0_off82_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), ∀ a, (k0_off82 v50 v82 v114 v267) a + S1x960x128.size a ≤ S5x960x1024.size a := fun v50 v82 v114 v137 v267 k0_hw8 k0_h19 k0_h23 => k0_hw8.2.2.2.2.2.1 k0_h19 k0_h23
theorem k0_off83_inb : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), ∀ a, (k0_off83 v50 v82 v114 v137 v267) a + S1x960x128.size a ≤ S48x960x8192.size a := fun v50 v82 v114 v137 v267 k0_hw8 k0_h19 k0_h23 => k0_hw8.2.2.2.2.2.2.1 k0_h19 k0_h23
theorem k0_off83_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), (Rect.unit (s := S48x960x8192) (k0_off83 v50 v82 v114 v137 v267) S1x960x128.size (k0_off83_inb v50 v82 v114 v137 v267 k0_hw8 k0_h19 k0_h23)).WholeWords (EltTy.packing .fp8e5m2) := fun v50 v82 v114 v137 v267 k0_hw8 k0_h19 k0_h23 => k0_hw8.2.2.2.2.2.2.2.1 k0_h19 k0_h23 (k0_off83_inb v50 v82 v114 v137 v267 k0_hw8 k0_h19 k0_h23)
theorem k0_off82_wordsfp8e5m2 : ∀ (v50 : BitVec 32) (v82 : BitVec 32) (v114 : BitVec 32) (v137 : BitVec 32) (v267 : BitVec 32) (k0_hw8 : k0_chk8 v50 v82 v114 v137 v267), ∀ (k0_h19 : k0_cond19 v137 = 1#1), ∀ (k0_h23 : k0_cond23 v50 v82 v114 v267 = 1#1), (Rect.unit (s := S5x960x1024) (k0_off82 v50 v82 v114 v267) S1x960x128.size (k0_off82_inb v50 v82 v114 v137 v267 k0_hw8 k0_h19 k0_h23)).WholeWords (EltTy.packing .fp8e5m2) := fun v50 v82 v114 v137 v267 k0_hw8 k0_h19 k0_h23 => k0_hw8.2.2.2.2.2.2.2.2 k0_h19 k0_h23 (k0_off82_inb v50 v82 v114 v137 v267 k0_hw8 k0_h19 k0_h23)

def k0_off84 (v137 : BitVec 32) : Fin 1 → Nat :=
  let c47_i32_93 : BitVec 32 := 47#32
  let v141 : BitVec 32 := Scalar.minsi v137 c47_i32_93
  let v145 : Index := Scalar.indexCast v141
  ![v145.toNat]

def k0_chk7 (v50 : BitVec 32) (v82 : BitVec 32) (v114 : BitVec 32) (v137 : BitVec 32) : Prop :=
  (∀ (k0_h19 : k0_cond19 v137 = 1#1), ∀ a, (k0_off65 v137) a + S1.size a ≤ S48.size a) ∧
  (∀ (k0_h19 : k0_cond19 v137 = 1#1), 8 ∣ (k0_mult28 v50 v82 v114).toNat) ∧
  (∀ (k0_h19 : k0_cond19 v137 = 1#1), ∀ a, (k0_off66 v50 v82 v114 v137) a + S1x8x896.size a ≤ S48x64x896.size a) ∧
  (∀ (k0_h19 : k0_cond19 v137 = 1#1), ∀ a, (k0_off67 v50 v82 v114 v137) a + S1x8x960.size a ≤ S48x64x960.size a) ∧
  (∀ a, (k0_off84 v137) a + S1.size a ≤ S48.size a)
theorem k0_off65_inb : ∀ (v50 : BitVec 32) (v82 : BitVec 32) (v114 : BitVec 32) (v137 : BitVec 32) (k0_hw7 : k0_chk7 v50 v82 v114 v137), ∀ (k0_h19 : k0_cond19 v137 = 1#1), ∀ a, (k0_off65 v137) a + S1.size a ≤ S48.size a := fun v50 v82 v114 v137 k0_hw7 k0_h19 => k0_hw7.1 k0_h19
theorem k0_mult28_dvd : ∀ (v50 : BitVec 32) (v82 : BitVec 32) (v114 : BitVec 32) (v137 : BitVec 32) (k0_hw7 : k0_chk7 v50 v82 v114 v137), ∀ (k0_h19 : k0_cond19 v137 = 1#1), 8 ∣ (k0_mult28 v50 v82 v114).toNat := fun v50 v82 v114 v137 k0_hw7 k0_h19 => k0_hw7.2.1 k0_h19
theorem k0_off66_inb : ∀ (v50 : BitVec 32) (v82 : BitVec 32) (v114 : BitVec 32) (v137 : BitVec 32) (k0_hw7 : k0_chk7 v50 v82 v114 v137), ∀ (k0_h19 : k0_cond19 v137 = 1#1), ∀ a, (k0_off66 v50 v82 v114 v137) a + S1x8x896.size a ≤ S48x64x896.size a := fun v50 v82 v114 v137 k0_hw7 k0_h19 => k0_hw7.2.2.1 k0_h19
theorem k0_off67_inb : ∀ (v50 : BitVec 32) (v82 : BitVec 32) (v114 : BitVec 32) (v137 : BitVec 32) (k0_hw7 : k0_chk7 v50 v82 v114 v137), ∀ (k0_h19 : k0_cond19 v137 = 1#1), ∀ a, (k0_off67 v50 v82 v114 v137) a + S1x8x960.size a ≤ S48x64x960.size a := fun v50 v82 v114 v137 k0_hw7 k0_h19 => k0_hw7.2.2.2.1 k0_h19
theorem k0_off84_inb : ∀ (v50 : BitVec 32) (v82 : BitVec 32) (v114 : BitVec 32) (v137 : BitVec 32) (k0_hw7 : k0_chk7 v50 v82 v114 v137), ∀ a, (k0_off84 v137) a + S1.size a ≤ S48.size a := fun v50 v82 v114 v137 k0_hw7 => k0_hw7.2.2.2.2

@[reducible] def k0_t5_loop : Scf.Loop 32 :=
  let c0_i32_187 : BitVec 32 := 0#32
  let c48_i32_188 : BitVec 32 := 48#32
  let v267 : BitVec 32 := Scalar.addi c0_i32_187 c48_i32_188
  let c1_i32_189 : BitVec 32 := 1#32
  ⟨c0_i32_187, v267, c1_i32_189⟩
def k0_off85 (k0_t5 : Fin k0_t5_loop.trips) : Fin 1 → Nat :=
  let c47_i32_191 : BitVec 32 := 47#32
  let c0_i32_187 : BitVec 32 := 0#32
  let c1_i32_189 : BitVec 32 := 1#32
  let arg18 : BitVec 32 := Scf.iv c0_i32_187 c1_i32_189 k0_t5
  let v269 : BitVec 32 := Scalar.subi c47_i32_191 arg18
  let v271 : Index := Scalar.indexCast v269
  ![v271.toNat]
def k0_off86 (v169 : BitVec 32) : Fin 1 → Nat :=
  let c47_i32_108 : BitVec 32 := 47#32
  let v173 : BitVec 32 := Scalar.minsi v169 c47_i32_108
  let v266 : Index := Scalar.indexCast v173
  ![v266.toNat]
def k0_cond25 (v169 : BitVec 32) : BitVec 1 :=
  let c48_i32_107 : BitVec 32 := 48#32
  let v172 : BitVec 1 := Scalar.cmpi .slt v169 c48_i32_107
  let v174 : BitVec 32 := Scalar.extui v172
  let c0_i32_109 : BitVec 32 := 0#32
  let v175 : BitVec 1 := Scalar.cmpi .ne v174 c0_i32_109
  v175

def k0_mult37 (v50 : BitVec 32) (v82 : BitVec 32) (v114 : BitVec 32) (v146 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c8_i32_193 : BitVec 32 := 8#32
  let v289 : BitVec 32 := Scalar.muli v171 c8_i32_193
  v289
def k0_off87 (v50 : BitVec 32) (v82 : BitVec 32) (v114 : BitVec 32) (v146 : BitVec 32) (v169 : BitVec 32) : Fin 3 → Nat :=
  let c47_i32_108 : BitVec 32 := 47#32
  let v173 : BitVec 32 := Scalar.minsi v169 c47_i32_108
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c8_i32_193 : BitVec 32 := 8#32
  let v289 : BitVec 32 := Scalar.muli v171 c8_i32_193
  let v290 : BitVec 32 := v289
  let c0_i32_198 : BitVec 32 := 0#32
  ![v173.toNat, v290.toNat, 0]
def k0_off88 (v50 : BitVec 32) (v82 : BitVec 32) (v114 : BitVec 32) (v146 : BitVec 32) (v169 : BitVec 32) : Fin 3 → Nat :=
  let c47_i32_108 : BitVec 32 := 47#32
  let v173 : BitVec 32 := Scalar.minsi v169 c47_i32_108
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c8_i32_193 : BitVec 32 := 8#32
  let v289 : BitVec 32 := Scalar.muli v171 c8_i32_193
  let v290 : BitVec 32 := v289
  let c0_i32_203 : BitVec 32 := 0#32
  ![v173.toNat, v290.toNat, 0]
def k0_mult38 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  v325
def k0_cond26 (v50 : BitVec 32) (v82 : BitVec 32) (v114 : BitVec 32) (v146 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_205 : BitVec 32 := 8#32
  let v304 : BitVec 32 := Scalar.andi v288 c8_i32_205
  let c0_i32_206 : BitVec 32 := 0#32
  let v305 : BitVec 1 := Scalar.cmpi .ne v304 c0_i32_206
  let v306 : BitVec 32 := Scalar.extui v305
  let c0_i32_207 : BitVec 32 := 0#32
  let v307 : BitVec 1 := Scalar.cmpi .ne v306 c0_i32_207
  v307

def k0_mult39 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  v327
def k0_off89 (v50 : BitVec 32) (v82 : BitVec 32) (v114 : BitVec 32) (v146 : BitVec 32) (v267 : BitVec 32) : Fin 3 → Nat :=
  let c4_i32_221 : BitVec 32 := 4#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  let c0_i32_223 : BitVec 32 := 0#32
  ![4, v328.toNat, 0]
def k0_off90 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  let c0_i32_224 : BitVec 32 := 0#32
  ![v173.toNat, v326.toNat, 0]
def k0_off91 (v50 : BitVec 32) (v82 : BitVec 32) (v114 : BitVec 32) (v146 : BitVec 32) (v267 : BitVec 32) : Fin 3 → Nat :=
  let c4_i32_225 : BitVec 32 := 4#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_220 : BitVec 32 := 128#32
  let v327 : BitVec 32 := Scalar.muli v303 c128_i32_220
  let v328 : BitVec 32 := v327
  ![4, 0, v328.toNat]
def k0_off92 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c0_i32_204 : BitVec 32 := 0#32
  let v303 : BitVec 32 := Scalar.andi v288 c0_i32_204
  let c128_i32_219 : BitVec 32 := 128#32
  let v324 : BitVec 32 := Scalar.muli v303 c128_i32_219
  let v325 : BitVec 32 := Scalar.addi v323 v324
  let v326 : BitVec 32 := v325
  ![v173.toNat, 0, v326.toNat]
def k0_mult40 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  v325
def k0_cond27 (v50 : BitVec 32) (v82 : BitVec 32) (v114 : BitVec 32) (v146 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c4_i32_209 : BitVec 32 := 4#32
  let v309 : BitVec 32 := Scalar.andi v288 c4_i32_209
  let c0_i32_210 : BitVec 32 := 0#32
  let v310 : BitVec 1 := Scalar.cmpi .ne v309 c0_i32_210
  let v311 : BitVec 32 := Scalar.extui v310
  let c0_i32_211 : BitVec 32 := 0#32
  let v312 : BitVec 1 := Scalar.cmpi .ne v311 c0_i32_211
  v312

def k0_mult41 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  v327
def k0_off93 (v50 : BitVec 32) (v82 : BitVec 32) (v114 : BitVec 32) (v146 : BitVec 32) (v267 : BitVec 32) : Fin 3 → Nat :=
  let c4_i32_221 : BitVec 32 := 4#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  let c0_i32_223 : BitVec 32 := 0#32
  ![4, v328.toNat, 0]
def k0_off94 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  let c0_i32_224 : BitVec 32 := 0#32
  ![v173.toNat, v326.toNat, 0]
def k0_off95 (v50 : BitVec 32) (v82 : BitVec 32) (v114 : BitVec 32) (v146 : BitVec 32) (v267 : BitVec 32) : Fin 3 → Nat :=
  let c4_i32_225 : BitVec 32 := 4#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_220 : BitVec 32 := 128#32
  let v327 : BitVec 32 := Scalar.muli v308 c128_i32_220
  let v328 : BitVec 32 := v327
  ![4, 0, v328.toNat]
def k0_off96 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c8_i32_208 : BitVec 32 := 8#32
  let v308 : BitVec 32 := Scalar.andi v288 c8_i32_208
  let c128_i32_219 : BitVec 32 := 128#32
  let v324 : BitVec 32 := Scalar.muli v308 c128_i32_219
  let v325 : BitVec 32 := Scalar.addi v323 v324
  let v326 : BitVec 32 := v325
  ![v173.toNat, 0, v326.toNat]
def k0_mult42 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  v325
def k0_cond28 (v50 : BitVec 32) (v82 : BitVec 32) (v114 : BitVec 32) (v146 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c2_i32_212 : BitVec 32 := 2#32
  let v314 : BitVec 32 := Scalar.andi v288 c2_i32_212
  let c0_i32_213 : BitVec 32 := 0#32
  let v315 : BitVec 1 := Scalar.cmpi .ne v314 c0_i32_213
  let v316 : BitVec 32 := Scalar.extui v315
  let c0_i32_214 : BitVec 32 := 0#32
  let v317 : BitVec 1 := Scalar.cmpi .ne v316 c0_i32_214
  v317

def k0_mult43 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  v327
def k0_off97 (v50 : BitVec 32) (v82 : BitVec 32) (v114 : BitVec 32) (v146 : BitVec 32) (v267 : BitVec 32) : Fin 3 → Nat :=
  let c4_i32_221 : BitVec 32 := 4#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  let c0_i32_223 : BitVec 32 := 0#32
  ![4, v328.toNat, 0]
def k0_off98 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  let c0_i32_224 : BitVec 32 := 0#32
  ![v173.toNat, v326.toNat, 0]
def k0_off99 (v50 : BitVec 32) (v82 : BitVec 32) (v114 : BitVec 32) (v146 : BitVec 32) (v267 : BitVec 32) : Fin 3 → Nat :=
  let c4_i32_225 : BitVec 32 := 4#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_220 : BitVec 32 := 128#32
  let v327 : BitVec 32 := Scalar.muli v313 c128_i32_220
  let v328 : BitVec 32 := v327
  ![4, 0, v328.toNat]
def k0_off100 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c12_i32 : BitVec 32 := 12#32
  let v313 : BitVec 32 := Scalar.andi v288 c12_i32
  let c128_i32_219 : BitVec 32 := 128#32
  let v324 : BitVec 32 := Scalar.muli v313 c128_i32_219
  let v325 : BitVec 32 := Scalar.addi v323 v324
  let v326 : BitVec 32 := v325
  ![v173.toNat, 0, v326.toNat]
def k0_mult44 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  v325
def k0_cond29 (v50 : BitVec 32) (v82 : BitVec 32) (v114 : BitVec 32) (v146 : BitVec 32) (v267 : BitVec 32) : BitVec 1 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c1_i32_215 : BitVec 32 := 1#32
  let v319 : BitVec 32 := Scalar.andi v288 c1_i32_215
  let c0_i32_216 : BitVec 32 := 0#32
  let v320 : BitVec 1 := Scalar.cmpi .ne v319 c0_i32_216
  let v321 : BitVec 32 := Scalar.extui v320
  let c0_i32_217 : BitVec 32 := 0#32
  let v322 : BitVec 1 := Scalar.cmpi .ne v321 c0_i32_217
  v322

def k0_mult45 (v50 : BitVec 32) (v82 : BitVec 32) (v114 : BitVec 32) (v146 : BitVec 32) (v267 : BitVec 32) : BitVec 32 :=
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  v327
def k0_off101 (v50 : BitVec 32) (v82 : BitVec 32) (v114 : BitVec 32) (v146 : BitVec 32) (v267 : BitVec 32) : Fin 3 → Nat :=
  let c4_i32_221 : BitVec 32 := 4#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  let c0_i32_223 : BitVec 32 := 0#32
  ![4, v328.toNat, 0]
def k0_off102 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  let c0_i32_224 : BitVec 32 := 0#32
  ![v173.toNat, v326.toNat, 0]
def k0_off103 (v50 : BitVec 32) (v82 : BitVec 32) (v114 : BitVec 32) (v146 : BitVec 32) (v267 : BitVec 32) : Fin 3 → Nat :=
  let c4_i32_225 : BitVec 32 := 4#32
  let c0_i32_227 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_220 : BitVec 32 := 128#32
  let v327 : BitVec 32 := Scalar.muli v318 c128_i32_220
  let v328 : BitVec 32 := v327
  ![4, 0, v328.toNat]
def k0_off104 (v50 : BitVec 32) (v82 : BitVec 32) (v114 : BitVec 32) (v146 : BitVec 32) (v169 : BitVec 32) (v267 : BitVec 32) : Fin 3 → Nat :=
  let c47_i32_108 : BitVec 32 := 47#32
  let v173 : BitVec 32 := Scalar.minsi v169 c47_i32_108
  let c0_i32_228 : BitVec 32 := 0#32
  let c0_i32_50 : BitVec 32 := 0#32
  let c1_i32_51 : BitVec 32 := 1#32
  let v48 : BitVec 32 := Scalar.addi c0_i32_50 c1_i32_51
  let c1023_i32 : BitVec 32 := 1023#32
  let v51 : BitVec 32 := Scalar.addi v50 c1023_i32
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c1024_i32 : BitVec 32 := 1024#32
  let c0_i32_54 : BitVec 32 := 0#32
  let v58 : BitVec 1 := Scalar.cmpi .sgt c1024_i32 c0_i32_54
  let v59 : BitVec 32 := Scalar.extui v58
  let c0_i32_55 : BitVec 32 := 0#32
  let v60 : BitVec 1 := Scalar.cmpi .slt c1024_i32 c0_i32_55
  let v61 : BitVec 32 := Scalar.extui v60
  let v62 : BitVec 32 := Scalar.subi v59 v61
  let v63 : BitVec 1 := Scalar.cmpi .ne v57 v62
  let v64 : BitVec 32 := Scalar.remsi v51 c1024_i32
  let c0_i32_56 : BitVec 32 := 0#32
  let v65 : BitVec 1 := Scalar.cmpi .ne v64 c0_i32_56
  let v66 : BitVec 1 := Scalar.andi v63 v65
  let v52 : BitVec 32 := Scalar.divsi v51 c1024_i32
  let c1_i32_57 : BitVec 32 := 1#32
  let v67 : BitVec 32 := Scalar.subi v52 c1_i32_57
  let v68 : BitVec 32 := Scalar.select v66 v67 v52
  let v69 : BitVec 1 := Scalar.cmpi .sge v48 v68
  let c0_i32_61 : BitVec 32 := 0#32
  let c0_i32_59 : BitVec 32 := 0#32
  let c1_i32_60 : BitVec 32 := 1#32
  let v74 : BitVec 32 := Scalar.addi c0_i32_59 c1_i32_60
  let v75 : BitVec 32 := Scalar.select v69 c0_i32_61 v74
  let c1_i32_65 : BitVec 32 := 1#32
  let v80 : BitVec 32 := Scalar.addi v75 c1_i32_65
  let c1023_i32_66 : BitVec 32 := 1023#32
  let v83 : BitVec 32 := Scalar.addi v82 c1023_i32_66
  let c0_i32_68 : BitVec 32 := 0#32
  let v85 : BitVec 1 := Scalar.cmpi .sgt v83 c0_i32_68
  let v86 : BitVec 32 := Scalar.extui v85
  let c0_i32_69 : BitVec 32 := 0#32
  let v87 : BitVec 1 := Scalar.cmpi .slt v83 c0_i32_69
  let v88 : BitVec 32 := Scalar.extui v87
  let v89 : BitVec 32 := Scalar.subi v86 v88
  let c1024_i32_67 : BitVec 32 := 1024#32
  let c0_i32_70 : BitVec 32 := 0#32
  let v90 : BitVec 1 := Scalar.cmpi .sgt c1024_i32_67 c0_i32_70
  let v91 : BitVec 32 := Scalar.extui v90
  let c0_i32_71 : BitVec 32 := 0#32
  let v92 : BitVec 1 := Scalar.cmpi .slt c1024_i32_67 c0_i32_71
  let v93 : BitVec 32 := Scalar.extui v92
  let v94 : BitVec 32 := Scalar.subi v91 v93
  let v95 : BitVec 1 := Scalar.cmpi .ne v89 v94
  let v96 : BitVec 32 := Scalar.remsi v83 c1024_i32_67
  let c0_i32_72 : BitVec 32 := 0#32
  let v97 : BitVec 1 := Scalar.cmpi .ne v96 c0_i32_72
  let v98 : BitVec 1 := Scalar.andi v95 v97
  let v84 : BitVec 32 := Scalar.divsi v83 c1024_i32_67
  let c1_i32_73 : BitVec 32 := 1#32
  let v99 : BitVec 32 := Scalar.subi v84 c1_i32_73
  let v100 : BitVec 32 := Scalar.select v98 v99 v84
  let v101 : BitVec 1 := Scalar.cmpi .sge v80 v100
  let c0_i32_76 : BitVec 32 := 0#32
  let c1_i32_75 : BitVec 32 := 1#32
  let v106 : BitVec 32 := Scalar.addi v75 c1_i32_75
  let v107 : BitVec 32 := Scalar.select v101 c0_i32_76 v106
  let c1_i32_80 : BitVec 32 := 1#32
  let v112 : BitVec 32 := Scalar.addi v107 c1_i32_80
  let c1023_i32_81 : BitVec 32 := 1023#32
  let v115 : BitVec 32 := Scalar.addi v114 c1023_i32_81
  let c0_i32_83 : BitVec 32 := 0#32
  let v117 : BitVec 1 := Scalar.cmpi .sgt v115 c0_i32_83
  let v118 : BitVec 32 := Scalar.extui v117
  let c0_i32_84 : BitVec 32 := 0#32
  let v119 : BitVec 1 := Scalar.cmpi .slt v115 c0_i32_84
  let v120 : BitVec 32 := Scalar.extui v119
  let v121 : BitVec 32 := Scalar.subi v118 v120
  let c1024_i32_82 : BitVec 32 := 1024#32
  let c0_i32_85 : BitVec 32 := 0#32
  let v122 : BitVec 1 := Scalar.cmpi .sgt c1024_i32_82 c0_i32_85
  let v123 : BitVec 32 := Scalar.extui v122
  let c0_i32_86 : BitVec 32 := 0#32
  let v124 : BitVec 1 := Scalar.cmpi .slt c1024_i32_82 c0_i32_86
  let v125 : BitVec 32 := Scalar.extui v124
  let v126 : BitVec 32 := Scalar.subi v123 v125
  let v127 : BitVec 1 := Scalar.cmpi .ne v121 v126
  let v128 : BitVec 32 := Scalar.remsi v115 c1024_i32_82
  let c0_i32_87 : BitVec 32 := 0#32
  let v129 : BitVec 1 := Scalar.cmpi .ne v128 c0_i32_87
  let v130 : BitVec 1 := Scalar.andi v127 v129
  let v116 : BitVec 32 := Scalar.divsi v115 c1024_i32_82
  let c1_i32_88 : BitVec 32 := 1#32
  let v131 : BitVec 32 := Scalar.subi v116 c1_i32_88
  let v132 : BitVec 32 := Scalar.select v130 v131 v116
  let v133 : BitVec 1 := Scalar.cmpi .sge v112 v132
  let c0_i32_91 : BitVec 32 := 0#32
  let c1_i32_90 : BitVec 32 := 1#32
  let v138 : BitVec 32 := Scalar.addi v107 c1_i32_90
  let v139 : BitVec 32 := Scalar.select v133 c0_i32_91 v138
  let c1_i32_95 : BitVec 32 := 1#32
  let v144 : BitVec 32 := Scalar.addi v139 c1_i32_95
  let c1023_i32_96 : BitVec 32 := 1023#32
  let v147 : BitVec 32 := Scalar.addi v146 c1023_i32_96
  let c0_i32_98 : BitVec 32 := 0#32
  let v149 : BitVec 1 := Scalar.cmpi .sgt v147 c0_i32_98
  let v150 : BitVec 32 := Scalar.extui v149
  let c0_i32_99 : BitVec 32 := 0#32
  let v151 : BitVec 1 := Scalar.cmpi .slt v147 c0_i32_99
  let v152 : BitVec 32 := Scalar.extui v151
  let v153 : BitVec 32 := Scalar.subi v150 v152
  let c1024_i32_97 : BitVec 32 := 1024#32
  let c0_i32_100 : BitVec 32 := 0#32
  let v154 : BitVec 1 := Scalar.cmpi .sgt c1024_i32_97 c0_i32_100
  let v155 : BitVec 32 := Scalar.extui v154
  let c0_i32_101 : BitVec 32 := 0#32
  let v156 : BitVec 1 := Scalar.cmpi .slt c1024_i32_97 c0_i32_101
  let v157 : BitVec 32 := Scalar.extui v156
  let v158 : BitVec 32 := Scalar.subi v155 v157
  let v159 : BitVec 1 := Scalar.cmpi .ne v153 v158
  let v160 : BitVec 32 := Scalar.remsi v147 c1024_i32_97
  let c0_i32_102 : BitVec 32 := 0#32
  let v161 : BitVec 1 := Scalar.cmpi .ne v160 c0_i32_102
  let v162 : BitVec 1 := Scalar.andi v159 v161
  let v148 : BitVec 32 := Scalar.divsi v147 c1024_i32_97
  let c1_i32_103 : BitVec 32 := 1#32
  let v163 : BitVec 32 := Scalar.subi v148 c1_i32_103
  let v164 : BitVec 32 := Scalar.select v162 v163 v148
  let v165 : BitVec 1 := Scalar.cmpi .sge v144 v164
  let c0_i32_106 : BitVec 32 := 0#32
  let c1_i32_105 : BitVec 32 := 1#32
  let v170 : BitVec 32 := Scalar.addi v139 c1_i32_105
  let v171 : BitVec 32 := Scalar.select v165 c0_i32_106 v170
  let c1024_i32_218 : BitVec 32 := 1024#32
  let v323 : BitVec 32 := Scalar.muli v171 c1024_i32_218
  let c1024_i32_185 : BitVec 32 := 1024#32
  let v268 : BitVec 32 := Scalar.muli v171 c1024_i32_185
  let v269 : BitVec 32 := Scalar.subi v267 v268
  let c127_i32 : BitVec 32 := 127#32
  let v270 : BitVec 32 := Scalar.addi v269 c127_i32
  let c0_i32_186 : BitVec 32 := 0#32
  let v272 : BitVec 1 := Scalar.cmpi .sgt v270 c0_i32_186
  let v273 : BitVec 32 := Scalar.extui v272
  let c0_i32_187 : BitVec 32 := 0#32
  let v274 : BitVec 1 := Scalar.cmpi .slt v270 c0_i32_187
  let v275 : BitVec 32 := Scalar.extui v274
  let v276 : BitVec 32 := Scalar.subi v273 v275
  let c128_i32 : BitVec 32 := 128#32
  let c0_i32_188 : BitVec 32 := 0#32
  let v277 : BitVec 1 := Scalar.cmpi .sgt c128_i32 c0_i32_188
  let v278 : BitVec 32 := Scalar.extui v277
  let c0_i32_189 : BitVec 32 := 0#32
  let v279 : BitVec 1 := Scalar.cmpi .slt c128_i32 c0_i32_189
  let v280 : BitVec 32 := Scalar.extui v279
  let v281 : BitVec 32 := Scalar.subi v278 v280
  let v282 : BitVec 1 := Scalar.cmpi .ne v276 v281
  let v283 : BitVec 32 := Scalar.remsi v270 c128_i32
  let c0_i32_190 : BitVec 32 := 0#32
  let v284 : BitVec 1 := Scalar.cmpi .ne v283 c0_i32_190
  let v285 : BitVec 1 := Scalar.andi v282 v284
  let v271 : BitVec 32 := Scalar.divsi v270 c128_i32
  let c1_i32_191 : BitVec 32 := 1#32
  let v286 : BitVec 32 := Scalar.subi v271 c1_i32_191
  let v287 : BitVec 32 := Scalar.select v285 v286 v271
  let c8_i32_192 : BitVec 32 := 8#32
  let v288 : BitVec 32 := Scalar.minsi v287 c8_i32_192
  let c14_i32 : BitVec 32 := 14#32
  let v318 : BitVec 32 := Scalar.andi v288 c14_i32
  let c128_i32_219 : BitVec 32 := 128#32
  let v324 : BitVec 32 := Scalar.muli v318 c128_i32_219
  let v325 : BitVec 32 := Scalar.addi v323 v324
  let v326 : BitVec 32 := v325
  ![v173.toNat, 0, v326.toNat]

def k0_chk10_0 (v50 : BitVec 32) (v82 : BitVec 32) (v114 : BitVec 32) (v146 : BitVec 32) (v169 : BitVec 32) (v267 : BitVec 32) : Prop :=
  (∀ (k0_h25 : k0_cond25 v169 = 1#1), ∀ (k0_h26 : k0_cond26 v50 v82 v114 v146 v267 = 1#1), 128 ∣ (k0_mult38 v50 v82 v114 v146 v267).toNat) ∧
  (∀ (k0_h25 : k0_cond25 v169 = 1#1), ∀ (k0_h26 : k0_cond26 v50 v82 v114 v146 v267 = 1#1), 128 ∣ (k0_mult39 v50 v82 v114 v146 v267).toNat) ∧
  (∀ (k0_h25 : k0_cond25 v169 = 1#1), ∀ (k0_h26 : k0_cond26 v50 v82 v114 v146 v267 = 1#1), ∀ a, (k0_off89 v50 v82 v114 v146 v267) a + S1x1024x896.size a ≤ S5x1024x896.size a) ∧
  (∀ (k0_h25 : k0_cond25 v169 = 1#1), ∀ (k0_h26 : k0_cond26 v50 v82 v114 v146 v267 = 1#1), ∀ a, (k0_off90 v50 v82 v114 v146 v169 v267) a + S1x1024x896.size a ≤ S48x8192x896.size a) ∧
  (∀ (k0_h25 : k0_cond25 v169 = 1#1), ∀ (k0_h26 : k0_cond26 v50 v82 v114 v146 v267 = 1#1), ∀ (hinb : ∀ a, (k0_off90 v50 v82 v114 v146 v169 v267) a + S1x1024x896.size a ≤ S48x8192x896.size a), (Rect.unit (s := S48x8192x896) (k0_off90 v50 v82 v114 v146 v169 v267) S1x1024x896.size hinb).WholeWords (EltTy.packing .fp8e4m3)) ∧
  (∀ (k0_h25 : k0_cond25 v169 = 1#1), ∀ (k0_h26 : k0_cond26 v50 v82 v114 v146 v267 = 1#1), ∀ (hinb : ∀ a, (k0_off89 v50 v82 v114 v146 v267) a + S1x1024x896.size a ≤ S5x1024x896.size a), (Rect.unit (s := S5x1024x896) (k0_off89 v50 v82 v114 v146 v267) S1x1024x896.size hinb).WholeWords (EltTy.packing .fp8e4m3)) ∧
  (∀ (k0_h25 : k0_cond25 v169 = 1#1), ∀ (k0_h26 : k0_cond26 v50 v82 v114 v146 v267 = 1#1), ∀ a, (k0_off91 v50 v82 v114 v146 v267) a + S1x960x1024.size a ≤ S5x960x1024.size a) ∧
  (∀ (k0_h25 : k0_cond25 v169 = 1#1), ∀ (k0_h26 : k0_cond26 v50 v82 v114 v146 v267 = 1#1), ∀ a, (k0_off92 v50 v82 v114 v146 v169 v267) a + S1x960x1024.size a ≤ S48x960x8192.size a) ∧
  (∀ (k0_h25 : k0_cond25 v169 = 1#1), ∀ (k0_h26 : k0_cond26 v50 v82 v114 v146 v267 = 1#1), ∀ (hinb : ∀ a, (k0_off92 v50 v82 v114 v146 v169 v267) a + S1x960x1024.size a ≤ S48x960x8192.size a), (Rect.unit (s := S48x960x8192) (k0_off92 v50 v82 v114 v146 v169 v267) S1x960x1024.size hinb).WholeWords (EltTy.packing .fp8e5m2)) ∧
  (∀ (k0_h25 : k0_cond25 v169 = 1#1), ∀ (k0_h26 : k0_cond26 v50 v82 v114 v146 v267 = 1#1), ∀ (hinb : ∀ a, (k0_off91 v50 v82 v114 v146 v267) a + S1x960x1024.size a ≤ S5x960x1024.size a), (Rect.unit (s := S5x960x1024) (k0_off91 v50 v82 v114 v146 v267) S1x960x1024.size hinb).WholeWords (EltTy.packing .fp8e5m2)) ∧
  (∀ (k0_h25 : k0_cond25 v169 = 1#1), ∀ (k0_h27 : k0_cond27 v50 v82 v114 v146 v267 = 1#1), 128 ∣ (k0_mult40 v50 v82 v114 v146 v267).toNat) ∧
  (∀ (k0_h25 : k0_cond25 v169 = 1#1), ∀ (k0_h27 : k0_cond27 v50 v82 v114 v146 v267 = 1#1), 128 ∣ (k0_mult41 v50 v82 v114 v146 v267).toNat) ∧
  (∀ (k0_h25 : k0_cond25 v169 = 1#1), ∀ (k0_h27 : k0_cond27 v50 v82 v114 v146 v267 = 1#1), ∀ a, (k0_off93 v50 v82 v114 v146 v267) a + S1x512x896.size a ≤ S5x1024x896.size a) ∧
  (∀ (k0_h25 : k0_cond25 v169 = 1#1), ∀ (k0_h27 : k0_cond27 v50 v82 v114 v146 v267 = 1#1), ∀ a, (k0_off94 v50 v82 v114 v146 v169 v267) a + S1x512x896.size a ≤ S48x8192x896.size a) ∧
  (∀ (k0_h25 : k0_cond25 v169 = 1#1), ∀ (k0_h27 : k0_cond27 v50 v82 v114 v146 v267 = 1#1), ∀ (hinb : ∀ a, (k0_off94 v50 v82 v114 v146 v169 v267) a + S1x512x896.size a ≤ S48x8192x896.size a), (Rect.unit (s := S48x8192x896) (k0_off94 v50 v82 v114 v146 v169 v267) S1x512x896.size hinb).WholeWords (EltTy.packing .fp8e4m3)) ∧
  (∀ (k0_h25 : k0_cond25 v169 = 1#1), ∀ (k0_h27 : k0_cond27 v50 v82 v114 v146 v267 = 1#1), ∀ (hinb : ∀ a, (k0_off93 v50 v82 v114 v146 v267) a + S1x512x896.size a ≤ S5x1024x896.size a), (Rect.unit (s := S5x1024x896) (k0_off93 v50 v82 v114 v146 v267) S1x512x896.size hinb).WholeWords (EltTy.packing .fp8e4m3)) ∧
  (∀ (k0_h25 : k0_cond25 v169 = 1#1), ∀ (k0_h27 : k0_cond27 v50 v82 v114 v146 v267 = 1#1), ∀ a, (k0_off95 v50 v82 v114 v146 v267) a + S1x960x512.size a ≤ S5x960x1024.size a) ∧
  (∀ (k0_h25 : k0_cond25 v169 = 1#1), ∀ (k0_h27 : k0_cond27 v50 v82 v114 v146 v267 = 1#1), ∀ a, (k0_off96 v50 v82 v114 v146 v169 v267) a + S1x960x512.size a ≤ S48x960x8192.size a) ∧
  (∀ (k0_h25 : k0_cond25 v169 = 1#1), ∀ (k0_h27 : k0_cond27 v50 v82 v114 v146 v267 = 1#1), ∀ (hinb : ∀ a, (k0_off96 v50 v82 v114 v146 v169 v267) a + S1x960x512.size a ≤ S48x960x8192.size a), (Rect.unit (s := S48x960x8192) (k0_off96 v50 v82 v114 v146 v169 v267) S1x960x512.size hinb).WholeWords (EltTy.packing .fp8e5m2)) ∧
  (∀ (k0_h25 : k0_cond25 v169 = 1#1), ∀ (k0_h27 : k0_cond27 v50 v82 v114 v146 v267 = 1#1), ∀ (hinb : ∀ a, (k0_off95 v50 v82 v114 v146 v267) a + S1x960x512.size a ≤ S5x960x1024.size a), (Rect.unit (s := S5x960x1024) (k0_off95 v50 v82 v114 v146 v267) S1x960x512.size hinb).WholeWords (EltTy.packing .fp8e5m2)) ∧
  (∀ (k0_h25 : k0_cond25 v169 = 1#1), ∀ (k0_h28 : k0_cond28 v50 v82 v114 v146 v267 = 1#1), 128 ∣ (k0_mult42 v50 v82 v114 v146 v267).toNat) ∧
  (∀ (k0_h25 : k0_cond25 v169 = 1#1), ∀ (k0_h28 : k0_cond28 v50 v82 v114 v146 v267 = 1#1), 128 ∣ (k0_mult43 v50 v82 v114 v146 v267).toNat) ∧
  (∀ (k0_h25 : k0_cond25 v169 = 1#1), ∀ (k0_h28 : k0_cond28 v50 v82 v114 v146 v267 = 1#1), ∀ a, (k0_off97 v50 v82 v114 v146 v267) a + S1x256x896.size a ≤ S5x1024x896.size a) ∧
  (∀ (k0_h25 : k0_cond25 v169 = 1#1), ∀ (k0_h28 : k0_cond28 v50 v82 v114 v146 v267 = 1#1), ∀ a, (k0_off98 v50 v82 v114 v146 v169 v267) a + S1x256x896.size a ≤ S48x8192x896.size a) ∧
  (∀ (k0_h25 : k0_cond25 v169 = 1#1), ∀ (k0_h28 : k0_cond28 v50 v82 v114 v146 v267 = 1#1), ∀ (hinb : ∀ a, (k0_off98 v50 v82 v114 v146 v169 v267) a + S1x256x896.size a ≤ S48x8192x896.size a), (Rect.unit (s := S48x8192x896) (k0_off98 v50 v82 v114 v146 v169 v267) S1x256x896.size hinb).WholeWords (EltTy.packing .fp8e4m3)) ∧
  (∀ (k0_h25 : k0_cond25 v169 = 1#1), ∀ (k0_h28 : k0_cond28 v50 v82 v114 v146 v267 = 1#1), ∀ (hinb : ∀ a, (k0_off97 v50 v82 v114 v146 v267) a + S1x256x896.size a ≤ S5x1024x896.size a), (Rect.unit (s := S5x1024x896) (k0_off97 v50 v82 v114 v146 v267) S1x256x896.size hinb).WholeWords (EltTy.packing .fp8e4m3)) ∧
  (∀ (k0_h25 : k0_cond25 v169 = 1#1), ∀ (k0_h28 : k0_cond28 v50 v82 v114 v146 v267 = 1#1), ∀ a, (k0_off99 v50 v82 v114 v146 v267) a + S1x960x256.size a ≤ S5x960x1024.size a) ∧
  (∀ (k0_h25 : k0_cond25 v169 = 1#1), ∀ (k0_h28 : k0_cond28 v50 v82 v114 v146 v267 = 1#1), ∀ a, (k0_off100 v50 v82 v114 v146 v169 v267) a + S1x960x256.size a ≤ S48x960x8192.size a) ∧
  (∀ (k0_h25 : k0_cond25 v169 = 1#1), ∀ (k0_h28 : k0_cond28 v50 v82 v114 v146 v267 = 1#1), ∀ (hinb : ∀ a, (k0_off100 v50 v82 v114 v146 v169 v267) a + S1x960x256.size a ≤ S48x960x8192.size a), (Rect.unit (s := S48x960x8192) (k0_off100 v50 v82 v114 v146 v169 v267) S1x960x256.size hinb).WholeWords (EltTy.packing .fp8e5m2)) ∧
  (∀ (k0_h25 : k0_cond25 v169 = 1#1), ∀ (k0_h28 : k0_cond28 v50 v82 v114 v146 v267 = 1#1), ∀ (hinb : ∀ a, (k0_off99 v50 v82 v114 v146 v267) a + S1x960x256.size a ≤ S5x960x1024.size a), (Rect.unit (s := S5x960x1024) (k0_off99 v50 v82 v114 v146 v267) S1x960x256.size hinb).WholeWords (EltTy.packing .fp8e5m2)) ∧
  (∀ (k0_h25 : k0_cond25 v169 = 1#1), ∀ (k0_h29 : k0_cond29 v50 v82 v114 v146 v267 = 1#1), 128 ∣ (k0_mult44 v50 v82 v114 v146 v267).toNat) ∧
  (∀ (k0_h25 : k0_cond25 v169 = 1#1), ∀ (k0_h29 : k0_cond29 v50 v82 v114 v146 v267 = 1#1), 128 ∣ (k0_mult45 v50 v82 v114 v146 v267).toNat)
def k0_chk10_1 (v50 : BitVec 32) (v82 : BitVec 32) (v114 : BitVec 32) (v146 : BitVec 32) (v169 : BitVec 32) (v267 : BitVec 32) : Prop :=
  (∀ (k0_h25 : k0_cond25 v169 = 1#1), ∀ (k0_h29 : k0_cond29 v50 v82 v114 v146 v267 = 1#1), ∀ a, (k0_off101 v50 v82 v114 v146 v267) a + S1x128x896.size a ≤ S5x1024x896.size a) ∧
  (∀ (k0_h25 : k0_cond25 v169 = 1#1), ∀ (k0_h29 : k0_cond29 v50 v82 v114 v146 v267 = 1#1), ∀ a, (k0_off102 v50 v82 v114 v146 v169 v267) a + S1x128x896.size a ≤ S48x8192x896.size a) ∧
  (∀ (k0_h25 : k0_cond25 v169 = 1#1), ∀ (k0_h29 : k0_cond29 v50 v82 v114 v146 v267 = 1#1), ∀ (hinb : ∀ a, (k0_off102 v50 v82 v114 v146 v169 v267) a + S1x128x896.size a ≤ S48x8192x896.size a), (Rect.unit (s := S48x8192x896) (k0_off102 v50 v82 v114 v146 v169 v267) S1x128x896.size hinb).WholeWords (EltTy.packing .fp8e4m3)) ∧
  (∀ (k0_h25 : k0_cond25 v169 = 1#1), ∀ (k0_h29 : k0_cond29 v50 v82 v114 v146 v267 = 1#1), ∀ (hinb : ∀ a, (k0_off101 v50 v82 v114 v146 v267) a + S1x128x896.size a ≤ S5x1024x896.size a), (Rect.unit (s := S5x1024x896) (k0_off101 v50 v82 v114 v146 v267) S1x128x896.size hinb).WholeWords (EltTy.packing .fp8e4m3)) ∧
  (∀ (k0_h25 : k0_cond25 v169 = 1#1), ∀ (k0_h29 : k0_cond29 v50 v82 v114 v146 v267 = 1#1), ∀ a, (k0_off103 v50 v82 v114 v146 v267) a + S1x960x128.size a ≤ S5x960x1024.size a) ∧
  (∀ (k0_h25 : k0_cond25 v169 = 1#1), ∀ (k0_h29 : k0_cond29 v50 v82 v114 v146 v267 = 1#1), ∀ a, (k0_off104 v50 v82 v114 v146 v169 v267) a + S1x960x128.size a ≤ S48x960x8192.size a) ∧
  (∀ (k0_h25 : k0_cond25 v169 = 1#1), ∀ (k0_h29 : k0_cond29 v50 v82 v114 v146 v267 = 1#1), ∀ (hinb : ∀ a, (k0_off104 v50 v82 v114 v146 v169 v267) a + S1x960x128.size a ≤ S48x960x8192.size a), (Rect.unit (s := S48x960x8192) (k0_off104 v50 v82 v114 v146 v169 v267) S1x960x128.size hinb).WholeWords (EltTy.packing .fp8e5m2)) ∧
  (∀ (k0_h25 : k0_cond25 v169 = 1#1), ∀ (k0_h29 : k0_cond29 v50 v82 v114 v146 v267 = 1#1), ∀ (hinb : ∀ a, (k0_off103 v50 v82 v114 v146 v267) a + S1x960x128.size a ≤ S5x960x1024.size a), (Rect.unit (s := S5x960x1024) (k0_off103 v50 v82 v114 v146 v267) S1x960x128.size hinb).WholeWords (EltTy.packing .fp8e5m2))
def k0_chk10 (v50 : BitVec 32) (v82 : BitVec 32) (v114 : BitVec 32) (v146 : BitVec 32) (v169 : BitVec 32) (v267 : BitVec 32) : Prop :=
  k0_chk10_0 v50 v82 v114 v146 v169 v267 ∧
  k0_chk10_1 v50 v82 v114 v146 v169 v267
theorem k0_mult38_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), 128 ∣ (k0_mult38 v50 v82 v114 v146 v267).toNat := fun v50 v82 v114 v146 v169 v267 k0_hw10 k0_h25 k0_h26 => k0_hw10.1.1 k0_h25 k0_h26
theorem k0_mult39_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), 128 ∣ (k0_mult39 v50 v82 v114 v146 v267).toNat := fun v50 v82 v114 v146 v169 v267 k0_hw10 k0_h25 k0_h26 => k0_hw10.1.2.1 k0_h25 k0_h26
theorem k0_off89_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), ∀ a, (k0_off89 v50 v82 v114 v146 v267) a + S1x1024x896.size a ≤ S5x1024x896.size a := fun v50 v82 v114 v146 v169 v267 k0_hw10 k0_h25 k0_h26 => k0_hw10.1.2.2.1 k0_h25 k0_h26
theorem k0_off90_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), ∀ a, (k0_off90 v50 v82 v114 v146 v169 v267) a + S1x1024x896.size a ≤ S48x8192x896.size a := fun v50 v82 v114 v146 v169 v267 k0_hw10 k0_h25 k0_h26 => k0_hw10.1.2.2.2.1 k0_h25 k0_h26
theorem k0_off90_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), (Rect.unit (s := S48x8192x896) (k0_off90 v50 v82 v114 v146 v169 v267) S1x1024x896.size (k0_off90_inb v50 v82 v114 v146 v169 v267 k0_hw10 k0_h25 k0_h26)).WholeWords (EltTy.packing .fp8e4m3) := fun v50 v82 v114 v146 v169 v267 k0_hw10 k0_h25 k0_h26 => k0_hw10.1.2.2.2.2.1 k0_h25 k0_h26 (k0_off90_inb v50 v82 v114 v146 v169 v267 k0_hw10 k0_h25 k0_h26)
theorem k0_off89_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), (Rect.unit (s := S5x1024x896) (k0_off89 v50 v82 v114 v146 v267) S1x1024x896.size (k0_off89_inb v50 v82 v114 v146 v169 v267 k0_hw10 k0_h25 k0_h26)).WholeWords (EltTy.packing .fp8e4m3) := fun v50 v82 v114 v146 v169 v267 k0_hw10 k0_h25 k0_h26 => k0_hw10.1.2.2.2.2.2.1 k0_h25 k0_h26 (k0_off89_inb v50 v82 v114 v146 v169 v267 k0_hw10 k0_h25 k0_h26)
theorem k0_off91_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), ∀ a, (k0_off91 v50 v82 v114 v146 v267) a + S1x960x1024.size a ≤ S5x960x1024.size a := fun v50 v82 v114 v146 v169 v267 k0_hw10 k0_h25 k0_h26 => k0_hw10.1.2.2.2.2.2.2.1 k0_h25 k0_h26
theorem k0_off92_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), ∀ a, (k0_off92 v50 v82 v114 v146 v169 v267) a + S1x960x1024.size a ≤ S48x960x8192.size a := fun v50 v82 v114 v146 v169 v267 k0_hw10 k0_h25 k0_h26 => k0_hw10.1.2.2.2.2.2.2.2.1 k0_h25 k0_h26
theorem k0_off92_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), (Rect.unit (s := S48x960x8192) (k0_off92 v50 v82 v114 v146 v169 v267) S1x960x1024.size (k0_off92_inb v50 v82 v114 v146 v169 v267 k0_hw10 k0_h25 k0_h26)).WholeWords (EltTy.packing .fp8e5m2) := fun v50 v82 v114 v146 v169 v267 k0_hw10 k0_h25 k0_h26 => k0_hw10.1.2.2.2.2.2.2.2.2.1 k0_h25 k0_h26 (k0_off92_inb v50 v82 v114 v146 v169 v267 k0_hw10 k0_h25 k0_h26)
theorem k0_off91_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h26 : k0_cond26 v50 v82 v114 v146 v267 = 1#1), (Rect.unit (s := S5x960x1024) (k0_off91 v50 v82 v114 v146 v267) S1x960x1024.size (k0_off91_inb v50 v82 v114 v146 v169 v267 k0_hw10 k0_h25 k0_h26)).WholeWords (EltTy.packing .fp8e5m2) := fun v50 v82 v114 v146 v169 v267 k0_hw10 k0_h25 k0_h26 => k0_hw10.1.2.2.2.2.2.2.2.2.2.1 k0_h25 k0_h26 (k0_off91_inb v50 v82 v114 v146 v169 v267 k0_hw10 k0_h25 k0_h26)
theorem k0_mult40_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), 128 ∣ (k0_mult40 v50 v82 v114 v146 v267).toNat := fun v50 v82 v114 v146 v169 v267 k0_hw10 k0_h25 k0_h27 => k0_hw10.1.2.2.2.2.2.2.2.2.2.2.1 k0_h25 k0_h27
theorem k0_mult41_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), 128 ∣ (k0_mult41 v50 v82 v114 v146 v267).toNat := fun v50 v82 v114 v146 v169 v267 k0_hw10 k0_h25 k0_h27 => k0_hw10.1.2.2.2.2.2.2.2.2.2.2.2.1 k0_h25 k0_h27
theorem k0_off93_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), ∀ a, (k0_off93 v50 v82 v114 v146 v267) a + S1x512x896.size a ≤ S5x1024x896.size a := fun v50 v82 v114 v146 v169 v267 k0_hw10 k0_h25 k0_h27 => k0_hw10.1.2.2.2.2.2.2.2.2.2.2.2.2.1 k0_h25 k0_h27
theorem k0_off94_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), ∀ a, (k0_off94 v50 v82 v114 v146 v169 v267) a + S1x512x896.size a ≤ S48x8192x896.size a := fun v50 v82 v114 v146 v169 v267 k0_hw10 k0_h25 k0_h27 => k0_hw10.1.2.2.2.2.2.2.2.2.2.2.2.2.2.1 k0_h25 k0_h27
theorem k0_off94_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), (Rect.unit (s := S48x8192x896) (k0_off94 v50 v82 v114 v146 v169 v267) S1x512x896.size (k0_off94_inb v50 v82 v114 v146 v169 v267 k0_hw10 k0_h25 k0_h27)).WholeWords (EltTy.packing .fp8e4m3) := fun v50 v82 v114 v146 v169 v267 k0_hw10 k0_h25 k0_h27 => k0_hw10.1.2.2.2.2.2.2.2.2.2.2.2.2.2.2.1 k0_h25 k0_h27 (k0_off94_inb v50 v82 v114 v146 v169 v267 k0_hw10 k0_h25 k0_h27)
theorem k0_off93_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), (Rect.unit (s := S5x1024x896) (k0_off93 v50 v82 v114 v146 v267) S1x512x896.size (k0_off93_inb v50 v82 v114 v146 v169 v267 k0_hw10 k0_h25 k0_h27)).WholeWords (EltTy.packing .fp8e4m3) := fun v50 v82 v114 v146 v169 v267 k0_hw10 k0_h25 k0_h27 => k0_hw10.1.2.2.2.2.2.2.2.2.2.2.2.2.2.2.2.1 k0_h25 k0_h27 (k0_off93_inb v50 v82 v114 v146 v169 v267 k0_hw10 k0_h25 k0_h27)
theorem k0_off95_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), ∀ a, (k0_off95 v50 v82 v114 v146 v267) a + S1x960x512.size a ≤ S5x960x1024.size a := fun v50 v82 v114 v146 v169 v267 k0_hw10 k0_h25 k0_h27 => k0_hw10.1.2.2.2.2.2.2.2.2.2.2.2.2.2.2.2.2.1 k0_h25 k0_h27
theorem k0_off96_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), ∀ a, (k0_off96 v50 v82 v114 v146 v169 v267) a + S1x960x512.size a ≤ S48x960x8192.size a := fun v50 v82 v114 v146 v169 v267 k0_hw10 k0_h25 k0_h27 => k0_hw10.1.2.2.2.2.2.2.2.2.2.2.2.2.2.2.2.2.2.1 k0_h25 k0_h27
theorem k0_off96_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), (Rect.unit (s := S48x960x8192) (k0_off96 v50 v82 v114 v146 v169 v267) S1x960x512.size (k0_off96_inb v50 v82 v114 v146 v169 v267 k0_hw10 k0_h25 k0_h27)).WholeWords (EltTy.packing .fp8e5m2) := fun v50 v82 v114 v146 v169 v267 k0_hw10 k0_h25 k0_h27 => k0_hw10.1.2.2.2.2.2.2.2.2.2.2.2.2.2.2.2.2.2.2.1 k0_h25 k0_h27 (k0_off96_inb v50 v82 v114 v146 v169 v267 k0_hw10 k0_h25 k0_h27)
theorem k0_off95_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h27 : k0_cond27 v50 v82 v114 v146 v267 = 1#1), (Rect.unit (s := S5x960x1024) (k0_off95 v50 v82 v114 v146 v267) S1x960x512.size (k0_off95_inb v50 v82 v114 v146 v169 v267 k0_hw10 k0_h25 k0_h27)).WholeWords (EltTy.packing .fp8e5m2) := fun v50 v82 v114 v146 v169 v267 k0_hw10 k0_h25 k0_h27 => k0_hw10.1.2.2.2.2.2.2.2.2.2.2.2.2.2.2.2.2.2.2.2.1 k0_h25 k0_h27 (k0_off95_inb v50 v82 v114 v146 v169 v267 k0_hw10 k0_h25 k0_h27)
theorem k0_mult42_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), 128 ∣ (k0_mult42 v50 v82 v114 v146 v267).toNat := fun v50 v82 v114 v146 v169 v267 k0_hw10 k0_h25 k0_h28 => k0_hw10.1.2.2.2.2.2.2.2.2.2.2.2.2.2.2.2.2.2.2.2.2.1 k0_h25 k0_h28
theorem k0_mult43_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), 128 ∣ (k0_mult43 v50 v82 v114 v146 v267).toNat := fun v50 v82 v114 v146 v169 v267 k0_hw10 k0_h25 k0_h28 => k0_hw10.1.2.2.2.2.2.2.2.2.2.2.2.2.2.2.2.2.2.2.2.2.2.1 k0_h25 k0_h28
theorem k0_off97_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), ∀ a, (k0_off97 v50 v82 v114 v146 v267) a + S1x256x896.size a ≤ S5x1024x896.size a := fun v50 v82 v114 v146 v169 v267 k0_hw10 k0_h25 k0_h28 => k0_hw10.1.2.2.2.2.2.2.2.2.2.2.2.2.2.2.2.2.2.2.2.2.2.2.1 k0_h25 k0_h28
theorem k0_off98_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), ∀ a, (k0_off98 v50 v82 v114 v146 v169 v267) a + S1x256x896.size a ≤ S48x8192x896.size a := fun v50 v82 v114 v146 v169 v267 k0_hw10 k0_h25 k0_h28 => k0_hw10.1.2.2.2.2.2.2.2.2.2.2.2.2.2.2.2.2.2.2.2.2.2.2.2.1 k0_h25 k0_h28
theorem k0_off98_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), (Rect.unit (s := S48x8192x896) (k0_off98 v50 v82 v114 v146 v169 v267) S1x256x896.size (k0_off98_inb v50 v82 v114 v146 v169 v267 k0_hw10 k0_h25 k0_h28)).WholeWords (EltTy.packing .fp8e4m3) := fun v50 v82 v114 v146 v169 v267 k0_hw10 k0_h25 k0_h28 => k0_hw10.1.2.2.2.2.2.2.2.2.2.2.2.2.2.2.2.2.2.2.2.2.2.2.2.2.1 k0_h25 k0_h28 (k0_off98_inb v50 v82 v114 v146 v169 v267 k0_hw10 k0_h25 k0_h28)
theorem k0_off97_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), (Rect.unit (s := S5x1024x896) (k0_off97 v50 v82 v114 v146 v267) S1x256x896.size (k0_off97_inb v50 v82 v114 v146 v169 v267 k0_hw10 k0_h25 k0_h28)).WholeWords (EltTy.packing .fp8e4m3) := fun v50 v82 v114 v146 v169 v267 k0_hw10 k0_h25 k0_h28 => k0_hw10.1.2.2.2.2.2.2.2.2.2.2.2.2.2.2.2.2.2.2.2.2.2.2.2.2.2.1 k0_h25 k0_h28 (k0_off97_inb v50 v82 v114 v146 v169 v267 k0_hw10 k0_h25 k0_h28)
theorem k0_off99_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), ∀ a, (k0_off99 v50 v82 v114 v146 v267) a + S1x960x256.size a ≤ S5x960x1024.size a := fun v50 v82 v114 v146 v169 v267 k0_hw10 k0_h25 k0_h28 => k0_hw10.1.2.2.2.2.2.2.2.2.2.2.2.2.2.2.2.2.2.2.2.2.2.2.2.2.2.2.1 k0_h25 k0_h28
theorem k0_off100_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), ∀ a, (k0_off100 v50 v82 v114 v146 v169 v267) a + S1x960x256.size a ≤ S48x960x8192.size a := fun v50 v82 v114 v146 v169 v267 k0_hw10 k0_h25 k0_h28 => k0_hw10.1.2.2.2.2.2.2.2.2.2.2.2.2.2.2.2.2.2.2.2.2.2.2.2.2.2.2.2.1 k0_h25 k0_h28
theorem k0_off100_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), (Rect.unit (s := S48x960x8192) (k0_off100 v50 v82 v114 v146 v169 v267) S1x960x256.size (k0_off100_inb v50 v82 v114 v146 v169 v267 k0_hw10 k0_h25 k0_h28)).WholeWords (EltTy.packing .fp8e5m2) := fun v50 v82 v114 v146 v169 v267 k0_hw10 k0_h25 k0_h28 => k0_hw10.1.2.2.2.2.2.2.2.2.2.2.2.2.2.2.2.2.2.2.2.2.2.2.2.2.2.2.2.2.1 k0_h25 k0_h28 (k0_off100_inb v50 v82 v114 v146 v169 v267 k0_hw10 k0_h25 k0_h28)
theorem k0_off99_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h28 : k0_cond28 v50 v82 v114 v146 v267 = 1#1), (Rect.unit (s := S5x960x1024) (k0_off99 v50 v82 v114 v146 v267) S1x960x256.size (k0_off99_inb v50 v82 v114 v146 v169 v267 k0_hw10 k0_h25 k0_h28)).WholeWords (EltTy.packing .fp8e5m2) := fun v50 v82 v114 v146 v169 v267 k0_hw10 k0_h25 k0_h28 => k0_hw10.1.2.2.2.2.2.2.2.2.2.2.2.2.2.2.2.2.2.2.2.2.2.2.2.2.2.2.2.2.2.1 k0_h25 k0_h28 (k0_off99_inb v50 v82 v114 v146 v169 v267 k0_hw10 k0_h25 k0_h28)
theorem k0_mult44_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), 128 ∣ (k0_mult44 v50 v82 v114 v146 v267).toNat := fun v50 v82 v114 v146 v169 v267 k0_hw10 k0_h25 k0_h29 => k0_hw10.1.2.2.2.2.2.2.2.2.2.2.2.2.2.2.2.2.2.2.2.2.2.2.2.2.2.2.2.2.2.2.1 k0_h25 k0_h29
theorem k0_mult45_dvd : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), 128 ∣ (k0_mult45 v50 v82 v114 v146 v267).toNat := fun v50 v82 v114 v146 v169 v267 k0_hw10 k0_h25 k0_h29 => k0_hw10.1.2.2.2.2.2.2.2.2.2.2.2.2.2.2.2.2.2.2.2.2.2.2.2.2.2.2.2.2.2.2.2 k0_h25 k0_h29
theorem k0_off101_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), ∀ a, (k0_off101 v50 v82 v114 v146 v267) a + S1x128x896.size a ≤ S5x1024x896.size a := fun v50 v82 v114 v146 v169 v267 k0_hw10 k0_h25 k0_h29 => k0_hw10.2.1 k0_h25 k0_h29
theorem k0_off102_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), ∀ a, (k0_off102 v50 v82 v114 v146 v169 v267) a + S1x128x896.size a ≤ S48x8192x896.size a := fun v50 v82 v114 v146 v169 v267 k0_hw10 k0_h25 k0_h29 => k0_hw10.2.2.1 k0_h25 k0_h29
theorem k0_off102_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), (Rect.unit (s := S48x8192x896) (k0_off102 v50 v82 v114 v146 v169 v267) S1x128x896.size (k0_off102_inb v50 v82 v114 v146 v169 v267 k0_hw10 k0_h25 k0_h29)).WholeWords (EltTy.packing .fp8e4m3) := fun v50 v82 v114 v146 v169 v267 k0_hw10 k0_h25 k0_h29 => k0_hw10.2.2.2.1 k0_h25 k0_h29 (k0_off102_inb v50 v82 v114 v146 v169 v267 k0_hw10 k0_h25 k0_h29)
theorem k0_off101_wordsfp8e4m3 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), (Rect.unit (s := S5x1024x896) (k0_off101 v50 v82 v114 v146 v267) S1x128x896.size (k0_off101_inb v50 v82 v114 v146 v169 v267 k0_hw10 k0_h25 k0_h29)).WholeWords (EltTy.packing .fp8e4m3) := fun v50 v82 v114 v146 v169 v267 k0_hw10 k0_h25 k0_h29 => k0_hw10.2.2.2.2.1 k0_h25 k0_h29 (k0_off101_inb v50 v82 v114 v146 v169 v267 k0_hw10 k0_h25 k0_h29)
theorem k0_off103_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), ∀ a, (k0_off103 v50 v82 v114 v146 v267) a + S1x960x128.size a ≤ S5x960x1024.size a := fun v50 v82 v114 v146 v169 v267 k0_hw10 k0_h25 k0_h29 => k0_hw10.2.2.2.2.2.1 k0_h25 k0_h29
theorem k0_off104_inb : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), ∀ a, (k0_off104 v50 v82 v114 v146 v169 v267) a + S1x960x128.size a ≤ S48x960x8192.size a := fun v50 v82 v114 v146 v169 v267 k0_hw10 k0_h25 k0_h29 => k0_hw10.2.2.2.2.2.2.1 k0_h25 k0_h29
theorem k0_off104_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), (Rect.unit (s := S48x960x8192) (k0_off104 v50 v82 v114 v146 v169 v267) S1x960x128.size (k0_off104_inb v50 v82 v114 v146 v169 v267 k0_hw10 k0_h25 k0_h29)).WholeWords (EltTy.packing .fp8e5m2) := fun v50 v82 v114 v146 v169 v267 k0_hw10 k0_h25 k0_h29 => k0_hw10.2.2.2.2.2.2.2.1 k0_h25 k0_h29 (k0_off104_inb v50 v82 v114 v146 v169 v267 k0_hw10 k0_h25 k0_h29)
theorem k0_off103_wordsfp8e5m2 : ∀ (v50 : BitVec 32) (v82 : BitVec 32) (v114 : BitVec 32) (v146 : BitVec 32) (v169 : BitVec 32) (v267 : BitVec 32) (k0_hw10 : k0_chk10 v50 v82 v114 v146 v169 v267), ∀ (k0_h25 : k0_cond25 v169 = 1#1), ∀ (k0_h29 : k0_cond29 v50 v82 v114 v146 v267 = 1#1), (Rect.unit (s := S5x960x1024) (k0_off103 v50 v82 v114 v146 v267) S1x960x128.size (k0_off103_inb v50 v82 v114 v146 v169 v267 k0_hw10 k0_h25 k0_h29)).WholeWords (EltTy.packing .fp8e5m2) := fun v50 v82 v114 v146 v169 v267 k0_hw10 k0_h25 k0_h29 => k0_hw10.2.2.2.2.2.2.2.2 k0_h25 k0_h29 (k0_off103_inb v50 v82 v114 v146 v169 v267 k0_hw10 k0_h25 k0_h29)

def k0_off105 (v169 : BitVec 32) : Fin 1 → Nat :=
  let c47_i32_108 : BitVec 32 := 47#32
  let v173 : BitVec 32 := Scalar.minsi v169 c47_i32_108
  let v177 : Index := Scalar.indexCast v173
  ![v177.toNat]

def k0_chk9 (v50 : BitVec 32) (v82 : BitVec 32) (v114 : BitVec 32) (v146 : BitVec 32) (v169 : BitVec 32) : Prop :=
  (∀ (k0_h25 : k0_cond25 v169 = 1#1), ∀ a, (k0_off86 v169) a + S1.size a ≤ S48.size a) ∧
  (∀ (k0_h25 : k0_cond25 v169 = 1#1), 8 ∣ (k0_mult37 v50 v82 v114 v146).toNat) ∧
  (∀ (k0_h25 : k0_cond25 v169 = 1#1), ∀ a, (k0_off87 v50 v82 v114 v146 v169) a + S1x8x896.size a ≤ S48x64x896.size a) ∧
  (∀ (k0_h25 : k0_cond25 v169 = 1#1), ∀ a, (k0_off88 v50 v82 v114 v146 v169) a + S1x8x960.size a ≤ S48x64x960.size a) ∧
  (∀ a, (k0_off105 v169) a + S1.size a ≤ S48.size a)
theorem k0_off86_inb : ∀ (v50 : BitVec 32) (v82 : BitVec 32) (v114 : BitVec 32) (v146 : BitVec 32) (v169 : BitVec 32) (k0_hw9 : k0_chk9 v50 v82 v114 v146 v169), ∀ (k0_h25 : k0_cond25 v169 = 1#1), ∀ a, (k0_off86 v169) a + S1.size a ≤ S48.size a := fun v50 v82 v114 v146 v169 k0_hw9 k0_h25 => k0_hw9.1 k0_h25
theorem k0_mult37_dvd : ∀ (v50 : BitVec 32) (v82 : BitVec 32) (v114 : BitVec 32) (v146 : BitVec 32) (v169 : BitVec 32) (k0_hw9 : k0_chk9 v50 v82 v114 v146 v169), ∀ (k0_h25 : k0_cond25 v169 = 1#1), 8 ∣ (k0_mult37 v50 v82 v114 v146).toNat := fun v50 v82 v114 v146 v169 k0_hw9 k0_h25 => k0_hw9.2.1 k0_h25
theorem k0_off87_inb : ∀ (v50 : BitVec 32) (v82 : BitVec 32) (v114 : BitVec 32) (v146 : BitVec 32) (v169 : BitVec 32) (k0_hw9 : k0_chk9 v50 v82 v114 v146 v169), ∀ (k0_h25 : k0_cond25 v169 = 1#1), ∀ a, (k0_off87 v50 v82 v114 v146 v169) a + S1x8x896.size a ≤ S48x64x896.size a := fun v50 v82 v114 v146 v169 k0_hw9 k0_h25 => k0_hw9.2.2.1 k0_h25
theorem k0_off88_inb : ∀ (v50 : BitVec 32) (v82 : BitVec 32) (v114 : BitVec 32) (v146 : BitVec 32) (v169 : BitVec 32) (k0_hw9 : k0_chk9 v50 v82 v114 v146 v169), ∀ (k0_h25 : k0_cond25 v169 = 1#1), ∀ a, (k0_off88 v50 v82 v114 v146 v169) a + S1x8x960.size a ≤ S48x64x960.size a := fun v50 v82 v114 v146 v169 k0_hw9 k0_h25 => k0_hw9.2.2.2.1 k0_h25
theorem k0_off105_inb : ∀ (v50 : BitVec 32) (v82 : BitVec 32) (v114 : BitVec 32) (v146 : BitVec 32) (v169 : BitVec 32) (k0_hw9 : k0_chk9 v50 v82 v114 v146 v169), ∀ a, (k0_off105 v169) a + S1.size a ≤ S48.size a := fun v50 v82 v114 v146 v169 k0_hw9 => k0_hw9.2.2.2.2

@[reducible] def k0_t6_loop : Scf.Loop 32 :=
  let c0_i32_187 : BitVec 32 := 0#32
  let c48_i32_188 : BitVec 32 := 48#32
  let v267 : BitVec 32 := Scalar.addi c0_i32_187 c48_i32_188
  let c1_i32_189 : BitVec 32 := 1#32
  ⟨c0_i32_187, v267, c1_i32_189⟩
def k0_off106 (k0_t6 : Fin k0_t6_loop.trips) : Fin 1 → Nat :=
  let c47_i32_191 : BitVec 32 := 47#32
  let c0_i32_187 : BitVec 32 := 0#32
  let c1_i32_189 : BitVec 32 := 1#32
  let arg18 : BitVec 32 := Scf.iv c0_i32_187 c1_i32_189 k0_t6
  let v269 : BitVec 32 := Scalar.subi c47_i32_191 arg18
  let v271 : Index := Scalar.indexCast v269
  ![v271.toNat]
@[reducible] def k0_t7_loop : Scf.Loop 32 :=
  let c0_i32_123 : BitVec 32 := 0#32
  let c48_i32_124 : BitVec 32 := 48#32
  let v204 : BitVec 32 := Scalar.addi c0_i32_123 c48_i32_124
  let c1_i32_125 : BitVec 32 := 1#32
  ⟨c0_i32_123, v204, c1_i32_125⟩
def k0_off107 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let v276 : Index := Scalar.indexCast arg18
  ![v276.toNat]
def k0_cond31 (k0_t7 : Fin k0_t7_loop.trips) : BitVec 1 :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c48_i32_191 : BitVec 32 := 48#32
  let v279 : BitVec 1 := Scalar.cmpi .slt v278 c48_i32_191
  let c10_i32_192 : BitVec 32 := 10#32
  let v280 : BitVec 1 := Scalar.cmpi .sge v278 c10_i32_192
  let v281 : BitVec 1 := Scalar.andi v279 v280
  let v282 : BitVec 32 := Scalar.extui v281
  let c0_i32_193 : BitVec 32 := 0#32
  let v283 : BitVec 1 := Scalar.cmpi .ne v282 c0_i32_193
  v283

def k0_off108 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c10_i32_228 : BitVec 32 := 10#32
  let v346 : BitVec 32 := Scalar.subi v278 c10_i32_228
  let c10_i32_229 : BitVec 32 := 10#32
  let c0_i32_230 : BitVec 32 := 0#32
  let v347 : BitVec 1 := Scalar.cmpi .eq c10_i32_229 c0_i32_230
  let c1_i32_231 : BitVec 32 := 1#32
  let v348 : BitVec 32 := Scalar.select v347 c1_i32_231 c10_i32_229
  let v349 : BitVec 32 := Scalar.remsi v346 v348
  let c0_i32_233 : BitVec 32 := 0#32
  let v351 : BitVec 1 := Scalar.cmpi .slt v349 c0_i32_233
  let c0_i32_234 : BitVec 32 := 0#32
  let v352 : BitVec 1 := Scalar.cmpi .slt v348 c0_i32_234
  let v353 : BitVec 1 := Scalar.xori v351 v352
  let c0_i32_232 : BitVec 32 := 0#32
  let v350 : BitVec 1 := Scalar.cmpi .ne v349 c0_i32_232
  let v354 : BitVec 1 := Scalar.andi v353 v350
  let v355 : BitVec 32 := Scalar.addi v349 v348
  let v356 : BitVec 32 := Scalar.select v354 v355 v349
  ![v356.toNat]
def k0_off109 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c10_i32_228 : BitVec 32 := 10#32
  let v346 : BitVec 32 := Scalar.subi v278 c10_i32_228
  let c0_i32_235 : BitVec 32 := 0#32
  let c0_i32_236 : BitVec 32 := 0#32
  ![v346.toNat, 0, 0]
def k0_off110 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c10_i32_228 : BitVec 32 := 10#32
  let v346 : BitVec 32 := Scalar.subi v278 c10_i32_228
  let c10_i32_229 : BitVec 32 := 10#32
  let c0_i32_230 : BitVec 32 := 0#32
  let v347 : BitVec 1 := Scalar.cmpi .eq c10_i32_229 c0_i32_230
  let c1_i32_231 : BitVec 32 := 1#32
  let v348 : BitVec 32 := Scalar.select v347 c1_i32_231 c10_i32_229
  let v349 : BitVec 32 := Scalar.remsi v346 v348
  let c0_i32_233 : BitVec 32 := 0#32
  let v351 : BitVec 1 := Scalar.cmpi .slt v349 c0_i32_233
  let c0_i32_234 : BitVec 32 := 0#32
  let v352 : BitVec 1 := Scalar.cmpi .slt v348 c0_i32_234
  let v353 : BitVec 1 := Scalar.xori v351 v352
  let c0_i32_232 : BitVec 32 := 0#32
  let v350 : BitVec 1 := Scalar.cmpi .ne v349 c0_i32_232
  let v354 : BitVec 1 := Scalar.andi v353 v350
  let v355 : BitVec 32 := Scalar.addi v349 v348
  let v356 : BitVec 32 := Scalar.select v354 v355 v349
  let c0_i32_237 : BitVec 32 := 0#32
  let c0_i32_238 : BitVec 32 := 0#32
  ![v356.toNat, 0, 0]
def k0_cond32 (k0_t7 : Fin k0_t7_loop.trips) : BitVec 1 :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c48_i32_194 : BitVec 32 := 48#32
  let v284 : BitVec 1 := Scalar.cmpi .slt v278 c48_i32_194
  let v285 : BitVec 32 := Scalar.extui v284
  let c0_i32_195 : BitVec 32 := 0#32
  let v286 : BitVec 1 := Scalar.cmpi .ne v285 c0_i32_195
  v286

def k0_off111 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c10_i32_228 : BitVec 32 := 10#32
  let c0_i32_229 : BitVec 32 := 0#32
  let v346 : BitVec 1 := Scalar.cmpi .eq c10_i32_228 c0_i32_229
  let c1_i32_230 : BitVec 32 := 1#32
  let v347 : BitVec 32 := Scalar.select v346 c1_i32_230 c10_i32_228
  let v348 : BitVec 32 := Scalar.remsi v278 v347
  let c0_i32_232 : BitVec 32 := 0#32
  let v350 : BitVec 1 := Scalar.cmpi .slt v348 c0_i32_232
  let c0_i32_233 : BitVec 32 := 0#32
  let v351 : BitVec 1 := Scalar.cmpi .slt v347 c0_i32_233
  let v352 : BitVec 1 := Scalar.xori v350 v351
  let c0_i32_231 : BitVec 32 := 0#32
  let v349 : BitVec 1 := Scalar.cmpi .ne v348 c0_i32_231
  let v353 : BitVec 1 := Scalar.andi v352 v349
  let v354 : BitVec 32 := Scalar.addi v348 v347
  let v355 : BitVec 32 := Scalar.select v353 v354 v348
  ![v355.toNat]
def k0_off112 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c10_i32_228 : BitVec 32 := 10#32
  let c0_i32_229 : BitVec 32 := 0#32
  let v346 : BitVec 1 := Scalar.cmpi .eq c10_i32_228 c0_i32_229
  let c1_i32_230 : BitVec 32 := 1#32
  let v347 : BitVec 32 := Scalar.select v346 c1_i32_230 c10_i32_228
  let v348 : BitVec 32 := Scalar.remsi v278 v347
  let c0_i32_232 : BitVec 32 := 0#32
  let v350 : BitVec 1 := Scalar.cmpi .slt v348 c0_i32_232
  let c0_i32_233 : BitVec 32 := 0#32
  let v351 : BitVec 1 := Scalar.cmpi .slt v347 c0_i32_233
  let v352 : BitVec 1 := Scalar.xori v350 v351
  let c0_i32_231 : BitVec 32 := 0#32
  let v349 : BitVec 1 := Scalar.cmpi .ne v348 c0_i32_231
  let v353 : BitVec 1 := Scalar.andi v352 v349
  let v354 : BitVec 32 := Scalar.addi v348 v347
  let v355 : BitVec 32 := Scalar.select v353 v354 v348
  let c0_i32_234 : BitVec 32 := 0#32
  let c0_i32_235 : BitVec 32 := 0#32
  ![v355.toNat, 0, 0]
def k0_off113 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c7_i32_190 : BitVec 32 := 7#32
  let v278 : BitVec 32 := Scalar.addi arg18 c7_i32_190
  let c0_i32_236 : BitVec 32 := 0#32
  let c0_i32_237 : BitVec 32 := 0#32
  ![v278.toNat, 0, 0]
def k0_off114 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let c10_i32_196 : BitVec 32 := 10#32
  let c0_i32_197 : BitVec 32 := 0#32
  let v287 : BitVec 1 := Scalar.cmpi .eq c10_i32_196 c0_i32_197
  let c1_i32_198 : BitVec 32 := 1#32
  let v288 : BitVec 32 := Scalar.select v287 c1_i32_198 c10_i32_196
  let v289 : BitVec 32 := Scalar.remsi arg18 v288
  let c0_i32_200 : BitVec 32 := 0#32
  let v291 : BitVec 1 := Scalar.cmpi .slt v289 c0_i32_200
  let c0_i32_201 : BitVec 32 := 0#32
  let v292 : BitVec 1 := Scalar.cmpi .slt v288 c0_i32_201
  let v293 : BitVec 1 := Scalar.xori v291 v292
  let c0_i32_199 : BitVec 32 := 0#32
  let v290 : BitVec 1 := Scalar.cmpi .ne v289 c0_i32_199
  let v294 : BitVec 1 := Scalar.andi v293 v290
  let v295 : BitVec 32 := Scalar.addi v289 v288
  let v296 : BitVec 32 := Scalar.select v294 v295 v289
  ![v296.toNat]
def k0_off115 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32_196 : BitVec 32 := 10#32
  let c0_i32_197 : BitVec 32 := 0#32
  let v287 : BitVec 1 := Scalar.cmpi .eq c10_i32_196 c0_i32_197
  let c1_i32_198 : BitVec 32 := 1#32
  let v288 : BitVec 32 := Scalar.select v287 c1_i32_198 c10_i32_196
  let v289 : BitVec 32 := Scalar.remsi arg18 v288
  let c0_i32_200 : BitVec 32 := 0#32
  let v291 : BitVec 1 := Scalar.cmpi .slt v289 c0_i32_200
  let c0_i32_201 : BitVec 32 := 0#32
  let v292 : BitVec 1 := Scalar.cmpi .slt v288 c0_i32_201
  let v293 : BitVec 1 := Scalar.xori v291 v292
  let c0_i32_199 : BitVec 32 := 0#32
  let v290 : BitVec 1 := Scalar.cmpi .ne v289 c0_i32_199
  let v294 : BitVec 1 := Scalar.andi v293 v290
  let v295 : BitVec 32 := Scalar.addi v289 v288
  let v296 : BitVec 32 := Scalar.select v294 v295 v289
  let c0_i32_202 : BitVec 32 := 0#32
  let c0_i32_203 : BitVec 32 := 0#32
  ![v296.toNat, 0, 0]
def k0_off116 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c0_i32_204 : BitVec 32 := 0#32
  let c0_i32_205 : BitVec 32 := 0#32
  ![arg18.toNat, 0, 0]
@[reducible] def k0_t8_loop (v304 : BitVec 32) : Scf.Loop 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_216 : BitVec 32 := 1#32
  ⟨c0_i32_214, v327, c1_i32_216⟩

def k0_off117 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let v346 : Index := Scalar.indexCast arg18
  ![v346.toNat]
def k0_mult46 (v304 : BitVec 32) (k0_t8 : Fin (k0_t8_loop v304).trips) : BitVec 32 :=
  let c0_i32_214 : BitVec 32 := 0#32
  let c1_i32_216 : BitVec 32 := 1#32
  let arg22 : BitVec 32 := Scf.iv c0_i32_214 c1_i32_216 k0_t8
  let c8_i32_246 : BitVec 32 := 8#32
  let v392 : BitVec 32 := Scalar.muli arg22 c8_i32_246
  v392
def k0_off118 (arg23 : BitVec 32) : Fin 1 → Nat :=
  ![arg23.toNat]

def k0_off119 (arg23 : BitVec 32) : Fin 3 → Nat :=
  let c0_i32_247 : BitVec 32 := 0#32
  let c0_i32_248 : BitVec 32 := 0#32
  ![arg23.toNat, 0, 0]
def k0_off120 (k0_t7 : Fin k0_t7_loop.trips) (v304 : BitVec 32) (k0_t8 : Fin (k0_t8_loop v304).trips) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1_i32_216 : BitVec 32 := 1#32
  let arg22 : BitVec 32 := Scf.iv c0_i32_214 c1_i32_216 k0_t8
  let c8_i32_246 : BitVec 32 := 8#32
  let v392 : BitVec 32 := Scalar.muli arg22 c8_i32_246
  let v393 : BitVec 32 := v392
  let c0_i32_249 : BitVec 32 := 0#32
  ![arg18.toNat, v393.toNat, 0]
def k0_off121 (arg23 : BitVec 32) : Fin 3 → Nat :=
  let c0_i32_250 : BitVec 32 := 0#32
  let c0_i32_251 : BitVec 32 := 0#32
  ![arg23.toNat, 0, 0]
def k0_off122 (k0_t7 : Fin k0_t7_loop.trips) (v304 : BitVec 32) (k0_t8 : Fin (k0_t8_loop v304).trips) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1_i32_216 : BitVec 32 := 1#32
  let arg22 : BitVec 32 := Scf.iv c0_i32_214 c1_i32_216 k0_t8
  let c8_i32_246 : BitVec 32 := 8#32
  let v392 : BitVec 32 := Scalar.muli arg22 c8_i32_246
  let v393 : BitVec 32 := v392
  let c0_i32_252 : BitVec 32 := 0#32
  ![arg18.toNat, v393.toNat, 0]
def k0_mult47 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_332 : BitVec 32 := 128#32
  let v535 : BitVec 32 := Scalar.muli v406 c128_i32_332
  let v536 : BitVec 32 := Scalar.addi v534 v535
  v536
def k0_cond33 (v304 : BitVec 32) (k0_t8 : Fin (k0_t8_loop v304).trips) (v370 : BitVec 32) : BitVec 1 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_254 : BitVec 32 := 8#32
  let v407 : BitVec 32 := Scalar.andi v391 c8_i32_254
  let c0_i32_255 : BitVec 32 := 0#32
  let v408 : BitVec 1 := Scalar.cmpi .ne v407 c0_i32_255
  let v409 : BitVec 32 := Scalar.extui v408
  let c0_i32_256 : BitVec 32 := 0#32
  let v410 : BitVec 1 := Scalar.cmpi .ne v409 c0_i32_256
  v410

def k0_mult48 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_333 : BitVec 32 := 128#32
  let v538 : BitVec 32 := Scalar.muli v406 c128_i32_333
  v538
def k0_off123 (arg23 : BitVec 32) : Fin 1 → Nat :=
  ![arg23.toNat]
def k0_off124 (v304 : BitVec 32) (k0_t8 : Fin (k0_t8_loop v304).trips) (arg23 : BitVec 32) (v370 : BitVec 32) : Fin 3 → Nat :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_333 : BitVec 32 := 128#32
  let v538 : BitVec 32 := Scalar.muli v406 c128_i32_333
  let v539 : BitVec 32 := v538
  let c0_i32_334 : BitVec 32 := 0#32
  ![arg23.toNat, v539.toNat, 0]
def k0_off125 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_332 : BitVec 32 := 128#32
  let v535 : BitVec 32 := Scalar.muli v406 c128_i32_332
  let v536 : BitVec 32 := Scalar.addi v534 v535
  let v537 : BitVec 32 := v536
  let c0_i32_335 : BitVec 32 := 0#32
  ![arg18.toNat, v537.toNat, 0]
def k0_off126 (v304 : BitVec 32) (k0_t8 : Fin (k0_t8_loop v304).trips) (arg23 : BitVec 32) (v370 : BitVec 32) : Fin 3 → Nat :=
  let c0_i32_336 : BitVec 32 := 0#32
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_333 : BitVec 32 := 128#32
  let v538 : BitVec 32 := Scalar.muli v406 c128_i32_333
  let v539 : BitVec 32 := v538
  ![arg23.toNat, 0, v539.toNat]
def k0_off127 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_332 : BitVec 32 := 128#32
  let v535 : BitVec 32 := Scalar.muli v406 c128_i32_332
  let v536 : BitVec 32 := Scalar.addi v534 v535
  let v537 : BitVec 32 := v536
  ![arg18.toNat, 0, v537.toNat]
def k0_mult49 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_332 : BitVec 32 := 128#32
  let v535 : BitVec 32 := Scalar.muli v411 c128_i32_332
  let v536 : BitVec 32 := Scalar.addi v534 v535
  v536
def k0_cond34 (v304 : BitVec 32) (k0_t8 : Fin (k0_t8_loop v304).trips) (v370 : BitVec 32) : BitVec 1 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c4_i32_258 : BitVec 32 := 4#32
  let v412 : BitVec 32 := Scalar.andi v391 c4_i32_258
  let c0_i32_259 : BitVec 32 := 0#32
  let v413 : BitVec 1 := Scalar.cmpi .ne v412 c0_i32_259
  let v414 : BitVec 32 := Scalar.extui v413
  let c0_i32_260 : BitVec 32 := 0#32
  let v415 : BitVec 1 := Scalar.cmpi .ne v414 c0_i32_260
  v415

def k0_mult50 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_333 : BitVec 32 := 128#32
  let v538 : BitVec 32 := Scalar.muli v411 c128_i32_333
  v538
def k0_off128 (arg23 : BitVec 32) : Fin 1 → Nat :=
  ![arg23.toNat]
def k0_off129 (v304 : BitVec 32) (k0_t8 : Fin (k0_t8_loop v304).trips) (arg23 : BitVec 32) (v370 : BitVec 32) : Fin 3 → Nat :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_333 : BitVec 32 := 128#32
  let v538 : BitVec 32 := Scalar.muli v411 c128_i32_333
  let v539 : BitVec 32 := v538
  let c0_i32_334 : BitVec 32 := 0#32
  ![arg23.toNat, v539.toNat, 0]
def k0_off130 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_332 : BitVec 32 := 128#32
  let v535 : BitVec 32 := Scalar.muli v411 c128_i32_332
  let v536 : BitVec 32 := Scalar.addi v534 v535
  let v537 : BitVec 32 := v536
  let c0_i32_335 : BitVec 32 := 0#32
  ![arg18.toNat, v537.toNat, 0]
def k0_off131 (v304 : BitVec 32) (k0_t8 : Fin (k0_t8_loop v304).trips) (arg23 : BitVec 32) (v370 : BitVec 32) : Fin 3 → Nat :=
  let c0_i32_336 : BitVec 32 := 0#32
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_333 : BitVec 32 := 128#32
  let v538 : BitVec 32 := Scalar.muli v411 c128_i32_333
  let v539 : BitVec 32 := v538
  ![arg23.toNat, 0, v539.toNat]
def k0_off132 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_332 : BitVec 32 := 128#32
  let v535 : BitVec 32 := Scalar.muli v411 c128_i32_332
  let v536 : BitVec 32 := Scalar.addi v534 v535
  let v537 : BitVec 32 := v536
  ![arg18.toNat, 0, v537.toNat]
def k0_mult51 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_332 : BitVec 32 := 128#32
  let v535 : BitVec 32 := Scalar.muli v416 c128_i32_332
  let v536 : BitVec 32 := Scalar.addi v534 v535
  v536
def k0_cond35 (v304 : BitVec 32) (k0_t8 : Fin (k0_t8_loop v304).trips) (v370 : BitVec 32) : BitVec 1 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c2_i32_261 : BitVec 32 := 2#32
  let v417 : BitVec 32 := Scalar.andi v391 c2_i32_261
  let c0_i32_262 : BitVec 32 := 0#32
  let v418 : BitVec 1 := Scalar.cmpi .ne v417 c0_i32_262
  let v419 : BitVec 32 := Scalar.extui v418
  let c0_i32_263 : BitVec 32 := 0#32
  let v420 : BitVec 1 := Scalar.cmpi .ne v419 c0_i32_263
  v420

def k0_mult52 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_333 : BitVec 32 := 128#32
  let v538 : BitVec 32 := Scalar.muli v416 c128_i32_333
  v538
def k0_off133 (arg23 : BitVec 32) : Fin 1 → Nat :=
  ![arg23.toNat]
def k0_off134 (v304 : BitVec 32) (k0_t8 : Fin (k0_t8_loop v304).trips) (arg23 : BitVec 32) (v370 : BitVec 32) : Fin 3 → Nat :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_333 : BitVec 32 := 128#32
  let v538 : BitVec 32 := Scalar.muli v416 c128_i32_333
  let v539 : BitVec 32 := v538
  let c0_i32_334 : BitVec 32 := 0#32
  ![arg23.toNat, v539.toNat, 0]
def k0_off135 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_332 : BitVec 32 := 128#32
  let v535 : BitVec 32 := Scalar.muli v416 c128_i32_332
  let v536 : BitVec 32 := Scalar.addi v534 v535
  let v537 : BitVec 32 := v536
  let c0_i32_335 : BitVec 32 := 0#32
  ![arg18.toNat, v537.toNat, 0]
def k0_off136 (v304 : BitVec 32) (k0_t8 : Fin (k0_t8_loop v304).trips) (arg23 : BitVec 32) (v370 : BitVec 32) : Fin 3 → Nat :=
  let c0_i32_336 : BitVec 32 := 0#32
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_333 : BitVec 32 := 128#32
  let v538 : BitVec 32 := Scalar.muli v416 c128_i32_333
  let v539 : BitVec 32 := v538
  ![arg23.toNat, 0, v539.toNat]
def k0_off137 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_332 : BitVec 32 := 128#32
  let v535 : BitVec 32 := Scalar.muli v416 c128_i32_332
  let v536 : BitVec 32 := Scalar.addi v534 v535
  let v537 : BitVec 32 := v536
  ![arg18.toNat, 0, v537.toNat]
def k0_mult53 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_332 : BitVec 32 := 128#32
  let v535 : BitVec 32 := Scalar.muli v421 c128_i32_332
  let v536 : BitVec 32 := Scalar.addi v534 v535
  v536
def k0_cond36 (v304 : BitVec 32) (k0_t8 : Fin (k0_t8_loop v304).trips) (v370 : BitVec 32) : BitVec 1 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c1_i32_264 : BitVec 32 := 1#32
  let v422 : BitVec 32 := Scalar.andi v391 c1_i32_264
  let c0_i32_265 : BitVec 32 := 0#32
  let v423 : BitVec 1 := Scalar.cmpi .ne v422 c0_i32_265
  let v424 : BitVec 32 := Scalar.extui v423
  let c0_i32_266 : BitVec 32 := 0#32
  let v425 : BitVec 1 := Scalar.cmpi .ne v424 c0_i32_266
  v425

def k0_mult54 (v304 : BitVec 32) (k0_t8 : Fin (k0_t8_loop v304).trips) (v370 : BitVec 32) : BitVec 32 :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_333 : BitVec 32 := 128#32
  let v538 : BitVec 32 := Scalar.muli v421 c128_i32_333
  v538
def k0_off138 (arg23 : BitVec 32) : Fin 1 → Nat :=
  ![arg23.toNat]
def k0_off139 (v304 : BitVec 32) (k0_t8 : Fin (k0_t8_loop v304).trips) (arg23 : BitVec 32) (v370 : BitVec 32) : Fin 3 → Nat :=
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_333 : BitVec 32 := 128#32
  let v538 : BitVec 32 := Scalar.muli v421 c128_i32_333
  let v539 : BitVec 32 := v538
  let c0_i32_334 : BitVec 32 := 0#32
  ![arg23.toNat, v539.toNat, 0]
def k0_off140 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_332 : BitVec 32 := 128#32
  let v535 : BitVec 32 := Scalar.muli v421 c128_i32_332
  let v536 : BitVec 32 := Scalar.addi v534 v535
  let v537 : BitVec 32 := v536
  let c0_i32_335 : BitVec 32 := 0#32
  ![arg18.toNat, v537.toNat, 0]
def k0_off141 (v304 : BitVec 32) (k0_t8 : Fin (k0_t8_loop v304).trips) (arg23 : BitVec 32) (v370 : BitVec 32) : Fin 3 → Nat :=
  let c0_i32_336 : BitVec 32 := 0#32
  let c0_i32_214 : BitVec 32 := 0#32
  let c1_i32_216 : BitVec 32 := 1#32
  let arg22 : BitVec 32 := Scf.iv c0_i32_214 c1_i32_216 k0_t8
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_333 : BitVec 32 := 128#32
  let v538 : BitVec 32 := Scalar.muli v421 c128_i32_333
  let v539 : BitVec 32 := v538
  ![arg23.toNat, 0, v539.toNat]
def k0_off142 (k0_t7 : Fin k0_t7_loop.trips) (v304 : BitVec 32) (k0_t8 : Fin (k0_t8_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1_i32_216 : BitVec 32 := 1#32
  let arg22 : BitVec 32 := Scf.iv c0_i32_214 c1_i32_216 k0_t8
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_332 : BitVec 32 := 128#32
  let v535 : BitVec 32 := Scalar.muli v421 c128_i32_332
  let v536 : BitVec 32 := Scalar.addi v534 v535
  let v537 : BitVec 32 := v536
  ![arg18.toNat, 0, v537.toNat]

def k0_chk13_0 (k0_t7 : Fin k0_t7_loop.trips) (v304 : BitVec 32) (k0_t8 : Fin (k0_t8_loop v304).trips) (arg23 : BitVec 32) (v370 : BitVec 32) : Prop :=
  (∀ (k0_h33 : k0_cond33 v304 k0_t8 v370 = 1#1), 128 ∣ (k0_mult47 v304 k0_t8 v370).toNat) ∧
  (∀ (k0_h33 : k0_cond33 v304 k0_t8 v370 = 1#1), 128 ∣ (k0_mult48 v304 k0_t8 v370).toNat) ∧
  (∀ (k0_h33 : k0_cond33 v304 k0_t8 v370 = 1#1), ∀ a, (k0_off123 arg23) a + S1.size a ≤ S5.size a) ∧
  (∀ (k0_h33 : k0_cond33 v304 k0_t8 v370 = 1#1), ∀ a, (k0_off124 v304 k0_t8 arg23 v370) a + S1x1024x896.size a ≤ S5x1024x896.size a) ∧
  (∀ (k0_h33 : k0_cond33 v304 k0_t8 v370 = 1#1), ∀ a, (k0_off125 k0_t7 v304 k0_t8 v370) a + S1x1024x896.size a ≤ S48x8192x896.size a) ∧
  (∀ (k0_h33 : k0_cond33 v304 k0_t8 v370 = 1#1), ∀ (hinb : ∀ a, (k0_off125 k0_t7 v304 k0_t8 v370) a + S1x1024x896.size a ≤ S48x8192x896.size a), (Rect.unit (s := S48x8192x896) (k0_off125 k0_t7 v304 k0_t8 v370) S1x1024x896.size hinb).WholeWords (EltTy.packing .fp8e4m3)) ∧
  (∀ (k0_h33 : k0_cond33 v304 k0_t8 v370 = 1#1), ∀ (hinb : ∀ a, (k0_off124 v304 k0_t8 arg23 v370) a + S1x1024x896.size a ≤ S5x1024x896.size a), (Rect.unit (s := S5x1024x896) (k0_off124 v304 k0_t8 arg23 v370) S1x1024x896.size hinb).WholeWords (EltTy.packing .fp8e4m3)) ∧
  (∀ (k0_h33 : k0_cond33 v304 k0_t8 v370 = 1#1), ∀ a, (k0_off126 v304 k0_t8 arg23 v370) a + S1x960x1024.size a ≤ S5x960x1024.size a) ∧
  (∀ (k0_h33 : k0_cond33 v304 k0_t8 v370 = 1#1), ∀ a, (k0_off127 k0_t7 v304 k0_t8 v370) a + S1x960x1024.size a ≤ S48x960x8192.size a) ∧
  (∀ (k0_h33 : k0_cond33 v304 k0_t8 v370 = 1#1), ∀ (hinb : ∀ a, (k0_off127 k0_t7 v304 k0_t8 v370) a + S1x960x1024.size a ≤ S48x960x8192.size a), (Rect.unit (s := S48x960x8192) (k0_off127 k0_t7 v304 k0_t8 v370) S1x960x1024.size hinb).WholeWords (EltTy.packing .fp8e5m2)) ∧
  (∀ (k0_h33 : k0_cond33 v304 k0_t8 v370 = 1#1), ∀ (hinb : ∀ a, (k0_off126 v304 k0_t8 arg23 v370) a + S1x960x1024.size a ≤ S5x960x1024.size a), (Rect.unit (s := S5x960x1024) (k0_off126 v304 k0_t8 arg23 v370) S1x960x1024.size hinb).WholeWords (EltTy.packing .fp8e5m2)) ∧
  (∀ (k0_h34 : k0_cond34 v304 k0_t8 v370 = 1#1), 128 ∣ (k0_mult49 v304 k0_t8 v370).toNat) ∧
  (∀ (k0_h34 : k0_cond34 v304 k0_t8 v370 = 1#1), 128 ∣ (k0_mult50 v304 k0_t8 v370).toNat) ∧
  (∀ (k0_h34 : k0_cond34 v304 k0_t8 v370 = 1#1), ∀ a, (k0_off128 arg23) a + S1.size a ≤ S5.size a) ∧
  (∀ (k0_h34 : k0_cond34 v304 k0_t8 v370 = 1#1), ∀ a, (k0_off129 v304 k0_t8 arg23 v370) a + S1x512x896.size a ≤ S5x1024x896.size a) ∧
  (∀ (k0_h34 : k0_cond34 v304 k0_t8 v370 = 1#1), ∀ a, (k0_off130 k0_t7 v304 k0_t8 v370) a + S1x512x896.size a ≤ S48x8192x896.size a) ∧
  (∀ (k0_h34 : k0_cond34 v304 k0_t8 v370 = 1#1), ∀ (hinb : ∀ a, (k0_off130 k0_t7 v304 k0_t8 v370) a + S1x512x896.size a ≤ S48x8192x896.size a), (Rect.unit (s := S48x8192x896) (k0_off130 k0_t7 v304 k0_t8 v370) S1x512x896.size hinb).WholeWords (EltTy.packing .fp8e4m3)) ∧
  (∀ (k0_h34 : k0_cond34 v304 k0_t8 v370 = 1#1), ∀ (hinb : ∀ a, (k0_off129 v304 k0_t8 arg23 v370) a + S1x512x896.size a ≤ S5x1024x896.size a), (Rect.unit (s := S5x1024x896) (k0_off129 v304 k0_t8 arg23 v370) S1x512x896.size hinb).WholeWords (EltTy.packing .fp8e4m3)) ∧
  (∀ (k0_h34 : k0_cond34 v304 k0_t8 v370 = 1#1), ∀ a, (k0_off131 v304 k0_t8 arg23 v370) a + S1x960x512.size a ≤ S5x960x1024.size a) ∧
  (∀ (k0_h34 : k0_cond34 v304 k0_t8 v370 = 1#1), ∀ a, (k0_off132 k0_t7 v304 k0_t8 v370) a + S1x960x512.size a ≤ S48x960x8192.size a) ∧
  (∀ (k0_h34 : k0_cond34 v304 k0_t8 v370 = 1#1), ∀ (hinb : ∀ a, (k0_off132 k0_t7 v304 k0_t8 v370) a + S1x960x512.size a ≤ S48x960x8192.size a), (Rect.unit (s := S48x960x8192) (k0_off132 k0_t7 v304 k0_t8 v370) S1x960x512.size hinb).WholeWords (EltTy.packing .fp8e5m2)) ∧
  (∀ (k0_h34 : k0_cond34 v304 k0_t8 v370 = 1#1), ∀ (hinb : ∀ a, (k0_off131 v304 k0_t8 arg23 v370) a + S1x960x512.size a ≤ S5x960x1024.size a), (Rect.unit (s := S5x960x1024) (k0_off131 v304 k0_t8 arg23 v370) S1x960x512.size hinb).WholeWords (EltTy.packing .fp8e5m2)) ∧
  (∀ (k0_h35 : k0_cond35 v304 k0_t8 v370 = 1#1), 128 ∣ (k0_mult51 v304 k0_t8 v370).toNat) ∧
  (∀ (k0_h35 : k0_cond35 v304 k0_t8 v370 = 1#1), 128 ∣ (k0_mult52 v304 k0_t8 v370).toNat) ∧
  (∀ (k0_h35 : k0_cond35 v304 k0_t8 v370 = 1#1), ∀ a, (k0_off133 arg23) a + S1.size a ≤ S5.size a) ∧
  (∀ (k0_h35 : k0_cond35 v304 k0_t8 v370 = 1#1), ∀ a, (k0_off134 v304 k0_t8 arg23 v370) a + S1x256x896.size a ≤ S5x1024x896.size a) ∧
  (∀ (k0_h35 : k0_cond35 v304 k0_t8 v370 = 1#1), ∀ a, (k0_off135 k0_t7 v304 k0_t8 v370) a + S1x256x896.size a ≤ S48x8192x896.size a) ∧
  (∀ (k0_h35 : k0_cond35 v304 k0_t8 v370 = 1#1), ∀ (hinb : ∀ a, (k0_off135 k0_t7 v304 k0_t8 v370) a + S1x256x896.size a ≤ S48x8192x896.size a), (Rect.unit (s := S48x8192x896) (k0_off135 k0_t7 v304 k0_t8 v370) S1x256x896.size hinb).WholeWords (EltTy.packing .fp8e4m3)) ∧
  (∀ (k0_h35 : k0_cond35 v304 k0_t8 v370 = 1#1), ∀ (hinb : ∀ a, (k0_off134 v304 k0_t8 arg23 v370) a + S1x256x896.size a ≤ S5x1024x896.size a), (Rect.unit (s := S5x1024x896) (k0_off134 v304 k0_t8 arg23 v370) S1x256x896.size hinb).WholeWords (EltTy.packing .fp8e4m3)) ∧
  (∀ (k0_h35 : k0_cond35 v304 k0_t8 v370 = 1#1), ∀ a, (k0_off136 v304 k0_t8 arg23 v370) a + S1x960x256.size a ≤ S5x960x1024.size a) ∧
  (∀ (k0_h35 : k0_cond35 v304 k0_t8 v370 = 1#1), ∀ a, (k0_off137 k0_t7 v304 k0_t8 v370) a + S1x960x256.size a ≤ S48x960x8192.size a) ∧
  (∀ (k0_h35 : k0_cond35 v304 k0_t8 v370 = 1#1), ∀ (hinb : ∀ a, (k0_off137 k0_t7 v304 k0_t8 v370) a + S1x960x256.size a ≤ S48x960x8192.size a), (Rect.unit (s := S48x960x8192) (k0_off137 k0_t7 v304 k0_t8 v370) S1x960x256.size hinb).WholeWords (EltTy.packing .fp8e5m2))
def k0_chk13_1 (k0_t7 : Fin k0_t7_loop.trips) (v304 : BitVec 32) (k0_t8 : Fin (k0_t8_loop v304).trips) (arg23 : BitVec 32) (v370 : BitVec 32) : Prop :=
  (∀ (k0_h35 : k0_cond35 v304 k0_t8 v370 = 1#1), ∀ (hinb : ∀ a, (k0_off136 v304 k0_t8 arg23 v370) a + S1x960x256.size a ≤ S5x960x1024.size a), (Rect.unit (s := S5x960x1024) (k0_off136 v304 k0_t8 arg23 v370) S1x960x256.size hinb).WholeWords (EltTy.packing .fp8e5m2)) ∧
  (∀ (k0_h36 : k0_cond36 v304 k0_t8 v370 = 1#1), 128 ∣ (k0_mult53 v304 k0_t8 v370).toNat) ∧
  (∀ (k0_h36 : k0_cond36 v304 k0_t8 v370 = 1#1), 128 ∣ (k0_mult54 v304 k0_t8 v370).toNat) ∧
  (∀ (k0_h36 : k0_cond36 v304 k0_t8 v370 = 1#1), ∀ a, (k0_off138 arg23) a + S1.size a ≤ S5.size a) ∧
  (∀ (k0_h36 : k0_cond36 v304 k0_t8 v370 = 1#1), ∀ a, (k0_off139 v304 k0_t8 arg23 v370) a + S1x128x896.size a ≤ S5x1024x896.size a) ∧
  (∀ (k0_h36 : k0_cond36 v304 k0_t8 v370 = 1#1), ∀ a, (k0_off140 k0_t7 v304 k0_t8 v370) a + S1x128x896.size a ≤ S48x8192x896.size a) ∧
  (∀ (k0_h36 : k0_cond36 v304 k0_t8 v370 = 1#1), ∀ (hinb : ∀ a, (k0_off140 k0_t7 v304 k0_t8 v370) a + S1x128x896.size a ≤ S48x8192x896.size a), (Rect.unit (s := S48x8192x896) (k0_off140 k0_t7 v304 k0_t8 v370) S1x128x896.size hinb).WholeWords (EltTy.packing .fp8e4m3)) ∧
  (∀ (k0_h36 : k0_cond36 v304 k0_t8 v370 = 1#1), ∀ (hinb : ∀ a, (k0_off139 v304 k0_t8 arg23 v370) a + S1x128x896.size a ≤ S5x1024x896.size a), (Rect.unit (s := S5x1024x896) (k0_off139 v304 k0_t8 arg23 v370) S1x128x896.size hinb).WholeWords (EltTy.packing .fp8e4m3)) ∧
  (∀ (k0_h36 : k0_cond36 v304 k0_t8 v370 = 1#1), ∀ a, (k0_off141 v304 k0_t8 arg23 v370) a + S1x960x128.size a ≤ S5x960x1024.size a) ∧
  (∀ (k0_h36 : k0_cond36 v304 k0_t8 v370 = 1#1), ∀ a, (k0_off142 k0_t7 v304 k0_t8 v370) a + S1x960x128.size a ≤ S48x960x8192.size a) ∧
  (∀ (k0_h36 : k0_cond36 v304 k0_t8 v370 = 1#1), ∀ (hinb : ∀ a, (k0_off142 k0_t7 v304 k0_t8 v370) a + S1x960x128.size a ≤ S48x960x8192.size a), (Rect.unit (s := S48x960x8192) (k0_off142 k0_t7 v304 k0_t8 v370) S1x960x128.size hinb).WholeWords (EltTy.packing .fp8e5m2)) ∧
  (∀ (k0_h36 : k0_cond36 v304 k0_t8 v370 = 1#1), ∀ (hinb : ∀ a, (k0_off141 v304 k0_t8 arg23 v370) a + S1x960x128.size a ≤ S5x960x1024.size a), (Rect.unit (s := S5x960x1024) (k0_off141 v304 k0_t8 arg23 v370) S1x960x128.size hinb).WholeWords (EltTy.packing .fp8e5m2))
def k0_chk13 (k0_t7 : Fin k0_t7_loop.trips) (v304 : BitVec 32) (k0_t8 : Fin (k0_t8_loop v304).trips) (arg23 : BitVec 32) (v370 : BitVec 32) : Prop :=
  k0_chk13_0 k0_t7 v304 k0_t8 arg23 v370 ∧
  k0_chk13_1 k0_t7 v304 k0_t8 arg23 v370
theorem k0_mult47_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), 128 ∣ (k0_mult47 v304 k0_t8 v370).toNat := fun k0_t7 v304 k0_t8 arg23 v370 k0_hw13 k0_h33 => k0_hw13.1.1 k0_h33
theorem k0_mult48_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), 128 ∣ (k0_mult48 v304 k0_t8 v370).toNat := fun k0_t7 v304 k0_t8 arg23 v370 k0_hw13 k0_h33 => k0_hw13.1.2.1 k0_h33
theorem k0_off123_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), ∀ a, (k0_off123 arg23) a + S1.size a ≤ S5.size a := fun k0_t7 v304 k0_t8 arg23 v370 k0_hw13 k0_h33 => k0_hw13.1.2.2.1 k0_h33
theorem k0_off124_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), ∀ a, (k0_off124 v304 k0_t8 arg23 v370) a + S1x1024x896.size a ≤ S5x1024x896.size a := fun k0_t7 v304 k0_t8 arg23 v370 k0_hw13 k0_h33 => k0_hw13.1.2.2.2.1 k0_h33
theorem k0_off125_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), ∀ a, (k0_off125 k0_t7 v304 k0_t8 v370) a + S1x1024x896.size a ≤ S48x8192x896.size a := fun k0_t7 v304 k0_t8 arg23 v370 k0_hw13 k0_h33 => k0_hw13.1.2.2.2.2.1 k0_h33
theorem k0_off125_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), (Rect.unit (s := S48x8192x896) (k0_off125 k0_t7 v304 k0_t8 v370) S1x1024x896.size (k0_off125_inb k0_t7 v304 k0_t8 arg23 v370 k0_hw13 k0_h33)).WholeWords (EltTy.packing .fp8e4m3) := fun k0_t7 v304 k0_t8 arg23 v370 k0_hw13 k0_h33 => k0_hw13.1.2.2.2.2.2.1 k0_h33 (k0_off125_inb k0_t7 v304 k0_t8 arg23 v370 k0_hw13 k0_h33)
theorem k0_off124_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), (Rect.unit (s := S5x1024x896) (k0_off124 v304 k0_t8 arg23 v370) S1x1024x896.size (k0_off124_inb k0_t7 v304 k0_t8 arg23 v370 k0_hw13 k0_h33)).WholeWords (EltTy.packing .fp8e4m3) := fun k0_t7 v304 k0_t8 arg23 v370 k0_hw13 k0_h33 => k0_hw13.1.2.2.2.2.2.2.1 k0_h33 (k0_off124_inb k0_t7 v304 k0_t8 arg23 v370 k0_hw13 k0_h33)
theorem k0_off126_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), ∀ a, (k0_off126 v304 k0_t8 arg23 v370) a + S1x960x1024.size a ≤ S5x960x1024.size a := fun k0_t7 v304 k0_t8 arg23 v370 k0_hw13 k0_h33 => k0_hw13.1.2.2.2.2.2.2.2.1 k0_h33
theorem k0_off127_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), ∀ a, (k0_off127 k0_t7 v304 k0_t8 v370) a + S1x960x1024.size a ≤ S48x960x8192.size a := fun k0_t7 v304 k0_t8 arg23 v370 k0_hw13 k0_h33 => k0_hw13.1.2.2.2.2.2.2.2.2.1 k0_h33
theorem k0_off127_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), (Rect.unit (s := S48x960x8192) (k0_off127 k0_t7 v304 k0_t8 v370) S1x960x1024.size (k0_off127_inb k0_t7 v304 k0_t8 arg23 v370 k0_hw13 k0_h33)).WholeWords (EltTy.packing .fp8e5m2) := fun k0_t7 v304 k0_t8 arg23 v370 k0_hw13 k0_h33 => k0_hw13.1.2.2.2.2.2.2.2.2.2.1 k0_h33 (k0_off127_inb k0_t7 v304 k0_t8 arg23 v370 k0_hw13 k0_h33)
theorem k0_off126_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h33 : k0_cond33 v304 k0_t8 v370 = 1#1), (Rect.unit (s := S5x960x1024) (k0_off126 v304 k0_t8 arg23 v370) S1x960x1024.size (k0_off126_inb k0_t7 v304 k0_t8 arg23 v370 k0_hw13 k0_h33)).WholeWords (EltTy.packing .fp8e5m2) := fun k0_t7 v304 k0_t8 arg23 v370 k0_hw13 k0_h33 => k0_hw13.1.2.2.2.2.2.2.2.2.2.2.1 k0_h33 (k0_off126_inb k0_t7 v304 k0_t8 arg23 v370 k0_hw13 k0_h33)
theorem k0_mult49_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), 128 ∣ (k0_mult49 v304 k0_t8 v370).toNat := fun k0_t7 v304 k0_t8 arg23 v370 k0_hw13 k0_h34 => k0_hw13.1.2.2.2.2.2.2.2.2.2.2.2.1 k0_h34
theorem k0_mult50_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), 128 ∣ (k0_mult50 v304 k0_t8 v370).toNat := fun k0_t7 v304 k0_t8 arg23 v370 k0_hw13 k0_h34 => k0_hw13.1.2.2.2.2.2.2.2.2.2.2.2.2.1 k0_h34
theorem k0_off128_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), ∀ a, (k0_off128 arg23) a + S1.size a ≤ S5.size a := fun k0_t7 v304 k0_t8 arg23 v370 k0_hw13 k0_h34 => k0_hw13.1.2.2.2.2.2.2.2.2.2.2.2.2.2.1 k0_h34
theorem k0_off129_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), ∀ a, (k0_off129 v304 k0_t8 arg23 v370) a + S1x512x896.size a ≤ S5x1024x896.size a := fun k0_t7 v304 k0_t8 arg23 v370 k0_hw13 k0_h34 => k0_hw13.1.2.2.2.2.2.2.2.2.2.2.2.2.2.2.1 k0_h34
theorem k0_off130_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), ∀ a, (k0_off130 k0_t7 v304 k0_t8 v370) a + S1x512x896.size a ≤ S48x8192x896.size a := fun k0_t7 v304 k0_t8 arg23 v370 k0_hw13 k0_h34 => k0_hw13.1.2.2.2.2.2.2.2.2.2.2.2.2.2.2.2.1 k0_h34
theorem k0_off130_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), (Rect.unit (s := S48x8192x896) (k0_off130 k0_t7 v304 k0_t8 v370) S1x512x896.size (k0_off130_inb k0_t7 v304 k0_t8 arg23 v370 k0_hw13 k0_h34)).WholeWords (EltTy.packing .fp8e4m3) := fun k0_t7 v304 k0_t8 arg23 v370 k0_hw13 k0_h34 => k0_hw13.1.2.2.2.2.2.2.2.2.2.2.2.2.2.2.2.2.1 k0_h34 (k0_off130_inb k0_t7 v304 k0_t8 arg23 v370 k0_hw13 k0_h34)
theorem k0_off129_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), (Rect.unit (s := S5x1024x896) (k0_off129 v304 k0_t8 arg23 v370) S1x512x896.size (k0_off129_inb k0_t7 v304 k0_t8 arg23 v370 k0_hw13 k0_h34)).WholeWords (EltTy.packing .fp8e4m3) := fun k0_t7 v304 k0_t8 arg23 v370 k0_hw13 k0_h34 => k0_hw13.1.2.2.2.2.2.2.2.2.2.2.2.2.2.2.2.2.2.1 k0_h34 (k0_off129_inb k0_t7 v304 k0_t8 arg23 v370 k0_hw13 k0_h34)
theorem k0_off131_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), ∀ a, (k0_off131 v304 k0_t8 arg23 v370) a + S1x960x512.size a ≤ S5x960x1024.size a := fun k0_t7 v304 k0_t8 arg23 v370 k0_hw13 k0_h34 => k0_hw13.1.2.2.2.2.2.2.2.2.2.2.2.2.2.2.2.2.2.2.1 k0_h34
theorem k0_off132_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), ∀ a, (k0_off132 k0_t7 v304 k0_t8 v370) a + S1x960x512.size a ≤ S48x960x8192.size a := fun k0_t7 v304 k0_t8 arg23 v370 k0_hw13 k0_h34 => k0_hw13.1.2.2.2.2.2.2.2.2.2.2.2.2.2.2.2.2.2.2.2.1 k0_h34
theorem k0_off132_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), (Rect.unit (s := S48x960x8192) (k0_off132 k0_t7 v304 k0_t8 v370) S1x960x512.size (k0_off132_inb k0_t7 v304 k0_t8 arg23 v370 k0_hw13 k0_h34)).WholeWords (EltTy.packing .fp8e5m2) := fun k0_t7 v304 k0_t8 arg23 v370 k0_hw13 k0_h34 => k0_hw13.1.2.2.2.2.2.2.2.2.2.2.2.2.2.2.2.2.2.2.2.2.1 k0_h34 (k0_off132_inb k0_t7 v304 k0_t8 arg23 v370 k0_hw13 k0_h34)
theorem k0_off131_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h34 : k0_cond34 v304 k0_t8 v370 = 1#1), (Rect.unit (s := S5x960x1024) (k0_off131 v304 k0_t8 arg23 v370) S1x960x512.size (k0_off131_inb k0_t7 v304 k0_t8 arg23 v370 k0_hw13 k0_h34)).WholeWords (EltTy.packing .fp8e5m2) := fun k0_t7 v304 k0_t8 arg23 v370 k0_hw13 k0_h34 => k0_hw13.1.2.2.2.2.2.2.2.2.2.2.2.2.2.2.2.2.2.2.2.2.2.1 k0_h34 (k0_off131_inb k0_t7 v304 k0_t8 arg23 v370 k0_hw13 k0_h34)
theorem k0_mult51_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), 128 ∣ (k0_mult51 v304 k0_t8 v370).toNat := fun k0_t7 v304 k0_t8 arg23 v370 k0_hw13 k0_h35 => k0_hw13.1.2.2.2.2.2.2.2.2.2.2.2.2.2.2.2.2.2.2.2.2.2.2.1 k0_h35
theorem k0_mult52_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), 128 ∣ (k0_mult52 v304 k0_t8 v370).toNat := fun k0_t7 v304 k0_t8 arg23 v370 k0_hw13 k0_h35 => k0_hw13.1.2.2.2.2.2.2.2.2.2.2.2.2.2.2.2.2.2.2.2.2.2.2.2.1 k0_h35
theorem k0_off133_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), ∀ a, (k0_off133 arg23) a + S1.size a ≤ S5.size a := fun k0_t7 v304 k0_t8 arg23 v370 k0_hw13 k0_h35 => k0_hw13.1.2.2.2.2.2.2.2.2.2.2.2.2.2.2.2.2.2.2.2.2.2.2.2.2.1 k0_h35
theorem k0_off134_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), ∀ a, (k0_off134 v304 k0_t8 arg23 v370) a + S1x256x896.size a ≤ S5x1024x896.size a := fun k0_t7 v304 k0_t8 arg23 v370 k0_hw13 k0_h35 => k0_hw13.1.2.2.2.2.2.2.2.2.2.2.2.2.2.2.2.2.2.2.2.2.2.2.2.2.2.1 k0_h35
theorem k0_off135_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), ∀ a, (k0_off135 k0_t7 v304 k0_t8 v370) a + S1x256x896.size a ≤ S48x8192x896.size a := fun k0_t7 v304 k0_t8 arg23 v370 k0_hw13 k0_h35 => k0_hw13.1.2.2.2.2.2.2.2.2.2.2.2.2.2.2.2.2.2.2.2.2.2.2.2.2.2.2.1 k0_h35
theorem k0_off135_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), (Rect.unit (s := S48x8192x896) (k0_off135 k0_t7 v304 k0_t8 v370) S1x256x896.size (k0_off135_inb k0_t7 v304 k0_t8 arg23 v370 k0_hw13 k0_h35)).WholeWords (EltTy.packing .fp8e4m3) := fun k0_t7 v304 k0_t8 arg23 v370 k0_hw13 k0_h35 => k0_hw13.1.2.2.2.2.2.2.2.2.2.2.2.2.2.2.2.2.2.2.2.2.2.2.2.2.2.2.2.1 k0_h35 (k0_off135_inb k0_t7 v304 k0_t8 arg23 v370 k0_hw13 k0_h35)
theorem k0_off134_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), (Rect.unit (s := S5x1024x896) (k0_off134 v304 k0_t8 arg23 v370) S1x256x896.size (k0_off134_inb k0_t7 v304 k0_t8 arg23 v370 k0_hw13 k0_h35)).WholeWords (EltTy.packing .fp8e4m3) := fun k0_t7 v304 k0_t8 arg23 v370 k0_hw13 k0_h35 => k0_hw13.1.2.2.2.2.2.2.2.2.2.2.2.2.2.2.2.2.2.2.2.2.2.2.2.2.2.2.2.2.1 k0_h35 (k0_off134_inb k0_t7 v304 k0_t8 arg23 v370 k0_hw13 k0_h35)
theorem k0_off136_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), ∀ a, (k0_off136 v304 k0_t8 arg23 v370) a + S1x960x256.size a ≤ S5x960x1024.size a := fun k0_t7 v304 k0_t8 arg23 v370 k0_hw13 k0_h35 => k0_hw13.1.2.2.2.2.2.2.2.2.2.2.2.2.2.2.2.2.2.2.2.2.2.2.2.2.2.2.2.2.2.1 k0_h35
theorem k0_off137_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), ∀ a, (k0_off137 k0_t7 v304 k0_t8 v370) a + S1x960x256.size a ≤ S48x960x8192.size a := fun k0_t7 v304 k0_t8 arg23 v370 k0_hw13 k0_h35 => k0_hw13.1.2.2.2.2.2.2.2.2.2.2.2.2.2.2.2.2.2.2.2.2.2.2.2.2.2.2.2.2.2.2.1 k0_h35
theorem k0_off137_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), (Rect.unit (s := S48x960x8192) (k0_off137 k0_t7 v304 k0_t8 v370) S1x960x256.size (k0_off137_inb k0_t7 v304 k0_t8 arg23 v370 k0_hw13 k0_h35)).WholeWords (EltTy.packing .fp8e5m2) := fun k0_t7 v304 k0_t8 arg23 v370 k0_hw13 k0_h35 => k0_hw13.1.2.2.2.2.2.2.2.2.2.2.2.2.2.2.2.2.2.2.2.2.2.2.2.2.2.2.2.2.2.2.2 k0_h35 (k0_off137_inb k0_t7 v304 k0_t8 arg23 v370 k0_hw13 k0_h35)
theorem k0_off136_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h35 : k0_cond35 v304 k0_t8 v370 = 1#1), (Rect.unit (s := S5x960x1024) (k0_off136 v304 k0_t8 arg23 v370) S1x960x256.size (k0_off136_inb k0_t7 v304 k0_t8 arg23 v370 k0_hw13 k0_h35)).WholeWords (EltTy.packing .fp8e5m2) := fun k0_t7 v304 k0_t8 arg23 v370 k0_hw13 k0_h35 => k0_hw13.2.1 k0_h35 (k0_off136_inb k0_t7 v304 k0_t8 arg23 v370 k0_hw13 k0_h35)
theorem k0_mult53_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), 128 ∣ (k0_mult53 v304 k0_t8 v370).toNat := fun k0_t7 v304 k0_t8 arg23 v370 k0_hw13 k0_h36 => k0_hw13.2.2.1 k0_h36
theorem k0_mult54_dvd : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), 128 ∣ (k0_mult54 v304 k0_t8 v370).toNat := fun k0_t7 v304 k0_t8 arg23 v370 k0_hw13 k0_h36 => k0_hw13.2.2.2.1 k0_h36
theorem k0_off138_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), ∀ a, (k0_off138 arg23) a + S1.size a ≤ S5.size a := fun k0_t7 v304 k0_t8 arg23 v370 k0_hw13 k0_h36 => k0_hw13.2.2.2.2.1 k0_h36
theorem k0_off139_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), ∀ a, (k0_off139 v304 k0_t8 arg23 v370) a + S1x128x896.size a ≤ S5x1024x896.size a := fun k0_t7 v304 k0_t8 arg23 v370 k0_hw13 k0_h36 => k0_hw13.2.2.2.2.2.1 k0_h36
theorem k0_off140_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), ∀ a, (k0_off140 k0_t7 v304 k0_t8 v370) a + S1x128x896.size a ≤ S48x8192x896.size a := fun k0_t7 v304 k0_t8 arg23 v370 k0_hw13 k0_h36 => k0_hw13.2.2.2.2.2.2.1 k0_h36
theorem k0_off140_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), (Rect.unit (s := S48x8192x896) (k0_off140 k0_t7 v304 k0_t8 v370) S1x128x896.size (k0_off140_inb k0_t7 v304 k0_t8 arg23 v370 k0_hw13 k0_h36)).WholeWords (EltTy.packing .fp8e4m3) := fun k0_t7 v304 k0_t8 arg23 v370 k0_hw13 k0_h36 => k0_hw13.2.2.2.2.2.2.2.1 k0_h36 (k0_off140_inb k0_t7 v304 k0_t8 arg23 v370 k0_hw13 k0_h36)
theorem k0_off139_wordsfp8e4m3 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), (Rect.unit (s := S5x1024x896) (k0_off139 v304 k0_t8 arg23 v370) S1x128x896.size (k0_off139_inb k0_t7 v304 k0_t8 arg23 v370 k0_hw13 k0_h36)).WholeWords (EltTy.packing .fp8e4m3) := fun k0_t7 v304 k0_t8 arg23 v370 k0_hw13 k0_h36 => k0_hw13.2.2.2.2.2.2.2.2.1 k0_h36 (k0_off139_inb k0_t7 v304 k0_t8 arg23 v370 k0_hw13 k0_h36)
theorem k0_off141_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), ∀ a, (k0_off141 v304 k0_t8 arg23 v370) a + S1x960x128.size a ≤ S5x960x1024.size a := fun k0_t7 v304 k0_t8 arg23 v370 k0_hw13 k0_h36 => k0_hw13.2.2.2.2.2.2.2.2.2.1 k0_h36
theorem k0_off142_inb : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), ∀ a, (k0_off142 k0_t7 v304 k0_t8 v370) a + S1x960x128.size a ≤ S48x960x8192.size a := fun k0_t7 v304 k0_t8 arg23 v370 k0_hw13 k0_h36 => k0_hw13.2.2.2.2.2.2.2.2.2.2.1 k0_h36
theorem k0_off142_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), (Rect.unit (s := S48x960x8192) (k0_off142 k0_t7 v304 k0_t8 v370) S1x960x128.size (k0_off142_inb k0_t7 v304 k0_t8 arg23 v370 k0_hw13 k0_h36)).WholeWords (EltTy.packing .fp8e5m2) := fun k0_t7 v304 k0_t8 arg23 v370 k0_hw13 k0_h36 => k0_hw13.2.2.2.2.2.2.2.2.2.2.2.1 k0_h36 (k0_off142_inb k0_t7 v304 k0_t8 arg23 v370 k0_hw13 k0_h36)
theorem k0_off141_wordsfp8e5m2 : ∀ (k0_t7 : Fin k0_t7_loop.trips) (v304 : BitVec 32) (k0_t8 : Fin (k0_t8_loop v304).trips) (arg23 : BitVec 32) (v370 : BitVec 32) (k0_hw13 : k0_chk13 k0_t7 v304 k0_t8 arg23 v370), ∀ (k0_h36 : k0_cond36 v304 k0_t8 v370 = 1#1), (Rect.unit (s := S5x960x1024) (k0_off141 v304 k0_t8 arg23 v370) S1x960x128.size (k0_off141_inb k0_t7 v304 k0_t8 arg23 v370 k0_hw13 k0_h36)).WholeWords (EltTy.packing .fp8e5m2) := fun k0_t7 v304 k0_t8 arg23 v370 k0_hw13 k0_h36 => k0_hw13.2.2.2.2.2.2.2.2.2.2.2.2 k0_h36 (k0_off141_inb k0_t7 v304 k0_t8 arg23 v370 k0_hw13 k0_h36)

def k0_off143 (arg23 : BitVec 32) : Fin 3 → Nat :=
  let v426 : Index := Scalar.indexCast arg23
  let c0 : Index := 0#32
  let c0_267 : Index := 0#32
  ![v426.toNat, 0, 0]
def k0_off144 (arg23 : BitVec 32) : Fin 3 → Nat :=
  let v430 : Index := Scalar.indexCast arg23
  let c0_268 : Index := 0#32
  let c0_269 : Index := 0#32
  ![v430.toNat, 0, 0]

def k0_chk12 (arg23 : BitVec 32) : Prop :=
  (∀ a, (k0_off118 arg23) a + S1.size a ≤ S5.size a) ∧
  (∀ a, (k0_off119 arg23) a + S1x8x896.size a ≤ S5x8x896.size a) ∧
  (∀ a, (k0_off121 arg23) a + S1x8x960.size a ≤ S5x8x960.size a) ∧
  (∀ a, (k0_off143 arg23) a + S1x8x896.size a ≤ S5x8x896.size a) ∧
  (∀ a, (k0_off144 arg23) a + S1x8x960.size a ≤ S5x8x960.size a)
theorem k0_off118_inb : ∀ (arg23 : BitVec 32) (k0_hw12 : k0_chk12 arg23), ∀ a, (k0_off118 arg23) a + S1.size a ≤ S5.size a := fun arg23 k0_hw12 => k0_hw12.1
theorem k0_off119_inb : ∀ (arg23 : BitVec 32) (k0_hw12 : k0_chk12 arg23), ∀ a, (k0_off119 arg23) a + S1x8x896.size a ≤ S5x8x896.size a := fun arg23 k0_hw12 => k0_hw12.2.1
theorem k0_off121_inb : ∀ (arg23 : BitVec 32) (k0_hw12 : k0_chk12 arg23), ∀ a, (k0_off121 arg23) a + S1x8x960.size a ≤ S5x8x960.size a := fun arg23 k0_hw12 => k0_hw12.2.2.1
theorem k0_off143_inb : ∀ (arg23 : BitVec 32) (k0_hw12 : k0_chk12 arg23), ∀ a, (k0_off143 arg23) a + S1x8x896.size a ≤ S5x8x896.size a := fun arg23 k0_hw12 => k0_hw12.2.2.2.1
theorem k0_off144_inb : ∀ (arg23 : BitVec 32) (k0_hw12 : k0_chk12 arg23), ∀ a, (k0_off144 arg23) a + S1x8x960.size a ≤ S5x8x960.size a := fun arg23 k0_hw12 => k0_hw12.2.2.2.2

def k0_off145 (arg23 : BitVec 32) : Fin 3 → Nat :=
  let v534 : Index := Scalar.indexCast arg23
  let c0_331 : Index := 0#32
  let c0_332 : Index := 0#32
  ![v534.toNat, 0, 0]
def k0_cond37 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c0_i32_270 : BitVec 32 := 0#32
  let v436 : BitVec 1 := Scalar.cmpi .sgt v368 c0_i32_270
  let v437 : BitVec 32 := Scalar.extui v436
  let c0_i32_271 : BitVec 32 := 0#32
  let v438 : BitVec 1 := Scalar.cmpi .ne v437 c0_i32_271
  v438

def k0_off146 (arg23 : BitVec 32) : Fin 3 → Nat :=
  let v547 : Index := Scalar.indexCast arg23
  let c0_335 : Index := 0#32
  let c0_336 : Index := 0#32
  ![v547.toNat, 0, 0]
def k0_off147 (arg23 : BitVec 32) : Fin 3 → Nat :=
  let v534 : Index := Scalar.indexCast arg23
  let c128 : Index := 128#32
  let c0_331 : Index := 0#32
  ![v534.toNat, 128, 0]
def k0_cond39 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c1_i32_274 : BitVec 32 := 1#32
  let v443 : BitVec 1 := Scalar.cmpi .sgt v368 c1_i32_274
  let v444 : BitVec 32 := Scalar.extui v443
  let c0_i32_275 : BitVec 32 := 0#32
  let v445 : BitVec 1 := Scalar.cmpi .ne v444 c0_i32_275
  v445

def k0_off148 (arg23 : BitVec 32) : Fin 3 → Nat :=
  let v547 : Index := Scalar.indexCast arg23
  let c0_334 : Index := 0#32
  let c128_335 : Index := 128#32
  ![v547.toNat, 0, 128]
def k0_off149 (arg23 : BitVec 32) : Fin 3 → Nat :=
  let v534 : Index := Scalar.indexCast arg23
  let c256 : Index := 256#32
  let c0_331 : Index := 0#32
  ![v534.toNat, 256, 0]
def k0_cond41 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c2_i32_278 : BitVec 32 := 2#32
  let v450 : BitVec 1 := Scalar.cmpi .sgt v368 c2_i32_278
  let v451 : BitVec 32 := Scalar.extui v450
  let c0_i32_279 : BitVec 32 := 0#32
  let v452 : BitVec 1 := Scalar.cmpi .ne v451 c0_i32_279
  v452

def k0_off150 (arg23 : BitVec 32) : Fin 3 → Nat :=
  let v547 : Index := Scalar.indexCast arg23
  let c0_334 : Index := 0#32
  let c256_335 : Index := 256#32
  ![v547.toNat, 0, 256]
def k0_off151 (arg23 : BitVec 32) : Fin 3 → Nat :=
  let v534 : Index := Scalar.indexCast arg23
  let c384 : Index := 384#32
  let c0_331 : Index := 0#32
  ![v534.toNat, 384, 0]
def k0_cond43 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c3_i32_283 : BitVec 32 := 3#32
  let v457 : BitVec 1 := Scalar.cmpi .sgt v368 c3_i32_283
  let v458 : BitVec 32 := Scalar.extui v457
  let c0_i32_284 : BitVec 32 := 0#32
  let v459 : BitVec 1 := Scalar.cmpi .ne v458 c0_i32_284
  v459

def k0_off152 (arg23 : BitVec 32) : Fin 3 → Nat :=
  let v547 : Index := Scalar.indexCast arg23
  let c0_334 : Index := 0#32
  let c384_335 : Index := 384#32
  ![v547.toNat, 0, 384]
def k0_off153 (arg23 : BitVec 32) : Fin 3 → Nat :=
  let v534 : Index := Scalar.indexCast arg23
  let c512 : Index := 512#32
  let c0_331 : Index := 0#32
  ![v534.toNat, 512, 0]
def k0_cond45 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c4_i32_288 : BitVec 32 := 4#32
  let v464 : BitVec 1 := Scalar.cmpi .sgt v368 c4_i32_288
  let v465 : BitVec 32 := Scalar.extui v464
  let c0_i32_289 : BitVec 32 := 0#32
  let v466 : BitVec 1 := Scalar.cmpi .ne v465 c0_i32_289
  v466

def k0_off154 (arg23 : BitVec 32) : Fin 3 → Nat :=
  let v547 : Index := Scalar.indexCast arg23
  let c0_334 : Index := 0#32
  let c512_335 : Index := 512#32
  ![v547.toNat, 0, 512]
def k0_off155 (arg23 : BitVec 32) : Fin 3 → Nat :=
  let v534 : Index := Scalar.indexCast arg23
  let c640 : Index := 640#32
  let c0_331 : Index := 0#32
  ![v534.toNat, 640, 0]
def k0_cond47 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c5_i32_293 : BitVec 32 := 5#32
  let v471 : BitVec 1 := Scalar.cmpi .sgt v368 c5_i32_293
  let v472 : BitVec 32 := Scalar.extui v471
  let c0_i32_294 : BitVec 32 := 0#32
  let v473 : BitVec 1 := Scalar.cmpi .ne v472 c0_i32_294
  v473

def k0_off156 (arg23 : BitVec 32) : Fin 3 → Nat :=
  let v547 : Index := Scalar.indexCast arg23
  let c0_334 : Index := 0#32
  let c640_335 : Index := 640#32
  ![v547.toNat, 0, 640]
def k0_off157 (arg23 : BitVec 32) : Fin 3 → Nat :=
  let v534 : Index := Scalar.indexCast arg23
  let c768 : Index := 768#32
  let c0_331 : Index := 0#32
  ![v534.toNat, 768, 0]
def k0_cond49 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c6_i32_298 : BitVec 32 := 6#32
  let v478 : BitVec 1 := Scalar.cmpi .sgt v368 c6_i32_298
  let v479 : BitVec 32 := Scalar.extui v478
  let c0_i32_299 : BitVec 32 := 0#32
  let v480 : BitVec 1 := Scalar.cmpi .ne v479 c0_i32_299
  v480

def k0_off158 (arg23 : BitVec 32) : Fin 3 → Nat :=
  let v547 : Index := Scalar.indexCast arg23
  let c0_334 : Index := 0#32
  let c768_335 : Index := 768#32
  ![v547.toNat, 0, 768]
def k0_off159 (arg23 : BitVec 32) : Fin 3 → Nat :=
  let v534 : Index := Scalar.indexCast arg23
  let c896 : Index := 896#32
  let c0_331 : Index := 0#32
  ![v534.toNat, 896, 0]
def k0_cond51 (v304 : BitVec 32) (k0_t8 : Fin (k0_t8_loop v304).trips) (v347 : BitVec 32) : BitVec 1 :=
  let c0_i32_214 : BitVec 32 := 0#32
  let c1_i32_216 : BitVec 32 := 1#32
  let arg22 : BitVec 32 := Scf.iv c0_i32_214 c1_i32_216 k0_t8
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c7_i32_303 : BitVec 32 := 7#32
  let v485 : BitVec 1 := Scalar.cmpi .sgt v368 c7_i32_303
  let v486 : BitVec 32 := Scalar.extui v485
  let c0_i32_304 : BitVec 32 := 0#32
  let v487 : BitVec 1 := Scalar.cmpi .ne v486 c0_i32_304
  v487

def k0_off160 (arg23 : BitVec 32) : Fin 3 → Nat :=
  let v547 : Index := Scalar.indexCast arg23
  let c0_334 : Index := 0#32
  let c896_335 : Index := 896#32
  ![v547.toNat, 0, 896]

def k0_chk14 (v304 : BitVec 32) (k0_t8 : Fin (k0_t8_loop v304).trips) (arg23 : BitVec 32) (v347 : BitVec 32) : Prop :=
  (∀ (k0_h37 : k0_cond37 v304 k0_t8 v347 = 1#1), ∀ a, (k0_off145 arg23) a + S1x128x896.size a ≤ S5x1024x896.size a) ∧
  (∀ (k0_h37 : k0_cond37 v304 k0_t8 v347 = 1#1), ∀ a, (k0_off146 arg23) a + S1x960x128.size a ≤ S5x960x1024.size a) ∧
  (∀ (k0_h39 : k0_cond39 v304 k0_t8 v347 = 1#1), ∀ a, (k0_off147 arg23) a + S1x128x896.size a ≤ S5x1024x896.size a) ∧
  (∀ (k0_h39 : k0_cond39 v304 k0_t8 v347 = 1#1), ∀ a, (k0_off148 arg23) a + S1x960x128.size a ≤ S5x960x1024.size a) ∧
  (∀ (k0_h41 : k0_cond41 v304 k0_t8 v347 = 1#1), ∀ a, (k0_off149 arg23) a + S1x128x896.size a ≤ S5x1024x896.size a) ∧
  (∀ (k0_h41 : k0_cond41 v304 k0_t8 v347 = 1#1), ∀ a, (k0_off150 arg23) a + S1x960x128.size a ≤ S5x960x1024.size a) ∧
  (∀ (k0_h43 : k0_cond43 v304 k0_t8 v347 = 1#1), ∀ a, (k0_off151 arg23) a + S1x128x896.size a ≤ S5x1024x896.size a) ∧
  (∀ (k0_h43 : k0_cond43 v304 k0_t8 v347 = 1#1), ∀ a, (k0_off152 arg23) a + S1x960x128.size a ≤ S5x960x1024.size a) ∧
  (∀ (k0_h45 : k0_cond45 v304 k0_t8 v347 = 1#1), ∀ a, (k0_off153 arg23) a + S1x128x896.size a ≤ S5x1024x896.size a) ∧
  (∀ (k0_h45 : k0_cond45 v304 k0_t8 v347 = 1#1), ∀ a, (k0_off154 arg23) a + S1x960x128.size a ≤ S5x960x1024.size a) ∧
  (∀ (k0_h47 : k0_cond47 v304 k0_t8 v347 = 1#1), ∀ a, (k0_off155 arg23) a + S1x128x896.size a ≤ S5x1024x896.size a) ∧
  (∀ (k0_h47 : k0_cond47 v304 k0_t8 v347 = 1#1), ∀ a, (k0_off156 arg23) a + S1x960x128.size a ≤ S5x960x1024.size a) ∧
  (∀ (k0_h49 : k0_cond49 v304 k0_t8 v347 = 1#1), ∀ a, (k0_off157 arg23) a + S1x128x896.size a ≤ S5x1024x896.size a) ∧
  (∀ (k0_h49 : k0_cond49 v304 k0_t8 v347 = 1#1), ∀ a, (k0_off158 arg23) a + S1x960x128.size a ≤ S5x960x1024.size a) ∧
  (∀ (k0_h51 : k0_cond51 v304 k0_t8 v347 = 1#1), ∀ a, (k0_off159 arg23) a + S1x128x896.size a ≤ S5x1024x896.size a) ∧
  (∀ (k0_h51 : k0_cond51 v304 k0_t8 v347 = 1#1), ∀ a, (k0_off160 arg23) a + S1x960x128.size a ≤ S5x960x1024.size a)
theorem k0_off145_inb : ∀ (v304 : BitVec 32) (k0_t8 : Fin (k0_t8_loop v304).trips) (arg23 : BitVec 32) (v347 : BitVec 32) (k0_hw14 : k0_chk14 v304 k0_t8 arg23 v347), ∀ (k0_h37 : k0_cond37 v304 k0_t8 v347 = 1#1), ∀ a, (k0_off145 arg23) a + S1x128x896.size a ≤ S5x1024x896.size a := fun v304 k0_t8 arg23 v347 k0_hw14 k0_h37 => k0_hw14.1 k0_h37
theorem k0_off146_inb : ∀ (v304 : BitVec 32) (k0_t8 : Fin (k0_t8_loop v304).trips) (arg23 : BitVec 32) (v347 : BitVec 32) (k0_hw14 : k0_chk14 v304 k0_t8 arg23 v347), ∀ (k0_h37 : k0_cond37 v304 k0_t8 v347 = 1#1), ∀ a, (k0_off146 arg23) a + S1x960x128.size a ≤ S5x960x1024.size a := fun v304 k0_t8 arg23 v347 k0_hw14 k0_h37 => k0_hw14.2.1 k0_h37
theorem k0_off147_inb : ∀ (v304 : BitVec 32) (k0_t8 : Fin (k0_t8_loop v304).trips) (arg23 : BitVec 32) (v347 : BitVec 32) (k0_hw14 : k0_chk14 v304 k0_t8 arg23 v347), ∀ (k0_h39 : k0_cond39 v304 k0_t8 v347 = 1#1), ∀ a, (k0_off147 arg23) a + S1x128x896.size a ≤ S5x1024x896.size a := fun v304 k0_t8 arg23 v347 k0_hw14 k0_h39 => k0_hw14.2.2.1 k0_h39
theorem k0_off148_inb : ∀ (v304 : BitVec 32) (k0_t8 : Fin (k0_t8_loop v304).trips) (arg23 : BitVec 32) (v347 : BitVec 32) (k0_hw14 : k0_chk14 v304 k0_t8 arg23 v347), ∀ (k0_h39 : k0_cond39 v304 k0_t8 v347 = 1#1), ∀ a, (k0_off148 arg23) a + S1x960x128.size a ≤ S5x960x1024.size a := fun v304 k0_t8 arg23 v347 k0_hw14 k0_h39 => k0_hw14.2.2.2.1 k0_h39
theorem k0_off149_inb : ∀ (v304 : BitVec 32) (k0_t8 : Fin (k0_t8_loop v304).trips) (arg23 : BitVec 32) (v347 : BitVec 32) (k0_hw14 : k0_chk14 v304 k0_t8 arg23 v347), ∀ (k0_h41 : k0_cond41 v304 k0_t8 v347 = 1#1), ∀ a, (k0_off149 arg23) a + S1x128x896.size a ≤ S5x1024x896.size a := fun v304 k0_t8 arg23 v347 k0_hw14 k0_h41 => k0_hw14.2.2.2.2.1 k0_h41
theorem k0_off150_inb : ∀ (v304 : BitVec 32) (k0_t8 : Fin (k0_t8_loop v304).trips) (arg23 : BitVec 32) (v347 : BitVec 32) (k0_hw14 : k0_chk14 v304 k0_t8 arg23 v347), ∀ (k0_h41 : k0_cond41 v304 k0_t8 v347 = 1#1), ∀ a, (k0_off150 arg23) a + S1x960x128.size a ≤ S5x960x1024.size a := fun v304 k0_t8 arg23 v347 k0_hw14 k0_h41 => k0_hw14.2.2.2.2.2.1 k0_h41
theorem k0_off151_inb : ∀ (v304 : BitVec 32) (k0_t8 : Fin (k0_t8_loop v304).trips) (arg23 : BitVec 32) (v347 : BitVec 32) (k0_hw14 : k0_chk14 v304 k0_t8 arg23 v347), ∀ (k0_h43 : k0_cond43 v304 k0_t8 v347 = 1#1), ∀ a, (k0_off151 arg23) a + S1x128x896.size a ≤ S5x1024x896.size a := fun v304 k0_t8 arg23 v347 k0_hw14 k0_h43 => k0_hw14.2.2.2.2.2.2.1 k0_h43
theorem k0_off152_inb : ∀ (v304 : BitVec 32) (k0_t8 : Fin (k0_t8_loop v304).trips) (arg23 : BitVec 32) (v347 : BitVec 32) (k0_hw14 : k0_chk14 v304 k0_t8 arg23 v347), ∀ (k0_h43 : k0_cond43 v304 k0_t8 v347 = 1#1), ∀ a, (k0_off152 arg23) a + S1x960x128.size a ≤ S5x960x1024.size a := fun v304 k0_t8 arg23 v347 k0_hw14 k0_h43 => k0_hw14.2.2.2.2.2.2.2.1 k0_h43
theorem k0_off153_inb : ∀ (v304 : BitVec 32) (k0_t8 : Fin (k0_t8_loop v304).trips) (arg23 : BitVec 32) (v347 : BitVec 32) (k0_hw14 : k0_chk14 v304 k0_t8 arg23 v347), ∀ (k0_h45 : k0_cond45 v304 k0_t8 v347 = 1#1), ∀ a, (k0_off153 arg23) a + S1x128x896.size a ≤ S5x1024x896.size a := fun v304 k0_t8 arg23 v347 k0_hw14 k0_h45 => k0_hw14.2.2.2.2.2.2.2.2.1 k0_h45
theorem k0_off154_inb : ∀ (v304 : BitVec 32) (k0_t8 : Fin (k0_t8_loop v304).trips) (arg23 : BitVec 32) (v347 : BitVec 32) (k0_hw14 : k0_chk14 v304 k0_t8 arg23 v347), ∀ (k0_h45 : k0_cond45 v304 k0_t8 v347 = 1#1), ∀ a, (k0_off154 arg23) a + S1x960x128.size a ≤ S5x960x1024.size a := fun v304 k0_t8 arg23 v347 k0_hw14 k0_h45 => k0_hw14.2.2.2.2.2.2.2.2.2.1 k0_h45
theorem k0_off155_inb : ∀ (v304 : BitVec 32) (k0_t8 : Fin (k0_t8_loop v304).trips) (arg23 : BitVec 32) (v347 : BitVec 32) (k0_hw14 : k0_chk14 v304 k0_t8 arg23 v347), ∀ (k0_h47 : k0_cond47 v304 k0_t8 v347 = 1#1), ∀ a, (k0_off155 arg23) a + S1x128x896.size a ≤ S5x1024x896.size a := fun v304 k0_t8 arg23 v347 k0_hw14 k0_h47 => k0_hw14.2.2.2.2.2.2.2.2.2.2.1 k0_h47
theorem k0_off156_inb : ∀ (v304 : BitVec 32) (k0_t8 : Fin (k0_t8_loop v304).trips) (arg23 : BitVec 32) (v347 : BitVec 32) (k0_hw14 : k0_chk14 v304 k0_t8 arg23 v347), ∀ (k0_h47 : k0_cond47 v304 k0_t8 v347 = 1#1), ∀ a, (k0_off156 arg23) a + S1x960x128.size a ≤ S5x960x1024.size a := fun v304 k0_t8 arg23 v347 k0_hw14 k0_h47 => k0_hw14.2.2.2.2.2.2.2.2.2.2.2.1 k0_h47
theorem k0_off157_inb : ∀ (v304 : BitVec 32) (k0_t8 : Fin (k0_t8_loop v304).trips) (arg23 : BitVec 32) (v347 : BitVec 32) (k0_hw14 : k0_chk14 v304 k0_t8 arg23 v347), ∀ (k0_h49 : k0_cond49 v304 k0_t8 v347 = 1#1), ∀ a, (k0_off157 arg23) a + S1x128x896.size a ≤ S5x1024x896.size a := fun v304 k0_t8 arg23 v347 k0_hw14 k0_h49 => k0_hw14.2.2.2.2.2.2.2.2.2.2.2.2.1 k0_h49
theorem k0_off158_inb : ∀ (v304 : BitVec 32) (k0_t8 : Fin (k0_t8_loop v304).trips) (arg23 : BitVec 32) (v347 : BitVec 32) (k0_hw14 : k0_chk14 v304 k0_t8 arg23 v347), ∀ (k0_h49 : k0_cond49 v304 k0_t8 v347 = 1#1), ∀ a, (k0_off158 arg23) a + S1x960x128.size a ≤ S5x960x1024.size a := fun v304 k0_t8 arg23 v347 k0_hw14 k0_h49 => k0_hw14.2.2.2.2.2.2.2.2.2.2.2.2.2.1 k0_h49
theorem k0_off159_inb : ∀ (v304 : BitVec 32) (k0_t8 : Fin (k0_t8_loop v304).trips) (arg23 : BitVec 32) (v347 : BitVec 32) (k0_hw14 : k0_chk14 v304 k0_t8 arg23 v347), ∀ (k0_h51 : k0_cond51 v304 k0_t8 v347 = 1#1), ∀ a, (k0_off159 arg23) a + S1x128x896.size a ≤ S5x1024x896.size a := fun v304 k0_t8 arg23 v347 k0_hw14 k0_h51 => k0_hw14.2.2.2.2.2.2.2.2.2.2.2.2.2.2.1 k0_h51
theorem k0_off160_inb : ∀ (v304 : BitVec 32) (k0_t8 : Fin (k0_t8_loop v304).trips) (arg23 : BitVec 32) (v347 : BitVec 32) (k0_hw14 : k0_chk14 v304 k0_t8 arg23 v347), ∀ (k0_h51 : k0_cond51 v304 k0_t8 v347 = 1#1), ∀ a, (k0_off160 arg23) a + S1x960x128.size a ≤ S5x960x1024.size a := fun v304 k0_t8 arg23 v347 k0_hw14 k0_h51 => k0_hw14.2.2.2.2.2.2.2.2.2.2.2.2.2.2.2 k0_h51

def k0_off161 (arg24 : BitVec 32) : Fin 1 → Nat :=
  let c47_i32_309 : BitVec 32 := 47#32
  let v493 : BitVec 32 := Scalar.minsi arg24 c47_i32_309
  let v534 : Index := Scalar.indexCast v493
  ![v534.toNat]
def k0_cond53 (arg24 : BitVec 32) : BitVec 1 :=
  let c48_i32_308 : BitVec 32 := 48#32
  let v492 : BitVec 1 := Scalar.cmpi .slt arg24 c48_i32_308
  let v494 : BitVec 32 := Scalar.extui v492
  let c0_i32_310 : BitVec 32 := 0#32
  let v495 : BitVec 1 := Scalar.cmpi .ne v494 c0_i32_310
  v495

def k0_mult55 (arg25 : BitVec 32) : BitVec 32 :=
  let c8_i32_341 : BitVec 32 := 8#32
  let v557 : BitVec 32 := Scalar.muli arg25 c8_i32_341
  v557

def k0_off162 (arg23 : BitVec 32) : Fin 1 → Nat :=
  ![arg23.toNat]
def k0_off163 (arg23 : BitVec 32) : Fin 3 → Nat :=
  let c0_i32_342 : BitVec 32 := 0#32
  let c0_i32_343 : BitVec 32 := 0#32
  ![arg23.toNat, 0, 0]
def k0_off164 (arg24 : BitVec 32) (arg25 : BitVec 32) : Fin 3 → Nat :=
  let c47_i32_309 : BitVec 32 := 47#32
  let v493 : BitVec 32 := Scalar.minsi arg24 c47_i32_309
  let c8_i32_341 : BitVec 32 := 8#32
  let v557 : BitVec 32 := Scalar.muli arg25 c8_i32_341
  let v558 : BitVec 32 := v557
  let c0_i32_344 : BitVec 32 := 0#32
  ![v493.toNat, v558.toNat, 0]
def k0_off165 (arg23 : BitVec 32) : Fin 3 → Nat :=
  let c0_i32_345 : BitVec 32 := 0#32
  let c0_i32_346 : BitVec 32 := 0#32
  ![arg23.toNat, 0, 0]
def k0_off166 (arg24 : BitVec 32) (arg25 : BitVec 32) : Fin 3 → Nat :=
  let c47_i32_309 : BitVec 32 := 47#32
  let v493 : BitVec 32 := Scalar.minsi arg24 c47_i32_309
  let c8_i32_341 : BitVec 32 := 8#32
  let v557 : BitVec 32 := Scalar.muli arg25 c8_i32_341
  let v558 : BitVec 32 := v557
  let c0_i32_347 : BitVec 32 := 0#32
  ![v493.toNat, v558.toNat, 0]

def k0_chk16 (arg24 : BitVec 32) (arg25 : BitVec 32) : Prop :=
  (∀ (k0_h53 : k0_cond53 arg24 = 1#1), 8 ∣ (k0_mult55 arg25).toNat) ∧
  (∀ (k0_h53 : k0_cond53 arg24 = 1#1), ∀ a, (k0_off164 arg24 arg25) a + S1x8x896.size a ≤ S48x64x896.size a) ∧
  (∀ (k0_h53 : k0_cond53 arg24 = 1#1), ∀ a, (k0_off166 arg24 arg25) a + S1x8x960.size a ≤ S48x64x960.size a)
theorem k0_mult55_dvd : ∀ (arg24 : BitVec 32) (arg25 : BitVec 32) (k0_hw16 : k0_chk16 arg24 arg25), ∀ (k0_h53 : k0_cond53 arg24 = 1#1), 8 ∣ (k0_mult55 arg25).toNat := fun arg24 arg25 k0_hw16 k0_h53 => k0_hw16.1 k0_h53
theorem k0_off164_inb : ∀ (arg24 : BitVec 32) (arg25 : BitVec 32) (k0_hw16 : k0_chk16 arg24 arg25), ∀ (k0_h53 : k0_cond53 arg24 = 1#1), ∀ a, (k0_off164 arg24 arg25) a + S1x8x896.size a ≤ S48x64x896.size a := fun arg24 arg25 k0_hw16 k0_h53 => k0_hw16.2.1 k0_h53
theorem k0_off166_inb : ∀ (arg24 : BitVec 32) (arg25 : BitVec 32) (k0_hw16 : k0_chk16 arg24 arg25), ∀ (k0_h53 : k0_cond53 arg24 = 1#1), ∀ a, (k0_off166 arg24 arg25) a + S1x8x960.size a ≤ S48x64x960.size a := fun arg24 arg25 k0_hw16 k0_h53 => k0_hw16.2.2 k0_h53

def k0_mult56 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_365 : BitVec 32 := 128#32
  let v592 : BitVec 32 := Scalar.muli v571 c128_i32_365
  let v593 : BitVec 32 := Scalar.addi v591 v592
  v593
def k0_cond54 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_349 : BitVec 32 := 8#32
  let v572 : BitVec 32 := Scalar.andi v556 c8_i32_349
  let c0_i32_350 : BitVec 32 := 0#32
  let v573 : BitVec 1 := Scalar.cmpi .ne v572 c0_i32_350
  let v574 : BitVec 32 := Scalar.extui v573
  let c0_i32_351 : BitVec 32 := 0#32
  let v575 : BitVec 1 := Scalar.cmpi .ne v574 c0_i32_351
  v575

def k0_mult57 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_366 : BitVec 32 := 128#32
  let v595 : BitVec 32 := Scalar.muli v571 c128_i32_366
  v595
def k0_off167 (arg23 : BitVec 32) : Fin 1 → Nat :=
  ![arg23.toNat]
def k0_off168 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_366 : BitVec 32 := 128#32
  let v595 : BitVec 32 := Scalar.muli v571 c128_i32_366
  let v596 : BitVec 32 := v595
  let c0_i32_367 : BitVec 32 := 0#32
  ![arg23.toNat, v596.toNat, 0]
def k0_off169 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_365 : BitVec 32 := 128#32
  let v592 : BitVec 32 := Scalar.muli v571 c128_i32_365
  let v593 : BitVec 32 := Scalar.addi v591 v592
  let v594 : BitVec 32 := v593
  let c0_i32_368 : BitVec 32 := 0#32
  ![v493.toNat, v594.toNat, 0]
def k0_off170 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_366 : BitVec 32 := 128#32
  let v595 : BitVec 32 := Scalar.muli v571 c128_i32_366
  let v596 : BitVec 32 := v595
  ![arg23.toNat, 0, v596.toNat]
def k0_off171 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_365 : BitVec 32 := 128#32
  let v592 : BitVec 32 := Scalar.muli v571 c128_i32_365
  let v593 : BitVec 32 := Scalar.addi v591 v592
  let v594 : BitVec 32 := v593
  ![v493.toNat, 0, v594.toNat]
def k0_mult58 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_365 : BitVec 32 := 128#32
  let v592 : BitVec 32 := Scalar.muli v576 c128_i32_365
  let v593 : BitVec 32 := Scalar.addi v591 v592
  v593
def k0_cond55 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c4_i32_353 : BitVec 32 := 4#32
  let v577 : BitVec 32 := Scalar.andi v556 c4_i32_353
  let c0_i32_354 : BitVec 32 := 0#32
  let v578 : BitVec 1 := Scalar.cmpi .ne v577 c0_i32_354
  let v579 : BitVec 32 := Scalar.extui v578
  let c0_i32_355 : BitVec 32 := 0#32
  let v580 : BitVec 1 := Scalar.cmpi .ne v579 c0_i32_355
  v580

def k0_mult59 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_366 : BitVec 32 := 128#32
  let v595 : BitVec 32 := Scalar.muli v576 c128_i32_366
  v595
def k0_off172 (arg23 : BitVec 32) : Fin 1 → Nat :=
  ![arg23.toNat]
def k0_off173 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_366 : BitVec 32 := 128#32
  let v595 : BitVec 32 := Scalar.muli v576 c128_i32_366
  let v596 : BitVec 32 := v595
  let c0_i32_367 : BitVec 32 := 0#32
  ![arg23.toNat, v596.toNat, 0]
def k0_off174 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_365 : BitVec 32 := 128#32
  let v592 : BitVec 32 := Scalar.muli v576 c128_i32_365
  let v593 : BitVec 32 := Scalar.addi v591 v592
  let v594 : BitVec 32 := v593
  let c0_i32_368 : BitVec 32 := 0#32
  ![v493.toNat, v594.toNat, 0]
def k0_off175 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_366 : BitVec 32 := 128#32
  let v595 : BitVec 32 := Scalar.muli v576 c128_i32_366
  let v596 : BitVec 32 := v595
  ![arg23.toNat, 0, v596.toNat]
def k0_off176 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_365 : BitVec 32 := 128#32
  let v592 : BitVec 32 := Scalar.muli v576 c128_i32_365
  let v593 : BitVec 32 := Scalar.addi v591 v592
  let v594 : BitVec 32 := v593
  ![v493.toNat, 0, v594.toNat]
def k0_mult60 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_365 : BitVec 32 := 128#32
  let v592 : BitVec 32 := Scalar.muli v581 c128_i32_365
  let v593 : BitVec 32 := Scalar.addi v591 v592
  v593
def k0_cond56 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c2_i32_357 : BitVec 32 := 2#32
  let v582 : BitVec 32 := Scalar.andi v556 c2_i32_357
  let c0_i32_358 : BitVec 32 := 0#32
  let v583 : BitVec 1 := Scalar.cmpi .ne v582 c0_i32_358
  let v584 : BitVec 32 := Scalar.extui v583
  let c0_i32_359 : BitVec 32 := 0#32
  let v585 : BitVec 1 := Scalar.cmpi .ne v584 c0_i32_359
  v585

def k0_mult61 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_366 : BitVec 32 := 128#32
  let v595 : BitVec 32 := Scalar.muli v581 c128_i32_366
  v595
def k0_off177 (arg23 : BitVec 32) : Fin 1 → Nat :=
  ![arg23.toNat]
def k0_off178 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_366 : BitVec 32 := 128#32
  let v595 : BitVec 32 := Scalar.muli v581 c128_i32_366
  let v596 : BitVec 32 := v595
  let c0_i32_367 : BitVec 32 := 0#32
  ![arg23.toNat, v596.toNat, 0]
def k0_off179 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_365 : BitVec 32 := 128#32
  let v592 : BitVec 32 := Scalar.muli v581 c128_i32_365
  let v593 : BitVec 32 := Scalar.addi v591 v592
  let v594 : BitVec 32 := v593
  let c0_i32_368 : BitVec 32 := 0#32
  ![v493.toNat, v594.toNat, 0]
def k0_off180 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_366 : BitVec 32 := 128#32
  let v595 : BitVec 32 := Scalar.muli v581 c128_i32_366
  let v596 : BitVec 32 := v595
  ![arg23.toNat, 0, v596.toNat]
def k0_off181 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_365 : BitVec 32 := 128#32
  let v592 : BitVec 32 := Scalar.muli v581 c128_i32_365
  let v593 : BitVec 32 := Scalar.addi v591 v592
  let v594 : BitVec 32 := v593
  ![v493.toNat, 0, v594.toNat]
def k0_mult62 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_365 : BitVec 32 := 128#32
  let v592 : BitVec 32 := Scalar.muli v586 c128_i32_365
  let v593 : BitVec 32 := Scalar.addi v591 v592
  v593
def k0_cond57 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c1_i32_361 : BitVec 32 := 1#32
  let v587 : BitVec 32 := Scalar.andi v556 c1_i32_361
  let c0_i32_362 : BitVec 32 := 0#32
  let v588 : BitVec 1 := Scalar.cmpi .ne v587 c0_i32_362
  let v589 : BitVec 32 := Scalar.extui v588
  let c0_i32_363 : BitVec 32 := 0#32
  let v590 : BitVec 1 := Scalar.cmpi .ne v589 c0_i32_363
  v590

def k0_mult63 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_366 : BitVec 32 := 128#32
  let v595 : BitVec 32 := Scalar.muli v586 c128_i32_366
  v595
def k0_off182 (arg23 : BitVec 32) : Fin 1 → Nat :=
  ![arg23.toNat]
def k0_off183 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_366 : BitVec 32 := 128#32
  let v595 : BitVec 32 := Scalar.muli v586 c128_i32_366
  let v596 : BitVec 32 := v595
  let c0_i32_367 : BitVec 32 := 0#32
  ![arg23.toNat, v596.toNat, 0]
def k0_off184 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_365 : BitVec 32 := 128#32
  let v592 : BitVec 32 := Scalar.muli v586 c128_i32_365
  let v593 : BitVec 32 := Scalar.addi v591 v592
  let v594 : BitVec 32 := v593
  let c0_i32_368 : BitVec 32 := 0#32
  ![v493.toNat, v594.toNat, 0]
def k0_off185 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_366 : BitVec 32 := 128#32
  let v595 : BitVec 32 := Scalar.muli v586 c128_i32_366
  let v596 : BitVec 32 := v595
  ![arg23.toNat, 0, v596.toNat]
def k0_off186 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_365 : BitVec 32 := 128#32
  let v592 : BitVec 32 := Scalar.muli v586 c128_i32_365
  let v593 : BitVec 32 := Scalar.addi v591 v592
  let v594 : BitVec 32 := v593
  ![v493.toNat, 0, v594.toNat]

def k0_chk17_0 (arg23 : BitVec 32) (arg24 : BitVec 32) (arg25 : BitVec 32) (v535 : BitVec 32) : Prop :=
  (∀ (k0_h53 : k0_cond53 arg24 = 1#1), ∀ (k0_h54 : k0_cond54 arg25 v535 = 1#1), 128 ∣ (k0_mult56 arg25 v535).toNat) ∧
  (∀ (k0_h53 : k0_cond53 arg24 = 1#1), ∀ (k0_h54 : k0_cond54 arg25 v535 = 1#1), 128 ∣ (k0_mult57 arg25 v535).toNat) ∧
  (∀ (k0_h53 : k0_cond53 arg24 = 1#1), ∀ (k0_h54 : k0_cond54 arg25 v535 = 1#1), ∀ a, (k0_off167 arg23) a + S1.size a ≤ S5.size a) ∧
  (∀ (k0_h53 : k0_cond53 arg24 = 1#1), ∀ (k0_h54 : k0_cond54 arg25 v535 = 1#1), ∀ a, (k0_off168 arg23 arg25 v535) a + S1x1024x896.size a ≤ S5x1024x896.size a) ∧
  (∀ (k0_h53 : k0_cond53 arg24 = 1#1), ∀ (k0_h54 : k0_cond54 arg25 v535 = 1#1), ∀ a, (k0_off169 arg24 arg25 v535) a + S1x1024x896.size a ≤ S48x8192x896.size a) ∧
  (∀ (k0_h53 : k0_cond53 arg24 = 1#1), ∀ (k0_h54 : k0_cond54 arg25 v535 = 1#1), ∀ (hinb : ∀ a, (k0_off169 arg24 arg25 v535) a + S1x1024x896.size a ≤ S48x8192x896.size a), (Rect.unit (s := S48x8192x896) (k0_off169 arg24 arg25 v535) S1x1024x896.size hinb).WholeWords (EltTy.packing .fp8e4m3)) ∧
  (∀ (k0_h53 : k0_cond53 arg24 = 1#1), ∀ (k0_h54 : k0_cond54 arg25 v535 = 1#1), ∀ (hinb : ∀ a, (k0_off168 arg23 arg25 v535) a + S1x1024x896.size a ≤ S5x1024x896.size a), (Rect.unit (s := S5x1024x896) (k0_off168 arg23 arg25 v535) S1x1024x896.size hinb).WholeWords (EltTy.packing .fp8e4m3)) ∧
  (∀ (k0_h53 : k0_cond53 arg24 = 1#1), ∀ (k0_h54 : k0_cond54 arg25 v535 = 1#1), ∀ a, (k0_off170 arg23 arg25 v535) a + S1x960x1024.size a ≤ S5x960x1024.size a) ∧
  (∀ (k0_h53 : k0_cond53 arg24 = 1#1), ∀ (k0_h54 : k0_cond54 arg25 v535 = 1#1), ∀ a, (k0_off171 arg24 arg25 v535) a + S1x960x1024.size a ≤ S48x960x8192.size a) ∧
  (∀ (k0_h53 : k0_cond53 arg24 = 1#1), ∀ (k0_h54 : k0_cond54 arg25 v535 = 1#1), ∀ (hinb : ∀ a, (k0_off171 arg24 arg25 v535) a + S1x960x1024.size a ≤ S48x960x8192.size a), (Rect.unit (s := S48x960x8192) (k0_off171 arg24 arg25 v535) S1x960x1024.size hinb).WholeWords (EltTy.packing .fp8e5m2)) ∧
  (∀ (k0_h53 : k0_cond53 arg24 = 1#1), ∀ (k0_h54 : k0_cond54 arg25 v535 = 1#1), ∀ (hinb : ∀ a, (k0_off170 arg23 arg25 v535) a + S1x960x1024.size a ≤ S5x960x1024.size a), (Rect.unit (s := S5x960x1024) (k0_off170 arg23 arg25 v535) S1x960x1024.size hinb).WholeWords (EltTy.packing .fp8e5m2)) ∧
  (∀ (k0_h53 : k0_cond53 arg24 = 1#1), ∀ (k0_h55 : k0_cond55 arg25 v535 = 1#1), 128 ∣ (k0_mult58 arg25 v535).toNat) ∧
  (∀ (k0_h53 : k0_cond53 arg24 = 1#1), ∀ (k0_h55 : k0_cond55 arg25 v535 = 1#1), 128 ∣ (k0_mult59 arg25 v535).toNat) ∧
  (∀ (k0_h53 : k0_cond53 arg24 = 1#1), ∀ (k0_h55 : k0_cond55 arg25 v535 = 1#1), ∀ a, (k0_off172 arg23) a + S1.size a ≤ S5.size a) ∧
  (∀ (k0_h53 : k0_cond53 arg24 = 1#1), ∀ (k0_h55 : k0_cond55 arg25 v535 = 1#1), ∀ a, (k0_off173 arg23 arg25 v535) a + S1x512x896.size a ≤ S5x1024x896.size a) ∧
  (∀ (k0_h53 : k0_cond53 arg24 = 1#1), ∀ (k0_h55 : k0_cond55 arg25 v535 = 1#1), ∀ a, (k0_off174 arg24 arg25 v535) a + S1x512x896.size a ≤ S48x8192x896.size a) ∧
  (∀ (k0_h53 : k0_cond53 arg24 = 1#1), ∀ (k0_h55 : k0_cond55 arg25 v535 = 1#1), ∀ (hinb : ∀ a, (k0_off174 arg24 arg25 v535) a + S1x512x896.size a ≤ S48x8192x896.size a), (Rect.unit (s := S48x8192x896) (k0_off174 arg24 arg25 v535) S1x512x896.size hinb).WholeWords (EltTy.packing .fp8e4m3)) ∧
  (∀ (k0_h53 : k0_cond53 arg24 = 1#1), ∀ (k0_h55 : k0_cond55 arg25 v535 = 1#1), ∀ (hinb : ∀ a, (k0_off173 arg23 arg25 v535) a + S1x512x896.size a ≤ S5x1024x896.size a), (Rect.unit (s := S5x1024x896) (k0_off173 arg23 arg25 v535) S1x512x896.size hinb).WholeWords (EltTy.packing .fp8e4m3)) ∧
  (∀ (k0_h53 : k0_cond53 arg24 = 1#1), ∀ (k0_h55 : k0_cond55 arg25 v535 = 1#1), ∀ a, (k0_off175 arg23 arg25 v535) a + S1x960x512.size a ≤ S5x960x1024.size a) ∧
  (∀ (k0_h53 : k0_cond53 arg24 = 1#1), ∀ (k0_h55 : k0_cond55 arg25 v535 = 1#1), ∀ a, (k0_off176 arg24 arg25 v535) a + S1x960x512.size a ≤ S48x960x8192.size a) ∧
  (∀ (k0_h53 : k0_cond53 arg24 = 1#1), ∀ (k0_h55 : k0_cond55 arg25 v535 = 1#1), ∀ (hinb : ∀ a, (k0_off176 arg24 arg25 v535) a + S1x960x512.size a ≤ S48x960x8192.size a), (Rect.unit (s := S48x960x8192) (k0_off176 arg24 arg25 v535) S1x960x512.size hinb).WholeWords (EltTy.packing .fp8e5m2)) ∧
  (∀ (k0_h53 : k0_cond53 arg24 = 1#1), ∀ (k0_h55 : k0_cond55 arg25 v535 = 1#1), ∀ (hinb : ∀ a, (k0_off175 arg23 arg25 v535) a + S1x960x512.size a ≤ S5x960x1024.size a), (Rect.unit (s := S5x960x1024) (k0_off175 arg23 arg25 v535) S1x960x512.size hinb).WholeWords (EltTy.packing .fp8e5m2)) ∧
  (∀ (k0_h53 : k0_cond53 arg24 = 1#1), ∀ (k0_h56 : k0_cond56 arg25 v535 = 1#1), 128 ∣ (k0_mult60 arg25 v535).toNat) ∧
  (∀ (k0_h53 : k0_cond53 arg24 = 1#1), ∀ (k0_h56 : k0_cond56 arg25 v535 = 1#1), 128 ∣ (k0_mult61 arg25 v535).toNat) ∧
  (∀ (k0_h53 : k0_cond53 arg24 = 1#1), ∀ (k0_h56 : k0_cond56 arg25 v535 = 1#1), ∀ a, (k0_off177 arg23) a + S1.size a ≤ S5.size a) ∧
  (∀ (k0_h53 : k0_cond53 arg24 = 1#1), ∀ (k0_h56 : k0_cond56 arg25 v535 = 1#1), ∀ a, (k0_off178 arg23 arg25 v535) a + S1x256x896.size a ≤ S5x1024x896.size a) ∧
  (∀ (k0_h53 : k0_cond53 arg24 = 1#1), ∀ (k0_h56 : k0_cond56 arg25 v535 = 1#1), ∀ a, (k0_off179 arg24 arg25 v535) a + S1x256x896.size a ≤ S48x8192x896.size a) ∧
  (∀ (k0_h53 : k0_cond53 arg24 = 1#1), ∀ (k0_h56 : k0_cond56 arg25 v535 = 1#1), ∀ (hinb : ∀ a, (k0_off179 arg24 arg25 v535) a + S1x256x896.size a ≤ S48x8192x896.size a), (Rect.unit (s := S48x8192x896) (k0_off179 arg24 arg25 v535) S1x256x896.size hinb).WholeWords (EltTy.packing .fp8e4m3)) ∧
  (∀ (k0_h53 : k0_cond53 arg24 = 1#1), ∀ (k0_h56 : k0_cond56 arg25 v535 = 1#1), ∀ (hinb : ∀ a, (k0_off178 arg23 arg25 v535) a + S1x256x896.size a ≤ S5x1024x896.size a), (Rect.unit (s := S5x1024x896) (k0_off178 arg23 arg25 v535) S1x256x896.size hinb).WholeWords (EltTy.packing .fp8e4m3)) ∧
  (∀ (k0_h53 : k0_cond53 arg24 = 1#1), ∀ (k0_h56 : k0_cond56 arg25 v535 = 1#1), ∀ a, (k0_off180 arg23 arg25 v535) a + S1x960x256.size a ≤ S5x960x1024.size a) ∧
  (∀ (k0_h53 : k0_cond53 arg24 = 1#1), ∀ (k0_h56 : k0_cond56 arg25 v535 = 1#1), ∀ a, (k0_off181 arg24 arg25 v535) a + S1x960x256.size a ≤ S48x960x8192.size a) ∧
  (∀ (k0_h53 : k0_cond53 arg24 = 1#1), ∀ (k0_h56 : k0_cond56 arg25 v535 = 1#1), ∀ (hinb : ∀ a, (k0_off181 arg24 arg25 v535) a + S1x960x256.size a ≤ S48x960x8192.size a), (Rect.unit (s := S48x960x8192) (k0_off181 arg24 arg25 v535) S1x960x256.size hinb).WholeWords (EltTy.packing .fp8e5m2))
def k0_chk17_1 (arg23 : BitVec 32) (arg24 : BitVec 32) (arg25 : BitVec 32) (v535 : BitVec 32) : Prop :=
  (∀ (k0_h53 : k0_cond53 arg24 = 1#1), ∀ (k0_h56 : k0_cond56 arg25 v535 = 1#1), ∀ (hinb : ∀ a, (k0_off180 arg23 arg25 v535) a + S1x960x256.size a ≤ S5x960x1024.size a), (Rect.unit (s := S5x960x1024) (k0_off180 arg23 arg25 v535) S1x960x256.size hinb).WholeWords (EltTy.packing .fp8e5m2)) ∧
  (∀ (k0_h53 : k0_cond53 arg24 = 1#1), ∀ (k0_h57 : k0_cond57 arg25 v535 = 1#1), 128 ∣ (k0_mult62 arg25 v535).toNat) ∧
  (∀ (k0_h53 : k0_cond53 arg24 = 1#1), ∀ (k0_h57 : k0_cond57 arg25 v535 = 1#1), 128 ∣ (k0_mult63 arg25 v535).toNat) ∧
  (∀ (k0_h53 : k0_cond53 arg24 = 1#1), ∀ (k0_h57 : k0_cond57 arg25 v535 = 1#1), ∀ a, (k0_off182 arg23) a + S1.size a ≤ S5.size a) ∧
  (∀ (k0_h53 : k0_cond53 arg24 = 1#1), ∀ (k0_h57 : k0_cond57 arg25 v535 = 1#1), ∀ a, (k0_off183 arg23 arg25 v535) a + S1x128x896.size a ≤ S5x1024x896.size a) ∧
  (∀ (k0_h53 : k0_cond53 arg24 = 1#1), ∀ (k0_h57 : k0_cond57 arg25 v535 = 1#1), ∀ a, (k0_off184 arg24 arg25 v535) a + S1x128x896.size a ≤ S48x8192x896.size a) ∧
  (∀ (k0_h53 : k0_cond53 arg24 = 1#1), ∀ (k0_h57 : k0_cond57 arg25 v535 = 1#1), ∀ (hinb : ∀ a, (k0_off184 arg24 arg25 v535) a + S1x128x896.size a ≤ S48x8192x896.size a), (Rect.unit (s := S48x8192x896) (k0_off184 arg24 arg25 v535) S1x128x896.size hinb).WholeWords (EltTy.packing .fp8e4m3)) ∧
  (∀ (k0_h53 : k0_cond53 arg24 = 1#1), ∀ (k0_h57 : k0_cond57 arg25 v535 = 1#1), ∀ (hinb : ∀ a, (k0_off183 arg23 arg25 v535) a + S1x128x896.size a ≤ S5x1024x896.size a), (Rect.unit (s := S5x1024x896) (k0_off183 arg23 arg25 v535) S1x128x896.size hinb).WholeWords (EltTy.packing .fp8e4m3)) ∧
  (∀ (k0_h53 : k0_cond53 arg24 = 1#1), ∀ (k0_h57 : k0_cond57 arg25 v535 = 1#1), ∀ a, (k0_off185 arg23 arg25 v535) a + S1x960x128.size a ≤ S5x960x1024.size a) ∧
  (∀ (k0_h53 : k0_cond53 arg24 = 1#1), ∀ (k0_h57 : k0_cond57 arg25 v535 = 1#1), ∀ a, (k0_off186 arg24 arg25 v535) a + S1x960x128.size a ≤ S48x960x8192.size a) ∧
  (∀ (k0_h53 : k0_cond53 arg24 = 1#1), ∀ (k0_h57 : k0_cond57 arg25 v535 = 1#1), ∀ (hinb : ∀ a, (k0_off186 arg24 arg25 v535) a + S1x960x128.size a ≤ S48x960x8192.size a), (Rect.unit (s := S48x960x8192) (k0_off186 arg24 arg25 v535) S1x960x128.size hinb).WholeWords (EltTy.packing .fp8e5m2)) ∧
  (∀ (k0_h53 : k0_cond53 arg24 = 1#1), ∀ (k0_h57 : k0_cond57 arg25 v535 = 1#1), ∀ (hinb : ∀ a, (k0_off185 arg23 arg25 v535) a + S1x960x128.size a ≤ S5x960x1024.size a), (Rect.unit (s := S5x960x1024) (k0_off185 arg23 arg25 v535) S1x960x128.size hinb).WholeWords (EltTy.packing .fp8e5m2))
def k0_chk17 (arg23 : BitVec 32) (arg24 : BitVec 32) (arg25 : BitVec 32) (v535 : BitVec 32) : Prop :=
  k0_chk17_0 arg23 arg24 arg25 v535 ∧
  k0_chk17_1 arg23 arg24 arg25 v535
theorem k0_mult56_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), 128 ∣ (k0_mult56 arg25 v535).toNat := fun arg23 arg24 arg25 v535 k0_hw17 k0_h53 k0_h54 => k0_hw17.1.1 k0_h53 k0_h54
theorem k0_mult57_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), 128 ∣ (k0_mult57 arg25 v535).toNat := fun arg23 arg24 arg25 v535 k0_hw17 k0_h53 k0_h54 => k0_hw17.1.2.1 k0_h53 k0_h54
theorem k0_off167_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), ∀ a, (k0_off167 arg23) a + S1.size a ≤ S5.size a := fun arg23 arg24 arg25 v535 k0_hw17 k0_h53 k0_h54 => k0_hw17.1.2.2.1 k0_h53 k0_h54
theorem k0_off168_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), ∀ a, (k0_off168 arg23 arg25 v535) a + S1x1024x896.size a ≤ S5x1024x896.size a := fun arg23 arg24 arg25 v535 k0_hw17 k0_h53 k0_h54 => k0_hw17.1.2.2.2.1 k0_h53 k0_h54
theorem k0_off169_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), ∀ a, (k0_off169 arg24 arg25 v535) a + S1x1024x896.size a ≤ S48x8192x896.size a := fun arg23 arg24 arg25 v535 k0_hw17 k0_h53 k0_h54 => k0_hw17.1.2.2.2.2.1 k0_h53 k0_h54
theorem k0_off169_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), (Rect.unit (s := S48x8192x896) (k0_off169 arg24 arg25 v535) S1x1024x896.size (k0_off169_inb arg23 arg24 arg25 v535 k0_hw17 k0_h53 k0_h54)).WholeWords (EltTy.packing .fp8e4m3) := fun arg23 arg24 arg25 v535 k0_hw17 k0_h53 k0_h54 => k0_hw17.1.2.2.2.2.2.1 k0_h53 k0_h54 (k0_off169_inb arg23 arg24 arg25 v535 k0_hw17 k0_h53 k0_h54)
theorem k0_off168_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), (Rect.unit (s := S5x1024x896) (k0_off168 arg23 arg25 v535) S1x1024x896.size (k0_off168_inb arg23 arg24 arg25 v535 k0_hw17 k0_h53 k0_h54)).WholeWords (EltTy.packing .fp8e4m3) := fun arg23 arg24 arg25 v535 k0_hw17 k0_h53 k0_h54 => k0_hw17.1.2.2.2.2.2.2.1 k0_h53 k0_h54 (k0_off168_inb arg23 arg24 arg25 v535 k0_hw17 k0_h53 k0_h54)
theorem k0_off170_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), ∀ a, (k0_off170 arg23 arg25 v535) a + S1x960x1024.size a ≤ S5x960x1024.size a := fun arg23 arg24 arg25 v535 k0_hw17 k0_h53 k0_h54 => k0_hw17.1.2.2.2.2.2.2.2.1 k0_h53 k0_h54
theorem k0_off171_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), ∀ a, (k0_off171 arg24 arg25 v535) a + S1x960x1024.size a ≤ S48x960x8192.size a := fun arg23 arg24 arg25 v535 k0_hw17 k0_h53 k0_h54 => k0_hw17.1.2.2.2.2.2.2.2.2.1 k0_h53 k0_h54
theorem k0_off171_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), (Rect.unit (s := S48x960x8192) (k0_off171 arg24 arg25 v535) S1x960x1024.size (k0_off171_inb arg23 arg24 arg25 v535 k0_hw17 k0_h53 k0_h54)).WholeWords (EltTy.packing .fp8e5m2) := fun arg23 arg24 arg25 v535 k0_hw17 k0_h53 k0_h54 => k0_hw17.1.2.2.2.2.2.2.2.2.2.1 k0_h53 k0_h54 (k0_off171_inb arg23 arg24 arg25 v535 k0_hw17 k0_h53 k0_h54)
theorem k0_off170_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h54 : k0_cond54 arg25 v535 = 1#1), (Rect.unit (s := S5x960x1024) (k0_off170 arg23 arg25 v535) S1x960x1024.size (k0_off170_inb arg23 arg24 arg25 v535 k0_hw17 k0_h53 k0_h54)).WholeWords (EltTy.packing .fp8e5m2) := fun arg23 arg24 arg25 v535 k0_hw17 k0_h53 k0_h54 => k0_hw17.1.2.2.2.2.2.2.2.2.2.2.1 k0_h53 k0_h54 (k0_off170_inb arg23 arg24 arg25 v535 k0_hw17 k0_h53 k0_h54)
theorem k0_mult58_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), 128 ∣ (k0_mult58 arg25 v535).toNat := fun arg23 arg24 arg25 v535 k0_hw17 k0_h53 k0_h55 => k0_hw17.1.2.2.2.2.2.2.2.2.2.2.2.1 k0_h53 k0_h55
theorem k0_mult59_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), 128 ∣ (k0_mult59 arg25 v535).toNat := fun arg23 arg24 arg25 v535 k0_hw17 k0_h53 k0_h55 => k0_hw17.1.2.2.2.2.2.2.2.2.2.2.2.2.1 k0_h53 k0_h55
theorem k0_off172_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), ∀ a, (k0_off172 arg23) a + S1.size a ≤ S5.size a := fun arg23 arg24 arg25 v535 k0_hw17 k0_h53 k0_h55 => k0_hw17.1.2.2.2.2.2.2.2.2.2.2.2.2.2.1 k0_h53 k0_h55
theorem k0_off173_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), ∀ a, (k0_off173 arg23 arg25 v535) a + S1x512x896.size a ≤ S5x1024x896.size a := fun arg23 arg24 arg25 v535 k0_hw17 k0_h53 k0_h55 => k0_hw17.1.2.2.2.2.2.2.2.2.2.2.2.2.2.2.1 k0_h53 k0_h55
theorem k0_off174_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), ∀ a, (k0_off174 arg24 arg25 v535) a + S1x512x896.size a ≤ S48x8192x896.size a := fun arg23 arg24 arg25 v535 k0_hw17 k0_h53 k0_h55 => k0_hw17.1.2.2.2.2.2.2.2.2.2.2.2.2.2.2.2.1 k0_h53 k0_h55
theorem k0_off174_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), (Rect.unit (s := S48x8192x896) (k0_off174 arg24 arg25 v535) S1x512x896.size (k0_off174_inb arg23 arg24 arg25 v535 k0_hw17 k0_h53 k0_h55)).WholeWords (EltTy.packing .fp8e4m3) := fun arg23 arg24 arg25 v535 k0_hw17 k0_h53 k0_h55 => k0_hw17.1.2.2.2.2.2.2.2.2.2.2.2.2.2.2.2.2.1 k0_h53 k0_h55 (k0_off174_inb arg23 arg24 arg25 v535 k0_hw17 k0_h53 k0_h55)
theorem k0_off173_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), (Rect.unit (s := S5x1024x896) (k0_off173 arg23 arg25 v535) S1x512x896.size (k0_off173_inb arg23 arg24 arg25 v535 k0_hw17 k0_h53 k0_h55)).WholeWords (EltTy.packing .fp8e4m3) := fun arg23 arg24 arg25 v535 k0_hw17 k0_h53 k0_h55 => k0_hw17.1.2.2.2.2.2.2.2.2.2.2.2.2.2.2.2.2.2.1 k0_h53 k0_h55 (k0_off173_inb arg23 arg24 arg25 v535 k0_hw17 k0_h53 k0_h55)
theorem k0_off175_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), ∀ a, (k0_off175 arg23 arg25 v535) a + S1x960x512.size a ≤ S5x960x1024.size a := fun arg23 arg24 arg25 v535 k0_hw17 k0_h53 k0_h55 => k0_hw17.1.2.2.2.2.2.2.2.2.2.2.2.2.2.2.2.2.2.2.1 k0_h53 k0_h55
theorem k0_off176_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), ∀ a, (k0_off176 arg24 arg25 v535) a + S1x960x512.size a ≤ S48x960x8192.size a := fun arg23 arg24 arg25 v535 k0_hw17 k0_h53 k0_h55 => k0_hw17.1.2.2.2.2.2.2.2.2.2.2.2.2.2.2.2.2.2.2.2.1 k0_h53 k0_h55
theorem k0_off176_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), (Rect.unit (s := S48x960x8192) (k0_off176 arg24 arg25 v535) S1x960x512.size (k0_off176_inb arg23 arg24 arg25 v535 k0_hw17 k0_h53 k0_h55)).WholeWords (EltTy.packing .fp8e5m2) := fun arg23 arg24 arg25 v535 k0_hw17 k0_h53 k0_h55 => k0_hw17.1.2.2.2.2.2.2.2.2.2.2.2.2.2.2.2.2.2.2.2.2.1 k0_h53 k0_h55 (k0_off176_inb arg23 arg24 arg25 v535 k0_hw17 k0_h53 k0_h55)
theorem k0_off175_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h55 : k0_cond55 arg25 v535 = 1#1), (Rect.unit (s := S5x960x1024) (k0_off175 arg23 arg25 v535) S1x960x512.size (k0_off175_inb arg23 arg24 arg25 v535 k0_hw17 k0_h53 k0_h55)).WholeWords (EltTy.packing .fp8e5m2) := fun arg23 arg24 arg25 v535 k0_hw17 k0_h53 k0_h55 => k0_hw17.1.2.2.2.2.2.2.2.2.2.2.2.2.2.2.2.2.2.2.2.2.2.1 k0_h53 k0_h55 (k0_off175_inb arg23 arg24 arg25 v535 k0_hw17 k0_h53 k0_h55)
theorem k0_mult60_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), 128 ∣ (k0_mult60 arg25 v535).toNat := fun arg23 arg24 arg25 v535 k0_hw17 k0_h53 k0_h56 => k0_hw17.1.2.2.2.2.2.2.2.2.2.2.2.2.2.2.2.2.2.2.2.2.2.2.1 k0_h53 k0_h56
theorem k0_mult61_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), 128 ∣ (k0_mult61 arg25 v535).toNat := fun arg23 arg24 arg25 v535 k0_hw17 k0_h53 k0_h56 => k0_hw17.1.2.2.2.2.2.2.2.2.2.2.2.2.2.2.2.2.2.2.2.2.2.2.2.1 k0_h53 k0_h56
theorem k0_off177_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), ∀ a, (k0_off177 arg23) a + S1.size a ≤ S5.size a := fun arg23 arg24 arg25 v535 k0_hw17 k0_h53 k0_h56 => k0_hw17.1.2.2.2.2.2.2.2.2.2.2.2.2.2.2.2.2.2.2.2.2.2.2.2.2.1 k0_h53 k0_h56
theorem k0_off178_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), ∀ a, (k0_off178 arg23 arg25 v535) a + S1x256x896.size a ≤ S5x1024x896.size a := fun arg23 arg24 arg25 v535 k0_hw17 k0_h53 k0_h56 => k0_hw17.1.2.2.2.2.2.2.2.2.2.2.2.2.2.2.2.2.2.2.2.2.2.2.2.2.2.1 k0_h53 k0_h56
theorem k0_off179_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), ∀ a, (k0_off179 arg24 arg25 v535) a + S1x256x896.size a ≤ S48x8192x896.size a := fun arg23 arg24 arg25 v535 k0_hw17 k0_h53 k0_h56 => k0_hw17.1.2.2.2.2.2.2.2.2.2.2.2.2.2.2.2.2.2.2.2.2.2.2.2.2.2.2.1 k0_h53 k0_h56
theorem k0_off179_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), (Rect.unit (s := S48x8192x896) (k0_off179 arg24 arg25 v535) S1x256x896.size (k0_off179_inb arg23 arg24 arg25 v535 k0_hw17 k0_h53 k0_h56)).WholeWords (EltTy.packing .fp8e4m3) := fun arg23 arg24 arg25 v535 k0_hw17 k0_h53 k0_h56 => k0_hw17.1.2.2.2.2.2.2.2.2.2.2.2.2.2.2.2.2.2.2.2.2.2.2.2.2.2.2.2.1 k0_h53 k0_h56 (k0_off179_inb arg23 arg24 arg25 v535 k0_hw17 k0_h53 k0_h56)
theorem k0_off178_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), (Rect.unit (s := S5x1024x896) (k0_off178 arg23 arg25 v535) S1x256x896.size (k0_off178_inb arg23 arg24 arg25 v535 k0_hw17 k0_h53 k0_h56)).WholeWords (EltTy.packing .fp8e4m3) := fun arg23 arg24 arg25 v535 k0_hw17 k0_h53 k0_h56 => k0_hw17.1.2.2.2.2.2.2.2.2.2.2.2.2.2.2.2.2.2.2.2.2.2.2.2.2.2.2.2.2.1 k0_h53 k0_h56 (k0_off178_inb arg23 arg24 arg25 v535 k0_hw17 k0_h53 k0_h56)
theorem k0_off180_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), ∀ a, (k0_off180 arg23 arg25 v535) a + S1x960x256.size a ≤ S5x960x1024.size a := fun arg23 arg24 arg25 v535 k0_hw17 k0_h53 k0_h56 => k0_hw17.1.2.2.2.2.2.2.2.2.2.2.2.2.2.2.2.2.2.2.2.2.2.2.2.2.2.2.2.2.2.1 k0_h53 k0_h56
theorem k0_off181_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), ∀ a, (k0_off181 arg24 arg25 v535) a + S1x960x256.size a ≤ S48x960x8192.size a := fun arg23 arg24 arg25 v535 k0_hw17 k0_h53 k0_h56 => k0_hw17.1.2.2.2.2.2.2.2.2.2.2.2.2.2.2.2.2.2.2.2.2.2.2.2.2.2.2.2.2.2.2.1 k0_h53 k0_h56
theorem k0_off181_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), (Rect.unit (s := S48x960x8192) (k0_off181 arg24 arg25 v535) S1x960x256.size (k0_off181_inb arg23 arg24 arg25 v535 k0_hw17 k0_h53 k0_h56)).WholeWords (EltTy.packing .fp8e5m2) := fun arg23 arg24 arg25 v535 k0_hw17 k0_h53 k0_h56 => k0_hw17.1.2.2.2.2.2.2.2.2.2.2.2.2.2.2.2.2.2.2.2.2.2.2.2.2.2.2.2.2.2.2.2 k0_h53 k0_h56 (k0_off181_inb arg23 arg24 arg25 v535 k0_hw17 k0_h53 k0_h56)
theorem k0_off180_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h56 : k0_cond56 arg25 v535 = 1#1), (Rect.unit (s := S5x960x1024) (k0_off180 arg23 arg25 v535) S1x960x256.size (k0_off180_inb arg23 arg24 arg25 v535 k0_hw17 k0_h53 k0_h56)).WholeWords (EltTy.packing .fp8e5m2) := fun arg23 arg24 arg25 v535 k0_hw17 k0_h53 k0_h56 => k0_hw17.2.1 k0_h53 k0_h56 (k0_off180_inb arg23 arg24 arg25 v535 k0_hw17 k0_h53 k0_h56)
theorem k0_mult62_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), 128 ∣ (k0_mult62 arg25 v535).toNat := fun arg23 arg24 arg25 v535 k0_hw17 k0_h53 k0_h57 => k0_hw17.2.2.1 k0_h53 k0_h57
theorem k0_mult63_dvd : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), 128 ∣ (k0_mult63 arg25 v535).toNat := fun arg23 arg24 arg25 v535 k0_hw17 k0_h53 k0_h57 => k0_hw17.2.2.2.1 k0_h53 k0_h57
theorem k0_off182_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), ∀ a, (k0_off182 arg23) a + S1.size a ≤ S5.size a := fun arg23 arg24 arg25 v535 k0_hw17 k0_h53 k0_h57 => k0_hw17.2.2.2.2.1 k0_h53 k0_h57
theorem k0_off183_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), ∀ a, (k0_off183 arg23 arg25 v535) a + S1x128x896.size a ≤ S5x1024x896.size a := fun arg23 arg24 arg25 v535 k0_hw17 k0_h53 k0_h57 => k0_hw17.2.2.2.2.2.1 k0_h53 k0_h57
theorem k0_off184_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), ∀ a, (k0_off184 arg24 arg25 v535) a + S1x128x896.size a ≤ S48x8192x896.size a := fun arg23 arg24 arg25 v535 k0_hw17 k0_h53 k0_h57 => k0_hw17.2.2.2.2.2.2.1 k0_h53 k0_h57
theorem k0_off184_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), (Rect.unit (s := S48x8192x896) (k0_off184 arg24 arg25 v535) S1x128x896.size (k0_off184_inb arg23 arg24 arg25 v535 k0_hw17 k0_h53 k0_h57)).WholeWords (EltTy.packing .fp8e4m3) := fun arg23 arg24 arg25 v535 k0_hw17 k0_h53 k0_h57 => k0_hw17.2.2.2.2.2.2.2.1 k0_h53 k0_h57 (k0_off184_inb arg23 arg24 arg25 v535 k0_hw17 k0_h53 k0_h57)
theorem k0_off183_wordsfp8e4m3 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), (Rect.unit (s := S5x1024x896) (k0_off183 arg23 arg25 v535) S1x128x896.size (k0_off183_inb arg23 arg24 arg25 v535 k0_hw17 k0_h53 k0_h57)).WholeWords (EltTy.packing .fp8e4m3) := fun arg23 arg24 arg25 v535 k0_hw17 k0_h53 k0_h57 => k0_hw17.2.2.2.2.2.2.2.2.1 k0_h53 k0_h57 (k0_off183_inb arg23 arg24 arg25 v535 k0_hw17 k0_h53 k0_h57)
theorem k0_off185_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), ∀ a, (k0_off185 arg23 arg25 v535) a + S1x960x128.size a ≤ S5x960x1024.size a := fun arg23 arg24 arg25 v535 k0_hw17 k0_h53 k0_h57 => k0_hw17.2.2.2.2.2.2.2.2.2.1 k0_h53 k0_h57
theorem k0_off186_inb : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), ∀ a, (k0_off186 arg24 arg25 v535) a + S1x960x128.size a ≤ S48x960x8192.size a := fun arg23 arg24 arg25 v535 k0_hw17 k0_h53 k0_h57 => k0_hw17.2.2.2.2.2.2.2.2.2.2.1 k0_h53 k0_h57
theorem k0_off186_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), (Rect.unit (s := S48x960x8192) (k0_off186 arg24 arg25 v535) S1x960x128.size (k0_off186_inb arg23 arg24 arg25 v535 k0_hw17 k0_h53 k0_h57)).WholeWords (EltTy.packing .fp8e5m2) := fun arg23 arg24 arg25 v535 k0_hw17 k0_h53 k0_h57 => k0_hw17.2.2.2.2.2.2.2.2.2.2.2.1 k0_h53 k0_h57 (k0_off186_inb arg23 arg24 arg25 v535 k0_hw17 k0_h53 k0_h57)
theorem k0_off185_wordsfp8e5m2 : ∀ (arg23 : BitVec 32) (arg24 : BitVec 32) (arg25 : BitVec 32) (v535 : BitVec 32) (k0_hw17 : k0_chk17 arg23 arg24 arg25 v535), ∀ (k0_h53 : k0_cond53 arg24 = 1#1), ∀ (k0_h57 : k0_cond57 arg25 v535 = 1#1), (Rect.unit (s := S5x960x1024) (k0_off185 arg23 arg25 v535) S1x960x128.size (k0_off185_inb arg23 arg24 arg25 v535 k0_hw17 k0_h53 k0_h57)).WholeWords (EltTy.packing .fp8e5m2) := fun arg23 arg24 arg25 v535 k0_hw17 k0_h53 k0_h57 => k0_hw17.2.2.2.2.2.2.2.2.2.2.2.2 k0_h53 k0_h57 (k0_off185_inb arg23 arg24 arg25 v535 k0_hw17 k0_h53 k0_h57)

def k0_off187 (arg24 : BitVec 32) : Fin 1 → Nat :=
  let c47_i32_309 : BitVec 32 := 47#32
  let v493 : BitVec 32 := Scalar.minsi arg24 c47_i32_309
  let v497 : Index := Scalar.indexCast v493
  ![v497.toNat]

def k0_chk15 (arg23 : BitVec 32) (arg24 : BitVec 32) : Prop :=
  (∀ (k0_h53 : k0_cond53 arg24 = 1#1), ∀ a, (k0_off161 arg24) a + S1.size a ≤ S48.size a) ∧
  (∀ (k0_h53 : k0_cond53 arg24 = 1#1), ∀ a, (k0_off162 arg23) a + S1.size a ≤ S5.size a) ∧
  (∀ (k0_h53 : k0_cond53 arg24 = 1#1), ∀ a, (k0_off163 arg23) a + S1x8x896.size a ≤ S5x8x896.size a) ∧
  (∀ (k0_h53 : k0_cond53 arg24 = 1#1), ∀ a, (k0_off165 arg23) a + S1x8x960.size a ≤ S5x8x960.size a) ∧
  (∀ a, (k0_off187 arg24) a + S1.size a ≤ S48.size a)
theorem k0_off161_inb : ∀ (arg23 : BitVec 32) (arg24 : BitVec 32) (k0_hw15 : k0_chk15 arg23 arg24), ∀ (k0_h53 : k0_cond53 arg24 = 1#1), ∀ a, (k0_off161 arg24) a + S1.size a ≤ S48.size a := fun arg23 arg24 k0_hw15 k0_h53 => k0_hw15.1 k0_h53
theorem k0_off162_inb : ∀ (arg23 : BitVec 32) (arg24 : BitVec 32) (k0_hw15 : k0_chk15 arg23 arg24), ∀ (k0_h53 : k0_cond53 arg24 = 1#1), ∀ a, (k0_off162 arg23) a + S1.size a ≤ S5.size a := fun arg23 arg24 k0_hw15 k0_h53 => k0_hw15.2.1 k0_h53
theorem k0_off163_inb : ∀ (arg23 : BitVec 32) (arg24 : BitVec 32) (k0_hw15 : k0_chk15 arg23 arg24), ∀ (k0_h53 : k0_cond53 arg24 = 1#1), ∀ a, (k0_off163 arg23) a + S1x8x896.size a ≤ S5x8x896.size a := fun arg23 arg24 k0_hw15 k0_h53 => k0_hw15.2.2.1 k0_h53
theorem k0_off165_inb : ∀ (arg23 : BitVec 32) (arg24 : BitVec 32) (k0_hw15 : k0_chk15 arg23 arg24), ∀ (k0_h53 : k0_cond53 arg24 = 1#1), ∀ a, (k0_off165 arg23) a + S1x8x960.size a ≤ S5x8x960.size a := fun arg23 arg24 k0_hw15 k0_h53 => k0_hw15.2.2.2.1 k0_h53
theorem k0_off187_inb : ∀ (arg23 : BitVec 32) (arg24 : BitVec 32) (k0_hw15 : k0_chk15 arg23 arg24), ∀ a, (k0_off187 arg24) a + S1.size a ≤ S48.size a := fun arg23 arg24 k0_hw15 => k0_hw15.2.2.2.2

@[reducible] def k0_t9_loop : Scf.Loop 32 :=
  let c0_i32_333 : BitVec 32 := 0#32
  let c48_i32_334 : BitVec 32 := 48#32
  let v535 : BitVec 32 := Scalar.addi c0_i32_333 c48_i32_334
  let c1_i32_335 : BitVec 32 := 1#32
  ⟨c0_i32_333, v535, c1_i32_335⟩
def k0_off188 (k0_t9 : Fin k0_t9_loop.trips) : Fin 1 → Nat :=
  let c47_i32_337 : BitVec 32 := 47#32
  let c0_i32_333 : BitVec 32 := 0#32
  let c1_i32_335 : BitVec 32 := 1#32
  let arg26 : BitVec 32 := Scf.iv c0_i32_333 c1_i32_335 k0_t9
  let v537 : BitVec 32 := Scalar.subi c47_i32_337 arg26
  let v539 : Index := Scalar.indexCast v537
  ![v539.toNat]
def k0_off189 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v534 : Index := Scalar.indexCast v275
  let c0_331 : Index := 0#32
  let c0_332 : Index := 0#32
  ![v534.toNat, 0, 0]
def k0_off190 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v543 : Index := Scalar.indexCast v275
  let c0_337 : Index := 0#32
  let c0_338 : Index := 0#32
  ![v543.toNat, 0, 0]
def k0_off191 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v543 : Index := Scalar.indexCast v275
  let c0_337 : Index := 0#32
  let c0_338 : Index := 0#32
  ![v543.toNat, 0, 0]
def k0_off192 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v543 : Index := Scalar.indexCast v275
  let c0_337 : Index := 0#32
  let c0_338 : Index := 0#32
  ![v543.toNat, 0, 0]
@[reducible] def k0_t10_loop (v304 : BitVec 32) : Scf.Loop 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let v324 : BitVec 32 := Scalar.addi c0_i32_214 v323
  let c1_i32_217 : BitVec 32 := 1#32
  ⟨v327, v324, c1_i32_217⟩
def k0_off193 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let v346 : Index := Scalar.indexCast arg18
  ![v346.toNat]
def k0_mult64 (v304 : BitVec 32) (k0_t10 : Fin (k0_t10_loop v304).trips) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c8_i32_246 : BitVec 32 := 8#32
  let v392 : BitVec 32 := Scalar.muli arg22 c8_i32_246
  v392
def k0_off194 (arg23 : BitVec 32) : Fin 1 → Nat :=
  ![arg23.toNat]

def k0_off195 (arg23 : BitVec 32) : Fin 3 → Nat :=
  let c0_i32_247 : BitVec 32 := 0#32
  let c0_i32_248 : BitVec 32 := 0#32
  ![arg23.toNat, 0, 0]
def k0_off196 (k0_t7 : Fin k0_t7_loop.trips) (v304 : BitVec 32) (k0_t10 : Fin (k0_t10_loop v304).trips) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c8_i32_246 : BitVec 32 := 8#32
  let v392 : BitVec 32 := Scalar.muli arg22 c8_i32_246
  let v393 : BitVec 32 := v392
  let c0_i32_249 : BitVec 32 := 0#32
  ![arg18.toNat, v393.toNat, 0]
def k0_off197 (arg23 : BitVec 32) : Fin 3 → Nat :=
  let c0_i32_250 : BitVec 32 := 0#32
  let c0_i32_251 : BitVec 32 := 0#32
  ![arg23.toNat, 0, 0]
def k0_off198 (k0_t7 : Fin k0_t7_loop.trips) (v304 : BitVec 32) (k0_t10 : Fin (k0_t10_loop v304).trips) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c8_i32_246 : BitVec 32 := 8#32
  let v392 : BitVec 32 := Scalar.muli arg22 c8_i32_246
  let v393 : BitVec 32 := v392
  let c0_i32_252 : BitVec 32 := 0#32
  ![arg18.toNat, v393.toNat, 0]

def k0_chk11 (k0_t7 : Fin k0_t7_loop.trips) (v304 : BitVec 32) : Prop :=
  ((k0_t8_loop v304).OK) ∧
  (∀ k0_t8 : Fin (k0_t8_loop v304).trips, 8 ∣ (k0_mult46 v304 k0_t8).toNat) ∧
  (∀ k0_t8 : Fin (k0_t8_loop v304).trips, ∀ a, (k0_off120 k0_t7 v304 k0_t8) a + S1x8x896.size a ≤ S48x64x896.size a) ∧
  (∀ k0_t8 : Fin (k0_t8_loop v304).trips, ∀ a, (k0_off122 k0_t7 v304 k0_t8) a + S1x8x960.size a ≤ S48x64x960.size a) ∧
  ((k0_t10_loop v304).OK) ∧
  (∀ k0_t10 : Fin (k0_t10_loop v304).trips, 8 ∣ (k0_mult64 v304 k0_t10).toNat) ∧
  (∀ k0_t10 : Fin (k0_t10_loop v304).trips, ∀ a, (k0_off196 k0_t7 v304 k0_t10) a + S1x8x896.size a ≤ S48x64x896.size a) ∧
  (∀ k0_t10 : Fin (k0_t10_loop v304).trips, ∀ a, (k0_off198 k0_t7 v304 k0_t10) a + S1x8x960.size a ≤ S48x64x960.size a)
theorem k0_t8_ok : ∀ (k0_t7 : Fin k0_t7_loop.trips) (v304 : BitVec 32) (k0_hw11 : k0_chk11 k0_t7 v304), (k0_t8_loop v304).OK := fun k0_t7 v304 k0_hw11 => k0_hw11.1
theorem k0_mult46_dvd : ∀ (k0_t7 : Fin k0_t7_loop.trips) (v304 : BitVec 32) (k0_hw11 : k0_chk11 k0_t7 v304) (k0_t8 : Fin (k0_t8_loop v304).trips), 8 ∣ (k0_mult46 v304 k0_t8).toNat := fun k0_t7 v304 k0_hw11 k0_t8 => k0_hw11.2.1 k0_t8
theorem k0_off120_inb : ∀ (k0_t7 : Fin k0_t7_loop.trips) (v304 : BitVec 32) (k0_hw11 : k0_chk11 k0_t7 v304) (k0_t8 : Fin (k0_t8_loop v304).trips), ∀ a, (k0_off120 k0_t7 v304 k0_t8) a + S1x8x896.size a ≤ S48x64x896.size a := fun k0_t7 v304 k0_hw11 k0_t8 => k0_hw11.2.2.1 k0_t8
theorem k0_off122_inb : ∀ (k0_t7 : Fin k0_t7_loop.trips) (v304 : BitVec 32) (k0_hw11 : k0_chk11 k0_t7 v304) (k0_t8 : Fin (k0_t8_loop v304).trips), ∀ a, (k0_off122 k0_t7 v304 k0_t8) a + S1x8x960.size a ≤ S48x64x960.size a := fun k0_t7 v304 k0_hw11 k0_t8 => k0_hw11.2.2.2.1 k0_t8
theorem k0_t10_ok : ∀ (k0_t7 : Fin k0_t7_loop.trips) (v304 : BitVec 32) (k0_hw11 : k0_chk11 k0_t7 v304), (k0_t10_loop v304).OK := fun k0_t7 v304 k0_hw11 => k0_hw11.2.2.2.2.1
theorem k0_mult64_dvd : ∀ (k0_t7 : Fin k0_t7_loop.trips) (v304 : BitVec 32) (k0_hw11 : k0_chk11 k0_t7 v304) (k0_t10 : Fin (k0_t10_loop v304).trips), 8 ∣ (k0_mult64 v304 k0_t10).toNat := fun k0_t7 v304 k0_hw11 k0_t10 => k0_hw11.2.2.2.2.2.1 k0_t10
theorem k0_off196_inb : ∀ (k0_t7 : Fin k0_t7_loop.trips) (v304 : BitVec 32) (k0_hw11 : k0_chk11 k0_t7 v304) (k0_t10 : Fin (k0_t10_loop v304).trips), ∀ a, (k0_off196 k0_t7 v304 k0_t10) a + S1x8x896.size a ≤ S48x64x896.size a := fun k0_t7 v304 k0_hw11 k0_t10 => k0_hw11.2.2.2.2.2.2.1 k0_t10
theorem k0_off198_inb : ∀ (k0_t7 : Fin k0_t7_loop.trips) (v304 : BitVec 32) (k0_hw11 : k0_chk11 k0_t7 v304) (k0_t10 : Fin (k0_t10_loop v304).trips), ∀ a, (k0_off198 k0_t7 v304 k0_t10) a + S1x8x960.size a ≤ S48x64x960.size a := fun k0_t7 v304 k0_hw11 k0_t10 => k0_hw11.2.2.2.2.2.2.2 k0_t10

def k0_mult65 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_332 : BitVec 32 := 128#32
  let v535 : BitVec 32 := Scalar.muli v406 c128_i32_332
  let v536 : BitVec 32 := Scalar.addi v534 v535
  v536
def k0_cond64 (v304 : BitVec 32) (k0_t10 : Fin (k0_t10_loop v304).trips) (v370 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_254 : BitVec 32 := 8#32
  let v407 : BitVec 32 := Scalar.andi v391 c8_i32_254
  let c0_i32_255 : BitVec 32 := 0#32
  let v408 : BitVec 1 := Scalar.cmpi .ne v407 c0_i32_255
  let v409 : BitVec 32 := Scalar.extui v408
  let c0_i32_256 : BitVec 32 := 0#32
  let v410 : BitVec 1 := Scalar.cmpi .ne v409 c0_i32_256
  v410

def k0_mult66 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_333 : BitVec 32 := 128#32
  let v538 : BitVec 32 := Scalar.muli v406 c128_i32_333
  v538
def k0_off199 (arg23 : BitVec 32) : Fin 1 → Nat :=
  ![arg23.toNat]
def k0_off200 (v304 : BitVec 32) (k0_t10 : Fin (k0_t10_loop v304).trips) (arg23 : BitVec 32) (v370 : BitVec 32) : Fin 3 → Nat :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_333 : BitVec 32 := 128#32
  let v538 : BitVec 32 := Scalar.muli v406 c128_i32_333
  let v539 : BitVec 32 := v538
  let c0_i32_334 : BitVec 32 := 0#32
  ![arg23.toNat, v539.toNat, 0]
def k0_off201 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_332 : BitVec 32 := 128#32
  let v535 : BitVec 32 := Scalar.muli v406 c128_i32_332
  let v536 : BitVec 32 := Scalar.addi v534 v535
  let v537 : BitVec 32 := v536
  let c0_i32_335 : BitVec 32 := 0#32
  ![arg18.toNat, v537.toNat, 0]
def k0_off202 (v304 : BitVec 32) (k0_t10 : Fin (k0_t10_loop v304).trips) (arg23 : BitVec 32) (v370 : BitVec 32) : Fin 3 → Nat :=
  let c0_i32_336 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_333 : BitVec 32 := 128#32
  let v538 : BitVec 32 := Scalar.muli v406 c128_i32_333
  let v539 : BitVec 32 := v538
  ![arg23.toNat, 0, v539.toNat]
def k0_off203 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c0_i32_253 : BitVec 32 := 0#32
  let v406 : BitVec 32 := Scalar.andi v391 c0_i32_253
  let c128_i32_332 : BitVec 32 := 128#32
  let v535 : BitVec 32 := Scalar.muli v406 c128_i32_332
  let v536 : BitVec 32 := Scalar.addi v534 v535
  let v537 : BitVec 32 := v536
  ![arg18.toNat, 0, v537.toNat]
def k0_mult67 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_332 : BitVec 32 := 128#32
  let v535 : BitVec 32 := Scalar.muli v411 c128_i32_332
  let v536 : BitVec 32 := Scalar.addi v534 v535
  v536
def k0_cond65 (v304 : BitVec 32) (k0_t10 : Fin (k0_t10_loop v304).trips) (v370 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c4_i32_258 : BitVec 32 := 4#32
  let v412 : BitVec 32 := Scalar.andi v391 c4_i32_258
  let c0_i32_259 : BitVec 32 := 0#32
  let v413 : BitVec 1 := Scalar.cmpi .ne v412 c0_i32_259
  let v414 : BitVec 32 := Scalar.extui v413
  let c0_i32_260 : BitVec 32 := 0#32
  let v415 : BitVec 1 := Scalar.cmpi .ne v414 c0_i32_260
  v415

def k0_mult68 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_333 : BitVec 32 := 128#32
  let v538 : BitVec 32 := Scalar.muli v411 c128_i32_333
  v538
def k0_off204 (arg23 : BitVec 32) : Fin 1 → Nat :=
  ![arg23.toNat]
def k0_off205 (v304 : BitVec 32) (k0_t10 : Fin (k0_t10_loop v304).trips) (arg23 : BitVec 32) (v370 : BitVec 32) : Fin 3 → Nat :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_333 : BitVec 32 := 128#32
  let v538 : BitVec 32 := Scalar.muli v411 c128_i32_333
  let v539 : BitVec 32 := v538
  let c0_i32_334 : BitVec 32 := 0#32
  ![arg23.toNat, v539.toNat, 0]
def k0_off206 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_332 : BitVec 32 := 128#32
  let v535 : BitVec 32 := Scalar.muli v411 c128_i32_332
  let v536 : BitVec 32 := Scalar.addi v534 v535
  let v537 : BitVec 32 := v536
  let c0_i32_335 : BitVec 32 := 0#32
  ![arg18.toNat, v537.toNat, 0]
def k0_off207 (v304 : BitVec 32) (k0_t10 : Fin (k0_t10_loop v304).trips) (arg23 : BitVec 32) (v370 : BitVec 32) : Fin 3 → Nat :=
  let c0_i32_336 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_333 : BitVec 32 := 128#32
  let v538 : BitVec 32 := Scalar.muli v411 c128_i32_333
  let v539 : BitVec 32 := v538
  ![arg23.toNat, 0, v539.toNat]
def k0_off208 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c8_i32_257 : BitVec 32 := 8#32
  let v411 : BitVec 32 := Scalar.andi v391 c8_i32_257
  let c128_i32_332 : BitVec 32 := 128#32
  let v535 : BitVec 32 := Scalar.muli v411 c128_i32_332
  let v536 : BitVec 32 := Scalar.addi v534 v535
  let v537 : BitVec 32 := v536
  ![arg18.toNat, 0, v537.toNat]
def k0_mult69 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_332 : BitVec 32 := 128#32
  let v535 : BitVec 32 := Scalar.muli v416 c128_i32_332
  let v536 : BitVec 32 := Scalar.addi v534 v535
  v536
def k0_cond66 (v304 : BitVec 32) (k0_t10 : Fin (k0_t10_loop v304).trips) (v370 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c2_i32_261 : BitVec 32 := 2#32
  let v417 : BitVec 32 := Scalar.andi v391 c2_i32_261
  let c0_i32_262 : BitVec 32 := 0#32
  let v418 : BitVec 1 := Scalar.cmpi .ne v417 c0_i32_262
  let v419 : BitVec 32 := Scalar.extui v418
  let c0_i32_263 : BitVec 32 := 0#32
  let v420 : BitVec 1 := Scalar.cmpi .ne v419 c0_i32_263
  v420

def k0_mult70 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_333 : BitVec 32 := 128#32
  let v538 : BitVec 32 := Scalar.muli v416 c128_i32_333
  v538
def k0_off209 (arg23 : BitVec 32) : Fin 1 → Nat :=
  ![arg23.toNat]
def k0_off210 (v304 : BitVec 32) (k0_t10 : Fin (k0_t10_loop v304).trips) (arg23 : BitVec 32) (v370 : BitVec 32) : Fin 3 → Nat :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_333 : BitVec 32 := 128#32
  let v538 : BitVec 32 := Scalar.muli v416 c128_i32_333
  let v539 : BitVec 32 := v538
  let c0_i32_334 : BitVec 32 := 0#32
  ![arg23.toNat, v539.toNat, 0]
def k0_off211 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_332 : BitVec 32 := 128#32
  let v535 : BitVec 32 := Scalar.muli v416 c128_i32_332
  let v536 : BitVec 32 := Scalar.addi v534 v535
  let v537 : BitVec 32 := v536
  let c0_i32_335 : BitVec 32 := 0#32
  ![arg18.toNat, v537.toNat, 0]
def k0_off212 (v304 : BitVec 32) (k0_t10 : Fin (k0_t10_loop v304).trips) (arg23 : BitVec 32) (v370 : BitVec 32) : Fin 3 → Nat :=
  let c0_i32_336 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_333 : BitVec 32 := 128#32
  let v538 : BitVec 32 := Scalar.muli v416 c128_i32_333
  let v539 : BitVec 32 := v538
  ![arg23.toNat, 0, v539.toNat]
def k0_off213 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c12_i32 : BitVec 32 := 12#32
  let v416 : BitVec 32 := Scalar.andi v391 c12_i32
  let c128_i32_332 : BitVec 32 := 128#32
  let v535 : BitVec 32 := Scalar.muli v416 c128_i32_332
  let v536 : BitVec 32 := Scalar.addi v534 v535
  let v537 : BitVec 32 := v536
  ![arg18.toNat, 0, v537.toNat]
def k0_mult71 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_332 : BitVec 32 := 128#32
  let v535 : BitVec 32 := Scalar.muli v421 c128_i32_332
  let v536 : BitVec 32 := Scalar.addi v534 v535
  v536
def k0_cond67 (v304 : BitVec 32) (k0_t10 : Fin (k0_t10_loop v304).trips) (v370 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c1_i32_264 : BitVec 32 := 1#32
  let v422 : BitVec 32 := Scalar.andi v391 c1_i32_264
  let c0_i32_265 : BitVec 32 := 0#32
  let v423 : BitVec 1 := Scalar.cmpi .ne v422 c0_i32_265
  let v424 : BitVec 32 := Scalar.extui v423
  let c0_i32_266 : BitVec 32 := 0#32
  let v425 : BitVec 1 := Scalar.cmpi .ne v424 c0_i32_266
  v425

def k0_mult72 (v304 : BitVec 32) (k0_t10 : Fin (k0_t10_loop v304).trips) (v370 : BitVec 32) : BitVec 32 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_333 : BitVec 32 := 128#32
  let v538 : BitVec 32 := Scalar.muli v421 c128_i32_333
  v538
def k0_off214 (arg23 : BitVec 32) : Fin 1 → Nat :=
  ![arg23.toNat]
def k0_off215 (v304 : BitVec 32) (k0_t10 : Fin (k0_t10_loop v304).trips) (arg23 : BitVec 32) (v370 : BitVec 32) : Fin 3 → Nat :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_333 : BitVec 32 := 128#32
  let v538 : BitVec 32 := Scalar.muli v421 c128_i32_333
  let v539 : BitVec 32 := v538
  let c0_i32_334 : BitVec 32 := 0#32
  ![arg23.toNat, v539.toNat, 0]
def k0_off216 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_332 : BitVec 32 := 128#32
  let v535 : BitVec 32 := Scalar.muli v421 c128_i32_332
  let v536 : BitVec 32 := Scalar.addi v534 v535
  let v537 : BitVec 32 := v536
  let c0_i32_335 : BitVec 32 := 0#32
  ![arg18.toNat, v537.toNat, 0]
def k0_off217 (v304 : BitVec 32) (k0_t10 : Fin (k0_t10_loop v304).trips) (arg23 : BitVec 32) (v370 : BitVec 32) : Fin 3 → Nat :=
  let c0_i32_336 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_333 : BitVec 32 := 128#32
  let v538 : BitVec 32 := Scalar.muli v421 c128_i32_333
  let v539 : BitVec 32 := v538
  ![arg23.toNat, 0, v539.toNat]
def k0_off218 (k0_t7 : Fin k0_t7_loop.trips) (v304 : BitVec 32) (k0_t10 : Fin (k0_t10_loop v304).trips) (v370 : BitVec 32) : Fin 3 → Nat :=
  let c0_i32_123 : BitVec 32 := 0#32
  let c1_i32_125 : BitVec 32 := 1#32
  let arg18 : BitVec 32 := Scf.iv c0_i32_123 c1_i32_125 k0_t7
  let c0_i32_337 : BitVec 32 := 0#32
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_331 : BitVec 32 := 1024#32
  let v534 : BitVec 32 := Scalar.muli arg22 c1024_i32_331
  let c1024_i32_236 : BitVec 32 := 1024#32
  let v371 : BitVec 32 := Scalar.muli arg22 c1024_i32_236
  let v372 : BitVec 32 := Scalar.subi v370 v371
  let c127_i32_237 : BitVec 32 := 127#32
  let v373 : BitVec 32 := Scalar.addi v372 c127_i32_237
  let c0_i32_239 : BitVec 32 := 0#32
  let v375 : BitVec 1 := Scalar.cmpi .sgt v373 c0_i32_239
  let v376 : BitVec 32 := Scalar.extui v375
  let c0_i32_240 : BitVec 32 := 0#32
  let v377 : BitVec 1 := Scalar.cmpi .slt v373 c0_i32_240
  let v378 : BitVec 32 := Scalar.extui v377
  let v379 : BitVec 32 := Scalar.subi v376 v378
  let c128_i32_238 : BitVec 32 := 128#32
  let c0_i32_241 : BitVec 32 := 0#32
  let v380 : BitVec 1 := Scalar.cmpi .sgt c128_i32_238 c0_i32_241
  let v381 : BitVec 32 := Scalar.extui v380
  let c0_i32_242 : BitVec 32 := 0#32
  let v382 : BitVec 1 := Scalar.cmpi .slt c128_i32_238 c0_i32_242
  let v383 : BitVec 32 := Scalar.extui v382
  let v384 : BitVec 32 := Scalar.subi v381 v383
  let v385 : BitVec 1 := Scalar.cmpi .ne v379 v384
  let v386 : BitVec 32 := Scalar.remsi v373 c128_i32_238
  let c0_i32_243 : BitVec 32 := 0#32
  let v387 : BitVec 1 := Scalar.cmpi .ne v386 c0_i32_243
  let v388 : BitVec 1 := Scalar.andi v385 v387
  let v374 : BitVec 32 := Scalar.divsi v373 c128_i32_238
  let c1_i32_244 : BitVec 32 := 1#32
  let v389 : BitVec 32 := Scalar.subi v374 c1_i32_244
  let v390 : BitVec 32 := Scalar.select v388 v389 v374
  let c8_i32_245 : BitVec 32 := 8#32
  let v391 : BitVec 32 := Scalar.minsi v390 c8_i32_245
  let c14_i32 : BitVec 32 := 14#32
  let v421 : BitVec 32 := Scalar.andi v391 c14_i32
  let c128_i32_332 : BitVec 32 := 128#32
  let v535 : BitVec 32 := Scalar.muli v421 c128_i32_332
  let v536 : BitVec 32 := Scalar.addi v534 v535
  let v537 : BitVec 32 := v536
  ![arg18.toNat, 0, v537.toNat]

def k0_chk19_0 (k0_t7 : Fin k0_t7_loop.trips) (v304 : BitVec 32) (k0_t10 : Fin (k0_t10_loop v304).trips) (arg23 : BitVec 32) (v370 : BitVec 32) : Prop :=
  (∀ (k0_h64 : k0_cond64 v304 k0_t10 v370 = 1#1), 128 ∣ (k0_mult65 v304 k0_t10 v370).toNat) ∧
  (∀ (k0_h64 : k0_cond64 v304 k0_t10 v370 = 1#1), 128 ∣ (k0_mult66 v304 k0_t10 v370).toNat) ∧
  (∀ (k0_h64 : k0_cond64 v304 k0_t10 v370 = 1#1), ∀ a, (k0_off199 arg23) a + S1.size a ≤ S5.size a) ∧
  (∀ (k0_h64 : k0_cond64 v304 k0_t10 v370 = 1#1), ∀ a, (k0_off200 v304 k0_t10 arg23 v370) a + S1x1024x896.size a ≤ S5x1024x896.size a) ∧
  (∀ (k0_h64 : k0_cond64 v304 k0_t10 v370 = 1#1), ∀ a, (k0_off201 k0_t7 v304 k0_t10 v370) a + S1x1024x896.size a ≤ S48x8192x896.size a) ∧
  (∀ (k0_h64 : k0_cond64 v304 k0_t10 v370 = 1#1), ∀ (hinb : ∀ a, (k0_off201 k0_t7 v304 k0_t10 v370) a + S1x1024x896.size a ≤ S48x8192x896.size a), (Rect.unit (s := S48x8192x896) (k0_off201 k0_t7 v304 k0_t10 v370) S1x1024x896.size hinb).WholeWords (EltTy.packing .fp8e4m3)) ∧
  (∀ (k0_h64 : k0_cond64 v304 k0_t10 v370 = 1#1), ∀ (hinb : ∀ a, (k0_off200 v304 k0_t10 arg23 v370) a + S1x1024x896.size a ≤ S5x1024x896.size a), (Rect.unit (s := S5x1024x896) (k0_off200 v304 k0_t10 arg23 v370) S1x1024x896.size hinb).WholeWords (EltTy.packing .fp8e4m3)) ∧
  (∀ (k0_h64 : k0_cond64 v304 k0_t10 v370 = 1#1), ∀ a, (k0_off202 v304 k0_t10 arg23 v370) a + S1x960x1024.size a ≤ S5x960x1024.size a) ∧
  (∀ (k0_h64 : k0_cond64 v304 k0_t10 v370 = 1#1), ∀ a, (k0_off203 k0_t7 v304 k0_t10 v370) a + S1x960x1024.size a ≤ S48x960x8192.size a) ∧
  (∀ (k0_h64 : k0_cond64 v304 k0_t10 v370 = 1#1), ∀ (hinb : ∀ a, (k0_off203 k0_t7 v304 k0_t10 v370) a + S1x960x1024.size a ≤ S48x960x8192.size a), (Rect.unit (s := S48x960x8192) (k0_off203 k0_t7 v304 k0_t10 v370) S1x960x1024.size hinb).WholeWords (EltTy.packing .fp8e5m2)) ∧
  (∀ (k0_h64 : k0_cond64 v304 k0_t10 v370 = 1#1), ∀ (hinb : ∀ a, (k0_off202 v304 k0_t10 arg23 v370) a + S1x960x1024.size a ≤ S5x960x1024.size a), (Rect.unit (s := S5x960x1024) (k0_off202 v304 k0_t10 arg23 v370) S1x960x1024.size hinb).WholeWords (EltTy.packing .fp8e5m2)) ∧
  (∀ (k0_h65 : k0_cond65 v304 k0_t10 v370 = 1#1), 128 ∣ (k0_mult67 v304 k0_t10 v370).toNat) ∧
  (∀ (k0_h65 : k0_cond65 v304 k0_t10 v370 = 1#1), 128 ∣ (k0_mult68 v304 k0_t10 v370).toNat) ∧
  (∀ (k0_h65 : k0_cond65 v304 k0_t10 v370 = 1#1), ∀ a, (k0_off204 arg23) a + S1.size a ≤ S5.size a) ∧
  (∀ (k0_h65 : k0_cond65 v304 k0_t10 v370 = 1#1), ∀ a, (k0_off205 v304 k0_t10 arg23 v370) a + S1x512x896.size a ≤ S5x1024x896.size a) ∧
  (∀ (k0_h65 : k0_cond65 v304 k0_t10 v370 = 1#1), ∀ a, (k0_off206 k0_t7 v304 k0_t10 v370) a + S1x512x896.size a ≤ S48x8192x896.size a) ∧
  (∀ (k0_h65 : k0_cond65 v304 k0_t10 v370 = 1#1), ∀ (hinb : ∀ a, (k0_off206 k0_t7 v304 k0_t10 v370) a + S1x512x896.size a ≤ S48x8192x896.size a), (Rect.unit (s := S48x8192x896) (k0_off206 k0_t7 v304 k0_t10 v370) S1x512x896.size hinb).WholeWords (EltTy.packing .fp8e4m3)) ∧
  (∀ (k0_h65 : k0_cond65 v304 k0_t10 v370 = 1#1), ∀ (hinb : ∀ a, (k0_off205 v304 k0_t10 arg23 v370) a + S1x512x896.size a ≤ S5x1024x896.size a), (Rect.unit (s := S5x1024x896) (k0_off205 v304 k0_t10 arg23 v370) S1x512x896.size hinb).WholeWords (EltTy.packing .fp8e4m3)) ∧
  (∀ (k0_h65 : k0_cond65 v304 k0_t10 v370 = 1#1), ∀ a, (k0_off207 v304 k0_t10 arg23 v370) a + S1x960x512.size a ≤ S5x960x1024.size a) ∧
  (∀ (k0_h65 : k0_cond65 v304 k0_t10 v370 = 1#1), ∀ a, (k0_off208 k0_t7 v304 k0_t10 v370) a + S1x960x512.size a ≤ S48x960x8192.size a) ∧
  (∀ (k0_h65 : k0_cond65 v304 k0_t10 v370 = 1#1), ∀ (hinb : ∀ a, (k0_off208 k0_t7 v304 k0_t10 v370) a + S1x960x512.size a ≤ S48x960x8192.size a), (Rect.unit (s := S48x960x8192) (k0_off208 k0_t7 v304 k0_t10 v370) S1x960x512.size hinb).WholeWords (EltTy.packing .fp8e5m2)) ∧
  (∀ (k0_h65 : k0_cond65 v304 k0_t10 v370 = 1#1), ∀ (hinb : ∀ a, (k0_off207 v304 k0_t10 arg23 v370) a + S1x960x512.size a ≤ S5x960x1024.size a), (Rect.unit (s := S5x960x1024) (k0_off207 v304 k0_t10 arg23 v370) S1x960x512.size hinb).WholeWords (EltTy.packing .fp8e5m2)) ∧
  (∀ (k0_h66 : k0_cond66 v304 k0_t10 v370 = 1#1), 128 ∣ (k0_mult69 v304 k0_t10 v370).toNat) ∧
  (∀ (k0_h66 : k0_cond66 v304 k0_t10 v370 = 1#1), 128 ∣ (k0_mult70 v304 k0_t10 v370).toNat) ∧
  (∀ (k0_h66 : k0_cond66 v304 k0_t10 v370 = 1#1), ∀ a, (k0_off209 arg23) a + S1.size a ≤ S5.size a) ∧
  (∀ (k0_h66 : k0_cond66 v304 k0_t10 v370 = 1#1), ∀ a, (k0_off210 v304 k0_t10 arg23 v370) a + S1x256x896.size a ≤ S5x1024x896.size a) ∧
  (∀ (k0_h66 : k0_cond66 v304 k0_t10 v370 = 1#1), ∀ a, (k0_off211 k0_t7 v304 k0_t10 v370) a + S1x256x896.size a ≤ S48x8192x896.size a) ∧
  (∀ (k0_h66 : k0_cond66 v304 k0_t10 v370 = 1#1), ∀ (hinb : ∀ a, (k0_off211 k0_t7 v304 k0_t10 v370) a + S1x256x896.size a ≤ S48x8192x896.size a), (Rect.unit (s := S48x8192x896) (k0_off211 k0_t7 v304 k0_t10 v370) S1x256x896.size hinb).WholeWords (EltTy.packing .fp8e4m3)) ∧
  (∀ (k0_h66 : k0_cond66 v304 k0_t10 v370 = 1#1), ∀ (hinb : ∀ a, (k0_off210 v304 k0_t10 arg23 v370) a + S1x256x896.size a ≤ S5x1024x896.size a), (Rect.unit (s := S5x1024x896) (k0_off210 v304 k0_t10 arg23 v370) S1x256x896.size hinb).WholeWords (EltTy.packing .fp8e4m3)) ∧
  (∀ (k0_h66 : k0_cond66 v304 k0_t10 v370 = 1#1), ∀ a, (k0_off212 v304 k0_t10 arg23 v370) a + S1x960x256.size a ≤ S5x960x1024.size a) ∧
  (∀ (k0_h66 : k0_cond66 v304 k0_t10 v370 = 1#1), ∀ a, (k0_off213 k0_t7 v304 k0_t10 v370) a + S1x960x256.size a ≤ S48x960x8192.size a) ∧
  (∀ (k0_h66 : k0_cond66 v304 k0_t10 v370 = 1#1), ∀ (hinb : ∀ a, (k0_off213 k0_t7 v304 k0_t10 v370) a + S1x960x256.size a ≤ S48x960x8192.size a), (Rect.unit (s := S48x960x8192) (k0_off213 k0_t7 v304 k0_t10 v370) S1x960x256.size hinb).WholeWords (EltTy.packing .fp8e5m2))
def k0_chk19_1 (k0_t7 : Fin k0_t7_loop.trips) (v304 : BitVec 32) (k0_t10 : Fin (k0_t10_loop v304).trips) (arg23 : BitVec 32) (v370 : BitVec 32) : Prop :=
  (∀ (k0_h66 : k0_cond66 v304 k0_t10 v370 = 1#1), ∀ (hinb : ∀ a, (k0_off212 v304 k0_t10 arg23 v370) a + S1x960x256.size a ≤ S5x960x1024.size a), (Rect.unit (s := S5x960x1024) (k0_off212 v304 k0_t10 arg23 v370) S1x960x256.size hinb).WholeWords (EltTy.packing .fp8e5m2)) ∧
  (∀ (k0_h67 : k0_cond67 v304 k0_t10 v370 = 1#1), 128 ∣ (k0_mult71 v304 k0_t10 v370).toNat) ∧
  (∀ (k0_h67 : k0_cond67 v304 k0_t10 v370 = 1#1), 128 ∣ (k0_mult72 v304 k0_t10 v370).toNat) ∧
  (∀ (k0_h67 : k0_cond67 v304 k0_t10 v370 = 1#1), ∀ a, (k0_off214 arg23) a + S1.size a ≤ S5.size a) ∧
  (∀ (k0_h67 : k0_cond67 v304 k0_t10 v370 = 1#1), ∀ a, (k0_off215 v304 k0_t10 arg23 v370) a + S1x128x896.size a ≤ S5x1024x896.size a) ∧
  (∀ (k0_h67 : k0_cond67 v304 k0_t10 v370 = 1#1), ∀ a, (k0_off216 k0_t7 v304 k0_t10 v370) a + S1x128x896.size a ≤ S48x8192x896.size a) ∧
  (∀ (k0_h67 : k0_cond67 v304 k0_t10 v370 = 1#1), ∀ (hinb : ∀ a, (k0_off216 k0_t7 v304 k0_t10 v370) a + S1x128x896.size a ≤ S48x8192x896.size a), (Rect.unit (s := S48x8192x896) (k0_off216 k0_t7 v304 k0_t10 v370) S1x128x896.size hinb).WholeWords (EltTy.packing .fp8e4m3)) ∧
  (∀ (k0_h67 : k0_cond67 v304 k0_t10 v370 = 1#1), ∀ (hinb : ∀ a, (k0_off215 v304 k0_t10 arg23 v370) a + S1x128x896.size a ≤ S5x1024x896.size a), (Rect.unit (s := S5x1024x896) (k0_off215 v304 k0_t10 arg23 v370) S1x128x896.size hinb).WholeWords (EltTy.packing .fp8e4m3)) ∧
  (∀ (k0_h67 : k0_cond67 v304 k0_t10 v370 = 1#1), ∀ a, (k0_off217 v304 k0_t10 arg23 v370) a + S1x960x128.size a ≤ S5x960x1024.size a) ∧
  (∀ (k0_h67 : k0_cond67 v304 k0_t10 v370 = 1#1), ∀ a, (k0_off218 k0_t7 v304 k0_t10 v370) a + S1x960x128.size a ≤ S48x960x8192.size a) ∧
  (∀ (k0_h67 : k0_cond67 v304 k0_t10 v370 = 1#1), ∀ (hinb : ∀ a, (k0_off218 k0_t7 v304 k0_t10 v370) a + S1x960x128.size a ≤ S48x960x8192.size a), (Rect.unit (s := S48x960x8192) (k0_off218 k0_t7 v304 k0_t10 v370) S1x960x128.size hinb).WholeWords (EltTy.packing .fp8e5m2)) ∧
  (∀ (k0_h67 : k0_cond67 v304 k0_t10 v370 = 1#1), ∀ (hinb : ∀ a, (k0_off217 v304 k0_t10 arg23 v370) a + S1x960x128.size a ≤ S5x960x1024.size a), (Rect.unit (s := S5x960x1024) (k0_off217 v304 k0_t10 arg23 v370) S1x960x128.size hinb).WholeWords (EltTy.packing .fp8e5m2))
def k0_chk19 (k0_t7 : Fin k0_t7_loop.trips) (v304 : BitVec 32) (k0_t10 : Fin (k0_t10_loop v304).trips) (arg23 : BitVec 32) (v370 : BitVec 32) : Prop :=
  k0_chk19_0 k0_t7 v304 k0_t10 arg23 v370 ∧
  k0_chk19_1 k0_t7 v304 k0_t10 arg23 v370
theorem k0_mult65_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), 128 ∣ (k0_mult65 v304 k0_t10 v370).toNat := fun k0_t7 v304 k0_t10 arg23 v370 k0_hw19 k0_h64 => k0_hw19.1.1 k0_h64
theorem k0_mult66_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), 128 ∣ (k0_mult66 v304 k0_t10 v370).toNat := fun k0_t7 v304 k0_t10 arg23 v370 k0_hw19 k0_h64 => k0_hw19.1.2.1 k0_h64
theorem k0_off199_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), ∀ a, (k0_off199 arg23) a + S1.size a ≤ S5.size a := fun k0_t7 v304 k0_t10 arg23 v370 k0_hw19 k0_h64 => k0_hw19.1.2.2.1 k0_h64
theorem k0_off200_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), ∀ a, (k0_off200 v304 k0_t10 arg23 v370) a + S1x1024x896.size a ≤ S5x1024x896.size a := fun k0_t7 v304 k0_t10 arg23 v370 k0_hw19 k0_h64 => k0_hw19.1.2.2.2.1 k0_h64
theorem k0_off201_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), ∀ a, (k0_off201 k0_t7 v304 k0_t10 v370) a + S1x1024x896.size a ≤ S48x8192x896.size a := fun k0_t7 v304 k0_t10 arg23 v370 k0_hw19 k0_h64 => k0_hw19.1.2.2.2.2.1 k0_h64
theorem k0_off201_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), (Rect.unit (s := S48x8192x896) (k0_off201 k0_t7 v304 k0_t10 v370) S1x1024x896.size (k0_off201_inb k0_t7 v304 k0_t10 arg23 v370 k0_hw19 k0_h64)).WholeWords (EltTy.packing .fp8e4m3) := fun k0_t7 v304 k0_t10 arg23 v370 k0_hw19 k0_h64 => k0_hw19.1.2.2.2.2.2.1 k0_h64 (k0_off201_inb k0_t7 v304 k0_t10 arg23 v370 k0_hw19 k0_h64)
theorem k0_off200_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), (Rect.unit (s := S5x1024x896) (k0_off200 v304 k0_t10 arg23 v370) S1x1024x896.size (k0_off200_inb k0_t7 v304 k0_t10 arg23 v370 k0_hw19 k0_h64)).WholeWords (EltTy.packing .fp8e4m3) := fun k0_t7 v304 k0_t10 arg23 v370 k0_hw19 k0_h64 => k0_hw19.1.2.2.2.2.2.2.1 k0_h64 (k0_off200_inb k0_t7 v304 k0_t10 arg23 v370 k0_hw19 k0_h64)
theorem k0_off202_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), ∀ a, (k0_off202 v304 k0_t10 arg23 v370) a + S1x960x1024.size a ≤ S5x960x1024.size a := fun k0_t7 v304 k0_t10 arg23 v370 k0_hw19 k0_h64 => k0_hw19.1.2.2.2.2.2.2.2.1 k0_h64
theorem k0_off203_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), ∀ a, (k0_off203 k0_t7 v304 k0_t10 v370) a + S1x960x1024.size a ≤ S48x960x8192.size a := fun k0_t7 v304 k0_t10 arg23 v370 k0_hw19 k0_h64 => k0_hw19.1.2.2.2.2.2.2.2.2.1 k0_h64
theorem k0_off203_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), (Rect.unit (s := S48x960x8192) (k0_off203 k0_t7 v304 k0_t10 v370) S1x960x1024.size (k0_off203_inb k0_t7 v304 k0_t10 arg23 v370 k0_hw19 k0_h64)).WholeWords (EltTy.packing .fp8e5m2) := fun k0_t7 v304 k0_t10 arg23 v370 k0_hw19 k0_h64 => k0_hw19.1.2.2.2.2.2.2.2.2.2.1 k0_h64 (k0_off203_inb k0_t7 v304 k0_t10 arg23 v370 k0_hw19 k0_h64)
theorem k0_off202_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h64 : k0_cond64 v304 k0_t10 v370 = 1#1), (Rect.unit (s := S5x960x1024) (k0_off202 v304 k0_t10 arg23 v370) S1x960x1024.size (k0_off202_inb k0_t7 v304 k0_t10 arg23 v370 k0_hw19 k0_h64)).WholeWords (EltTy.packing .fp8e5m2) := fun k0_t7 v304 k0_t10 arg23 v370 k0_hw19 k0_h64 => k0_hw19.1.2.2.2.2.2.2.2.2.2.2.1 k0_h64 (k0_off202_inb k0_t7 v304 k0_t10 arg23 v370 k0_hw19 k0_h64)
theorem k0_mult67_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), 128 ∣ (k0_mult67 v304 k0_t10 v370).toNat := fun k0_t7 v304 k0_t10 arg23 v370 k0_hw19 k0_h65 => k0_hw19.1.2.2.2.2.2.2.2.2.2.2.2.1 k0_h65
theorem k0_mult68_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), 128 ∣ (k0_mult68 v304 k0_t10 v370).toNat := fun k0_t7 v304 k0_t10 arg23 v370 k0_hw19 k0_h65 => k0_hw19.1.2.2.2.2.2.2.2.2.2.2.2.2.1 k0_h65
theorem k0_off204_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), ∀ a, (k0_off204 arg23) a + S1.size a ≤ S5.size a := fun k0_t7 v304 k0_t10 arg23 v370 k0_hw19 k0_h65 => k0_hw19.1.2.2.2.2.2.2.2.2.2.2.2.2.2.1 k0_h65
theorem k0_off205_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), ∀ a, (k0_off205 v304 k0_t10 arg23 v370) a + S1x512x896.size a ≤ S5x1024x896.size a := fun k0_t7 v304 k0_t10 arg23 v370 k0_hw19 k0_h65 => k0_hw19.1.2.2.2.2.2.2.2.2.2.2.2.2.2.2.1 k0_h65
theorem k0_off206_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), ∀ a, (k0_off206 k0_t7 v304 k0_t10 v370) a + S1x512x896.size a ≤ S48x8192x896.size a := fun k0_t7 v304 k0_t10 arg23 v370 k0_hw19 k0_h65 => k0_hw19.1.2.2.2.2.2.2.2.2.2.2.2.2.2.2.2.1 k0_h65
theorem k0_off206_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), (Rect.unit (s := S48x8192x896) (k0_off206 k0_t7 v304 k0_t10 v370) S1x512x896.size (k0_off206_inb k0_t7 v304 k0_t10 arg23 v370 k0_hw19 k0_h65)).WholeWords (EltTy.packing .fp8e4m3) := fun k0_t7 v304 k0_t10 arg23 v370 k0_hw19 k0_h65 => k0_hw19.1.2.2.2.2.2.2.2.2.2.2.2.2.2.2.2.2.1 k0_h65 (k0_off206_inb k0_t7 v304 k0_t10 arg23 v370 k0_hw19 k0_h65)
theorem k0_off205_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), (Rect.unit (s := S5x1024x896) (k0_off205 v304 k0_t10 arg23 v370) S1x512x896.size (k0_off205_inb k0_t7 v304 k0_t10 arg23 v370 k0_hw19 k0_h65)).WholeWords (EltTy.packing .fp8e4m3) := fun k0_t7 v304 k0_t10 arg23 v370 k0_hw19 k0_h65 => k0_hw19.1.2.2.2.2.2.2.2.2.2.2.2.2.2.2.2.2.2.1 k0_h65 (k0_off205_inb k0_t7 v304 k0_t10 arg23 v370 k0_hw19 k0_h65)
theorem k0_off207_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), ∀ a, (k0_off207 v304 k0_t10 arg23 v370) a + S1x960x512.size a ≤ S5x960x1024.size a := fun k0_t7 v304 k0_t10 arg23 v370 k0_hw19 k0_h65 => k0_hw19.1.2.2.2.2.2.2.2.2.2.2.2.2.2.2.2.2.2.2.1 k0_h65
theorem k0_off208_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), ∀ a, (k0_off208 k0_t7 v304 k0_t10 v370) a + S1x960x512.size a ≤ S48x960x8192.size a := fun k0_t7 v304 k0_t10 arg23 v370 k0_hw19 k0_h65 => k0_hw19.1.2.2.2.2.2.2.2.2.2.2.2.2.2.2.2.2.2.2.2.1 k0_h65
theorem k0_off208_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), (Rect.unit (s := S48x960x8192) (k0_off208 k0_t7 v304 k0_t10 v370) S1x960x512.size (k0_off208_inb k0_t7 v304 k0_t10 arg23 v370 k0_hw19 k0_h65)).WholeWords (EltTy.packing .fp8e5m2) := fun k0_t7 v304 k0_t10 arg23 v370 k0_hw19 k0_h65 => k0_hw19.1.2.2.2.2.2.2.2.2.2.2.2.2.2.2.2.2.2.2.2.2.1 k0_h65 (k0_off208_inb k0_t7 v304 k0_t10 arg23 v370 k0_hw19 k0_h65)
theorem k0_off207_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h65 : k0_cond65 v304 k0_t10 v370 = 1#1), (Rect.unit (s := S5x960x1024) (k0_off207 v304 k0_t10 arg23 v370) S1x960x512.size (k0_off207_inb k0_t7 v304 k0_t10 arg23 v370 k0_hw19 k0_h65)).WholeWords (EltTy.packing .fp8e5m2) := fun k0_t7 v304 k0_t10 arg23 v370 k0_hw19 k0_h65 => k0_hw19.1.2.2.2.2.2.2.2.2.2.2.2.2.2.2.2.2.2.2.2.2.2.1 k0_h65 (k0_off207_inb k0_t7 v304 k0_t10 arg23 v370 k0_hw19 k0_h65)
theorem k0_mult69_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), 128 ∣ (k0_mult69 v304 k0_t10 v370).toNat := fun k0_t7 v304 k0_t10 arg23 v370 k0_hw19 k0_h66 => k0_hw19.1.2.2.2.2.2.2.2.2.2.2.2.2.2.2.2.2.2.2.2.2.2.2.1 k0_h66
theorem k0_mult70_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), 128 ∣ (k0_mult70 v304 k0_t10 v370).toNat := fun k0_t7 v304 k0_t10 arg23 v370 k0_hw19 k0_h66 => k0_hw19.1.2.2.2.2.2.2.2.2.2.2.2.2.2.2.2.2.2.2.2.2.2.2.2.1 k0_h66
theorem k0_off209_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), ∀ a, (k0_off209 arg23) a + S1.size a ≤ S5.size a := fun k0_t7 v304 k0_t10 arg23 v370 k0_hw19 k0_h66 => k0_hw19.1.2.2.2.2.2.2.2.2.2.2.2.2.2.2.2.2.2.2.2.2.2.2.2.2.1 k0_h66
theorem k0_off210_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), ∀ a, (k0_off210 v304 k0_t10 arg23 v370) a + S1x256x896.size a ≤ S5x1024x896.size a := fun k0_t7 v304 k0_t10 arg23 v370 k0_hw19 k0_h66 => k0_hw19.1.2.2.2.2.2.2.2.2.2.2.2.2.2.2.2.2.2.2.2.2.2.2.2.2.2.1 k0_h66
theorem k0_off211_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), ∀ a, (k0_off211 k0_t7 v304 k0_t10 v370) a + S1x256x896.size a ≤ S48x8192x896.size a := fun k0_t7 v304 k0_t10 arg23 v370 k0_hw19 k0_h66 => k0_hw19.1.2.2.2.2.2.2.2.2.2.2.2.2.2.2.2.2.2.2.2.2.2.2.2.2.2.2.1 k0_h66
theorem k0_off211_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), (Rect.unit (s := S48x8192x896) (k0_off211 k0_t7 v304 k0_t10 v370) S1x256x896.size (k0_off211_inb k0_t7 v304 k0_t10 arg23 v370 k0_hw19 k0_h66)).WholeWords (EltTy.packing .fp8e4m3) := fun k0_t7 v304 k0_t10 arg23 v370 k0_hw19 k0_h66 => k0_hw19.1.2.2.2.2.2.2.2.2.2.2.2.2.2.2.2.2.2.2.2.2.2.2.2.2.2.2.2.1 k0_h66 (k0_off211_inb k0_t7 v304 k0_t10 arg23 v370 k0_hw19 k0_h66)
theorem k0_off210_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), (Rect.unit (s := S5x1024x896) (k0_off210 v304 k0_t10 arg23 v370) S1x256x896.size (k0_off210_inb k0_t7 v304 k0_t10 arg23 v370 k0_hw19 k0_h66)).WholeWords (EltTy.packing .fp8e4m3) := fun k0_t7 v304 k0_t10 arg23 v370 k0_hw19 k0_h66 => k0_hw19.1.2.2.2.2.2.2.2.2.2.2.2.2.2.2.2.2.2.2.2.2.2.2.2.2.2.2.2.2.1 k0_h66 (k0_off210_inb k0_t7 v304 k0_t10 arg23 v370 k0_hw19 k0_h66)
theorem k0_off212_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), ∀ a, (k0_off212 v304 k0_t10 arg23 v370) a + S1x960x256.size a ≤ S5x960x1024.size a := fun k0_t7 v304 k0_t10 arg23 v370 k0_hw19 k0_h66 => k0_hw19.1.2.2.2.2.2.2.2.2.2.2.2.2.2.2.2.2.2.2.2.2.2.2.2.2.2.2.2.2.2.1 k0_h66
theorem k0_off213_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), ∀ a, (k0_off213 k0_t7 v304 k0_t10 v370) a + S1x960x256.size a ≤ S48x960x8192.size a := fun k0_t7 v304 k0_t10 arg23 v370 k0_hw19 k0_h66 => k0_hw19.1.2.2.2.2.2.2.2.2.2.2.2.2.2.2.2.2.2.2.2.2.2.2.2.2.2.2.2.2.2.2.1 k0_h66
theorem k0_off213_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), (Rect.unit (s := S48x960x8192) (k0_off213 k0_t7 v304 k0_t10 v370) S1x960x256.size (k0_off213_inb k0_t7 v304 k0_t10 arg23 v370 k0_hw19 k0_h66)).WholeWords (EltTy.packing .fp8e5m2) := fun k0_t7 v304 k0_t10 arg23 v370 k0_hw19 k0_h66 => k0_hw19.1.2.2.2.2.2.2.2.2.2.2.2.2.2.2.2.2.2.2.2.2.2.2.2.2.2.2.2.2.2.2.2 k0_h66 (k0_off213_inb k0_t7 v304 k0_t10 arg23 v370 k0_hw19 k0_h66)
theorem k0_off212_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h66 : k0_cond66 v304 k0_t10 v370 = 1#1), (Rect.unit (s := S5x960x1024) (k0_off212 v304 k0_t10 arg23 v370) S1x960x256.size (k0_off212_inb k0_t7 v304 k0_t10 arg23 v370 k0_hw19 k0_h66)).WholeWords (EltTy.packing .fp8e5m2) := fun k0_t7 v304 k0_t10 arg23 v370 k0_hw19 k0_h66 => k0_hw19.2.1 k0_h66 (k0_off212_inb k0_t7 v304 k0_t10 arg23 v370 k0_hw19 k0_h66)
theorem k0_mult71_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), 128 ∣ (k0_mult71 v304 k0_t10 v370).toNat := fun k0_t7 v304 k0_t10 arg23 v370 k0_hw19 k0_h67 => k0_hw19.2.2.1 k0_h67
theorem k0_mult72_dvd : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), 128 ∣ (k0_mult72 v304 k0_t10 v370).toNat := fun k0_t7 v304 k0_t10 arg23 v370 k0_hw19 k0_h67 => k0_hw19.2.2.2.1 k0_h67
theorem k0_off214_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), ∀ a, (k0_off214 arg23) a + S1.size a ≤ S5.size a := fun k0_t7 v304 k0_t10 arg23 v370 k0_hw19 k0_h67 => k0_hw19.2.2.2.2.1 k0_h67
theorem k0_off215_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), ∀ a, (k0_off215 v304 k0_t10 arg23 v370) a + S1x128x896.size a ≤ S5x1024x896.size a := fun k0_t7 v304 k0_t10 arg23 v370 k0_hw19 k0_h67 => k0_hw19.2.2.2.2.2.1 k0_h67
theorem k0_off216_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), ∀ a, (k0_off216 k0_t7 v304 k0_t10 v370) a + S1x128x896.size a ≤ S48x8192x896.size a := fun k0_t7 v304 k0_t10 arg23 v370 k0_hw19 k0_h67 => k0_hw19.2.2.2.2.2.2.1 k0_h67
theorem k0_off216_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), (Rect.unit (s := S48x8192x896) (k0_off216 k0_t7 v304 k0_t10 v370) S1x128x896.size (k0_off216_inb k0_t7 v304 k0_t10 arg23 v370 k0_hw19 k0_h67)).WholeWords (EltTy.packing .fp8e4m3) := fun k0_t7 v304 k0_t10 arg23 v370 k0_hw19 k0_h67 => k0_hw19.2.2.2.2.2.2.2.1 k0_h67 (k0_off216_inb k0_t7 v304 k0_t10 arg23 v370 k0_hw19 k0_h67)
theorem k0_off215_wordsfp8e4m3 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), (Rect.unit (s := S5x1024x896) (k0_off215 v304 k0_t10 arg23 v370) S1x128x896.size (k0_off215_inb k0_t7 v304 k0_t10 arg23 v370 k0_hw19 k0_h67)).WholeWords (EltTy.packing .fp8e4m3) := fun k0_t7 v304 k0_t10 arg23 v370 k0_hw19 k0_h67 => k0_hw19.2.2.2.2.2.2.2.2.1 k0_h67 (k0_off215_inb k0_t7 v304 k0_t10 arg23 v370 k0_hw19 k0_h67)
theorem k0_off217_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), ∀ a, (k0_off217 v304 k0_t10 arg23 v370) a + S1x960x128.size a ≤ S5x960x1024.size a := fun k0_t7 v304 k0_t10 arg23 v370 k0_hw19 k0_h67 => k0_hw19.2.2.2.2.2.2.2.2.2.1 k0_h67
theorem k0_off218_inb : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), ∀ a, (k0_off218 k0_t7 v304 k0_t10 v370) a + S1x960x128.size a ≤ S48x960x8192.size a := fun k0_t7 v304 k0_t10 arg23 v370 k0_hw19 k0_h67 => k0_hw19.2.2.2.2.2.2.2.2.2.2.1 k0_h67
theorem k0_off218_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), (Rect.unit (s := S48x960x8192) (k0_off218 k0_t7 v304 k0_t10 v370) S1x960x128.size (k0_off218_inb k0_t7 v304 k0_t10 arg23 v370 k0_hw19 k0_h67)).WholeWords (EltTy.packing .fp8e5m2) := fun k0_t7 v304 k0_t10 arg23 v370 k0_hw19 k0_h67 => k0_hw19.2.2.2.2.2.2.2.2.2.2.2.1 k0_h67 (k0_off218_inb k0_t7 v304 k0_t10 arg23 v370 k0_hw19 k0_h67)
theorem k0_off217_wordsfp8e5m2 : ∀ (k0_t7 : Fin k0_t7_loop.trips) (v304 : BitVec 32) (k0_t10 : Fin (k0_t10_loop v304).trips) (arg23 : BitVec 32) (v370 : BitVec 32) (k0_hw19 : k0_chk19 k0_t7 v304 k0_t10 arg23 v370), ∀ (k0_h67 : k0_cond67 v304 k0_t10 v370 = 1#1), (Rect.unit (s := S5x960x1024) (k0_off217 v304 k0_t10 arg23 v370) S1x960x128.size (k0_off217_inb k0_t7 v304 k0_t10 arg23 v370 k0_hw19 k0_h67)).WholeWords (EltTy.packing .fp8e5m2) := fun k0_t7 v304 k0_t10 arg23 v370 k0_hw19 k0_h67 => k0_hw19.2.2.2.2.2.2.2.2.2.2.2.2 k0_h67 (k0_off217_inb k0_t7 v304 k0_t10 arg23 v370 k0_hw19 k0_h67)

def k0_off219 (arg23 : BitVec 32) : Fin 3 → Nat :=
  let v426 : Index := Scalar.indexCast arg23
  let c0 : Index := 0#32
  let c0_267 : Index := 0#32
  ![v426.toNat, 0, 0]
def k0_off220 (arg23 : BitVec 32) : Fin 3 → Nat :=
  let v430 : Index := Scalar.indexCast arg23
  let c0_268 : Index := 0#32
  let c0_269 : Index := 0#32
  ![v430.toNat, 0, 0]

def k0_chk18 (arg23 : BitVec 32) : Prop :=
  (∀ a, (k0_off194 arg23) a + S1.size a ≤ S5.size a) ∧
  (∀ a, (k0_off195 arg23) a + S1x8x896.size a ≤ S5x8x896.size a) ∧
  (∀ a, (k0_off197 arg23) a + S1x8x960.size a ≤ S5x8x960.size a) ∧
  (∀ a, (k0_off219 arg23) a + S1x8x896.size a ≤ S5x8x896.size a) ∧
  (∀ a, (k0_off220 arg23) a + S1x8x960.size a ≤ S5x8x960.size a)
theorem k0_off194_inb : ∀ (arg23 : BitVec 32) (k0_hw18 : k0_chk18 arg23), ∀ a, (k0_off194 arg23) a + S1.size a ≤ S5.size a := fun arg23 k0_hw18 => k0_hw18.1
theorem k0_off195_inb : ∀ (arg23 : BitVec 32) (k0_hw18 : k0_chk18 arg23), ∀ a, (k0_off195 arg23) a + S1x8x896.size a ≤ S5x8x896.size a := fun arg23 k0_hw18 => k0_hw18.2.1
theorem k0_off197_inb : ∀ (arg23 : BitVec 32) (k0_hw18 : k0_chk18 arg23), ∀ a, (k0_off197 arg23) a + S1x8x960.size a ≤ S5x8x960.size a := fun arg23 k0_hw18 => k0_hw18.2.2.1
theorem k0_off219_inb : ∀ (arg23 : BitVec 32) (k0_hw18 : k0_chk18 arg23), ∀ a, (k0_off219 arg23) a + S1x8x896.size a ≤ S5x8x896.size a := fun arg23 k0_hw18 => k0_hw18.2.2.2.1
theorem k0_off220_inb : ∀ (arg23 : BitVec 32) (k0_hw18 : k0_chk18 arg23), ∀ a, (k0_off220 arg23) a + S1x8x960.size a ≤ S5x8x960.size a := fun arg23 k0_hw18 => k0_hw18.2.2.2.2

def k0_off221 (arg23 : BitVec 32) : Fin 3 → Nat :=
  let v534 : Index := Scalar.indexCast arg23
  let c0_331 : Index := 0#32
  let c0_332 : Index := 0#32
  ![v534.toNat, 0, 0]
def k0_cond68 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c0_i32_270 : BitVec 32 := 0#32
  let v436 : BitVec 1 := Scalar.cmpi .sgt v368 c0_i32_270
  let v437 : BitVec 32 := Scalar.extui v436
  let c0_i32_271 : BitVec 32 := 0#32
  let v438 : BitVec 1 := Scalar.cmpi .ne v437 c0_i32_271
  v438

def k0_off222 (arg23 : BitVec 32) : Fin 3 → Nat :=
  let v547 : Index := Scalar.indexCast arg23
  let c0_335 : Index := 0#32
  let c0_336 : Index := 0#32
  ![v547.toNat, 0, 0]
def k0_off223 (arg23 : BitVec 32) : Fin 3 → Nat :=
  let v534 : Index := Scalar.indexCast arg23
  let c128 : Index := 128#32
  let c0_331 : Index := 0#32
  ![v534.toNat, 128, 0]
def k0_cond70 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c1_i32_274 : BitVec 32 := 1#32
  let v443 : BitVec 1 := Scalar.cmpi .sgt v368 c1_i32_274
  let v444 : BitVec 32 := Scalar.extui v443
  let c0_i32_275 : BitVec 32 := 0#32
  let v445 : BitVec 1 := Scalar.cmpi .ne v444 c0_i32_275
  v445

def k0_off224 (arg23 : BitVec 32) : Fin 3 → Nat :=
  let v547 : Index := Scalar.indexCast arg23
  let c0_334 : Index := 0#32
  let c128_335 : Index := 128#32
  ![v547.toNat, 0, 128]
def k0_off225 (arg23 : BitVec 32) : Fin 3 → Nat :=
  let v534 : Index := Scalar.indexCast arg23
  let c256 : Index := 256#32
  let c0_331 : Index := 0#32
  ![v534.toNat, 256, 0]
def k0_cond72 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c2_i32_278 : BitVec 32 := 2#32
  let v450 : BitVec 1 := Scalar.cmpi .sgt v368 c2_i32_278
  let v451 : BitVec 32 := Scalar.extui v450
  let c0_i32_279 : BitVec 32 := 0#32
  let v452 : BitVec 1 := Scalar.cmpi .ne v451 c0_i32_279
  v452

def k0_off226 (arg23 : BitVec 32) : Fin 3 → Nat :=
  let v547 : Index := Scalar.indexCast arg23
  let c0_334 : Index := 0#32
  let c256_335 : Index := 256#32
  ![v547.toNat, 0, 256]
def k0_off227 (arg23 : BitVec 32) : Fin 3 → Nat :=
  let v534 : Index := Scalar.indexCast arg23
  let c384 : Index := 384#32
  let c0_331 : Index := 0#32
  ![v534.toNat, 384, 0]
def k0_cond74 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c3_i32_283 : BitVec 32 := 3#32
  let v457 : BitVec 1 := Scalar.cmpi .sgt v368 c3_i32_283
  let v458 : BitVec 32 := Scalar.extui v457
  let c0_i32_284 : BitVec 32 := 0#32
  let v459 : BitVec 1 := Scalar.cmpi .ne v458 c0_i32_284
  v459

def k0_off228 (arg23 : BitVec 32) : Fin 3 → Nat :=
  let v547 : Index := Scalar.indexCast arg23
  let c0_334 : Index := 0#32
  let c384_335 : Index := 384#32
  ![v547.toNat, 0, 384]
def k0_off229 (arg23 : BitVec 32) : Fin 3 → Nat :=
  let v534 : Index := Scalar.indexCast arg23
  let c512 : Index := 512#32
  let c0_331 : Index := 0#32
  ![v534.toNat, 512, 0]
def k0_cond76 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c4_i32_288 : BitVec 32 := 4#32
  let v464 : BitVec 1 := Scalar.cmpi .sgt v368 c4_i32_288
  let v465 : BitVec 32 := Scalar.extui v464
  let c0_i32_289 : BitVec 32 := 0#32
  let v466 : BitVec 1 := Scalar.cmpi .ne v465 c0_i32_289
  v466

def k0_off230 (arg23 : BitVec 32) : Fin 3 → Nat :=
  let v547 : Index := Scalar.indexCast arg23
  let c0_334 : Index := 0#32
  let c512_335 : Index := 512#32
  ![v547.toNat, 0, 512]
def k0_off231 (arg23 : BitVec 32) : Fin 3 → Nat :=
  let v534 : Index := Scalar.indexCast arg23
  let c640 : Index := 640#32
  let c0_331 : Index := 0#32
  ![v534.toNat, 640, 0]
def k0_cond78 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c5_i32_293 : BitVec 32 := 5#32
  let v471 : BitVec 1 := Scalar.cmpi .sgt v368 c5_i32_293
  let v472 : BitVec 32 := Scalar.extui v471
  let c0_i32_294 : BitVec 32 := 0#32
  let v473 : BitVec 1 := Scalar.cmpi .ne v472 c0_i32_294
  v473

def k0_off232 (arg23 : BitVec 32) : Fin 3 → Nat :=
  let v547 : Index := Scalar.indexCast arg23
  let c0_334 : Index := 0#32
  let c640_335 : Index := 640#32
  ![v547.toNat, 0, 640]
def k0_off233 (arg23 : BitVec 32) : Fin 3 → Nat :=
  let v534 : Index := Scalar.indexCast arg23
  let c768 : Index := 768#32
  let c0_331 : Index := 0#32
  ![v534.toNat, 768, 0]
def k0_cond80 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c6_i32_298 : BitVec 32 := 6#32
  let v478 : BitVec 1 := Scalar.cmpi .sgt v368 c6_i32_298
  let v479 : BitVec 32 := Scalar.extui v478
  let c0_i32_299 : BitVec 32 := 0#32
  let v480 : BitVec 1 := Scalar.cmpi .ne v479 c0_i32_299
  v480

def k0_off234 (arg23 : BitVec 32) : Fin 3 → Nat :=
  let v547 : Index := Scalar.indexCast arg23
  let c0_334 : Index := 0#32
  let c768_335 : Index := 768#32
  ![v547.toNat, 0, 768]
def k0_off235 (arg23 : BitVec 32) : Fin 3 → Nat :=
  let v534 : Index := Scalar.indexCast arg23
  let c896 : Index := 896#32
  let c0_331 : Index := 0#32
  ![v534.toNat, 896, 0]
def k0_cond82 (v304 : BitVec 32) (k0_t10 : Fin (k0_t10_loop v304).trips) (v347 : BitVec 32) : BitVec 1 :=
  let c0_i32_214 : BitVec 32 := 0#32
  let c1023_i32_206 : BitVec 32 := 1023#32
  let v305 : BitVec 32 := Scalar.addi v304 c1023_i32_206
  let c0_i32_208 : BitVec 32 := 0#32
  let v307 : BitVec 1 := Scalar.cmpi .sgt v305 c0_i32_208
  let v308 : BitVec 32 := Scalar.extui v307
  let c0_i32_209 : BitVec 32 := 0#32
  let v309 : BitVec 1 := Scalar.cmpi .slt v305 c0_i32_209
  let v310 : BitVec 32 := Scalar.extui v309
  let v311 : BitVec 32 := Scalar.subi v308 v310
  let c1024_i32_207 : BitVec 32 := 1024#32
  let c0_i32_210 : BitVec 32 := 0#32
  let v312 : BitVec 1 := Scalar.cmpi .sgt c1024_i32_207 c0_i32_210
  let v313 : BitVec 32 := Scalar.extui v312
  let c0_i32_211 : BitVec 32 := 0#32
  let v314 : BitVec 1 := Scalar.cmpi .slt c1024_i32_207 c0_i32_211
  let v315 : BitVec 32 := Scalar.extui v314
  let v316 : BitVec 32 := Scalar.subi v313 v315
  let v317 : BitVec 1 := Scalar.cmpi .ne v311 v316
  let v318 : BitVec 32 := Scalar.remsi v305 c1024_i32_207
  let c0_i32_212 : BitVec 32 := 0#32
  let v319 : BitVec 1 := Scalar.cmpi .ne v318 c0_i32_212
  let v320 : BitVec 1 := Scalar.andi v317 v319
  let v306 : BitVec 32 := Scalar.divsi v305 c1024_i32_207
  let c1_i32_213 : BitVec 32 := 1#32
  let v321 : BitVec 32 := Scalar.subi v306 c1_i32_213
  let v322 : BitVec 32 := Scalar.select v320 v321 v306
  let v323 : BitVec 32 := Scalar.subi v322 c0_i32_214
  let c1_i32_215 : BitVec 32 := 1#32
  let v325 : BitVec 32 := Scalar.divsi v323 c1_i32_215
  let v326 : BitVec 32 := Scalar.muli v325 c1_i32_215
  let v327 : BitVec 32 := Scalar.addi c0_i32_214 v326
  let c1_i32_217 : BitVec 32 := 1#32
  let arg22 : BitVec 32 := Scf.iv v327 c1_i32_217 k0_t10
  let c1024_i32_228 : BitVec 32 := 1024#32
  let v348 : BitVec 32 := Scalar.muli arg22 c1024_i32_228
  let v349 : BitVec 32 := Scalar.subi v347 v348
  let c127_i32 : BitVec 32 := 127#32
  let v350 : BitVec 32 := Scalar.addi v349 c127_i32
  let c0_i32_229 : BitVec 32 := 0#32
  let v352 : BitVec 1 := Scalar.cmpi .sgt v350 c0_i32_229
  let v353 : BitVec 32 := Scalar.extui v352
  let c0_i32_230 : BitVec 32 := 0#32
  let v354 : BitVec 1 := Scalar.cmpi .slt v350 c0_i32_230
  let v355 : BitVec 32 := Scalar.extui v354
  let v356 : BitVec 32 := Scalar.subi v353 v355
  let c128_i32 : BitVec 32 := 128#32
  let c0_i32_231 : BitVec 32 := 0#32
  let v357 : BitVec 1 := Scalar.cmpi .sgt c128_i32 c0_i32_231
  let v358 : BitVec 32 := Scalar.extui v357
  let c0_i32_232 : BitVec 32 := 0#32
  let v359 : BitVec 1 := Scalar.cmpi .slt c128_i32 c0_i32_232
  let v360 : BitVec 32 := Scalar.extui v359
  let v361 : BitVec 32 := Scalar.subi v358 v360
  let v362 : BitVec 1 := Scalar.cmpi .ne v356 v361
  let v363 : BitVec 32 := Scalar.remsi v350 c128_i32
  let c0_i32_233 : BitVec 32 := 0#32
  let v364 : BitVec 1 := Scalar.cmpi .ne v363 c0_i32_233
  let v365 : BitVec 1 := Scalar.andi v362 v364
  let v351 : BitVec 32 := Scalar.divsi v350 c128_i32
  let c1_i32_234 : BitVec 32 := 1#32
  let v366 : BitVec 32 := Scalar.subi v351 c1_i32_234
  let v367 : BitVec 32 := Scalar.select v365 v366 v351
  let c8_i32_235 : BitVec 32 := 8#32
  let v368 : BitVec 32 := Scalar.minsi v367 c8_i32_235
  let c7_i32_303 : BitVec 32 := 7#32
  let v485 : BitVec 1 := Scalar.cmpi .sgt v368 c7_i32_303
  let v486 : BitVec 32 := Scalar.extui v485
  let c0_i32_304 : BitVec 32 := 0#32
  let v487 : BitVec 1 := Scalar.cmpi .ne v486 c0_i32_304
  v487

def k0_off236 (arg23 : BitVec 32) : Fin 3 → Nat :=
  let v547 : Index := Scalar.indexCast arg23
  let c0_334 : Index := 0#32
  let c896_335 : Index := 896#32
  ![v547.toNat, 0, 896]

def k0_chk20 (v304 : BitVec 32) (k0_t10 : Fin (k0_t10_loop v304).trips) (arg23 : BitVec 32) (v347 : BitVec 32) : Prop :=
  (∀ (k0_h68 : k0_cond68 v304 k0_t10 v347 = 1#1), ∀ a, (k0_off221 arg23) a + S1x128x896.size a ≤ S5x1024x896.size a) ∧
  (∀ (k0_h68 : k0_cond68 v304 k0_t10 v347 = 1#1), ∀ a, (k0_off222 arg23) a + S1x960x128.size a ≤ S5x960x1024.size a) ∧
  (∀ (k0_h70 : k0_cond70 v304 k0_t10 v347 = 1#1), ∀ a, (k0_off223 arg23) a + S1x128x896.size a ≤ S5x1024x896.size a) ∧
  (∀ (k0_h70 : k0_cond70 v304 k0_t10 v347 = 1#1), ∀ a, (k0_off224 arg23) a + S1x960x128.size a ≤ S5x960x1024.size a) ∧
  (∀ (k0_h72 : k0_cond72 v304 k0_t10 v347 = 1#1), ∀ a, (k0_off225 arg23) a + S1x128x896.size a ≤ S5x1024x896.size a) ∧
  (∀ (k0_h72 : k0_cond72 v304 k0_t10 v347 = 1#1), ∀ a, (k0_off226 arg23) a + S1x960x128.size a ≤ S5x960x1024.size a) ∧
  (∀ (k0_h74 : k0_cond74 v304 k0_t10 v347 = 1#1), ∀ a, (k0_off227 arg23) a + S1x128x896.size a ≤ S5x1024x896.size a) ∧
  (∀ (k0_h74 : k0_cond74 v304 k0_t10 v347 = 1#1), ∀ a, (k0_off228 arg23) a + S1x960x128.size a ≤ S5x960x1024.size a) ∧
  (∀ (k0_h76 : k0_cond76 v304 k0_t10 v347 = 1#1), ∀ a, (k0_off229 arg23) a + S1x128x896.size a ≤ S5x1024x896.size a) ∧
  (∀ (k0_h76 : k0_cond76 v304 k0_t10 v347 = 1#1), ∀ a, (k0_off230 arg23) a + S1x960x128.size a ≤ S5x960x1024.size a) ∧
  (∀ (k0_h78 : k0_cond78 v304 k0_t10 v347 = 1#1), ∀ a, (k0_off231 arg23) a + S1x128x896.size a ≤ S5x1024x896.size a) ∧
  (∀ (k0_h78 : k0_cond78 v304 k0_t10 v347 = 1#1), ∀ a, (k0_off232 arg23) a + S1x960x128.size a ≤ S5x960x1024.size a) ∧
  (∀ (k0_h80 : k0_cond80 v304 k0_t10 v347 = 1#1), ∀ a, (k0_off233 arg23) a + S1x128x896.size a ≤ S5x1024x896.size a) ∧
  (∀ (k0_h80 : k0_cond80 v304 k0_t10 v347 = 1#1), ∀ a, (k0_off234 arg23) a + S1x960x128.size a ≤ S5x960x1024.size a) ∧
  (∀ (k0_h82 : k0_cond82 v304 k0_t10 v347 = 1#1), ∀ a, (k0_off235 arg23) a + S1x128x896.size a ≤ S5x1024x896.size a) ∧
  (∀ (k0_h82 : k0_cond82 v304 k0_t10 v347 = 1#1), ∀ a, (k0_off236 arg23) a + S1x960x128.size a ≤ S5x960x1024.size a)
theorem k0_off221_inb : ∀ (v304 : BitVec 32) (k0_t10 : Fin (k0_t10_loop v304).trips) (arg23 : BitVec 32) (v347 : BitVec 32) (k0_hw20 : k0_chk20 v304 k0_t10 arg23 v347), ∀ (k0_h68 : k0_cond68 v304 k0_t10 v347 = 1#1), ∀ a, (k0_off221 arg23) a + S1x128x896.size a ≤ S5x1024x896.size a := fun v304 k0_t10 arg23 v347 k0_hw20 k0_h68 => k0_hw20.1 k0_h68
theorem k0_off222_inb : ∀ (v304 : BitVec 32) (k0_t10 : Fin (k0_t10_loop v304).trips) (arg23 : BitVec 32) (v347 : BitVec 32) (k0_hw20 : k0_chk20 v304 k0_t10 arg23 v347), ∀ (k0_h68 : k0_cond68 v304 k0_t10 v347 = 1#1), ∀ a, (k0_off222 arg23) a + S1x960x128.size a ≤ S5x960x1024.size a := fun v304 k0_t10 arg23 v347 k0_hw20 k0_h68 => k0_hw20.2.1 k0_h68
theorem k0_off223_inb : ∀ (v304 : BitVec 32) (k0_t10 : Fin (k0_t10_loop v304).trips) (arg23 : BitVec 32) (v347 : BitVec 32) (k0_hw20 : k0_chk20 v304 k0_t10 arg23 v347), ∀ (k0_h70 : k0_cond70 v304 k0_t10 v347 = 1#1), ∀ a, (k0_off223 arg23) a + S1x128x896.size a ≤ S5x1024x896.size a := fun v304 k0_t10 arg23 v347 k0_hw20 k0_h70 => k0_hw20.2.2.1 k0_h70
theorem k0_off224_inb : ∀ (v304 : BitVec 32) (k0_t10 : Fin (k0_t10_loop v304).trips) (arg23 : BitVec 32) (v347 : BitVec 32) (k0_hw20 : k0_chk20 v304 k0_t10 arg23 v347), ∀ (k0_h70 : k0_cond70 v304 k0_t10 v347 = 1#1), ∀ a, (k0_off224 arg23) a + S1x960x128.size a ≤ S5x960x1024.size a := fun v304 k0_t10 arg23 v347 k0_hw20 k0_h70 => k0_hw20.2.2.2.1 k0_h70
theorem k0_off225_inb : ∀ (v304 : BitVec 32) (k0_t10 : Fin (k0_t10_loop v304).trips) (arg23 : BitVec 32) (v347 : BitVec 32) (k0_hw20 : k0_chk20 v304 k0_t10 arg23 v347), ∀ (k0_h72 : k0_cond72 v304 k0_t10 v347 = 1#1), ∀ a, (k0_off225 arg23) a + S1x128x896.size a ≤ S5x1024x896.size a := fun v304 k0_t10 arg23 v347 k0_hw20 k0_h72 => k0_hw20.2.2.2.2.1 k0_h72
theorem k0_off226_inb : ∀ (v304 : BitVec 32) (k0_t10 : Fin (k0_t10_loop v304).trips) (arg23 : BitVec 32) (v347 : BitVec 32) (k0_hw20 : k0_chk20 v304 k0_t10 arg23 v347), ∀ (k0_h72 : k0_cond72 v304 k0_t10 v347 = 1#1), ∀ a, (k0_off226 arg23) a + S1x960x128.size a ≤ S5x960x1024.size a := fun v304 k0_t10 arg23 v347 k0_hw20 k0_h72 => k0_hw20.2.2.2.2.2.1 k0_h72
theorem k0_off227_inb : ∀ (v304 : BitVec 32) (k0_t10 : Fin (k0_t10_loop v304).trips) (arg23 : BitVec 32) (v347 : BitVec 32) (k0_hw20 : k0_chk20 v304 k0_t10 arg23 v347), ∀ (k0_h74 : k0_cond74 v304 k0_t10 v347 = 1#1), ∀ a, (k0_off227 arg23) a + S1x128x896.size a ≤ S5x1024x896.size a := fun v304 k0_t10 arg23 v347 k0_hw20 k0_h74 => k0_hw20.2.2.2.2.2.2.1 k0_h74
theorem k0_off228_inb : ∀ (v304 : BitVec 32) (k0_t10 : Fin (k0_t10_loop v304).trips) (arg23 : BitVec 32) (v347 : BitVec 32) (k0_hw20 : k0_chk20 v304 k0_t10 arg23 v347), ∀ (k0_h74 : k0_cond74 v304 k0_t10 v347 = 1#1), ∀ a, (k0_off228 arg23) a + S1x960x128.size a ≤ S5x960x1024.size a := fun v304 k0_t10 arg23 v347 k0_hw20 k0_h74 => k0_hw20.2.2.2.2.2.2.2.1 k0_h74
theorem k0_off229_inb : ∀ (v304 : BitVec 32) (k0_t10 : Fin (k0_t10_loop v304).trips) (arg23 : BitVec 32) (v347 : BitVec 32) (k0_hw20 : k0_chk20 v304 k0_t10 arg23 v347), ∀ (k0_h76 : k0_cond76 v304 k0_t10 v347 = 1#1), ∀ a, (k0_off229 arg23) a + S1x128x896.size a ≤ S5x1024x896.size a := fun v304 k0_t10 arg23 v347 k0_hw20 k0_h76 => k0_hw20.2.2.2.2.2.2.2.2.1 k0_h76
theorem k0_off230_inb : ∀ (v304 : BitVec 32) (k0_t10 : Fin (k0_t10_loop v304).trips) (arg23 : BitVec 32) (v347 : BitVec 32) (k0_hw20 : k0_chk20 v304 k0_t10 arg23 v347), ∀ (k0_h76 : k0_cond76 v304 k0_t10 v347 = 1#1), ∀ a, (k0_off230 arg23) a + S1x960x128.size a ≤ S5x960x1024.size a := fun v304 k0_t10 arg23 v347 k0_hw20 k0_h76 => k0_hw20.2.2.2.2.2.2.2.2.2.1 k0_h76
theorem k0_off231_inb : ∀ (v304 : BitVec 32) (k0_t10 : Fin (k0_t10_loop v304).trips) (arg23 : BitVec 32) (v347 : BitVec 32) (k0_hw20 : k0_chk20 v304 k0_t10 arg23 v347), ∀ (k0_h78 : k0_cond78 v304 k0_t10 v347 = 1#1), ∀ a, (k0_off231 arg23) a + S1x128x896.size a ≤ S5x1024x896.size a := fun v304 k0_t10 arg23 v347 k0_hw20 k0_h78 => k0_hw20.2.2.2.2.2.2.2.2.2.2.1 k0_h78
theorem k0_off232_inb : ∀ (v304 : BitVec 32) (k0_t10 : Fin (k0_t10_loop v304).trips) (arg23 : BitVec 32) (v347 : BitVec 32) (k0_hw20 : k0_chk20 v304 k0_t10 arg23 v347), ∀ (k0_h78 : k0_cond78 v304 k0_t10 v347 = 1#1), ∀ a, (k0_off232 arg23) a + S1x960x128.size a ≤ S5x960x1024.size a := fun v304 k0_t10 arg23 v347 k0_hw20 k0_h78 => k0_hw20.2.2.2.2.2.2.2.2.2.2.2.1 k0_h78
theorem k0_off233_inb : ∀ (v304 : BitVec 32) (k0_t10 : Fin (k0_t10_loop v304).trips) (arg23 : BitVec 32) (v347 : BitVec 32) (k0_hw20 : k0_chk20 v304 k0_t10 arg23 v347), ∀ (k0_h80 : k0_cond80 v304 k0_t10 v347 = 1#1), ∀ a, (k0_off233 arg23) a + S1x128x896.size a ≤ S5x1024x896.size a := fun v304 k0_t10 arg23 v347 k0_hw20 k0_h80 => k0_hw20.2.2.2.2.2.2.2.2.2.2.2.2.1 k0_h80
theorem k0_off234_inb : ∀ (v304 : BitVec 32) (k0_t10 : Fin (k0_t10_loop v304).trips) (arg23 : BitVec 32) (v347 : BitVec 32) (k0_hw20 : k0_chk20 v304 k0_t10 arg23 v347), ∀ (k0_h80 : k0_cond80 v304 k0_t10 v347 = 1#1), ∀ a, (k0_off234 arg23) a + S1x960x128.size a ≤ S5x960x1024.size a := fun v304 k0_t10 arg23 v347 k0_hw20 k0_h80 => k0_hw20.2.2.2.2.2.2.2.2.2.2.2.2.2.1 k0_h80
theorem k0_off235_inb : ∀ (v304 : BitVec 32) (k0_t10 : Fin (k0_t10_loop v304).trips) (arg23 : BitVec 32) (v347 : BitVec 32) (k0_hw20 : k0_chk20 v304 k0_t10 arg23 v347), ∀ (k0_h82 : k0_cond82 v304 k0_t10 v347 = 1#1), ∀ a, (k0_off235 arg23) a + S1x128x896.size a ≤ S5x1024x896.size a := fun v304 k0_t10 arg23 v347 k0_hw20 k0_h82 => k0_hw20.2.2.2.2.2.2.2.2.2.2.2.2.2.2.1 k0_h82
theorem k0_off236_inb : ∀ (v304 : BitVec 32) (k0_t10 : Fin (k0_t10_loop v304).trips) (arg23 : BitVec 32) (v347 : BitVec 32) (k0_hw20 : k0_chk20 v304 k0_t10 arg23 v347), ∀ (k0_h82 : k0_cond82 v304 k0_t10 v347 = 1#1), ∀ a, (k0_off236 arg23) a + S1x960x128.size a ≤ S5x960x1024.size a := fun v304 k0_t10 arg23 v347 k0_hw20 k0_h82 => k0_hw20.2.2.2.2.2.2.2.2.2.2.2.2.2.2.2 k0_h82

def k0_off237 (arg24 : BitVec 32) : Fin 1 → Nat :=
  let c47_i32_309 : BitVec 32 := 47#32
  let v493 : BitVec 32 := Scalar.minsi arg24 c47_i32_309
  let v534 : Index := Scalar.indexCast v493
  ![v534.toNat]
def k0_cond84 (arg24 : BitVec 32) : BitVec 1 :=
  let c48_i32_308 : BitVec 32 := 48#32
  let v492 : BitVec 1 := Scalar.cmpi .slt arg24 c48_i32_308
  let v494 : BitVec 32 := Scalar.extui v492
  let c0_i32_310 : BitVec 32 := 0#32
  let v495 : BitVec 1 := Scalar.cmpi .ne v494 c0_i32_310
  v495

def k0_mult73 (arg25 : BitVec 32) : BitVec 32 :=
  let c8_i32_341 : BitVec 32 := 8#32
  let v557 : BitVec 32 := Scalar.muli arg25 c8_i32_341
  v557

def k0_off238 (arg23 : BitVec 32) : Fin 1 → Nat :=
  ![arg23.toNat]
def k0_off239 (arg23 : BitVec 32) : Fin 3 → Nat :=
  let c0_i32_342 : BitVec 32 := 0#32
  let c0_i32_343 : BitVec 32 := 0#32
  ![arg23.toNat, 0, 0]
def k0_off240 (arg24 : BitVec 32) (arg25 : BitVec 32) : Fin 3 → Nat :=
  let c47_i32_309 : BitVec 32 := 47#32
  let v493 : BitVec 32 := Scalar.minsi arg24 c47_i32_309
  let c8_i32_341 : BitVec 32 := 8#32
  let v557 : BitVec 32 := Scalar.muli arg25 c8_i32_341
  let v558 : BitVec 32 := v557
  let c0_i32_344 : BitVec 32 := 0#32
  ![v493.toNat, v558.toNat, 0]
def k0_off241 (arg23 : BitVec 32) : Fin 3 → Nat :=
  let c0_i32_345 : BitVec 32 := 0#32
  let c0_i32_346 : BitVec 32 := 0#32
  ![arg23.toNat, 0, 0]
def k0_off242 (arg24 : BitVec 32) (arg25 : BitVec 32) : Fin 3 → Nat :=
  let c47_i32_309 : BitVec 32 := 47#32
  let v493 : BitVec 32 := Scalar.minsi arg24 c47_i32_309
  let c8_i32_341 : BitVec 32 := 8#32
  let v557 : BitVec 32 := Scalar.muli arg25 c8_i32_341
  let v558 : BitVec 32 := v557
  let c0_i32_347 : BitVec 32 := 0#32
  ![v493.toNat, v558.toNat, 0]

def k0_chk22 (arg24 : BitVec 32) (arg25 : BitVec 32) : Prop :=
  (∀ (k0_h84 : k0_cond84 arg24 = 1#1), 8 ∣ (k0_mult73 arg25).toNat) ∧
  (∀ (k0_h84 : k0_cond84 arg24 = 1#1), ∀ a, (k0_off240 arg24 arg25) a + S1x8x896.size a ≤ S48x64x896.size a) ∧
  (∀ (k0_h84 : k0_cond84 arg24 = 1#1), ∀ a, (k0_off242 arg24 arg25) a + S1x8x960.size a ≤ S48x64x960.size a)
theorem k0_mult73_dvd : ∀ (arg24 : BitVec 32) (arg25 : BitVec 32) (k0_hw22 : k0_chk22 arg24 arg25), ∀ (k0_h84 : k0_cond84 arg24 = 1#1), 8 ∣ (k0_mult73 arg25).toNat := fun arg24 arg25 k0_hw22 k0_h84 => k0_hw22.1 k0_h84
theorem k0_off240_inb : ∀ (arg24 : BitVec 32) (arg25 : BitVec 32) (k0_hw22 : k0_chk22 arg24 arg25), ∀ (k0_h84 : k0_cond84 arg24 = 1#1), ∀ a, (k0_off240 arg24 arg25) a + S1x8x896.size a ≤ S48x64x896.size a := fun arg24 arg25 k0_hw22 k0_h84 => k0_hw22.2.1 k0_h84
theorem k0_off242_inb : ∀ (arg24 : BitVec 32) (arg25 : BitVec 32) (k0_hw22 : k0_chk22 arg24 arg25), ∀ (k0_h84 : k0_cond84 arg24 = 1#1), ∀ a, (k0_off242 arg24 arg25) a + S1x8x960.size a ≤ S48x64x960.size a := fun arg24 arg25 k0_hw22 k0_h84 => k0_hw22.2.2 k0_h84

def k0_mult74 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_365 : BitVec 32 := 128#32
  let v592 : BitVec 32 := Scalar.muli v571 c128_i32_365
  let v593 : BitVec 32 := Scalar.addi v591 v592
  v593
def k0_cond85 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_349 : BitVec 32 := 8#32
  let v572 : BitVec 32 := Scalar.andi v556 c8_i32_349
  let c0_i32_350 : BitVec 32 := 0#32
  let v573 : BitVec 1 := Scalar.cmpi .ne v572 c0_i32_350
  let v574 : BitVec 32 := Scalar.extui v573
  let c0_i32_351 : BitVec 32 := 0#32
  let v575 : BitVec 1 := Scalar.cmpi .ne v574 c0_i32_351
  v575

def k0_mult75 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_366 : BitVec 32 := 128#32
  let v595 : BitVec 32 := Scalar.muli v571 c128_i32_366
  v595
def k0_off243 (arg23 : BitVec 32) : Fin 1 → Nat :=
  ![arg23.toNat]
def k0_off244 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_366 : BitVec 32 := 128#32
  let v595 : BitVec 32 := Scalar.muli v571 c128_i32_366
  let v596 : BitVec 32 := v595
  let c0_i32_367 : BitVec 32 := 0#32
  ![arg23.toNat, v596.toNat, 0]
def k0_off245 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_365 : BitVec 32 := 128#32
  let v592 : BitVec 32 := Scalar.muli v571 c128_i32_365
  let v593 : BitVec 32 := Scalar.addi v591 v592
  let v594 : BitVec 32 := v593
  let c0_i32_368 : BitVec 32 := 0#32
  ![v493.toNat, v594.toNat, 0]
def k0_off246 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_366 : BitVec 32 := 128#32
  let v595 : BitVec 32 := Scalar.muli v571 c128_i32_366
  let v596 : BitVec 32 := v595
  ![arg23.toNat, 0, v596.toNat]
def k0_off247 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c0_i32_348 : BitVec 32 := 0#32
  let v571 : BitVec 32 := Scalar.andi v556 c0_i32_348
  let c128_i32_365 : BitVec 32 := 128#32
  let v592 : BitVec 32 := Scalar.muli v571 c128_i32_365
  let v593 : BitVec 32 := Scalar.addi v591 v592
  let v594 : BitVec 32 := v593
  ![v493.toNat, 0, v594.toNat]
def k0_mult76 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_365 : BitVec 32 := 128#32
  let v592 : BitVec 32 := Scalar.muli v576 c128_i32_365
  let v593 : BitVec 32 := Scalar.addi v591 v592
  v593
def k0_cond86 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c4_i32_353 : BitVec 32 := 4#32
  let v577 : BitVec 32 := Scalar.andi v556 c4_i32_353
  let c0_i32_354 : BitVec 32 := 0#32
  let v578 : BitVec 1 := Scalar.cmpi .ne v577 c0_i32_354
  let v579 : BitVec 32 := Scalar.extui v578
  let c0_i32_355 : BitVec 32 := 0#32
  let v580 : BitVec 1 := Scalar.cmpi .ne v579 c0_i32_355
  v580

def k0_mult77 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_366 : BitVec 32 := 128#32
  let v595 : BitVec 32 := Scalar.muli v576 c128_i32_366
  v595
def k0_off248 (arg23 : BitVec 32) : Fin 1 → Nat :=
  ![arg23.toNat]
def k0_off249 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_366 : BitVec 32 := 128#32
  let v595 : BitVec 32 := Scalar.muli v576 c128_i32_366
  let v596 : BitVec 32 := v595
  let c0_i32_367 : BitVec 32 := 0#32
  ![arg23.toNat, v596.toNat, 0]
def k0_off250 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_365 : BitVec 32 := 128#32
  let v592 : BitVec 32 := Scalar.muli v576 c128_i32_365
  let v593 : BitVec 32 := Scalar.addi v591 v592
  let v594 : BitVec 32 := v593
  let c0_i32_368 : BitVec 32 := 0#32
  ![v493.toNat, v594.toNat, 0]
def k0_off251 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_366 : BitVec 32 := 128#32
  let v595 : BitVec 32 := Scalar.muli v576 c128_i32_366
  let v596 : BitVec 32 := v595
  ![arg23.toNat, 0, v596.toNat]
def k0_off252 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c8_i32_352 : BitVec 32 := 8#32
  let v576 : BitVec 32 := Scalar.andi v556 c8_i32_352
  let c128_i32_365 : BitVec 32 := 128#32
  let v592 : BitVec 32 := Scalar.muli v576 c128_i32_365
  let v593 : BitVec 32 := Scalar.addi v591 v592
  let v594 : BitVec 32 := v593
  ![v493.toNat, 0, v594.toNat]
def k0_mult78 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_365 : BitVec 32 := 128#32
  let v592 : BitVec 32 := Scalar.muli v581 c128_i32_365
  let v593 : BitVec 32 := Scalar.addi v591 v592
  v593
def k0_cond87 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c2_i32_357 : BitVec 32 := 2#32
  let v582 : BitVec 32 := Scalar.andi v556 c2_i32_357
  let c0_i32_358 : BitVec 32 := 0#32
  let v583 : BitVec 1 := Scalar.cmpi .ne v582 c0_i32_358
  let v584 : BitVec 32 := Scalar.extui v583
  let c0_i32_359 : BitVec 32 := 0#32
  let v585 : BitVec 1 := Scalar.cmpi .ne v584 c0_i32_359
  v585

def k0_mult79 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_366 : BitVec 32 := 128#32
  let v595 : BitVec 32 := Scalar.muli v581 c128_i32_366
  v595
def k0_off253 (arg23 : BitVec 32) : Fin 1 → Nat :=
  ![arg23.toNat]
def k0_off254 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_366 : BitVec 32 := 128#32
  let v595 : BitVec 32 := Scalar.muli v581 c128_i32_366
  let v596 : BitVec 32 := v595
  let c0_i32_367 : BitVec 32 := 0#32
  ![arg23.toNat, v596.toNat, 0]
def k0_off255 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_365 : BitVec 32 := 128#32
  let v592 : BitVec 32 := Scalar.muli v581 c128_i32_365
  let v593 : BitVec 32 := Scalar.addi v591 v592
  let v594 : BitVec 32 := v593
  let c0_i32_368 : BitVec 32 := 0#32
  ![v493.toNat, v594.toNat, 0]
def k0_off256 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_366 : BitVec 32 := 128#32
  let v595 : BitVec 32 := Scalar.muli v581 c128_i32_366
  let v596 : BitVec 32 := v595
  ![arg23.toNat, 0, v596.toNat]
def k0_off257 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c12_i32_356 : BitVec 32 := 12#32
  let v581 : BitVec 32 := Scalar.andi v556 c12_i32_356
  let c128_i32_365 : BitVec 32 := 128#32
  let v592 : BitVec 32 := Scalar.muli v581 c128_i32_365
  let v593 : BitVec 32 := Scalar.addi v591 v592
  let v594 : BitVec 32 := v593
  ![v493.toNat, 0, v594.toNat]
def k0_mult80 (arg25 : BitVec 32) (v535 : BitVec 32) : BitVec 32 :=
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_365 : BitVec 32 := 128#32
  let v592 : BitVec 32 := Scalar.muli v586 c128_i32_365
  let v593 : BitVec 32 := Scalar.addi v591 v592
  v593
def k0_cond88 (arg25 : BitVec 32) (v535 : BitVec 32) : BitVec 1 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c1_i32_361 : BitVec 32 := 1#32
  let v587 : BitVec 32 := Scalar.andi v556 c1_i32_361
  let c0_i32_362 : BitVec 32 := 0#32
  let v588 : BitVec 1 := Scalar.cmpi .ne v587 c0_i32_362
  let v589 : BitVec 32 := Scalar.extui v588
  let c0_i32_363 : BitVec 32 := 0#32
  let v590 : BitVec 1 := Scalar.cmpi .ne v589 c0_i32_363
  v590

def k0_mult81 (arg25 : BitVec 32) (v535 : BitVec 32) : BitVec 32 :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_366 : BitVec 32 := 128#32
  let v595 : BitVec 32 := Scalar.muli v586 c128_i32_366
  v595
def k0_off258 (arg23 : BitVec 32) : Fin 1 → Nat :=
  ![arg23.toNat]
def k0_off259 (arg23 : BitVec 32) (arg25 : BitVec 32) (v535 : BitVec 32) : Fin 3 → Nat :=
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_366 : BitVec 32 := 128#32
  let v595 : BitVec 32 := Scalar.muli v586 c128_i32_366
  let v596 : BitVec 32 := v595
  let c0_i32_367 : BitVec 32 := 0#32
  ![arg23.toNat, v596.toNat, 0]
def k0_off260 (arg24 : BitVec 32) (arg25 : BitVec 32) (v535 : BitVec 32) : Fin 3 → Nat :=
  let c47_i32_309 : BitVec 32 := 47#32
  let v493 : BitVec 32 := Scalar.minsi arg24 c47_i32_309
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_365 : BitVec 32 := 128#32
  let v592 : BitVec 32 := Scalar.muli v586 c128_i32_365
  let v593 : BitVec 32 := Scalar.addi v591 v592
  let v594 : BitVec 32 := v593
  let c0_i32_368 : BitVec 32 := 0#32
  ![v493.toNat, v594.toNat, 0]
def k0_off261 (arg23 : BitVec 32) (arg25 : BitVec 32) (v535 : BitVec 32) : Fin 3 → Nat :=
  let c0_i32_369 : BitVec 32 := 0#32
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_366 : BitVec 32 := 128#32
  let v595 : BitVec 32 := Scalar.muli v586 c128_i32_366
  let v596 : BitVec 32 := v595
  ![arg23.toNat, 0, v596.toNat]
def k0_off262 (arg24 : BitVec 32) (arg25 : BitVec 32) (v535 : BitVec 32) : Fin 3 → Nat :=
  let c47_i32_309 : BitVec 32 := 47#32
  let v493 : BitVec 32 := Scalar.minsi arg24 c47_i32_309
  let c0_i32_370 : BitVec 32 := 0#32
  let c1024_i32_364 : BitVec 32 := 1024#32
  let v591 : BitVec 32 := Scalar.muli arg25 c1024_i32_364
  let c1024_i32_331 : BitVec 32 := 1024#32
  let v536 : BitVec 32 := Scalar.muli arg25 c1024_i32_331
  let v537 : BitVec 32 := Scalar.subi v535 v536
  let c127_i32_332 : BitVec 32 := 127#32
  let v538 : BitVec 32 := Scalar.addi v537 c127_i32_332
  let c0_i32_334 : BitVec 32 := 0#32
  let v540 : BitVec 1 := Scalar.cmpi .sgt v538 c0_i32_334
  let v541 : BitVec 32 := Scalar.extui v540
  let c0_i32_335 : BitVec 32 := 0#32
  let v542 : BitVec 1 := Scalar.cmpi .slt v538 c0_i32_335
  let v543 : BitVec 32 := Scalar.extui v542
  let v544 : BitVec 32 := Scalar.subi v541 v543
  let c128_i32_333 : BitVec 32 := 128#32
  let c0_i32_336 : BitVec 32 := 0#32
  let v545 : BitVec 1 := Scalar.cmpi .sgt c128_i32_333 c0_i32_336
  let v546 : BitVec 32 := Scalar.extui v545
  let c0_i32_337 : BitVec 32 := 0#32
  let v547 : BitVec 1 := Scalar.cmpi .slt c128_i32_333 c0_i32_337
  let v548 : BitVec 32 := Scalar.extui v547
  let v549 : BitVec 32 := Scalar.subi v546 v548
  let v550 : BitVec 1 := Scalar.cmpi .ne v544 v549
  let v551 : BitVec 32 := Scalar.remsi v538 c128_i32_333
  let c0_i32_338 : BitVec 32 := 0#32
  let v552 : BitVec 1 := Scalar.cmpi .ne v551 c0_i32_338
  let v553 : BitVec 1 := Scalar.andi v550 v552
  let v539 : BitVec 32 := Scalar.divsi v538 c128_i32_333
  let c1_i32_339 : BitVec 32 := 1#32
  let v554 : BitVec 32 := Scalar.subi v539 c1_i32_339
  let v555 : BitVec 32 := Scalar.select v553 v554 v539
  let c8_i32_340 : BitVec 32 := 8#32
  let v556 : BitVec 32 := Scalar.minsi v555 c8_i32_340
  let c14_i32_360 : BitVec 32 := 14#32
  let v586 : BitVec 32 := Scalar.andi v556 c14_i32_360
  let c128_i32_365 : BitVec 32 := 128#32
  let v592 : BitVec 32 := Scalar.muli v586 c128_i32_365
  let v593 : BitVec 32 := Scalar.addi v591 v592
  let v594 : BitVec 32 := v593
  ![v493.toNat, 0, v594.toNat]

def k0_chk23_0 (arg23 : BitVec 32) (arg24 : BitVec 32) (arg25 : BitVec 32) (v535 : BitVec 32) : Prop :=
  (∀ (k0_h84 : k0_cond84 arg24 = 1#1), ∀ (k0_h85 : k0_cond85 arg25 v535 = 1#1), 128 ∣ (k0_mult74 arg25 v535).toNat) ∧
  (∀ (k0_h84 : k0_cond84 arg24 = 1#1), ∀ (k0_h85 : k0_cond85 arg25 v535 = 1#1), 128 ∣ (k0_mult75 arg25 v535).toNat) ∧
  (∀ (k0_h84 : k0_cond84 arg24 = 1#1), ∀ (k0_h85 : k0_cond85 arg25 v535 = 1#1), ∀ a, (k0_off243 arg23) a + S1.size a ≤ S5.size a) ∧
  (∀ (k0_h84 : k0_cond84 arg24 = 1#1), ∀ (k0_h85 : k0_cond85 arg25 v535 = 1#1), ∀ a, (k0_off244 arg23 arg25 v535) a + S1x1024x896.size a ≤ S5x1024x896.size a) ∧
  (∀ (k0_h84 : k0_cond84 arg24 = 1#1), ∀ (k0_h85 : k0_cond85 arg25 v535 = 1#1), ∀ a, (k0_off245 arg24 arg25 v535) a + S1x1024x896.size a ≤ S48x8192x896.size a) ∧
  (∀ (k0_h84 : k0_cond84 arg24 = 1#1), ∀ (k0_h85 : k0_cond85 arg25 v535 = 1#1), ∀ (hinb : ∀ a, (k0_off245 arg24 arg25 v535) a + S1x1024x896.size a ≤ S48x8192x896.size a), (Rect.unit (s := S48x8192x896) (k0_off245 arg24 arg25 v535) S1x1024x896.size hinb).WholeWords (EltTy.packing .fp8e4m3)) ∧
  (∀ (k0_h84 : k0_cond84 arg24 = 1#1), ∀ (k0_h85 : k0_cond85 arg25 v535 = 1#1), ∀ (hinb : ∀ a, (k0_off244 arg23 arg25 v535) a + S1x1024x896.size a ≤ S5x1024x896.size a), (Rect.unit (s := S5x1024x896) (k0_off244 arg23 arg25 v535) S1x1024x896.size hinb).WholeWords (EltTy.packing .fp8e4m3)) ∧
  (∀ (k0_h84 : k0_cond84 arg24 = 1#1), ∀ (k0_h85 : k0_cond85 arg25 v535 = 1#1), ∀ a, (k0_off246 arg23 arg25 v535) a + S1x960x1024.size a ≤ S5x960x1024.size a) ∧
  (∀ (k0_h84 : k0_cond84 arg24 = 1#1), ∀ (k0_h85 : k0_cond85 arg25 v535 = 1#1), ∀ a, (k0_off247 arg24 arg25 v535) a + S1x960x1024.size a ≤ S48x960x8192.size a) ∧
  (∀ (k0_h84 : k0_cond84 arg24 = 1#1), ∀ (k0_h85 : k0_cond85 arg25 v535 = 1#1), ∀ (hinb : ∀ a, (k0_off247 arg24 arg25 v535) a + S1x960x1024.size a ≤ S48x960x8192.size a), (Rect.unit (s := S48x960x8192) (k0_off247 arg24 arg25 v535) S1x960x1024.size hinb).WholeWords (EltTy.packing .fp8e5m2)) ∧
  (∀ (k0_h84 : k0_cond84 arg24 = 1#1), ∀ (k0_h85 : k0_cond85 arg25 v535 = 1#1), ∀ (hinb : ∀ a, (k0_off246 arg23 arg25 v535) a + S1x960x1024.size a ≤ S5x960x1024.size a), (Rect.unit (s := S5x960x1024) (k0_off246 arg23 arg25 v535) S1x960x1024.size hinb).WholeWords (EltTy.packing .fp8e5m2)) ∧
  (∀ (k0_h84 : k0_cond84 arg24 = 1#1), ∀ (k0_h86 : k0_cond86 arg25 v535 = 1#1), 128 ∣ (k0_mult76 arg25 v535).toNat) ∧
  (∀ (k0_h84 : k0_cond84 arg24 = 1#1), ∀ (k0_h86 : k0_cond86 arg25 v535 = 1#1), 128 ∣ (k0_mult77 arg25 v535).toNat) ∧
  (∀ (k0_h84 : k0_cond84 arg24 = 1#1), ∀ (k0_h86 : k0_cond86 arg25 v535 = 1#1), ∀ a, (k0_off248 arg23) a + S1.size a ≤ S5.size a) ∧
  (∀ (k0_h84 : k0_cond84 arg24 = 1#1), ∀ (k0_h86 : k0_cond86 arg25 v535 = 1#1), ∀ a, (k0_off249 arg23 arg25 v535) a + S1x512x896.size a ≤ S5x1024x896.size a) ∧
  (∀ (k0_h84 : k0_cond84 arg24 = 1#1), ∀ (k0_h86 : k0_cond86 arg25 v535 = 1#1), ∀ a, (k0_off250 arg24 arg25 v535) a + S1x512x896.size a ≤ S48x8192x896.size a) ∧
  (∀ (k0_h84 : k0_cond84 arg24 = 1#1), ∀ (k0_h86 : k0_cond86 arg25 v535 = 1#1), ∀ (hinb : ∀ a, (k0_off250 arg24 arg25 v535) a + S1x512x896.size a ≤ S48x8192x896.size a), (Rect.unit (s := S48x8192x896) (k0_off250 arg24 arg25 v535) S1x512x896.size hinb).WholeWords (EltTy.packing .fp8e4m3)) ∧
  (∀ (k0_h84 : k0_cond84 arg24 = 1#1), ∀ (k0_h86 : k0_cond86 arg25 v535 = 1#1), ∀ (hinb : ∀ a, (k0_off249 arg23 arg25 v535) a + S1x512x896.size a ≤ S5x1024x896.size a), (Rect.unit (s := S5x1024x896) (k0_off249 arg23 arg25 v535) S1x512x896.size hinb).WholeWords (EltTy.packing .fp8e4m3)) ∧
  (∀ (k0_h84 : k0_cond84 arg24 = 1#1), ∀ (k0_h86 : k0_cond86 arg25 v535 = 1#1), ∀ a, (k0_off251 arg23 arg25 v535) a + S1x960x512.size a ≤ S5x960x1024.size a) ∧
  (∀ (k0_h84 : k0_cond84 arg24 = 1#1), ∀ (k0_h86 : k0_cond86 arg25 v535 = 1#1), ∀ a, (k0_off252 arg24 arg25 v535) a + S1x960x512.size a ≤ S48x960x8192.size a) ∧
  (∀ (k0_h84 : k0_cond84 arg24 = 1#1), ∀ (k0_h86 : k0_cond86 arg25 v535 = 1#1), ∀ (hinb : ∀ a, (k0_off252 arg24 arg25 v535) a + S1x960x512.size a ≤ S48x960x8192.size a), (Rect.unit (s := S48x960x8192) (k0_off252 arg24 arg25 v535) S1x960x512.size hinb).WholeWords (EltTy.packing .fp8e5m2)) ∧
  (∀ (k0_h84 : k0_cond84 arg24 = 1#1), ∀ (k0_h86 : k0_cond86 arg25 v535 = 1#1), ∀ (hinb : ∀ a, (k0_off251 arg23 arg25 v535) a + S1x960x512.size a ≤ S5x960x1024.size a), (Rect.unit (s := S5x960x1024) (k0_off251 arg23 arg25 v535) S1x960x512.size hinb).WholeWords (EltTy.packing .fp8e5m2)) ∧
  (∀ (k0_h84 : k0_cond84 arg24 = 1#1), ∀ (k0_h87 : k0_cond87 arg25 v535 = 1#1), 128 ∣ (k0_mult78 arg25 v535).toNat) ∧
  (∀ (k0_h84 : k0_cond84 arg24 = 1#1), ∀ (k0_h87 : k0_cond87 arg25 v535 = 1#1), 128 ∣ (k0_mult79 arg25 v535).toNat) ∧
  (∀ (k0_h84 : k0_cond84 arg24 = 1#1), ∀ (k0_h87 : k0_cond87 arg25 v535 = 1#1), ∀ a, (k0_off253 arg23) a + S1.size a ≤ S5.size a) ∧
  (∀ (k0_h84 : k0_cond84 arg24 = 1#1), ∀ (k0_h87 : k0_cond87 arg25 v535 = 1#1), ∀ a, (k0_off254 arg23 arg25 v535) a + S1x256x896.size a ≤ S5x1024x896.size a) ∧
  (∀ (k0_h84 : k0_cond84 arg24 = 1#1), ∀ (k0_h87 : k0_cond87 arg25 v535 = 1#1), ∀ a, (k0_off255 arg24 arg25 v535) a + S1x256x896.size a ≤ S48x8192x896.size a) ∧
  (∀ (k0_h84 : k0_cond84 arg24 = 1#1), ∀ (k0_h87 : k0_cond87 arg25 v535 = 1#1), ∀ (hinb : ∀ a, (k0_off255 arg24 arg25 v535) a + S1x256x896.size a ≤ S48x8192x896.size a), (Rect.unit (s := S48x8192x896) (k0_off255 arg24 arg25 v535) S1x256x896.size hinb).WholeWords (EltTy.packing .fp8e4m3)) ∧
  (∀ (k0_h84 : k0_cond84 arg24 = 1#1), ∀ (k0_h87 : k0_cond87 arg25 v535 = 1#1), ∀ (hinb : ∀ a, (k0_off254 arg23 arg25 v535) a + S1x256x896.size a ≤ S5x1024x896.size a), (Rect.unit (s := S5x1024x896) (k0_off254 arg23 arg25 v535) S1x256x896.size hinb).WholeWords (EltTy.packing .fp8e4m3)) ∧
  (∀ (k0_h84 : k0_cond84 arg24 = 1#1), ∀ (k0_h87 : k0_cond87 arg25 v535 = 1#1), ∀ a, (k0_off256 arg23 arg25 v535) a + S1x960x256.size a ≤ S5x960x1024.size a) ∧
  (∀ (k0_h84 : k0_cond84 arg24 = 1#1), ∀ (k0_h87 : k0_cond87 arg25 v535 = 1#1), ∀ a, (k0_off257 arg24 arg25 v535) a + S1x960x256.size a ≤ S48x960x8192.size a) ∧
  (∀ (k0_h84 : k0_cond84 arg24 = 1#1), ∀ (k0_h87 : k0_cond87 arg25 v535 = 1#1), ∀ (hinb : ∀ a, (k0_off257 arg24 arg25 v535) a + S1x960x256.size a ≤ S48x960x8192.size a), (Rect.unit (s := S48x960x8192) (k0_off257 arg24 arg25 v535) S1x960x256.size hinb).WholeWords (EltTy.packing .fp8e5m2))
def k0_chk23_1 (arg23 : BitVec 32) (arg24 : BitVec 32) (arg25 : BitVec 32) (v535 : BitVec 32) : Prop :=
  (∀ (k0_h84 : k0_cond84 arg24 = 1#1), ∀ (k0_h87 : k0_cond87 arg25 v535 = 1#1), ∀ (hinb : ∀ a, (k0_off256 arg23 arg25 v535) a + S1x960x256.size a ≤ S5x960x1024.size a), (Rect.unit (s := S5x960x1024) (k0_off256 arg23 arg25 v535) S1x960x256.size hinb).WholeWords (EltTy.packing .fp8e5m2)) ∧
  (∀ (k0_h84 : k0_cond84 arg24 = 1#1), ∀ (k0_h88 : k0_cond88 arg25 v535 = 1#1), 128 ∣ (k0_mult80 arg25 v535).toNat) ∧
  (∀ (k0_h84 : k0_cond84 arg24 = 1#1), ∀ (k0_h88 : k0_cond88 arg25 v535 = 1#1), 128 ∣ (k0_mult81 arg25 v535).toNat) ∧
  (∀ (k0_h84 : k0_cond84 arg24 = 1#1), ∀ (k0_h88 : k0_cond88 arg25 v535 = 1#1), ∀ a, (k0_off258 arg23) a + S1.size a ≤ S5.size a) ∧
  (∀ (k0_h84 : k0_cond84 arg24 = 1#1), ∀ (k0_h88 : k0_cond88 arg25 v535 = 1#1), ∀ a, (k0_off259 arg23 arg25 v535) a + S1x128x896.size a ≤ S5x1024x896.size a) ∧
  (∀ (k0_h84 : k0_cond84 arg24 = 1#1), ∀ (k0_h88 : k0_cond88 arg25 v535 = 1#1), ∀ a, (k0_off260 arg24 arg25 v535) a + S1x128x896.size a ≤ S48x8192x896.size a) ∧
  (∀ (k0_h84 : k0_cond84 arg24 = 1#1), ∀ (k0_h88 : k0_cond88 arg25 v535 = 1#1), ∀ (hinb : ∀ a, (k0_off260 arg24 arg25 v535) a + S1x128x896.size a ≤ S48x8192x896.size a), (Rect.unit (s := S48x8192x896) (k0_off260 arg24 arg25 v535) S1x128x896.size hinb).WholeWords (EltTy.packing .fp8e4m3)) ∧
  (∀ (k0_h84 : k0_cond84 arg24 = 1#1), ∀ (k0_h88 : k0_cond88 arg25 v535 = 1#1), ∀ (hinb : ∀ a, (k0_off259 arg23 arg25 v535) a + S1x128x896.size a ≤ S5x1024x896.size a), (Rect.unit (s := S5x1024x896) (k0_off259 arg23 arg25 v535) S1x128x896.size hinb).WholeWords (EltTy.packing .fp8e4m3)) ∧
  (∀ (k0_h84 : k0_cond84 arg24 = 1#1), ∀ (k0_h88 : k0_cond88 arg25 v535 = 1#1), ∀ a, (k0_off261 arg23 arg25 v535) a + S1x960x128.size a ≤ S5x960x1024.size a) ∧
  (∀ (k0_h84 : k0_cond84 arg24 = 1#1), ∀ (k0_h88 : k0_cond88 arg25 v535 = 1#1), ∀ a, (k0_off262 arg24 arg25 v535) a + S1x960x128.size a ≤ S48x960x8192.size a) ∧
  (∀ (k0_h84 : k0_cond84 arg24 = 1#1), ∀ (k0_h88 : k0_cond88 arg25 v535 = 1#1), ∀ (hinb : ∀ a, (k0_off262 arg24 arg25 v535) a + S1x960x128.size a ≤ S48x960x8192.size a), (Rect.unit (s := S48x960x8192) (k0_off262 arg24 arg25 v535) S1x960x128.size hinb).WholeWords (EltTy.packing .fp8e5m2)) ∧
  (∀ (k0_h84 : k0_cond84 arg24 = 1#1), ∀ (k0_h88 : k0_cond88 arg25 v535 = 1#1), ∀ (hinb : ∀ a, (k0_off261 arg23 arg25 v535) a + S1x960x128.size a ≤ S5x960x1024.size a), (Rect.unit (s := S5x960x1024) (k0_off261 arg23 arg25 v535) S1x960x128.size hinb).WholeWords (EltTy.packing .fp8e5m2))
def k0_chk23 (arg23 : BitVec 32) (arg24 : BitVec 32) (arg25 : BitVec 32) (v535 : BitVec 32) : Prop :=
  k0_chk23_0 arg23 arg24 arg25 v535 ∧
  k0_chk23_1 arg23 arg24 arg25 v535
theorem k0_mult74_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), 128 ∣ (k0_mult74 arg25 v535).toNat := fun arg23 arg24 arg25 v535 k0_hw23 k0_h84 k0_h85 => k0_hw23.1.1 k0_h84 k0_h85
theorem k0_mult75_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), 128 ∣ (k0_mult75 arg25 v535).toNat := fun arg23 arg24 arg25 v535 k0_hw23 k0_h84 k0_h85 => k0_hw23.1.2.1 k0_h84 k0_h85
theorem k0_off243_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), ∀ a, (k0_off243 arg23) a + S1.size a ≤ S5.size a := fun arg23 arg24 arg25 v535 k0_hw23 k0_h84 k0_h85 => k0_hw23.1.2.2.1 k0_h84 k0_h85
theorem k0_off244_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), ∀ a, (k0_off244 arg23 arg25 v535) a + S1x1024x896.size a ≤ S5x1024x896.size a := fun arg23 arg24 arg25 v535 k0_hw23 k0_h84 k0_h85 => k0_hw23.1.2.2.2.1 k0_h84 k0_h85
theorem k0_off245_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), ∀ a, (k0_off245 arg24 arg25 v535) a + S1x1024x896.size a ≤ S48x8192x896.size a := fun arg23 arg24 arg25 v535 k0_hw23 k0_h84 k0_h85 => k0_hw23.1.2.2.2.2.1 k0_h84 k0_h85
theorem k0_off245_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), (Rect.unit (s := S48x8192x896) (k0_off245 arg24 arg25 v535) S1x1024x896.size (k0_off245_inb arg23 arg24 arg25 v535 k0_hw23 k0_h84 k0_h85)).WholeWords (EltTy.packing .fp8e4m3) := fun arg23 arg24 arg25 v535 k0_hw23 k0_h84 k0_h85 => k0_hw23.1.2.2.2.2.2.1 k0_h84 k0_h85 (k0_off245_inb arg23 arg24 arg25 v535 k0_hw23 k0_h84 k0_h85)
theorem k0_off244_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), (Rect.unit (s := S5x1024x896) (k0_off244 arg23 arg25 v535) S1x1024x896.size (k0_off244_inb arg23 arg24 arg25 v535 k0_hw23 k0_h84 k0_h85)).WholeWords (EltTy.packing .fp8e4m3) := fun arg23 arg24 arg25 v535 k0_hw23 k0_h84 k0_h85 => k0_hw23.1.2.2.2.2.2.2.1 k0_h84 k0_h85 (k0_off244_inb arg23 arg24 arg25 v535 k0_hw23 k0_h84 k0_h85)
theorem k0_off246_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), ∀ a, (k0_off246 arg23 arg25 v535) a + S1x960x1024.size a ≤ S5x960x1024.size a := fun arg23 arg24 arg25 v535 k0_hw23 k0_h84 k0_h85 => k0_hw23.1.2.2.2.2.2.2.2.1 k0_h84 k0_h85
theorem k0_off247_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), ∀ a, (k0_off247 arg24 arg25 v535) a + S1x960x1024.size a ≤ S48x960x8192.size a := fun arg23 arg24 arg25 v535 k0_hw23 k0_h84 k0_h85 => k0_hw23.1.2.2.2.2.2.2.2.2.1 k0_h84 k0_h85
theorem k0_off247_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), (Rect.unit (s := S48x960x8192) (k0_off247 arg24 arg25 v535) S1x960x1024.size (k0_off247_inb arg23 arg24 arg25 v535 k0_hw23 k0_h84 k0_h85)).WholeWords (EltTy.packing .fp8e5m2) := fun arg23 arg24 arg25 v535 k0_hw23 k0_h84 k0_h85 => k0_hw23.1.2.2.2.2.2.2.2.2.2.1 k0_h84 k0_h85 (k0_off247_inb arg23 arg24 arg25 v535 k0_hw23 k0_h84 k0_h85)
theorem k0_off246_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h85 : k0_cond85 arg25 v535 = 1#1), (Rect.unit (s := S5x960x1024) (k0_off246 arg23 arg25 v535) S1x960x1024.size (k0_off246_inb arg23 arg24 arg25 v535 k0_hw23 k0_h84 k0_h85)).WholeWords (EltTy.packing .fp8e5m2) := fun arg23 arg24 arg25 v535 k0_hw23 k0_h84 k0_h85 => k0_hw23.1.2.2.2.2.2.2.2.2.2.2.1 k0_h84 k0_h85 (k0_off246_inb arg23 arg24 arg25 v535 k0_hw23 k0_h84 k0_h85)
theorem k0_mult76_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), 128 ∣ (k0_mult76 arg25 v535).toNat := fun arg23 arg24 arg25 v535 k0_hw23 k0_h84 k0_h86 => k0_hw23.1.2.2.2.2.2.2.2.2.2.2.2.1 k0_h84 k0_h86
theorem k0_mult77_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), 128 ∣ (k0_mult77 arg25 v535).toNat := fun arg23 arg24 arg25 v535 k0_hw23 k0_h84 k0_h86 => k0_hw23.1.2.2.2.2.2.2.2.2.2.2.2.2.1 k0_h84 k0_h86
theorem k0_off248_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), ∀ a, (k0_off248 arg23) a + S1.size a ≤ S5.size a := fun arg23 arg24 arg25 v535 k0_hw23 k0_h84 k0_h86 => k0_hw23.1.2.2.2.2.2.2.2.2.2.2.2.2.2.1 k0_h84 k0_h86
theorem k0_off249_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), ∀ a, (k0_off249 arg23 arg25 v535) a + S1x512x896.size a ≤ S5x1024x896.size a := fun arg23 arg24 arg25 v535 k0_hw23 k0_h84 k0_h86 => k0_hw23.1.2.2.2.2.2.2.2.2.2.2.2.2.2.2.1 k0_h84 k0_h86
theorem k0_off250_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), ∀ a, (k0_off250 arg24 arg25 v535) a + S1x512x896.size a ≤ S48x8192x896.size a := fun arg23 arg24 arg25 v535 k0_hw23 k0_h84 k0_h86 => k0_hw23.1.2.2.2.2.2.2.2.2.2.2.2.2.2.2.2.1 k0_h84 k0_h86
theorem k0_off250_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), (Rect.unit (s := S48x8192x896) (k0_off250 arg24 arg25 v535) S1x512x896.size (k0_off250_inb arg23 arg24 arg25 v535 k0_hw23 k0_h84 k0_h86)).WholeWords (EltTy.packing .fp8e4m3) := fun arg23 arg24 arg25 v535 k0_hw23 k0_h84 k0_h86 => k0_hw23.1.2.2.2.2.2.2.2.2.2.2.2.2.2.2.2.2.1 k0_h84 k0_h86 (k0_off250_inb arg23 arg24 arg25 v535 k0_hw23 k0_h84 k0_h86)
theorem k0_off249_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), (Rect.unit (s := S5x1024x896) (k0_off249 arg23 arg25 v535) S1x512x896.size (k0_off249_inb arg23 arg24 arg25 v535 k0_hw23 k0_h84 k0_h86)).WholeWords (EltTy.packing .fp8e4m3) := fun arg23 arg24 arg25 v535 k0_hw23 k0_h84 k0_h86 => k0_hw23.1.2.2.2.2.2.2.2.2.2.2.2.2.2.2.2.2.2.1 k0_h84 k0_h86 (k0_off249_inb arg23 arg24 arg25 v535 k0_hw23 k0_h84 k0_h86)
theorem k0_off251_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), ∀ a, (k0_off251 arg23 arg25 v535) a + S1x960x512.size a ≤ S5x960x1024.size a := fun arg23 arg24 arg25 v535 k0_hw23 k0_h84 k0_h86 => k0_hw23.1.2.2.2.2.2.2.2.2.2.2.2.2.2.2.2.2.2.2.1 k0_h84 k0_h86
theorem k0_off252_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), ∀ a, (k0_off252 arg24 arg25 v535) a + S1x960x512.size a ≤ S48x960x8192.size a := fun arg23 arg24 arg25 v535 k0_hw23 k0_h84 k0_h86 => k0_hw23.1.2.2.2.2.2.2.2.2.2.2.2.2.2.2.2.2.2.2.2.1 k0_h84 k0_h86
theorem k0_off252_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), (Rect.unit (s := S48x960x8192) (k0_off252 arg24 arg25 v535) S1x960x512.size (k0_off252_inb arg23 arg24 arg25 v535 k0_hw23 k0_h84 k0_h86)).WholeWords (EltTy.packing .fp8e5m2) := fun arg23 arg24 arg25 v535 k0_hw23 k0_h84 k0_h86 => k0_hw23.1.2.2.2.2.2.2.2.2.2.2.2.2.2.2.2.2.2.2.2.2.1 k0_h84 k0_h86 (k0_off252_inb arg23 arg24 arg25 v535 k0_hw23 k0_h84 k0_h86)
theorem k0_off251_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h86 : k0_cond86 arg25 v535 = 1#1), (Rect.unit (s := S5x960x1024) (k0_off251 arg23 arg25 v535) S1x960x512.size (k0_off251_inb arg23 arg24 arg25 v535 k0_hw23 k0_h84 k0_h86)).WholeWords (EltTy.packing .fp8e5m2) := fun arg23 arg24 arg25 v535 k0_hw23 k0_h84 k0_h86 => k0_hw23.1.2.2.2.2.2.2.2.2.2.2.2.2.2.2.2.2.2.2.2.2.2.1 k0_h84 k0_h86 (k0_off251_inb arg23 arg24 arg25 v535 k0_hw23 k0_h84 k0_h86)
theorem k0_mult78_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), 128 ∣ (k0_mult78 arg25 v535).toNat := fun arg23 arg24 arg25 v535 k0_hw23 k0_h84 k0_h87 => k0_hw23.1.2.2.2.2.2.2.2.2.2.2.2.2.2.2.2.2.2.2.2.2.2.2.1 k0_h84 k0_h87
theorem k0_mult79_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), 128 ∣ (k0_mult79 arg25 v535).toNat := fun arg23 arg24 arg25 v535 k0_hw23 k0_h84 k0_h87 => k0_hw23.1.2.2.2.2.2.2.2.2.2.2.2.2.2.2.2.2.2.2.2.2.2.2.2.1 k0_h84 k0_h87
theorem k0_off253_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), ∀ a, (k0_off253 arg23) a + S1.size a ≤ S5.size a := fun arg23 arg24 arg25 v535 k0_hw23 k0_h84 k0_h87 => k0_hw23.1.2.2.2.2.2.2.2.2.2.2.2.2.2.2.2.2.2.2.2.2.2.2.2.2.1 k0_h84 k0_h87
theorem k0_off254_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), ∀ a, (k0_off254 arg23 arg25 v535) a + S1x256x896.size a ≤ S5x1024x896.size a := fun arg23 arg24 arg25 v535 k0_hw23 k0_h84 k0_h87 => k0_hw23.1.2.2.2.2.2.2.2.2.2.2.2.2.2.2.2.2.2.2.2.2.2.2.2.2.2.1 k0_h84 k0_h87
theorem k0_off255_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), ∀ a, (k0_off255 arg24 arg25 v535) a + S1x256x896.size a ≤ S48x8192x896.size a := fun arg23 arg24 arg25 v535 k0_hw23 k0_h84 k0_h87 => k0_hw23.1.2.2.2.2.2.2.2.2.2.2.2.2.2.2.2.2.2.2.2.2.2.2.2.2.2.2.1 k0_h84 k0_h87
theorem k0_off255_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), (Rect.unit (s := S48x8192x896) (k0_off255 arg24 arg25 v535) S1x256x896.size (k0_off255_inb arg23 arg24 arg25 v535 k0_hw23 k0_h84 k0_h87)).WholeWords (EltTy.packing .fp8e4m3) := fun arg23 arg24 arg25 v535 k0_hw23 k0_h84 k0_h87 => k0_hw23.1.2.2.2.2.2.2.2.2.2.2.2.2.2.2.2.2.2.2.2.2.2.2.2.2.2.2.2.1 k0_h84 k0_h87 (k0_off255_inb arg23 arg24 arg25 v535 k0_hw23 k0_h84 k0_h87)
theorem k0_off254_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), (Rect.unit (s := S5x1024x896) (k0_off254 arg23 arg25 v535) S1x256x896.size (k0_off254_inb arg23 arg24 arg25 v535 k0_hw23 k0_h84 k0_h87)).WholeWords (EltTy.packing .fp8e4m3) := fun arg23 arg24 arg25 v535 k0_hw23 k0_h84 k0_h87 => k0_hw23.1.2.2.2.2.2.2.2.2.2.2.2.2.2.2.2.2.2.2.2.2.2.2.2.2.2.2.2.2.1 k0_h84 k0_h87 (k0_off254_inb arg23 arg24 arg25 v535 k0_hw23 k0_h84 k0_h87)
theorem k0_off256_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), ∀ a, (k0_off256 arg23 arg25 v535) a + S1x960x256.size a ≤ S5x960x1024.size a := fun arg23 arg24 arg25 v535 k0_hw23 k0_h84 k0_h87 => k0_hw23.1.2.2.2.2.2.2.2.2.2.2.2.2.2.2.2.2.2.2.2.2.2.2.2.2.2.2.2.2.2.1 k0_h84 k0_h87
theorem k0_off257_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), ∀ a, (k0_off257 arg24 arg25 v535) a + S1x960x256.size a ≤ S48x960x8192.size a := fun arg23 arg24 arg25 v535 k0_hw23 k0_h84 k0_h87 => k0_hw23.1.2.2.2.2.2.2.2.2.2.2.2.2.2.2.2.2.2.2.2.2.2.2.2.2.2.2.2.2.2.2.1 k0_h84 k0_h87
theorem k0_off257_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), (Rect.unit (s := S48x960x8192) (k0_off257 arg24 arg25 v535) S1x960x256.size (k0_off257_inb arg23 arg24 arg25 v535 k0_hw23 k0_h84 k0_h87)).WholeWords (EltTy.packing .fp8e5m2) := fun arg23 arg24 arg25 v535 k0_hw23 k0_h84 k0_h87 => k0_hw23.1.2.2.2.2.2.2.2.2.2.2.2.2.2.2.2.2.2.2.2.2.2.2.2.2.2.2.2.2.2.2.2 k0_h84 k0_h87 (k0_off257_inb arg23 arg24 arg25 v535 k0_hw23 k0_h84 k0_h87)
theorem k0_off256_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h87 : k0_cond87 arg25 v535 = 1#1), (Rect.unit (s := S5x960x1024) (k0_off256 arg23 arg25 v535) S1x960x256.size (k0_off256_inb arg23 arg24 arg25 v535 k0_hw23 k0_h84 k0_h87)).WholeWords (EltTy.packing .fp8e5m2) := fun arg23 arg24 arg25 v535 k0_hw23 k0_h84 k0_h87 => k0_hw23.2.1 k0_h84 k0_h87 (k0_off256_inb arg23 arg24 arg25 v535 k0_hw23 k0_h84 k0_h87)
theorem k0_mult80_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), 128 ∣ (k0_mult80 arg25 v535).toNat := fun arg23 arg24 arg25 v535 k0_hw23 k0_h84 k0_h88 => k0_hw23.2.2.1 k0_h84 k0_h88
theorem k0_mult81_dvd : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), 128 ∣ (k0_mult81 arg25 v535).toNat := fun arg23 arg24 arg25 v535 k0_hw23 k0_h84 k0_h88 => k0_hw23.2.2.2.1 k0_h84 k0_h88
theorem k0_off258_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), ∀ a, (k0_off258 arg23) a + S1.size a ≤ S5.size a := fun arg23 arg24 arg25 v535 k0_hw23 k0_h84 k0_h88 => k0_hw23.2.2.2.2.1 k0_h84 k0_h88
theorem k0_off259_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), ∀ a, (k0_off259 arg23 arg25 v535) a + S1x128x896.size a ≤ S5x1024x896.size a := fun arg23 arg24 arg25 v535 k0_hw23 k0_h84 k0_h88 => k0_hw23.2.2.2.2.2.1 k0_h84 k0_h88
theorem k0_off260_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), ∀ a, (k0_off260 arg24 arg25 v535) a + S1x128x896.size a ≤ S48x8192x896.size a := fun arg23 arg24 arg25 v535 k0_hw23 k0_h84 k0_h88 => k0_hw23.2.2.2.2.2.2.1 k0_h84 k0_h88
theorem k0_off260_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), (Rect.unit (s := S48x8192x896) (k0_off260 arg24 arg25 v535) S1x128x896.size (k0_off260_inb arg23 arg24 arg25 v535 k0_hw23 k0_h84 k0_h88)).WholeWords (EltTy.packing .fp8e4m3) := fun arg23 arg24 arg25 v535 k0_hw23 k0_h84 k0_h88 => k0_hw23.2.2.2.2.2.2.2.1 k0_h84 k0_h88 (k0_off260_inb arg23 arg24 arg25 v535 k0_hw23 k0_h84 k0_h88)
theorem k0_off259_wordsfp8e4m3 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), (Rect.unit (s := S5x1024x896) (k0_off259 arg23 arg25 v535) S1x128x896.size (k0_off259_inb arg23 arg24 arg25 v535 k0_hw23 k0_h84 k0_h88)).WholeWords (EltTy.packing .fp8e4m3) := fun arg23 arg24 arg25 v535 k0_hw23 k0_h84 k0_h88 => k0_hw23.2.2.2.2.2.2.2.2.1 k0_h84 k0_h88 (k0_off259_inb arg23 arg24 arg25 v535 k0_hw23 k0_h84 k0_h88)
theorem k0_off261_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), ∀ a, (k0_off261 arg23 arg25 v535) a + S1x960x128.size a ≤ S5x960x1024.size a := fun arg23 arg24 arg25 v535 k0_hw23 k0_h84 k0_h88 => k0_hw23.2.2.2.2.2.2.2.2.2.1 k0_h84 k0_h88
theorem k0_off262_inb : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), ∀ a, (k0_off262 arg24 arg25 v535) a + S1x960x128.size a ≤ S48x960x8192.size a := fun arg23 arg24 arg25 v535 k0_hw23 k0_h84 k0_h88 => k0_hw23.2.2.2.2.2.2.2.2.2.2.1 k0_h84 k0_h88
theorem k0_off262_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), (Rect.unit (s := S48x960x8192) (k0_off262 arg24 arg25 v535) S1x960x128.size (k0_off262_inb arg23 arg24 arg25 v535 k0_hw23 k0_h84 k0_h88)).WholeWords (EltTy.packing .fp8e5m2) := fun arg23 arg24 arg25 v535 k0_hw23 k0_h84 k0_h88 => k0_hw23.2.2.2.2.2.2.2.2.2.2.2.1 k0_h84 k0_h88 (k0_off262_inb arg23 arg24 arg25 v535 k0_hw23 k0_h84 k0_h88)
theorem k0_off261_wordsfp8e5m2 : ∀ (arg23 : BitVec 32) (arg24 : BitVec 32) (arg25 : BitVec 32) (v535 : BitVec 32) (k0_hw23 : k0_chk23 arg23 arg24 arg25 v535), ∀ (k0_h84 : k0_cond84 arg24 = 1#1), ∀ (k0_h88 : k0_cond88 arg25 v535 = 1#1), (Rect.unit (s := S5x960x1024) (k0_off261 arg23 arg25 v535) S1x960x128.size (k0_off261_inb arg23 arg24 arg25 v535 k0_hw23 k0_h84 k0_h88)).WholeWords (EltTy.packing .fp8e5m2) := fun arg23 arg24 arg25 v535 k0_hw23 k0_h84 k0_h88 => k0_hw23.2.2.2.2.2.2.2.2.2.2.2.2 k0_h84 k0_h88 (k0_off261_inb arg23 arg24 arg25 v535 k0_hw23 k0_h84 k0_h88)

def k0_off263 (arg24 : BitVec 32) : Fin 1 → Nat :=
  let c47_i32_309 : BitVec 32 := 47#32
  let v493 : BitVec 32 := Scalar.minsi arg24 c47_i32_309
  let v497 : Index := Scalar.indexCast v493
  ![v497.toNat]

def k0_chk21 (arg23 : BitVec 32) (arg24 : BitVec 32) : Prop :=
  (∀ (k0_h84 : k0_cond84 arg24 = 1#1), ∀ a, (k0_off237 arg24) a + S1.size a ≤ S48.size a) ∧
  (∀ (k0_h84 : k0_cond84 arg24 = 1#1), ∀ a, (k0_off238 arg23) a + S1.size a ≤ S5.size a) ∧
  (∀ (k0_h84 : k0_cond84 arg24 = 1#1), ∀ a, (k0_off239 arg23) a + S1x8x896.size a ≤ S5x8x896.size a) ∧
  (∀ (k0_h84 : k0_cond84 arg24 = 1#1), ∀ a, (k0_off241 arg23) a + S1x8x960.size a ≤ S5x8x960.size a) ∧
  (∀ a, (k0_off263 arg24) a + S1.size a ≤ S48.size a)
theorem k0_off237_inb : ∀ (arg23 : BitVec 32) (arg24 : BitVec 32) (k0_hw21 : k0_chk21 arg23 arg24), ∀ (k0_h84 : k0_cond84 arg24 = 1#1), ∀ a, (k0_off237 arg24) a + S1.size a ≤ S48.size a := fun arg23 arg24 k0_hw21 k0_h84 => k0_hw21.1 k0_h84
theorem k0_off238_inb : ∀ (arg23 : BitVec 32) (arg24 : BitVec 32) (k0_hw21 : k0_chk21 arg23 arg24), ∀ (k0_h84 : k0_cond84 arg24 = 1#1), ∀ a, (k0_off238 arg23) a + S1.size a ≤ S5.size a := fun arg23 arg24 k0_hw21 k0_h84 => k0_hw21.2.1 k0_h84
theorem k0_off239_inb : ∀ (arg23 : BitVec 32) (arg24 : BitVec 32) (k0_hw21 : k0_chk21 arg23 arg24), ∀ (k0_h84 : k0_cond84 arg24 = 1#1), ∀ a, (k0_off239 arg23) a + S1x8x896.size a ≤ S5x8x896.size a := fun arg23 arg24 k0_hw21 k0_h84 => k0_hw21.2.2.1 k0_h84
theorem k0_off241_inb : ∀ (arg23 : BitVec 32) (arg24 : BitVec 32) (k0_hw21 : k0_chk21 arg23 arg24), ∀ (k0_h84 : k0_cond84 arg24 = 1#1), ∀ a, (k0_off241 arg23) a + S1x8x960.size a ≤ S5x8x960.size a := fun arg23 arg24 k0_hw21 k0_h84 => k0_hw21.2.2.2.1 k0_h84
theorem k0_off263_inb : ∀ (arg23 : BitVec 32) (arg24 : BitVec 32) (k0_hw21 : k0_chk21 arg23 arg24), ∀ a, (k0_off263 arg24) a + S1.size a ≤ S48.size a := fun arg23 arg24 k0_hw21 => k0_hw21.2.2.2.2

@[reducible] def k0_t11_loop : Scf.Loop 32 :=
  let c0_i32_333 : BitVec 32 := 0#32
  let c48_i32_334 : BitVec 32 := 48#32
  let v535 : BitVec 32 := Scalar.addi c0_i32_333 c48_i32_334
  let c1_i32_335 : BitVec 32 := 1#32
  ⟨c0_i32_333, v535, c1_i32_335⟩
def k0_off264 (k0_t11 : Fin k0_t11_loop.trips) : Fin 1 → Nat :=
  let c47_i32_337 : BitVec 32 := 47#32
  let c0_i32_333 : BitVec 32 := 0#32
  let c1_i32_335 : BitVec 32 := 1#32
  let arg26 : BitVec 32 := Scf.iv c0_i32_333 c1_i32_335 k0_t11
  let v537 : BitVec 32 := Scalar.subi c47_i32_337 arg26
  let v539 : Index := Scalar.indexCast v537
  ![v539.toNat]
def k0_off265 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v534 : Index := Scalar.indexCast v275
  let c0_331 : Index := 0#32
  let c0_332 : Index := 0#32
  ![v534.toNat, 0, 0]
def k0_off266 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v543 : Index := Scalar.indexCast v275
  let c0_337 : Index := 0#32
  let c0_338 : Index := 0#32
  ![v543.toNat, 0, 0]
def k0_off267 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v543 : Index := Scalar.indexCast v275
  let c0_337 : Index := 0#32
  let c0_338 : Index := 0#32
  ![v543.toNat, 0, 0]
def k0_off268 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32 : BitVec 32 := 10#32
  let c0_i32_185 : BitVec 32 := 0#32
  let v266 : BitVec 1 := Scalar.cmpi .eq c10_i32 c0_i32_185
  let c1_i32_186 : BitVec 32 := 1#32
  let v267 : BitVec 32 := Scalar.select v266 c1_i32_186 c10_i32
  let v268 : BitVec 32 := Scalar.remsi arg18 v267
  let c0_i32_188 : BitVec 32 := 0#32
  let v270 : BitVec 1 := Scalar.cmpi .slt v268 c0_i32_188
  let c0_i32_189 : BitVec 32 := 0#32
  let v271 : BitVec 1 := Scalar.cmpi .slt v267 c0_i32_189
  let v272 : BitVec 1 := Scalar.xori v270 v271
  let c0_i32_187 : BitVec 32 := 0#32
  let v269 : BitVec 1 := Scalar.cmpi .ne v268 c0_i32_187
  let v273 : BitVec 1 := Scalar.andi v272 v269
  let v274 : BitVec 32 := Scalar.addi v268 v267
  let v275 : BitVec 32 := Scalar.select v273 v274 v268
  let v543 : Index := Scalar.indexCast v275
  let c0_337 : Index := 0#32
  let c0_338 : Index := 0#32
  ![v543.toNat, 0, 0]
def k0_off269 (k0_t7 : Fin k0_t7_loop.trips) : Fin 1 → Nat :=
  let c0_i32_123 : BitVec 32 := 0#32
  let c1_i32_125 : BitVec 32 := 1#32
  let arg18 : BitVec 32 := Scf.iv c0_i32_123 c1_i32_125 k0_t7
  let c10_i32_218 : BitVec 32 := 10#32
  let c0_i32_219 : BitVec 32 := 0#32
  let v330 : BitVec 1 := Scalar.cmpi .eq c10_i32_218 c0_i32_219
  let c1_i32_220 : BitVec 32 := 1#32
  let v331 : BitVec 32 := Scalar.select v330 c1_i32_220 c10_i32_218
  let v332 : BitVec 32 := Scalar.remsi arg18 v331
  let c0_i32_222 : BitVec 32 := 0#32
  let v334 : BitVec 1 := Scalar.cmpi .slt v332 c0_i32_222
  let c0_i32_223 : BitVec 32 := 0#32
  let v335 : BitVec 1 := Scalar.cmpi .slt v331 c0_i32_223
  let v336 : BitVec 1 := Scalar.xori v334 v335
  let c0_i32_221 : BitVec 32 := 0#32
  let v333 : BitVec 1 := Scalar.cmpi .ne v332 c0_i32_221
  let v337 : BitVec 1 := Scalar.andi v336 v333
  let v338 : BitVec 32 := Scalar.addi v332 v331
  let v339 : BitVec 32 := Scalar.select v337 v338 v332
  ![v339.toNat]
def k0_off270 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c0_i32_224 : BitVec 32 := 0#32
  let c0_i32_225 : BitVec 32 := 0#32
  ![arg18.toNat, 0, 0]
def k0_off271 (k0_t7 : Fin k0_t7_loop.trips) : Fin 3 → Nat :=
  let c0_i32_123 : BitVec 32 := 0#32
  let c1_i32_125 : BitVec 32 := 1#32
  let arg18 : BitVec 32 := Scf.iv c0_i32_123 c1_i32_125 k0_t7
  let c10_i32_218 : BitVec 32 := 10#32
  let c0_i32_219 : BitVec 32 := 0#32
  let v330 : BitVec 1 := Scalar.cmpi .eq c10_i32_218 c0_i32_219
  let c1_i32_220 : BitVec 32 := 1#32
  let v331 : BitVec 32 := Scalar.select v330 c1_i32_220 c10_i32_218
  let v332 : BitVec 32 := Scalar.remsi arg18 v331
  let c0_i32_222 : BitVec 32 := 0#32
  let v334 : BitVec 1 := Scalar.cmpi .slt v332 c0_i32_222
  let c0_i32_223 : BitVec 32 := 0#32
  let v335 : BitVec 1 := Scalar.cmpi .slt v331 c0_i32_223
  let v336 : BitVec 1 := Scalar.xori v334 v335
  let c0_i32_221 : BitVec 32 := 0#32
  let v333 : BitVec 1 := Scalar.cmpi .ne v332 c0_i32_221
  let v337 : BitVec 1 := Scalar.andi v336 v333
  let v338 : BitVec 32 := Scalar.addi v332 v331
  let v339 : BitVec 32 := Scalar.select v337 v338 v332
  let c0_i32_226 : BitVec 32 := 0#32
  let c0_i32_227 : BitVec 32 := 0#32
  ![v339.toNat, 0, 0]
abbrev stage0_0 : Fin 1 → Memref sig .tc .smem S48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S48x896x960 : Shape := ⟨3, ![48, 896, 960]⟩
abbrev S48 : Shape := ⟨1, ![48]⟩
abbrev S48x64x128x896 : Shape := ⟨4, ![48, 64, 128, 896]⟩
abbrev S48x64x1x896 : Shape := ⟨4, ![48, 64, 1, 896]⟩
abbrev S48x64x128x960 : Shape := ⟨4, ![48, 64, 128, 960]⟩
abbrev S48x64x1x960 : Shape := ⟨4, ![48, 64, 1, 960]⟩
abbrev S8192 : Shape := ⟨1, ![8192]⟩
abbrev S1x64x128x1 : Shape := ⟨4, ![1, 64, 128, 1]⟩
abbrev S48x1x1x1 : Shape := ⟨4, ![48, 1, 1, 1]⟩
abbrev S48x64x128x1 : Shape := ⟨4, ![48, 64, 128, 1]⟩
abbrev S_ : Shape := ⟨0, ![]⟩

abbrev nBuf : Space → Nat
  | .hbm => 30
  | .vmem => 4
  | .smem => 0
  | _ => 0

abbrev bufTy : (tb : Table) → Fin (tcTables nBuf tb) → BufTy
  | .hbm, ⟨0, _⟩ => ⟨S48x8192x896, .fp8e4m3⟩
  | .hbm, ⟨1, _⟩ => ⟨S48x64x896, .f32⟩
  | .hbm, ⟨2, _⟩ => ⟨S48x8192x960, .fp8e5m2⟩
  | .hbm, ⟨3, _⟩ => ⟨S48x64x960, .f32⟩
  | .hbm, ⟨4, _⟩ => ⟨S48x896x960, .f32⟩
  | .hbm, ⟨5, _⟩ => ⟨S48, .i32⟩
  | .hbm, ⟨6, _⟩ => ⟨S48x8192x896, .bf16⟩
  | .hbm, ⟨7, _⟩ => ⟨S48x8192x960, .bf16⟩
  | .hbm, ⟨8, _⟩ => ⟨S48x64x128x896, .bf16⟩
  | .hbm, ⟨9, _⟩ => ⟨S48x64x1x896, .f32⟩
  | .hbm, ⟨10, _⟩ => ⟨S48x64x1x896, .bf16⟩
  | .hbm, ⟨11, _⟩ => ⟨S48x64x128x896, .bf16⟩
  | .hbm, ⟨12, _⟩ => ⟨S48x64x128x896, .bf16⟩
  | .hbm, ⟨13, _⟩ => ⟨S48x64x128x960, .bf16⟩
  | .hbm, ⟨14, _⟩ => ⟨S48x64x1x960, .f32⟩
  | .hbm, ⟨15, _⟩ => ⟨S48x64x1x960, .bf16⟩
  | .hbm, ⟨16, _⟩ => ⟨S48x64x128x960, .bf16⟩
  | .hbm, ⟨17, _⟩ => ⟨S48x64x128x960, .bf16⟩
  | .hbm, ⟨18, _⟩ => ⟨S8192, .i32⟩
  | .hbm, ⟨19, _⟩ => ⟨S1x64x128x1, .i32⟩
  | .hbm, ⟨20, _⟩ => ⟨S48x1x1x1, .i32⟩
  | .hbm, ⟨21, _⟩ => ⟨S48x64x128x1, .i32⟩
  | .hbm, ⟨22, _⟩ => ⟨S48x64x128x1, .i32⟩
  | .hbm, ⟨23, _⟩ => ⟨S48x64x128x1, .i1⟩
  | .hbm, ⟨24, _⟩ => ⟨S_, .bf16⟩
  | .hbm, ⟨25, _⟩ => ⟨S48x64x128x960, .i1⟩
  | .hbm, ⟨26, _⟩ => ⟨S48x64x128x960, .bf16⟩
  | .hbm, ⟨27, _⟩ => ⟨S48x64x128x960, .bf16⟩
  | .hbm, ⟨28, _⟩ => ⟨S48x896x960, .f32⟩
  | .hbm, ⟨29, _⟩ => ⟨S48x896x960, .f32⟩
  | .local _ .vmem, ⟨0, _⟩ => ⟨S48x8192x896, .fp8e4m3⟩
  | .local _ .vmem, ⟨1, _⟩ => ⟨S48x8192x960, .fp8e5m2⟩
  | .local _ .vmem, ⟨2, _⟩ => ⟨S48x8192x896, .bf16⟩
  | .local _ .vmem, ⟨3, _⟩ => ⟨S48x8192x960, .bf16⟩
  | _, _ => ⟨S48x8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S48x8192x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x8192x960 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x8192x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x8192x960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Ring.lean ====
/-
  Batches of copies on one DMA semaphore, as a list of cells: cell `j` of the list is the `j`-th copy issued, its
  amount and what it delivers. One rule issues the next copy, one rule waits for an amount, one takes everything out.
-/
module

public import Idealize.ShloMosaic.Lib.MixedBatch
public import Idealize.ShloMosaic.Lib.Transfers
public import Idealize.ShloMosaic.Lib.Pipeline.Frame
public import Idealize.ShloMosaic.Lib.Tactic

@[expose] public section

noncomputable section

namespace Cert.Ring

open Idealize.ShloMosaic Idealize.ShloMosaic.TcCoe Idealize.ShloMosaic.Tactic
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type} {U : Type} [URA U]

local notation "𝕄" => MT nD τ sig Unit Val ℕ U ℕ

variable (EC : UEmb Counters (MT nD τ sig Unit Val ℕ U ℕ))

/-- One copy of a batch: how much it credits the semaphore, and what it delivers. -/
structure Cell (nD : Nat) (τ : Topo) (sig : RefSig) (Val : EltTy → Type) (U : Type) [URA U] where
  A : ℕ
  D : sProp (MT nD τ sig Unit Val ℕ U ℕ)
  st : Storable (upEmb : UEmb _ (MT nD τ sig Unit Val ℕ U ℕ)) D
  pos : 0 < A

local notation "ℂ" => Cell nD τ sig Val U

/-- The amounts of a list of copies, and their deliveries. -/
def amt (L : List ℂ) : Fin L.length → ℕ := fun i => (L.get i).A
def del (L : List ℂ) : Fin L.length → sProp 𝕄 := fun i => (L.get i).D
instance (L : List ℂ) (i : Fin L.length) : Storable (upEmb : UEmb _ 𝕄) (del L i) := (L.get i).st

/-- The sum of a list's amounts. -/
def tot : List ℂ → ℕ
  | [] => 0
  | a :: l => a.A + tot l

/-- All the deliveries of a list, side by side. -/
def all : List ℂ → sProp 𝕄
  | [] => BI.emp
  | a :: l => iprop(a.D ∗ all l)

theorem tot_append (l l' : List ℂ) : tot (l ++ l') = tot l + tot l' := by
  induction l with
  | nil => simp [tot]
  | cons a l ih => simp [tot, ih, Nat.add_assoc]

theorem all_append (l l' : List ℂ) : (all (l ++ l') : sProp 𝕄) ⊣⊢ iprop(all l ∗ all l') := by
  induction l with
  | nil => exact ⟨emp_sep.2, emp_sep.1⟩
  | cons a l ih =>
    constructor
    · refine (sep_mono_right ih.1).trans ?_
      show iprop(a.D ∗ all l ∗ all l') ⊢ iprop((a.D ∗ all l) ∗ all l')
      iintro ⟨H1, H2, H3⟩
      isplitl [H1 H2]; · isplitl [H1] <;> iassumption
      iexact H3
    · refine Entails.trans ?_ (sep_mono_right ih.2)
      show iprop((a.D ∗ all l) ∗ all l') ⊢ iprop(a.D ∗ all l ∗ all l')
      iintro ⟨⟨H1, H2⟩, H3⟩
      isplitl [H1]; · iexact H1
      isplitl [H2] <;> iassumption

theorem sumTo_amt (pre post : List ℂ) : sumTo (amt (pre ++ post)) pre.length = tot pre := by
  induction pre using List.reverseRecOn generalizing post with
  | nil => rfl
  | append_singleton l a ih =>
    have h := ih (a :: post)
    have e : l ++ [a] ++ post = l ++ a :: post := by simp
    rw [e, show (l ++ [a]).length = l.length + 1 by simp, sumTo_succ _ (by simp : l.length < (l ++ a :: post).length), h, tot_append]
    simp [amt, tot]

/-- A batch over a list of copies: the first `j` issued, `u` units waited for. -/
def Batch (c : Thread nD τ) (sm : SemLoc sig) (L : List ℂ) (j u : ℕ) : sProp 𝕄 :=
  MixedBatch EC c sm () (amt L) (del L) j u

theorem bigSep_del (L : List ℂ) : (bigSep Finset.univ (del L) : sProp 𝕄) = all L := by
  induction L with
  | nil => exact bigSep_empty
  | cons a l ih =>
    have hu : (Finset.univ : Finset (Fin (l.length + 1))) = insert 0 (Finset.univ.map (Fin.succEmb _)) := by
      ext i; cases i using Fin.cases <;> simp
    show bigSep (Finset.univ : Finset (Fin (l.length + 1))) (del (a :: l)) = _
    rw [hu, bigSep_insert (by simp), bigSep_map]
    show iprop(a.D ∗ bigSep Finset.univ (del l)) = _
    rw [ih]; rfl

theorem batch_alloc (hE : EC.LandsIn (upEmb : UEmb _ 𝕄)) (c : Thread nD τ) (sm : SemLoc sig) (L : List ℂ) {E : Set ℕ} :
    (semVal (c, sm) 0 : sProp 𝕄) ⊢ |={E}=> Batch EC c sm L 0 0 :=
  mixedBatch_alloc' EC c () (amt L) (del L)

theorem batch_collect (hE : EC.LandsIn (upEmb : UEmb _ 𝕄)) (c : Thread nD τ) (sm : SemLoc sig) (L : List ℂ) :
    (Batch EC c sm L L.length (tot L) : sProp 𝕄) ⊢ |={Set.univ}=> iprop(all L ∗ semVal (c, sm) 0) := by
  have h := sumTo_amt L []
  have e : L ++ [] = L := List.append_nil L
  rw [← bigSep_del, ← h]
  have h0 : sumTo (amt (L ++ [])) L.length = sumTo (amt L) L.length := by rw [e]
  rw [h0]
  exact mixedBatch_collect' EC c fun t => (L.get t).pos

section Rules

variable {Λ : Labels} {defs : Defs nD τ sig Val Λ} (𝒱 : Variants) (c : Thread nD τ) (bd : Option 𝒱.V)
variable {α : Type} {Q : α → sProp (MT nD τ sig Unit Val ℕ U ℕ)} {sp sp' : Space} {s : Shape} {e : EltTy}

/-- The issue of a batch's next copy. The source is read on a share of `S`, which comes back with the delivery; of the
    destination's buffer the elements `Sd` are held, the copy takes its own and the rest stay. -/
theorem wp_issue (hE : EC.LandsIn (upEmb : UEmb _ 𝕄)) {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {S : Finset (Idx (src.view.loc c))} {Sd I : Finset (Idx (dst.view.loc c))} {fd : Buf Val (dst.view.loc c)}
    (L pre post : List ℂ) (cell : ℂ) (hL : L = pre ++ cell :: post)
    (hS : src.view.set ⊆ S) (hI : dst.view.set = I) (hSd : I ⊆ Sd) (hA : dst.view.amount sm = cell.A)
    (hD : iprop((src.view.loc c ↦[S]{q} fs)
        ∗ (dst.view.loc c ↦[I]{fullShare} (dst.view.write Val fd (via.apply (src.view.read Val fs)) Finset.univ))) ⊢ cell.D) :
    iprop((src.view.loc c ↦[S]{q} fs) ∗ (dst.view.loc c ↦[Sd]{fullShare} fd) ∗ Batch EC c sm L pre.length 0)
      ⊢ iprop((iprop((dst.view.loc c ↦[Sd \ I]{fullShare} fd) ∗ Batch EC c sm L (pre.length + 1) 0)
            -∗ wp frame (wpE defs 𝒱 c bd) Set.univ (k ⟨⟩) Q)
          -∗ wp frame (wpE defs 𝒱 c bd) Set.univ (.op (.enqueueDmaAs src (.here dst) via sm hsrc hdst hsem) k) Q) := by
  subst hL; subst hI
  have hj : pre.length < (pre ++ cell :: post).length := by simp
  have hAj : amt (pre ++ cell :: post) ⟨pre.length, hj⟩ = cell.A := by simp [amt]
  have hDj : del (pre ++ cell :: post) ⟨pre.length, hj⟩ = cell.D := by simp [del]
  unfold Batch MixedBatch
  iintro ⟨Hs, Hd, ⟨%γ, %γ₀, %κ, #Hinv, HI, H0, Hcred⟩⟩ Hk
  ihave HI' := (show bigSep (pending pre.length) (fun t => count EC (γ t) 0)
      ⊢ iprop(count EC (γ ⟨pre.length, hj⟩) 0 ∗ bigSep (pending (pre.length + 1)) (fun t => count EC (γ t) 0))
    from Entails.of_eq (by rw [pending_succ hj, bigSep_insert (not_mem_pending_succ hj)]; rfl)) $$ HI
  icases HI' with ⟨Ht, HI⟩
  ihave Hs' := (pointsTo_split_subset hS).1 $$ Hs
  icases Hs' with ⟨Hs, Hs'⟩
  ihave Hd' := (pointsTo_split_subset hSd).1 $$ Hd
  icases Hd' with ⟨Hd, Hd'⟩
  iapply (wp_enqueueDmaAs 𝒱 c bd Set.univ () (amt (pre ++ cell :: post) ⟨pre.length, hj⟩) (hA.trans hAj.symm)
    (R := iprop(dst.view.loc c ↦[dst.view.set]{fullShare} (dst.view.write Val fd (via.apply (src.view.read Val fs)) Finset.univ)))) $$ [Hs Hd] [Ht Hs']
  · isplitl [Hs]; · iexact Hs
    iapply (pointsTo_writeUpdate c (Finset.Subset.refl _)) $$ Hd
  · iapply (mixedBatch_creditUpdate_with EC (D := del (pre ++ cell :: post)) (A := amt (pre ++ cell :: post)) ⟨pre.length, hj⟩ (put := iprop(src.view.loc c ↦[S \ src.view.set]{q} fs)) (by
      rw [hDj]
      refine Entails.trans ?_ hD
      iintro ⟨Hs', Hd, Hs⟩
      isplitl [Hs Hs']
      · iapply (pointsTo_split_subset hS).2
        isplitl [Hs] <;> iassumption
      · iexact Hd))
    isplitr; · iexact Hinv
    isplitl [Ht] <;> iassumption
  iintro Hcred'
  iapply Hk
  isplitl [Hd']; · iexact Hd'
  iexists γ, γ₀, κ
  isplitr; · iexact Hinv
  isplitl [HI]; · iexact HI
  isplitl [H0]; · iexact H0
  rw [show sumTo (amt (pre ++ cell :: post)) (pre.length + 1) - 0
      = (sumTo (amt (pre ++ cell :: post)) pre.length - 0) + amt (pre ++ cell :: post) ⟨pre.length, hj⟩ by
    rw [sumTo_succ _ hj]; omega, ← tallyAt_add]
  icombine Hcred Hcred' as H
  iexact H

/-- A wait for a copy's amount on a batch all of whose copies are issued. -/
theorem wp_waitCell (hE : EC.LandsIn (upEmb : UEmb _ 𝕄)) {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} {W : Waits sig Unit}
    (L pre post : List ℂ) (cell : ℂ) (hL : L = pre ++ cell :: post) (hJ : dstw.view.dmaCredit = cell.A) :
    iprop(Batch EC c (.dma sem) L L.length (tot pre) ∗ owes c 0 W)
      ⊢ iprop((iprop(Batch EC c (.dma sem) L L.length (tot (pre ++ [cell])) ∗ owes c 0 (insert (SemLoc.dma sem, ()) W)) -∗ wp frame (wpE defs 𝒱 c bd) Set.univ (k ⟨⟩) Q)
          -∗ wp frame (wpE defs 𝒱 c bd) Set.univ (.op (.waitDma2 sem srcw dstw hsrc hdst) k) Q) := by
  have h2 : tot (pre ++ [cell]) = tot pre + cell.A := by rw [tot_append]; simp [tot]
  have h1 : sumTo (amt L) L.length = tot L := by
    have h := sumTo_amt L []
    rwa [show sumTo (amt (L ++ [])) L.length = sumTo (amt L) L.length by rw [List.append_nil]] at h
  have h3 : tot pre + cell.A ≤ sumTo (amt L) L.length := by
    rw [h1, hL, tot_append]; simp only [tot]; omega
  rw [h2]
  exact wp_waitMixedBatch EC 𝒱 c bd () hJ h3

end Rules

end Cert.Ring
-- ==== Proof.Words.lean ====
/-
  The kernel's word arithmetic: the number of 128-token blocks of a chunk, the number of 1024-token chunks of an
  expert, the bits of a block count and the offsets computed from them, each as the natural number it is.
-/
module

public import Idealize.ShloMosaic.Lib.Affine
public import Idealize.ShloMosaic.Lib.Tactic

@[expose] public section

noncomputable section

namespace Cert.Words

open Idealize.ShloMosaic

/-- The word of a natural number. -/
abbrev W (n : ℕ) : BitVec 32 := BitVec.ofNat 32 n

theorem W_toNat {n : ℕ} (h : n < 2 ^ 31) : (W n).toNat = n := by
  rw [BitVec.toNat_ofNat]; omega

theorem W_toInt {n : ℕ} (h : n < 2 ^ 31) : (W n).toInt = n := by
  rw [BitVec.toInt_eq_toNat_cond, W_toNat h]; split <;> omega

theorem isInt_W {n : ℕ} (h : n < 2 ^ 31) : Affine.IsInt (W n) n := Affine.ofNat n ⟨rfl, h⟩

/-- A word whose value is the natural number `n` is the word of `n`. -/
theorem eq_W {x : BitVec 32} {n : ℕ} (h : Affine.IsInt x n) (hn : n < 2 ^ 31) : x = W n := by
  have h' : x.toInt = (n : ℤ) := by unfold Affine.IsInt at h; exact h
  exact BitVec.eq_of_toInt_eq (h'.trans (W_toInt hn).symm)

theorem addW {a b : ℕ} (h : a + b < 2 ^ 31) : Scalar.addi (W a) (W b) = W (a + b) :=
  eq_W (Affine.addi (isInt_W (by omega)) (isInt_W (by omega)) (by push_cast; omega)) h
theorem subW {a b : ℕ} (h : a < 2 ^ 31) (hb : b ≤ a) : Scalar.subi (W a) (W b) = W (a - b) :=
  eq_W (Affine.subi (isInt_W (by omega)) (isInt_W (by omega)) (by omega)) (by omega)
theorem mulW {a b : ℕ} (h : a * b < 2 ^ 31) (ha : a < 2 ^ 31) (hb : b < 2 ^ 31) : Scalar.muli (W a) (W b) = W (a * b) :=
  eq_W (Affine.muli (isInt_W ha) (isInt_W hb) ⟨by push_cast; rfl, by omega, by exact_mod_cast h⟩) h
theorem divW {a b : ℕ} (h : a < 2 ^ 31) (hb : b < 2 ^ 31) (hb0 : 0 < b) : Scalar.divsi (W a) (W b) = W (a / b) :=
  eq_W (Affine.divsi (isInt_W h) (isInt_W hb) (by push_cast; omega)) (lt_of_le_of_lt (Nat.div_le_self _ _) h)
theorem remW {a b : ℕ} (h : a < 2 ^ 31) (hb : b < 2 ^ 31) (hb0 : 0 < b) : Scalar.remsi (W a) (W b) = W (a % b) :=
  eq_W (Affine.remsi (isInt_W h) (isInt_W hb) (by push_cast; omega)) (lt_of_le_of_lt (Nat.mod_le _ _) h)
theorem minW {a b : ℕ} (h : a < 2 ^ 31) (hb : b < 2 ^ 31) : Scalar.minsi (W a) (W b) = W (min a b) :=
  eq_W (Affine.minsi (isInt_W h) (isInt_W hb) (by omega)) (by omega)

theorem one_iff (p : Bool) : BitVec.ofBool p = 1#1 ↔ p = true := by cases p <;> decide

theorem sltW {a b : ℕ} (ha : a < 2 ^ 31) (hb : b < 2 ^ 31) : Scalar.cmpi .slt (W a) (W b) = BitVec.ofBool (decide (a < b)) := by
  show BitVec.ofBool ((W a).slt (W b)) = _
  congr 1
  rw [Bool.eq_iff_iff, BitVec.slt_iff_toInt_lt, W_toInt ha, W_toInt hb, decide_eq_true_iff]; omega
theorem sgtW {a b : ℕ} (ha : a < 2 ^ 31) (hb : b < 2 ^ 31) : Scalar.cmpi .sgt (W a) (W b) = BitVec.ofBool (decide (b < a)) := by
  show BitVec.ofBool ((W b).slt (W a)) = _
  congr 1
  rw [Bool.eq_iff_iff, BitVec.slt_iff_toInt_lt, W_toInt ha, W_toInt hb, decide_eq_true_iff]; omega
theorem sgeW {a b : ℕ} (ha : a < 2 ^ 31) (hb : b < 2 ^ 31) : Scalar.cmpi .sge (W a) (W b) = BitVec.ofBool (decide (b ≤ a)) := by
  show BitVec.ofBool ((W b).sle (W a)) = _
  congr 1
  rw [Bool.eq_iff_iff, BitVec.sle_iff_toInt_le, W_toInt ha, W_toInt hb, decide_eq_true_iff]; omega
theorem sleW {a b : ℕ} (ha : a < 2 ^ 31) (hb : b < 2 ^ 31) : Scalar.cmpi .sle (W a) (W b) = BitVec.ofBool (decide (a ≤ b)) := by
  show BitVec.ofBool ((W a).sle (W b)) = _
  congr 1
  rw [Bool.eq_iff_iff, BitVec.sle_iff_toInt_le, W_toInt ha, W_toInt hb, decide_eq_true_iff]; omega
theorem W_inj {a b : ℕ} (ha : a < 2 ^ 31) (hb : b < 2 ^ 31) : W a = W b ↔ a = b :=
  ⟨fun h => by rw [← W_toNat ha, h, W_toNat hb], fun h => h ▸ rfl⟩
theorem eqW {a b : ℕ} (ha : a < 2 ^ 31) (hb : b < 2 ^ 31) : Scalar.cmpi .eq (W a) (W b) = BitVec.ofBool (decide (a = b)) := by
  show BitVec.ofBool (W a == W b) = _
  congr 1
  rw [Bool.eq_iff_iff, beq_iff_eq, W_inj ha hb, decide_eq_true_iff]
theorem neW {a b : ℕ} (ha : a < 2 ^ 31) (hb : b < 2 ^ 31) : Scalar.cmpi .ne (W a) (W b) = BitVec.ofBool (decide (a ≠ b)) := by
  show BitVec.ofBool (W a != W b) = _
  congr 1
  rw [Bool.eq_iff_iff, bne_iff_ne, ne_eq, W_inj ha hb, decide_eq_true_iff]

/-- A condition computed as a word and compared with zero is that condition. -/
def condW (b : BitVec 1) : BitVec 1 := Scalar.cmpi .ne (Scalar.extui b : BitVec 32) 0#32
theorem condW_eq (b : BitVec 1) : condW b = b := by revert b; decide

/-- The sign of a word. -/
def sgnW (x : BitVec 32) : BitVec 32 := Scalar.subi (Scalar.extui (Scalar.cmpi .sgt x 0#32)) (Scalar.extui (Scalar.cmpi .slt x 0#32))
/-- Division of words rounding down. -/
def fdivW (m d : BitVec 32) : BitVec 32 :=
  Scalar.select (Scalar.andi (Scalar.cmpi .ne (sgnW m) (sgnW d)) (Scalar.cmpi .ne (Scalar.remsi m d) 0#32))
    (Scalar.subi (Scalar.divsi m d) 1#32) (Scalar.divsi m d)

theorem sgnW_pos {n : ℕ} (h : n < 2 ^ 31) (h0 : 0 < n) : sgnW (W n) = 1#32 := by
  unfold sgnW
  rw [show (0#32 : BitVec 32) = W 0 from rfl, sgtW h (by omega), sltW h (by omega)]
  rw [show decide (0 < n) = true by simpa, show decide (n < 0) = false by simp]
  decide

theorem fdivW_eq {n d : ℕ} (h : n < 2 ^ 31) (h0 : 0 < n) (hd : d < 2 ^ 31) (hd0 : 0 < d) : fdivW (W n) (W d) = W (n / d) := by
  unfold fdivW
  rw [sgnW_pos h h0, sgnW_pos hd hd0, divW h hd hd0]
  have : Scalar.cmpi .ne (1#32 : BitVec 32) 1#32 = 0#1 := by decide
  rw [this]
  have : ∀ b : BitVec 1, Scalar.andi 0#1 b = 0#1 := by decide
  rw [this]
  rfl

/-- The number of 128-token blocks of chunk `pc` of an expert of `cnt` tokens. -/
def nbW (cnt pc : BitVec 32) : BitVec 32 :=
  Scalar.minsi (fdivW (Scalar.addi (Scalar.subi cnt (Scalar.muli pc 1024#32)) 127#32) 128#32) 8#32
def nb (n c : ℕ) : ℕ := min ((n - c * 1024 + 127) / 128) 8
theorem nbW_eq {n c : ℕ} (hn : n ≤ 8192) (hc : c * 1024 ≤ n) : nbW (W n) (W c) = W (nb n c) := by
  unfold nbW nb
  rw [show (1024#32 : BitVec 32) = W 1024 from rfl, mulW (by omega) (by omega) (by omega), subW (by omega) (by omega),
    show (127#32 : BitVec 32) = W 127 from rfl, addW (by omega), show (128#32 : BitVec 32) = W 128 from rfl,
    fdivW_eq (by omega) (by omega) (by omega) (by omega), show (8#32 : BitVec 32) = W 8 from rfl, minW (by omega) (by omega)]
theorem nb_le (n c : ℕ) : nb n c ≤ 8 := Nat.min_le_right _ _

/-- The number of 1024-token chunks of an expert of `cnt` tokens. -/
def nchW (cnt : BitVec 32) : BitVec 32 := fdivW (Scalar.addi cnt 1023#32) 1024#32
def nch (n : ℕ) : ℕ := (n + 1023) / 1024
theorem nchW_eq {n : ℕ} (hn : n ≤ 8192) : nchW (W n) = W (nch n) := by
  unfold nchW nch
  rw [show (1023#32 : BitVec 32) = W 1023 from rfl, addW (by omega), show (1024#32 : BitVec 32) = W 1024 from rfl,
    fdivW_eq (by omega) (by omega) (by omega) (by omega)]

/-- Whether the bit `size` of a block count is set, as the kernel computes it. -/
def bitW (b size : BitVec 32) : BitVec 1 := condW (Scalar.cmpi .ne (Scalar.andi b size) 0#32)
theorem andW {a b : ℕ} (ha : a < 2 ^ 31) (hb : b < 2 ^ 31) : Scalar.andi (W a) (W b) = W (a &&& b) := by
  apply BitVec.eq_of_toNat_eq
  show ((W a) &&& (W b)).toNat = _
  rw [BitVec.toNat_and, W_toNat ha, W_toNat hb, W_toNat (lt_of_le_of_lt Nat.and_le_left ha)]
theorem bitW_eq {b s : ℕ} (hb : b < 2 ^ 31) (hs : s < 2 ^ 31) : bitW (W b) (W s) = 1#1 ↔ b &&& s ≠ 0 := by
  unfold bitW
  rw [condW_eq, andW hb hs, show (0#32 : BitVec 32) = W 0 from rfl, neW (lt_of_le_of_lt Nat.and_le_left hb) (by omega), one_iff, decide_eq_true_iff]

/-- The first block of the copy of a given bit, in tokens. -/
def firstW (b m : BitVec 32) : BitVec 32 := Scalar.muli (Scalar.andi b m) 128#32
theorem firstW_eq {b m : ℕ} (hb : b ≤ 8) (hm : m < 2 ^ 31) : firstW (W b) (W m) = W (128 * (b &&& m)) := by
  unfold firstW
  have h : b &&& m ≤ 8 := Nat.and_le_left.trans hb
  rw [andW (by omega) hm, show (128#32 : BitVec 32) = W 128 from rfl, mulW (by omega) (by omega) (by omega), Nat.mul_comm]
def srcW (pc b m : BitVec 32) : BitVec 32 := Scalar.addi (Scalar.muli pc 1024#32) (firstW b m)
theorem srcW_eq {c b m : ℕ} (hc : c ≤ 8) (hb : b ≤ 8) (hm : m < 2 ^ 31) : srcW (W c) (W b) (W m) = W (c * 1024 + 128 * (b &&& m)) := by
  unfold srcW
  have h : b &&& m ≤ 8 := Nat.and_le_left.trans hb
  rw [firstW_eq hb hm, show (1024#32 : BitVec 32) = W 1024 from rfl, mulW (by omega) (by omega) (by omega), addW (by omega)]

end Cert.Words
-- ==== Proof.Geo.lean ====
/-
  The window `M[s, a : a+n, b : b+k]` of a three-axis array, its unit axis dropped: which elements it names, and what
  a copy between two such windows leaves in the destination.
-/
module

public import Idealize.ShloMosaic.Lib.ValueLayout
public import Idealize.ShloMosaic.Lib.ValueIdxCore
public import Idealize.ShloMosaic.Lib.Pipeline.ValueKit.Geometry
public import Idealize.ShloMosaic.Lib.Tactic

@[expose] public section

noncomputable section

namespace Cert.Geo

open Idealize.ShloMosaic Idealize.ShloMosaic.ValueIdx

variable {sig : RefSig} {κ : Kind} {sp sp' : Space} {e : EltTy} {Val : EltTy → Type}
variable {a0 a1 a2 n k : ℕ}

/-- The window `[1, n, k]` at offset `off`, its unit axis dropped. -/
abbrev sq (M : Memref sig κ sp ⟨3, ![a0, a1, a2]⟩ e) (off : Fin 3 → ℕ)
    (inb : ∀ a, off a + (⟨3, ![1, n, k]⟩ : Shape).size a ≤ (⟨3, ![a0, a1, a2]⟩ : Shape).size a)
    (h : ∀ a, (Rect.unit (s := ⟨3, ![a0, a1, a2]⟩) off (⟨3, ![1, n, k]⟩ : Shape).size inb).stride a = 1)
    (hq : (⟨3, ![1, n, k]⟩ : Shape).Squeezes ⟨2, ![n, k]⟩) : Memref sig κ sp ⟨2, ![n, k]⟩ e :=
  (M.slice (Rect.unit (s := ⟨3, ![a0, a1, a2]⟩) off (⟨3, ![1, n, k]⟩ : Shape).size inb) h).squeeze ⟨2, ![n, k]⟩ hq

variable (M : Memref sig κ sp ⟨3, ![a0, a1, a2]⟩ e) (off : Fin 3 → ℕ)
    (inb : ∀ a, off a + (⟨3, ![1, n, k]⟩ : Shape).size a ≤ (⟨3, ![a0, a1, a2]⟩ : Shape).size a)
    (h : ∀ a, (Rect.unit (s := ⟨3, ![a0, a1, a2]⟩) off (⟨3, ![1, n, k]⟩ : Shape).size inb).stride a = 1)
    (hq : (⟨3, ![1, n, k]⟩ : Shape).Squeezes ⟨2, ![n, k]⟩)

/-- Where the window's element `j` sits. -/
theorem emb_sq (j : (⟨2, ![n, k]⟩ : Shape).Idx) (h0 : off 0 < a0) (h1 : off 1 + (j 0).val < a1) (h2 : off 2 + (j 1).val < a2) :
    (sq M off inb h hq).view.emb j = M.view.emb (ix3 ⟨off 0, h0⟩ ⟨off 1 + (j 0).val, h1⟩ ⟨off 2 + (j 1).val, h2⟩) := by
  show M.view.emb ((Rect.unit (s := ⟨3, ![a0, a1, a2]⟩) off (⟨3, ![1, n, k]⟩ : Shape).size inb).emb (Shape.reshapeEquiv hq.numel_eq j)) = _
  congr 1
  have hj : Shape.reshapeEquiv hq.numel_eq j = ix3 (0 : Fin 1) (j 0) (j 1) :=
    (congrArg (Shape.reshapeEquiv hq.numel_eq) (eq_ix2 j)).trans (reshapeEquiv_ix2_1ab _ _ _)
  rw [hj]
  funext a
  apply Fin.ext
  match a with
  | ⟨0, _⟩ => exact (ValueKit.rect_emb_unit_val _ _ _ _ _).trans (Nat.add_zero _)
  | ⟨1, _⟩ => exact (ValueKit.rect_emb_unit_val _ _ _ _ _)
  | ⟨2, _⟩ => exact (ValueKit.rect_emb_unit_val _ _ _ _ _)

end Cert.Geo
-- ==== Proof.Inv.lean ====
/-
  What the kernel holds between two steps: the data the arguments give, the ring of token slots (free, being filled,
  filled, being waited for, ready) and what each of its copies delivers.
-/
module

public import proofs.«01_k».proof.Proof.Ring
public import proofs.«01_k».proof.Proof.Words
public import proofs.«01_k».proof.Proof.Geo
public import proofs.«01_k».proof.Proof.Gen.KernelIdeal.Launch
public import Idealize.ShloMosaic.Lib.Pipeline.FrameBody

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

/-! ## The buffers -/

abbrev mX : Memref sig .tc .hbm S48x8192x896 .fp8e4m3 := Memref.whole main_arg0
abbrev mSX : Memref sig .tc .hbm S48x64x896 .f32 := Memref.whole main_arg1
abbrev mDY : Memref sig .tc .hbm S48x960x8192 .fp8e5m2 := Memref.whole main_v0
abbrev mSY : Memref sig .tc .hbm S48x64x960 .f32 := Memref.whole main_arg3
abbrev mG : Memref sig .tc .hbm S48x960x896 .f32 := Memref.whole main_v1
abbrev mO : Memref sig .tc .hbm S48x960x896 .f32 := Memref.whole main_v2
abbrev bX : Memref sig .tc .vmem S5x1024x896 .fp8e4m3 := Memref.whole cc0_scratch0
abbrev bDY : Memref sig .tc .vmem S5x960x1024 .fp8e5m2 := Memref.whole cc0_scratch1
abbrev bSX : Memref sig .tc .vmem S5x8x896 .f32 := Memref.whole cc0_scratch2
abbrev bSY : Memref sig .tc .vmem S5x8x960 .f32 := Memref.whole cc0_scratch3
abbrev bA : Memref sig .tc .vmem S10x960x896 .f32 := Memref.whole cc0_scratch4
abbrev bXS : Memref sig .tc .vmem S1024x896 .bf16 := Memref.whole cc0_scratch5
abbrev bDS : Memref sig .tc .vmem S960x1024 .bf16 := Memref.whole cc0_scratch6

abbrev BufOf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (I : Finset (Idx (M.view.loc (c : Thread nD τ))))
    (f : BufOf (F := F) c M) : sProp 𝕄 := M.view.loc (c : Thread nD τ) ↦[I]{fullShare} f
abbrev ptq (c : Dev nD) {sp : Space} {S : Shape} {e : EltTy} (M : Memref sig .tc sp S e) (i : ℕ)
    (f : BufOf (F := F) c M) : sProp 𝕄 := M.view.loc (c : Thread nD τ) ↦[Finset.univ]{shareTokN fullShare i} f

/-- What the arguments give: the counts and the contents of the five arrays the kernel reads. -/
structure Data (F : FTy → Type) [FloatOps F] (c : Dev nD) where
  n : ℕ → ℕ
  hn : ∀ e, n e ≤ 8192
  X : BufOf (F := F) c mX
  SX : BufOf (F := F) c mSX
  DY : BufOf (F := F) c mDY
  SY : BufOf (F := F) c mSY
  G : BufOf (F := F) c mG

variable (c : Dev nD) (d : Data F c)

theorem m48 (e : ℕ) : e % 48 < 48 := Nat.mod_lt _ (by decide)
theorem m8192 (e : ℕ) : e % 8192 < 8192 := Nat.mod_lt _ (by decide)
theorem m64 (e : ℕ) : e % 64 < 64 := Nat.mod_lt _ (by decide)

/-! What a slot's four buffers hold once chunk `k` of expert `e` has landed there. -/
def XV (e k : ℕ) : BufOf (F := F) c bX := fun (i : S5x1024x896.Idx) => d.X (ix3 ⟨e % 48, m48 e⟩ ⟨(k * 1024 + (i 1).val) % 8192, m8192 _⟩ (i 2) : S48x8192x896.Idx)
def DYV (e k : ℕ) : BufOf (F := F) c bDY := fun (i : S5x960x1024.Idx) => d.DY (ix3 ⟨e % 48, m48 e⟩ (i 1) ⟨(k * 1024 + (i 2).val) % 8192, m8192 _⟩ : S48x960x8192.Idx)
def SXV (e k : ℕ) : BufOf (F := F) c bSX := fun (i : S5x8x896.Idx) => d.SX (ix3 ⟨e % 48, m48 e⟩ ⟨(k * 8 + (i 1).val) % 64, m64 _⟩ (i 2) : S48x64x896.Idx)
def SYV (e k : ℕ) : BufOf (F := F) c bSY := fun (i : S5x8x960.Idx) => d.SY (ix3 ⟨e % 48, m48 e⟩ ⟨(k * 8 + (i 1).val) % 64, m64 _⟩ (i 2) : S48x64x960.Idx)
/-- The gradient of expert `e`, in any slot of the accumulators. -/
def GV (e : ℕ) : BufOf (F := F) c bA := fun (i : S10x960x896.Idx) => d.G (ix3 ⟨e % 48, m48 e⟩ (i 1) (i 2) : S48x960x896.Idx)

/-! Intervals of a slot. -/
def wX (s a b : ℕ) : Finset S5x1024x896.Idx := Finset.univ.filter fun i => (i 0).val = s ∧ a ≤ (i 1).val ∧ (i 1).val < b
def wDY (s a b : ℕ) : Finset S5x960x1024.Idx := Finset.univ.filter fun i => (i 0).val = s ∧ a ≤ (i 2).val ∧ (i 2).val < b
def wSX (s : ℕ) : Finset S5x8x896.Idx := Finset.univ.filter fun i => (i 0).val = s
def wSY (s : ℕ) : Finset S5x8x960.Idx := Finset.univ.filter fun i => (i 0).val = s
def wA (s : ℕ) : Finset S10x960x896.Idx := Finset.univ.filter fun i => (i 0).val = s
def wO (s : ℕ) : Finset S48x960x896.Idx := Finset.univ.filter fun i => (i 0).val = s

/-! The semaphores of a slot. -/
abbrev sT (s : ℕ) : DmaSem sig := cc0_scratch7.ix (ix1 ⟨s % 5, Nat.mod_lt _ (by decide)⟩ : S5.Idx)
abbrev sY (s : ℕ) : DmaSem sig := cc0_scratch8.ix (ix1 ⟨s % 5, Nat.mod_lt _ (by decide)⟩ : S5.Idx)
abbrev sG (s : ℕ) : DmaSem sig := cc0_scratch9.ix (ix1 ⟨s % 10, Nat.mod_lt _ (by decide)⟩ : S10.Idx)
abbrev sO (s : ℕ) : DmaSem sig := cc0_scratch10.ix (ix1 ⟨s % 10, Nat.mod_lt _ (by decide)⟩ : S10.Idx)

/-! The four sizes a chunk's copies come in: bit `b` of the block count. -/
def sz : ℕ → ℕ | 0 => 1024 | 1 => 512 | 2 => 256 | _ => 128
def bw : ℕ → ℕ | 0 => 8 | 1 => 4 | 2 => 2 | _ => 1
/-- The blocks of the larger bits. -/
def first (nb : ℕ) : ℕ → ℕ | 0 => nb &&& 0 | 1 => nb &&& 8 | 2 => nb &&& 12 | 3 => nb &&& 14 | _ => nb
def isSet (nb b : ℕ) : Bool := (nb &&& bw b) != 0

theorem first_succ {nb b : ℕ} (h : nb ≤ 8) (hb : b < 4) : first nb (b + 1) = first nb b + if isSet nb b then bw b else 0 := by
  have : ∀ nb : Fin 9, ∀ b : Fin 4, first nb (b + 1) = first nb b + if isSet nb b then bw b else 0 := by decide
  exact this ⟨nb, by omega⟩ ⟨b, hb⟩
theorem first_zero (nb : ℕ) : first nb 0 = 0 := Nat.and_zero _
theorem first_le {nb b : ℕ} (h : nb ≤ 8) (hb : b < 4) (hs : isSet nb b = true) : 128 * first nb b + sz b ≤ 1024 ∧ sz b = 128 * bw b ∧ first nb b + bw b ≤ nb := by
  have : ∀ nb : Fin 9, ∀ b : Fin 4, isSet nb b = true → 128 * first nb b + sz b ≤ 1024 ∧ sz b = 128 * bw b ∧ first nb b + bw b ≤ nb := by decide
  exact this ⟨nb, by omega⟩ ⟨b, hb⟩ hs

/-! ## The copies' amounts -/

abbrev aX (n : ℕ) : ℕ := sig.dmaCredit .tc (Kind.tc.table .vmem) bX.view.buf ⟨2, ![n, 896]⟩ .fp8e4m3
abbrev aDY (n : ℕ) : ℕ := sig.dmaCredit .tc (Kind.tc.table .vmem) bDY.view.buf ⟨2, ![960, n]⟩ .fp8e5m2
abbrev aSX : ℕ := sig.dmaCredit .tc (Kind.tc.table .vmem) bSX.view.buf S8x896 .f32
abbrev aSY : ℕ := sig.dmaCredit .tc (Kind.tc.table .vmem) bSY.view.buf S8x960 .f32
abbrev aG : ℕ := sig.dmaCredit .tc (Kind.tc.table .vmem) bA.view.buf S960x896 .f32
abbrev aO : ℕ := sig.dmaCredit .tc (Kind.tc.table .hbm) mO.view.buf S960x896 .f32
theorem aX_pos (b : ℕ) : 0 < aX (sz b) := by
  match b with
  | 0 => decide
  | 1 => decide
  | 2 => decide
  | _ + 3 => exact (by decide : 0 < aX 128)
theorem aDY_pos (b : ℕ) : 0 < aDY (sz b) := by
  match b with
  | 0 => decide
  | 1 => decide
  | 2 => decide
  | _ + 3 => exact (by decide : 0 < aDY 128)

/-! ## A slot's copies -/

/-- The copy of bit `b` of the tokens of chunk `k` of expert `e`, into slot `s`: it gives back its share of the
    array, and the slot's rows at the array's. -/
def xCell (s e k b : ℕ) : ℂ where
  A := aX (sz b)
  D := iprop(ptq c mX (4 * s + b) d.X ∗ pt c bX (wX s (128 * first (nb (d.n e) k) b) (128 * first (nb (d.n e) k) b + sz b)) (XV c d e k))
  st := inferInstance
  pos := aX_pos b
def dyCell (s e k b : ℕ) : ℂ where
  A := aDY (sz b)
  D := iprop(ptq c mDY (4 * s + b) d.DY ∗ pt c bDY (wDY s (128 * first (nb (d.n e) k) b) (128 * first (nb (d.n e) k) b + sz b)) (DYV c d e k))
  st := inferInstance
  pos := aDY_pos b
def sxCell (s e k : ℕ) : ℂ where
  A := aSX
  D := iprop(ptq c mSX s d.SX ∗ pt c bSX (wSX s) (SXV c d e k))
  st := inferInstance
  pos := by decide
def syCell (s e k : ℕ) : ℂ where
  A := aSY
  D := iprop(ptq c mSY s d.SY ∗ pt c bSY (wSY s) (SYV c d e k))
  st := inferInstance
  pos := by decide
/-- The copies of bit `b`. -/
def bl (s e k b : ℕ) : List ℂ := if isSet (nb (d.n e) k) b then [xCell c d s e k b, dyCell c d s e k b] else []
/-- The copies issued before bit `b`'s. -/
def pre (s e k : ℕ) : ℕ → List ℂ
  | 0 => [sxCell c d s e k]
  | b + 1 => pre s e k b ++ bl c d s e k b

/-! ## A slot's states -/

/-- The shares of the two arrays bit `b`'s copies read on. -/
def bitRes (s b : ℕ) : sProp 𝕄 := iprop(ptq c mX (4 * s + b) d.X ∗ ptq c mDY (4 * s + b) d.DY)
def restFrom (s : ℕ) : ℕ → sProp 𝕄
  | 0 => iprop(bitRes c d s 0 ∗ bitRes c d s 1 ∗ bitRes c d s 2 ∗ bitRes c d s 3)
  | 1 => iprop(bitRes c d s 1 ∗ bitRes c d s 2 ∗ bitRes c d s 3)
  | 2 => iprop(bitRes c d s 2 ∗ bitRes c d s 3)
  | 3 => bitRes c d s 3
  | _ => BI.emp
def keptTo (s e k : ℕ) : ℕ → sProp 𝕄
  | 0 => BI.emp
  | b + 1 => iprop(keptTo s e k b ∗ (if isSet (nb (d.n e) k) b then BI.emp else bitRes c d s b))

abbrev EC : UEmb Counters 𝕄 := countersEmb

/-- Slot `s` with nothing in flight. -/
def tokFree (s : ℕ) : sProp 𝕄 :=
  iprop(semVal ((c : Thread nD τ), SemLoc.dma (sT s)) 0 ∗ semVal ((c : Thread nD τ), SemLoc.dma (sY s)) 0
    ∗ restFrom c d s 0 ∗ ptq c mSX s d.SX ∗ ptq c mSY s d.SY
    ∗ (∃ f, pt c bX (wX s 0 1024) f) ∗ (∃ f, pt c bDY (wDY s 0 1024) f) ∗ (∃ f, pt c bSX (wSX s) f) ∗ (∃ f, pt c bSY (wSY s) f))
/-- Slot `s` with the scales' copies and the copies of the bits before `b` of chunk `k` of expert `e` issued. -/
def tokIss (s e k b : ℕ) : sProp 𝕄 :=
  iprop(Batch EC (c : Thread nD τ) (.dma (sT s)) (pre c d s e k 4) (pre c d s e k b).length 0
    ∗ Batch EC (c : Thread nD τ) (.dma (sY s)) [syCell c d s e k] 1 0
    ∗ keptTo c d s e k b ∗ restFrom c d s b
    ∗ (∃ f, pt c bX (wX s (128 * first (nb (d.n e) k) b) 1024) f) ∗ (∃ f, pt c bDY (wDY s (128 * first (nb (d.n e) k) b) 1024) f))
/-- Slot `s` with every copy issued, and those of the scales and of the bits before `b` waited for. -/
def tokWait (s e k b : ℕ) : sProp 𝕄 :=
  iprop(Batch EC (c : Thread nD τ) (.dma (sT s)) (pre c d s e k 4) (pre c d s e k 4).length (tot (pre c d s e k b))
    ∗ semVal ((c : Thread nD τ), SemLoc.dma (sY s)) 0 ∗ (ptq c mSY s d.SY ∗ pt c bSY (wSY s) (SYV c d e k))
    ∗ keptTo c d s e k 4
    ∗ (∃ f, pt c bX (wX s (128 * nb (d.n e) k) 1024) f) ∗ (∃ f, pt c bDY (wDY s (128 * nb (d.n e) k) 1024) f))
/-- Slot `s` with chunk `k` of expert `e` landed. -/
def tokReady (s e k : ℕ) : sProp 𝕄 :=
  iprop(semVal ((c : Thread nD τ), SemLoc.dma (sT s)) 0 ∗ semVal ((c : Thread nD τ), SemLoc.dma (sY s)) 0
    ∗ restFrom c d s 0 ∗ ptq c mSX s d.SX ∗ ptq c mSY s d.SY
    ∗ (pt c bX (wX s 0 (128 * nb (d.n e) k)) (XV c d e k) ∗ ∃ f, pt c bX (wX s (128 * nb (d.n e) k) 1024) f)
    ∗ (pt c bDY (wDY s 0 (128 * nb (d.n e) k)) (DYV c d e k) ∗ ∃ f, pt c bDY (wDY s (128 * nb (d.n e) k) 1024) f)
    ∗ pt c bSX (wSX s) (SXV c d e k) ∗ pt c bSY (wSY s) (SYV c d e k))

end Cert.KernelIdeal.Hand
-- ==== Proof.Slot.lean ====
/-
  Filling a token slot: the steps that issue the scales' copies and one bit's copies.
-/
module

public import proofs.«01_k».proof.Proof.Inv

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- The program fragments of the kernel's one thread. -/
abbrev PT (F : FTy → Type) [FloatOps F] (α : Type) := Prog (TpuEff nD τ sig (Elt F) Λ₀ .tc) α
/-- The weakest precondition of a fragment. -/
abbrev WP {α : Type} (p : PT F α) (Q : α → sProp 𝕄) : sProp 𝕄 :=
  wp frame (wpE (defs₀ (F := F)) 𝒱 (c : Thread nD τ) none) Set.univ p Q

theorem hE : (EC (F := F)).LandsIn (upEmb : UEmb _ 𝕄) := inferInstance

/-! ## Which elements the windows name -/

theorem set_bX {n : ℕ} {off : Fin 3 → ℕ} (inb h hq) (s a : ℕ) (ho : off = ![s, a, 0]) :
    (sq (n := n) (k := 896) bX off inb h hq).view.set = wX s a (a + n) := by
  subst ho
  refine ((View.set_reshape _ _).trans (View.set_slice_whole _ _)).trans ?_
  ext i
  unfold wX
  rw [Rect.mem_set_unit, Finset.mem_filter]
  constructor
  · intro hi
    have h0 := hi 0; have h1 := hi 1
    simp at h0 h1
    exact ⟨Finset.mem_univ _, by omega, by omega, by omega⟩
  · rintro ⟨-, h0, h1, h2⟩ a
    match a with
    | ⟨0, _⟩ => simp; omega
    | ⟨1, _⟩ => simp; omega
    | ⟨2, _⟩ => simp; exact (i 2).isLt

theorem set_bDY {n : ℕ} {off : Fin 3 → ℕ} (inb h hq) (s a : ℕ) (ho : off = ![s, 0, a]) :
    (sq (n := 960) (k := n) bDY off inb h hq).view.set = wDY s a (a + n) := by
  subst ho
  refine ((View.set_reshape _ _).trans (View.set_slice_whole _ _)).trans ?_
  ext i
  unfold wDY
  rw [Rect.mem_set_unit, Finset.mem_filter]
  constructor
  · intro hi
    have h0 := hi 0; have h1 := hi 2
    simp at h0 h1
    exact ⟨Finset.mem_univ _, by omega, by omega, by omega⟩
  · rintro ⟨-, h0, h1, h2⟩ a
    match a with
    | ⟨0, _⟩ => simp; omega
    | ⟨2, _⟩ => simp; omega
    | ⟨1, _⟩ => simp; exact (i 1).isLt

theorem set_bSX {off : Fin 3 → ℕ} (inb h hq) (s : ℕ) (ho : off = ![s, 0, 0]) :
    (sq (n := 8) (k := 896) bSX off inb h hq).view.set = wSX s := by
  subst ho
  refine ((View.set_reshape _ _).trans (View.set_slice_whole _ _)).trans ?_
  ext i
  unfold wSX
  rw [Rect.mem_set_unit, Finset.mem_filter]
  constructor
  · intro hi
    have h0 := hi 0
    simp at h0
    exact ⟨Finset.mem_univ _, by omega⟩
  · rintro ⟨-, h0⟩ a
    match a with
    | ⟨0, _⟩ => simp; omega
    | ⟨1, _⟩ => simp; exact (i 1).isLt
    | ⟨2, _⟩ => simp; exact (i 2).isLt

theorem set_bSY {off : Fin 3 → ℕ} (inb h hq) (s : ℕ) (ho : off = ![s, 0, 0]) :
    (sq (n := 8) (k := 960) bSY off inb h hq).view.set = wSY s := by
  subst ho
  refine ((View.set_reshape _ _).trans (View.set_slice_whole _ _)).trans ?_
  ext i
  unfold wSY
  rw [Rect.mem_set_unit, Finset.mem_filter]
  constructor
  · intro hi
    have h0 := hi 0
    simp at h0
    exact ⟨Finset.mem_univ _, by omega⟩
  · rintro ⟨-, h0⟩ a
    match a with
    | ⟨0, _⟩ => simp; omega
    | ⟨1, _⟩ => simp; exact (i 1).isLt
    | ⟨2, _⟩ => simp; exact (i 2).isLt

theorem set_bA {off : Fin 3 → ℕ} (inb h hq) (s : ℕ) (ho : off = ![s, 0, 0]) :
    (sq (n := 960) (k := 896) bA off inb h hq).view.set = wA s := by
  subst ho
  refine ((View.set_reshape _ _).trans (View.set_slice_whole _ _)).trans ?_
  ext i
  unfold wA
  rw [Rect.mem_set_unit, Finset.mem_filter]
  constructor
  · intro hi
    have h0 := hi 0
    simp at h0
    exact ⟨Finset.mem_univ _, by omega⟩
  · rintro ⟨-, h0⟩ a
    match a with
    | ⟨0, _⟩ => simp; omega
    | ⟨1, _⟩ => simp; exact (i 1).isLt
    | ⟨2, _⟩ => simp; exact (i 2).isLt

theorem set_mO {off : Fin 3 → ℕ} (inb h hq) (s : ℕ) (ho : off = ![s, 0, 0]) :
    (sq (n := 960) (k := 896) mO off inb h hq).view.set = wO s := by
  subst ho
  refine ((View.set_reshape _ _).trans (View.set_slice_whole _ _)).trans ?_
  ext i
  unfold wO
  rw [Rect.mem_set_unit, Finset.mem_filter]
  constructor
  · intro hi
    have h0 := hi 0
    simp at h0
    exact ⟨Finset.mem_univ _, by omega⟩
  · rintro ⟨-, h0⟩ a
    match a with
    | ⟨0, _⟩ => simp; omega
    | ⟨1, _⟩ => simp; exact (i 1).isLt
    | ⟨2, _⟩ => simp; exact (i 2).isLt

/-! ## What the copies leave -/

theorem write_bX {n : ℕ} {off off' : Fin 3 → ℕ} (inb h hq inb' h' hq') (s a e k : ℕ) (ho : off = ![s, a, 0])
    (ho' : off' = ![e, k * 1024 + a, 0]) (he : e < 48) (hk : k * 1024 + a + n ≤ 8192) (f : BufOf (F := F) c bX) :
    ∀ i ∈ wX s a (a + n), (sq (n := n) (k := 896) bX off inb h hq).view.write (Elt F) f
      ((sq (n := n) (k := 896) mX off' inb' h' hq').view.read (Elt F) d.X) Finset.univ i = XV c d e k i := by
  subst ho; subst ho'
  intro i hi
  rw [← set_bX inb h hq s a rfl] at hi
  obtain ⟨j, -, rfl⟩ := Finset.mem_map.mp hi
  refine (View.write_emb_of_mem _ _ (Finset.mem_univ _)).trans ((cast_eq _ _).trans ((View.read_apply _ _).trans ((cast_eq _ _).trans ?_)))
  have i0 := inb 0; have i1 := inb 1
  simp at i0 i1
  have hj0 := (j 0).isLt
  have hj1 := (j 1).isLt
  simp at hj0 hj1
  rw [emb_sq bX _ inb h hq j (by simp; omega) (by simp; omega) (by simp; omega),
    emb_sq mX _ inb' h' hq' j (by simp; omega) (by simp; omega) (by simp; omega)]
  refine congrArg d.X ?_
  funext x
  apply Fin.ext
  match x with
  | ⟨0, _⟩ => exact (Nat.mod_eq_of_lt he).symm
  | ⟨1, _⟩ => show k * 1024 + a + (j 0).val = (k * 1024 + (a + (j 0).val)) % 8192
              rw [Nat.mod_eq_of_lt (by omega)]; omega
  | ⟨2, _⟩ => rfl

theorem write_bDY {n : ℕ} {off off' : Fin 3 → ℕ} (inb h hq inb' h' hq') (s a e k : ℕ) (he : e < 48) (hk : k * 1024 + a + n ≤ 8192) (ho : off = ![s, 0, a])
    (ho' : off' = ![e, 0, k * 1024 + a]) (f : BufOf (F := F) c bDY) :
    ∀ i ∈ wDY s a (a + n), (sq (n := 960) (k := n) bDY off inb h hq).view.write (Elt F) f
      ((sq (n := 960) (k := n) mDY off' inb' h' hq').view.read (Elt F) d.DY) Finset.univ i = DYV c d e k i := by
  subst ho; subst ho'
  intro i hi
  rw [← set_bDY inb h hq s a rfl] at hi
  obtain ⟨j, -, rfl⟩ := Finset.mem_map.mp hi
  refine (View.write_emb_of_mem _ _ (Finset.mem_univ _)).trans ((cast_eq _ _).trans ((View.read_apply _ _).trans ((cast_eq _ _).trans ?_)))
  have i0 := inb 0; have i1 := inb 1; have i2 := inb 2
  have i0' := inb' 0; have i1' := inb' 1; have i2' := inb' 2
  simp at i0 i1 i2 i0' i1' i2'
  have hj0 := (j 0).isLt
  have hj1 := (j 1).isLt
  simp at hj0 hj1
  rw [emb_sq bDY _ inb h hq j (by simp; omega) (by simp; omega) (by simp; omega),
    emb_sq mDY _ inb' h' hq' j (by simp; omega) (by simp; omega) (by simp; omega)]
  refine congrArg d.DY ?_
  funext x
  apply Fin.ext
  match x with
  | ⟨0, _⟩ => exact (Nat.mod_eq_of_lt he).symm
  | ⟨1, _⟩ => rfl
  | ⟨2, _⟩ => show k * 1024 + a + (j 1).val = (k * 1024 + (a + (j 1).val)) % 8192
              rw [Nat.mod_eq_of_lt (by omega)]; omega

theorem write_bSX  {off off' : Fin 3 → ℕ} (inb h hq inb' h' hq') (s e k : ℕ) (he : e < 48) (hk : k < 8) (ho : off = ![s, 0, 0])
    (ho' : off' = ![e, k * 8, 0]) (f : BufOf (F := F) c bSX) :
    ∀ i ∈ wSX s, (sq (n := 8) (k := 896) bSX off inb h hq).view.write (Elt F) f
      ((sq (n := 8) (k := 896) mSX off' inb' h' hq').view.read (Elt F) d.SX) Finset.univ i = SXV c d e k i := by
  subst ho; subst ho'
  intro i hi
  rw [← set_bSX inb h hq s rfl] at hi
  obtain ⟨j, -, rfl⟩ := Finset.mem_map.mp hi
  refine (View.write_emb_of_mem _ _ (Finset.mem_univ _)).trans ((cast_eq _ _).trans ((View.read_apply _ _).trans ((cast_eq _ _).trans ?_)))
  have i0 := inb 0; have i1 := inb 1; have i2 := inb 2
  have i0' := inb' 0; have i1' := inb' 1; have i2' := inb' 2
  simp at i0 i1 i2 i0' i1' i2'
  have hj0 := (j 0).isLt
  have hj1 := (j 1).isLt
  simp at hj0 hj1
  rw [emb_sq bSX _ inb h hq j (by simp; omega) (by simp; omega) (by simp; omega),
    emb_sq mSX _ inb' h' hq' j (by simp; omega) (by simp; omega) (by simp; omega)]
  refine congrArg d.SX ?_
  funext x
  apply Fin.ext
  match x with
  | ⟨0, _⟩ => exact (Nat.mod_eq_of_lt he).symm
  | ⟨1, _⟩ => show k * 8 + (j 0).val = (k * 8 + (0 + (j 0).val)) % 64
              rw [Nat.mod_eq_of_lt (by omega)]; omega
  | ⟨2, _⟩ => show 0 + (j 1).val = 0 + (j 1).val
              rfl

theorem write_bSY  {off off' : Fin 3 → ℕ} (inb h hq inb' h' hq') (s e k : ℕ) (he : e < 48) (hk : k < 8) (ho : off = ![s, 0, 0])
    (ho' : off' = ![e, k * 8, 0]) (f : BufOf (F := F) c bSY) :
    ∀ i ∈ wSY s, (sq (n := 8) (k := 960) bSY off inb h hq).view.write (Elt F) f
      ((sq (n := 8) (k := 960) mSY off' inb' h' hq').view.read (Elt F) d.SY) Finset.univ i = SYV c d e k i := by
  subst ho; subst ho'
  intro i hi
  rw [← set_bSY inb h hq s rfl] at hi
  obtain ⟨j, -, rfl⟩ := Finset.mem_map.mp hi
  refine (View.write_emb_of_mem _ _ (Finset.mem_univ _)).trans ((cast_eq _ _).trans ((View.read_apply _ _).trans ((cast_eq _ _).trans ?_)))
  have i0 := inb 0; have i1 := inb 1; have i2 := inb 2
  have i0' := inb' 0; have i1' := inb' 1; have i2' := inb' 2
  simp at i0 i1 i2 i0' i1' i2'
  have hj0 := (j 0).isLt
  have hj1 := (j 1).isLt
  simp at hj0 hj1
  rw [emb_sq bSY _ inb h hq j (by simp; omega) (by simp; omega) (by simp; omega),
    emb_sq mSY _ inb' h' hq' j (by simp; omega) (by simp; omega) (by simp; omega)]
  refine congrArg d.SY ?_
  funext x
  apply Fin.ext
  match x with
  | ⟨0, _⟩ => exact (Nat.mod_eq_of_lt he).symm
  | ⟨1, _⟩ => show k * 8 + (j 0).val = (k * 8 + (0 + (j 0).val)) % 64
              rw [Nat.mod_eq_of_lt (by omega)]; omega
  | ⟨2, _⟩ => show 0 + (j 1).val = 0 + (j 1).val
              rfl

theorem write_bA  {off off' : Fin 3 → ℕ} (inb h hq inb' h' hq') (s e : ℕ) (he : e < 48) (ho : off = ![s, 0, 0])
    (ho' : off' = ![e, 0, 0]) (f : BufOf (F := F) c bA) :
    ∀ i ∈ wA s, (sq (n := 960) (k := 896) bA off inb h hq).view.write (Elt F) f
      ((sq (n := 960) (k := 896) mG off' inb' h' hq').view.read (Elt F) d.G) Finset.univ i = GV c d e i := by
  subst ho; subst ho'
  intro i hi
  rw [← set_bA inb h hq s rfl] at hi
  obtain ⟨j, -, rfl⟩ := Finset.mem_map.mp hi
  refine (View.write_emb_of_mem _ _ (Finset.mem_univ _)).trans ((cast_eq _ _).trans ((View.read_apply _ _).trans ((cast_eq _ _).trans ?_)))
  have i0 := inb 0; have i1 := inb 1; have i2 := inb 2
  have i0' := inb' 0; have i1' := inb' 1; have i2' := inb' 2
  simp at i0 i1 i2 i0' i1' i2'
  have hj0 := (j 0).isLt
  have hj1 := (j 1).isLt
  simp at hj0 hj1
  rw [emb_sq bA _ inb h hq j (by simp; omega) (by simp; omega) (by simp; omega),
    emb_sq mG _ inb' h' hq' j (by simp; omega) (by simp; omega) (by simp; omega)]
  refine congrArg d.G ?_
  funext x
  apply Fin.ext
  match x with
  | ⟨0, _⟩ => exact (Nat.mod_eq_of_lt he).symm
  | ⟨1, _⟩ => rfl
  | ⟨2, _⟩ => rfl

end Cert.KernelIdeal.Hand
-- ==== Proof.Checks.lean ====
/-
  The side conditions of the copies: where a slot's copies start, in numbers, and that they lie inside their arrays
  and on whole words.
-/
module

public import proofs.«01_k».proof.Proof.Slot

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

/-- The mask of the bits above bit `j`. -/
def msk : ℕ → ℕ | 0 => 0 | 1 => 8 | 2 => 12 | _ => 14

/-- What the words of a copy say: the count, the chunk, the expert and the slot. -/
structure PW (nw kw ew sw : BitVec 32) (n e k s : ℕ) : Prop where
  hn : nw = W n
  hk : kw = W k
  he : ew.toNat = e
  hs : sw.toNat = s
  ln : n ≤ 8192
  lk : k * 1024 ≤ n
  lk8 : k < 8
  le : e < 48
  ls : s < 5

namespace PW
variable {nw kw ew sw : BitVec 32} {n e k s : ℕ} (h : PW nw kw ew sw n e k s)
include h
theorem nbw : nbW nw kw = W (nb n k) := by rw [h.hn, h.hk]; exact nbW_eq h.ln h.lk
theorem nb8 : k * 1024 + 128 * nb n k ≤ 8192 := by
  have h1 := h.ln; have h2 := h.lk; have h3 := h.lk8; unfold nb; omega
theorem fstN (j : ℕ) (hj : j < 4) : nb n k &&& msk j = first (nb n k) j := by
  match j, hj with
  | 0, _ => rfl
  | 1, _ => rfl
  | 2, _ => rfl
  | 3, _ => rfl
theorem fst (j : ℕ) (hj : j < 4) : firstW (nbW nw kw) (W (msk j)) = W (128 * first (nb n k) j) := by
  rw [h.nbw, firstW_eq (nb_le _ _) (by match j, hj with | 0, _ => decide | 1, _ => decide | 2, _ => decide | 3, _ => decide), h.fstN j hj]
theorem src (j : ℕ) (hj : j < 4) : srcW kw (nbW nw kw) (W (msk j)) = W (k * 1024 + 128 * first (nb n k) j) := by
  have := h.lk8
  rw [h.nbw, h.hk, srcW_eq (by omega) (nb_le _ _) (by match j, hj with | 0, _ => decide | 1, _ => decide | 2, _ => decide | 3, _ => decide), h.fstN j hj]
theorem first8 (j : ℕ) (hj : j < 4) : first (nb n k) j ≤ 8 := by
  rw [← h.fstN j hj]; exact Nat.and_le_left.trans (nb_le _ _)
theorem fst_nat (j : ℕ) (hj : j < 4) : (firstW (nbW nw kw) (W (msk j))).toNat = 128 * first (nb n k) j := by
  have := h.first8 j hj
  rw [h.fst j hj, W_toNat (by omega)]
theorem src_nat (j : ℕ) (hj : j < 4) : (srcW kw (nbW nw kw) (W (msk j))).toNat = k * 1024 + 128 * first (nb n k) j := by
  have := h.first8 j hj
  have := h.lk8
  rw [h.src j hj, W_toNat (by omega)]
theorem oT : ![sw.toNat] = ![s] := by rw [h.hs]
theorem oE : ![ew.toNat] = ![e] := by rw [h.he]
theorem bX (j : ℕ) (hj : j < 4) : ![sw.toNat, (firstW (nbW nw kw) (W (msk j))).toNat, 0] = ![s, 128 * first (nb n k) j, 0] := by
  rw [h.fst_nat j hj, h.hs]
theorem bDY (j : ℕ) (hj : j < 4) : ![sw.toNat, 0, (firstW (nbW nw kw) (W (msk j))).toNat] = ![s, 0, 128 * first (nb n k) j] := by
  rw [h.fst_nat j hj, h.hs]
theorem mX (j : ℕ) (hj : j < 4) : ![ew.toNat, (srcW kw (nbW nw kw) (W (msk j))).toNat, 0] = ![e, k * 1024 + 128 * first (nb n k) j, 0] := by
  rw [h.src_nat j hj, h.he]
theorem mDY (j : ℕ) (hj : j < 4) : ![ew.toNat, 0, (srcW kw (nbW nw kw) (W (msk j))).toNat] = ![e, 0, k * 1024 + 128 * first (nb n k) j] := by
  rw [h.src_nat j hj, h.he]
theorem bS : ![sw.toNat, 0, 0] = ![s, 0, 0] := by rw [h.hs]
theorem mul8 : (Scalar.muli kw 8#32).toNat = k * 8 := by
  have := h.lk8
  rw [h.hk, show (8#32 : BitVec 32) = W 8 from rfl, mulW (by omega) (by omega) (by omega), W_toNat (by omega)]
theorem mS : ![ew.toNat, (Scalar.muli kw 8#32).toNat, 0] = ![e, k * 8, 0] := by
  rw [h.mul8, h.he]
theorem cnd (j : ℕ) (hj : j < 4) : bitW (nbW nw kw) (W (bw j)) = 1#1 ↔ isSet (nb n k) j = true := by
  have := nb_le n k
  rw [h.nbw, bitW_eq (by omega) (by match j, hj with | 0, _ => decide | 1, _ => decide | 2, _ => decide | 3, _ => decide)]
  unfold isSet; simp
theorem set (j : ℕ) (hj : j < 4) {b : BitVec 1} (hb : b = 1#1) (hd : b = bitW (nbW nw kw) (W (bw j))) : isSet (nb n k) j = true :=
  (h.cnd j hj).1 (hd ▸ hb)
theorem dvd8 : 8 ∣ (Scalar.muli kw 8#32).toNat := by rw [h.mul8]; omega
theorem dvdF (j : ℕ) (hj : j < 4) : 128 ∣ (firstW (nbW nw kw) (W (msk j))).toNat := by rw [h.fst_nat j hj]; omega
theorem dvdS (j : ℕ) (hj : j < 4) : 128 ∣ (srcW kw (nbW nw kw) (W (msk j))).toNat := by rw [h.src_nat j hj]; omega
theorem inT : ∀ a, (![sw.toNat] : Fin 1 → ℕ) a + S1.size a ≤ S5.size a := by
  have := h.ls
  rw [h.hs]; intro a; fin_cases a; simp [S1, S5]; omega
theorem inE : ∀ a, (![ew.toNat] : Fin 1 → ℕ) a + S1.size a ≤ S48.size a := by
  have := h.le
  rw [h.he]; intro a; fin_cases a; simp [S1, S48]; try omega
theorem inbX (j : ℕ) (hj : j < 4) (hs : isSet (nb n k) j = true) : ∀ a, (![sw.toNat, (firstW (nbW nw kw) (W (msk j))).toNat, 0] : Fin 3 → ℕ) a + (⟨3, ![1, sz j, 896]⟩ : Shape).size a ≤ S5x1024x896.size a := by
  have := h.ls; obtain ⟨f1, -, -⟩ := first_le (nb_le n k) hj hs
  rw [h.bX j hj]; intro a; fin_cases a <;> simp [S5x1024x896] <;> omega
theorem inbDY (j : ℕ) (hj : j < 4) (hs : isSet (nb n k) j = true) : ∀ a, (![sw.toNat, 0, (firstW (nbW nw kw) (W (msk j))).toNat] : Fin 3 → ℕ) a + (⟨3, ![1, 960, sz j]⟩ : Shape).size a ≤ S5x960x1024.size a := by
  have := h.ls; obtain ⟨f1, -, -⟩ := first_le (nb_le n k) hj hs
  rw [h.bDY j hj]; intro a; fin_cases a <;> simp [S5x960x1024] <;> omega
theorem inmX (j : ℕ) (hj : j < 4) (hs : isSet (nb n k) j = true) : ∀ a, (![ew.toNat, (srcW kw (nbW nw kw) (W (msk j))).toNat, 0] : Fin 3 → ℕ) a + (⟨3, ![1, sz j, 896]⟩ : Shape).size a ≤ S48x8192x896.size a := by
  have := h.le; have := h.nb8; obtain ⟨f1, f2, f3⟩ := first_le (nb_le n k) hj hs
  rw [h.mX j hj]; intro a; fin_cases a <;> simp [S48x8192x896] <;> omega
theorem inmDY (j : ℕ) (hj : j < 4) (hs : isSet (nb n k) j = true) : ∀ a, (![ew.toNat, 0, (srcW kw (nbW nw kw) (W (msk j))).toNat] : Fin 3 → ℕ) a + (⟨3, ![1, 960, sz j]⟩ : Shape).size a ≤ S48x960x8192.size a := by
  have := h.le; have := h.nb8; obtain ⟨f1, f2, f3⟩ := first_le (nb_le n k) hj hs
  rw [h.mDY j hj]; intro a; fin_cases a <;> simp [S48x960x8192] <;> omega
theorem inbSX : ∀ a, (![sw.toNat, 0, 0] : Fin 3 → ℕ) a + S1x8x896.size a ≤ S5x8x896.size a := by
  have := h.ls; rw [h.bS]; intro a; fin_cases a <;> simp [S1x8x896, S5x8x896] <;> omega
theorem inbSY : ∀ a, (![sw.toNat, 0, 0] : Fin 3 → ℕ) a + S1x8x960.size a ≤ S5x8x960.size a := by
  have := h.ls; rw [h.bS]; intro a; fin_cases a <;> simp [S1x8x960, S5x8x960] <;> omega
theorem inmSX : ∀ a, (![ew.toNat, (Scalar.muli kw 8#32).toNat, 0] : Fin 3 → ℕ) a + S1x8x896.size a ≤ S48x64x896.size a := by
  have := h.le; have := h.lk8; rw [h.mS]; intro a; fin_cases a <;> simp [S1x8x896, S48x64x896] <;> omega
theorem inmSY : ∀ a, (![ew.toNat, (Scalar.muli kw 8#32).toNat, 0] : Fin 3 → ℕ) a + S1x8x960.size a ≤ S48x64x960.size a := by
  have := h.le; have := h.lk8; rw [h.mS]; intro a; fin_cases a <;> simp [S1x8x960, S48x64x960] <;> omega
theorem sz128 (j : ℕ) : 128 ∣ sz j := by
  match j with
  | 0 => decide
  | 1 => decide
  | 2 => decide
  | _ + 3 => exact (by decide : 128 ∣ 128)
theorem wbX (j : ℕ) (hj : j < 4) (i) : (Rect.unit (s := S5x1024x896) ![sw.toNat, (firstW (nbW nw kw) (W (msk j))).toNat, 0] (⟨3, ![1, sz j, 896]⟩ : Shape).size i).WholeWords (EltTy.packing .fp8e4m3) :=
  Affine.words_of_packed (Affine.packed_dvd (Nat.le_succ 2) ((by decide : EltTy.packing .fp8e4m3 ∣ 128).trans (h.dvdF j hj)) (show EltTy.packing .fp8e4m3 ∣ sz j from (by decide : EltTy.packing .fp8e4m3 ∣ 128).trans (h.sz128 j)))
theorem wmX (j : ℕ) (hj : j < 4) (i) : (Rect.unit (s := S48x8192x896) ![ew.toNat, (srcW kw (nbW nw kw) (W (msk j))).toNat, 0] (⟨3, ![1, sz j, 896]⟩ : Shape).size i).WholeWords (EltTy.packing .fp8e4m3) :=
  Affine.words_of_packed (Affine.packed_dvd (Nat.le_succ 2) ((by decide : EltTy.packing .fp8e4m3 ∣ 128).trans (h.dvdS j hj)) (show EltTy.packing .fp8e4m3 ∣ sz j from (by decide : EltTy.packing .fp8e4m3 ∣ 128).trans (h.sz128 j)))
theorem wbDY (j : ℕ) (i) : (Rect.unit (s := S5x960x1024) ![sw.toNat, 0, (firstW (nbW nw kw) (W (msk j))).toNat] (⟨3, ![1, 960, sz j]⟩ : Shape).size i).WholeWords (EltTy.packing .fp8e5m2) :=
  Affine.words_rows (by decide) rfl rfl
theorem wmDY (j : ℕ) (i) : (Rect.unit (s := S48x960x8192) ![ew.toNat, 0, (srcW kw (nbW nw kw) (W (msk j))).toNat] (⟨3, ![1, 960, sz j]⟩ : Shape).size i).WholeWords (EltTy.packing .fp8e5m2) :=
  Affine.words_rows (by decide) rfl rfl
end PW

/-- An expert's number stays inside the 48 counts. -/
theorem in_min {e : ℕ} (he : e ≤ 48) : ∀ a, (![(Scalar.minsi (W e) 47#32).toNat] : Fin 1 → ℕ) a + S1.size a ≤ S48.size a := by
  rw [show (47#32 : BitVec 32) = W 47 from rfl, minW (by omega) (by omega), W_toNat (by omega)]
  intro a; fin_cases a; simp [S1, S48]; try omega

/-- The chunk after chunk `k` of an expert of `n` tokens, or chunk 0 of the next expert. -/
def nxtKW (k n : BitVec 32) : BitVec 32 := Scalar.select (Scalar.cmpi .sge (Scalar.addi k 1#32) (nchW n)) 0#32 (Scalar.addi k 1#32)

theorem chk1_ok (v43 : BitVec 32) {nw : BitVec 32} {n e k s : ℕ} (h : k0_cond1 v43 = 1#1 → PW nw 0#32 (Scalar.minsi v43 47#32) 0#32 n e k s) (hE : ∀ a, (![((Scalar.minsi v43 47#32)).toNat] : Fin 1 → ℕ) a + S1.size a ≤ S48.size a) : k0_chk1 v43 := by
  exact ⟨fun hl => hE,
    fun hl => (h hl).inmSX,
    fun hl => (h hl).inmSY,
    hE⟩

theorem chk2_ok (v43 : BitVec 32) (v267 : BitVec 32) {n e k s : ℕ} (h : k0_cond1 v43 = 1#1 → PW v267 0#32 (Scalar.minsi v43 47#32) 0#32 n e k s) : k0_chk2 v43 v267 := by
  refine ⟨?_, ?_⟩
  · exact ⟨fun hl hb => (h hl).dvdS 0 (by decide),
      fun hl hb => (h hl).dvdF 0 (by decide),
      fun hl hb => (h hl).inbX 0 (by decide) ((h hl).set 0 (by decide) hb rfl),
      fun hl hb => (h hl).inmX 0 (by decide) ((h hl).set 0 (by decide) hb rfl),
      fun hl hb _ => (h hl).wmX 0 (by decide) _,
      fun hl hb _ => (h hl).wbX 0 (by decide) _,
      fun hl hb => (h hl).inbDY 0 (by decide) ((h hl).set 0 (by decide) hb rfl),
      fun hl hb => (h hl).inmDY 0 (by decide) ((h hl).set 0 (by decide) hb rfl),
      fun hl hb _ => (h hl).wmDY 0 _,
      fun hl hb _ => (h hl).wbDY 0 _,
      fun hl hb => (h hl).dvdS 1 (by decide),
      fun hl hb => (h hl).dvdF 1 (by decide),
      fun hl hb => (h hl).inbX 1 (by decide) ((h hl).set 1 (by decide) hb rfl),
      fun hl hb => (h hl).inmX 1 (by decide) ((h hl).set 1 (by decide) hb rfl),
      fun hl hb _ => (h hl).wmX 1 (by decide) _,
      fun hl hb _ => (h hl).wbX 1 (by decide) _,
      fun hl hb => (h hl).inbDY 1 (by decide) ((h hl).set 1 (by decide) hb rfl),
      fun hl hb => (h hl).inmDY 1 (by decide) ((h hl).set 1 (by decide) hb rfl),
      fun hl hb _ => (h hl).wmDY 1 _,
      fun hl hb _ => (h hl).wbDY 1 _,
      fun hl hb => (h hl).dvdS 2 (by decide),
      fun hl hb => (h hl).dvdF 2 (by decide),
      fun hl hb => (h hl).inbX 2 (by decide) ((h hl).set 2 (by decide) hb rfl),
      fun hl hb => (h hl).inmX 2 (by decide) ((h hl).set 2 (by decide) hb rfl),
      fun hl hb _ => (h hl).wmX 2 (by decide) _,
      fun hl hb _ => (h hl).wbX 2 (by decide) _,
      fun hl hb => (h hl).inbDY 2 (by decide) ((h hl).set 2 (by decide) hb rfl),
      fun hl hb => (h hl).inmDY 2 (by decide) ((h hl).set 2 (by decide) hb rfl),
      fun hl hb _ => (h hl).wmDY 2 _,
      fun hl hb _ => (h hl).wbDY 2 _,
      fun hl hb => (h hl).dvdS 3 (by decide),
      fun hl hb => (h hl).dvdF 3 (by decide)⟩
  · exact ⟨fun hl hb => (h hl).inbX 3 (by decide) ((h hl).set 3 (by decide) hb rfl),
      fun hl hb => (h hl).inmX 3 (by decide) ((h hl).set 3 (by decide) hb rfl),
      fun hl hb _ => (h hl).wmX 3 (by decide) _,
      fun hl hb _ => (h hl).wbX 3 (by decide) _,
      fun hl hb => (h hl).inbDY 3 (by decide) ((h hl).set 3 (by decide) hb rfl),
      fun hl hb => (h hl).inmDY 3 (by decide) ((h hl).set 3 (by decide) hb rfl),
      fun hl hb _ => (h hl).wmDY 3 _,
      fun hl hb _ => (h hl).wbDY 3 _⟩

theorem chk3_ok (v50 : BitVec 32) (v73 : BitVec 32) {nw : BitVec 32} {n e k s : ℕ} (h : k0_cond7 v73 = 1#1 → PW nw (nxtKW 0#32 v50) (Scalar.minsi v73 47#32) 1#32 n e k s) (hE : ∀ a, (![((Scalar.minsi v73 47#32)).toNat] : Fin 1 → ℕ) a + S1.size a ≤ S48.size a) : k0_chk3 v50 v73 := by
  exact ⟨fun hl => hE,
    fun hl => (h hl).dvd8,
    fun hl => (h hl).inmSX,
    fun hl => (h hl).inmSY,
    hE⟩

theorem chk4_ok (v50 : BitVec 32) (v73 : BitVec 32) (v267 : BitVec 32) {n e k s : ℕ} (h : k0_cond7 v73 = 1#1 → PW v267 (nxtKW 0#32 v50) (Scalar.minsi v73 47#32) 1#32 n e k s) : k0_chk4 v50 v73 v267 := by
  refine ⟨?_, ?_⟩
  · exact ⟨fun hl hb => (h hl).dvdS 0 (by decide),
      fun hl hb => (h hl).dvdF 0 (by decide),
      fun hl hb => (h hl).inbX 0 (by decide) ((h hl).set 0 (by decide) hb rfl),
      fun hl hb => (h hl).inmX 0 (by decide) ((h hl).set 0 (by decide) hb rfl),
      fun hl hb _ => (h hl).wmX 0 (by decide) _,
      fun hl hb _ => (h hl).wbX 0 (by decide) _,
      fun hl hb => (h hl).inbDY 0 (by decide) ((h hl).set 0 (by decide) hb rfl),
      fun hl hb => (h hl).inmDY 0 (by decide) ((h hl).set 0 (by decide) hb rfl),
      fun hl hb _ => (h hl).wmDY 0 _,
      fun hl hb _ => (h hl).wbDY 0 _,
      fun hl hb => (h hl).dvdS 1 (by decide),
      fun hl hb => (h hl).dvdF 1 (by decide),
      fun hl hb => (h hl).inbX 1 (by decide) ((h hl).set 1 (by decide) hb rfl),
      fun hl hb => (h hl).inmX 1 (by decide) ((h hl).set 1 (by decide) hb rfl),
      fun hl hb _ => (h hl).wmX 1 (by decide) _,
      fun hl hb _ => (h hl).wbX 1 (by decide) _,
      fun hl hb => (h hl).inbDY 1 (by decide) ((h hl).set 1 (by decide) hb rfl),
      fun hl hb => (h hl).inmDY 1 (by decide) ((h hl).set 1 (by decide) hb rfl),
      fun hl hb _ => (h hl).wmDY 1 _,
      fun hl hb _ => (h hl).wbDY 1 _,
      fun hl hb => (h hl).dvdS 2 (by decide),
      fun hl hb => (h hl).dvdF 2 (by decide),
      fun hl hb => (h hl).inbX 2 (by decide) ((h hl).set 2 (by decide) hb rfl),
      fun hl hb => (h hl).inmX 2 (by decide) ((h hl).set 2 (by decide) hb rfl),
      fun hl hb _ => (h hl).wmX 2 (by decide) _,
      fun hl hb _ => (h hl).wbX 2 (by decide) _,
      fun hl hb => (h hl).inbDY 2 (by decide) ((h hl).set 2 (by decide) hb rfl),
      fun hl hb => (h hl).inmDY 2 (by decide) ((h hl).set 2 (by decide) hb rfl),
      fun hl hb _ => (h hl).wmDY 2 _,
      fun hl hb _ => (h hl).wbDY 2 _,
      fun hl hb => (h hl).dvdS 3 (by decide),
      fun hl hb => (h hl).dvdF 3 (by decide)⟩
  · exact ⟨fun hl hb => (h hl).inbX 3 (by decide) ((h hl).set 3 (by decide) hb rfl),
      fun hl hb => (h hl).inmX 3 (by decide) ((h hl).set 3 (by decide) hb rfl),
      fun hl hb _ => (h hl).wmX 3 (by decide) _,
      fun hl hb _ => (h hl).wbX 3 (by decide) _,
      fun hl hb => (h hl).inbDY 3 (by decide) ((h hl).set 3 (by decide) hb rfl),
      fun hl hb => (h hl).inmDY 3 (by decide) ((h hl).set 3 (by decide) hb rfl),
      fun hl hb _ => (h hl).wmDY 3 _,
      fun hl hb _ => (h hl).wbDY 3 _⟩

theorem chk5_ok (v50 : BitVec 32) (v82 : BitVec 32) (v105 : BitVec 32) {nw : BitVec 32} {n e k s : ℕ} (h : k0_cond13 v105 = 1#1 → PW nw (nxtKW (nxtKW 0#32 v50) v82) (Scalar.minsi v105 47#32) 2#32 n e k s) (hE : ∀ a, (![((Scalar.minsi v105 47#32)).toNat] : Fin 1 → ℕ) a + S1.size a ≤ S48.size a) : k0_chk5 v50 v82 v105 := by
  exact ⟨fun hl => hE,
    fun hl => (h hl).dvd8,
    fun hl => (h hl).inmSX,
    fun hl => (h hl).inmSY,
    hE⟩

theorem chk6_ok (v50 : BitVec 32) (v82 : BitVec 32) (v105 : BitVec 32) (v267 : BitVec 32) {n e k s : ℕ} (h : k0_cond13 v105 = 1#1 → PW v267 (nxtKW (nxtKW 0#32 v50) v82) (Scalar.minsi v105 47#32) 2#32 n e k s) : k0_chk6 v50 v82 v105 v267 := by
  refine ⟨?_, ?_⟩
  · exact ⟨fun hl hb => (h hl).dvdS 0 (by decide),
      fun hl hb => (h hl).dvdF 0 (by decide),
      fun hl hb => (h hl).inbX 0 (by decide) ((h hl).set 0 (by decide) hb rfl),
      fun hl hb => (h hl).inmX 0 (by decide) ((h hl).set 0 (by decide) hb rfl),
      fun hl hb _ => (h hl).wmX 0 (by decide) _,
      fun hl hb _ => (h hl).wbX 0 (by decide) _,
      fun hl hb => (h hl).inbDY 0 (by decide) ((h hl).set 0 (by decide) hb rfl),
      fun hl hb => (h hl).inmDY 0 (by decide) ((h hl).set 0 (by decide) hb rfl),
      fun hl hb _ => (h hl).wmDY 0 _,
      fun hl hb _ => (h hl).wbDY 0 _,
      fun hl hb => (h hl).dvdS 1 (by decide),
      fun hl hb => (h hl).dvdF 1 (by decide),
      fun hl hb => (h hl).inbX 1 (by decide) ((h hl).set 1 (by decide) hb rfl),
      fun hl hb => (h hl).inmX 1 (by decide) ((h hl).set 1 (by decide) hb rfl),
      fun hl hb _ => (h hl).wmX 1 (by decide) _,
      fun hl hb _ => (h hl).wbX 1 (by decide) _,
      fun hl hb => (h hl).inbDY 1 (by decide) ((h hl).set 1 (by decide) hb rfl),
      fun hl hb => (h hl).inmDY 1 (by decide) ((h hl).set 1 (by decide) hb rfl),
      fun hl hb _ => (h hl).wmDY 1 _,
      fun hl hb _ => (h hl).wbDY 1 _,
      fun hl hb => (h hl).dvdS 2 (by decide),
      fun hl hb => (h hl).dvdF 2 (by decide),
      fun hl hb => (h hl).inbX 2 (by decide) ((h hl).set 2 (by decide) hb rfl),
      fun hl hb => (h hl).inmX 2 (by decide) ((h hl).set 2 (by decide) hb rfl),
      fun hl hb _ => (h hl).wmX 2 (by decide) _,
      fun hl hb _ => (h hl).wbX 2 (by decide) _,
      fun hl hb => (h hl).inbDY 2 (by decide) ((h hl).set 2 (by decide) hb rfl),
      fun hl hb => (h hl).inmDY 2 (by decide) ((h hl).set 2 (by decide) hb rfl),
      fun hl hb _ => (h hl).wmDY 2 _,
      fun hl hb _ => (h hl).wbDY 2 _,
      fun hl hb => (h hl).dvdS 3 (by decide),
      fun hl hb => (h hl).dvdF 3 (by decide)⟩
  · exact ⟨fun hl hb => (h hl).inbX 3 (by decide) ((h hl).set 3 (by decide) hb rfl),
      fun hl hb => (h hl).inmX 3 (by decide) ((h hl).set 3 (by decide) hb rfl),
      fun hl hb _ => (h hl).wmX 3 (by decide) _,
      fun hl hb _ => (h hl).wbX 3 (by decide) _,
      fun hl hb => (h hl).inbDY 3 (by decide) ((h hl).set 3 (by decide) hb rfl),
      fun hl hb => (h hl).inmDY 3 (by decide) ((h hl).set 3 (by decide) hb rfl),
      fun hl hb _ => (h hl).wmDY 3 _,
      fun hl hb _ => (h hl).wbDY 3 _⟩

theorem chk7_ok (v50 : BitVec 32) (v82 : BitVec 32) (v114 : BitVec 32) (v137 : BitVec 32) {nw : BitVec 32} {n e k s : ℕ} (h : k0_cond19 v137 = 1#1 → PW nw (nxtKW (nxtKW (nxtKW 0#32 v50) v82) v114) (Scalar.minsi v137 47#32) 3#32 n e k s) (hE : ∀ a, (![((Scalar.minsi v137 47#32)).toNat] : Fin 1 → ℕ) a + S1.size a ≤ S48.size a) : k0_chk7 v50 v82 v114 v137 := by
  exact ⟨fun hl => hE,
    fun hl => (h hl).dvd8,
    fun hl => (h hl).inmSX,
    fun hl => (h hl).inmSY,
    hE⟩

theorem chk8_ok (v50 : BitVec 32) (v82 : BitVec 32) (v114 : BitVec 32) (v137 : BitVec 32) (v267 : BitVec 32) {n e k s : ℕ} (h : k0_cond19 v137 = 1#1 → PW v267 (nxtKW (nxtKW (nxtKW 0#32 v50) v82) v114) (Scalar.minsi v137 47#32) 3#32 n e k s) : k0_chk8 v50 v82 v114 v137 v267 := by
  refine ⟨?_, ?_⟩
  · exact ⟨fun hl hb => (h hl).dvdS 0 (by decide),
      fun hl hb => (h hl).dvdF 0 (by decide),
      fun hl hb => (h hl).inbX 0 (by decide) ((h hl).set 0 (by decide) hb rfl),
      fun hl hb => (h hl).inmX 0 (by decide) ((h hl).set 0 (by decide) hb rfl),
      fun hl hb _ => (h hl).wmX 0 (by decide) _,
      fun hl hb _ => (h hl).wbX 0 (by decide) _,
      fun hl hb => (h hl).inbDY 0 (by decide) ((h hl).set 0 (by decide) hb rfl),
      fun hl hb => (h hl).inmDY 0 (by decide) ((h hl).set 0 (by decide) hb rfl),
      fun hl hb _ => (h hl).wmDY 0 _,
      fun hl hb _ => (h hl).wbDY 0 _,
      fun hl hb => (h hl).dvdS 1 (by decide),
      fun hl hb => (h hl).dvdF 1 (by decide),
      fun hl hb => (h hl).inbX 1 (by decide) ((h hl).set 1 (by decide) hb rfl),
      fun hl hb => (h hl).inmX 1 (by decide) ((h hl).set 1 (by decide) hb rfl),
      fun hl hb _ => (h hl).wmX 1 (by decide) _,
      fun hl hb _ => (h hl).wbX 1 (by decide) _,
      fun hl hb => (h hl).inbDY 1 (by decide) ((h hl).set 1 (by decide) hb rfl),
      fun hl hb => (h hl).inmDY 1 (by decide) ((h hl).set 1 (by decide) hb rfl),
      fun hl hb _ => (h hl).wmDY 1 _,
      fun hl hb _ => (h hl).wbDY 1 _,
      fun hl hb => (h hl).dvdS 2 (by decide),
      fun hl hb => (h hl).dvdF 2 (by decide),
      fun hl hb => (h hl).inbX 2 (by decide) ((h hl).set 2 (by decide) hb rfl),
      fun hl hb => (h hl).inmX 2 (by decide) ((h hl).set 2 (by decide) hb rfl),
      fun hl hb _ => (h hl).wmX 2 (by decide) _,
      fun hl hb _ => (h hl).wbX 2 (by decide) _,
      fun hl hb => (h hl).inbDY 2 (by decide) ((h hl).set 2 (by decide) hb rfl),
      fun hl hb => (h hl).inmDY 2 (by decide) ((h hl).set 2 (by decide) hb rfl),
      fun hl hb _ => (h hl).wmDY 2 _,
      fun hl hb _ => (h hl).wbDY 2 _,
      fun hl hb => (h hl).dvdS 3 (by decide),
      fun hl hb => (h hl).dvdF 3 (by decide)⟩
  · exact ⟨fun hl hb => (h hl).inbX 3 (by decide) ((h hl).set 3 (by decide) hb rfl),
      fun hl hb => (h hl).inmX 3 (by decide) ((h hl).set 3 (by decide) hb rfl),
      fun hl hb _ => (h hl).wmX 3 (by decide) _,
      fun hl hb _ => (h hl).wbX 3 (by decide) _,
      fun hl hb => (h hl).inbDY 3 (by decide) ((h hl).set 3 (by decide) hb rfl),
      fun hl hb => (h hl).inmDY 3 (by decide) ((h hl).set 3 (by decide) hb rfl),
      fun hl hb _ => (h hl).wmDY 3 _,
      fun hl hb _ => (h hl).wbDY 3 _⟩

theorem chk9_ok (v50 : BitVec 32) (v82 : BitVec 32) (v114 : BitVec 32) (v146 : BitVec 32) (v169 : BitVec 32) {nw : BitVec 32} {n e k s : ℕ} (h : k0_cond25 v169 = 1#1 → PW nw (nxtKW (nxtKW (nxtKW (nxtKW 0#32 v50) v82) v114) v146) (Scalar.minsi v169 47#32) 4#32 n e k s) (hE : ∀ a, (![((Scalar.minsi v169 47#32)).toNat] : Fin 1 → ℕ) a + S1.size a ≤ S48.size a) : k0_chk9 v50 v82 v114 v146 v169 := by
  exact ⟨fun hl => hE,
    fun hl => (h hl).dvd8,
    fun hl => (h hl).inmSX,
    fun hl => (h hl).inmSY,
    hE⟩

theorem chk10_ok (v50 : BitVec 32) (v82 : BitVec 32) (v114 : BitVec 32) (v146 : BitVec 32) (v169 : BitVec 32) (v267 : BitVec 32) {n e k s : ℕ} (h : k0_cond25 v169 = 1#1 → PW v267 (nxtKW (nxtKW (nxtKW (nxtKW 0#32 v50) v82) v114) v146) (Scalar.minsi v169 47#32) 4#32 n e k s) : k0_chk10 v50 v82 v114 v146 v169 v267 := by
  refine ⟨?_, ?_⟩
  · exact ⟨fun hl hb => (h hl).dvdS 0 (by decide),
      fun hl hb => (h hl).dvdF 0 (by decide),
      fun hl hb => (h hl).inbX 0 (by decide) ((h hl).set 0 (by decide) hb rfl),
      fun hl hb => (h hl).inmX 0 (by decide) ((h hl).set 0 (by decide) hb rfl),
      fun hl hb _ => (h hl).wmX 0 (by decide) _,
      fun hl hb _ => (h hl).wbX 0 (by decide) _,
      fun hl hb => (h hl).inbDY 0 (by decide) ((h hl).set 0 (by decide) hb rfl),
      fun hl hb => (h hl).inmDY 0 (by decide) ((h hl).set 0 (by decide) hb rfl),
      fun hl hb _ => (h hl).wmDY 0 _,
      fun hl hb _ => (h hl).wbDY 0 _,
      fun hl hb => (h hl).dvdS 1 (by decide),
      fun hl hb => (h hl).dvdF 1 (by decide),
      fun hl hb => (h hl).inbX 1 (by decide) ((h hl).set 1 (by decide) hb rfl),
      fun hl hb => (h hl).inmX 1 (by decide) ((h hl).set 1 (by decide) hb rfl),
      fun hl hb _ => (h hl).wmX 1 (by decide) _,
      fun hl hb _ => (h hl).wbX 1 (by decide) _,
      fun hl hb => (h hl).inbDY 1 (by decide) ((h hl).set 1 (by decide) hb rfl),
      fun hl hb => (h hl).inmDY 1 (by decide) ((h hl).set 1 (by decide) hb rfl),
      fun hl hb _ => (h hl).wmDY 1 _,
      fun hl hb _ => (h hl).wbDY 1 _,
      fun hl hb => (h hl).dvdS 2 (by decide),
      fun hl hb => (h hl).dvdF 2 (by decide),
      fun hl hb => (h hl).inbX 2 (by decide) ((h hl).set 2 (by decide) hb rfl),
      fun hl hb => (h hl).inmX 2 (by decide) ((h hl).set 2 (by decide) hb rfl),
      fun hl hb _ => (h hl).wmX 2 (by decide) _,
      fun hl hb _ => (h hl).wbX 2 (by decide) _,
      fun hl hb => (h hl).inbDY 2 (by decide) ((h hl).set 2 (by decide) hb rfl),
      fun hl hb => (h hl).inmDY 2 (by decide) ((h hl).set 2 (by decide) hb rfl),
      fun hl hb _ => (h hl).wmDY 2 _,
      fun hl hb _ => (h hl).wbDY 2 _,
      fun hl hb => (h hl).dvdS 3 (by decide),
      fun hl hb => (h hl).dvdF 3 (by decide)⟩
  · exact ⟨fun hl hb => (h hl).inbX 3 (by decide) ((h hl).set 3 (by decide) hb rfl),
      fun hl hb => (h hl).inmX 3 (by decide) ((h hl).set 3 (by decide) hb rfl),
      fun hl hb _ => (h hl).wmX 3 (by decide) _,
      fun hl hb _ => (h hl).wbX 3 (by decide) _,
      fun hl hb => (h hl).inbDY 3 (by decide) ((h hl).set 3 (by decide) hb rfl),
      fun hl hb => (h hl).inmDY 3 (by decide) ((h hl).set 3 (by decide) hb rfl),
      fun hl hb _ => (h hl).wmDY 3 _,
      fun hl hb _ => (h hl).wbDY 3 _⟩

theorem chk15_ok (arg23 : BitVec 32) (arg24 : BitVec 32) {nw kw : BitVec 32} {n e k s : ℕ} (h : k0_cond53 arg24 = 1#1 → PW nw kw (Scalar.minsi arg24 47#32) arg23 n e k s) (hE : ∀ a, (![((Scalar.minsi arg24 47#32)).toNat] : Fin 1 → ℕ) a + S1.size a ≤ S48.size a) : k0_chk15 arg23 arg24 := by
  exact ⟨fun hl => hE,
    fun hl => (h hl).inT,
    fun hl => (h hl).inbSX,
    fun hl => (h hl).inbSY,
    hE⟩

theorem chk16_ok (arg24 : BitVec 32) (arg25 : BitVec 32) {nw : BitVec 32} {n e k s : ℕ} {arg23 : BitVec 32} (h : k0_cond53 arg24 = 1#1 → PW nw arg25 (Scalar.minsi arg24 47#32) arg23 n e k s) : k0_chk16 arg24 arg25 := by
  exact ⟨fun hl => (h hl).dvd8,
    fun hl => (h hl).inmSX,
    fun hl => (h hl).inmSY⟩

theorem chk17_ok (arg23 : BitVec 32) (arg24 : BitVec 32) (arg25 : BitVec 32) (v535 : BitVec 32) {n e k s : ℕ} (h : k0_cond53 arg24 = 1#1 → PW v535 arg25 (Scalar.minsi arg24 47#32) arg23 n e k s) : k0_chk17 arg23 arg24 arg25 v535 := by
  refine ⟨?_, ?_⟩
  · exact ⟨fun hl hb => (h hl).dvdS 0 (by decide),
      fun hl hb => (h hl).dvdF 0 (by decide),
      fun hl hb => (h hl).inT,
      fun hl hb => (h hl).inbX 0 (by decide) ((h hl).set 0 (by decide) hb rfl),
      fun hl hb => (h hl).inmX 0 (by decide) ((h hl).set 0 (by decide) hb rfl),
      fun hl hb _ => (h hl).wmX 0 (by decide) _,
      fun hl hb _ => (h hl).wbX 0 (by decide) _,
      fun hl hb => (h hl).inbDY 0 (by decide) ((h hl).set 0 (by decide) hb rfl),
      fun hl hb => (h hl).inmDY 0 (by decide) ((h hl).set 0 (by decide) hb rfl),
      fun hl hb _ => (h hl).wmDY 0 _,
      fun hl hb _ => (h hl).wbDY 0 _,
      fun hl hb => (h hl).dvdS 1 (by decide),
      fun hl hb => (h hl).dvdF 1 (by decide),
      fun hl hb => (h hl).inT,
      fun hl hb => (h hl).inbX 1 (by decide) ((h hl).set 1 (by decide) hb rfl),
      fun hl hb => (h hl).inmX 1 (by decide) ((h hl).set 1 (by decide) hb rfl),
      fun hl hb _ => (h hl).wmX 1 (by decide) _,
      fun hl hb _ => (h hl).wbX 1 (by decide) _,
      fun hl hb => (h hl).inbDY 1 (by decide) ((h hl).set 1 (by decide) hb rfl),
      fun hl hb => (h hl).inmDY 1 (by decide) ((h hl).set 1 (by decide) hb rfl),
      fun hl hb _ => (h hl).wmDY 1 _,
      fun hl hb _ => (h hl).wbDY 1 _,
      fun hl hb => (h hl).dvdS 2 (by decide),
      fun hl hb => (h hl).dvdF 2 (by decide),
      fun hl hb => (h hl).inT,
      fun hl hb => (h hl).inbX 2 (by decide) ((h hl).set 2 (by decide) hb rfl),
      fun hl hb => (h hl).inmX 2 (by decide) ((h hl).set 2 (by decide) hb rfl),
      fun hl hb _ => (h hl).wmX 2 (by decide) _,
      fun hl hb _ => (h hl).wbX 2 (by decide) _,
      fun hl hb => (h hl).inbDY 2 (by decide) ((h hl).set 2 (by decide) hb rfl),
      fun hl hb => (h hl).inmDY 2 (by decide) ((h hl).set 2 (by decide) hb rfl),
      fun hl hb _ => (h hl).wmDY 2 _⟩
  · exact ⟨fun hl hb _ => (h hl).wbDY 2 _,
      fun hl hb => (h hl).dvdS 3 (by decide),
      fun hl hb => (h hl).dvdF 3 (by decide),
      fun hl hb => (h hl).inT,
      fun hl hb => (h hl).inbX 3 (by decide) ((h hl).set 3 (by decide) hb rfl),
      fun hl hb => (h hl).inmX 3 (by decide) ((h hl).set 3 (by decide) hb rfl),
      fun hl hb _ => (h hl).wmX 3 (by decide) _,
      fun hl hb _ => (h hl).wbX 3 (by decide) _,
      fun hl hb => (h hl).inbDY 3 (by decide) ((h hl).set 3 (by decide) hb rfl),
      fun hl hb => (h hl).inmDY 3 (by decide) ((h hl).set 3 (by decide) hb rfl),
      fun hl hb _ => (h hl).wmDY 3 _,
      fun hl hb _ => (h hl).wbDY 3 _⟩

theorem chk13_ok (k0_t7 : Fin k0_t7_loop.trips) (v304 : BitVec 32) (k0_t8 : Fin (k0_t8_loop v304).trips) (arg23 : BitVec 32) (v370 : BitVec 32) {n e k s : ℕ} (h : PW v370 (Scf.iv 0#32 1#32 k0_t8) (Scf.iv 0#32 1#32 k0_t7) arg23 n e k s) : k0_chk13 k0_t7 v304 k0_t8 arg23 v370 := by
  refine ⟨?_, ?_⟩
  · exact ⟨fun hb => h.dvdS 0 (by decide),
      fun hb => h.dvdF 0 (by decide),
      fun hb => h.inT,
      fun hb => h.inbX 0 (by decide) (h.set 0 (by decide) hb rfl),
      fun hb => h.inmX 0 (by decide) (h.set 0 (by decide) hb rfl),
      fun hb _ => h.wmX 0 (by decide) _,
      fun hb _ => h.wbX 0 (by decide) _,
      fun hb => h.inbDY 0 (by decide) (h.set 0 (by decide) hb rfl),
      fun hb => h.inmDY 0 (by decide) (h.set 0 (by decide) hb rfl),
      fun hb _ => h.wmDY 0 _,
      fun hb _ => h.wbDY 0 _,
      fun hb => h.dvdS 1 (by decide),
      fun hb => h.dvdF 1 (by decide),
      fun hb => h.inT,
      fun hb => h.inbX 1 (by decide) (h.set 1 (by decide) hb rfl),
      fun hb => h.inmX 1 (by decide) (h.set 1 (by decide) hb rfl),
      fun hb _ => h.wmX 1 (by decide) _,
      fun hb _ => h.wbX 1 (by decide) _,
      fun hb => h.inbDY 1 (by decide) (h.set 1 (by decide) hb rfl),
      fun hb => h.inmDY 1 (by decide) (h.set 1 (by decide) hb rfl),
      fun hb _ => h.wmDY 1 _,
      fun hb _ => h.wbDY 1 _,
      fun hb => h.dvdS 2 (by decide),
      fun hb => h.dvdF 2 (by decide),
      fun hb => h.inT,
      fun hb => h.inbX 2 (by decide) (h.set 2 (by decide) hb rfl),
      fun hb => h.inmX 2 (by decide) (h.set 2 (by decide) hb rfl),
      fun hb _ => h.wmX 2 (by decide) _,
      fun hb _ => h.wbX 2 (by decide) _,
      fun hb => h.inbDY 2 (by decide) (h.set 2 (by decide) hb rfl),
      fun hb => h.inmDY 2 (by decide) (h.set 2 (by decide) hb rfl),
      fun hb _ => h.wmDY 2 _⟩
  · exact ⟨fun hb _ => h.wbDY 2 _,
      fun hb => h.dvdS 3 (by decide),
      fun hb => h.dvdF 3 (by decide),
      fun hb => h.inT,
      fun hb => h.inbX 3 (by decide) (h.set 3 (by decide) hb rfl),
      fun hb => h.inmX 3 (by decide) (h.set 3 (by decide) hb rfl),
      fun hb _ => h.wmX 3 (by decide) _,
      fun hb _ => h.wbX 3 (by decide) _,
      fun hb => h.inbDY 3 (by decide) (h.set 3 (by decide) hb rfl),
      fun hb => h.inmDY 3 (by decide) (h.set 3 (by decide) hb rfl),
      fun hb _ => h.wmDY 3 _,
      fun hb _ => h.wbDY 3 _⟩

theorem chk12_ok (arg23 : BitVec 32) {nw kw ew : BitVec 32} {n e k s : ℕ} (h : PW nw kw ew arg23 n e k s) : k0_chk12 arg23 := by
  exact ⟨h.inT,
    h.inbSX,
    h.inbSY,
    h.inbSX,
    h.inbSY⟩

end Cert.KernelIdeal.Hand
-- ==== Proof.Control.lean ====
/-
  Reading the counts, and the search for the next expert that has tokens.
-/
module

public import proofs.«01_k».proof.Proof.Checks

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- The counts, held whole, with the values `n`. -/
def cnt (m0 : Memref sig .tc .smem S48 .i32) (n : ℕ → ℕ) : sProp 𝕄 :=
  iprop(∃ f, ⌜∀ x : S48.Idx, m0.view.read (Elt F) f x = W (n (x 0).val)⌝ ∗ (m0.view.loc (c : Thread nD τ) ↦[Finset.univ]{fullShare} f))

theorem WP_pure {α : Type} {Q : α → sProp 𝕄} {x : α} : Q x ⊢ WP (F := F) c 𝒱 (pure x) Q := by
  show Q x ⊢ wp frame (wpE (defs₀ (F := F)) 𝒱 (c : Thread nD τ) none) Set.univ (Prog.ret x) Q
  rw [wp_ret]
  iintro H
  imodintro
  iexact H
theorem WP_bind {α β : Type} {Q : β → sProp 𝕄} {p : PT F α} {k : α → PT F β} :
    WP c 𝒱 p (fun x => WP c 𝒱 (k x) Q) ⊢ WP c 𝒱 (p >>= k) Q := by
  unfold WP
  rw [wp_bind]
theorem WP_bind' {α β : Type} {Q : β → sProp 𝕄} {p : PT F α} {k : α → PT F β} :
    WP c 𝒱 (p >>= k) Q ⊢ WP c 𝒱 p (fun x => WP c 𝒱 (k x) Q) := by
  unfold WP
  rw [wp_bind]
theorem WP_assume {α : Type} {Q : α → sProp 𝕄} {P : Prop} {dc : Decidable P} {k : PLift P → PT F α} (h : P) :
    WP c 𝒱 (k ⟨h⟩) Q ⊢ WP c 𝒱 ((Prog.lift (TpuEff.assume P dc)) >>= k) Q := wp_assume 𝒱 (c : Thread nD τ) none Set.univ h

/-- The read of one count. -/
theorem wp_cnt {α : Type} {Q : α → sProp 𝕄} {m0 : Memref sig .tc .smem S48 .i32} {n : ℕ → ℕ} (e : ℕ) {off : Fin 1 → ℕ}
    {inb : ∀ a, off a + S1.size a ≤ S48.size a} {h1 : S1.numel = 1} {hp : EltTy.packing .i32 = 1} (ho : off = ![e]) {K : Elt F .i32 → PT F α} :
    cnt (F := F) c m0 n ⊢ iprop((cnt (F := F) c m0 n -∗ WP c 𝒱 (K (W (n e))) Q)
      -∗ WP c 𝒱 (smemLoad m0 (Rect.unit (s := S48) off S1.size inb) h1 hp >>= K) Q) := by
  subst ho
  show _ ⊢ iprop(_ -∗ WP c 𝒱 (smemLoadElt m0 (Rect.unit (s := S48) ![e] S1.size inb) (View.loads_smem_one hp h1) (Shape.Idx.first (h1.symm ▸ Nat.one_pos)) K) Q)
  unfold cnt
  iintro ⟨%f, %hf, Hf⟩ Hk
  have hv : ∀ x, (m0.access (Rect.unit (s := S48) ![e] S1.size inb)).read (Elt F) f x = W (n e) := by
    intro x
    refine Eq.trans ?_ ((hf ((Rect.unit (s := S48) ![e] S1.size inb).emb x)).trans ?_)
    · rfl
    · congr 2
      have h0 := ValueKit.rect_emb_unit_val (s := S48) ![e] S1.size inb x 0
      have h1 : (x 0).val < 1 := (x 0).isLt
      rw [h0]
      show e + (x 0).val = e
      omega
  iapply (wp_smemLoadElt 𝒱 (c : Thread nD τ) none Set.univ (m := m0) (r := Rect.unit (s := S48) ![e] S1.size inb) (S := Finset.univ) (q := fullShare) (f := f) (Finset.subset_univ _)) $$ Hf
  iintro Hf
  rw [hv]
  iapply Hk
  iexists f
  isplitr
  · ipureintro; exact hf
  · iexact Hf

/-- The first expert with tokens found in the last `t` experts, from `lo` on; 48 if there is none. -/
def scan (n : ℕ → ℕ) (lo : ℕ) : ℕ → ℕ
  | 0 => 48
  | t + 1 => if lo ≤ 47 - t ∧ n (47 - t) ≠ 0 then 47 - t else scan n lo t
/-- The first expert with tokens, from `lo` on; 48 if there is none. -/
def nl (n : ℕ → ℕ) (lo : ℕ) : ℕ := scan n lo 48

theorem scan_spec (n : ℕ → ℕ) (lo : ℕ) (hlo : lo ≤ 48) : ∀ t, t ≤ 48 → (scan n lo t = 48 ∨ (lo ≤ scan n lo t ∧ 48 - t ≤ scan n lo t ∧ scan n lo t < 48 ∧ n (scan n lo t) ≠ 0))
    ∧ ∀ e, lo ≤ e → 48 - t ≤ e → e < scan n lo t → n e = 0
  | 0, _ => ⟨.inl rfl, fun e _ h1 h2 => by simp [scan] at h2; omega⟩
  | t + 1, ht => by
    obtain ⟨h1, h2⟩ := scan_spec n lo hlo t (by omega)
    unfold scan
    by_cases h : lo ≤ 47 - t ∧ n (47 - t) ≠ 0
    · rw [if_pos h]
      exact ⟨.inr ⟨h.1, by omega, by omega, h.2⟩, fun e he h3 h4 => by omega⟩
    · rw [if_neg h]
      refine ⟨h1.imp_right fun ⟨a, b, c, d⟩ => ⟨a, by omega, c, d⟩, fun e he h3 h4 => ?_⟩
      by_cases h5 : e = 47 - t
      · subst h5
        by_cases h6 : n (47 - t) = 0
        · exact h6
        · exact absurd ⟨he, h6⟩ h
      · exact h2 e he (by omega) h4

theorem nl_le (n : ℕ → ℕ) {lo : ℕ} (hlo : lo ≤ 48) : nl n lo ≤ 48 ∧ lo ≤ nl n lo := by
  rcases (scan_spec n lo hlo 48 (by omega)).1 with h | h <;> unfold nl <;> omega
theorem nl_live (n : ℕ → ℕ) {lo : ℕ} (hlo : lo ≤ 48) (h : nl n lo < 48) : n (nl n lo) ≠ 0 := by
  rcases (scan_spec n lo hlo 48 (by omega)).1 with h' | h'
  · unfold nl at h; omega
  · exact h'.2.2.2
theorem nl_skip (n : ℕ → ℕ) {lo e : ℕ} (hlo : lo ≤ 48) (h1 : lo ≤ e) (h2 : e < nl n lo) : n e = 0 :=
  (scan_spec n lo hlo 48 (by omega)).2 e h1 (by omega) h2
/-- Passing over an expert without tokens. -/
theorem nl_self (n : ℕ → ℕ) {e : ℕ} (he : e < 48) (h : n e ≠ 0) : nl n e = e := by
  obtain ⟨h1, h2⟩ := nl_le n (show e ≤ 48 by omega)
  by_contra h3
  exact h (nl_skip n (by omega) (le_refl e) (by omega))
theorem nl_next (n : ℕ → ℕ) {e : ℕ} (he : e < 48) (h : n e = 0) : nl n e = nl n (e + 1) := by
  obtain ⟨h1, h2⟩ := nl_le n (show e ≤ 48 by omega)
  obtain ⟨h3, h4⟩ := nl_le n (show e + 1 ≤ 48 by omega)
  have h5 : e ≠ nl n e := by
    intro h6
    exact nl_live n (show e ≤ 48 by omega) (by omega) (by rw [← h6]; exact h)
  rcases Nat.lt_trichotomy (nl n e) (nl n (e + 1)) with h7 | h7 | h7
  · exact absurd (nl_skip n (show e + 1 ≤ 48 by omega) (by omega) h7) (nl_live n (show e ≤ 48 by omega) (by omega))
  · exact h7
  · exact absurd (nl_skip n (show e ≤ 48 by omega) (by omega) h7) (nl_live n (show e + 1 ≤ 48 by omega) (by omega))

theorem iv48 (t : ℕ) (ht : t < 48) : Scalar.subi 47#32 (Scf.iv 0#32 1#32 t) = W (47 - t) := by
  have : ∀ t : Fin 48, Scalar.subi 47#32 (Scf.iv 0#32 1#32 t.val) = W (47 - t.val) := by decide
  exact this ⟨t, ht⟩

theorem scan_word {n : ℕ → ℕ} (hn : ∀ e, n e ≤ 8192) (lo : ℕ) (hlo : lo ≤ 48) (t : ℕ) (ht : t < 48) :
    Scalar.select (Scalar.andi (Scalar.cmpi .sge (W (47 - t)) (W lo)) (Scalar.cmpi .ne (W (n (47 - t))) 0#32)) (W (47 - t)) (W (scan n lo t)) = W (scan n lo (t + 1)) := by
  have hn' := hn (47 - t)
  rw [show (0#32 : BitVec 32) = W 0 from rfl, sgeW (by omega) (by omega), neW (by omega) (by omega)]
  rw [show scan n lo (t + 1) = if lo ≤ 47 - t ∧ n (47 - t) ≠ 0 then 47 - t else scan n lo t from rfl]
  by_cases a : lo ≤ 47 - t <;> by_cases b : n (47 - t) = 0 <;> simp [a, b, Scalar.select, Scalar.andi, IntOp.andi]

/-- The search. -/
theorem wp_scan {α : Type} {Q : α → sProp 𝕄} {m0 : Memref sig .tc .smem S48 .i32} {n : ℕ → ℕ} (hn : ∀ e, n e ≤ 8192)
    (lo : ℕ) (hlo : lo ≤ 48) {low : BitVec 32} (hlow : low = W lo)
    {ok : Scf.OK 0#32 (Scalar.addi 0#32 48#32) 1#32}
    {off : Fin (Scf.trips 0#32 (Scalar.addi 0#32 48#32) 1#32) → Fin 1 → ℕ}
    {inb : ∀ t a, off t a + S1.size a ≤ S48.size a} {h1 : S1.numel = 1} {hp : EltTy.packing .i32 = 1}
    (ho : ∀ t, off t = ![(Scalar.subi 47#32 (Scf.iv 0#32 1#32 t.val)).toNat]) {K : BitVec 32 → PT F α} :
    cnt (F := F) c m0 n ⊢ iprop((cnt (F := F) c m0 n -∗ WP c 𝒱 (K (W (nl n lo))) Q)
      -∗ WP c 𝒱 (Scf.for 0#32 (Scalar.addi 0#32 48#32) 1#32 ok 48#32 (fun t r =>
          (smemLoad m0 (Rect.unit (s := S48) (off t) S1.size (inb t)) h1 hp : PT F (Elt F .i32)) >>= fun v : BitVec 32 =>
            pure (Scalar.select (Scalar.andi (Scalar.cmpi .sge (Scalar.subi 47#32 (Scf.iv 0#32 1#32 t.val)) low) (Scalar.cmpi .ne v 0#32))
              (Scalar.subi 47#32 (Scf.iv 0#32 1#32 t.val)) r)) >>= K) Q) := by
  subst hlow
  have ht : Scf.trips 0#32 (Scalar.addi 0#32 48#32) 1#32 = 48 := by decide
  have hbody : ∀ (k : Fin (Scf.trips 0#32 (Scalar.addi 0#32 48#32) 1#32)) (acc : BitVec 32),
      iprop(⌜acc = W (scan n lo k.val)⌝ ∗ cnt (F := F) c m0 n) ⊢ WP c 𝒱 ((smemLoad m0 (Rect.unit (s := S48) (off k) S1.size (inb k)) h1 hp : PT F (Elt F .i32)) >>= fun v : BitVec 32 =>
            pure (Scalar.select (Scalar.andi (Scalar.cmpi .sge (Scalar.subi 47#32 (Scf.iv 0#32 1#32 k.val)) (W lo)) (Scalar.cmpi .ne v 0#32))
              (Scalar.subi 47#32 (Scf.iv 0#32 1#32 k.val)) acc)) (fun acc => iprop(⌜acc = W (scan n lo (k.val + 1))⌝ ∗ cnt (F := F) c m0 n)) := by
    intro k acc
    have hk : k.val < 48 := by have := k.isLt; omega
    have h47 := iv48 k.val hk
    have hoff : off k = ![47 - k.val] := by rw [ho k, h47, W_toNat (by omega)]
    rw [h47]
    have hn' := hn (47 - k.val)
    have hsel := scan_word hn lo hlo k.val hk
    iintro ⟨%hacc, Hc⟩
    iapply (wp_cnt c 𝒱 (47 - k.val) hoff) $$ Hc
    iintro Hc
    iapply (WP_pure c 𝒱)
    isplitr
    · ipureintro; rw [hacc]; exact hsel
    · iexact Hc
  iintro Hc Hk
  iapply (Scf.wp_for_bind frame (wpE (defs₀ (F := F)) 𝒱 (c : Thread nD τ) none) Set.univ 0#32 (Scalar.addi 0#32 48#32) 1#32 ok 48#32 _
    (fun t acc => iprop(⌜acc = W (scan n lo t)⌝ ∗ cnt (F := F) c m0 n)) hbody) $$ [Hc]
  · isplitr
    · ipureintro; rfl
    · iexact Hc
  iintro %acc ⟨%hacc, Hc⟩
  rw [ht] at hacc
  subst hacc
  iapply Hk
  iexact Hc

end Cert.KernelIdeal.Hand
-- ==== Proof.Issue.lean ====
/-
  Filling a token slot: the steps that issue the scales' copies and one bit's copies.
-/
module

public import proofs.«01_k».proof.Proof.Slot

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-! ## The slots' semaphores, as sliced -/

theorem sem_T {off : Fin 1 → ℕ} (inb hq) (s : ℕ) (ho : off = ![s % 5]) :
    (((cc0_scratch7 : DmaSems sig S5).slice (Rect.unit (s := S5) off S1.size inb)).squeeze S_ hq).sem = sT s := by
  subst ho
  refine congrArg (cc0_scratch7 : DmaSems sig S5).ix ?_
  funext x
  match x with
  | ⟨0, _⟩ =>
    apply Fin.ext
    refine (ValueKit.rect_emb_unit_val _ _ _ _ _).trans ?_
    have hz := ((Shape.reshapeEquiv hq.numel_eq (fun i => i.elim0 : S_.Idx) : S1.Idx) 0).isLt
    show s % 5 + ((Shape.reshapeEquiv hq.numel_eq (fun i => i.elim0 : S_.Idx) : S1.Idx) 0).val = s % 5
    simp at hz ⊢

theorem sem_Y {off : Fin 1 → ℕ} (inb hq) (s : ℕ) (ho : off = ![s % 5]) :
    (((cc0_scratch8 : DmaSems sig S5).slice (Rect.unit (s := S5) off S1.size inb)).squeeze S_ hq).sem = sY s := by
  subst ho
  refine congrArg (cc0_scratch8 : DmaSems sig S5).ix ?_
  funext x
  match x with
  | ⟨0, _⟩ =>
    apply Fin.ext
    refine (ValueKit.rect_emb_unit_val _ _ _ _ _).trans ?_
    have hz := ((Shape.reshapeEquiv hq.numel_eq (fun i => i.elim0 : S_.Idx) : S1.Idx) 0).isLt
    show s % 5 + ((Shape.reshapeEquiv hq.numel_eq (fun i => i.elim0 : S_.Idx) : S1.Idx) 0).val = s % 5
    simp at hz ⊢

theorem sem_G {off : Fin 1 → ℕ} (inb hq) (s : ℕ) (ho : off = ![s % 10]) :
    (((cc0_scratch9 : DmaSems sig S10).slice (Rect.unit (s := S10) off S1.size inb)).squeeze S_ hq).sem = sG s := by
  subst ho
  refine congrArg (cc0_scratch9 : DmaSems sig S10).ix ?_
  funext x
  match x with
  | ⟨0, _⟩ =>
    apply Fin.ext
    refine (ValueKit.rect_emb_unit_val _ _ _ _ _).trans ?_
    have hz := ((Shape.reshapeEquiv hq.numel_eq (fun i => i.elim0 : S_.Idx) : S1.Idx) 0).isLt
    show s % 10 + ((Shape.reshapeEquiv hq.numel_eq (fun i => i.elim0 : S_.Idx) : S1.Idx) 0).val = s % 10
    simp at hz ⊢

theorem sem_O {off : Fin 1 → ℕ} (inb hq) (s : ℕ) (ho : off = ![s % 10]) :
    (((cc0_scratch10 : DmaSems sig S10).slice (Rect.unit (s := S10) off S1.size inb)).squeeze S_ hq).sem = sO s := by
  subst ho
  refine congrArg (cc0_scratch10 : DmaSems sig S10).ix ?_
  funext x
  match x with
  | ⟨0, _⟩ =>
    apply Fin.ext
    refine (ValueKit.rect_emb_unit_val _ _ _ _ _).trans ?_
    have hz := ((Shape.reshapeEquiv hq.numel_eq (fun i => i.elim0 : S_.Idx) : S1.Idx) 0).isLt
    show s % 10 + ((Shape.reshapeEquiv hq.numel_eq (fun i => i.elim0 : S_.Idx) : S1.Idx) 0).val = s % 10
    simp at hz ⊢

/-! ## Where a bit's copies sit among the slot's -/

theorem pre_split (s e k b : ℕ) (hb : b < 4) : ∃ post, pre c d s e k 4 = pre c d s e k b ++ bl c d s e k b ++ post := by
  match b, hb with
  | 0, _ => exact ⟨bl c d s e k 1 ++ bl c d s e k 2 ++ bl c d s e k 3, by simp [pre]⟩
  | 1, _ => exact ⟨bl c d s e k 2 ++ bl c d s e k 3, by simp [pre]⟩
  | 2, _ => exact ⟨bl c d s e k 3, by simp [pre]⟩
  | 3, _ => exact ⟨[], by simp [pre]⟩

theorem keptTo_succ (s e k b : ℕ) : keptTo c d s e k (b + 1)
    = iprop(keptTo c d s e k b ∗ (if isSet (nb (d.n e) k) b then BI.emp else bitRes c d s b)) := rfl

theorem rest_split (s b : ℕ) (hb : b < 4) : restFrom c d s b ⊢ iprop(bitRes c d s b ∗ restFrom c d s (b + 1)) := by
  match b, hb with
  | 0, _ => exact .rfl
  | 1, _ => exact .rfl
  | 2, _ => exact .rfl
  | 3, _ => exact Idealize.SL.BI.Laws.sep_emp.2

theorem wX_sdiff (s a n : ℕ) (h : a + n ≤ 1024) : wX s a 1024 \ wX s a (a + n) = wX s (a + n) 1024 := by
  ext i; simp [wX]; omega
theorem wDY_sdiff (s a n : ℕ) (h : a + n ≤ 1024) : wDY s a 1024 \ wDY s a (a + n) = wDY s (a + n) 1024 := by
  ext i; simp [wDY]; omega
theorem wX_sub (s a n : ℕ) (h : a + n ≤ 1024) : wX s a (a + n) ⊆ wX s a 1024 := by
  intro i; simp [wX]; omega
theorem wDY_sub (s a n : ℕ) (h : a + n ≤ 1024) : wDY s a (a + n) ⊆ wDY s a 1024 := by
  intro i; simp [wDY]; omega

/-- The step that issues bit `b`'s two copies if the bit is set. -/
theorem wp_bit {α : Type} {Q : α → sProp 𝕄} (s e k b : ℕ) (hs : s < 5) (he : e < 48) (hb : b < 4) {n : ℕ} (hn : n = sz b)
    (hk : k * 1024 + 128 * nb (d.n e) k ≤ 8192)
    {cnd : BitVec 1} (hc : cnd = 1#1 ↔ isSet (nb (d.n e) k) b = true)
    {oT oT' : Fin 1 → ℕ} {ox ox' oy oy' : Fin 3 → ℕ}
    {iT : cnd = 1#1 → ∀ a, oT a + S1.size a ≤ S5.size a} {iT' : cnd = 1#1 → ∀ a, oT' a + S1.size a ≤ S5.size a}
    {ix : cnd = 1#1 → ∀ a, ox a + (⟨3, ![1, n, 896]⟩ : Shape).size a ≤ S5x1024x896.size a}
    {ix' : cnd = 1#1 → ∀ a, ox' a + (⟨3, ![1, n, 896]⟩ : Shape).size a ≤ S48x8192x896.size a}
    {iy : cnd = 1#1 → ∀ a, oy a + (⟨3, ![1, 960, n]⟩ : Shape).size a ≤ S5x960x1024.size a}
    {iy' : cnd = 1#1 → ∀ a, oy' a + (⟨3, ![1, 960, n]⟩ : Shape).size a ≤ S48x960x8192.size a}
    {hq hq' : S1.Squeezes S_} {hxq hxq' : (⟨3, ![1, n, 896]⟩ : Shape).Squeezes ⟨2, ![n, 896]⟩}
    {hyq hyq' : (⟨3, ![1, 960, n]⟩ : Shape).Squeezes ⟨2, ![960, n]⟩}
    {w1 : ∀ h, (sq (n := n) (k := 896) mX ox' (ix' h) (fun _ => rfl) hxq').view.WordExact}
    {w2 : ∀ h, (sq (n := n) (k := 896) bX ox (ix h) (fun _ => rfl) hxq).view.WordExact}
    {w3 : ∀ h, (sq (n := 960) (k := n) mDY oy' (iy' h) (fun _ => rfl) hyq').view.WordExact}
    {w4 : ∀ h, (sq (n := 960) (k := n) bDY oy (iy h) (fun _ => rfl) hyq).view.WordExact}
    (hoT : oT = ![s]) (hoT' : oT' = ![s])
    (hox : isSet (nb (d.n e) k) b = true → ox = ![s, 128 * first (nb (d.n e) k) b, 0])
    (hox' : isSet (nb (d.n e) k) b = true → ox' = ![e, k * 1024 + 128 * first (nb (d.n e) k) b, 0])
    (hoy : isSet (nb (d.n e) k) b = true → oy = ![s, 0, 128 * first (nb (d.n e) k) b])
    (hoy' : isSet (nb (d.n e) k) b = true → oy' = ![e, 0, k * 1024 + 128 * first (nb (d.n e) k) b])
    {K : PT F α} :
    tokIss c d s e k b ⊢ iprop((tokIss c d s e k (b + 1) -∗ WP c 𝒱 K Q)
      -∗ WP c 𝒱 (if h : cnd = 1#1 then
          (Prog.lift (.enqueueDma (sq (n := n) (k := 896) mX ox' (ix' h) (fun _ => rfl) hxq') (.here (sq (n := n) (k := 896) bX ox (ix h) (fun _ => rfl) hxq))
            (.dma (((cc0_scratch7 : DmaSems sig S5).slice (Rect.unit (s := S5) oT S1.size (iT h))).squeeze S_ hq).sem) (w1 h) (w2 h) ⟨Or.inl rfl, trivial⟩)
            >>= fun _ => Prog.lift (.enqueueDma (sq (n := 960) (k := n) mDY oy' (iy' h) (fun _ => rfl) hyq') (.here (sq (n := 960) (k := n) bDY oy (iy h) (fun _ => rfl) hyq))
            (.dma (((cc0_scratch7 : DmaSems sig S5).slice (Rect.unit (s := S5) oT' S1.size (iT' h))).squeeze S_ hq').sem) (w3 h) (w4 h) ⟨Or.inl rfl, trivial⟩)
            >>= fun _ => K)
        else K) Q) := by
  subst hn
  have hnb : nb (d.n e) k ≤ 8 := nb_le _ _
  by_cases h : cnd = 1#1
  · have hset := hc.1 h
    obtain ⟨f1, f2, f3⟩ := first_le hnb hb hset
    rw [dif_pos h]
    obtain ⟨post, hp⟩ := pre_split c d s e k b hb
    have hbl : bl c d s e k b = [xCell c d s e k b, dyCell c d s e k b] := by simp [bl, hset]
    rw [hbl] at hp
    have hp1 : pre c d s e k 4 = pre c d s e k b ++ xCell c d s e k b :: (dyCell c d s e k b :: post) := by simp [hp]
    have hp2 : pre c d s e k 4 = (pre c d s e k b ++ [xCell c d s e k b]) ++ dyCell c d s e k b :: post := by simp [hp]
    have hl : (pre c d s e k (b + 1)).length = (pre c d s e k b).length + 1 + 1 := by simp [pre, hbl]
    have hfs : first (nb (d.n e) k) (b + 1) = first (nb (d.n e) k) b + bw b := by rw [first_succ hnb hb, if_pos hset]
    have h8 : 128 * first (nb (d.n e) k) (b + 1) = 128 * first (nb (d.n e) k) b + sz b := by rw [hfs, f2]; omega
    have hk' : k * 1024 + 128 * first (nb (d.n e) k) b + sz b ≤ 8192 := by omega
    have hs5 : s % 5 = s := Nat.mod_eq_of_lt hs
    rw [sem_T _ _ s (hoT.trans (by rw [hs5])), sem_T _ _ s (hoT'.trans (by rw [hs5]))]
    unfold tokIss
    rw [hl, h8]
    iintro ⟨HB, HY, HK, HR, ⟨%fx, Hx⟩, ⟨%fy, Hy⟩⟩ Hk
    ihave HR' := (rest_split c d s b hb) $$ HR
    unfold bitRes
    icases HR' with ⟨⟨HX, HDY⟩, HR⟩
    iapply (wp_issue EC 𝒱 (c : Thread nD τ) none hE (pre c d s e k 4) (pre c d s e k b) (dyCell c d s e k b :: post) (xCell c d s e k b) hp1
      (src := sq (n := sz b) (k := 896) mX ox' (ix' h) (fun _ => rfl) hxq') (dst := sq (n := sz b) (k := 896) bX ox (ix h) (fun _ => rfl) hxq)
      (via := .same) (fs := d.X) (fd := fx)
      (S := Finset.univ) (Finset.subset_univ _) (set_bX _ _ _ s _ (hox hset)) (wX_sub s _ _ f1) rfl
      (sep_mono_right (Entails.of_eq (pointsTo_congr (write_bX c d _ _ _ _ _ _ s _ e k (hox hset) (hox' hset) he hk' fx))))) $$ [HX Hx HB]
    · isplitl [HX]; · iexact HX
      isplitl [Hx] <;> iassumption
    rw [wX_sdiff s _ _ f1]
    iintro ⟨Hx, HB⟩
    iapply (wp_issue EC 𝒱 (c : Thread nD τ) none hE (pre c d s e k 4) (pre c d s e k b ++ [xCell c d s e k b]) post (dyCell c d s e k b) hp2
      (src := sq (n := 960) (k := sz b) mDY oy' (iy' h) (fun _ => rfl) hyq') (dst := sq (n := 960) (k := sz b) bDY oy (iy h) (fun _ => rfl) hyq)
      (via := .same) (fs := d.DY) (fd := fy)
      (S := Finset.univ) (Finset.subset_univ _) (set_bDY _ _ _ s _ (hoy hset)) (wDY_sub s _ _ f1) rfl
      (sep_mono_right (Entails.of_eq (pointsTo_congr (write_bDY c d _ _ _ _ _ _ s _ e k he hk' (hoy hset) (hoy' hset) fy))))) $$ [HDY Hy HB]
    · isplitl [HDY]; · iexact HDY
      isplitl [Hy]; · iexact Hy
      rw [List.length_append]; iexact HB
    rw [wDY_sdiff s _ _ f1]
    iintro ⟨Hy, HB⟩
    iapply Hk
    isplitl [HB]; · rw [List.length_append]; iexact HB
    isplitl [HY]; · iexact HY
    isplitl [HK]
    · rw [keptTo_succ, if_pos hset]
      isplitl [HK]; · iexact HK
      · iempintro
    isplitl [HR]; · iexact HR
    isplitl [Hx]
    · iexists fx; iexact Hx
    · iexists fy; iexact Hy
  · have hset : isSet (nb (d.n e) k) b = false := by
      cases hh : isSet (nb (d.n e) k) b with
      | true => exact absurd (hc.2 hh) h
      | false => rfl
    rw [dif_neg h]
    have hbl : bl c d s e k b = [] := by simp [bl, hset]
    have hl : pre c d s e k (b + 1) = pre c d s e k b := by simp [pre, hbl]
    have hfs : first (nb (d.n e) k) (b + 1) = first (nb (d.n e) k) b := by rw [first_succ hnb hb, if_neg (by simp [hset])]; rfl
    unfold tokIss
    rw [hl, hfs]
    iintro ⟨HB, HY, HK, HR, Hx, Hy⟩ Hk
    ihave HR' := (rest_split c d s b hb) $$ HR
    icases HR' with ⟨HX, HR⟩
    iapply Hk
    isplitl [HB]; · iexact HB
    isplitl [HY]; · iexact HY
    isplitl [HK HX]
    · rw [keptTo_succ, if_neg (by simp [hset])]
      isplitl [HK] <;> iassumption
    isplitl [HR]; · iexact HR
    isplitl [Hx] <;> iassumption

end Cert.KernelIdeal.Hand
-- ==== Proof.Wait.lean ====
/-
  Filling a token slot: the scales' copies; waiting for a slot; what a slot holds once it is full.
-/
module

public import proofs.«01_k».proof.Proof.Issue

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- The step that issues the two scales' copies. -/
theorem wp_scales {α : Type} {Q : α → sProp 𝕄} (s e k : ℕ) (hs : s < 5) (he : e < 48) (hk : k < 8)
    {oT oY : Fin 1 → ℕ} {ox ox' oy oy' : Fin 3 → ℕ}
    {iT : ∀ a, oT a + S1.size a ≤ S5.size a} {iY : ∀ a, oY a + S1.size a ≤ S5.size a}
    {ix : ∀ a, ox a + S1x8x896.size a ≤ S5x8x896.size a}
    {ix' : ∀ a, ox' a + S1x8x896.size a ≤ S48x64x896.size a}
    {iy : ∀ a, oy a + S1x8x960.size a ≤ S5x8x960.size a}
    {iy' : ∀ a, oy' a + S1x8x960.size a ≤ S48x64x960.size a}
    {hq hq' : S1.Squeezes S_} {hxq hxq' : S1x8x896.Squeezes S8x896} {hyq hyq' : S1x8x960.Squeezes S8x960}
    {w1 : (sq (n := 8) (k := 896) mSX ox' ix' (fun _ => rfl) hxq').view.WordExact}
    {w2 : (sq (n := 8) (k := 896) bSX ox ix (fun _ => rfl) hxq).view.WordExact}
    {w3 : (sq (n := 8) (k := 960) mSY oy' iy' (fun _ => rfl) hyq').view.WordExact}
    {w4 : (sq (n := 8) (k := 960) bSY oy iy (fun _ => rfl) hyq).view.WordExact}
    (hoT : oT = ![s]) (hoY : oY = ![s]) (hox : ox = ![s, 0, 0]) (hox' : ox' = ![e, k * 8, 0])
    (hoy : oy = ![s, 0, 0]) (hoy' : oy' = ![e, k * 8, 0]) {K : PT F α} :
    tokFree c d s ⊢ iprop((tokIss c d s e k 0 -∗ WP c 𝒱 K Q)
      -∗ WP c 𝒱 (Prog.lift (.enqueueDma (sq (n := 8) (k := 896) mSX ox' ix' (fun _ => rfl) hxq') (.here (sq (n := 8) (k := 896) bSX ox ix (fun _ => rfl) hxq))
            (.dma (((cc0_scratch7 : DmaSems sig S5).slice (Rect.unit (s := S5) oT S1.size iT)).squeeze S_ hq).sem) w1 w2 ⟨Or.inl rfl, trivial⟩)
            >>= fun _ => Prog.lift (.enqueueDma (sq (n := 8) (k := 960) mSY oy' iy' (fun _ => rfl) hyq') (.here (sq (n := 8) (k := 960) bSY oy iy (fun _ => rfl) hyq))
            (.dma (((cc0_scratch8 : DmaSems sig S5).slice (Rect.unit (s := S5) oY S1.size iY)).squeeze S_ hq').sem) w3 w4 ⟨Or.inl rfl, trivial⟩)
            >>= fun _ => K) Q) := by
  have hs5 : s % 5 = s := Nat.mod_eq_of_lt hs
  rw [sem_T _ _ s (hoT.trans (by rw [hs5])), sem_Y _ _ s (hoY.trans (by rw [hs5]))]
  unfold tokFree tokIss
  rw [first_zero]
  obtain ⟨post, hp⟩ := pre_split c d s e k 0 (by decide)
  have hp1 : pre c d s e k 4 = [] ++ sxCell c d s e k :: (bl c d s e k 0 ++ post) := by rw [hp]; rfl
  iintro ⟨HT, HY, HR, HX, HSY, Hx, Hy, ⟨%fx, Hsx⟩, ⟨%fy, Hsy⟩⟩ Hk
  imod (batch_alloc EC hE (c : Thread nD τ) (.dma (sT s)) (pre c d s e k 4) (E := Set.univ)) $$ HT with HB
  imod (batch_alloc EC hE (c : Thread nD τ) (.dma (sY s)) [syCell c d s e k] (E := Set.univ)) $$ HY with HC
  iapply (wp_issue EC 𝒱 (c : Thread nD τ) none hE (pre c d s e k 4) [] (bl c d s e k 0 ++ post) (sxCell c d s e k) hp1
      (src := sq (n := 8) (k := 896) mSX ox' ix' (fun _ => rfl) hxq') (dst := sq (n := 8) (k := 896) bSX ox ix (fun _ => rfl) hxq)
      (via := .same) (fs := d.SX) (fd := fx)
      (S := Finset.univ) (Finset.subset_univ _) (set_bSX _ _ _ s hox) (Finset.Subset.refl _) rfl
      (sep_mono_right (Entails.of_eq (pointsTo_congr (write_bSX c d _ _ _ _ _ _ s e k he hk hox hox' fx))))) $$ [HX Hsx HB]
  · isplitl [HX]; · iexact HX
    isplitl [Hsx] <;> iassumption
  iintro ⟨-, HB⟩
  iapply (wp_issue EC 𝒱 (c : Thread nD τ) none hE [syCell c d s e k] [] [] (syCell c d s e k) rfl
      (src := sq (n := 8) (k := 960) mSY oy' iy' (fun _ => rfl) hyq') (dst := sq (n := 8) (k := 960) bSY oy iy (fun _ => rfl) hyq)
      (via := .same) (fs := d.SY) (fd := fy)
      (S := Finset.univ) (Finset.subset_univ _) (set_bSY _ _ _ s hoy) (Finset.Subset.refl _) rfl
      (sep_mono_right (Entails.of_eq (pointsTo_congr (write_bSY c d _ _ _ _ _ _ s e k he hk hoy hoy' fy))))) $$ [HSY Hsy HC]
  · isplitl [HSY]; · iexact HSY
    isplitl [Hsy] <;> iassumption
  iintro ⟨-, HC⟩
  iapply Hk
  isplitl [HB]; · iexact HB
  isplitl [HC]; · iexact HC
  isplitr; · unfold keptTo; iempintro
  isplitl [HR]; · iexact HR
  isplitl [Hx] <;> iassumption

/-- The thread's waits so far, whichever they are. -/
abbrev owesE : sProp 𝕄 := iprop(∃ W, owes (c : Thread nD τ) 0 W)

theorem first_four (nb : ℕ) : first nb 4 = nb := rfl

/-- The waits for the two scales' copies. -/
theorem wp_waitScales {α : Type} {Q : α → sProp 𝕄} (s e k : ℕ) (hs : s < 5)
    {oT oY : Fin 1 → ℕ} {ox oy : Fin 3 → ℕ}
    {iT : ∀ a, oT a + S1.size a ≤ S5.size a} {iY : ∀ a, oY a + S1.size a ≤ S5.size a}
    {ix : ∀ a, ox a + S1x8x896.size a ≤ S5x8x896.size a}
    {iy : ∀ a, oy a + S1x8x960.size a ≤ S5x8x960.size a}
    {hq hq' : S1.Squeezes S_} {hxq : S1x8x896.Squeezes S8x896} {hyq : S1x8x960.Squeezes S8x960}
    {mx : Memref sig .tc .hbm S8x896 .f32} {my : Memref sig .tc .hbm S8x960 .f32}
    {w1 : mx.view.WordExact}
    {w2 : (sq (n := 8) (k := 896) bSX ox ix (fun _ => rfl) hxq).view.WordExact}
    {w3 : my.view.WordExact}
    {w4 : (sq (n := 8) (k := 960) bSY oy iy (fun _ => rfl) hyq).view.WordExact}
    (hoT : oT = ![s]) (hoY : oY = ![s]) {K : PT F α} :
    iprop(tokIss c d s e k 4 ∗ owesE (F := F) c) ⊢ iprop((iprop(tokWait c d s e k 0 ∗ owesE (F := F) c) -∗ WP c 𝒱 K Q)
      -∗ WP c 𝒱 (Prog.lift (.waitDma2 (((cc0_scratch7 : DmaSems sig S5).slice (Rect.unit (s := S5) oT S1.size iT)).squeeze S_ hq).sem
              mx (sq (n := 8) (k := 896) bSX ox ix (fun _ => rfl) hxq) w1 w2)
            >>= fun _ => Prog.lift (.waitDma2 (((cc0_scratch8 : DmaSems sig S5).slice (Rect.unit (s := S5) oY S1.size iY)).squeeze S_ hq').sem
              my (sq (n := 8) (k := 960) bSY oy iy (fun _ => rfl) hyq) w3 w4)
            >>= fun _ => K) Q) := by
  have hs5 : s % 5 = s := Nat.mod_eq_of_lt hs
  rw [sem_T _ _ s (hoT.trans (by rw [hs5])), sem_Y _ _ s (hoY.trans (by rw [hs5]))]
  unfold tokWait tokIss
  rw [first_four]
  obtain ⟨post, hp⟩ := pre_split c d s e k 0 (by decide)
  have hp1 : pre c d s e k 4 = [] ++ sxCell c d s e k :: (bl c d s e k 0 ++ post) := by rw [hp]; rfl
  iintro ⟨⟨HB, HC, HK, -, Hx, Hy⟩, ⟨%W, HO⟩⟩ Hk
  iapply (wp_waitCell EC 𝒱 (c : Thread nD τ) none hE (pre c d s e k 4) [] (bl c d s e k 0 ++ post) (sxCell c d s e k) hp1
      (srcw := mx) (dstw := sq (n := 8) (k := 896) bSX ox ix (fun _ => rfl) hxq) rfl) $$ [HB HO]
  · isplitl [HB]; · iexact HB
    iexact HO
  iintro ⟨HB, HO⟩
  iapply (wp_waitCell EC 𝒱 (c : Thread nD τ) none hE [syCell c d s e k] [] [] (syCell c d s e k) rfl
      (srcw := my) (dstw := sq (n := 8) (k := 960) bSY oy iy (fun _ => rfl) hyq) rfl) $$ [HC HO]
  · isplitl [HC]; · iexact HC
    iexact HO
  iintro ⟨HC, HO⟩
  imod (show Batch EC (c : Thread nD τ) (.dma (sY s)) [syCell c d s e k] [syCell c d s e k].length (tot ([] ++ [syCell c d s e k]))
      ⊢ |={Set.univ}=> iprop(((ptq c mSY s d.SY ∗ pt c bSY (wSY s) (SYV c d e k)) ∗ BI.emp) ∗ semVal ((c : Thread nD τ), SemLoc.dma (sY s)) 0)
    from batch_collect EC hE (c : Thread nD τ) (.dma (sY s)) [syCell c d s e k]) $$ HC with HC
  icases HC with ⟨⟨HC, -⟩, HY⟩
  iapply Hk
  isplitr [HO]
  · isplitl [HB]; · iexact HB
    isplitl [HY]; · iexact HY
    isplitl [HC]; · iexact HC
    isplitl [HK]; · iexact HK
    isplitl [Hx] <;> iassumption
  · iexists _; iexact HO

/-- The waits for bit `b`'s two copies if the bit is set. -/
theorem wp_waitBit {α : Type} {Q : α → sProp 𝕄} (s e k b : ℕ) (hs : s < 5) (hb : b < 4) {n : ℕ} (hn : n = sz b)
    {cnd : BitVec 1} (hc : cnd = 1#1 ↔ isSet (nb (d.n e) k) b = true)
    {oT oT' : Fin 1 → ℕ} {ox oy : Fin 3 → ℕ}
    {iT : cnd = 1#1 → ∀ a, oT a + S1.size a ≤ S5.size a} {iT' : cnd = 1#1 → ∀ a, oT' a + S1.size a ≤ S5.size a}
    {ix : cnd = 1#1 → ∀ a, ox a + (⟨3, ![1, n, 896]⟩ : Shape).size a ≤ S5x1024x896.size a}
    {iy : cnd = 1#1 → ∀ a, oy a + (⟨3, ![1, 960, n]⟩ : Shape).size a ≤ S5x960x1024.size a}
    {hq hq' : S1.Squeezes S_} {hxq : (⟨3, ![1, n, 896]⟩ : Shape).Squeezes ⟨2, ![n, 896]⟩}
    {hyq : (⟨3, ![1, 960, n]⟩ : Shape).Squeezes ⟨2, ![960, n]⟩}
    {mx : cnd = 1#1 → Memref sig .tc .hbm ⟨2, ![n, 896]⟩ .fp8e4m3} {my : cnd = 1#1 → Memref sig .tc .hbm ⟨2, ![960, n]⟩ .fp8e5m2}
    {w1 : ∀ h, (mx h).view.WordExact}
    {w2 : ∀ h, (sq (n := n) (k := 896) bX ox (ix h) (fun _ => rfl) hxq).view.WordExact}
    {w3 : ∀ h, (my h).view.WordExact}
    {w4 : ∀ h, (sq (n := 960) (k := n) bDY oy (iy h) (fun _ => rfl) hyq).view.WordExact}
    (hoT : oT = ![s]) (hoT' : oT' = ![s]) {K : PT F α} :
    iprop(tokWait c d s e k b ∗ owesE (F := F) c) ⊢ iprop((iprop(tokWait c d s e k (b + 1) ∗ owesE (F := F) c) -∗ WP c 𝒱 K Q)
      -∗ WP c 𝒱 (if h : cnd = 1#1 then
          (Prog.lift (.waitDma2 (((cc0_scratch7 : DmaSems sig S5).slice (Rect.unit (s := S5) oT S1.size (iT h))).squeeze S_ hq).sem
              (mx h) (sq (n := n) (k := 896) bX ox (ix h) (fun _ => rfl) hxq) (w1 h) (w2 h))
            >>= fun _ => Prog.lift (.waitDma2 (((cc0_scratch7 : DmaSems sig S5).slice (Rect.unit (s := S5) oT' S1.size (iT' h))).squeeze S_ hq').sem
              (my h) (sq (n := 960) (k := n) bDY oy (iy h) (fun _ => rfl) hyq) (w3 h) (w4 h))
            >>= fun _ => K)
        else K) Q) := by
  subst hn
  by_cases h : cnd = 1#1
  · have hset := hc.1 h
    rw [dif_pos h]
    obtain ⟨post, hp⟩ := pre_split c d s e k b hb
    have hbl : bl c d s e k b = [xCell c d s e k b, dyCell c d s e k b] := by simp [bl, hset]
    rw [hbl] at hp
    have hp1 : pre c d s e k 4 = pre c d s e k b ++ xCell c d s e k b :: (dyCell c d s e k b :: post) := by simp [hp]
    have hp2 : pre c d s e k 4 = (pre c d s e k b ++ [xCell c d s e k b]) ++ dyCell c d s e k b :: post := by simp [hp]
    have hl : pre c d s e k (b + 1) = (pre c d s e k b ++ [xCell c d s e k b]) ++ [dyCell c d s e k b] := by simp [pre, hbl]
    have hs5 : s % 5 = s := Nat.mod_eq_of_lt hs
    rw [sem_T _ _ s (hoT.trans (by rw [hs5])), sem_T _ _ s (hoT'.trans (by rw [hs5]))]
    unfold tokWait
    rw [hl]
    iintro ⟨⟨HB, HR⟩, ⟨%W, HO⟩⟩ Hk
    iapply (wp_waitCell EC 𝒱 (c : Thread nD τ) none hE (pre c d s e k 4) (pre c d s e k b) (dyCell c d s e k b :: post) (xCell c d s e k b) hp1
      (srcw := mx h) (dstw := sq (n := sz b) (k := 896) bX ox (ix h) (fun _ => rfl) hxq) rfl) $$ [HB HO]
    · isplitl [HB] <;> iassumption
    iintro ⟨HB, HO⟩
    iapply (wp_waitCell EC 𝒱 (c : Thread nD τ) none hE (pre c d s e k 4) (pre c d s e k b ++ [xCell c d s e k b]) post (dyCell c d s e k b) hp2
      (srcw := my h) (dstw := sq (n := 960) (k := sz b) bDY oy (iy h) (fun _ => rfl) hyq) rfl) $$ [HB HO]
    · isplitl [HB] <;> iassumption
    iintro ⟨HB, HO⟩
    iapply Hk
    isplitr [HO]
    · isplitl [HB] <;> iassumption
    · iexists _; iexact HO
  · have hset : isSet (nb (d.n e) k) b = false := by
      cases hh : isSet (nb (d.n e) k) b with
      | true => exact absurd (hc.2 hh) h
      | false => rfl
    rw [dif_neg h]
    have hbl : bl c d s e k b = [] := by simp [bl, hset]
    have hl : pre c d s e k (b + 1) = pre c d s e k b := by simp [pre, hbl]
    unfold tokWait
    rw [hl]
    iintro H Hk
    iapply Hk
    iexact H

/-! ## A slot that is full -/

theorem pt_union {sp : Space} {S : Shape} {e : EltTy} {M : Memref sig .tc sp S e} {I J IJ : Finset (Idx (M.view.loc (c : Thread nD τ)))}
    {f : BufOf (F := F) c M} (h : Disjoint I J) (hu : I ∪ J = IJ) : iprop(pt c M I f ∗ pt c M J f) ⊢ (pt c M IJ f : sProp 𝕄) := by
  subst hu; exact (pointsTo_union h).2
theorem pt_join {sp : Space} {S : Shape} {e : EltTy} {M : Memref sig .tc sp S e} {I J IJ : Finset (Idx (M.view.loc (c : Thread nD τ)))}
    {f g : BufOf (F := F) c M} (h : Disjoint I J) (hu : I ∪ J = IJ) : iprop(pt c M I f ∗ pt c M J g) ⊢ (iprop(∃ f, pt c M IJ f) : sProp 𝕄) := by
  subst hu
  iintro H
  iexists _
  iapply (pointsTo_join h) $$ H

theorem wX_disj (s a b b' : ℕ) : Disjoint (wX s a b) (wX s b b') := by
  rw [Finset.disjoint_left]; intro i; simp [wX]; try omega
theorem wDY_disj (s a b b' : ℕ) : Disjoint (wDY s a b) (wDY s b b') := by
  rw [Finset.disjoint_left]; intro i; simp [wDY]; try omega
theorem wX_un (s a b b' : ℕ) (h : a ≤ b) (h' : b ≤ b') : wX s a b ∪ wX s b b' = wX s a b' := by
  ext i; simp [wX]; try omega
theorem wDY_un (s a b b' : ℕ) (h : a ≤ b) (h' : b ≤ b') : wDY s a b ∪ wDY s b b' = wDY s a b' := by
  ext i; simp [wDY]; try omega
theorem wX_nil (s a : ℕ) : wX s a a = ∅ := by ext i; simp [wX]; try omega
theorem wDY_nil (s a : ℕ) : wDY s a a = ∅ := by ext i; simp [wDY]; try omega

/-- The shares of the bits before `b`. -/
def restTo (s : ℕ) : ℕ → sProp 𝕄
  | 0 => BI.emp
  | b + 1 => iprop(restTo s b ∗ bitRes c d s b)

theorem restTo_four (s : ℕ) : restTo c d s 4 ⊢ restFrom c d s 0 := by
  show iprop((((BI.emp ∗ bitRes c d s 0) ∗ bitRes c d s 1) ∗ bitRes c d s 2) ∗ bitRes c d s 3)
    ⊢ iprop(bitRes c d s 0 ∗ bitRes c d s 1 ∗ bitRes c d s 2 ∗ bitRes c d s 3)
  iintro ⟨⟨⟨⟨-, H0⟩, H1⟩, H2⟩, H3⟩
  isplitl [H0]; · iexact H0
  isplitl [H1]; · iexact H1
  isplitl [H2] <;> iassumption

theorem ptX_nil (s a : ℕ) (f : BufOf (F := F) c bX) : (BI.emp : sProp 𝕄) ⊢ pt c bX (wX s a a) f := by
  rw [wX_nil]; exact Entails.of_eq pointsTo_empty.symm
theorem ptDY_nil (s a : ℕ) (f : BufOf (F := F) c bDY) : (BI.emp : sProp 𝕄) ⊢ pt c bDY (wDY s a a) f := by
  rw [wDY_nil]; exact Entails.of_eq pointsTo_empty.symm

theorem all_two (s e k b : ℕ) : (all [xCell c d s e k b, dyCell c d s e k b] : sProp 𝕄) ⊢
    iprop((ptq c mX (4 * s + b) d.X ∗ pt c bX (wX s (128 * first (nb (d.n e) k) b) (128 * first (nb (d.n e) k) b + sz b)) (XV c d e k))
      ∗ (ptq c mDY (4 * s + b) d.DY ∗ pt c bDY (wDY s (128 * first (nb (d.n e) k) b) (128 * first (nb (d.n e) k) b + sz b)) (DYV c d e k))) :=
  sep_mono_right Idealize.SL.BI.Laws.sep_emp.1

/-- What the copies of the scales and of the bits before `b` deliver, taken together. -/
theorem collect (s e k : ℕ) : ∀ b, b ≤ 4 → iprop(all (pre c d s e k b) ∗ keptTo c d s e k b)
    ⊢ iprop((ptq c mSX s d.SX ∗ pt c bSX (wSX s) (SXV c d e k)) ∗ restTo c d s b
      ∗ pt c bX (wX s 0 (128 * first (nb (d.n e) k) b)) (XV c d e k) ∗ pt c bDY (wDY s 0 (128 * first (nb (d.n e) k) b)) (DYV c d e k)) := by
  intro b
  induction b with
  | zero =>
    intro _
    rw [first_zero]
    show iprop(((ptq c mSX s d.SX ∗ pt c bSX (wSX s) (SXV c d e k)) ∗ BI.emp) ∗ BI.emp) ⊢ iprop(_ ∗ BI.emp ∗ _)
    iintro ⟨⟨H, -⟩, -⟩
    isplitl [H]; · iexact H
    isplitr; · iempintro
    isplitr
    · iapply (ptX_nil c s 0); iempintro
    · iapply (ptDY_nil c s 0); iempintro
  | succ b ih =>
    intro hb
    have hnb : nb (d.n e) k ≤ 8 := nb_le _ _
    have ih := ih (by omega)
    rw [first_succ hnb (by omega)]
    rw [keptTo_succ]
    show iprop(all (pre c d s e k b ++ bl c d s e k b) ∗ _) ⊢ iprop(_ ∗ (restTo c d s b ∗ bitRes c d s b) ∗ _)
    refine (sep_mono_left (all_append (pre c d s e k b) (bl c d s e k b)).1).trans ?_
    by_cases hset : isSet (nb (d.n e) k) b = true
    · obtain ⟨f1, f2, f3⟩ := first_le hnb (by omega) hset
      have hbl : bl c d s e k b = [xCell c d s e k b, dyCell c d s e k b] := by simp [bl, hset]
      rw [hbl, if_pos hset, if_pos hset]
      have h8 : 128 * (first (nb (d.n e) k) b + bw b) = 128 * first (nb (d.n e) k) b + sz b := by rw [f2]; omega
      rw [h8]
      refine (sep_mono_left (sep_mono_right (all_two c d s e k b))).trans ?_
      iintro ⟨⟨HA, ⟨⟨HX, Hx'⟩, ⟨HDY, Hy'⟩⟩⟩, HK, -⟩
      icombine HA HK as H
      ihave H' := ih $$ H
      icases H' with ⟨Hsx, HR, Hx, Hy⟩
      isplitl [Hsx]; · iexact Hsx
      isplitl [HR HX HDY]
      · isplitl [HR]; · iexact HR
        unfold bitRes
        isplitl [HX] <;> iassumption
      isplitl [Hx Hx']
      · iapply (pt_union c (M := bX) (wX_disj s 0 _ _) (wX_un s 0 (128 * first (nb (d.n e) k) b) (128 * first (nb (d.n e) k) b + sz b) (Nat.zero_le _) (Nat.le_add_right _ _)))
        isplitl [Hx] <;> iassumption
      · iapply (pt_union c (M := bDY) (wDY_disj s 0 _ _) (wDY_un s 0 (128 * first (nb (d.n e) k) b) (128 * first (nb (d.n e) k) b + sz b) (Nat.zero_le _) (Nat.le_add_right _ _)))
        isplitl [Hy] <;> iassumption
    · have hbl : bl c d s e k b = [] := by simp [bl, hset]
      rw [hbl, if_neg hset, if_neg hset, Nat.add_zero]
      iintro ⟨⟨HA, -⟩, HK, Hb⟩
      icombine HA HK as H
      ihave H' := ih $$ H
      icases H' with ⟨Hsx, HR, Hx, Hy⟩
      isplitl [Hsx]; · iexact Hsx
      isplitl [HR Hb]
      · isplitl [HR] <;> iassumption
      isplitl [Hx] <;> iassumption

/-- A slot all of whose copies are waited for is full. -/
theorem tok_ready (s e k : ℕ) : tokWait c d s e k 4 ⊢ |={Set.univ}=> tokReady c d s e k := by
  unfold tokWait tokReady
  iintro ⟨HB, HY, ⟨HSY, Hsy⟩, HK, Hx, Hy⟩
  imod (batch_collect EC hE (c : Thread nD τ) (.dma (sT s)) (pre c d s e k 4)) $$ HB with HB
  icases HB with ⟨HA, HT⟩
  icombine HA HK as H
  ihave H' := (collect c d s e k 4 (by decide)) $$ H
  rw [first_four]
  icases H' with ⟨⟨HSX, Hsx⟩, HR, Hx', Hy'⟩
  imodintro
  isplitl [HT]; · iexact HT
  isplitl [HY]; · iexact HY
  isplitl [HR]; · iapply (restTo_four c d s) $$ HR
  isplitl [HSX]; · iexact HSX
  isplitl [HSY]; · iexact HSY
  isplitl [Hx Hx']; · isplitl [Hx'] <;> iassumption
  isplitl [Hy Hy']; · isplitl [Hy'] <;> iassumption
  isplitl [Hsx] <;> iassumption

/-- A full slot, its contents forgotten. -/
theorem tok_free (s e k : ℕ) : tokReady c d s e k ⊢ tokFree c d s := by
  have hnb : nb (d.n e) k ≤ 8 := nb_le _ _
  unfold tokFree tokReady
  iintro ⟨HT, HY, HR, HSX, HSY, ⟨Hx, ⟨%fx, Hx'⟩⟩, ⟨Hy, ⟨%fy, Hy'⟩⟩, Hsx, Hsy⟩
  isplitl [HT]; · iexact HT
  isplitl [HY]; · iexact HY
  isplitl [HR]; · iexact HR
  isplitl [HSX]; · iexact HSX
  isplitl [HSY]; · iexact HSY
  isplitl [Hx Hx']
  · iapply (pt_join c (M := bX) (wX_disj s 0 _ _) (wX_un s 0 (128 * nb (d.n e) k) 1024 (Nat.zero_le _) (by omega)))
    isplitl [Hx] <;> iassumption
  isplitl [Hy Hy']
  · iapply (pt_join c (M := bDY) (wDY_disj s 0 _ _) (wDY_un s 0 (128 * nb (d.n e) k) 1024 (Nat.zero_le _) (by omega)))
    isplitl [Hy] <;> iassumption
  isplitl [Hsx]
  · iexists _; iexact Hsx
  · iexists _; iexact Hsy

end Cert.KernelIdeal.Hand
-- ==== Proof.Produce.lean ====
/-
  One chunk's copies started, inside the chunk loop.
-/
module

public import proofs.«01_k».proof.Proof.Control
public import proofs.«01_k».proof.Proof.Wait

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

theorem part6_ok (s e k : ℕ) (sw ew kw : BitVec 32) (hw16 : k0_chk16 ew kw) (hw15 : k0_chk15 sw ew) (v493 : BitVec 32) (h53 : k0_cond53 ew = 1#1)
    (hp : PW (W (d.n e)) kw (Scalar.minsi ew 47#32) sw (d.n e) e k s)
    {Q : _ → sProp 𝕄} :
    iprop(cnt (F := F) c m0 d.n ∗ tokFree c d s) ⊢ iprop((∀ r, ⌜r.1 = W (d.n e)⌝ -∗ iprop(cnt (F := F) c m0 d.n ∗ tokIss c d s e k 0) -∗ Q r)
      -∗ WP c 𝒱 (k0_part6 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 sw ew kw hw16 hw15 v493 h53) Q) := by
  unfold k0_part6
  iintro ⟨Hc, Ht⟩ Hk
  iapply (wp_cnt c 𝒱 e hp.oE) $$ Hc
  iintro Hc
  iapply (WP_assume c 𝒱 (chk17_ok sw ew kw _ fun _ => hp))
  iapply (wp_scales c d 𝒱 s e k hp.ls hp.le hp.lk8 hp.oT hp.oT hp.bS hp.mS hp.bS hp.mS) $$ Ht
  iintro Ht
  iapply (WP_pure c 𝒱)
  iapply Hk $$ [] [Hc Ht]
  · ipureintro; rfl
  · isplitl [Hc] <;> iassumption

end Cert.KernelIdeal.Hand
-- ==== Proof.Prologue.lean ====
/-
  One chunk's copies started, before the experts' loop.
-/
module

public import proofs.«01_k».proof.Proof.Control
public import proofs.«01_k».proof.Proof.Wait
public import proofs.«01_k».proof.Proof.Checks
public import proofs.«01_k».proof.Proof.Produce

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

/-- A slot with the first of the two scales' copies asked for. -/
def tokHalf (s e k : ℕ) : sProp 𝕄 :=
  iprop(Batch EC (c : Thread nD τ) (.dma (sT s)) (pre c d s e k 4) (pre c d s e k 0).length 0
    ∗ semVal ((c : Thread nD τ), SemLoc.dma (sY s)) 0 ∗ restFrom c d s 0 ∗ ptq c mSY s d.SY
    ∗ (∃ f, pt c bX (wX s 0 1024) f) ∗ (∃ f, pt c bDY (wDY s 0 1024) f) ∗ (∃ f, pt c bSY (wSY s) f))

theorem wp_scaleX {α : Type} {Q : α → sProp 𝕄} (s e k : ℕ) (hs : s < 5) (he : e < 48) (hk : k < 8)
    {oT : Fin 1 → ℕ} {ox ox' : Fin 3 → ℕ}
    {iT : ∀ a, oT a + S1.size a ≤ S5.size a}
    {ix : ∀ a, ox a + S1x8x896.size a ≤ S5x8x896.size a}
    {ix' : ∀ a, ox' a + S1x8x896.size a ≤ S48x64x896.size a}
    {hq : S1.Squeezes S_} {hxq hxq' : S1x8x896.Squeezes S8x896}
    {w1 : (sq (n := 8) (k := 896) mSX ox' ix' (fun _ => rfl) hxq').view.WordExact}
    {w2 : (sq (n := 8) (k := 896) bSX ox ix (fun _ => rfl) hxq).view.WordExact}
    (hoT : oT = ![s]) (hox : ox = ![s, 0, 0]) (hox' : ox' = ![e, k * 8, 0]) {K : PT F α} :
    tokFree c d s ⊢ iprop((tokHalf c d s e k -∗ WP c 𝒱 K Q)
      -∗ WP c 𝒱 (Prog.lift (.enqueueDma (sq (n := 8) (k := 896) mSX ox' ix' (fun _ => rfl) hxq') (.here (sq (n := 8) (k := 896) bSX ox ix (fun _ => rfl) hxq))
            (.dma (((cc0_scratch7 : DmaSems sig S5).slice (Rect.unit (s := S5) oT S1.size iT)).squeeze S_ hq).sem) w1 w2 ⟨Or.inl rfl, trivial⟩)
            >>= fun _ => K) Q) := by
  have hs5 : s % 5 = s := Nat.mod_eq_of_lt hs
  rw [sem_T _ _ s (hoT.trans (by rw [hs5]))]
  unfold tokFree tokHalf
  obtain ⟨post, hp⟩ := pre_split c d s e k 0 (by decide)
  have hp1 : pre c d s e k 4 = [] ++ sxCell c d s e k :: (bl c d s e k 0 ++ post) := by rw [hp]; rfl
  iintro ⟨HT, HY, HR, HX, HSY, Hx, Hy, ⟨%fx, Hsx⟩, Hsy⟩ Hk
  imod (batch_alloc EC hE (c : Thread nD τ) (.dma (sT s)) (pre c d s e k 4) (E := Set.univ)) $$ HT with HB
  iapply (wp_issue EC 𝒱 (c : Thread nD τ) none hE (pre c d s e k 4) [] (bl c d s e k 0 ++ post) (sxCell c d s e k) hp1
      (src := sq (n := 8) (k := 896) mSX ox' ix' (fun _ => rfl) hxq') (dst := sq (n := 8) (k := 896) bSX ox ix (fun _ => rfl) hxq)
      (via := .same) (fs := d.SX) (fd := fx)
      (S := Finset.univ) (Finset.subset_univ _) (set_bSX _ _ _ s hox) (Finset.Subset.refl _) rfl
      (sep_mono_right (Entails.of_eq (pointsTo_congr (write_bSX c d _ _ _ _ _ _ s e k he hk hox hox' fx))))) $$ [HX Hsx HB]
  · isplitl [HX]; · iexact HX
    isplitl [Hsx] <;> iassumption
  iintro ⟨-, HB⟩
  iapply Hk
  isplitl [HB]; · iexact HB
  iframe

theorem wp_scaleY {α : Type} {Q : α → sProp 𝕄} (s e k : ℕ) (hs : s < 5) (he : e < 48) (hk : k < 8)
    {oY : Fin 1 → ℕ} {oy oy' : Fin 3 → ℕ} {iY : ∀ a, oY a + S1.size a ≤ S5.size a}
    {iy : ∀ a, oy a + S1x8x960.size a ≤ S5x8x960.size a}
    {iy' : ∀ a, oy' a + S1x8x960.size a ≤ S48x64x960.size a}
    {hq' : S1.Squeezes S_} {hyq hyq' : S1x8x960.Squeezes S8x960}
    {w3 : (sq (n := 8) (k := 960) mSY oy' iy' (fun _ => rfl) hyq').view.WordExact}
    {w4 : (sq (n := 8) (k := 960) bSY oy iy (fun _ => rfl) hyq).view.WordExact}
    (hoY : oY = ![s]) (hoy : oy = ![s, 0, 0]) (hoy' : oy' = ![e, k * 8, 0]) {K : PT F α} :
    tokHalf c d s e k ⊢ iprop((tokIss c d s e k 0 -∗ WP c 𝒱 K Q)
      -∗ WP c 𝒱 (Prog.lift (.enqueueDma (sq (n := 8) (k := 960) mSY oy' iy' (fun _ => rfl) hyq') (.here (sq (n := 8) (k := 960) bSY oy iy (fun _ => rfl) hyq))
            (.dma (((cc0_scratch8 : DmaSems sig S5).slice (Rect.unit (s := S5) oY S1.size iY)).squeeze S_ hq').sem) w3 w4 ⟨Or.inl rfl, trivial⟩)
            >>= fun _ => K) Q) := by
  have hs5 : s % 5 = s := Nat.mod_eq_of_lt hs
  rw [sem_Y _ _ s (hoY.trans (by rw [hs5]))]
  unfold tokHalf tokIss
  rw [first_zero]
  iintro ⟨HB, HY, HR, HSY, Hx, Hy, ⟨%fy, Hsy⟩⟩ Hk
  imod (batch_alloc EC hE (c : Thread nD τ) (.dma (sY s)) [syCell c d s e k] (E := Set.univ)) $$ HY with HC
  iapply (wp_issue EC 𝒱 (c : Thread nD τ) none hE [syCell c d s e k] [] [] (syCell c d s e k) rfl
      (src := sq (n := 8) (k := 960) mSY oy' iy' (fun _ => rfl) hyq') (dst := sq (n := 8) (k := 960) bSY oy iy (fun _ => rfl) hyq)
      (via := .same) (fs := d.SY) (fd := fy)
      (S := Finset.univ) (Finset.subset_univ _) (set_bSY _ _ _ s hoy) (Finset.Subset.refl _) rfl
      (sep_mono_right (Entails.of_eq (pointsTo_congr (write_bSY c d _ _ _ _ _ _ s e k he hk hoy hoy' fy))))) $$ [HSY Hsy HC]
  · isplitl [HSY]; · iexact HSY
    isplitl [Hsy] <;> iassumption
  iintro ⟨-, HC⟩
  iapply Hk
  isplitl [HB]; · iexact HB
  isplitl [HC]; · iexact HC
  isplitr; · unfold keptTo; iempintro
  isplitl [HR]; · iexact HR
  isplitl [Hx] <;> iassumption

/-- The scales' copies of the chunk of slot 0. -/
theorem part1_ok (e k : ℕ) (v43 : BitVec 32) (k0_hw1 : k0_chk1 v43) (v45 : BitVec 32) (c0_i32_48 : BitVec 32) (k0_h1 : k0_cond1 v43 = 1#1) (hp : PW (W (d.n e)) 0#32 (Scalar.minsi v43 47#32) 0#32 (d.n e) e k 0)
    {Q : _ → sProp 𝕄} :
    iprop(cnt (F := F) c m0 d.n ∗ tokFree c d 0) ⊢ iprop((∀ r, ⌜r.1 = W (d.n e)⌝ -∗ iprop(cnt (F := F) c m0 d.n ∗ tokHalf c d 0 e k) -∗ Q r)
      -∗ WP c 𝒱 (k0_part1 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 v43 k0_hw1 v45 c0_i32_48 k0_h1) Q) := by
  unfold k0_part1
  iintro ⟨Hc, Ht⟩ Hk
  iapply (wp_cnt c 𝒱 e hp.oE) $$ Hc
  iintro Hc
  iapply (WP_assume c 𝒱 (chk2_ok v43 _ fun _ => hp))
  iapply (wp_scaleX c d 𝒱 0 e k hp.ls hp.le hp.lk8 rfl rfl hp.mS) $$ Ht
  iintro Ht
  iapply (WP_pure c 𝒱)
  iapply Hk $$ [] [Hc Ht]
  · ipureintro; rfl
  · isplitl [Hc] <;> iassumption

/-- The scales' copies of the chunk of slot 1. -/
theorem part2_ok (e k : ℕ) (v50 : Elt F .i32) (v73 : BitVec 32) (k0_hw3 : k0_chk3 v50 v73) (v75 : BitVec 32) (v77 : BitVec 32) (k0_h7 : k0_cond7 v73 = 1#1) (hp : PW (W (d.n e)) (nxtKW 0#32 v50) (Scalar.minsi v73 47#32) 1#32 (d.n e) e k 1)
    {Q : _ → sProp 𝕄} :
    iprop(cnt (F := F) c m0 d.n ∗ tokFree c d 1) ⊢ iprop((∀ r, ⌜r.1 = W (d.n e)⌝ -∗ iprop(cnt (F := F) c m0 d.n ∗ tokHalf c d 1 e k) -∗ Q r)
      -∗ WP c 𝒱 (k0_part2 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 v50 v73 k0_hw3 v75 v77 k0_h7) Q) := by
  unfold k0_part2
  iintro ⟨Hc, Ht⟩ Hk
  iapply (wp_cnt c 𝒱 e hp.oE) $$ Hc
  iintro Hc
  iapply (WP_assume c 𝒱 (chk4_ok v50 v73 _ fun _ => hp))
  iapply (wp_scaleX c d 𝒱 1 e k hp.ls hp.le hp.lk8 rfl rfl hp.mS) $$ Ht
  iintro Ht
  iapply (WP_pure c 𝒱)
  iapply Hk $$ [] [Hc Ht]
  · ipureintro; rfl
  · isplitl [Hc] <;> iassumption

/-- The scales' copies of the chunk of slot 2. -/
theorem part3_ok (e k : ℕ) (v50 : Elt F .i32) (v82 : Elt F .i32) (v105 : BitVec 32) (k0_hw5 : k0_chk5 v50 v82 v105) (v107 : BitVec 32) (v109 : BitVec 32) (k0_h13 : k0_cond13 v105 = 1#1) (hp : PW (W (d.n e)) (nxtKW (nxtKW 0#32 v50) v82) (Scalar.minsi v105 47#32) 2#32 (d.n e) e k 2)
    {Q : _ → sProp 𝕄} :
    iprop(cnt (F := F) c m0 d.n ∗ tokFree c d 2) ⊢ iprop((∀ r, ⌜r.1 = W (d.n e)⌝ -∗ iprop(cnt (F := F) c m0 d.n ∗ tokHalf c d 2 e k) -∗ Q r)
      -∗ WP c 𝒱 (k0_part3 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 v50 v82 v105 k0_hw5 v107 v109 k0_h13) Q) := by
  unfold k0_part3
  iintro ⟨Hc, Ht⟩ Hk
  iapply (wp_cnt c 𝒱 e hp.oE) $$ Hc
  iintro Hc
  iapply (WP_assume c 𝒱 (chk6_ok v50 v82 v105 _ fun _ => hp))
  iapply (wp_scaleX c d 𝒱 2 e k hp.ls hp.le hp.lk8 rfl rfl hp.mS) $$ Ht
  iintro Ht
  iapply (WP_pure c 𝒱)
  iapply Hk $$ [] [Hc Ht]
  · ipureintro; rfl
  · isplitl [Hc] <;> iassumption

/-- The scales' copies of the chunk of slot 3. -/
theorem part4_ok (e k : ℕ) (v50 : Elt F .i32) (v82 : Elt F .i32) (v114 : Elt F .i32) (v137 : BitVec 32) (k0_hw7 : k0_chk7 v50 v82 v114 v137) (v139 : BitVec 32) (v141 : BitVec 32) (k0_h19 : k0_cond19 v137 = 1#1) (hp : PW (W (d.n e)) (nxtKW (nxtKW (nxtKW 0#32 v50) v82) v114) (Scalar.minsi v137 47#32) 3#32 (d.n e) e k 3)
    {Q : _ → sProp 𝕄} :
    iprop(cnt (F := F) c m0 d.n ∗ tokFree c d 3) ⊢ iprop((∀ r, ⌜r.1 = W (d.n e)⌝ -∗ iprop(cnt (F := F) c m0 d.n ∗ tokHalf c d 3 e k) -∗ Q r)
      -∗ WP c 𝒱 (k0_part4 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 v50 v82 v114 v137 k0_hw7 v139 v141 k0_h19) Q) := by
  unfold k0_part4
  iintro ⟨Hc, Ht⟩ Hk
  iapply (wp_cnt c 𝒱 e hp.oE) $$ Hc
  iintro Hc
  iapply (WP_assume c 𝒱 (chk8_ok v50 v82 v114 v137 _ fun _ => hp))
  iapply (wp_scaleX c d 𝒱 3 e k hp.ls hp.le hp.lk8 rfl rfl hp.mS) $$ Ht
  iintro Ht
  iapply (WP_pure c 𝒱)
  iapply Hk $$ [] [Hc Ht]
  · ipureintro; rfl
  · isplitl [Hc] <;> iassumption

/-- The scales' copies of the chunk of slot 4. -/
theorem part5_ok (e k : ℕ) (v50 : Elt F .i32) (v82 : Elt F .i32) (v114 : Elt F .i32) (v146 : Elt F .i32) (v169 : BitVec 32) (k0_hw9 : k0_chk9 v50 v82 v114 v146 v169) (v171 : BitVec 32) (v173 : BitVec 32) (k0_h25 : k0_cond25 v169 = 1#1) (hp : PW (W (d.n e)) (nxtKW (nxtKW (nxtKW (nxtKW 0#32 v50) v82) v114) v146) (Scalar.minsi v169 47#32) 4#32 (d.n e) e k 4)
    {Q : _ → sProp 𝕄} :
    iprop(cnt (F := F) c m0 d.n ∗ tokFree c d 4) ⊢ iprop((∀ r, ⌜r.1 = W (d.n e)⌝ -∗ iprop(cnt (F := F) c m0 d.n ∗ tokHalf c d 4 e k) -∗ Q r)
      -∗ WP c 𝒱 (k0_part5 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 v50 v82 v114 v146 v169 k0_hw9 v171 v173 k0_h25) Q) := by
  unfold k0_part5
  iintro ⟨Hc, Ht⟩ Hk
  iapply (wp_cnt c 𝒱 e hp.oE) $$ Hc
  iintro Hc
  iapply (WP_assume c 𝒱 (chk10_ok v50 v82 v114 v146 v169 _ fun _ => hp))
  iapply (wp_scaleX c d 𝒱 4 e k hp.ls hp.le hp.lk8 rfl rfl hp.mS) $$ Ht
  iintro Ht
  iapply (WP_pure c 𝒱)
  iapply Hk $$ [] [Hc Ht]
  · ipureintro; rfl
  · isplitl [Hc] <;> iassumption

end Cert.KernelIdeal.Hand
-- ==== Proof.Prep.lean ====
/-

  The scaled chunk: eight blocks of a hundred and twenty-eight tokens, each multiplied by its scales into the two
  scratch arrays, and the odd block after the last set to zero.

-/
module

public import proofs.«01_k».proof.Proof.Control
public import proofs.«01_k».proof.Proof.Wait

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

theorem m8 (e : ℕ) : e % 8 < 8 := Nat.mod_lt _ (by decide)

/-- The scaled tokens of chunk `k` of expert `e`: zero from the last block on. -/
def XP (e k : ℕ) : FVec F S1024x896 .bf16 := fun i =>
  if (i 0).val / 128 < nb (d.n e) k then
    FloatOps.mulf (FloatOps.extf (φ := .fp8e4m3) .bf16 (by decide) (XV c d e k (ix3 (0 : Fin 5) (i 0) (i 1) : S5x1024x896.Idx)))
      (FloatOps.truncf (φ := .f32) .bf16 (by decide) (SXV c d e k (ix3 (0 : Fin 5) ⟨(i 0).val / 128 % 8, m8 _⟩ (i 1) : S5x8x896.Idx)))
  else FloatOps.ofBits .bf16 0#16
/-- The scaled output gradients of chunk `k` of expert `e`: zero from the expert's last token on. -/
def DP (e k : ℕ) : FVec F S960x1024 .bf16 := fun i =>
  if (i 1).val / 128 < nb (d.n e) k ∧ k * 1024 + (i 1).val < d.n e then
    FloatOps.mulf (FloatOps.extf (φ := .fp8e5m2) .bf16 (by decide) (DYV c d e k (ix3 (0 : Fin 5) (i 0) (i 1) : S5x960x1024.Idx)))
      (FloatOps.truncf (φ := .f32) .bf16 (by decide) (SYV c d e k (ix3 (0 : Fin 5) ⟨(i 1).val / 128 % 8, m8 _⟩ (i 0) : S5x8x960.Idx)))
  else FloatOps.ofBits .bf16 0#16

/-- The first `D` blocks are as they should be. -/
def prepSt (e k D : ℕ) : sProp 𝕄 :=
  iprop(∃ fx : BufOf (F := F) c bXS, ∃ fd : BufOf (F := F) c bDS,
    ⌜(∀ i : S1024x896.Idx, (i 0).val < 128 * D → fx i = XP c d e k i) ∧ (∀ i : S960x1024.Idx, (i 1).val < 128 * D → fd i = DP c d e k i)⌝
      ∗ pt c bXS Finset.univ fx ∗ pt c bDS Finset.univ fd)

/-! ## A block stored -/

theorem st_bXS (b : ℕ) {off : Fin 2 → ℕ} (inb : ∀ a, off a + S128x896.size a ≤ S1024x896.size a) (ho : off = ![128 * b, 0])
    (f : BufOf (F := F) c bXS) (w : S128x896.Idx → Elt F .bf16) (i : S1024x896.Idx) :
    ((bXS.access (Rect.unit (s := S1024x896) off S128x896.size inb)).write (Elt F) f w Finset.univ : BufOf (F := F) c bXS) i
      = if (i 0).val / 128 = b then w (ix2 ⟨(i 0).val % 128, Nat.mod_lt _ (by decide)⟩ (i 1)) else f i := by
  subst ho
  split
  · next h =>
    have hi : i = (bXS.access (Rect.unit (s := S1024x896) ![128 * b, 0] S128x896.size inb)).emb
        (ix2 (⟨(i 0).val % 128, Nat.mod_lt _ (by decide)⟩ : Fin 128) (i 1) : S128x896.Idx) := by
      funext a
      apply Fin.ext
      refine Eq.trans ?_ (ValueKit.rect_emb_unit_val (s := S1024x896) ![128 * b, 0] S128x896.size inb _ a).symm
      match a with
      | ⟨0, _⟩ => show (i 0).val = 128 * b + (i 0).val % 128
                  omega
      | ⟨1, _⟩ => show (i 1).val = 0 + (i 1).val
                  omega
    conv_lhs => rw [hi]
    exact (View.write_emb_of_mem _ _ (Finset.mem_univ _)).trans (cast_eq _ _)
  · next h =>
    refine View.write_of_not_mem _ _ _ fun hm => h ?_
    obtain ⟨j, -, rfl⟩ := Finset.mem_map.mp hm
    have h0 := ValueKit.rect_emb_unit_val (s := S1024x896) ![128 * b, 0] S128x896.size inb j 0
    have hj : (j 0).val < 128 := (j 0).isLt
    have h0' : (((bXS.access (Rect.unit (s := S1024x896) ![128 * b, 0] S128x896.size inb)).emb j : S1024x896.Idx) 0).val = 128 * b + (j 0).val := h0
    rw [h0']; omega

theorem st_bDS (b : ℕ) {off : Fin 2 → ℕ} (inb : ∀ a, off a + S960x128.size a ≤ S960x1024.size a) (ho : off = ![0, 128 * b])
    (f : BufOf (F := F) c bDS) (w : S960x128.Idx → Elt F .bf16) (i : S960x1024.Idx) :
    ((bDS.access (Rect.unit (s := S960x1024) off S960x128.size inb)).write (Elt F) f w Finset.univ : BufOf (F := F) c bDS) i
      = if (i 1).val / 128 = b then w (ix2 (i 0) ⟨(i 1).val % 128, Nat.mod_lt _ (by decide)⟩) else f i := by
  subst ho
  split
  · next h =>
    have hi : i = (bDS.access (Rect.unit (s := S960x1024) ![0, 128 * b] S960x128.size inb)).emb
        (ix2 (i 0) (⟨(i 1).val % 128, Nat.mod_lt _ (by decide)⟩ : Fin 128) : S960x128.Idx) := by
      funext a
      apply Fin.ext
      refine Eq.trans ?_ (ValueKit.rect_emb_unit_val (s := S960x1024) ![0, 128 * b] S960x128.size inb _ a).symm
      match a with
      | ⟨0, _⟩ => show (i 0).val = 0 + (i 0).val
                  omega
      | ⟨1, _⟩ => show (i 1).val = 128 * b + (i 1).val % 128
                  omega
    conv_lhs => rw [hi]
    exact (View.write_emb_of_mem _ _ (Finset.mem_univ _)).trans (cast_eq _ _)
  · next h =>
    refine View.write_of_not_mem _ _ _ fun hm => h ?_
    obtain ⟨j, -, rfl⟩ := Finset.mem_map.mp hm
    have h0 := ValueKit.rect_emb_unit_val (s := S960x1024) ![0, 128 * b] S960x128.size inb j 1
    have hj : (j 1).val < 128 := (j 1).isLt
    have h0' : (((bDS.access (Rect.unit (s := S960x1024) ![0, 128 * b] S960x128.size inb)).emb j : S960x1024.Idx) 1).val = 128 * b + (j 1).val := h0
    rw [h0']; omega

/-! ## A block loaded -/

theorem ld_bX (s b : ℕ) (hs : s < 5) (hb : b < 8) {off : Fin 3 → ℕ} (inb : ∀ a, off a + S1x128x896.size a ≤ S5x1024x896.size a) (ho : off = ![s, 128 * b, 0])
    (f : BufOf (F := F) c bX) (j : S1x128x896.Idx) (r : Fin 1024) (hr : r.val = 128 * b + (j 1).val) :
    bX.view.readAt (Elt F) (Rect.unit (s := S5x1024x896) off S1x128x896.size inb).toLoadRect f j
      = (f (ix3 (⟨s, hs⟩ : Fin 5) r (j 2) : S5x1024x896.Idx) : Elt F .fp8e4m3) := by
  subst ho
  refine (View.readAt_apply ..).trans ((View.read_apply _ _).trans ((cast_eq _ _).trans (congrArg f ?_)))
  funext a
  apply Fin.ext
  refine Eq.trans (ValueKit.rect_emb_unit_val (s := S5x1024x896) ![s, 128 * b, 0] S1x128x896.size inb j a) ?_
  match a with
  | ⟨0, _⟩ => have : (j 0).val < 1 := (j 0).isLt
              show s + (j 0).val = s
              omega
  | ⟨1, _⟩ => exact hr.symm
  | ⟨2, _⟩ => show 0 + (j 2).val = (j 2).val
              omega
theorem ld_bDY (s b : ℕ) (hs : s < 5) (hb : b < 8) {off : Fin 3 → ℕ} (inb : ∀ a, off a + S1x960x128.size a ≤ S5x960x1024.size a) (ho : off = ![s, 0, 128 * b])
    (f : BufOf (F := F) c bDY) (j : S1x960x128.Idx) (r : Fin 1024) (hr : r.val = 128 * b + (j 2).val) :
    bDY.view.readAt (Elt F) (Rect.unit (s := S5x960x1024) off S1x960x128.size inb).toLoadRect f j
      = (f (ix3 (⟨s, hs⟩ : Fin 5) (j 1) r : S5x960x1024.Idx) : Elt F .fp8e5m2) := by
  subst ho
  refine (View.readAt_apply ..).trans ((View.read_apply _ _).trans ((cast_eq _ _).trans (congrArg f ?_)))
  funext a
  apply Fin.ext
  refine Eq.trans (ValueKit.rect_emb_unit_val (s := S5x960x1024) ![s, 0, 128 * b] S1x960x128.size inb j a) ?_
  match a with
  | ⟨0, _⟩ => have : (j 0).val < 1 := (j 0).isLt
              show s + (j 0).val = s
              omega
  | ⟨1, _⟩ => show 0 + (j 1).val = (j 1).val
              omega
  | ⟨2, _⟩ => exact hr.symm
theorem sub_bX (s b n : ℕ) (hb : b < n) {off : Fin 3 → ℕ} (inb : ∀ a, off a + S1x128x896.size a ≤ S5x1024x896.size a) (ho : off = ![s, 128 * b, 0]) :
    bX.view.setOn (Rect.unit (s := S5x1024x896) off S1x128x896.size inb).toLoadRect.set ⊆ wX s 0 (128 * n) := by
  subst ho
  intro i hi
  obtain ⟨j, hj, rfl⟩ := Finset.mem_map.mp hi
  obtain ⟨x, rfl⟩ := LoadRect.exists_idx_of_mem _ hj
  have e0 : ((Rect.unit (s := S5x1024x896) ![s, 128 * b, 0] S1x128x896.size inb).emb x 0).val = s + (x 0).val := ValueKit.rect_emb_unit_val _ _ _ _ _
  have e1 : ((Rect.unit (s := S5x1024x896) ![s, 128 * b, 0] S1x128x896.size inb).emb x 1).val = 128 * b + (x 1).val := ValueKit.rect_emb_unit_val _ _ _ _ _
  have h0 : (x 0).val < 1 := (x 0).isLt
  have h1 : (x 1).val < 128 := (x 1).isLt
  refine Finset.mem_filter.mpr ⟨Finset.mem_univ _, ?_, ?_, ?_⟩
  · exact e0.trans (by omega)
  · exact Nat.zero_le _
  · exact lt_of_eq_of_lt e1 (by omega)
theorem sub_bDY (s b n : ℕ) (hb : b < n) {off : Fin 3 → ℕ} (inb : ∀ a, off a + S1x960x128.size a ≤ S5x960x1024.size a) (ho : off = ![s, 0, 128 * b]) :
    bDY.view.setOn (Rect.unit (s := S5x960x1024) off S1x960x128.size inb).toLoadRect.set ⊆ wDY s 0 (128 * n) := by
  subst ho
  intro i hi
  obtain ⟨j, hj, rfl⟩ := Finset.mem_map.mp hi
  obtain ⟨x, rfl⟩ := LoadRect.exists_idx_of_mem _ hj
  have e0 : ((Rect.unit (s := S5x960x1024) ![s, 0, 128 * b] S1x960x128.size inb).emb x 0).val = s + (x 0).val := ValueKit.rect_emb_unit_val _ _ _ _ _
  have e1 : ((Rect.unit (s := S5x960x1024) ![s, 0, 128 * b] S1x960x128.size inb).emb x 2).val = 128 * b + (x 2).val := ValueKit.rect_emb_unit_val _ _ _ _ _
  have h0 : (x 0).val < 1 := (x 0).isLt
  have h1 : (x 2).val < 128 := (x 2).isLt
  refine Finset.mem_filter.mpr ⟨Finset.mem_univ _, ?_, ?_, ?_⟩
  · exact e0.trans (by omega)
  · exact Nat.zero_le _
  · exact lt_of_eq_of_lt e1 (by omega)

/-! ## A block's values -/

theorem x_val (e k s b : ℕ) (hs : s < 5) (hb : b < 8) (hbn : b < nb (d.n e) k) (v429 : FVec F S8x896 .bf16)
    (h429 : ∀ i : S8x896.Idx, v429 i = FloatOps.truncf (φ := .f32) .bf16 (by decide) (SXV c d e k (ix3 (0 : Fin 5) (i 0) (i 1) : S5x8x896.Idx)))
    {off : Fin 3 → ℕ} (inb : ∀ a, off a + S1x128x896.size a ≤ S5x1024x896.size a) (ho : off = ![s, 128 * b, 0])
    {h1 : S1x128x896.ShapeCasts S128x896} {h2 : FTy.bits .fp8e4m3 < FTy.bits .bf16} {h3 : S8x896.Slices ![b, 0] S1x896} {h4 : S1x896.Broadcasts S128x896}
    {h5 : S128x896.ShapeCasts S128x896} (i : S1024x896.Idx) (hi : (i 0).val / 128 = b) :
    shapeCast S128x896 (mulf (extf .bf16 (shapeCast S128x896 (bX.view.readAt (Elt F) (Rect.unit (s := S5x1024x896) off S1x128x896.size inb).toLoadRect
        (XV c d e k)) h1 : FVec F S128x896 .fp8e4m3) h2)
      (broadcastTo S128x896 (extractStridedSlice S1x896 ![b, 0] v429 h3) h4 : FVec F S128x896 .bf16)) h5
        (ix2 (⟨(i 0).val % 128, Nat.mod_lt _ (by decide)⟩ : Fin 128) (i 1)) = XP c d e k i := by
  have hi1 : (i 1).val < 896 := (i 1).isLt
  rw [shapeCast_self]
  unfold XP
  rw [if_pos (by omega)]
  refine congrArg₂ FloatOps.mulf (congrArg (FloatOps.extf .bf16 _) ?_) ?_
  · refine (shapeCast_1ab_ab_apply _ h1 _ _).trans ?_
    refine (ld_bX c s b hs hb inb ho _ _ (i 0) ?_).trans ?_
    · show (i 0).val = 128 * b + (i 0).val % 128
      omega
    · rfl
  · refine (broadcastTo_1b_ab_apply _ h4 _ _).trans ?_
    refine (extractStridedSlice_apply _ _ h3 _ (ix2 (⟨b, hb⟩ : Fin 8) (i 1)) ?_).trans ?_
    · intro a
      match a with
      | ⟨0, _⟩ => rfl
      | ⟨1, _⟩ => show (i 1).val = 0 + (i 1).val
                  omega
    · refine (h429 _).trans (congrArg (FloatOps.truncf .bf16 _) (congrArg (SXV c d e k) ?_))
      funext a
      match a with
      | ⟨0, _⟩ => rfl
      | ⟨1, _⟩ => exact Fin.ext (by show b = (i 0).val / 128 % 8; omega)
      | ⟨2, _⟩ => rfl

theorem mask_iff (n k r : ℕ) (hn : n ≤ 8192) (hk : k < 8) (b j : ℕ) (hb : b < 8) (hj : j < 128) {mw : BitVec 32} (hmw : mw = W (k * 1024 + 128 * b)) :
    IntOp.cmpi .slt (IntOp.addi mw (BitVec.ofNat 32 j)) (W n) = 1#1 ↔ k * 1024 + 128 * b + j < n := by
  subst hmw
  have : IntOp.addi (W (k * 1024 + 128 * b)) (BitVec.ofNat 32 j) = W (k * 1024 + 128 * b + j) := addW (by omega)
  rw [this]
  have h2 : IntOp.cmpi .slt (W (k * 1024 + 128 * b + j)) (W n) = BitVec.ofBool (decide (k * 1024 + 128 * b + j < n)) := sltW (by omega) (by omega)
  rw [h2, one_iff, decide_eq_true_iff]

theorem dy_val (e k s b : ℕ) (hs : s < 5) (hb : b < 8) (hbn : b < nb (d.n e) k) (hk : k < 8) (v434 : FVec F S960x8 .bf16)
    (h434 : ∀ i : S960x8.Idx, v434 i = FloatOps.truncf (φ := .f32) .bf16 (by decide) (SYV c d e k (ix3 (0 : Fin 5) (i 1) (i 0) : S5x8x960.Idx)))
    (v435 : IVec S1x128 32) (h435 : ∀ i : S1x128.Idx, v435 i = BitVec.ofNat 32 (i 1).val)
    {off : Fin 3 → ℕ} (inb : ∀ a, off a + S1x960x128.size a ≤ S5x960x1024.size a) (ho : off = ![s, 0, 128 * b]) {mw : BitVec 32} (hmw : mw = W (k * 1024 + 128 * b))
    {h1 : S1x960x128.ShapeCasts S960x128} {h2 : FTy.bits .fp8e5m2 < FTy.bits .bf16} {h3 : S960x8.Slices ![0, b] S960x1} {h4 : S960x1.Broadcasts S960x128}
    {h5 : S960x128.ShapeCasts S960x128} {h6 : S960x1.ShapeCasts S960x1} {h7 : S1x128.ShapeCasts S1x128} {h8 : S1x128.Broadcasts S960x128}
    (i : S960x1024.Idx) (hi : (i 1).val / 128 = b) :
    shapeCast S960x128 (select (broadcastTo S960x128 (shapeCast S1x128 (cmpi .slt (addi (broadcast S1x128 mw) v435) (broadcast S1x128 (W (d.n e)))) h7) h8)
      (mulf (extf .bf16 (shapeCast S960x128 (bDY.view.readAt (Elt F) (Rect.unit (s := S5x960x1024) off S1x960x128.size inb).toLoadRect
        (DYV c d e k)) h1 : FVec F S960x128 .fp8e5m2) h2)
      (broadcastTo S960x128 (shapeCast S960x1 (extractStridedSlice S960x1 ![0, b] v434 h3) h6) h4 : FVec F S960x128 .bf16))
      (broadcast S960x128 (Scalar.ofBits .bf16 0x0000#16 : F .bf16))) h5
        (ix2 (i 0) (⟨(i 1).val % 128, Nat.mod_lt _ (by decide)⟩ : Fin 128)) = DP c d e k i := by
  have hi0 : (i 0).val < 960 := (i 0).isLt
  have hn := d.hn e
  rw [shapeCast_self, shapeCast_self, shapeCast_self]
  unfold DP
  have hm : (broadcastTo S960x128 (cmpi .slt (addi (broadcast S1x128 mw) v435) (broadcast S1x128 (W (d.n e)))) h8)
      (ix2 (i 0) (⟨(i 1).val % 128, Nat.mod_lt _ (by decide)⟩ : Fin 128)) = 1#1 ↔ k * 1024 + (i 1).val < d.n e := by
    refine (iff_of_eq (congrArg (· = 1#1) (broadcastTo_1b_ab_apply (a := 960) (b := 128) _ h8 (i 0) (⟨(i 1).val % 128, Nat.mod_lt _ (by decide)⟩ : Fin 128)))).trans ?_
    show IntOp.cmpi .slt (IntOp.addi mw (v435 (ix2 (0 : Fin 1) (⟨(i 1).val % 128, Nat.mod_lt _ (by decide)⟩ : Fin 128)))) (W (d.n e)) = 1#1 ↔ _
    rw [h435]
    refine (mask_iff (d.n e) k 0 hn hk b ((i 1).val % 128) hb (Nat.mod_lt _ (by decide)) hmw).trans ?_
    have : k * 1024 + 128 * b + (i 1).val % 128 = k * 1024 + (i 1).val := by omega
    rw [this]
  show Scalar.select _ _ _ = _
  unfold Scalar.select
  by_cases hc : k * 1024 + (i 1).val < d.n e
  · refine (if_pos (hm.2 hc)).trans ?_
    rw [if_pos ⟨by omega, hc⟩]
    refine congrArg₂ FloatOps.mulf (congrArg (FloatOps.extf .bf16 _) ?_) ?_
    · refine (shapeCast_1ab_ab_apply _ h1 _ _).trans ?_
      refine (ld_bDY c s b hs hb inb ho _ _ (i 1) ?_).trans ?_
      · show (i 1).val = 128 * b + (i 1).val % 128
        omega
      · rfl
    · refine (broadcastTo_apply _ h4 _ (ix2 (i 0) (0 : Fin 1)) ?_).trans ?_
      · intro a
        match a with
        | ⟨0, _⟩ => rfl
        | ⟨1, _⟩ => rfl
      refine (extractStridedSlice_apply _ _ h3 _ (ix2 (i 0) (⟨b, hb⟩ : Fin 8)) ?_).trans ?_
      · intro a
        match a with
        | ⟨0, _⟩ => show (i 0).val = 0 + (i 0).val
                    omega
        | ⟨1, _⟩ => rfl
      · refine (h434 _).trans (congrArg (FloatOps.truncf .bf16 _) (congrArg (SYV c d e k) ?_))
        funext a
        match a with
        | ⟨0, _⟩ => rfl
        | ⟨1, _⟩ => exact Fin.ext (by show b = (i 1).val / 128 % 8; omega)
        | ⟨2, _⟩ => rfl
  · refine (if_neg (fun h => hc (hm.1 h))).trans ?_
    rw [if_neg (fun h => hc h.2)]
    rfl

/-! ## The steps -/

/-- The landed tokens of a slot, which a block reads. -/
def landed (s e k : ℕ) : sProp 𝕄 :=
  iprop(pt c bX (wX s 0 (128 * nb (d.n e) k)) (XV c d e k) ∗ pt c bDY (wDY s 0 (128 * nb (d.n e) k)) (DYV c d e k))

theorem prep_step {e k b D : ℕ} {fx : BufOf (F := F) c bXS} {fd : BufOf (F := F) c bDS} (hD : D = b)
    (hf : (∀ i : S1024x896.Idx, (i 0).val < 128 * D → fx i = XP c d e k i) ∧ (∀ i : S960x1024.Idx, (i 1).val < 128 * D → fd i = DP c d e k i))
    {wx : S128x896.Idx → Elt F .bf16} {wd : S960x128.Idx → Elt F .bf16}
    {offx offd : Fin 2 → ℕ} (inbx : ∀ a, offx a + S128x896.size a ≤ S1024x896.size a) (hox : offx = ![128 * b, 0])
    (inbd : ∀ a, offd a + S960x128.size a ≤ S960x1024.size a) (hod : offd = ![0, 128 * b])
    (hx : ∀ i : S1024x896.Idx, (i 0).val / 128 = b → wx (ix2 ⟨(i 0).val % 128, Nat.mod_lt _ (by decide)⟩ (i 1)) = XP c d e k i)
    (hd : ∀ i : S960x1024.Idx, (i 1).val / 128 = b → wd (ix2 (i 0) ⟨(i 1).val % 128, Nat.mod_lt _ (by decide)⟩) = DP c d e k i) :
    (∀ i : S1024x896.Idx, (i 0).val < 128 * (b + 1) →
      ((bXS.access (Rect.unit (s := S1024x896) offx S128x896.size inbx)).write (Elt F) fx wx Finset.univ : BufOf (F := F) c bXS) i = XP c d e k i)
    ∧ (∀ i : S960x1024.Idx, (i 1).val < 128 * (b + 1) →
      ((bDS.access (Rect.unit (s := S960x1024) offd S960x128.size inbd)).write (Elt F) fd wd Finset.univ : BufOf (F := F) c bDS) i = DP c d e k i) := by
  subst hD
  constructor
  · intro i hi
    rw [st_bXS c D inbx hox]
    split
    · next h => exact hx i h
    · next h => exact hf.1 i (by omega)
  · intro i hi
    rw [st_bDS c D inbd hod]
    split
    · next h => exact hd i h
    · next h => exact hf.2 i (by omega)

theorem prep_intro {e k b D : ℕ} {fx : BufOf (F := F) c bXS} {fd : BufOf (F := F) c bDS} (hD : D = b)
    (hf : (∀ i : S1024x896.Idx, (i 0).val < 128 * D → fx i = XP c d e k i) ∧ (∀ i : S960x1024.Idx, (i 1).val < 128 * D → fd i = DP c d e k i))
    {wx : S128x896.Idx → Elt F .bf16} {wd : S960x128.Idx → Elt F .bf16}
    {offx offd : Fin 2 → ℕ} (inbx : ∀ a, offx a + S128x896.size a ≤ S1024x896.size a) (hox : offx = ![128 * b, 0])
    (inbd : ∀ a, offd a + S960x128.size a ≤ S960x1024.size a) (hod : offd = ![0, 128 * b])
    (hx : ∀ i : S1024x896.Idx, (i 0).val / 128 = b → wx (ix2 ⟨(i 0).val % 128, Nat.mod_lt _ (by decide)⟩ (i 1)) = XP c d e k i)
    (hd : ∀ i : S960x1024.Idx, (i 1).val / 128 = b → wd (ix2 (i 0) ⟨(i 1).val % 128, Nat.mod_lt _ (by decide)⟩) = DP c d e k i) :
    iprop(pt c bXS Finset.univ ((bXS.access (Rect.unit (s := S1024x896) offx S128x896.size inbx)).write (Elt F) fx wx Finset.univ : BufOf (F := F) c bXS)
      ∗ pt c bDS Finset.univ ((bDS.access (Rect.unit (s := S960x1024) offd S960x128.size inbd)).write (Elt F) fd wd Finset.univ : BufOf (F := F) c bDS))
      ⊢ prepSt c d e k (b + 1) := by
  unfold prepSt
  iintro ⟨Hx, Hd⟩
  iexists ((bXS.access (Rect.unit (s := S1024x896) offx S128x896.size inbx)).write (Elt F) fx wx Finset.univ : BufOf (F := F) c bXS)
  iexists ((bDS.access (Rect.unit (s := S960x1024) offd S960x128.size inbd)).write (Elt F) fd wd Finset.univ : BufOf (F := F) c bDS)
  isplitr
  · ipureintro
    exact prep_step c d hD hf inbx hox inbd hod hx hd
  · isplitl [Hx] <;> iassumption

theorem wp_prepMul {α : Type} {Q : α → sProp 𝕄} (e k s b D : ℕ) (hs : s < 5) (hb : b < 8) (hk : k < 8) (hD : b < nb (d.n e) k → D = b)
    (v429 : FVec F S8x896 .bf16)
    (h429 : ∀ i : S8x896.Idx, v429 i = FloatOps.truncf (φ := .f32) .bf16 (by decide) (SXV c d e k (ix3 (0 : Fin 5) (i 0) (i 1) : S5x8x896.Idx)))
    (v434 : FVec F S960x8 .bf16)
    (h434 : ∀ i : S960x8.Idx, v434 i = FloatOps.truncf (φ := .f32) .bf16 (by decide) (SYV c d e k (ix3 (0 : Fin 5) (i 1) (i 0) : S5x8x960.Idx)))
    (v435 : IVec S1x128 32) (h435 : ∀ i : S1x128.Idx, v435 i = BitVec.ofNat 32 (i 1).val)
    {cnd : BitVec 1} (hc : cnd = 1#1 ↔ b < nb (d.n e) k) {ox oy : Fin 3 → ℕ}
    {ix : cnd = 1#1 → ∀ a, ox a + S1x128x896.size a ≤ S5x1024x896.size a} {iy : cnd = 1#1 → ∀ a, oy a + S1x960x128.size a ≤ S5x960x1024.size a}
    (hox : ox = ![s, 128 * b, 0]) (hoy : oy = ![s, 0, 128 * b]) {mw nw : BitVec 32} (hmw : mw = W (k * 1024 + 128 * b)) (hnw : nw = W (d.n e))
    {px pd : Fin 2 → ℕ} {inbx : ∀ a, px a + S128x896.size a ≤ S1024x896.size a} {inbd : ∀ a, pd a + S960x128.size a ≤ S960x1024.size a}
    (hpx : px = ![128 * b, 0]) (hpd : pd = ![0, 128 * b])
    {l1 : ∀ h, bX.view.LoadsAt (Rect.unit (s := S5x1024x896) ox S1x128x896.size (ix h)).toLoadRect}
    {l2 : bXS.view.LoadsAt (Rect.unit (s := S1024x896) px S128x896.size inbx).toLoadRect}
    {l3 : ∀ h, bDY.view.LoadsAt (Rect.unit (s := S5x960x1024) oy S1x960x128.size (iy h)).toLoadRect}
    {l4 : bDS.view.LoadsAt (Rect.unit (s := S960x1024) pd S960x128.size inbd).toLoadRect}
    {s1 : (bXS.access (Rect.unit (s := S1024x896) px S128x896.size inbx)).Stores Finset.univ} {s1'}
    {s2 : (bDS.access (Rect.unit (s := S960x1024) pd S960x128.size inbd)).Stores Finset.univ} {s2'}
    {h1 : S1x960x128.ShapeCasts S960x128} {h2 : FTy.bits .fp8e5m2 < FTy.bits .bf16} {h3 : S960x8.Slices ![0, b] S960x1} {h4 : S960x1.Broadcasts S960x128}
    {h5 : S960x128.ShapeCasts S960x128} {h6 : S960x1.ShapeCasts S960x1} {h7 : S1x128.ShapeCasts S1x128} {h8 : S1x128.Broadcasts S960x128}
    {g1 : S1x128x896.ShapeCasts S128x896} {g2 : FTy.bits .fp8e4m3 < FTy.bits .bf16} {g3 : S8x896.Slices ![b, 0] S1x896} {g4 : S1x896.Broadcasts S128x896}
    {g5 : S128x896.ShapeCasts S128x896}
    {J : PT F α} :
    iprop(prepSt c d e k D ∗ landed c d s e k) ⊢ iprop((prepSt c d e k (if b < nb (d.n e) k then b + 1 else D) ∗ landed c d s e k -∗ WP c 𝒱 J Q)
      -∗ WP c 𝒱 (if h : cnd = 1#1 then
          (Prog.lift (.load bX (Rect.unit (s := S5x1024x896) ox S1x128x896.size (ix h)).toLoadRect (l1 h)) >>= fun v535 =>
           Prog.lift (.load bXS (Rect.unit (s := S1024x896) px S128x896.size inbx).toLoadRect l2) >>= fun _ =>
           Prog.lift (.store bXS (Rect.unit (s := S1024x896) px S128x896.size inbx)
            (shapeCast S128x896 (mulf (extf .bf16 (shapeCast S128x896 v535 g1 : FVec F S128x896 .fp8e4m3) g2)
              (broadcastTo S128x896 (extractStridedSlice S1x896 ![b, 0] v429 g3) g4 : FVec F S128x896 .bf16)) g5) Finset.univ s1 s1') >>= fun _ =>
           Prog.lift (.load bDY (Rect.unit (s := S5x960x1024) oy S1x960x128.size (iy h)).toLoadRect (l3 h)) >>= fun v548 =>
           Prog.lift (.load bDS (Rect.unit (s := S960x1024) pd S960x128.size inbd).toLoadRect l4) >>= fun _ =>
           Prog.lift (.store bDS (Rect.unit (s := S960x1024) pd S960x128.size inbd)
            (shapeCast S960x128 (select (broadcastTo S960x128 (shapeCast S1x128 (cmpi .slt (addi (broadcast S1x128 mw) v435) (broadcast S1x128 nw)) h7) h8)
              (mulf (extf .bf16 (shapeCast S960x128 v548 h1 : FVec F S960x128 .fp8e5m2) h2)
              (broadcastTo S960x128 (shapeCast S960x1 (extractStridedSlice S960x1 ![0, b] v434 h3) h6) h4 : FVec F S960x128 .bf16))
              (broadcast S960x128 (Scalar.ofBits .bf16 0x0000#16 : F .bf16))) h5) Finset.univ s2 s2') >>= fun _ => J)
        else J) Q) := by
  subst hnw
  by_cases h : cnd = 1#1
  · rw [dif_pos h]
    have hbn := hc.1 h
    rw [if_pos hbn]
    unfold prepSt landed
    iintro ⟨⟨%fx, %fd, %hf, Hx, Hd⟩, HX, HY⟩ K
    iapply (wp_load 𝒱 (c : Thread nD τ) none Set.univ (m := bX) (S := wX s 0 (128 * nb (d.n e) k)) (f := XV c d e k) (sub_bX s b _ hbn (ix h) hox)) $$ HX
    iintro HX
    iapply (wp_load 𝒱 (c : Thread nD τ) none Set.univ (m := bXS) (S := Finset.univ) (f := fx) (Finset.subset_univ _)) $$ Hx
    iintro Hx
    iapply (wp_store 𝒱 (c : Thread nD τ) none Set.univ (m := bXS) (r := Rect.unit (s := S1024x896) px S128x896.size inbx) (S := Finset.univ) (f := fx) (Finset.subset_univ _)) $$ Hx
    iintro Hx
    iapply (wp_load 𝒱 (c : Thread nD τ) none Set.univ (m := bDY) (S := wDY s 0 (128 * nb (d.n e) k)) (f := DYV c d e k) (sub_bDY s b _ hbn (iy h) hoy)) $$ HY
    iintro HY
    iapply (wp_load 𝒱 (c : Thread nD τ) none Set.univ (m := bDS) (S := Finset.univ) (f := fd) (Finset.subset_univ _)) $$ Hd
    iintro Hd
    iapply (wp_store 𝒱 (c : Thread nD τ) none Set.univ (m := bDS) (r := Rect.unit (s := S960x1024) pd S960x128.size inbd) (S := Finset.univ) (f := fd) (Finset.subset_univ _)) $$ Hd
    iintro Hd
    iapply K
    isplitl [Hx Hd]
    · have hpi := prep_intro c d (hD hbn) hf inbx hpx inbd hpd
        (fun i hi => x_val c d e k s b hs hb hbn v429 h429 (ix h) hox (h1 := g1) (h2 := g2) (h3 := g3) (h4 := g4) (h5 := g5) i hi)
        (fun i hi => dy_val c d e k s b hs hb hbn hk v434 h434 v435 h435 (iy h) hoy hmw (h1 := h1) (h2 := h2) (h3 := h3) (h4 := h4) (h5 := h5) (h6 := h6) (h7 := h7) (h8 := h8) i hi)
      unfold prepSt at hpi
      iapply hpi
      isplitl [Hx] <;> iassumption
    · isplitl [HX] <;> iassumption
  · rw [dif_neg h, if_neg (fun hh => h (hc.2 hh))]
    iintro H K
    iapply K
    iexact H

theorem wp_prepZero {α : Type} {Q : α → sProp 𝕄} (e k b D : ℕ) (hb : b < 8) (hD : nb (d.n e) k = b ∧ b % 2 = 1 → D = b)
    {cnd : BitVec 1} (hc : cnd = 1#1 ↔ nb (d.n e) k = b ∧ b % 2 = 1)
    {px pd : Fin 2 → ℕ} {inbx : ∀ a, px a + S128x896.size a ≤ S1024x896.size a} {inbd : ∀ a, pd a + S960x128.size a ≤ S960x1024.size a}
    (hpx : px = ![128 * b, 0]) (hpd : pd = ![0, 128 * b])
    {l2 : bXS.view.LoadsAt (Rect.unit (s := S1024x896) px S128x896.size inbx).toLoadRect}
    {l4 : bDS.view.LoadsAt (Rect.unit (s := S960x1024) pd S960x128.size inbd).toLoadRect}
    {s1 : (bXS.access (Rect.unit (s := S1024x896) px S128x896.size inbx)).Stores Finset.univ} {s1'}
    {s2 : (bDS.access (Rect.unit (s := S960x1024) pd S960x128.size inbd)).Stores Finset.univ} {s2'}
    {h5 : S960x128.ShapeCasts S960x128} {g5 : S128x896.ShapeCasts S128x896}
    {J : PT F α} :
    prepSt c d e k D ⊢ iprop((prepSt c d e k (if nb (d.n e) k = b ∧ b % 2 = 1 then b + 1 else D) -∗ WP c 𝒱 J Q)
      -∗ WP c 𝒱 (if cnd = 1#1 then
          (Prog.lift (.load bXS (Rect.unit (s := S1024x896) px S128x896.size inbx).toLoadRect l2) >>= fun _ =>
           Prog.lift (.store bXS (Rect.unit (s := S1024x896) px S128x896.size inbx)
            (shapeCast S128x896 (broadcast S128x896 (Scalar.ofBits .bf16 0x0000#16 : F .bf16)) g5) Finset.univ s1 s1') >>= fun _ =>
           Prog.lift (.load bDS (Rect.unit (s := S960x1024) pd S960x128.size inbd).toLoadRect l4) >>= fun _ =>
           Prog.lift (.store bDS (Rect.unit (s := S960x1024) pd S960x128.size inbd)
            (shapeCast S960x128 (broadcast S960x128 (Scalar.ofBits .bf16 0x0000#16 : F .bf16)) h5) Finset.univ s2 s2') >>= fun _ => J)
        else J) Q) := by
  by_cases h : cnd = 1#1
  · rw [if_pos h]
    have hbn := hc.1 h
    rw [if_pos hbn]
    unfold prepSt
    iintro ⟨%fx, %fd, %hf, Hx, Hd⟩ K
    iapply (wp_load 𝒱 (c : Thread nD τ) none Set.univ (m := bXS) (S := Finset.univ) (f := fx) (Finset.subset_univ _)) $$ Hx
    iintro Hx
    iapply (wp_store 𝒱 (c : Thread nD τ) none Set.univ (m := bXS) (r := Rect.unit (s := S1024x896) px S128x896.size inbx) (S := Finset.univ) (f := fx) (Finset.subset_univ _)) $$ Hx
    iintro Hx
    iapply (wp_load 𝒱 (c : Thread nD τ) none Set.univ (m := bDS) (S := Finset.univ) (f := fd) (Finset.subset_univ _)) $$ Hd
    iintro Hd
    iapply (wp_store 𝒱 (c : Thread nD τ) none Set.univ (m := bDS) (r := Rect.unit (s := S960x1024) pd S960x128.size inbd) (S := Finset.univ) (f := fd) (Finset.subset_univ _)) $$ Hd
    iintro Hd
    iapply K
    have hpi := prep_intro c d (hD hbn) hf inbx hpx inbd hpd (wx := shapeCast S128x896 (broadcast S128x896 (Scalar.ofBits .bf16 0x0000#16 : F .bf16)) g5)
      (wd := shapeCast S960x128 (broadcast S960x128 (Scalar.ofBits .bf16 0x0000#16 : F .bf16)) h5)
      (fun i hi => by rw [shapeCast_self]; unfold XP; rw [if_neg (by omega)]; rfl)
      (fun i hi => by rw [shapeCast_self]; unfold DP; rw [if_neg (by omega)]; rfl)
    unfold prepSt at hpi
    iapply hpi
    isplitl [Hx] <;> iassumption
  · rw [if_neg h, if_neg (fun hh => h (hc.2 hh))]
    iintro H K
    iapply K
    iexact H

end Cert.KernelIdeal.Hand
-- ==== Proof.Chunk.lean ====
/-

  One chunk worked on: its copies waited for, its scales read, its eight blocks multiplied, and the next chunk's copies
  started into its slot.

-/
module

public import proofs.«01_k».proof.Proof.Prep
public import proofs.«01_k».proof.Proof.Produce

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

theorem chk14_ok (v304 : BitVec 32) (k0_t8 : Fin (k0_t8_loop v304).trips) (arg23 v347 : BitVec 32) {nw kw ew : BitVec 32} {n e k s : ℕ}
    (h : PW nw kw ew arg23 n e k s) : k0_chk14 v304 k0_t8 arg23 v347 := by
  have hx : ∀ b, b < 8 → ∀ a, (![arg23.toNat, 128 * b, 0] : Fin 3 → ℕ) a + S1x128x896.size a ≤ S5x1024x896.size a := by
    have := h.ls; rw [h.hs]; intro b hb a; fin_cases a <;> simp [S1x128x896, S5x1024x896] <;> omega
  have hy : ∀ b, b < 8 → ∀ a, (![arg23.toNat, 0, 128 * b] : Fin 3 → ℕ) a + S1x960x128.size a ≤ S5x960x1024.size a := by
    have := h.ls; rw [h.hs]; intro b hb a; fin_cases a <;> simp [S1x960x128, S5x960x1024] <;> omega
  exact ⟨fun _ => hx 0 (by decide), fun _ => hy 0 (by decide),
    fun _ => hx 1 (by decide), fun _ => hy 1 (by decide),
    fun _ => hx 2 (by decide), fun _ => hy 2 (by decide),
    fun _ => hx 3 (by decide), fun _ => hy 3 (by decide),
    fun _ => hx 4 (by decide), fun _ => hy 4 (by decide),
    fun _ => hx 5 (by decide), fun _ => hy 5 (by decide),
    fun _ => hx 6 (by decide), fun _ => hy 6 (by decide),
    fun _ => hx 7 (by decide), fun _ => hy 7 (by decide)⟩

theorem WP_ifp {α : Type} {Q : α → sProp 𝕄} {P : Prop} {dc : Decidable P} (h : P) {t : P → PT F α} {e : ¬ P → PT F α} : WP c 𝒱 (t h) Q ⊢ WP c 𝒱 (dite P t e) Q := by
  rw [dif_pos h]
theorem WP_ifn {α : Type} {Q : α → sProp 𝕄} {P : Prop} {dc : Decidable P} (h : ¬ P) {t : P → PT F α} {e : ¬ P → PT F α} : WP c 𝒱 (e h) Q ⊢ WP c 𝒱 (dite P t e) Q := by
  rw [dif_neg h]
theorem cond_gt {n b : ℕ} (hn : n < 2 ^ 31) (hb : b < 2 ^ 31) : condW (Scalar.cmpi .sgt (W n) (W b)) = 1#1 ↔ b < n := by
  rw [condW_eq, sgtW hn hb, one_iff, decide_eq_true_iff]
theorem cond_zero {n b : ℕ} (hn : n < 2 ^ 31) (hb : b < 8) :
    condW (Scalar.andi (Scalar.cmpi .eq (W n) (W b)) (BitVec.ofNat 1 (b % 2))) = 1#1 ↔ n = b ∧ b % 2 = 1 := by
  rw [condW_eq, eqW hn (by omega)]
  rcases Nat.mod_two_eq_zero_or_one b with h | h
  · rw [h]
    have : ∀ x : BitVec 1, Scalar.andi x (BitVec.ofNat 1 0) = 0#1 := by decide
    rw [this]
    exact ⟨fun hh => absurd hh (by decide), fun hh => by omega⟩
  · rw [h]
    have : ∀ x : BitVec 1, Scalar.andi x (BitVec.ofNat 1 1) = x := by decide
    rw [this, one_iff, decide_eq_true_iff]
    exact ⟨fun hh => ⟨hh, rfl⟩, fun hh => hh.1⟩

/-- How many blocks are settled once the first `b` have been gone through. -/
def dec (nb b : ℕ) : ℕ := min b (nb + nb % 2)
theorem dec_step (nb b : ℕ) : (if nb = b ∧ b % 2 = 1 then b + 1 else if b < nb then b + 1 else dec nb b) = dec nb (b + 1) := by
  unfold dec
  split
  · omega
  · split <;> omega
theorem dec_lt {nb b : ℕ} (h : b < nb) : dec nb b = b := by unfold dec; omega
theorem dec_eq {nb b : ℕ} (h : nb = b ∧ b % 2 = 1) : (if b < nb then b + 1 else dec nb b) = b := by unfold dec; rw [if_neg (by omega)]; omega

/-- The word of a block's first token. -/
theorem mask_word {kw : BitVec 32} {k : ℕ} (hk : kw = W k) (hk8 : k < 8) (b : ℕ) (hb : b < 8) :
    Scalar.addi (Scalar.muli kw 1024#32) (W (128 * b)) = W (k * 1024 + 128 * b) := by
  rw [hk, show (1024#32 : BitVec 32) = W 1024 from rfl, mulW (by omega) (by omega) (by omega), addW (by omega)]

/-! ## A chunk that has landed, in parts -/

def scl (s e k : ℕ) : sProp 𝕄 := iprop(pt c bSX (wSX s) (SXV c d e k) ∗ pt c bSY (wSY s) (SYV c d e k))
def readyRest (s e k : ℕ) : sProp 𝕄 :=
  iprop(semVal ((c : Thread nD τ), SemLoc.dma (sT s)) 0 ∗ semVal ((c : Thread nD τ), SemLoc.dma (sY s)) 0
    ∗ restFrom c d s 0 ∗ ptq c mSX s d.SX ∗ ptq c mSY s d.SY
    ∗ (∃ f, pt c bX (wX s (128 * nb (d.n e) k) 1024) f) ∗ (∃ f, pt c bDY (wDY s (128 * nb (d.n e) k) 1024) f))
theorem ready_split (s e k : ℕ) : tokReady c d s e k ⊢ iprop(landed c d s e k ∗ scl c d s e k ∗ readyRest c d s e k) := by
  unfold tokReady landed scl readyRest
  iintro ⟨H1, H2, H3, H4, H5, ⟨H6, H7⟩, ⟨H8, H9⟩, H10, H11⟩
  isplitl [H6 H8]
  · isplitl [H6] <;> iassumption
  isplitl [H10 H11]
  · isplitl [H10] <;> iassumption
  iframe
theorem ready_join (s e k : ℕ) : iprop(landed c d s e k ∗ scl c d s e k ∗ readyRest c d s e k) ⊢ tokReady c d s e k := by
  unfold tokReady landed scl readyRest
  iintro ⟨⟨H6, H8⟩, ⟨H10, H11⟩, H1, H2, H3, H4, H5, H7, H9⟩
  iframe

theorem ld_bSX (s e k : ℕ) (hs : s < 5) {off : Fin 3 → ℕ} (inb : ∀ a, off a + S1x8x896.size a ≤ S5x8x896.size a) (ho : off = ![s, 0, 0]) (j : S1x8x896.Idx) :
    bSX.view.readAt (Elt F) (Rect.unit (s := S5x8x896) off S1x8x896.size inb).toLoadRect (SXV c d e k) j
      = (SXV c d e k (ix3 (0 : Fin 5) (j 1) (j 2) : S5x8x896.Idx) : Elt F .f32) := by
  subst ho
  refine (View.readAt_apply ..).trans ((View.read_apply _ _).trans ((cast_eq _ _).trans ?_))
  have e1 : ((Rect.unit (s := S5x8x896) ![s, 0, 0] S1x8x896.size inb).emb j 1).val = 0 + (j 1).val := ValueKit.rect_emb_unit_val _ _ _ _ _
  have e2 : ((Rect.unit (s := S5x8x896) ![s, 0, 0] S1x8x896.size inb).emb j 2).val = 0 + (j 2).val := ValueKit.rect_emb_unit_val _ _ _ _ _
  show SXV c d e k ((Rect.unit (s := S5x8x896) ![s, 0, 0] S1x8x896.size inb).emb j) = _
  have i1 : (Rect.unit (s := S5x8x896) ![s, 0, 0] S1x8x896.size inb).emb j 1 = j 1 := Fin.ext (e1.trans (Nat.zero_add _))
  have i2 : (Rect.unit (s := S5x8x896) ![s, 0, 0] S1x8x896.size inb).emb j 2 = j 2 := Fin.ext (e2.trans (Nat.zero_add _))
  unfold SXV
  simp only [i1, i2]
theorem ld_bSY (s e k : ℕ) (hs : s < 5) {off : Fin 3 → ℕ} (inb : ∀ a, off a + S1x8x960.size a ≤ S5x8x960.size a) (ho : off = ![s, 0, 0]) (j : S1x8x960.Idx) :
    bSY.view.readAt (Elt F) (Rect.unit (s := S5x8x960) off S1x8x960.size inb).toLoadRect (SYV c d e k) j
      = (SYV c d e k (ix3 (0 : Fin 5) (j 1) (j 2) : S5x8x960.Idx) : Elt F .f32) := by
  subst ho
  refine (View.readAt_apply ..).trans ((View.read_apply _ _).trans ((cast_eq _ _).trans ?_))
  have e1 : ((Rect.unit (s := S5x8x960) ![s, 0, 0] S1x8x960.size inb).emb j 1).val = 0 + (j 1).val := ValueKit.rect_emb_unit_val _ _ _ _ _
  have e2 : ((Rect.unit (s := S5x8x960) ![s, 0, 0] S1x8x960.size inb).emb j 2).val = 0 + (j 2).val := ValueKit.rect_emb_unit_val _ _ _ _ _
  show SYV c d e k ((Rect.unit (s := S5x8x960) ![s, 0, 0] S1x8x960.size inb).emb j) = _
  have i1 : (Rect.unit (s := S5x8x960) ![s, 0, 0] S1x8x960.size inb).emb j 1 = j 1 := Fin.ext (e1.trans (Nat.zero_add _))
  have i2 : (Rect.unit (s := S5x8x960) ![s, 0, 0] S1x8x960.size inb).emb j 2 = j 2 := Fin.ext (e2.trans (Nat.zero_add _))
  unfold SYV
  simp only [i1, i2]
theorem sub_bSX (s : ℕ) {off : Fin 3 → ℕ} (inb : ∀ a, off a + S1x8x896.size a ≤ S5x8x896.size a) (ho : off = ![s, 0, 0]) :
    bSX.view.setOn (Rect.unit (s := S5x8x896) off S1x8x896.size inb).toLoadRect.set ⊆ wSX s := by
  subst ho
  intro i hi
  obtain ⟨j, hj, rfl⟩ := Finset.mem_map.mp hi
  obtain ⟨x, rfl⟩ := LoadRect.exists_idx_of_mem _ hj
  have e0 : ((Rect.unit (s := S5x8x896) ![s, 0, 0] S1x8x896.size inb).emb x 0).val = s + (x 0).val := ValueKit.rect_emb_unit_val _ _ _ _ _
  have h0 : (x 0).val < 1 := (x 0).isLt
  exact Finset.mem_filter.mpr ⟨Finset.mem_univ _, e0.trans (by omega)⟩
theorem sub_bSY (s : ℕ) {off : Fin 3 → ℕ} (inb : ∀ a, off a + S1x8x960.size a ≤ S5x8x960.size a) (ho : off = ![s, 0, 0]) :
    bSY.view.setOn (Rect.unit (s := S5x8x960) off S1x8x960.size inb).toLoadRect.set ⊆ wSY s := by
  subst ho
  intro i hi
  obtain ⟨j, hj, rfl⟩ := Finset.mem_map.mp hi
  obtain ⟨x, rfl⟩ := LoadRect.exists_idx_of_mem _ hj
  have e0 : ((Rect.unit (s := S5x8x960) ![s, 0, 0] S1x8x960.size inb).emb x 0).val = s + (x 0).val := ValueKit.rect_emb_unit_val _ _ _ _ _
  have h0 : (x 0).val < 1 := (x 0).isLt
  exact Finset.mem_filter.mpr ⟨Finset.mem_univ _, e0.trans (by omega)⟩

/-! ## The parts of the chunk loop's region -/

section

theorem part7_ok (t7 : Fin k0_t7_loop.trips) (v304 : BitVec 32) (t8 : Fin (k0_t8_loop v304).trips) (sw ew kw : BitVec 32) (e k s : ℕ)
    (hp : PW (W (d.n e)) (Scf.iv 0#32 1#32 t8) (Scf.iv 0#32 1#32 t7) sw (d.n e) e k s)
    (h16 : k0_chk16 ew kw) (h15 : k0_chk15 sw ew) {Q : _ → sProp 𝕄} :
    cnt (F := F) c m0 d.n ⊢ iprop((∀ r, ⌜r = ⟨h16, h15, chk12_ok sw hp, Scf.iv 0#32 1#32 t8, W (d.n e), chk14_ok v304 t8 sw (W (d.n e)) hp,
        nbW (W (d.n e)) (Scf.iv 0#32 1#32 t8), W (d.n e), chk13_ok t7 v304 t8 sw (W (d.n e)) hp,
        Scalar.addi (Scalar.subi (W (d.n e)) (Scalar.muli (Scf.iv 0#32 1#32 t8) 1024#32)) 127#32, 128#32,
        Scalar.divsi (Scalar.addi (Scalar.subi (W (d.n e)) (Scalar.muli (Scf.iv 0#32 1#32 t8) 1024#32)) 127#32) 128#32,
        Scalar.subi (Scalar.extui (Scalar.cmpi .sgt (Scalar.addi (Scalar.subi (W (d.n e)) (Scalar.muli (Scf.iv 0#32 1#32 t8) 1024#32)) 127#32) 0#32))
          (Scalar.extui (Scalar.cmpi .slt (Scalar.addi (Scalar.subi (W (d.n e)) (Scalar.muli (Scf.iv 0#32 1#32 t8) 1024#32)) 127#32) 0#32)),
        Scalar.extui (Scalar.cmpi .sgt 128#32 0#32), Scalar.cmpi .slt 128#32 0#32⟩⌝ -∗ cnt (F := F) c m0 d.n -∗ Q r)
      -∗ WP c 𝒱 (k0_part7 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 t7 (Scf.iv 0#32 1#32 t7) v304 0#32 1#32 t8 sw ew kw) Q) := by
  unfold k0_part7
  iintro Hc Hk
  iapply (WP_assume c 𝒱 h16)
  iapply (WP_assume c 𝒱 h15)
  iapply (WP_assume c 𝒱 (chk12_ok sw hp))
  iapply (wp_cnt c 𝒱 e (congrArg (fun x => ![x]) hp.he)) $$ Hc
  iintro Hc
  iapply (WP_assume c 𝒱 (chk14_ok v304 t8 sw (W (d.n e)) hp))
  iapply (wp_cnt c 𝒱 e (congrArg (fun x => ![x]) hp.he)) $$ Hc
  iintro Hc
  iapply (WP_assume c 𝒱 (chk13_ok t7 v304 t8 sw (W (d.n e)) hp))
  iapply (WP_pure c 𝒱)
  iapply Hk $$ [] Hc
  ipureintro
  rfl

end

end Cert.KernelIdeal.Hand
-- ==== Proof.Mat.lean ====
/-

  The products of one chunk added to an expert's accumulator: the whole chunk at once when seven or eight blocks are in
  use, else two blocks at a time.

-/
module

public import proofs.«01_k».proof.Proof.Chunk

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- A slot of the accumulators holding the values `v`. -/
def AV (v : FVec F S960x896 .f32) : BufOf (F := F) c bA := fun (i : S10x960x896.Idx) => v (ix2 (i 1) (i 2) : S960x896.Idx)

theorem m1024 (n : ℕ) : n % 1024 < 1024 := Nat.mod_lt _ (by decide)
/-- The operands of one product: `w` tokens from token `o` of the chunk on. -/
def dOp (e k w o : ℕ) : FVec F (⟨2, ![960, w]⟩ : Shape) .bf16 := fun j => DP c d e k (ix2 (j 0) ⟨(o + (j 1).val) % 1024, m1024 _⟩ : S960x1024.Idx)
def xOp (e k w o : ℕ) : FVec F (⟨2, ![w, 896]⟩ : Shape) .bf16 := fun j => XP c d e k (ix2 ⟨(o + (j 0).val) % 1024, m1024 _⟩ (j 1) : S1024x896.Idx)

/-- Two blocks' product added. -/
def mm256 (e k j : ℕ) (v : FVec F S960x896 .f32) : FVec F S960x896 .f32 :=
  addf v (matmul dot_S960x256_S256x896_S960x896_1_0_0_1_n_n none (dOp c d e k 256 (256 * j)) (xOp c d e k 256 (256 * j)) (constant S960x896 .f32 0x00000000#32))
/-- The whole chunk's product added. -/
def mm1024 (e k : ℕ) (v : FVec F S960x896 .f32) : FVec F S960x896 .f32 :=
  addf v (matmul dot_S960x1024_S1024x896_S960x896_1_0_0_1_n_n none (dOp c d e k 1024 0) (xOp c d e k 1024 0) (constant S960x896 .f32 0x00000000#32))
def stp (e k j : ℕ) (v : FVec F S960x896 .f32) : FVec F S960x896 .f32 := if 2 * j < nb (d.n e) k then mm256 c d e k j v else v
/-- The accumulator after one chunk. -/
def accK (e k : ℕ) (v : FVec F S960x896 .f32) : FVec F S960x896 .f32 :=
  if 6 < nb (d.n e) k then mm1024 c d e k v else stp c d e k 2 (stp c d e k 1 (stp c d e k 0 v))
/-- The accumulator after the first `k` chunks, from the gradient there was. -/
def ACC (e : ℕ) : ℕ → FVec F S960x896 .f32
  | 0 => fun i => d.G (ix3 ⟨e % 48, m48 e⟩ (i 0) (i 1) : S48x960x896.Idx)
  | k + 1 => accK c d e k (ACC e k)

theorem sub_bA (s : ℕ) {off : Fin 3 → ℕ} (inb : ∀ a, off a + S1x960x896.size a ≤ S10x960x896.size a) (ho : off = ![s, 0, 0]) :
    bA.view.setOn (Rect.unit (s := S10x960x896) off S1x960x896.size inb).toLoadRect.set ⊆ wA s := by
  subst ho
  intro i hi
  obtain ⟨j, hj, rfl⟩ := Finset.mem_map.mp hi
  obtain ⟨x, rfl⟩ := LoadRect.exists_idx_of_mem _ hj
  have e0 : ((Rect.unit (s := S10x960x896) ![s, 0, 0] S1x960x896.size inb).emb x 0).val = s + (x 0).val := ValueKit.rect_emb_unit_val _ _ _ _ _
  have h0 : (x 0).val < 1 := (x 0).isLt
  exact Finset.mem_filter.mpr ⟨Finset.mem_univ _, e0.trans (by omega)⟩
theorem subst_bA (s : ℕ) {off : Fin 3 → ℕ} (inb : ∀ a, off a + S1x960x896.size a ≤ S10x960x896.size a) (ho : off = ![s, 0, 0]) :
    (bA.access (Rect.unit (s := S10x960x896) off S1x960x896.size inb)).setOn Finset.univ ⊆ wA s := by
  subst ho
  intro i hi
  obtain ⟨x, -, rfl⟩ := Finset.mem_map.mp hi
  have e0 : ((Rect.unit (s := S10x960x896) ![s, 0, 0] S1x960x896.size inb).emb x 0).val = s + (x 0).val := ValueKit.rect_emb_unit_val _ _ _ _ _
  have h0 : (x 0).val < 1 := (x 0).isLt
  exact Finset.mem_filter.mpr ⟨Finset.mem_univ _, e0.trans (by omega)⟩
theorem ld_bA (s : ℕ) {off : Fin 3 → ℕ} (inb : ∀ a, off a + S1x960x896.size a ≤ S10x960x896.size a) (ho : off = ![s, 0, 0])
    (v : FVec F S960x896 .f32) (h : S1x960x896.ShapeCasts S960x896) :
    shapeCast S960x896 (bA.view.readAt (Elt F) (Rect.unit (s := S10x960x896) off S1x960x896.size inb).toLoadRect (AV c v)) h = v := by
  subst ho
  funext i
  have hi : i = (ix2 (i 0) (i 1) : S960x896.Idx) := by
    funext a
    match a with
    | ⟨0, _⟩ => rfl
    | ⟨1, _⟩ => rfl
  refine (congrArg _ hi).trans ((shapeCast_1ab_ab_apply _ _ (i 0) (i 1)).trans ?_)
  refine (View.readAt_apply ..).trans ((View.read_apply _ _).trans ((cast_eq _ _).trans ?_))
  show v _ = v i
  refine congrArg v ?_
  funext a
  apply Fin.ext
  match a with
  | ⟨0, _⟩ => exact (ValueKit.rect_emb_unit_val (s := S10x960x896) ![s, 0, 0] S1x960x896.size inb (ix3 0 (i 0) (i 1) : S1x960x896.Idx) 1).trans (Nat.zero_add _)
  | ⟨1, _⟩ => exact (ValueKit.rect_emb_unit_val (s := S10x960x896) ![s, 0, 0] S1x960x896.size inb (ix3 0 (i 0) (i 1) : S1x960x896.Idx) 2).trans (Nat.zero_add _)
theorem st_bA (s : ℕ) {off : Fin 3 → ℕ} (inb : ∀ a, off a + S1x960x896.size a ≤ S10x960x896.size a) (ho : off = ![s, 0, 0])
    (f : BufOf (F := F) c bA) (v : FVec F S960x896 .f32) (h : S960x896.ShapeCasts S1x960x896) :
    ∀ i ∈ wA s, ((bA.access (Rect.unit (s := S10x960x896) off S1x960x896.size inb)).write (Elt F) f (shapeCast S1x960x896 v h) Finset.univ : BufOf (F := F) c bA) i = AV c v i := by
  subst ho
  intro i hi
  have h0 : (i 0).val = s := (Finset.mem_filter.mp hi).2
  have he : i = (bA.access (Rect.unit (s := S10x960x896) ![s, 0, 0] S1x960x896.size inb)).emb (ix3 (0 : Fin 1) (i 1) (i 2) : S1x960x896.Idx) := by
    funext a
    apply Fin.ext
    refine Eq.trans ?_ (ValueKit.rect_emb_unit_val (s := S10x960x896) ![s, 0, 0] S1x960x896.size inb _ a).symm
    match a with
    | ⟨0, _⟩ => show (i 0).val = s + 0
                omega
    | ⟨1, _⟩ => show (i 1).val = 0 + (i 1).val
                omega
    | ⟨2, _⟩ => show (i 2).val = 0 + (i 2).val
                omega
  conv_lhs => rw [he]
  refine (View.write_emb_of_mem _ _ (Finset.mem_univ _)).trans ((cast_eq _ _).trans ?_)
  exact (shapeCast_ab_1ab_apply v h 0 (i 1) (i 2)).trans rfl

theorem ld_bDS (e k D w o : ℕ) (hw : o + w ≤ 128 * D) (hw' : o + w ≤ 1024) {off : Fin 2 → ℕ} (inb : ∀ a, off a + (⟨2, ![960, w]⟩ : Shape).size a ≤ S960x1024.size a) (ho : off = ![0, o])
    (f : BufOf (F := F) c bDS) (hf : ∀ i : S960x1024.Idx, (i 1).val < 128 * D → f i = DP c d e k i) :
    bDS.view.readAt (Elt F) (Rect.unit (s := S960x1024) off (⟨2, ![960, w]⟩ : Shape).size inb).toLoadRect f = dOp c d e k w o := by
  subst ho
  funext j
  have hj : (j 1).val < w := (j 1).isLt
  have e0 : ((Rect.unit (s := S960x1024) ![0, o] (⟨2, ![960, w]⟩ : Shape).size inb).emb j 0).val = 0 + (j 0).val := ValueKit.rect_emb_unit_val _ _ _ _ _
  have e1 : ((Rect.unit (s := S960x1024) ![0, o] (⟨2, ![960, w]⟩ : Shape).size inb).emb j 1).val = o + (j 1).val := ValueKit.rect_emb_unit_val _ _ _ _ _
  refine (View.readAt_apply ..).trans ((View.read_apply _ _).trans ((cast_eq _ _).trans ((hf ((Rect.unit (s := S960x1024) ![0, o] (⟨2, ![960, w]⟩ : Shape).size inb).emb j) (by omega)).trans (congrArg (DP c d e k) ?_))))
  funext a
  apply Fin.ext
  match a with
  | ⟨0, _⟩ => exact e0.trans (Nat.zero_add _)
  | ⟨1, _⟩ => refine e1.trans ?_
              show _ = (o + (j 1).val) % 1024
              omega
theorem ld_bXS (e k D w o : ℕ) (hw : o + w ≤ 128 * D) (hw' : o + w ≤ 1024) {off : Fin 2 → ℕ} (inb : ∀ a, off a + (⟨2, ![w, 896]⟩ : Shape).size a ≤ S1024x896.size a) (ho : off = ![o, 0])
    (f : BufOf (F := F) c bXS) (hf : ∀ i : S1024x896.Idx, (i 0).val < 128 * D → f i = XP c d e k i) :
    bXS.view.readAt (Elt F) (Rect.unit (s := S1024x896) off (⟨2, ![w, 896]⟩ : Shape).size inb).toLoadRect f = xOp c d e k w o := by
  subst ho
  funext j
  have hj : (j 0).val < w := (j 0).isLt
  have e0 : ((Rect.unit (s := S1024x896) ![o, 0] (⟨2, ![w, 896]⟩ : Shape).size inb).emb j 0).val = o + (j 0).val := ValueKit.rect_emb_unit_val _ _ _ _ _
  have e1 : ((Rect.unit (s := S1024x896) ![o, 0] (⟨2, ![w, 896]⟩ : Shape).size inb).emb j 1).val = 0 + (j 1).val := ValueKit.rect_emb_unit_val _ _ _ _ _
  refine (View.readAt_apply ..).trans ((View.read_apply _ _).trans ((cast_eq _ _).trans ((hf ((Rect.unit (s := S1024x896) ![o, 0] (⟨2, ![w, 896]⟩ : Shape).size inb).emb j) (by omega)).trans (congrArg (XP c d e k) ?_))))
  funext a
  apply Fin.ext
  match a with
  | ⟨0, _⟩ => refine e0.trans ?_
              show _ = (o + (j 0).val) % 1024
              omega
  | ⟨1, _⟩ => exact e1.trans (Nat.zero_add _)

/-- A load of a rectangle. -/
abbrev ldP {S : Shape} {e : EltTy} (M : Memref sig .tc .vmem S e) (r : Rect S) (l : M.view.LoadsAt r.toLoadRect) : PT F (r.shape.Idx → Elt F e) :=
  Prog.lift (.load M r.toLoadRect l)

theorem prep_again {e k D : ℕ} {fx : BufOf (F := F) c bXS} {fd : BufOf (F := F) c bDS}
    (hf : (∀ i : S1024x896.Idx, (i 0).val < 128 * D → fx i = XP c d e k i) ∧ (∀ i : S960x1024.Idx, (i 1).val < 128 * D → fd i = DP c d e k i)) :
    iprop(pt c bXS Finset.univ fx ∗ pt c bDS Finset.univ fd) ⊢ prepSt c d e k D := by
  unfold prepSt
  iintro ⟨Hx, Hd⟩
  iexists fx
  iexists fd
  isplitr
  · ipureintro; exact hf
  isplitl [Hx] <;> iassumption

theorem mm_val (e k s D w o : ℕ) (hw : o + w ≤ 128 * D) (hw' : o + w ≤ 1024)
    (mm : FVec F (⟨2, ![960, w]⟩ : Shape) .bf16 → FVec F (⟨2, ![w, 896]⟩ : Shape) .bf16 → FVec F S960x896 .f32) (v : FVec F S960x896 .f32)
    {oa oa3 : Fin 3 → ℕ} {od ox : Fin 2 → ℕ} {ia : ∀ a, oa a + S1x960x896.size a ≤ S10x960x896.size a}
    {ia3 : ∀ a, oa3 a + S1x960x896.size a ≤ S10x960x896.size a}
    {id : ∀ a, od a + (⟨2, ![960, w]⟩ : Shape).size a ≤ S960x1024.size a} {ix : ∀ a, ox a + (⟨2, ![w, 896]⟩ : Shape).size a ≤ S1024x896.size a}
    (hoa : oa = ![s, 0, 0]) (hoa3 : oa3 = ![s, 0, 0]) (hod : od = ![0, o]) (hox : ox = ![o, 0])
    {c1 : S1x960x896.ShapeCasts S960x896} {c2 : S960x896.ShapeCasts S1x960x896} {fx : BufOf (F := F) c bXS} {fd : BufOf (F := F) c bDS}
    (hf : (∀ i : S1024x896.Idx, (i 0).val < 128 * D → fx i = XP c d e k i) ∧ (∀ i : S960x1024.Idx, (i 1).val < 128 * D → fd i = DP c d e k i)) :
    pt c bA (wA s) ((bA.access (Rect.unit (s := S10x960x896) oa3 S1x960x896.size ia3)).write (Elt F) (AV c v) (shapeCast S1x960x896 (addf (shapeCast S960x896 (bA.view.readAt (Elt F) (Rect.unit (s := S10x960x896) oa S1x960x896.size ia).toLoadRect (AV c v)) c1)
      (mm (bDS.view.readAt (Elt F) (Rect.unit (s := S960x1024) od (⟨2, ![960, w]⟩ : Shape).size id).toLoadRect fd)
        (bXS.view.readAt (Elt F) (Rect.unit (s := S1024x896) ox (⟨2, ![w, 896]⟩ : Shape).size ix).toLoadRect fx))) c2) Finset.univ : BufOf (F := F) c bA)
      ⊢ pt c bA (wA s) (AV c (addf v (mm (dOp c d e k w o) (xOp c d e k w o)))) := by
  rw [ld_bA c s ia hoa, ld_bDS c d e k D w o hw hw' id hod fd hf.2, ld_bXS c d e k D w o hw hw' ix hox fx hf.1]
  exact Entails.of_eq (pointsTo_congr (st_bA c s ia3 hoa3 (AV c v) _ c2))

/-- One product added to the accumulator in slot `s`. -/
theorem wp_mm {α : Type} {Q : α → sProp 𝕄} (e k s D w o : ℕ) (hw : o + w ≤ 128 * D) (hw' : o + w ≤ 1024)
    (mm : FVec F (⟨2, ![960, w]⟩ : Shape) .bf16 → FVec F (⟨2, ![w, 896]⟩ : Shape) .bf16 → FVec F S960x896 .f32) (v : FVec F S960x896 .f32)
    {oa oa2 oa3 : Fin 3 → ℕ} {od ox : Fin 2 → ℕ} {ia : ∀ a, oa a + S1x960x896.size a ≤ S10x960x896.size a}
    {ia2 : ∀ a, oa2 a + S1x960x896.size a ≤ S10x960x896.size a} {ia3 : ∀ a, oa3 a + S1x960x896.size a ≤ S10x960x896.size a}
    {id : ∀ a, od a + (⟨2, ![960, w]⟩ : Shape).size a ≤ S960x1024.size a} {ix : ∀ a, ox a + (⟨2, ![w, 896]⟩ : Shape).size a ≤ S1024x896.size a}
    (hoa : oa = ![s, 0, 0]) (hoa2 : oa2 = ![s, 0, 0]) (hoa3 : oa3 = ![s, 0, 0]) (hod : od = ![0, o]) (hox : ox = ![o, 0])
    {l1 : bA.view.LoadsAt (Rect.unit (s := S10x960x896) oa S1x960x896.size ia).toLoadRect}
    {l2 : bDS.view.LoadsAt (Rect.unit (s := S960x1024) od (⟨2, ![960, w]⟩ : Shape).size id).toLoadRect}
    {l3 : bXS.view.LoadsAt (Rect.unit (s := S1024x896) ox (⟨2, ![w, 896]⟩ : Shape).size ix).toLoadRect}
    {l4 : bA.view.LoadsAt (Rect.unit (s := S10x960x896) oa2 S1x960x896.size ia2).toLoadRect}
    {s1 : (bA.access (Rect.unit (s := S10x960x896) oa3 S1x960x896.size ia3)).Stores Finset.univ} {s1'}
    {c1 : S1x960x896.ShapeCasts S960x896} {c2 : S960x896.ShapeCasts S1x960x896} {J : PT F α} :
    iprop(prepSt c d e k D ∗ pt c bA (wA s) (AV c v)) ⊢ iprop((iprop(prepSt c d e k D ∗ pt c bA (wA s) (AV c (addf v (mm (dOp c d e k w o) (xOp c d e k w o))))) -∗ WP c 𝒱 J Q)
      -∗ WP c 𝒱 (ldP bA (Rect.unit (s := S10x960x896) oa S1x960x896.size ia) l1 >>= fun a =>
          ldP bDS (Rect.unit (s := S960x1024) od (⟨2, ![960, w]⟩ : Shape).size id) l2 >>= fun y =>
          ldP bXS (Rect.unit (s := S1024x896) ox (⟨2, ![w, 896]⟩ : Shape).size ix) l3 >>= fun x =>
          Prog.lift (.load bA (Rect.unit (s := S10x960x896) oa2 S1x960x896.size ia2).toLoadRect l4) >>= fun _ =>
          Prog.lift (.store bA (Rect.unit (s := S10x960x896) oa3 S1x960x896.size ia3)
            (shapeCast S1x960x896 (addf (shapeCast S960x896 a c1) (mm y x)) c2) Finset.univ s1 s1') >>= fun _ => J) Q) := by
  unfold prepSt
  iintro ⟨⟨%fx, %fd, %hf, Hx, Hd⟩, Ha⟩ K
  iapply (wp_load 𝒱 (c : Thread nD τ) none Set.univ (m := bA) (S := wA s) (f := AV c v) (sub_bA s ia hoa)) $$ Ha
  iintro Ha
  iapply (wp_load 𝒱 (c : Thread nD τ) none Set.univ (m := bDS) (S := Finset.univ) (f := fd) (Finset.subset_univ _)) $$ Hd
  iintro Hd
  iapply (wp_load 𝒱 (c : Thread nD τ) none Set.univ (m := bXS) (S := Finset.univ) (f := fx) (Finset.subset_univ _)) $$ Hx
  iintro Hx
  iapply (wp_load 𝒱 (c : Thread nD τ) none Set.univ (m := bA) (S := wA s) (f := AV c v) (sub_bA s ia2 hoa2)) $$ Ha
  iintro Ha
  iapply (wp_store 𝒱 (c : Thread nD τ) none Set.univ (m := bA) (r := Rect.unit (s := S10x960x896) oa3 S1x960x896.size ia3) (S := wA s) (f := AV c v) (subst_bA s ia3 hoa3)) $$ Ha
  iintro Ha
  iapply K
  isplitl [Hx Hd]
  · have hpa := prep_again c d hf
    unfold prepSt at hpa
    iapply hpa
    isplitl [Hx] <;> iassumption
  iapply (mm_val c d e k s D w o hw hw' mm v hoa hoa3 hod hox hf) $$ Ha

end Cert.KernelIdeal.Hand
-- ==== Proof.Acc.lean ====
/-

  The accumulators: ten slots, each empty, being filled with an expert's gradient, or being copied out.

-/
module

public import proofs.«01_k».proof.Proof.Mat

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- What the output holds in the end. -/
def OV : BufOf (F := F) c mO := fun (i : S48x960x896.Idx) => ACC c d (i 0).val (nch (d.n (i 0).val)) (ix2 (i 1) (i 2) : S960x896.Idx)
def wOi (a b : ℕ) : Finset S48x960x896.Idx := Finset.univ.filter fun i => a ≤ (i 0).val ∧ (i 0).val < b

theorem write_mO {off off' : Fin 3 → ℕ} (inb h hq inb' h' hq') (s e : ℕ) (ho : off = ![e, 0, 0])
    (ho' : off' = ![s, 0, 0]) (f : BufOf (F := F) c mO) :
    ∀ i ∈ wO e, (sq (n := 960) (k := 896) mO off inb h hq).view.write (Elt F) f
      ((sq (n := 960) (k := 896) bA off' inb' h' hq').view.read (Elt F) (AV c (ACC c d e (nch (d.n e))))) Finset.univ i = OV c d i := by
  subst ho; subst ho'
  intro i hi
  have he : (i 0).val = e := (Finset.mem_filter.mp hi).2
  rw [← set_mO inb h hq e rfl] at hi
  obtain ⟨j, -, rfl⟩ := Finset.mem_map.mp hi
  refine (View.write_emb_of_mem _ _ (Finset.mem_univ _)).trans ((cast_eq _ _).trans ((View.read_apply _ _).trans ((cast_eq _ _).trans ?_)))
  unfold OV
  rw [he]
  show ACC c d e (nch (d.n e)) _ = ACC c d e (nch (d.n e)) _
  refine congrArg _ ?_
  funext a
  match a with
  | ⟨0, _⟩ => rfl
  | ⟨1, _⟩ => rfl

def gCell (j : ℕ) : ℂ where
  A := aG
  D := iprop(ptq c mG (j % 10) d.G ∗ pt c bA (wA (j % 10)) (GV c d j))
  st := inferInstance
  pos := by decide
def oCell (e : ℕ) : ℂ where
  A := aO
  D := iprop(pt c bA (wA (e % 10)) (AV c (ACC c d e (nch (d.n e)))) ∗ pt c mO (wO e) (OV c d))
  st := inferInstance
  pos := by decide

/-- What slot `s` has besides its buffer when nothing is in flight. -/
def accHeld (s : ℕ) : sProp 𝕄 :=
  iprop(semVal ((c : Thread nD τ), SemLoc.dma (sG s)) 0 ∗ semVal ((c : Thread nD τ), SemLoc.dma (sO s)) 0 ∗ ptq c mG s d.G)
def accIdle (s : ℕ) : sProp 𝕄 := iprop(accHeld c d s ∗ ∃ f, pt c bA (wA s) f)
/-- The gradient of expert `j` on its way in. -/
def gradFl (j : ℕ) : sProp 𝕄 :=
  iprop(Batch EC (c : Thread nD τ) (.dma (sG (j % 10))) [gCell c d j] 1 0 ∗ semVal ((c : Thread nD τ), SemLoc.dma (sO (j % 10))) 0)
/-- The result of expert `e` on its way out. -/
def outFl (e : ℕ) : sProp 𝕄 :=
  iprop(Batch EC (c : Thread nD τ) (.dma (sO (e % 10))) [oCell c d e] 1 0 ∗ semVal ((c : Thread nD τ), SemLoc.dma (sG (e % 10))) 0 ∗ ptq c mG (e % 10) d.G)

theorem mm10 (j : ℕ) : j % 10 % 10 = j % 10 := Nat.mod_mod _ _

theorem wp_gradStart {α : Type} {Q : α → sProp 𝕄} (j : ℕ) (hj : j < 48) {oG : Fin 1 → ℕ} {ox ox' : Fin 3 → ℕ}
    {iG : ∀ a, oG a + S1.size a ≤ S10.size a} {ix : ∀ a, ox a + S1x960x896.size a ≤ S10x960x896.size a}
    {ix' : ∀ a, ox' a + S1x960x896.size a ≤ S48x960x896.size a} {hq : S1.Squeezes S_} {hxq hxq' : S1x960x896.Squeezes S960x896}
    {w1 : (sq (n := 960) (k := 896) mG ox' ix' (fun _ => rfl) hxq').view.WordExact}
    {w2 : (sq (n := 960) (k := 896) bA ox ix (fun _ => rfl) hxq).view.WordExact}
    (hoG : oG = ![j % 10]) (hox : ox = ![j % 10, 0, 0]) (hox' : ox' = ![j, 0, 0]) {K : PT F α} :
    accIdle c d (j % 10) ⊢ iprop((gradFl c d j -∗ WP c 𝒱 K Q)
      -∗ WP c 𝒱 (Prog.lift (.enqueueDma (sq (n := 960) (k := 896) mG ox' ix' (fun _ => rfl) hxq') (.here (sq (n := 960) (k := 896) bA ox ix (fun _ => rfl) hxq))
            (.dma (((cc0_scratch9 : DmaSems sig S10).slice (Rect.unit (s := S10) oG S1.size iG)).squeeze S_ hq).sem) w1 w2 ⟨Or.inl rfl, trivial⟩)
            >>= fun _ => K) Q) := by
  rw [sem_G _ _ (j % 10) (hoG.trans (by rw [mm10]))]
  unfold accIdle accHeld gradFl
  iintro ⟨⟨HG, HO, HM⟩, ⟨%f, Ha⟩⟩ Hk
  imod (batch_alloc EC hE (c : Thread nD τ) (.dma (sG (j % 10))) [gCell c d j] (E := Set.univ)) $$ HG with HB
  iapply (wp_issue EC 𝒱 (c : Thread nD τ) none hE [gCell c d j] [] [] (gCell c d j) rfl
      (src := sq (n := 960) (k := 896) mG ox' ix' (fun _ => rfl) hxq') (dst := sq (n := 960) (k := 896) bA ox ix (fun _ => rfl) hxq)
      (via := .same) (fs := d.G) (fd := f)
      (S := Finset.univ) (Finset.subset_univ _) (set_bA _ _ _ (j % 10) hox) (Finset.Subset.refl _) rfl
      (sep_mono_right (Entails.of_eq (pointsTo_congr (write_bA c d _ _ _ _ _ _ (j % 10) j hj hox hox' f))))) $$ [HM Ha HB]
  · isplitl [HM]; · iexact HM
    isplitl [Ha] <;> iassumption
  iintro ⟨-, HB⟩
  iapply Hk
  isplitl [HB] <;> iassumption

theorem wp_gradWait {α : Type} {Q : α → sProp 𝕄} (j : ℕ) {oG : Fin 1 → ℕ} {ox : Fin 3 → ℕ}
    {iG : ∀ a, oG a + S1.size a ≤ S10.size a} {ix : ∀ a, ox a + S1x960x896.size a ≤ S10x960x896.size a}
    {hq : S1.Squeezes S_} {hxq : S1x960x896.Squeezes S960x896} {mx : Memref sig .tc .hbm S960x896 .f32}
    {w1 : mx.view.WordExact} {w2 : (sq (n := 960) (k := 896) bA ox ix (fun _ => rfl) hxq).view.WordExact}
    (hoG : oG = ![j % 10]) {K : PT F α} :
    iprop(gradFl c d j ∗ owesE (F := F) c) ⊢ iprop((iprop(accHeld c d (j % 10) ∗ pt c bA (wA (j % 10)) (AV c (ACC c d j 0)) ∗ owesE (F := F) c) -∗ WP c 𝒱 K Q)
      -∗ WP c 𝒱 (Prog.lift (.waitDma2 (((cc0_scratch9 : DmaSems sig S10).slice (Rect.unit (s := S10) oG S1.size iG)).squeeze S_ hq).sem
              mx (sq (n := 960) (k := 896) bA ox ix (fun _ => rfl) hxq) w1 w2) >>= fun _ => K) Q) := by
  rw [sem_G _ _ (j % 10) (hoG.trans (by rw [mm10]))]
  unfold accHeld gradFl
  iintro ⟨⟨HB, HS⟩, ⟨%W, HO⟩⟩ Hk
  iapply (wp_waitCell EC 𝒱 (c : Thread nD τ) none hE [gCell c d j] [] [] (gCell c d j) rfl
      (srcw := mx) (dstw := sq (n := 960) (k := 896) bA ox ix (fun _ => rfl) hxq) rfl) $$ [HB HO]
  · isplitl [HB]; · iexact HB
    iexact HO
  iintro ⟨HB, HO⟩
  imod (show Batch EC (c : Thread nD τ) (.dma (sG (j % 10))) [gCell c d j] [gCell c d j].length (tot ([] ++ [gCell c d j]))
      ⊢ |={Set.univ}=> iprop(((ptq c mG (j % 10) d.G ∗ pt c bA (wA (j % 10)) (GV c d j)) ∗ BI.emp) ∗ semVal ((c : Thread nD τ), SemLoc.dma (sG (j % 10))) 0)
    from batch_collect EC hE (c : Thread nD τ) (.dma (sG (j % 10))) [gCell c d j]) $$ HB with HB
  icases HB with ⟨⟨⟨HM, Ha⟩, -⟩, HG⟩
  iapply Hk
  isplitl [HG HS HM]
  · isplitl [HG]; · iexact HG
    isplitl [HS] <;> iassumption
  isplitl [Ha]; · iexact Ha
  iexists _; iexact HO

theorem wOi_split (e : ℕ) (he : e < 48) : wOi e 48 \ wO e = wOi (e + 1) 48 := by
  ext i
  simp only [wOi, wO, Finset.mem_sdiff, Finset.mem_filter, Finset.mem_univ, true_and]
  omega
theorem wO_sub (e : ℕ) (he : e < 48) : wO e ⊆ wOi e 48 := by
  intro i
  simp only [wOi, wO, Finset.mem_filter, Finset.mem_univ, true_and]
  omega

theorem wp_outStart {α : Type} {Q : α → sProp 𝕄} (e : ℕ) (he : e < 48) {oG : Fin 1 → ℕ} {ox ox' : Fin 3 → ℕ}
    {iG : ∀ a, oG a + S1.size a ≤ S10.size a} {ix' : ∀ a, ox' a + S1x960x896.size a ≤ S10x960x896.size a}
    {ix : ∀ a, ox a + S1x960x896.size a ≤ S48x960x896.size a} {hq : S1.Squeezes S_} {hxq hxq' : S1x960x896.Squeezes S960x896}
    {w1 : (sq (n := 960) (k := 896) bA ox' ix' (fun _ => rfl) hxq').view.WordExact}
    {w2 : (sq (n := 960) (k := 896) mO ox ix (fun _ => rfl) hxq).view.WordExact}
    (hoG : oG = ![e % 10]) (hox : ox = ![e, 0, 0]) (hox' : ox' = ![e % 10, 0, 0]) (fo : BufOf (F := F) c mO) {K : PT F α} :
    iprop(accHeld c d (e % 10) ∗ pt c bA (wA (e % 10)) (AV c (ACC c d e (nch (d.n e)))) ∗ pt c mO (wOi e 48) fo)
      ⊢ iprop((iprop(outFl c d e ∗ pt c mO (wOi (e + 1) 48) fo) -∗ WP c 𝒱 K Q)
      -∗ WP c 𝒱 (Prog.lift (.enqueueDma (sq (n := 960) (k := 896) bA ox' ix' (fun _ => rfl) hxq') (.here (sq (n := 960) (k := 896) mO ox ix (fun _ => rfl) hxq))
            (.dma (((cc0_scratch10 : DmaSems sig S10).slice (Rect.unit (s := S10) oG S1.size iG)).squeeze S_ hq).sem) w1 w2 ⟨Or.inl rfl, trivial⟩)
            >>= fun _ => K) Q) := by
  rw [sem_O _ _ (e % 10) (hoG.trans (by rw [mm10])), ← wOi_split e he]
  unfold accHeld outFl
  iintro ⟨⟨HG, HO, HM⟩, Ha, Ho⟩ Hk
  imod (batch_alloc EC hE (c : Thread nD τ) (.dma (sO (e % 10))) [oCell c d e] (E := Set.univ)) $$ HO with HB
  iapply (wp_issue EC 𝒱 (c : Thread nD τ) none hE [oCell c d e] [] [] (oCell c d e) rfl
      (src := sq (n := 960) (k := 896) bA ox' ix' (fun _ => rfl) hxq') (dst := sq (n := 960) (k := 896) mO ox ix (fun _ => rfl) hxq)
      (via := .same) (fs := AV c (ACC c d e (nch (d.n e)))) (fd := fo)
      (S := wA (e % 10)) (by rw [set_bA _ _ _ (e % 10) hox']) (set_mO _ _ _ e hox) (wO_sub e he) rfl
      (sep_mono_right (Entails.of_eq (pointsTo_congr (write_mO c d _ _ _ _ _ _ (e % 10) e hox hox' fo))))) $$ [Ha Ho HB]
  · isplitl [Ha]; · iexact Ha
    isplitl [Ho] <;> iassumption
  iintro ⟨Ho, HB⟩
  iapply Hk
  isplitr [Ho]
  · isplitl [HB]; · iexact HB
    isplitl [HG] <;> iassumption
  · iexact Ho

theorem wp_outWait {α : Type} {Q : α → sProp 𝕄} (e : ℕ) {oG : Fin 1 → ℕ} {ox : Fin 3 → ℕ}
    {iG : ∀ a, oG a + S1.size a ≤ S10.size a} {ix : ∀ a, ox a + S1x960x896.size a ≤ S48x960x896.size a}
    {hq : S1.Squeezes S_} {hxq : S1x960x896.Squeezes S960x896} {mx : Memref sig .tc .vmem S960x896 .f32}
    {w1 : mx.view.WordExact} {w2 : (sq (n := 960) (k := 896) mO ox ix (fun _ => rfl) hxq).view.WordExact}
    (hoG : oG = ![e % 10]) {K : PT F α} :
    iprop(outFl c d e ∗ owesE (F := F) c) ⊢ iprop((iprop(accIdle c d (e % 10) ∗ pt c mO (wO e) (OV c d) ∗ owesE (F := F) c) -∗ WP c 𝒱 K Q)
      -∗ WP c 𝒱 (Prog.lift (.waitDma2 (((cc0_scratch10 : DmaSems sig S10).slice (Rect.unit (s := S10) oG S1.size iG)).squeeze S_ hq).sem
              mx (sq (n := 960) (k := 896) mO ox ix (fun _ => rfl) hxq) w1 w2) >>= fun _ => K) Q) := by
  rw [sem_O _ _ (e % 10) (hoG.trans (by rw [mm10]))]
  unfold accIdle accHeld outFl
  iintro ⟨⟨HB, HS, HM⟩, ⟨%W, HO⟩⟩ Hk
  iapply (wp_waitCell EC 𝒱 (c : Thread nD τ) none hE [oCell c d e] [] [] (oCell c d e) rfl
      (srcw := mx) (dstw := sq (n := 960) (k := 896) mO ox ix (fun _ => rfl) hxq) rfl) $$ [HB HO]
  · isplitl [HB]; · iexact HB
    iexact HO
  iintro ⟨HB, HO⟩
  imod (show Batch EC (c : Thread nD τ) (.dma (sO (e % 10))) [oCell c d e] [oCell c d e].length (tot ([] ++ [oCell c d e]))
      ⊢ |={Set.univ}=> iprop(((pt c bA (wA (e % 10)) (AV c (ACC c d e (nch (d.n e)))) ∗ pt c mO (wO e) (OV c d)) ∗ BI.emp) ∗ semVal ((c : Thread nD τ), SemLoc.dma (sO (e % 10))) 0)
    from batch_collect EC hE (c : Thread nD τ) (.dma (sO (e % 10))) [oCell c d e]) $$ HB with HB
  icases HB with ⟨⟨⟨Ha, Ho⟩, -⟩, HG⟩
  iapply Hk
  isplitl [HG HS HM Ha]
  · isplitl [HG HS HM]
    · isplitl [HS]; · iexact HS
      isplitl [HG] <;> iassumption
    · iexists _; iexact Ha
  isplitl [Ho]; · iexact Ho
  iexists _; iexact HO

/-! ## The ten slots -/

/-- The slot of expert `j`, the gradients of the experts before `g` having been asked for. -/
def accSt (g j : ℕ) : sProp 𝕄 := if j < g ∧ j < 48 then gradFl c d j else if 10 ≤ j then outFl c d (j - 10) else accIdle c d (j % 10)
/-- The slots, expert `t`'s first. -/
def accs (g t : ℕ) : sProp 𝕄 :=
  iprop(accSt c d g t ∗ accSt c d g (t + 1) ∗ accSt c d g (t + 2) ∗ accSt c d g (t + 3) ∗ accSt c d g (t + 4) ∗ accSt c d g (t + 5) ∗ accSt c d g (t + 6)
    ∗ accSt c d g (t + 7) ∗ accSt c d g (t + 8) ∗ accSt c d g (t + 9))
theorem accSt_ne {g j : ℕ} (h : j ≠ g) : accSt c d g j = accSt c d (g + 1) j := by
  unfold accSt
  by_cases h' : j < g ∧ j < 48
  · have h2 : j < g + 1 ∧ j < 48 := by omega
    rw [if_pos h', if_pos h2]
  · have h2 : ¬ (j < g + 1 ∧ j < 48) := by omega
    rw [if_neg h', if_neg h2]
theorem accSt_out {g j : ℕ} (h : ¬ (j < g ∧ j < 48)) (h' : 10 ≤ j) : accSt c d g j = outFl c d (j - 10) := by
  unfold accSt; rw [if_neg h, if_pos h']
theorem accSt_grad {g j : ℕ} (h : j < g) (h' : j < 48) : accSt c d g j = gradFl c d j := by
  unfold accSt; rw [if_pos ⟨h, h'⟩]
theorem accSt_idle {g j : ℕ} (h : g ≤ j) (h' : j < 10) : accSt c d g j = accIdle c d (j % 10) := by
  unfold accSt; rw [if_neg (by omega), if_neg (by omega)]
theorem accSt_same {g j : ℕ} (h : 48 ≤ j) : accSt c d g j = accSt c d (g + 1) j := by
  rw [accSt_out c d (by omega) (by omega), accSt_out c d (by omega) (by omega)]

end Cert.KernelIdeal.Hand
-- ==== Proof.Chunk2.lean ====
/-

  The parts of the chunk loop's region that wait for a chunk, read its scales, multiply its blocks and start the copies
  of the chunk that follows into its slot.

-/
module

public import proofs.«01_k».proof.Proof.Chunk

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

theorem sc_x (e k s : ℕ) (hs : s < 5) {off : Fin 3 → ℕ} (inb : ∀ a, off a + S1x8x896.size a ≤ S5x8x896.size a) (ho : off = ![s, 0, 0]) (i : S8x896.Idx) :
    truncf .bf16 (shapeCast S8x896 (bSX.view.readAt (Elt F) (Rect.unit (s := S5x8x896) off S1x8x896.size inb).toLoadRect (SXV c d e k)) shapeCasts_S1x8x896_S8x896 : FVec F S8x896 .f32) bitsLt_bf16_f32 i
      = FloatOps.truncf (φ := .f32) .bf16 (by decide) (SXV c d e k (ix3 (0 : Fin 5) (i 0) (i 1) : S5x8x896.Idx)) := by
  obtain ⟨a, b, rfl⟩ : ∃ a b, i = ix2 a b := ⟨i 0, i 1, by funext x; match x with | ⟨0, _⟩ => rfl | ⟨1, _⟩ => rfl⟩
  exact congrArg (FloatOps.truncf (φ := .f32) .bf16 (by decide)) ((shapeCast_1ab_ab_apply _ _ a b).trans (ld_bSX c d s e k hs inb ho _))
theorem sc_y (e k s : ℕ) (hs : s < 5) {off : Fin 3 → ℕ} (inb : ∀ a, off a + S1x8x960.size a ≤ S5x8x960.size a) (ho : off = ![s, 0, 0]) (i : S960x8.Idx) :
    truncf .bf16 (transpose S960x8 [1, 0] (shapeCast S8x960 (bSY.view.readAt (Elt F) (Rect.unit (s := S5x8x960) off S1x8x960.size inb).toLoadRect (SYV c d e k)) shapeCasts_S1x8x960_S8x960 : FVec F S8x960 .f32) transposes_S8x960_p1_0_S960x8) bitsLt_bf16_f32 i
      = FloatOps.truncf (φ := .f32) .bf16 (by decide) (SYV c d e k (ix3 (0 : Fin 5) (i 1) (i 0) : S5x8x960.Idx)) := by
  obtain ⟨a, b, rfl⟩ : ∃ a b, i = ix2 a b := ⟨i 0, i 1, by funext x; match x with | ⟨0, _⟩ => rfl | ⟨1, _⟩ => rfl⟩
  refine congrArg (FloatOps.truncf (φ := .f32) .bf16 (by decide)) ((transpose_apply _ _ _ _ (ix2 b a) ?_).trans ((shapeCast_1ab_ab_apply _ _ b a).trans (ld_bSY c d s e k hs inb ho _)))
  intro x
  match x with | ⟨0, _⟩ => rfl | ⟨1, _⟩ => rfl
theorem sc_i (i : S1x128.Idx) : iota .tc S1x128 32 [1] iota_S1x128_d1_w32 i = BitVec.ofNat 32 (i 1).val := iota_single_apply ..

theorem part8_ok (k0_t7 : Fin k0_t7_loop.trips) (v304 : BitVec 32) (k0_t8 : Fin (k0_t8_loop v304).trips) (s0 : BitVec 32) (e k s : ℕ)
    (hp : PW (W (d.n e)) (Scf.iv 0#32 1#32 k0_t8) (Scf.iv 0#32 1#32 k0_t7) s0 (d.n e) e k s)
    (h11 : k0_chk11 k0_t7 v304) (h12 : k0_chk12 s0) (h13 : k0_chk13 k0_t7 v304 k0_t8 s0 (W (d.n e))) (a b v374 v379 v381 : BitVec 32) (v382 : BitVec 1) {Q : _ → sProp 𝕄} :
    iprop(tokIss c d s e k 4 ∗ owesE (F := F) c) ⊢ iprop((∀ r, iprop(tokWait c d s e k 2 ∗ owesE (F := F) c) -∗ Q r)
      -∗ WP c 𝒱 (k0_part8 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 k0_t7 v304 h11 k0_t8 s0 h12 (Scf.iv 0#32 1#32 k0_t8) (W (d.n e)) h13 a b v374 v379 v381 v382) Q) := by
  unfold k0_part8
  iintro H Hk
  iapply (wp_waitScales c d 𝒱 s e k hp.ls hp.oT hp.oT) $$ H
  iintro H
  iapply (wp_waitBit c d 𝒱 s e k 0 hp.ls (by decide) rfl (hp.cnd 0 (by decide)) hp.oT hp.oT) $$ H
  iintro H
  iapply (wp_waitBit c d 𝒱 s e k 1 hp.ls (by decide) rfl (hp.cnd 1 (by decide)) hp.oT hp.oT) $$ H
  iintro H
  iapply (WP_pure c 𝒱)
  iapply Hk $$ H

theorem part9_ok (k0_t7 : Fin k0_t7_loop.trips) (v304 : BitVec 32) (k0_t8 : Fin (k0_t8_loop v304).trips) (s0 : BitVec 32) (e k s : ℕ)
    (hp : PW (W (d.n e)) (Scf.iv 0#32 1#32 k0_t8) (Scf.iv 0#32 1#32 k0_t7) s0 (d.n e) e k s)
    (h12 : k0_chk12 s0) (h13 : k0_chk13 k0_t7 v304 k0_t8 s0 (W (d.n e))) (h14 : k0_chk14 v304 k0_t8 s0 (W (d.n e))) (a v416 v417 z : BitVec 32) {Q : _ → sProp 𝕄} :
    iprop(tokWait c d s e k 2 ∗ owesE (F := F) c ∗ prepSt c d e k (dec (nb (d.n e) k) 0)) ⊢ iprop((∀ v429 v434 v435 w,
        ⌜(∀ i : S8x896.Idx, v429 i = FloatOps.truncf (φ := .f32) .bf16 (by decide) (SXV c d e k (ix3 (0 : Fin 5) (i 0) (i 1) : S5x8x896.Idx)))
          ∧ (∀ i : S960x8.Idx, v434 i = FloatOps.truncf (φ := .f32) .bf16 (by decide) (SYV c d e k (ix3 (0 : Fin 5) (i 1) (i 0) : S5x8x960.Idx)))
          ∧ (∀ i : S1x128.Idx, v435 i = BitVec.ofNat 32 (i 1).val)⌝
        -∗ iprop(owesE (F := F) c ∗ prepSt c d e k (dec (nb (d.n e) k) 2) ∗ landed c d s e k ∗ scl c d s e k ∗ readyRest c d s e k) -∗ Q ⟨v429, v434, v435, w⟩)
      -∗ WP c 𝒱 (k0_part9 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 k0_t7 (W (d.n e)) v304 k0_t8 s0 h12 (Scf.iv 0#32 1#32 k0_t8) (W (d.n e)) h14 (nbW (W (d.n e)) (Scf.iv 0#32 1#32 k0_t8)) (W (d.n e)) h13 a v416 v417 z) Q) := by
  have hnb8 := nb_le (d.n e) k
  have hcM : ∀ b, b < 8 → (condW (Scalar.cmpi .sgt (nbW (W (d.n e)) (Scf.iv 0#32 1#32 k0_t8)) (W b)) = 1#1 ↔ b < nb (d.n e) k) := fun b hb => by
    rw [hp.nbw]; exact cond_gt (by omega) (by omega)
  have hcZ : ∀ b, b < 8 → (condW (Scalar.andi (Scalar.cmpi .eq (nbW (W (d.n e)) (Scf.iv 0#32 1#32 k0_t8)) (W b)) (BitVec.ofNat 1 (b % 2))) = 1#1 ↔ nb (d.n e) k = b ∧ b % 2 = 1) := fun b hb => by
    rw [hp.nbw]; exact cond_zero (by omega) hb
  have hox : ∀ b, (![s0.toNat, 128 * b, 0] : Fin 3 → ℕ) = ![s, 128 * b, 0] := fun b => by rw [hp.hs]
  have hoy : ∀ b, (![s0.toNat, 0, 128 * b] : Fin 3 → ℕ) = ![s, 0, 128 * b] := fun b => by rw [hp.hs]
  have hmw : ∀ b, b < 8 → Scalar.addi (Scalar.muli (Scf.iv 0#32 1#32 k0_t8) 1024#32) (W (128 * b)) = W (k * 1024 + 128 * b) := fun b hb => mask_word hp.hk hp.lk8 b hb
  unfold k0_part9
  iintro ⟨H, HO, HP⟩ Hk
  iapply (wp_waitBit c d 𝒱 s e k 2 hp.ls (by decide) rfl (hp.cnd 2 (by decide)) hp.oT hp.oT) $$ [H HO]
  · isplitl [H] <;> iassumption
  iintro ⟨H, HO⟩
  iapply (wp_waitBit c d 𝒱 s e k 3 hp.ls (by decide) rfl (hp.cnd 3 (by decide)) hp.oT hp.oT) $$ [H HO]
  · isplitl [H] <;> iassumption
  iintro ⟨H, HO⟩
  unfold WP
  imod (tok_ready c d s e k) $$ H with H
  ihave H := (ready_split c d s e k) $$ H
  unfold scl
  icases H with ⟨HL, ⟨HX, HY⟩, HR⟩
  have hs0 : (k0_off143 s0) = ![s, 0, 0] := (congrArg (fun x => ![x, 0, 0]) hp.hs : (![s0.toNat, 0, 0] : Fin 3 → ℕ) = _)
  have hs0' : (k0_off144 s0) = ![s, 0, 0] := (congrArg (fun x => ![x, 0, 0]) hp.hs : (![s0.toNat, 0, 0] : Fin 3 → ℕ) = _)
  iapply (wp_load 𝒱 (c : Thread nD τ) none Set.univ (m := bSX) (S := wSX s) (f := SXV c d e k) (sub_bSX s (k0_off143_inb s0 h12) hs0)) $$ HX
  iintro HX
  iapply (wp_load 𝒱 (c : Thread nD τ) none Set.univ (m := bSY) (S := wSY s) (f := SYV c d e k) (sub_bSY s (k0_off144_inb s0 h12) hs0')) $$ HY
  iintro HY
  have h429 := sc_x c d e k s hp.ls (k0_off143_inb s0 h12) hs0
  have h434 := sc_y c d e k s hp.ls (k0_off144_inb s0 h12) hs0'
  have h435 := sc_i
  iapply (wp_prepMul c d 𝒱 e k s 0 (dec (nb (d.n e) k) 0) hp.ls (by decide) hp.lk8 (fun h => dec_lt h) _ h429 _ h434 _ h435 (hcM 0 (by decide)) (hox 0) (hoy 0) (hmw 0 (by decide)) rfl rfl rfl) $$ [HP HL]
  · isplitl [HP] <;> iassumption
  iintro ⟨HP, HL⟩
  iapply (wp_prepZero c d 𝒱 e k 0 _ (by decide) (fun h => dec_eq h) (hcZ 0 (by decide)) rfl rfl) $$ HP
  iintro HP
  irevert HP
  rw [dec_step]
  iintro HP
  iapply (wp_prepMul c d 𝒱 e k s 1 _ hp.ls (by decide) hp.lk8 (fun h => dec_lt h) _ h429 _ h434 _ h435 (hcM 1 (by decide)) (hox 1) (hoy 1) (hmw 1 (by decide)) rfl rfl rfl) $$ [HP HL]
  · isplitl [HP] <;> iassumption
  iintro ⟨HP, HL⟩
  iapply (wp_prepZero c d 𝒱 e k 1 _ (by decide) (fun h => dec_eq h) (hcZ 1 (by decide)) rfl rfl) $$ HP
  iintro HP
  irevert HP
  rw [dec_step]
  iintro HP
  iapply (WP_pure c 𝒱)
  iapply Hk $$ [] [HO HP HL HX HY HR]
  · ipureintro
    exact ⟨h429, h434, h435⟩
  · isplitl [HO]; · iexact HO
    isplitl [HP]; · iexact HP
    isplitl [HL]; · iexact HL
    isplitl [HX HY]
    · isplitl [HX] <;> iassumption
    iexact HR

set_option maxHeartbeats 4000000 in
theorem part10_ok (k0_t7 : Fin k0_t7_loop.trips) (v304 : BitVec 32) (k0_t8 : Fin (k0_t8_loop v304).trips) (s0 : BitVec 32) (e k s : ℕ)
    (hp : PW (W (d.n e)) (Scf.iv 0#32 1#32 k0_t8) (Scf.iv 0#32 1#32 k0_t7) s0 (d.n e) e k s)
    (v429 : FVec F S8x896 .bf16) (v434 : FVec F S960x8 .bf16) (v435 : IVec S1x128 32)
    (h429 : ∀ i : S8x896.Idx, v429 i = FloatOps.truncf (φ := .f32) .bf16 (by decide) (SXV c d e k (ix3 (0 : Fin 5) (i 0) (i 1) : S5x8x896.Idx)))
    (h434 : ∀ i : S960x8.Idx, v434 i = FloatOps.truncf (φ := .f32) .bf16 (by decide) (SYV c d e k (ix3 (0 : Fin 5) (i 1) (i 0) : S5x8x960.Idx)))
    (h435 : ∀ i : S1x128.Idx, v435 i = BitVec.ofNat 32 (i 1).val)
    (h14 : k0_chk14 v304 k0_t8 s0 (W (d.n e))) (v451 : BitVec 32) {Q : _ → sProp 𝕄} :
    iprop(prepSt c d e k (dec (nb (d.n e) k) 2) ∗ landed c d s e k) ⊢ iprop((∀ r, ⌜r = 6#32⌝ -∗
        iprop(prepSt c d e k (if 6 < nb (d.n e) k then 6 + 1 else dec (nb (d.n e) k) 6) ∗ landed c d s e k) -∗ Q r)
      -∗ WP c 𝒱 (k0_part10 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 (W (d.n e)) v304 k0_t8 s0 (Scf.iv 0#32 1#32 k0_t8) (W (d.n e)) h14 (nbW (W (d.n e)) (Scf.iv 0#32 1#32 k0_t8)) v429 v434 v435 v451) Q) := by
  have hnb8 := nb_le (d.n e) k
  have hcM : ∀ b, b < 8 → (condW (Scalar.cmpi .sgt (nbW (W (d.n e)) (Scf.iv 0#32 1#32 k0_t8)) (W b)) = 1#1 ↔ b < nb (d.n e) k) := fun b hb => by
    rw [hp.nbw]; exact cond_gt (by omega) (by omega)
  have hcZ : ∀ b, b < 8 → (condW (Scalar.andi (Scalar.cmpi .eq (nbW (W (d.n e)) (Scf.iv 0#32 1#32 k0_t8)) (W b)) (BitVec.ofNat 1 (b % 2))) = 1#1 ↔ nb (d.n e) k = b ∧ b % 2 = 1) := fun b hb => by
    rw [hp.nbw]; exact cond_zero (by omega) hb
  have hox : ∀ b, (![s0.toNat, 128 * b, 0] : Fin 3 → ℕ) = ![s, 128 * b, 0] := fun b => by rw [hp.hs]
  have hoy : ∀ b, (![s0.toNat, 0, 128 * b] : Fin 3 → ℕ) = ![s, 0, 128 * b] := fun b => by rw [hp.hs]
  have hmw : ∀ b, b < 8 → Scalar.addi (Scalar.muli (Scf.iv 0#32 1#32 k0_t8) 1024#32) (W (128 * b)) = W (k * 1024 + 128 * b) := fun b hb => mask_word hp.hk hp.lk8 b hb
  unfold k0_part10
  iintro ⟨HP, HL⟩ Hk
  iapply (wp_prepMul c d 𝒱 e k s 2 _ hp.ls (by decide) hp.lk8 (fun h => dec_lt h) v429 h429 v434 h434 v435 h435 (hcM 2 (by decide)) (hox 2) (hoy 2) (hmw 2 (by decide)) rfl rfl rfl) $$ [HP HL]
  · isplitl [HP] <;> iassumption
  iintro ⟨HP, HL⟩
  iapply (wp_prepZero c d 𝒱 e k 2 _ (by decide) (fun h => dec_eq h) (hcZ 2 (by decide)) rfl rfl) $$ HP
  iintro HP
  irevert HP
  rw [dec_step]
  iintro HP
  iapply (wp_prepMul c d 𝒱 e k s 3 _ hp.ls (by decide) hp.lk8 (fun h => dec_lt h) v429 h429 v434 h434 v435 h435 (hcM 3 (by decide)) (hox 3) (hoy 3) (hmw 3 (by decide)) rfl rfl rfl) $$ [HP HL]
  · isplitl [HP] <;> iassumption
  iintro ⟨HP, HL⟩
  iapply (wp_prepZero c d 𝒱 e k 3 _ (by decide) (fun h => dec_eq h) (hcZ 3 (by decide)) rfl rfl) $$ HP
  iintro HP
  irevert HP
  rw [dec_step]
  iintro HP
  iapply (wp_prepMul c d 𝒱 e k s 4 _ hp.ls (by decide) hp.lk8 (fun h => dec_lt h) v429 h429 v434 h434 v435 h435 (hcM 4 (by decide)) (hox 4) (hoy 4) (hmw 4 (by decide)) rfl rfl rfl) $$ [HP HL]
  · isplitl [HP] <;> iassumption
  iintro ⟨HP, HL⟩
  iapply (wp_prepZero c d 𝒱 e k 4 _ (by decide) (fun h => dec_eq h) (hcZ 4 (by decide)) rfl rfl) $$ HP
  iintro HP
  irevert HP
  rw [dec_step]
  iintro HP
  iapply (wp_prepMul c d 𝒱 e k s 5 _ hp.ls (by decide) hp.lk8 (fun h => dec_lt h) v429 h429 v434 h434 v435 h435 (hcM 5 (by decide)) (hox 5) (hoy 5) (hmw 5 (by decide)) rfl rfl rfl) $$ [HP HL]
  · isplitl [HP] <;> iassumption
  iintro ⟨HP, HL⟩
  iapply (wp_prepZero c d 𝒱 e k 5 _ (by decide) (fun h => dec_eq h) (hcZ 5 (by decide)) rfl rfl) $$ HP
  iintro HP
  irevert HP
  rw [dec_step]
  iintro HP
  iapply (wp_prepMul c d 𝒱 e k s 6 _ hp.ls (by decide) hp.lk8 (fun h => dec_lt h) v429 h429 v434 h434 v435 h435 (hcM 6 (by decide)) (hox 6) (hoy 6) (hmw 6 (by decide)) rfl rfl rfl) $$ [HP HL]
  · isplitl [HP] <;> iassumption
  iintro ⟨HP, HL⟩
  iapply (WP_pure c 𝒱)
  iapply Hk $$ [] [HP HL]
  · ipureintro; rfl
  isplitl [HP] <;> iassumption

/-- A slot after its next chunk was asked for: on its way, or left free when there is none. -/
def tokSt (s e k : ℕ) : sProp 𝕄 := if e < 48 then tokIss c d s e k 4 else tokFree c d s

set_option maxHeartbeats 4000000 in
theorem part11_ok (k0_t7 : Fin k0_t7_loop.trips) (v304 : BitVec 32) (k0_t8 : Fin (k0_t8_loop v304).trips) (s0 : BitVec 32) (e k s : ℕ)
    (hp : PW (W (d.n e)) (Scf.iv 0#32 1#32 k0_t8) (Scf.iv 0#32 1#32 k0_t7) s0 (d.n e) e k s)
    (v429 : FVec F S8x896 .bf16) (v434 : FVec F S960x8 .bf16) (v435 : IVec S1x128 32)
    (h429 : ∀ i : S8x896.Idx, v429 i = FloatOps.truncf (φ := .f32) .bf16 (by decide) (SXV c d e k (ix3 (0 : Fin 5) (i 0) (i 1) : S5x8x896.Idx)))
    (h434 : ∀ i : S960x8.Idx, v434 i = FloatOps.truncf (φ := .f32) .bf16 (by decide) (SYV c d e k (ix3 (0 : Fin 5) (i 1) (i 0) : S5x8x960.Idx)))
    (h435 : ∀ i : S1x128.Idx, v435 i = BitVec.ofNat 32 (i 1).val)
    (h14 : k0_chk14 v304 k0_t8 s0 (W (d.n e))) (ew kw : BitVec 32) (h16 : k0_chk16 ew kw) (h15 : k0_chk15 s0 ew) (pe pk : ℕ)
    (hpe : ew = W pe) (hpe48 : pe ≤ 48)
    (hq : k0_cond53 ew = 1#1 → PW (W (d.n pe)) kw (Scalar.minsi ew 47#32) s0 (d.n pe) pe pk s) {Q : _ → sProp 𝕄} :
    iprop(cnt (F := F) c m0 d.n ∗ prepSt c d e k (if 6 < nb (d.n e) k then 6 + 1 else dec (nb (d.n e) k) 6) ∗ landed c d s e k ∗ scl c d s e k ∗ readyRest c d s e k)
    ⊢ iprop((∀ r, ⌜r = ⟨Scalar.cmpi .slt ew 48#32, Scalar.cmpi .sge (Scalar.addi kw 1#32) (nchW (W (d.n (min pe 47))))⟩⌝
        -∗ iprop(cnt (F := F) c m0 d.n ∗ prepSt c d e k (dec (nb (d.n e) k) 8) ∗ tokSt c d s pe pk) -∗ Q r)
      -∗ WP c 𝒱 (k0_part11 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 (W (d.n e)) v304 k0_t8 s0 ew kw h16 h15 (Scf.iv 0#32 1#32 k0_t8) (W (d.n e)) h14 (nbW (W (d.n e)) (Scf.iv 0#32 1#32 k0_t8)) v429 v434 v435 6#32) Q) := by
  have hnb8 := nb_le (d.n e) k
  have hcM : ∀ b, b < 8 → (condW (Scalar.cmpi .sgt (nbW (W (d.n e)) (Scf.iv 0#32 1#32 k0_t8)) (W b)) = 1#1 ↔ b < nb (d.n e) k) := fun b hb => by
    rw [hp.nbw]; exact cond_gt (by omega) (by omega)
  have hcZ : ∀ b, b < 8 → (condW (Scalar.andi (Scalar.cmpi .eq (nbW (W (d.n e)) (Scf.iv 0#32 1#32 k0_t8)) (W b)) (BitVec.ofNat 1 (b % 2))) = 1#1 ↔ nb (d.n e) k = b ∧ b % 2 = 1) := fun b hb => by
    rw [hp.nbw]; exact cond_zero (by omega) hb
  have hox : ∀ b, (![s0.toNat, 128 * b, 0] : Fin 3 → ℕ) = ![s, 128 * b, 0] := fun b => by rw [hp.hs]
  have hoy : ∀ b, (![s0.toNat, 0, 128 * b] : Fin 3 → ℕ) = ![s, 0, 128 * b] := fun b => by rw [hp.hs]
  have hmw : ∀ b, b < 8 → Scalar.addi (Scalar.muli (Scf.iv 0#32 1#32 k0_t8) 1024#32) (W (128 * b)) = W (k * 1024 + 128 * b) := fun b hb => mask_word hp.hk hp.lk8 b hb
  unfold k0_part11
  iintro ⟨Hc, HP, HL, HS, HR⟩ Hk
  iapply (wp_prepZero c d 𝒱 e k 6 _ (by decide) (fun h => dec_eq h) (hcZ 6 (by decide)) rfl rfl) $$ HP
  iintro HP
  irevert HP
  rw [dec_step]
  iintro HP
  iapply (wp_prepMul c d 𝒱 e k s 7 _ hp.ls (by decide) hp.lk8 (fun h => dec_lt h) v429 h429 v434 h434 v435 h435 (hcM 7 (by decide)) (hox 7) (hoy 7) (hmw 7 (by decide)) rfl rfl rfl) $$ [HP HL]
  · isplitl [HP] <;> iassumption
  iintro ⟨HP, HL⟩
  iapply (wp_prepZero c d 𝒱 e k 7 _ (by decide) (fun h => dec_eq h) (hcZ 7 (by decide)) rfl rfl) $$ HP
  iintro HP
  irevert HP
  rw [dec_step]
  iintro HP
  ihave HT := (ready_join c d s e k) $$ [HL HS HR]
  · isplitl [HL]; · iexact HL
    isplitl [HS] <;> iassumption
  ihave HT := (tok_free c d s e k) $$ HT
  have h53 : k0_cond53 ew = 1#1 ↔ pe < 48 := by
    show condW (Scalar.cmpi .slt ew 48#32) = 1#1 ↔ _
    rw [hpe, show (48#32 : BitVec 32) = W 48 from rfl, condW_eq, sltW (by omega) (by omega), one_iff, decide_eq_true_iff]
  have hmin : ![(Scalar.minsi ew 47#32).toNat] = ![min pe 47] := by
    rw [hpe, show (47#32 : BitVec 32) = W 47 from rfl, minW (by omega) (by omega), W_toNat (by omega)]
  by_cases h : pe < 48
  · have hp' := hq (h53.2 h)
    iapply (WP_ifp c 𝒱 (h53.2 h))
    iapply (WP_bind c 𝒱)
    iapply (part6_ok c d 𝒱 m0 hm0 s pe pk s0 ew kw h16 h15 _ (h53.2 h) hp') $$ [Hc HT]
    · isplitl [Hc] <;> iassumption
    iintro %r %hr ⟨Hc, HT⟩
    obtain ⟨v535, h17, v556, v571, c8⟩ := r
    have h1 : v535 = W (d.n pe) := hr
    subst h1
    iapply (wp_bit c d 𝒱 s pe pk 0 hp'.ls h (by decide) rfl hp'.nb8 (hp'.cnd 0 (by decide)) hp'.oT hp'.oT (fun _ => hp'.bX 0 (by decide)) (fun _ => hp'.mX 0 (by decide)) (fun _ => hp'.bDY 0 (by decide)) (fun _ => hp'.mDY 0 (by decide))) $$ HT
    iintro HT
    iapply (wp_bit c d 𝒱 s pe pk 1 hp'.ls h (by decide) rfl hp'.nb8 (hp'.cnd 1 (by decide)) hp'.oT hp'.oT (fun _ => hp'.bX 1 (by decide)) (fun _ => hp'.mX 1 (by decide)) (fun _ => hp'.bDY 1 (by decide)) (fun _ => hp'.mDY 1 (by decide))) $$ HT
    iintro HT
    iapply (wp_bit c d 𝒱 s pe pk 2 hp'.ls h (by decide) rfl hp'.nb8 (hp'.cnd 2 (by decide)) hp'.oT hp'.oT (fun _ => hp'.bX 2 (by decide)) (fun _ => hp'.mX 2 (by decide)) (fun _ => hp'.bDY 2 (by decide)) (fun _ => hp'.mDY 2 (by decide))) $$ HT
    iintro HT
    iapply (wp_bit c d 𝒱 s pe pk 3 hp'.ls h (by decide) rfl hp'.nb8 (hp'.cnd 3 (by decide)) hp'.oT hp'.oT (fun _ => hp'.bX 3 (by decide)) (fun _ => hp'.mX 3 (by decide)) (fun _ => hp'.bDY 3 (by decide)) (fun _ => hp'.mDY 3 (by decide))) $$ HT
    iintro HT
    iapply (wp_cnt c 𝒱 (min pe 47) hmin) $$ Hc
    iintro Hc
    iapply (WP_pure c 𝒱)
    iapply Hk $$ [] [Hc HP HT]
    · ipureintro; rfl
    unfold tokSt
    rw [if_pos h]
    iframe
  · iapply (WP_ifn c 𝒱 (fun hh => h (h53.1 hh)))
    iapply (wp_cnt c 𝒱 (min pe 47) hmin) $$ Hc
    iintro Hc
    iapply (WP_pure c 𝒱)
    iapply Hk $$ [] [Hc HP HT]
    · ipureintro; rfl
    unfold tokSt
    rw [if_neg h]
    iframe

end Cert.KernelIdeal.Hand
-- ==== Proof.Sched.lean ====
/-

  The order in which the kernel goes through the chunks: every chunk of every expert with tokens, one after the other.

-/
module

public import proofs.«01_k».proof.Proof.Chunk2

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- The position after a chunk's. -/
def nxt (n : ℕ → ℕ) (q : ℕ × ℕ) : ℕ × ℕ :=
  (if q.1 < 48 ∧ nch (n (min q.1 47)) ≤ q.2 + 1 then nl n (q.1 + 1) else q.1, if nch (n (min q.1 47)) ≤ q.2 + 1 then 0 else q.2 + 1)
def sched (n : ℕ → ℕ) : ℕ → ℕ × ℕ
  | 0 => (nl n 0, 0)
  | p + 1 => nxt n (sched n p)

theorem nch_pos {n : ℕ} (h : n ≠ 0) : 0 < nch n := by unfold nch; omega
theorem nch_le {n : ℕ} (h : n ≤ 8192) : nch n ≤ 8 := by unfold nch; omega
theorem nch_mul {n k : ℕ} (h : k < nch n) : k * 1024 ≤ n := by unfold nch at h; omega

structure Wf (n : ℕ → ℕ) (q : ℕ × ℕ) : Prop where
  le : q.1 ≤ 48
  k7 : q.2 < 8
  live : q.1 < 48 → q.2 < nch (n q.1)

theorem wf_nl {n : ℕ → ℕ} {lo : ℕ} (h : lo ≤ 48) : Wf n (nl n lo, 0) :=
  ⟨(nl_le n h).1, Nat.zero_lt_succ 7, fun hl => nch_pos (nl_live n h hl)⟩
theorem wf_nxt {n : ℕ → ℕ} (hn : ∀ e, n e ≤ 8192) {q : ℕ × ℕ} (h : Wf n q) : Wf n (nxt n q) := by
  obtain ⟨h1, h2, h3⟩ := h
  have h8 := nch_le (hn (min q.1 47))
  unfold nxt
  by_cases hl : nch (n (min q.1 47)) ≤ q.2 + 1
  · by_cases hq : q.1 < 48
    · rw [if_pos ⟨hq, hl⟩, if_pos hl]
      exact wf_nl (by omega)
    · rw [if_neg (fun hh => hq hh.1), if_pos hl]
      exact ⟨h1, Nat.zero_lt_succ 7, fun hh => absurd hh hq⟩
  · rw [if_neg (fun hh => hl hh.2), if_neg hl]
    refine ⟨h1, by show q.2 + 1 < 8; omega, fun hh => ?_⟩
    have he : min q.1 47 = q.1 := by have : q.1 < 48 := hh; omega
    rw [he] at hl
    show q.2 + 1 < nch (n q.1)
    omega
theorem wf_sched {n : ℕ → ℕ} (hn : ∀ e, n e ≤ 8192) : ∀ p, Wf n (sched n p)
  | 0 => wf_nl (by omega)
  | p + 1 => wf_nxt hn (wf_sched hn p)

/-- Where the position is before an expert's first chunk. -/
def AtE (n : ℕ → ℕ) (e p : ℕ) : Prop := (sched n p).1 = nl n e ∧ ((sched n p).1 < 48 → (sched n p).2 = 0)
/-- Where it is before chunk `k` of expert `e`. -/
def AtK (n : ℕ → ℕ) (e k p : ℕ) : Prop := if k < nch (n e) then sched n p = (e, k) else AtE n (e + 1) p

theorem atE_zero (n : ℕ → ℕ) : AtE n 0 0 := ⟨rfl, fun _ => rfl⟩
theorem atK_zero {n : ℕ → ℕ} {e p : ℕ} (he : e < 48) (h : AtE n e p) : AtK n e 0 p := by
  unfold AtK
  by_cases hn : n e = 0
  · rw [if_neg (by simp [nch, hn])]
    unfold AtE at h ⊢
    rw [nl_next n he hn] at h
    exact h
  · rw [if_pos (nch_pos hn)]
    have h1 := h.1
    rw [nl_self n he hn] at h1
    have h2 := h.2 (by omega)
    exact Prod.ext h1 h2
theorem atK_succ {n : ℕ → ℕ} {e k p : ℕ} (he : e < 48) (hk : k < nch (n e)) (h : AtK n e k p) : AtK n e (k + 1) (p + 1) := by
  unfold AtK at h ⊢
  rw [if_pos hk] at h
  have hm : min e 47 = e := by omega
  by_cases h' : k + 1 < nch (n e)
  · rw [if_pos h']
    show nxt n (sched n p) = _
    rw [h]
    unfold nxt
    rw [if_neg (by simp only [hm]; omega), if_neg (by simp only [hm]; omega)]
  · rw [if_neg h']
    have hs : sched n (p + 1) = (nl n (e + 1), 0) := by
      show nxt n (sched n p) = _
      rw [h]
      unfold nxt
      rw [if_pos (by simp only [hm]; omega), if_pos (by simp only [hm]; omega)]
    unfold AtE
    rw [hs]
    exact ⟨rfl, fun _ => rfl⟩
theorem atK_last {n : ℕ → ℕ} {e p : ℕ} (h : AtK n e (nch (n e)) p) : AtE n (e + 1) p := by
  unfold AtK at h
  rwa [if_neg (by omega)] at h

/-- The words of a copy's position. -/
theorem pw_cons {n : ℕ → ℕ} (hn : ∀ e, n e ≤ 8192) {e k s : ℕ} (he : e < 48) (hk : k < nch (n e)) (hs : s < 5) {kw ew : BitVec 32} (hkw : kw = W k) (hew : ew = W e) :
    PW (W (n e)) kw ew (W s) (n e) e k s where
  hn := rfl
  hk := hkw
  he := by rw [hew, W_toNat (by omega)]
  hs := W_toNat (by omega)
  ln := hn e
  lk := nch_mul hk
  lk8 := by have := nch_le (hn e); omega
  le := he
  ls := hs
theorem pw_sched {n : ℕ → ℕ} (hn : ∀ e, n e ≤ 8192) {q : ℕ × ℕ} (hq : Wf n q) {s : ℕ} (hs : s < 5) {ew : BitVec 32} (hew : ew = W q.1) (h : q.1 < 48) :
    PW (W (n q.1)) (W q.2) (Scalar.minsi ew 47#32) (W s) (n q.1) q.1 q.2 s := by
  refine pw_cons hn h (hq.live h) hs rfl ?_
  rw [hew, show (47#32 : BitVec 32) = W 47 from rfl, minW (by omega) (by omega)]
  congr 1; omega

/-- The words of the position after. -/
theorem last_word {n : ℕ → ℕ} (hn : ∀ e, n e ≤ 8192) {q : ℕ × ℕ} (hq : Wf n q) :
    Scalar.cmpi .sge (Scalar.addi (W q.2) 1#32) (nchW (W (n (min q.1 47)))) = BitVec.ofBool (decide (nch (n (min q.1 47)) ≤ q.2 + 1)) := by
  have := hq.k7; have h8 := nch_le (hn (min q.1 47))
  rw [show (1#32 : BitVec 32) = W 1 from rfl, addW (by omega), nchW_eq (hn _), sgeW (by omega) (by omega)]
theorem k_word {n : ℕ → ℕ} (hn : ∀ e, n e ≤ 8192) {q : ℕ × ℕ} (hq : Wf n q) :
    Scalar.select (Scalar.cmpi .sge (Scalar.addi (W q.2) 1#32) (nchW (W (n (min q.1 47))))) 0#32 (Scalar.addi (W q.2) 1#32) = W (nxt n q).2 := by
  have := hq.k7
  rw [last_word hn hq, show (1#32 : BitVec 32) = W 1 from rfl, addW (by omega)]
  unfold nxt
  by_cases h : nch (n (min q.1 47)) ≤ q.2 + 1
  · rw [decide_eq_true h, if_pos h]; rfl
  · rw [decide_eq_false h, if_neg h]; rfl
theorem e_cond {n : ℕ → ℕ} (hn : ∀ e, n e ≤ 8192) {q : ℕ × ℕ} (hq : Wf n q) :
    condW (Scalar.andi (Scalar.cmpi .slt (W q.1) 48#32) (Scalar.cmpi .sge (Scalar.addi (W q.2) 1#32) (nchW (W (n (min q.1 47)))))) = 1#1
      ↔ q.1 < 48 ∧ nch (n (min q.1 47)) ≤ q.2 + 1 := by
  have := hq.le
  rw [last_word hn hq, condW_eq, show (48#32 : BitVec 32) = W 48 from rfl, sltW (by omega) (by omega)]
  by_cases h : q.1 < 48 <;> by_cases h' : nch (n (min q.1 47)) ≤ q.2 + 1 <;> simp [h, h'] <;> decide
/-- The slot after. -/
theorem slot_word (p : ℕ) : Scalar.select (Scalar.cmpi .eq (Scalar.addi (W (p % 5)) 1#32) 5#32) 0#32 (Scalar.addi (W (p % 5)) 1#32) = W ((p + 1) % 5) := by
  have h : p % 5 < 5 := Nat.mod_lt _ (by decide)
  have h' : (p + 1) % 5 = (p % 5 + 1) % 5 := by omega
  rw [h']
  have : ∀ x : Fin 5, Scalar.select (Scalar.cmpi .eq (Scalar.addi (W x.val) 1#32) 5#32) 0#32 (Scalar.addi (W x.val) 1#32) = W ((x.val + 1) % 5) := by decide
  exact this ⟨p % 5, h⟩

/-! ## The five slots -/

def tokAt (p s : ℕ) : sProp 𝕄 := tokSt c d (s % 5) (sched d.n p).1 (sched d.n p).2
/-- Position `p` and the four after it are under way. -/
def toks (p : ℕ) : sProp 𝕄 := iprop(tokAt c d p p ∗ tokAt c d (p + 1) (p + 1) ∗ tokAt c d (p + 2) (p + 2) ∗ tokAt c d (p + 3) (p + 3) ∗ tokAt c d (p + 4) (p + 4))
def toks4 (p : ℕ) : sProp 𝕄 := iprop(tokAt c d (p + 1) (p + 1) ∗ tokAt c d (p + 2) (p + 2) ∗ tokAt c d (p + 3) (p + 3) ∗ tokAt c d (p + 4) (p + 4))
theorem toks_split {p e k : ℕ} (h : sched d.n p = (e, k)) (he : e < 48) : toks c d p ⊢ iprop(tokIss c d (p % 5) e k 4 ∗ toks4 c d p) := by
  unfold toks toks4
  iintro ⟨H, H1, H2, H3, H4⟩
  isplitl [H]
  · iapply (show tokAt c d p p ⊢ tokIss c d (p % 5) e k 4 by unfold tokAt tokSt; rw [h]; dsimp only; rw [if_pos he]) $$ H
  iframe
theorem toks_join (p : ℕ) : iprop(tokSt c d (p % 5) (sched d.n (p + 5)).1 (sched d.n (p + 5)).2 ∗ toks4 c d p) ⊢ toks c d (p + 1) := by
  unfold toks toks4
  iintro ⟨H, H1, H2, H3, H4⟩
  have h5 : (p + 5) % 5 = p % 5 := by omega
  isplitl [H1]; · iexact H1
  isplitl [H2]; · iexact H2
  isplitl [H3]; · iexact H3
  isplitl [H4]; · iexact H4
  iapply (show tokSt c d (p % 5) (sched d.n (p + 5)).1 (sched d.n (p + 5)).2 ⊢ tokAt c d (p + 1 + 4) (p + 1 + 4) by unfold tokAt; rw [show p + 1 + 4 = p + 5 from rfl, h5]) $$ H

end Cert.KernelIdeal.Hand
-- ==== Proof.Trip.lean ====
/-

  Words of one expert's trip: the slot of its accumulator, the number of its chunks; and the products of one chunk.

-/
module

public import proofs.«01_k».proof.Proof.Acc
public import proofs.«01_k».proof.Proof.Sched

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

/-- The slot of an expert's accumulator, as the kernel computes it. -/
def slotC (x : BitVec 32) : BitVec 32 :=
  let m := Scalar.select (Scalar.cmpi .eq 10#32 0#32) 1#32 10#32
  let r := Scalar.remsi x m
  Scalar.select (Scalar.andi (Scalar.xori (Scalar.cmpi .slt r 0#32) (Scalar.cmpi .slt m 0#32)) (Scalar.cmpi .ne r 0#32)) (Scalar.addi r m) r
theorem slotC_eq : ∀ t : Fin 64, slotC (W t.val) = W (t.val % 10) := by decide +kernel
theorem slotC_nat {t : ℕ} (ht : t < 64) : (slotC (W t)).toNat = t % 10 := by
  rw [slotC_eq ⟨t, ht⟩]; exact W_toNat (by have : t % 10 < 10 := Nat.mod_lt _ (by decide); show t % 10 < 2 ^ 31; omega)
theorem ivW (t : ℕ) (ht : t < 48) : Scf.iv 0#32 1#32 t = W t := by
  have : ∀ t : Fin 48, Scf.iv 0#32 1#32 t.val = W t.val := by decide
  exact this ⟨t, ht⟩
theorem t7_lt (t : Fin k0_t7_loop.trips) : t.val < 48 := t.isLt
theorem slot_iv (t : ℕ) (ht : t < 48) : (slotC (Scf.iv 0#32 1#32 t)).toNat = t % 10 := by rw [ivW t ht, slotC_nat (by omega)]
theorem slot_iv7 (t : ℕ) (ht : t < 48) : (slotC (Scalar.addi (Scf.iv 0#32 1#32 t) 7#32)).toNat = (t + 7) % 10 := by
  rw [ivW t ht, show (7#32 : BitVec 32) = W 7 from rfl, addW (by omega), slotC_nat (by omega)]
theorem iv_nat (t : ℕ) (ht : t < 48) : (Scf.iv 0#32 1#32 t).toNat = t := by rw [ivW t ht, W_toNat (by omega)]

/-! ## The chunks' loop -/

/-- The bound of the chunks' loop. -/
def ubW (x : BitVec 32) : BitVec 32 := Scalar.addi 0#32 (Scalar.muli (Scalar.divsi (Scalar.subi x 0#32) 1#32) 1#32)
theorem ub_facts : ∀ m : Fin 9, Scf.trips 0#32 (ubW (W m.val)) 1#32 = m.val ∧ Scf.OK 0#32 (ubW (W m.val)) 1#32
    ∧ Scf.trips (ubW (W m.val)) (Scalar.addi 0#32 (Scalar.subi (W m.val) 0#32)) 1#32 = 0
    ∧ Scf.OK (ubW (W m.val)) (Scalar.addi 0#32 (Scalar.subi (W m.val) 0#32)) 1#32 := by decide +kernel
theorem t8_trips {n : ℕ} (hn : n ≤ 8192) : (k0_t8_loop (W n)).trips = nch n := by
  show Scf.trips 0#32 (ubW (nchW (W n))) 1#32 = nch n
  rw [nchW_eq hn]
  exact (ub_facts ⟨nch n, by have := nch_le hn; omega⟩).1
theorem t8_OK {n : ℕ} (hn : n ≤ 8192) : (k0_t8_loop (W n)).OK := by
  show Scf.OK 0#32 (ubW (nchW (W n))) 1#32
  rw [nchW_eq hn]
  exact (ub_facts ⟨nch n, by have := nch_le hn; omega⟩).2.1
theorem t10_trips {n : ℕ} (hn : n ≤ 8192) : (k0_t10_loop (W n)).trips = 0 := by
  show Scf.trips (ubW (nchW (W n))) (Scalar.addi 0#32 (Scalar.subi (nchW (W n)) 0#32)) 1#32 = 0
  rw [nchW_eq hn]
  exact (ub_facts ⟨nch n, by have := nch_le hn; omega⟩).2.2.1
theorem t10_OK {n : ℕ} (hn : n ≤ 8192) : (k0_t10_loop (W n)).OK := by
  show Scf.OK (ubW (nchW (W n))) (Scalar.addi 0#32 (Scalar.subi (nchW (W n)) 0#32)) 1#32
  rw [nchW_eq hn]
  exact (ub_facts ⟨nch n, by have := nch_le hn; omega⟩).2.2.2
theorem iv8 (k : ℕ) (hk : k < 8) : (Scalar.muli (Scf.iv 0#32 1#32 k) 8#32).toNat = 8 * k := by
  have : ∀ k : Fin 8, (Scalar.muli (Scf.iv 0#32 1#32 k.val) 8#32).toNat = 8 * k.val := by decide
  exact this ⟨k, hk⟩

theorem chk11_ok (t7 : Fin k0_t7_loop.trips) {n : ℕ} (hn : n ≤ 8192) : k0_chk11 t7 (W n) := by
  have h8 := nch_le hn
  have h7 := t7_lt t7
  have hlt : ∀ k : Fin (k0_t8_loop (W n)).trips, k.val < 8 := fun k => lt_of_lt_of_le (Nat.lt_of_lt_of_eq k.isLt (t8_trips hn)) h8
  have hz : ∀ k : Fin (k0_t10_loop (W n)).trips, False := fun k => Nat.not_lt_zero _ (Nat.lt_of_lt_of_eq k.isLt (t10_trips hn))
  refine ⟨t8_OK hn, fun k => ?_, fun k a => ?_, fun k a => ?_, t10_OK hn, fun k => (hz k).elim, fun k => (hz k).elim, fun k => (hz k).elim⟩
  · show 8 ∣ (Scalar.muli (Scf.iv 0#32 1#32 k.val) 8#32).toNat
    rw [iv8 k.val (hlt k)]; omega
  · show (![(Scf.iv 0#32 1#32 t7.val).toNat, (Scalar.muli (Scf.iv 0#32 1#32 k.val) 8#32).toNat, 0] : Fin 3 → ℕ) a + S1x8x896.size a ≤ S48x64x896.size a
    rw [iv8 k.val (hlt k), iv_nat _ h7]
    have := hlt k
    match a with
    | ⟨0, _⟩ => show t7.val + 1 ≤ 48; omega
    | ⟨1, _⟩ => show 8 * k.val + 8 ≤ 64; omega
    | ⟨2, _⟩ => show 0 + 896 ≤ 896; omega
  · show (![(Scf.iv 0#32 1#32 t7.val).toNat, (Scalar.muli (Scf.iv 0#32 1#32 k.val) 8#32).toNat, 0] : Fin 3 → ℕ) a + S1x8x960.size a ≤ S48x64x960.size a
    rw [iv8 k.val (hlt k), iv_nat _ h7]
    have := hlt k
    match a with
    | ⟨0, _⟩ => show t7.val + 1 ≤ 48; omega
    | ⟨1, _⟩ => show 8 * k.val + 8 ≤ 64; omega
    | ⟨2, _⟩ => show 0 + 960 ≤ 960; omega

/-! ## Pieces of a chunk's trip -/

theorem WP_itp {α : Type} {Q : α → sProp 𝕄} {P : Prop} {dc : Decidable P} (h : P) {t e : PT F α} : WP c 𝒱 t Q ⊢ WP c 𝒱 (ite P t e) Q := by
  rw [if_pos h]
theorem WP_itn {α : Type} {Q : α → sProp 𝕄} {P : Prop} {dc : Decidable P} (h : ¬ P) {t e : PT F α} : WP c 𝒱 e Q ⊢ WP c 𝒱 (ite P t e) Q := by
  rw [if_neg h]

/-- The expert of the position after: looked for only behind an expert's last chunk. -/
theorem wp_nextE {α : Type} {Q : α → sProp 𝕄} {P : Prop} {dc : Decidable P} (q : ℕ × ℕ) (hq : q.1 ≤ 48) (hP : P ↔ q.1 < 48 ∧ nch (d.n (min q.1 47)) ≤ q.2 + 1)
    {low : BitVec 32} (hlow : low = Scalar.addi (W q.1) 1#32)
    {ok : Scf.OK 0#32 (Scalar.addi 0#32 48#32) 1#32}
    {off : Fin (Scf.trips 0#32 (Scalar.addi 0#32 48#32) 1#32) → Fin 1 → ℕ}
    {inb : ∀ t a, off t a + S1.size a ≤ S48.size a} {h1 : S1.numel = 1} {hp : EltTy.packing .i32 = 1}
    (ho : ∀ t, off t = ![(Scalar.subi 47#32 (Scf.iv 0#32 1#32 t.val)).toNat]) {K : BitVec 32 → PT F α} :
    cnt (F := F) c m0 d.n ⊢ iprop((cnt (F := F) c m0 d.n -∗ WP c 𝒱 (K (W (nxt d.n q).1)) Q)
      -∗ WP c 𝒱 (ite P (Scf.for 0#32 (Scalar.addi 0#32 48#32) 1#32 ok 48#32 (fun t r =>
          (smemLoad m0 (Rect.unit (s := S48) (off t) S1.size (inb t)) h1 hp : PT F (Elt F .i32)) >>= fun v : BitVec 32 =>
            pure (Scalar.select (Scalar.andi (Scalar.cmpi .sge (Scalar.subi 47#32 (Scf.iv 0#32 1#32 t.val)) low) (Scalar.cmpi .ne v 0#32))
              (Scalar.subi 47#32 (Scf.iv 0#32 1#32 t.val)) r)) >>= fun v => pure v >>= K) (pure (W q.1) >>= K)) Q) := by
  by_cases h : q.1 < 48 ∧ nch (d.n (min q.1 47)) ≤ q.2 + 1
  · have hx : (nxt d.n q).1 = nl d.n (q.1 + 1) := by unfold nxt; rw [if_pos h]
    rw [hx, if_pos (hP.2 h)]
    refine wp_scan c 𝒱 (K := fun v => pure v >>= K) d.hn (q.1 + 1) (by omega) ?_ ho
    rw [hlow, show (1#32 : BitVec 32) = W 1 from rfl, addW (by omega)]
  · have hx : (nxt d.n q).1 = q.1 := by unfold nxt; rw [if_neg h]
    rw [hx, if_neg (fun hh => h (hP.1 hh))]
    show cnt (F := F) c m0 d.n ⊢ iprop((cnt (F := F) c m0 d.n -∗ WP c 𝒱 (K (W q.1)) Q) -∗ WP c 𝒱 (K (W q.1)) Q)
    iintro H K
    iapply K $$ H

/-- A product added if a condition says so. -/
theorem wp_mmIf {α : Type} {Q : α → sProp 𝕄} {P : Prop} {dc : Decidable P} (e k s D w o : ℕ) (hw : P → o + w ≤ 128 * D) (hw' : o + w ≤ 1024)
    (mm : FVec F (⟨2, ![960, w]⟩ : Shape) .bf16 → FVec F (⟨2, ![w, 896]⟩ : Shape) .bf16 → FVec F S960x896 .f32) (v v' : FVec F S960x896 .f32)
    (hv : P → v' = addf v (mm (dOp c d e k w o) (xOp c d e k w o))) (hv' : ¬ P → v' = v)
    {oa oa2 oa3 : Fin 3 → ℕ} {od ox : Fin 2 → ℕ} {ia : ∀ a, oa a + S1x960x896.size a ≤ S10x960x896.size a}
    {ia2 : ∀ a, oa2 a + S1x960x896.size a ≤ S10x960x896.size a} {ia3 : ∀ a, oa3 a + S1x960x896.size a ≤ S10x960x896.size a}
    {id : ∀ a, od a + (⟨2, ![960, w]⟩ : Shape).size a ≤ S960x1024.size a} {ix : ∀ a, ox a + (⟨2, ![w, 896]⟩ : Shape).size a ≤ S1024x896.size a}
    (hoa : oa = ![s, 0, 0]) (hoa2 : oa2 = ![s, 0, 0]) (hoa3 : oa3 = ![s, 0, 0]) (hod : od = ![0, o]) (hox : ox = ![o, 0])
    {l1 : bA.view.LoadsAt (Rect.unit (s := S10x960x896) oa S1x960x896.size ia).toLoadRect}
    {l2 : bDS.view.LoadsAt (Rect.unit (s := S960x1024) od (⟨2, ![960, w]⟩ : Shape).size id).toLoadRect}
    {l3 : bXS.view.LoadsAt (Rect.unit (s := S1024x896) ox (⟨2, ![w, 896]⟩ : Shape).size ix).toLoadRect}
    {l4 : bA.view.LoadsAt (Rect.unit (s := S10x960x896) oa2 S1x960x896.size ia2).toLoadRect}
    {s1 : (bA.access (Rect.unit (s := S10x960x896) oa3 S1x960x896.size ia3)).Stores Finset.univ} {s1'}
    {c1 : S1x960x896.ShapeCasts S960x896} {c2 : S960x896.ShapeCasts S1x960x896} {J : PT F α} :
    iprop(prepSt c d e k D ∗ pt c bA (wA s) (AV c v)) ⊢ iprop((iprop(prepSt c d e k D ∗ pt c bA (wA s) (AV c v')) -∗ WP c 𝒱 J Q)
      -∗ WP c 𝒱 (ite P (ldP bA (Rect.unit (s := S10x960x896) oa S1x960x896.size ia) l1 >>= fun a =>
          ldP bDS (Rect.unit (s := S960x1024) od (⟨2, ![960, w]⟩ : Shape).size id) l2 >>= fun y =>
          ldP bXS (Rect.unit (s := S1024x896) ox (⟨2, ![w, 896]⟩ : Shape).size ix) l3 >>= fun x =>
          Prog.lift (.load bA (Rect.unit (s := S10x960x896) oa2 S1x960x896.size ia2).toLoadRect l4) >>= fun _ =>
          Prog.lift (.store bA (Rect.unit (s := S10x960x896) oa3 S1x960x896.size ia3)
            (shapeCast S1x960x896 (addf (shapeCast S960x896 a c1) (mm y x)) c2) Finset.univ s1 s1') >>= fun _ => J) J) Q) := by
  by_cases h : P
  · rw [hv h, if_pos h]
    exact wp_mm c d 𝒱 e k s D w o (hw h) hw' mm v hoa hoa2 hoa3 hod hox
  · rw [hv' h, if_neg h]
    iintro H K
    iapply K $$ H

/-- The operands' memory, holding anything. -/
def prep0 : sProp 𝕄 := iprop((∃ fx : BufOf (F := F) c bXS, pt c bXS Finset.univ fx) ∗ (∃ fd : BufOf (F := F) c bDS, pt c bDS Finset.univ fd))
theorem prep0_to (e k : ℕ) : prep0 (F := F) c ⊢ prepSt c d e k 0 := by
  unfold prep0 prepSt
  iintro ⟨⟨%fx, Hx⟩, ⟨%fd, Hd⟩⟩
  iexists fx, fd
  isplitr [Hx Hd]
  · ipureintro
    exact ⟨fun i hi => absurd hi (by omega), fun i hi => absurd hi (by omega)⟩
  isplitl [Hx] <;> iassumption
theorem prep0_of (e k D : ℕ) : prepSt c d e k D ⊢ prep0 (F := F) c := by
  unfold prep0 prepSt
  iintro ⟨%fx, %fd, -, Hx, Hd⟩
  isplitl [Hx]
  · iexists fx; iexact Hx
  · iexists fd; iexact Hd

end Cert.KernelIdeal.Hand
-- ==== Proof.Loop8.lean ====
/-

  One expert's trip: its gradient waited for, its chunks gone through.

-/
module

public import proofs.«01_k».proof.Proof.Trip

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

/-- What the chunks' loop keeps, before chunk `k` of expert `e`. -/
def I8 (e k : ℕ) (a : BitVec 32 × BitVec 32 × BitVec 32) : sProp 𝕄 :=
  iprop(∃ p, ⌜AtK d.n e k p ∧ a = (W (p % 5), W (sched d.n (p + 5)).1, W (sched d.n (p + 5)).2)⌝ ∗ cnt (F := F) c m0 d.n ∗ owesE (F := F) c ∗ prep0 (F := F) c
    ∗ pt c bA (wA (e % 10)) (AV c (ACC c d e k)) ∗ toks c d p)
/-- What the experts' loop carries. -/
def carry (n : ℕ → ℕ) (p : ℕ) : Σ' (_ : BitVec 32) (_ : BitVec 32), BitVec 32 := ⟨W (p % 5), W (sched n (p + 5)).1, W (sched n (p + 5)).2⟩

theorem off189_eq (t7 : Fin k0_t7_loop.trips) : k0_off189 t7 = ![t7.val % 10, 0, 0] := by
  show (![(slotC (Scf.iv 0#32 1#32 t7.val)).toNat, 0, 0] : Fin 3 → ℕ) = _
  rw [slot_iv _ (t7_lt t7)]
theorem off190_eq (t7 : Fin k0_t7_loop.trips) : k0_off190 t7 = ![t7.val % 10, 0, 0] := by
  show (![(slotC (Scf.iv 0#32 1#32 t7.val)).toNat, 0, 0] : Fin 3 → ℕ) = _
  rw [slot_iv _ (t7_lt t7)]
theorem off191_eq (t7 : Fin k0_t7_loop.trips) : k0_off191 t7 = ![t7.val % 10, 0, 0] := by
  show (![(slotC (Scf.iv 0#32 1#32 t7.val)).toNat, 0, 0] : Fin 3 → ℕ) = _
  rw [slot_iv _ (t7_lt t7)]
theorem off192_eq (t7 : Fin k0_t7_loop.trips) : k0_off192 t7 = ![t7.val % 10, 0, 0] := by
  show (![(slotC (Scf.iv 0#32 1#32 t7.val)).toNat, 0, 0] : Fin 3 → ℕ) = _
  rw [slot_iv _ (t7_lt t7)]
theorem off114_eq (t7 : Fin k0_t7_loop.trips) : k0_off114 t7 = ![t7.val % 10] := by
  show (![(slotC (Scf.iv 0#32 1#32 t7.val)).toNat] : Fin 1 → ℕ) = _
  rw [slot_iv _ (t7_lt t7)]
theorem off107_eq (t7 : Fin k0_t7_loop.trips) : k0_off107 t7 = ![t7.val] := by
  show (![(Scf.iv 0#32 1#32 t7.val).toNat] : Fin 1 → ℕ) = _
  rw [iv_nat _ (t7_lt t7)]

theorem minE (pe : ℕ) (h : pe ≤ 48) : ∀ a, (![((Scalar.minsi (W pe) 47#32)).toNat] : Fin 1 → ℕ) a + S1.size a ≤ S48.size a := by
  rw [show (47#32 : BitVec 32) = W 47 from rfl, minW (by omega) (by omega), W_toNat (by omega)]
  intro a
  match a with
  | ⟨0, _⟩ => show min pe 47 + 1 ≤ 48; omega
theorem cond53_lt {pe : ℕ} (h : pe ≤ 48) (h' : k0_cond53 (W pe) = 1#1) : pe < 48 := by
  have h2 : condW (Scalar.cmpi .slt (W pe) 48#32) = 1#1 := h'
  rwa [show (48#32 : BitVec 32) = W 48 from rfl, condW_eq, sltW (by omega) (by omega), one_iff, decide_eq_true_iff] at h2

set_option maxHeartbeats 8000000 in
theorem part19_ok (t7 : Fin k0_t7_loop.trips) (p : ℕ) (hp : AtE d.n t7.val p) (v275 : BitVec 32) {Q : _ → sProp 𝕄} :
    iprop(cnt (F := F) c m0 d.n ∗ owesE (F := F) c ∗ prep0 (F := F) c ∗ toks c d p ∗ gradFl c d t7.val)
    ⊢ iprop((∀ p', ⌜AtE d.n (t7.val + 1) p'⌝ -∗ iprop(cnt (F := F) c m0 d.n ∗ owesE (F := F) c ∗ prep0 (F := F) c ∗ toks c d p'
          ∗ accHeld c d (t7.val % 10) ∗ pt c bA (wA (t7.val % 10)) (AV c (ACC c d t7.val (nch (d.n t7.val)))))
        -∗ Q ⟨W (p' % 5), W (sched d.n (p' + 5)).1, W (sched d.n (p' + 5)).2⟩)
      -∗ WP c 𝒱 (k0_part19 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 t7 (W (p % 5)) (W (sched d.n (p + 5)).1) (W (sched d.n (p + 5)).2) (Scf.iv 0#32 1#32 t7) v275 (W (d.n t7.val))) Q) := by
  have he := t7_lt t7
  have hn := d.hn t7.val
  unfold k0_part19
  iintro ⟨Hc, HO, HP, HT, HG⟩ Hk
  iapply (wp_gradWait c d 𝒱 t7.val (off114_eq t7)) $$ [HG HO]
  · isplitl [HG] <;> iassumption
  iintro ⟨HA, HB, HO⟩
  iapply (wp_cnt c 𝒱 t7.val (off107_eq t7)) $$ Hc
  iintro Hc
  iapply (WP_assume c 𝒱 (chk11_ok t7 hn))
  iapply (Scf.wp_for_bind frame (wpE (defs₀ (F := F)) 𝒱 (c : Thread nD τ) none) Set.univ _ _ _ _ _ _ (fun k a => I8 c d m0 t7.val k a) ?hb) $$ [Hc HO HP HT HB]
  case hb =>
    rintro t8 ⟨a1, a2, a3⟩
    have ht8 : t8.val < nch (d.n t7.val) := Nat.lt_of_lt_of_eq t8.isLt (t8_trips hn)
    unfold I8
    iintro ⟨%q, ⟨%hq, %ha⟩, Hc, HO, HP, HB, HT⟩
    obtain ⟨h1, h2⟩ := Prod.mk.inj ha
    obtain ⟨h2, h3⟩ := Prod.mk.inj h2
    subst h1; subst h2; subst h3
    have hs : sched d.n q = (t7.val, t8.val) := by unfold AtK at hq; rwa [if_pos ht8] at hq
    have hwf := wf_sched d.hn (q + 5)
    have hs5 : q % 5 < 5 := Nat.mod_lt _ (by decide)
    have h8 := nch_le hn
    have pw : PW (W (d.n t7.val)) (Scf.iv 0#32 1#32 t8.val) (Scf.iv 0#32 1#32 t7.val) (W (q % 5)) (d.n t7.val) t7.val t8.val (q % 5) :=
      pw_cons d.hn he ht8 hs5 (ivW _ (by omega)) (ivW _ he)
    have pq : k0_cond53 (W (sched d.n (q + 5)).1) = 1#1 → PW (W (d.n (sched d.n (q + 5)).1)) (W (sched d.n (q + 5)).2) (Scalar.minsi (W (sched d.n (q + 5)).1) 47#32) (W (q % 5))
        (d.n (sched d.n (q + 5)).1) (sched d.n (q + 5)).1 (sched d.n (q + 5)).2 (q % 5) := fun h => pw_sched d.hn hwf hs5 rfl (cond53_lt hwf.le h)
    have h16 := chk16_ok (W (sched d.n (q + 5)).1) (W (sched d.n (q + 5)).2) pq
    have h15 := chk15_ok (W (q % 5)) (W (sched d.n (q + 5)).1) pq (minE _ hwf.le)
    have hnb8 := nb_le (d.n t7.val) t8.val
    have hw := pw.nbw
    have hgt : ∀ b, b < 8 → (condW (Scalar.cmpi .sgt (nbW (W (d.n t7.val)) (Scf.iv 0#32 1#32 t8.val)) (W b)) = 1#1 ↔ b < nb (d.n t7.val) t8.val) := fun b hb => by
      rw [hw]; exact cond_gt (by omega) (by omega)
    have hle : condW (Scalar.cmpi .sle (nbW (W (d.n t7.val)) (Scf.iv 0#32 1#32 t8.val)) (W 6)) = 1#1 ↔ nb (d.n t7.val) t8.val ≤ 6 := by
      rw [hw, condW_eq, sleW (by omega) (by omega), one_iff, decide_eq_true_iff]
    have hD : dec (nb (d.n t7.val) t8.val) 8 = min 8 (nb (d.n t7.val) t8.val + nb (d.n t7.val) t8.val % 2) := rfl
    ihave HT := (toks_split c d hs he) $$ HT
    icases HT with ⟨HT, HT4⟩
    iapply (WP_bind c 𝒱)
    iapply (part7_ok c d 𝒱 m0 hm0 t7 (W (d.n t7.val)) t8 (W (q % 5)) (W (sched d.n (q + 5)).1) (W (sched d.n (q + 5)).2) t7.val t8.val (q % 5) pw h16 h15) $$ Hc
    iintro %r %hr Hc
    subst hr
    iapply (WP_bind c 𝒱)
    iapply (part8_ok c d 𝒱 m0 hm0 t7 (W (d.n t7.val)) t8 (W (q % 5)) t7.val t8.val (q % 5) pw) $$ [HT HO]
    · isplitl [HT] <;> iassumption
    iintro %r ⟨HT, HO⟩
    obtain ⟨v391, v416, v417, z⟩ := r
    ihave HP := (prep0_to c d t7.val t8.val) $$ HP
    iapply (WP_bind c 𝒱)
    iapply (part9_ok c d 𝒱 m0 hm0 t7 (W (d.n t7.val)) t8 (W (q % 5)) t7.val t8.val (q % 5) pw) $$ [HT HO HP]
    · isplitl [HT]; · iexact HT
      isplitl [HO]; · iexact HO
      iapply (show prepSt c d t7.val t8.val 0 ⊢ prepSt c d t7.val t8.val (dec (nb (d.n t7.val) t8.val) 0) from by rw [show dec (nb (d.n t7.val) t8.val) 0 = 0 from by unfold dec; omega]) $$ HP
    iintro %v429 %v434 %v435 %w ⟨%h429, %h434, %h435⟩ ⟨HO, HP, HL, HS, HR⟩
    iapply (WP_bind c 𝒱)
    iapply (part10_ok c d 𝒱 m0 hm0 t7 (W (d.n t7.val)) t8 (W (q % 5)) t7.val t8.val (q % 5) pw v429 v434 v435 h429 h434 h435) $$ [HP HL]
    · isplitl [HP] <;> iassumption
    iintro %r %hr ⟨HP, HL⟩
    subst hr
    iapply (WP_bind c 𝒱)
    iapply (part11_ok c d 𝒱 m0 hm0 t7 (W (d.n t7.val)) t8 (W (q % 5)) t7.val t8.val (q % 5) pw v429 v434 v435 h429 h434 h435 _ (W (sched d.n (q + 5)).1) (W (sched d.n (q + 5)).2) h16 h15
      (sched d.n (q + 5)).1 (sched d.n (q + 5)).2 rfl hwf.le pq) $$ [Hc HP HL HS HR]
    · isplitl [Hc]; · iexact Hc
      isplitl [HP]; · iexact HP
      isplitl [HL]; · iexact HL
      isplitl [HS] <;> iassumption
    iintro %r %hr ⟨Hc, HP, HT⟩
    subst hr
    iapply (wp_nextE c d 𝒱 m0 (sched d.n (q + 5)) hwf.le (e_cond d.hn hwf) rfl (fun _ => rfl)) $$ Hc
    iintro Hc
    iapply (wp_mmIf c d 𝒱 t7.val t8.val (t7.val % 10) (dec (nb (d.n t7.val) t8.val) 8) 1024 0 (fun h => by have := (hgt 6 (by decide)).1 h; omega) (by omega)
      (fun a b => matmul dot_S960x1024_S1024x896_S960x896_1_0_0_1_n_n none a b (constant S960x896 .f32 0x00000000#32)) (ACC c d t7.val t8.val)
      (if 6 < nb (d.n t7.val) t8.val then mm1024 c d t7.val t8.val (ACC c d t7.val t8.val) else ACC c d t7.val t8.val)
      (fun h => if_pos ((hgt 6 (by decide)).1 h)) (fun h => if_neg (fun hh => h ((hgt 6 (by decide)).2 hh)))
      (off189_eq t7) (off189_eq t7) (off189_eq t7) rfl rfl) $$ [HP HB]
    · isplitl [HP] <;> iassumption
    iintro ⟨HP, HB⟩
    by_cases h6 : nb (d.n t7.val) t8.val ≤ 6
    · have h6' : ¬ 6 < nb (d.n t7.val) t8.val := by omega
      irevert HB
      rw [if_neg h6']
      iintro HB
      iapply (WP_itp c 𝒱 (hle.2 h6))
      iapply (wp_mmIf c d 𝒱 t7.val t8.val (t7.val % 10) (dec (nb (d.n t7.val) t8.val) 8) 256 0 (fun h => by have := (hgt 0 (by decide)).1 h; omega) (by omega)
        (fun a b => matmul dot_S960x256_S256x896_S960x896_1_0_0_1_n_n none a b (constant S960x896 .f32 0x00000000#32)) _ (stp c d t7.val t8.val 0 _)
        (fun h => if_pos ((hgt 0 (by decide)).1 h)) (fun h => if_neg (fun hh => h ((hgt 0 (by decide)).2 hh)))
        (off190_eq t7) (off190_eq t7) (off190_eq t7) rfl rfl) $$ [HP HB]
      · isplitl [HP] <;> iassumption
      iintro ⟨HP, HB⟩
      iapply (wp_mmIf c d 𝒱 t7.val t8.val (t7.val % 10) (dec (nb (d.n t7.val) t8.val) 8) 256 256 (fun h => by have := (hgt 2 (by decide)).1 h; omega) (by omega)
        (fun a b => matmul dot_S960x256_S256x896_S960x896_1_0_0_1_n_n none a b (constant S960x896 .f32 0x00000000#32)) _ (stp c d t7.val t8.val 1 _)
        (fun h => if_pos ((hgt 2 (by decide)).1 h)) (fun h => if_neg (fun hh => h ((hgt 2 (by decide)).2 hh)))
        (off191_eq t7) (off191_eq t7) (off191_eq t7) rfl rfl) $$ [HP HB]
      · isplitl [HP] <;> iassumption
      iintro ⟨HP, HB⟩
      iapply (wp_mmIf c d 𝒱 t7.val t8.val (t7.val % 10) (dec (nb (d.n t7.val) t8.val) 8) 256 512 (fun h => by have := (hgt 4 (by decide)).1 h; omega) (by omega)
        (fun a b => matmul dot_S960x256_S256x896_S960x896_1_0_0_1_n_n none a b (constant S960x896 .f32 0x00000000#32)) _ (stp c d t7.val t8.val 2 _)
        (fun h => if_pos ((hgt 4 (by decide)).1 h)) (fun h => if_neg (fun hh => h ((hgt 4 (by decide)).2 hh)))
        (off192_eq t7) (off192_eq t7) (off192_eq t7) rfl rfl) $$ [HP HB]
      · isplitl [HP] <;> iassumption
      iintro ⟨HP, HB⟩
      have hacc : ACC c d t7.val (t8.val + 1) = stp c d t7.val t8.val 2 (stp c d t7.val t8.val 1 (stp c d t7.val t8.val 0 (ACC c d t7.val t8.val))) := if_neg h6'
      rw [hacc]
      iapply (WP_pure c 𝒱)
      iexists (q + 1)
      isplitr
      · ipureintro
        refine ⟨atK_succ he ht8 hq, ?_⟩
        rw [slot_word, k_word d.hn hwf]; rfl
      isplitl [Hc]; · iexact Hc
      isplitl [HO]; · iexact HO
      isplitl [HP]
      · iapply (prep0_of c d t7.val t8.val _) $$ HP
      isplitl [HB]; · iexact HB
      iapply (toks_join c d q)
      isplitl [HT] <;> iassumption
    · have h6' : 6 < nb (d.n t7.val) t8.val := by omega
      irevert HB
      rw [if_pos h6']
      iintro HB
      iapply (WP_itn c 𝒱 (fun h => h6 (hle.1 h)))
      have hacc : ACC c d t7.val (t8.val + 1) = mm1024 c d t7.val t8.val (ACC c d t7.val t8.val) := if_pos h6'
      rw [hacc]
      iapply (WP_pure c 𝒱)
      iexists (q + 1)
      isplitr
      · ipureintro
        refine ⟨atK_succ he ht8 hq, ?_⟩
        rw [slot_word, k_word d.hn hwf]; rfl
      isplitl [Hc]; · iexact Hc
      isplitl [HO]; · iexact HO
      isplitl [HP]
      · iapply (prep0_of c d t7.val t8.val _) $$ HP
      isplitl [HB]; · iexact HB
      iapply (toks_join c d q)
      isplitl [HT] <;> iassumption
  · unfold I8
    iexists p
    isplitr
    · ipureintro; exact ⟨atK_zero he hp, rfl⟩
    iframe
  iintro %r HI
  obtain ⟨r1, r2, r3⟩ := r
  unfold I8
  icases HI with ⟨%p', ⟨%hp', %ha⟩, Hc, HO, HP, HB, HT⟩
  obtain ⟨h1, h2⟩ := Prod.mk.inj ha
  obtain ⟨h2, h3⟩ := Prod.mk.inj h2
  subst h1; subst h2; subst h3
  have ht : Scf.trips (k0_t8_loop (W (d.n t7.val))).lb (k0_t8_loop (W (d.n t7.val))).ub (k0_t8_loop (W (d.n t7.val))).st = nch (d.n t7.val) := t8_trips hn
  rw [ht] at hp'
  irevert HB
  rw [ht]
  iintro HB
  iapply (Scf.wp_for_bind frame (wpE (defs₀ (F := F)) 𝒱 (c : Thread nD τ) none) Set.univ _ _ _ _ _ _
    (fun k a => iprop(⌜a = (W (p' % 5), W (sched d.n (p' + 5)).1, W (sched d.n (p' + 5)).2)⌝)) ?hb2) $$ []
  case hb2 =>
    intro k
    exact (Nat.not_lt_zero _ (Nat.lt_of_lt_of_eq k.isLt (t10_trips hn))).elim
  · ipureintro; rfl
  iintro %r %hr
  subst hr
  iapply (WP_pure c 𝒱)
  iapply Hk $$ [] [Hc HO HP HT HA HB]
  · ipureintro; exact atK_last hp'
  · iframe

end Cert.KernelIdeal.Hand
-- ==== Proof.Loop7.lean ====
/-

  The experts' loop: the accumulators' ring turned by one, and one expert's trip.

-/
module

public import proofs.«01_k».proof.Proof.Loop8

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

theorem cond31_eq : ∀ t : Fin k0_t7_loop.trips, k0_cond31 t = 1#1 ↔ t.val + 7 < 48 ∧ 10 ≤ t.val + 7 := by decide +kernel
theorem cond32_eq : ∀ t : Fin k0_t7_loop.trips, k0_cond32 t = 1#1 ↔ t.val + 7 < 48 := by decide +kernel
theorem off108_eq : ∀ t : Fin k0_t7_loop.trips, k0_cond31 t = 1#1 → k0_off108 t = ![(t.val - 3) % 10] := by decide +kernel
theorem off111_eq : ∀ t : Fin k0_t7_loop.trips, k0_off111 t = ![(t.val + 7) % 10] := by decide +kernel
theorem off112_eq : ∀ t : Fin k0_t7_loop.trips, k0_off112 t = ![(t.val + 7) % 10, 0, 0] := by decide +kernel
theorem off113_eq : ∀ t : Fin k0_t7_loop.trips, k0_off113 t = ![t.val + 7, 0, 0] := by decide +kernel
theorem off269_eq : ∀ t : Fin k0_t7_loop.trips, k0_off269 t = ![t.val % 10] := by decide +kernel
theorem off270_eq : ∀ t : Fin k0_t7_loop.trips, k0_off270 t = ![t.val, 0, 0] := by decide +kernel
theorem off271_eq : ∀ t : Fin k0_t7_loop.trips, k0_off271 t = ![t.val % 10, 0, 0] := by decide +kernel

/-- The rows that have arrived, and one more. -/
theorem out_join (a : ℕ) : iprop(pt c mO (wOi 0 a) (OV c d) ∗ pt c mO (wO a) (OV c d)) ⊢ pt c mO (wOi 0 (a + 1)) (OV c d) := by
  have hu : wOi 0 (a + 1) = wOi 0 a ∪ wO a := by
    ext i
    simp only [wOi, wO, Finset.mem_union, Finset.mem_filter, Finset.mem_univ, true_and]
    omega
  have hd : Disjoint (wOi 0 a) (wO a) := by
    rw [Finset.disjoint_left]
    intro i
    simp only [wOi, wO, Finset.mem_filter, Finset.mem_univ, true_and]
    omega
  rw [hu]
  exact (pointsTo_union hd).2

def doneRows (t : ℕ) : ℕ := min (t + 7) 48 - 10

/-- The slots' turn at the head of a trip: the oldest result waited for, the next gradient asked for. -/
theorem part18_ok (t7 : Fin k0_t7_loop.trips) {Q : _ → sProp 𝕄} :
    iprop(cnt (F := F) c m0 d.n ∗ owesE (F := F) c ∗ accs c d (t7.val + 7) t7.val ∗ pt c mO (wOi 0 (doneRows t7.val)) (OV c d))
    ⊢ iprop((∀ r, ⌜∃ v, r = ⟨Scf.iv 0#32 1#32 t7.val, v, W (d.n t7.val)⟩⌝ -∗ iprop(cnt (F := F) c m0 d.n ∗ owesE (F := F) c ∗ accs c d (t7.val + 8) t7.val ∗ pt c mO (wOi 0 (doneRows (t7.val + 1))) (OV c d)) -∗ Q r)
      -∗ WP c 𝒱 (k0_part18 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 0#32 1#32 t7) Q) := by
  have ht := t7_lt t7
  unfold k0_part18 accs
  iintro ⟨Hc, HO, ⟨H0, H1, H2, H3, H4, H5, H6, H7, H8, H9⟩, Hd⟩ Hk
  irevert H0 H1 H2 H3 H4 H5 H6 H8 H9
  rw [accSt_ne c d (g := t7.val + 7) (j := t7.val) (by omega), accSt_ne c d (g := t7.val + 7) (j := t7.val + 1) (by omega), accSt_ne c d (g := t7.val + 7) (j := t7.val + 2) (by omega),
    accSt_ne c d (g := t7.val + 7) (j := t7.val + 3) (by omega), accSt_ne c d (g := t7.val + 7) (j := t7.val + 4) (by omega), accSt_ne c d (g := t7.val + 7) (j := t7.val + 5) (by omega),
    accSt_ne c d (g := t7.val + 7) (j := t7.val + 6) (by omega), accSt_ne c d (g := t7.val + 7) (j := t7.val + 8) (by omega), accSt_ne c d (g := t7.val + 7) (j := t7.val + 9) (by omega)]
  iintro H0 H1 H2 H3 H4 H5 H6 H8 H9
  iapply (wp_cnt c 𝒱 t7.val (off107_eq t7)) $$ Hc
  iintro Hc
  by_cases h : t7.val + 7 < 48
  · have hgrad : accSt c d (t7.val + 8) (t7.val + 7) = gradFl c d (t7.val + 7) := accSt_grad c d (by omega) h
    by_cases h' : 10 ≤ t7.val + 7
    · have hout : accSt c d (t7.val + 7) (t7.val + 7) = outFl c d (t7.val - 3) := (accSt_out c d (by omega) h').trans (congrArg _ (by omega))
      have hs : (t7.val - 3) % 10 = (t7.val + 7) % 10 := by omega
      have e1 : doneRows t7.val = t7.val - 3 := by unfold doneRows; omega
      have e2 : doneRows (t7.val + 1) = t7.val - 3 + 1 := by unfold doneRows; omega
      irevert H7 Hd
      rw [hout, e1]
      iintro H7 Hd
      iapply (WP_ifp c 𝒱 ((cond31_eq t7).2 ⟨h, h'⟩))
      iapply (wp_outWait c d 𝒱 (t7.val - 3) (off108_eq t7 ((cond31_eq t7).2 ⟨h, h'⟩))) $$ [H7 HO]
      · isplitl [H7] <;> iassumption
      iintro ⟨H7, Hr, HO⟩
      irevert H7
      rw [hs]
      iintro H7
      ihave Hd := (out_join c d (t7.val - 3)) $$ [Hd Hr]
      · isplitl [Hd] <;> iassumption
      iapply (WP_ifp c 𝒱 ((cond32_eq t7).2 h))
      iapply (wp_gradStart c d 𝒱 (t7.val + 7) h (off111_eq t7) (off112_eq t7) (off113_eq t7)) $$ H7
      iintro H7
      iapply (WP_pure c 𝒱)
      iapply Hk $$ []
      · ipureintro; exact ⟨_, rfl⟩
      rw [hgrad, e2]
      iframe
    · have hidle : accSt c d (t7.val + 7) (t7.val + 7) = accIdle c d ((t7.val + 7) % 10) := accSt_idle c d (by omega) (by omega)
      have e1 : doneRows t7.val = 0 := by unfold doneRows; omega
      have e2 : doneRows (t7.val + 1) = 0 := by unfold doneRows; omega
      irevert H7 Hd
      rw [hidle, e1]
      iintro H7 Hd
      iapply (WP_ifn c 𝒱 (fun hh => h' ((cond31_eq t7).1 hh).2))
      iapply (WP_ifp c 𝒱 ((cond32_eq t7).2 h))
      iapply (wp_gradStart c d 𝒱 (t7.val + 7) h (off111_eq t7) (off112_eq t7) (off113_eq t7)) $$ H7
      iintro H7
      iapply (WP_pure c 𝒱)
      iapply Hk $$ []
      · ipureintro; exact ⟨_, rfl⟩
      rw [hgrad, e2]
      iframe
  · have hsame : accSt c d (t7.val + 7) (t7.val + 7) = accSt c d (t7.val + 8) (t7.val + 7) := accSt_same c d (by omega)
    have e1 : doneRows t7.val = 38 := by unfold doneRows; omega
    have e2 : doneRows (t7.val + 1) = 38 := by unfold doneRows; omega
    irevert H7 Hd
    rw [hsame, e1]
    iintro H7 Hd
    iapply (WP_ifn c 𝒱 (fun hh => h ((cond31_eq t7).1 hh).1))
    iapply (WP_ifn c 𝒱 (fun hh => h ((cond32_eq t7).1 hh)))
    iapply (WP_pure c 𝒱)
    iapply Hk $$ []
    · ipureintro; exact ⟨_, rfl⟩
    rw [e2]
    iframe

/-- What the experts' loop keeps before expert `t`. -/
def I7 (fo : BufOf (F := F) c mO) (t : ℕ) (a : BitVec 32 × BitVec 32 × BitVec 32) : sProp 𝕄 :=
  iprop(∃ p, ⌜AtE d.n t p ∧ a = (W (p % 5), W (sched d.n (p + 5)).1, W (sched d.n (p + 5)).2)⌝ ∗ cnt (F := F) c m0 d.n ∗ owesE (F := F) c ∗ prep0 (F := F) c
    ∗ toks c d p ∗ accs c d (t + 7) t ∗ pt c mO (wOi 0 (doneRows t)) (OV c d) ∗ pt c mO (wOi t 48) fo)

set_option maxHeartbeats 4000000 in
theorem trip_ok (fo : BufOf (F := F) c mO) (t7 : Fin k0_t7_loop.trips) (a b e : BitVec 32) {iG ix ix' hq hxq hxq' w1 w2} :
    I7 c d m0 fo t7.val (a, b, e) ⊢ WP c 𝒱
      (k0_part18 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 0#32 1#32 t7 >>= fun x =>
        match x with
        | ⟨arg18, v275, v277⟩ => k0_part19 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 t7 a b e arg18 v275 v277 >>= fun y =>
          match y with
          | ⟨r0, r1, r2⟩ => Prog.lift (.enqueueDma (sq (n := 960) (k := 896) bA (k0_off271 t7) ix' (fun _ => rfl) hxq') (.here (sq (n := 960) (k := 896) mO (k0_off270 t7) ix (fun _ => rfl) hxq))
              (.dma (((cc0_scratch10 : DmaSems sig S10).slice (Rect.unit (s := S10) (k0_off269 t7) S1.size iG)).squeeze S_ hq).sem) w1 w2 ⟨Or.inl rfl, trivial⟩)
            >>= fun _ => pure (r0, r1, r2)) (I7 c d m0 fo (t7.val + 1)) := by
  have ht := t7_lt t7
  unfold I7
  iintro ⟨%p, ⟨%hp, %ha⟩, Hc, HO, HP, HT, HA, Hd, Hf⟩
  obtain ⟨h1, h2⟩ := Prod.mk.inj ha
  obtain ⟨h2, h3⟩ := Prod.mk.inj h2
  subst h1; subst h2; subst h3
  iapply (WP_bind c 𝒱)
  iapply (part18_ok c d 𝒱 m0 hm0 t7) $$ [Hc HO HA Hd]
  · iframe
  iintro %r %hr ⟨Hc, HO, HA, Hd⟩
  obtain ⟨v, hr⟩ := hr
  subst hr
  unfold accs
  icases HA with ⟨H0, HA⟩
  irevert H0
  rw [accSt_grad c d (g := t7.val + 8) (j := t7.val) (by omega) ht]
  iintro H0
  iapply (WP_bind c 𝒱)
  iapply (part19_ok c d 𝒱 m0 hm0 t7 p hp v) $$ [Hc HO HP HT H0]
  · iframe
  iintro %p' %hp' ⟨Hc, HO, HP, HT, HG, HB⟩
  iapply (wp_outStart c d 𝒱 t7.val ht (off269_eq t7) (off270_eq t7) (off271_eq t7) fo) $$ [HG HB Hf]
  · iframe
  iintro ⟨H0, Hf⟩
  iapply (WP_pure c 𝒱)
  iexists p'
  isplitr
  · ipureintro; exact ⟨hp', rfl⟩
  have hout : accSt c d (t7.val + 1 + 7) (t7.val + 1 + 9) = outFl c d t7.val := (accSt_out c d (by omega) (by omega)).trans (congrArg _ (by omega))
  rw [hout]
  icases HA with ⟨H1, H2, H3, H4, H5, H6, H7, H8, H9⟩
  isplitl [Hc]; · iexact Hc
  isplitl [HO]; · iexact HO
  isplitl [HP]; · iexact HP
  isplitl [HT]; · iexact HT
  isplitr [Hd Hf]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H0
  isplitl [Hd] <;> iassumption

end Cert.KernelIdeal.Hand
-- x
-- ==== Proof.Start.lean ====
/-
  What is started before the experts' loop: seven gradients and five chunks.
-/
module

public import proofs.«01_k».proof.Proof.Prologue
public import proofs.«01_k».proof.Proof.Loop7

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

theorem lt48 {pe : ℕ} (h : pe ≤ 48) : condW (Scalar.cmpi .slt (W pe) 48#32) = 1#1 ↔ pe < 48 := by
  rw [show (48#32 : BitVec 32) = W 48 from rfl, condW_eq, sltW (by omega) (by omega), one_iff, decide_eq_true_iff]
theorem min_off {pe : ℕ} (h : pe ≤ 48) : ![(Scalar.minsi (W pe) 47#32).toNat] = ![min pe 47] := by
  rw [show (47#32 : BitVec 32) = W 47 from rfl, minW (by omega) (by omega), W_toNat (by omega)]
theorem kw_succ {n : ℕ → ℕ} (hn : ∀ e, n e ≤ 8192) (p : ℕ) {kw : BitVec 32} (h : kw = W (sched n p).2) :
    nxtKW kw (W (n (min (sched n p).1 47))) = W (sched n (p + 1)).2 := by
  rw [h]; exact k_word hn (wf_sched hn p)
theorem next_cond {n : ℕ → ℕ} (hn : ∀ e, n e ≤ 8192) (p : ℕ) {kw : BitVec 32} (h : kw = W (sched n p).2) :
    condW (Scalar.andi (Scalar.cmpi .slt (W (sched n p).1) 48#32) (Scalar.cmpi .sge (Scalar.addi kw 1#32) (nchW (W (n (min (sched n p).1 47)))))) = 1#1
      ↔ (sched n p).1 < 48 ∧ nch (n (min (sched n p).1 47)) ≤ (sched n p).2 + 1 := by
  rw [h]; exact e_cond hn (wf_sched hn p)
theorem kw0 {n : ℕ → ℕ} (hn : ∀ e, n e ≤ 8192) : 0#32 = W (sched n 0).2 := rfl
theorem kw1 {n : ℕ → ℕ} (hn : ∀ e, n e ≤ 8192) : nxtKW 0#32 (W (n (min (sched n 0).1 47))) = W (sched n 1).2 := kw_succ hn 0 (kw0 hn)
theorem kw2 {n : ℕ → ℕ} (hn : ∀ e, n e ≤ 8192) : nxtKW (nxtKW 0#32 (W (n (min (sched n 0).1 47)))) (W (n (min (sched n 1).1 47))) = W (sched n 2).2 := kw_succ hn 1 (kw1 hn)
theorem kw3 {n : ℕ → ℕ} (hn : ∀ e, n e ≤ 8192) : nxtKW (nxtKW (nxtKW 0#32 (W (n (min (sched n 0).1 47)))) (W (n (min (sched n 1).1 47)))) (W (n (min (sched n 2).1 47))) = W (sched n 3).2 := kw_succ hn 2 (kw2 hn)
theorem kw4 {n : ℕ → ℕ} (hn : ∀ e, n e ≤ 8192) : nxtKW (nxtKW (nxtKW (nxtKW 0#32 (W (n (min (sched n 0).1 47)))) (W (n (min (sched n 1).1 47)))) (W (n (min (sched n 2).1 47)))) (W (n (min (sched n 3).1 47))) = W (sched n 4).2 := kw_succ hn 3 (kw3 hn)
theorem kw5 {n : ℕ → ℕ} (hn : ∀ e, n e ≤ 8192) : nxtKW (nxtKW (nxtKW (nxtKW (nxtKW 0#32 (W (n (min (sched n 0).1 47)))) (W (n (min (sched n 1).1 47)))) (W (n (min (sched n 2).1 47)))) (W (n (min (sched n 3).1 47)))) (W (n (min (sched n 4).1 47))) = W (sched n 5).2 := kw_succ hn 4 (kw4 hn)

theorem tokSt_live (s : ℕ) {e k : ℕ} (h : e < 48) : tokSt c d s e k = tokIss c d s e k 4 := by unfold tokSt; rw [if_pos h]
theorem tokSt_none (s : ℕ) {e k : ℕ} (h : ¬ e < 48) : tokSt c d s e k = tokFree c d s := by unfold tokSt; rw [if_neg h]

/-- The first four experts' gradients. -/
theorem part20_ok {Q : _ → sProp 𝕄} :
    iprop(accIdle c d 0 ∗ accIdle c d 1 ∗ accIdle c d 2 ∗ accIdle c d 3) ⊢ iprop((iprop(gradFl c d 0 ∗ gradFl c d 1 ∗ gradFl c d 2 ∗ gradFl c d 3) -∗ Q ⟨⟩) -∗ WP c 𝒱 (k0_part20 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10) Q) := by
  unfold k0_part20
  iintro ⟨I0, I1, I2, I3⟩ Hk
  iapply (wp_gradStart c d 𝒱 0 (by decide) rfl rfl rfl) $$ I0
  iintro I0
  iapply (wp_gradStart c d 𝒱 1 (by decide) rfl rfl rfl) $$ I1
  iintro I1
  iapply (wp_gradStart c d 𝒱 2 (by decide) rfl rfl rfl) $$ I2
  iintro I2
  iapply (wp_gradStart c d 𝒱 3 (by decide) rfl rfl rfl) $$ I3
  iintro I3
  iapply (WP_pure c 𝒱)
  iapply Hk
  iframe

set_option maxHeartbeats 1600000 in
/-- Three more gradients, and the first chunk. -/
theorem part21_ok {Q : _ → sProp 𝕄} :
    iprop(cnt (F := F) c m0 d.n ∗ accIdle c d 4 ∗ accIdle c d 5 ∗ accIdle c d 6 ∗ tokFree c d 0)
    ⊢ iprop((∀ r, ⌜∃ h, r = ⟨(W (sched d.n 0).1), h, Scalar.cmpi .slt (W (sched d.n 0).1) 48#32, Scalar.addi 0#32 1#32⟩⌝ -∗ iprop(cnt (F := F) c m0 d.n ∗ gradFl c d 4 ∗ gradFl c d 5 ∗ gradFl c d 6 ∗ tokSt c d 0 (sched d.n 0).1 (sched d.n 0).2) -∗ Q r)
      -∗ WP c 𝒱 (k0_part21 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10) Q) := by
  have hq := wf_sched d.hn 0
  have hkw : 0#32 = W (sched d.n 0).2 := kw0 d.hn
  have hcond : k0_cond1 (W (sched d.n 0).1) = 1#1 ↔ (sched d.n 0).1 < 48 := lt48 hq.le
  have hpw : k0_cond1 (W (sched d.n 0).1) = 1#1 → PW (W (d.n (sched d.n 0).1)) 0#32 (Scalar.minsi (W (sched d.n 0).1) 47#32) 0#32 (d.n (sched d.n 0).1) (sched d.n 0).1 (sched d.n 0).2 0 := fun h => pw_sched d.hn hq (by decide) rfl (hcond.1 h)
  unfold k0_part21
  iintro ⟨Hc, I4, I5, I6, HT⟩ Hk
  iapply (wp_gradStart c d 𝒱 4 (by decide) rfl rfl rfl) $$ I4
  iintro I4
  iapply (wp_gradStart c d 𝒱 5 (by decide) rfl rfl rfl) $$ I5
  iintro I5
  iapply (wp_gradStart c d 𝒱 6 (by decide) rfl rfl rfl) $$ I6
  iintro I6
  iapply (wp_scan c 𝒱 d.hn 0 (by decide) rfl (fun _ => rfl)) $$ Hc
  iintro Hc
  iapply (WP_assume c 𝒱 (chk1_ok (W (sched d.n 0).1) hpw (minE _ hq.le)))
  by_cases h : (sched d.n 0).1 < 48
  · have hp' := hpw (hcond.2 h)
    iapply (WP_ifp c 𝒱 (hcond.2 h))
    iapply (WP_bind c 𝒱)
    iapply (part1_ok c d 𝒱 m0 hm0 _ _ _ _ _ _ _ hp') $$ [Hc HT]
    · isplitl [Hc] <;> iassumption
    iintro %r %hr ⟨Hc, HT⟩
    obtain ⟨v267, h17, v288⟩ := r
    have h1 : v267 = W (d.n (sched d.n 0).1) := hr
    subst h1
    iapply (wp_scaleY c d 𝒱 0 _ _ (by decide) h hp'.lk8 rfl rfl hp'.mS) $$ HT
    iintro HT
    iapply (wp_bit c d 𝒱 0 (sched d.n 0).1 (sched d.n 0).2 0 (by decide) h (by decide) rfl hp'.nb8 (hp'.cnd 0 (by decide)) hp'.oT hp'.oT (fun _ => hp'.bX 0 (by decide)) (fun _ => hp'.mX 0 (by decide)) (fun _ => hp'.bDY 0 (by decide)) (fun _ => hp'.mDY 0 (by decide))) $$ HT
    iintro HT
    iapply (wp_bit c d 𝒱 0 (sched d.n 0).1 (sched d.n 0).2 1 (by decide) h (by decide) rfl hp'.nb8 (hp'.cnd 1 (by decide)) hp'.oT hp'.oT (fun _ => hp'.bX 1 (by decide)) (fun _ => hp'.mX 1 (by decide)) (fun _ => hp'.bDY 1 (by decide)) (fun _ => hp'.mDY 1 (by decide))) $$ HT
    iintro HT
    iapply (wp_bit c d 𝒱 0 (sched d.n 0).1 (sched d.n 0).2 2 (by decide) h (by decide) rfl hp'.nb8 (hp'.cnd 2 (by decide)) hp'.oT hp'.oT (fun _ => hp'.bX 2 (by decide)) (fun _ => hp'.mX 2 (by decide)) (fun _ => hp'.bDY 2 (by decide)) (fun _ => hp'.mDY 2 (by decide))) $$ HT
    iintro HT
    iapply (wp_bit c d 𝒱 0 (sched d.n 0).1 (sched d.n 0).2 3 (by decide) h (by decide) rfl hp'.nb8 (hp'.cnd 3 (by decide)) hp'.oT hp'.oT (fun _ => hp'.bX 3 (by decide)) (fun _ => hp'.mX 3 (by decide)) (fun _ => hp'.bDY 3 (by decide)) (fun _ => hp'.mDY 3 (by decide))) $$ HT
    iintro HT
    irevert HT
    rw [← tokSt_live c d 0 h]
    iintro HT
    iapply (WP_pure c 𝒱)
    iapply Hk $$ []
    · ipureintro; exact ⟨_, rfl⟩
    iframe
  · irevert HT
    rw [← tokSt_none c d 0 h]
    iintro HT
    iapply (WP_ifn c 𝒱 (fun hh => h (hcond.1 hh)))
    iapply (WP_pure c 𝒱)
    iapply Hk $$ []
    · ipureintro; exact ⟨_, rfl⟩
    iframe

end Cert.KernelIdeal.Hand
-- ==== Proof.Start2.lean ====
/-
  What is started before the experts' loop: the chunk of slot 1.
-/
module

public import proofs.«01_k».proof.Proof.Start

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

set_option maxHeartbeats 1600000 in
/-- The chunk of slot 1. -/
theorem part22_ok {hw} {Q : _ → sProp 𝕄} :
    iprop(cnt (F := F) c m0 d.n ∗ tokFree c d 1)
    ⊢ iprop((∀ r, ⌜r = ⟨(W (d.n (min (sched d.n 0).1 47))), (W (sched d.n 1).1), (nxtKW 0#32 (W (d.n (min (sched d.n 0).1 47)))), Scalar.cmpi .slt (W (sched d.n 1).1) 48#32, Scalar.addi (nxtKW 0#32 (W (d.n (min (sched d.n 0).1 47)))) 1#32, (W (d.n (min (sched d.n 1).1 47))), (Scalar.addi (W (d.n (min (sched d.n 1).1 47))) 1023#32), 1024#32, Scalar.divsi (Scalar.addi (W (d.n (min (sched d.n 1).1 47))) 1023#32) 1024#32, (Scalar.extui (Scalar.cmpi .sgt (Scalar.addi (W (d.n (min (sched d.n 1).1 47))) 1023#32) 0#32)), Scalar.cmpi .slt (Scalar.addi (W (d.n (min (sched d.n 1).1 47))) 1023#32) 0#32⟩⌝ -∗ iprop(cnt (F := F) c m0 d.n ∗ tokSt c d 1 (sched d.n 1).1 (sched d.n 1).2) -∗ Q r)
      -∗ WP c 𝒱 (k0_part22 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 (W (sched d.n 0).1) hw (Scalar.cmpi .slt (W (sched d.n 0).1) 48#32) (Scalar.addi 0#32 1#32)) Q) := by
  have hq := wf_sched d.hn 1
  have hkw : (nxtKW 0#32 (W (d.n (min (sched d.n 0).1 47)))) = W (sched d.n 1).2 := kw1 d.hn
  have hcond : k0_cond7 (W (sched d.n 1).1) = 1#1 ↔ (sched d.n 1).1 < 48 := lt48 hq.le
  have hpw : k0_cond7 (W (sched d.n 1).1) = 1#1 → PW (W (d.n (sched d.n 1).1)) (nxtKW 0#32 (W (d.n (min (sched d.n 0).1 47)))) (Scalar.minsi (W (sched d.n 1).1) 47#32) 1#32 (d.n (sched d.n 1).1) (sched d.n 1).1 (sched d.n 1).2 1 := fun h => by rw [hkw]; exact pw_sched d.hn hq (by decide) rfl (hcond.1 h)
  have hnext := next_cond d.hn 0 (kw0 d.hn)
  unfold k0_part22
  iintro ⟨Hc, HT⟩ Hk
  iapply (wp_cnt c 𝒱 (min (sched d.n 0).1 47) (min_off (wf_sched d.hn 0).le)) $$ Hc
  iintro Hc
  iapply (wp_nextE c d 𝒱 m0 (sched d.n 0) (wf_sched d.hn 0).le hnext rfl (fun _ => rfl)) $$ Hc
  iintro Hc
  iapply (WP_assume c 𝒱 (chk3_ok (W (d.n (min (sched d.n 0).1 47))) (W (sched d.n 1).1) hpw (minE _ hq.le)))
  by_cases h : (sched d.n 1).1 < 48
  · have hp' := hpw (hcond.2 h)
    iapply (WP_ifp c 𝒱 (hcond.2 h))
    iapply (WP_bind c 𝒱)
    iapply (part2_ok c d 𝒱 m0 hm0 _ _ _ _ _ _ _ _ hp') $$ [Hc HT]
    · isplitl [Hc] <;> iassumption
    iintro %r %hr ⟨Hc, HT⟩
    obtain ⟨v267, h17, v288⟩ := r
    have h1 : v267 = W (d.n (sched d.n 1).1) := hr
    subst h1
    iapply (wp_scaleY c d 𝒱 1 _ _ (by decide) h hp'.lk8 rfl rfl hp'.mS) $$ HT
    iintro HT
    iapply (wp_bit c d 𝒱 1 (sched d.n 1).1 (sched d.n 1).2 0 (by decide) h (by decide) rfl hp'.nb8 (hp'.cnd 0 (by decide)) hp'.oT hp'.oT (fun _ => hp'.bX 0 (by decide)) (fun _ => hp'.mX 0 (by decide)) (fun _ => hp'.bDY 0 (by decide)) (fun _ => hp'.mDY 0 (by decide))) $$ HT
    iintro HT
    iapply (wp_bit c d 𝒱 1 (sched d.n 1).1 (sched d.n 1).2 1 (by decide) h (by decide) rfl hp'.nb8 (hp'.cnd 1 (by decide)) hp'.oT hp'.oT (fun _ => hp'.bX 1 (by decide)) (fun _ => hp'.mX 1 (by decide)) (fun _ => hp'.bDY 1 (by decide)) (fun _ => hp'.mDY 1 (by decide))) $$ HT
    iintro HT
    iapply (wp_bit c d 𝒱 1 (sched d.n 1).1 (sched d.n 1).2 2 (by decide) h (by decide) rfl hp'.nb8 (hp'.cnd 2 (by decide)) hp'.oT hp'.oT (fun _ => hp'.bX 2 (by decide)) (fun _ => hp'.mX 2 (by decide)) (fun _ => hp'.bDY 2 (by decide)) (fun _ => hp'.mDY 2 (by decide))) $$ HT
    iintro HT
    iapply (wp_bit c d 𝒱 1 (sched d.n 1).1 (sched d.n 1).2 3 (by decide) h (by decide) rfl hp'.nb8 (hp'.cnd 3 (by decide)) hp'.oT hp'.oT (fun _ => hp'.bX 3 (by decide)) (fun _ => hp'.mX 3 (by decide)) (fun _ => hp'.bDY 3 (by decide)) (fun _ => hp'.mDY 3 (by decide))) $$ HT
    iintro HT
    irevert HT
    rw [← tokSt_live c d 1 h]
    iintro HT
    iapply (wp_cnt c 𝒱 (min (sched d.n 1).1 47) (min_off hq.le)) $$ Hc
    iintro Hc
    iapply (WP_pure c 𝒱)
    iapply Hk $$ []
    · ipureintro; rfl
    iframe
  · irevert HT
    rw [← tokSt_none c d 1 h]
    iintro HT
    iapply (WP_ifn c 𝒱 (fun hh => h (hcond.1 hh)))
    iapply (wp_cnt c 𝒱 (min (sched d.n 1).1 47) (min_off hq.le)) $$ Hc
    iintro Hc
    iapply (WP_pure c 𝒱)
    iapply Hk $$ []
    · ipureintro; rfl
    iframe

end Cert.KernelIdeal.Hand
-- ==== Proof.Start3.lean ====
/-
  What is started before the experts' loop: the chunk of slot 2.
-/
module

public import proofs.«01_k».proof.Proof.Start

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

set_option maxHeartbeats 1600000 in
/-- The chunk of slot 2. -/
theorem part23_ok {Q : _ → sProp 𝕄} :
    iprop(cnt (F := F) c m0 d.n ∗ tokFree c d 2)
    ⊢ iprop((∀ r, ⌜r = ⟨(W (sched d.n 2).1), (nxtKW (nxtKW 0#32 (W (d.n (min (sched d.n 0).1 47)))) (W (d.n (min (sched d.n 1).1 47)))), Scalar.cmpi .slt (W (sched d.n 2).1) 48#32, Scalar.addi (nxtKW (nxtKW 0#32 (W (d.n (min (sched d.n 0).1 47)))) (W (d.n (min (sched d.n 1).1 47)))) 1#32, (W (d.n (min (sched d.n 2).1 47))), Scalar.divsi (Scalar.addi (W (d.n (min (sched d.n 2).1 47))) 1023#32) 1024#32, Scalar.cmpi .ne (Scalar.subi (Scalar.extui (Scalar.cmpi .sgt (Scalar.addi (W (d.n (min (sched d.n 2).1 47))) 1023#32) 0#32)) (Scalar.extui (Scalar.cmpi .slt (Scalar.addi (W (d.n (min (sched d.n 2).1 47))) 1023#32) 0#32))) (Scalar.subi (Scalar.extui (Scalar.cmpi .sgt 1024#32 0#32)) (Scalar.extui (Scalar.cmpi .slt 1024#32 0#32))), Scalar.remsi (Scalar.addi (W (d.n (min (sched d.n 2).1 47))) 1023#32) 1024#32⟩⌝ -∗ iprop(cnt (F := F) c m0 d.n ∗ tokSt c d 2 (sched d.n 2).1 (sched d.n 2).2) -∗ Q r)
      -∗ WP c 𝒱 (k0_part23 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 (W (d.n (min (sched d.n 0).1 47))) (W (sched d.n 1).1) (nxtKW 0#32 (W (d.n (min (sched d.n 0).1 47)))) (Scalar.cmpi .slt (W (sched d.n 1).1) 48#32) (Scalar.addi (nxtKW 0#32 (W (d.n (min (sched d.n 0).1 47)))) 1#32) (W (d.n (min (sched d.n 1).1 47))) (Scalar.addi (W (d.n (min (sched d.n 1).1 47))) 1023#32) 1024#32 (Scalar.divsi (Scalar.addi (W (d.n (min (sched d.n 1).1 47))) 1023#32) 1024#32) (Scalar.extui (Scalar.cmpi .sgt (Scalar.addi (W (d.n (min (sched d.n 1).1 47))) 1023#32) 0#32)) (Scalar.cmpi .slt (Scalar.addi (W (d.n (min (sched d.n 1).1 47))) 1023#32) 0#32)) Q) := by
  have hq := wf_sched d.hn 2
  have hkw : (nxtKW (nxtKW 0#32 (W (d.n (min (sched d.n 0).1 47)))) (W (d.n (min (sched d.n 1).1 47)))) = W (sched d.n 2).2 := kw2 d.hn
  have hcond : k0_cond13 (W (sched d.n 2).1) = 1#1 ↔ (sched d.n 2).1 < 48 := lt48 hq.le
  have hpw : k0_cond13 (W (sched d.n 2).1) = 1#1 → PW (W (d.n (sched d.n 2).1)) (nxtKW (nxtKW 0#32 (W (d.n (min (sched d.n 0).1 47)))) (W (d.n (min (sched d.n 1).1 47)))) (Scalar.minsi (W (sched d.n 2).1) 47#32) 2#32 (d.n (sched d.n 2).1) (sched d.n 2).1 (sched d.n 2).2 2 := fun h => by rw [hkw]; exact pw_sched d.hn hq (by decide) rfl (hcond.1 h)
  have hnext := next_cond d.hn 1 (kw1 d.hn)
  unfold k0_part23
  iintro ⟨Hc, HT⟩ Hk
  iapply (wp_nextE c d 𝒱 m0 (sched d.n 1) (wf_sched d.hn 1).le hnext rfl (fun _ => rfl)) $$ Hc
  iintro Hc
  iapply (WP_assume c 𝒱 (chk5_ok (W (d.n (min (sched d.n 0).1 47))) (W (d.n (min (sched d.n 1).1 47))) (W (sched d.n 2).1) hpw (minE _ hq.le)))
  by_cases h : (sched d.n 2).1 < 48
  · have hp' := hpw (hcond.2 h)
    iapply (WP_ifp c 𝒱 (hcond.2 h))
    iapply (WP_bind c 𝒱)
    iapply (part3_ok c d 𝒱 m0 hm0 _ _ _ _ _ _ _ _ _ hp') $$ [Hc HT]
    · isplitl [Hc] <;> iassumption
    iintro %r %hr ⟨Hc, HT⟩
    obtain ⟨v267, h17, v288⟩ := r
    have h1 : v267 = W (d.n (sched d.n 2).1) := hr
    subst h1
    iapply (wp_scaleY c d 𝒱 2 _ _ (by decide) h hp'.lk8 rfl rfl hp'.mS) $$ HT
    iintro HT
    iapply (wp_bit c d 𝒱 2 (sched d.n 2).1 (sched d.n 2).2 0 (by decide) h (by decide) rfl hp'.nb8 (hp'.cnd 0 (by decide)) hp'.oT hp'.oT (fun _ => hp'.bX 0 (by decide)) (fun _ => hp'.mX 0 (by decide)) (fun _ => hp'.bDY 0 (by decide)) (fun _ => hp'.mDY 0 (by decide))) $$ HT
    iintro HT
    iapply (wp_bit c d 𝒱 2 (sched d.n 2).1 (sched d.n 2).2 1 (by decide) h (by decide) rfl hp'.nb8 (hp'.cnd 1 (by decide)) hp'.oT hp'.oT (fun _ => hp'.bX 1 (by decide)) (fun _ => hp'.mX 1 (by decide)) (fun _ => hp'.bDY 1 (by decide)) (fun _ => hp'.mDY 1 (by decide))) $$ HT
    iintro HT
    iapply (wp_bit c d 𝒱 2 (sched d.n 2).1 (sched d.n 2).2 2 (by decide) h (by decide) rfl hp'.nb8 (hp'.cnd 2 (by decide)) hp'.oT hp'.oT (fun _ => hp'.bX 2 (by decide)) (fun _ => hp'.mX 2 (by decide)) (fun _ => hp'.bDY 2 (by decide)) (fun _ => hp'.mDY 2 (by decide))) $$ HT
    iintro HT
    iapply (wp_bit c d 𝒱 2 (sched d.n 2).1 (sched d.n 2).2 3 (by decide) h (by decide) rfl hp'.nb8 (hp'.cnd 3 (by decide)) hp'.oT hp'.oT (fun _ => hp'.bX 3 (by decide)) (fun _ => hp'.mX 3 (by decide)) (fun _ => hp'.bDY 3 (by decide)) (fun _ => hp'.mDY 3 (by decide))) $$ HT
    iintro HT
    irevert HT
    rw [← tokSt_live c d 2 h]
    iintro HT
    iapply (wp_cnt c 𝒱 (min (sched d.n 2).1 47) (min_off hq.le)) $$ Hc
    iintro Hc
    iapply (WP_pure c 𝒱)
    iapply Hk $$ []
    · ipureintro; rfl
    iframe
  · irevert HT
    rw [← tokSt_none c d 2 h]
    iintro HT
    iapply (WP_ifn c 𝒱 (fun hh => h (hcond.1 hh)))
    iapply (wp_cnt c 𝒱 (min (sched d.n 2).1 47) (min_off hq.le)) $$ Hc
    iintro Hc
    iapply (WP_pure c 𝒱)
    iapply Hk $$ []
    · ipureintro; rfl
    iframe

end Cert.KernelIdeal.Hand
-- ==== Proof.Start4.lean ====
/-
  What is started before the experts' loop: the chunk of slot 3.
-/
module

public import proofs.«01_k».proof.Proof.Start

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

set_option maxHeartbeats 1600000 in
/-- The chunk of slot 3. -/
theorem part24_ok {Q : _ → sProp 𝕄} :
    iprop(cnt (F := F) c m0 d.n ∗ tokFree c d 3)
    ⊢ iprop((∀ r, ⌜r = ⟨(W (sched d.n 3).1), (nxtKW (nxtKW (nxtKW 0#32 (W (d.n (min (sched d.n 0).1 47)))) (W (d.n (min (sched d.n 1).1 47)))) (W (d.n (min (sched d.n 2).1 47)))), (W (d.n (min (sched d.n 3).1 47))), (Scalar.cmpi .sge (Scalar.addi (nxtKW (nxtKW (nxtKW 0#32 (W (d.n (min (sched d.n 0).1 47)))) (W (d.n (min (sched d.n 1).1 47)))) (W (d.n (min (sched d.n 2).1 47)))) 1#32) (nchW (W (d.n (min (sched d.n 3).1 47))))), (condW (Scalar.andi (Scalar.cmpi .slt (W (sched d.n 3).1) 48#32) (Scalar.cmpi .sge (Scalar.addi (nxtKW (nxtKW (nxtKW 0#32 (W (d.n (min (sched d.n 0).1 47)))) (W (d.n (min (sched d.n 1).1 47)))) (W (d.n (min (sched d.n 2).1 47)))) 1#32) (nchW (W (d.n (min (sched d.n 3).1 47)))))))⟩⌝ -∗ iprop(cnt (F := F) c m0 d.n ∗ tokSt c d 3 (sched d.n 3).1 (sched d.n 3).2) -∗ Q r)
      -∗ WP c 𝒱 (k0_part24 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 (W (d.n (min (sched d.n 0).1 47))) (W (d.n (min (sched d.n 1).1 47))) (W (sched d.n 2).1) (nxtKW (nxtKW 0#32 (W (d.n (min (sched d.n 0).1 47)))) (W (d.n (min (sched d.n 1).1 47)))) (Scalar.cmpi .slt (W (sched d.n 2).1) 48#32) (Scalar.addi (nxtKW (nxtKW 0#32 (W (d.n (min (sched d.n 0).1 47)))) (W (d.n (min (sched d.n 1).1 47)))) 1#32) (W (d.n (min (sched d.n 2).1 47))) (Scalar.divsi (Scalar.addi (W (d.n (min (sched d.n 2).1 47))) 1023#32) 1024#32) (Scalar.cmpi .ne (Scalar.subi (Scalar.extui (Scalar.cmpi .sgt (Scalar.addi (W (d.n (min (sched d.n 2).1 47))) 1023#32) 0#32)) (Scalar.extui (Scalar.cmpi .slt (Scalar.addi (W (d.n (min (sched d.n 2).1 47))) 1023#32) 0#32))) (Scalar.subi (Scalar.extui (Scalar.cmpi .sgt 1024#32 0#32)) (Scalar.extui (Scalar.cmpi .slt 1024#32 0#32)))) (Scalar.remsi (Scalar.addi (W (d.n (min (sched d.n 2).1 47))) 1023#32) 1024#32)) Q) := by
  have hq := wf_sched d.hn 3
  have hkw : (nxtKW (nxtKW (nxtKW 0#32 (W (d.n (min (sched d.n 0).1 47)))) (W (d.n (min (sched d.n 1).1 47)))) (W (d.n (min (sched d.n 2).1 47)))) = W (sched d.n 3).2 := kw3 d.hn
  have hcond : k0_cond19 (W (sched d.n 3).1) = 1#1 ↔ (sched d.n 3).1 < 48 := lt48 hq.le
  have hpw : k0_cond19 (W (sched d.n 3).1) = 1#1 → PW (W (d.n (sched d.n 3).1)) (nxtKW (nxtKW (nxtKW 0#32 (W (d.n (min (sched d.n 0).1 47)))) (W (d.n (min (sched d.n 1).1 47)))) (W (d.n (min (sched d.n 2).1 47)))) (Scalar.minsi (W (sched d.n 3).1) 47#32) 3#32 (d.n (sched d.n 3).1) (sched d.n 3).1 (sched d.n 3).2 3 := fun h => by rw [hkw]; exact pw_sched d.hn hq (by decide) rfl (hcond.1 h)
  have hnext := next_cond d.hn 2 (kw2 d.hn)
  unfold k0_part24
  iintro ⟨Hc, HT⟩ Hk
  iapply (wp_nextE c d 𝒱 m0 (sched d.n 2) (wf_sched d.hn 2).le hnext rfl (fun _ => rfl)) $$ Hc
  iintro Hc
  iapply (WP_assume c 𝒱 (chk7_ok (W (d.n (min (sched d.n 0).1 47))) (W (d.n (min (sched d.n 1).1 47))) (W (d.n (min (sched d.n 2).1 47))) (W (sched d.n 3).1) hpw (minE _ hq.le)))
  by_cases h : (sched d.n 3).1 < 48
  · have hp' := hpw (hcond.2 h)
    iapply (WP_ifp c 𝒱 (hcond.2 h))
    iapply (WP_bind c 𝒱)
    iapply (part4_ok c d 𝒱 m0 hm0 _ _ _ _ _ _ _ _ _ _ hp') $$ [Hc HT]
    · isplitl [Hc] <;> iassumption
    iintro %r %hr ⟨Hc, HT⟩
    obtain ⟨v267, h17, v288⟩ := r
    have h1 : v267 = W (d.n (sched d.n 3).1) := hr
    subst h1
    iapply (wp_scaleY c d 𝒱 3 _ _ (by decide) h hp'.lk8 rfl rfl hp'.mS) $$ HT
    iintro HT
    iapply (wp_bit c d 𝒱 3 (sched d.n 3).1 (sched d.n 3).2 0 (by decide) h (by decide) rfl hp'.nb8 (hp'.cnd 0 (by decide)) hp'.oT hp'.oT (fun _ => hp'.bX 0 (by decide)) (fun _ => hp'.mX 0 (by decide)) (fun _ => hp'.bDY 0 (by decide)) (fun _ => hp'.mDY 0 (by decide))) $$ HT
    iintro HT
    iapply (wp_bit c d 𝒱 3 (sched d.n 3).1 (sched d.n 3).2 1 (by decide) h (by decide) rfl hp'.nb8 (hp'.cnd 1 (by decide)) hp'.oT hp'.oT (fun _ => hp'.bX 1 (by decide)) (fun _ => hp'.mX 1 (by decide)) (fun _ => hp'.bDY 1 (by decide)) (fun _ => hp'.mDY 1 (by decide))) $$ HT
    iintro HT
    iapply (wp_bit c d 𝒱 3 (sched d.n 3).1 (sched d.n 3).2 2 (by decide) h (by decide) rfl hp'.nb8 (hp'.cnd 2 (by decide)) hp'.oT hp'.oT (fun _ => hp'.bX 2 (by decide)) (fun _ => hp'.mX 2 (by decide)) (fun _ => hp'.bDY 2 (by decide)) (fun _ => hp'.mDY 2 (by decide))) $$ HT
    iintro HT
    iapply (wp_bit c d 𝒱 3 (sched d.n 3).1 (sched d.n 3).2 3 (by decide) h (by decide) rfl hp'.nb8 (hp'.cnd 3 (by decide)) hp'.oT hp'.oT (fun _ => hp'.bX 3 (by decide)) (fun _ => hp'.mX 3 (by decide)) (fun _ => hp'.bDY 3 (by decide)) (fun _ => hp'.mDY 3 (by decide))) $$ HT
    iintro HT
    irevert HT
    rw [← tokSt_live c d 3 h]
    iintro HT
    iapply (wp_cnt c 𝒱 (min (sched d.n 3).1 47) (min_off hq.le)) $$ Hc
    iintro Hc
    iapply (WP_pure c 𝒱)
    iapply Hk $$ []
    · ipureintro; rfl
    iframe
  · irevert HT
    rw [← tokSt_none c d 3 h]
    iintro HT
    iapply (WP_ifn c 𝒱 (fun hh => h (hcond.1 hh)))
    iapply (wp_cnt c 𝒱 (min (sched d.n 3).1 47) (min_off hq.le)) $$ Hc
    iintro Hc
    iapply (WP_pure c 𝒱)
    iapply Hk $$ []
    · ipureintro; rfl
    iframe

end Cert.KernelIdeal.Hand
-- ==== Proof.Start5.lean ====
/-
  What is started before the experts' loop: the chunk of slot 4; the loop itself.
-/
module

public import proofs.«01_k».proof.Proof.Start

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

/-- What the experts' loop leaves. -/
def left7 (fo : BufOf (F := F) c mO) : sProp 𝕄 :=
  iprop(∃ p, cnt (F := F) c m0 d.n ∗ owesE (F := F) c ∗ prep0 (F := F) c ∗ toks c d p ∗ ⌜AtE d.n 48 p⌝ ∗ accs c d 55 48 ∗ pt c mO (wOi 0 38) (OV c d) ∗ pt c mO (wOi 48 48) fo)

theorem I7_end (fo : BufOf (F := F) c mO) {a} : I7 c d m0 fo (Scf.trips k0_t7_loop.lb k0_t7_loop.ub k0_t7_loop.st) a ⊢ left7 c d m0 fo := by
  have ht : Scf.trips k0_t7_loop.lb k0_t7_loop.ub k0_t7_loop.st = 48 := by decide +kernel
  rw [ht]
  unfold I7 left7
  iintro ⟨%p, ⟨%hp, %ha⟩, Hc, HO, HP, HT, HA, Hd, Hf⟩
  iexists p
  isplitl [Hc]; · iexact Hc
  isplitl [HO]; · iexact HO
  isplitl [HP]; · iexact HP
  isplitl [HT]; · iexact HT
  isplitr; · ipureintro; exact hp
  isplitl [HA]; · iexact HA
  isplitl [Hd]; · iexact Hd
  iexact Hf

set_option maxHeartbeats 2400000 in
/-- The chunk of slot 4, and the experts' loop. -/
theorem part25_ok (fo : BufOf (F := F) c mO) {Q : _ → sProp 𝕄} :
    iprop(cnt (F := F) c m0 d.n ∗ tokFree c d 4 ∗ owesE (F := F) c ∗ prep0 (F := F) c ∗ accs c d 7 0 ∗ pt c mO (wOi 0 0) (OV c d) ∗ pt c mO (wOi 0 48) fo
      ∗ tokSt c d 0 (sched d.n 0).1 (sched d.n 0).2 ∗ tokSt c d 1 (sched d.n 1).1 (sched d.n 1).2 ∗ tokSt c d 2 (sched d.n 2).1 (sched d.n 2).2 ∗ tokSt c d 3 (sched d.n 3).1 (sched d.n 3).2)
    ⊢ iprop((left7 c d m0 fo -∗ Q ⟨⟩) -∗ WP c 𝒱 (k0_part25 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10 (W (d.n (min (sched d.n 0).1 47))) (W (d.n (min (sched d.n 1).1 47))) (W (d.n (min (sched d.n 2).1 47))) (W (sched d.n 3).1) (nxtKW (nxtKW (nxtKW 0#32 (W (d.n (min (sched d.n 0).1 47)))) (W (d.n (min (sched d.n 1).1 47)))) (W (d.n (min (sched d.n 2).1 47)))) (W (d.n (min (sched d.n 3).1 47))) (Scalar.cmpi .sge (Scalar.addi (nxtKW (nxtKW (nxtKW 0#32 (W (d.n (min (sched d.n 0).1 47)))) (W (d.n (min (sched d.n 1).1 47)))) (W (d.n (min (sched d.n 2).1 47)))) 1#32) (nchW (W (d.n (min (sched d.n 3).1 47))))) (condW (Scalar.andi (Scalar.cmpi .slt (W (sched d.n 3).1) 48#32) (Scalar.cmpi .sge (Scalar.addi (nxtKW (nxtKW (nxtKW 0#32 (W (d.n (min (sched d.n 0).1 47)))) (W (d.n (min (sched d.n 1).1 47)))) (W (d.n (min (sched d.n 2).1 47)))) 1#32) (nchW (W (d.n (min (sched d.n 3).1 47)))))))) Q) := by
  have hq := wf_sched d.hn 4
  have hkw : (nxtKW (nxtKW (nxtKW (nxtKW 0#32 (W (d.n (min (sched d.n 0).1 47)))) (W (d.n (min (sched d.n 1).1 47)))) (W (d.n (min (sched d.n 2).1 47)))) (W (d.n (min (sched d.n 3).1 47)))) = W (sched d.n 4).2 := kw4 d.hn
  have hcond : k0_cond25 (W (sched d.n 4).1) = 1#1 ↔ (sched d.n 4).1 < 48 := lt48 hq.le
  have hpw : k0_cond25 (W (sched d.n 4).1) = 1#1 → PW (W (d.n (sched d.n 4).1)) (nxtKW (nxtKW (nxtKW (nxtKW 0#32 (W (d.n (min (sched d.n 0).1 47)))) (W (d.n (min (sched d.n 1).1 47)))) (W (d.n (min (sched d.n 2).1 47)))) (W (d.n (min (sched d.n 3).1 47)))) (Scalar.minsi (W (sched d.n 4).1) 47#32) 4#32 (d.n (sched d.n 4).1) (sched d.n 4).1 (sched d.n 4).2 4 := fun h => by rw [hkw]; exact pw_sched d.hn hq (by decide) rfl (hcond.1 h)
  have hnext := next_cond d.hn 3 (kw3 d.hn)
  unfold k0_part25
  iintro ⟨Hc, HT, HO, HP, HA, Hd, Hf, H0, H1, H2, H3⟩ Hk
  iapply (wp_nextE c d 𝒱 m0 (sched d.n 3) (wf_sched d.hn 3).le hnext rfl (fun _ => rfl)) $$ Hc
  iintro Hc
  iapply (WP_assume c 𝒱 (chk9_ok (W (d.n (min (sched d.n 0).1 47))) (W (d.n (min (sched d.n 1).1 47))) (W (d.n (min (sched d.n 2).1 47))) (W (d.n (min (sched d.n 3).1 47))) (W (sched d.n 4).1) hpw (minE _ hq.le)))
  by_cases h : (sched d.n 4).1 < 48
  · have hp' := hpw (hcond.2 h)
    iapply (WP_ifp c 𝒱 (hcond.2 h))
    iapply (WP_bind c 𝒱)
    iapply (part5_ok c d 𝒱 m0 hm0 _ _ _ _ _ _ _ _ _ _ _ hp') $$ [Hc HT]
    · isplitl [Hc] <;> iassumption
    iintro %r %hr ⟨Hc, HT⟩
    obtain ⟨v267, h17, v288⟩ := r
    have h1 : v267 = W (d.n (sched d.n 4).1) := hr
    subst h1
    iapply (wp_scaleY c d 𝒱 4 _ _ (by decide) h hp'.lk8 rfl rfl hp'.mS) $$ HT
    iintro HT
    iapply (wp_bit c d 𝒱 4 (sched d.n 4).1 (sched d.n 4).2 0 (by decide) h (by decide) rfl hp'.nb8 (hp'.cnd 0 (by decide)) hp'.oT hp'.oT (fun _ => hp'.bX 0 (by decide)) (fun _ => hp'.mX 0 (by decide)) (fun _ => hp'.bDY 0 (by decide)) (fun _ => hp'.mDY 0 (by decide))) $$ HT
    iintro HT
    iapply (wp_bit c d 𝒱 4 (sched d.n 4).1 (sched d.n 4).2 1 (by decide) h (by decide) rfl hp'.nb8 (hp'.cnd 1 (by decide)) hp'.oT hp'.oT (fun _ => hp'.bX 1 (by decide)) (fun _ => hp'.mX 1 (by decide)) (fun _ => hp'.bDY 1 (by decide)) (fun _ => hp'.mDY 1 (by decide))) $$ HT
    iintro HT
    iapply (wp_bit c d 𝒱 4 (sched d.n 4).1 (sched d.n 4).2 2 (by decide) h (by decide) rfl hp'.nb8 (hp'.cnd 2 (by decide)) hp'.oT hp'.oT (fun _ => hp'.bX 2 (by decide)) (fun _ => hp'.mX 2 (by decide)) (fun _ => hp'.bDY 2 (by decide)) (fun _ => hp'.mDY 2 (by decide))) $$ HT
    iintro HT
    iapply (wp_bit c d 𝒱 4 (sched d.n 4).1 (sched d.n 4).2 3 (by decide) h (by decide) rfl hp'.nb8 (hp'.cnd 3 (by decide)) hp'.oT hp'.oT (fun _ => hp'.bX 3 (by decide)) (fun _ => hp'.mX 3 (by decide)) (fun _ => hp'.bDY 3 (by decide)) (fun _ => hp'.mDY 3 (by decide))) $$ HT
    iintro HT
    irevert HT
    rw [← tokSt_live c d 4 h]
    iintro HT
    iapply (wp_cnt c 𝒱 (min (sched d.n 4).1 47) (min_off hq.le)) $$ Hc
    iintro Hc
    iapply (wp_nextE c d 𝒱 m0 (sched d.n 4) hq.le (next_cond d.hn 4 (kw4 d.hn)) rfl (fun _ => rfl)) $$ Hc
    iintro Hc
    iapply (Scf.wp_for_bind frame (wpE (defs₀ (F := F)) 𝒱 (c : Thread nD τ) none) Set.univ _ _ _ _ _ _ (fun k a => I7 c d m0 fo k a) ?hb) $$ [Hc HO HP HA H0 H1 H2 H3 HT Hd Hf]
    case hb =>
      rintro t7 ⟨a1, a2, a3⟩
      exact trip_ok c d 𝒱 m0 hm0 fo t7 a1 a2 a3
    · unfold I7
      iexists 0
      isplitr
      · ipureintro; exact ⟨atE_zero _, congrArg (fun k => ((0#32 : BitVec 32), W (sched d.n 5).1, k)) (kw5 d.hn)⟩
      unfold toks tokAt
      isplitl [Hc]; · iexact Hc
      isplitl [HO]; · iexact HO
      isplitl [HP]; · iexact HP
      isplitl [H0 H1 H2 H3 HT]
      · isplitl [H0]; · iexact H0
        isplitl [H1]; · iexact H1
        isplitl [H2]; · iexact H2
        isplitl [H3]; · iexact H3
        iexact HT
      isplitl [HA]; · iexact HA
      isplitl [Hd]; · iexact Hd
      iexact Hf
    iintro %r HI
    obtain ⟨r1, r2, r3⟩ := r
    iapply (WP_pure c 𝒱)
    iapply Hk
    iapply (I7_end c d m0 fo) $$ HI
  · irevert HT
    rw [← tokSt_none c d 4 h]
    iintro HT
    iapply (WP_ifn c 𝒱 (fun hh => h (hcond.1 hh)))
    iapply (wp_cnt c 𝒱 (min (sched d.n 4).1 47) (min_off hq.le)) $$ Hc
    iintro Hc
    iapply (wp_nextE c d 𝒱 m0 (sched d.n 4) hq.le (next_cond d.hn 4 (kw4 d.hn)) rfl (fun _ => rfl)) $$ Hc
    iintro Hc
    iapply (Scf.wp_for_bind frame (wpE (defs₀ (F := F)) 𝒱 (c : Thread nD τ) none) Set.univ _ _ _ _ _ _ (fun k a => I7 c d m0 fo k a) ?hb) $$ [Hc HO HP HA H0 H1 H2 H3 HT Hd Hf]
    case hb =>
      rintro t7 ⟨a1, a2, a3⟩
      exact trip_ok c d 𝒱 m0 hm0 fo t7 a1 a2 a3
    · unfold I7
      iexists 0
      isplitr
      · ipureintro; exact ⟨atE_zero _, congrArg (fun k => ((0#32 : BitVec 32), W (sched d.n 5).1, k)) (kw5 d.hn)⟩
      unfold toks tokAt
      isplitl [Hc]; · iexact Hc
      isplitl [HO]; · iexact HO
      isplitl [HP]; · iexact HP
      isplitl [H0 H1 H2 H3 HT]
      · isplitl [H0]; · iexact H0
        isplitl [H1]; · iexact H1
        isplitl [H2]; · iexact H2
        isplitl [H3]; · iexact H3
        iexact HT
      isplitl [HA]; · iexact HA
      isplitl [Hd]; · iexact Hd
      iexact Hf
    iintro %r HI
    obtain ⟨r1, r2, r3⟩ := r
    iapply (WP_pure c 𝒱)
    iapply Hk
    iapply (I7_end c d m0 fo) $$ HI

end Cert.KernelIdeal.Hand
-- ==== Proof.Body.lean ====
/-
  The whole body: from idle buffers to idle buffers, the results written.
-/
module

public import proofs.«01_k».proof.Proof.Start
public import proofs.«01_k».proof.Proof.Start2
public import proofs.«01_k».proof.Proof.Start3
public import proofs.«01_k».proof.Proof.Start4
public import proofs.«01_k».proof.Proof.Start5

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

variable (m0 : Memref sig .tc .smem S48 .i32) (hm0 : m0.IsWhole)

theorem part26_ok {Q : _ → sProp 𝕄} :
    iprop(outFl c d 38 ∗ outFl c d 39 ∗ outFl c d 40 ∗ outFl c d 41 ∗ owesE (F := F) c ∗ pt c mO (wOi 0 38) (OV c d))
    ⊢ iprop((iprop(accIdle c d 8 ∗ accIdle c d 9 ∗ accIdle c d 0 ∗ accIdle c d 1 ∗ owesE (F := F) c ∗ pt c mO (wOi 0 42) (OV c d)) -∗ Q ⟨⟩) -∗ WP c 𝒱 (k0_part26 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10) Q) := by
  unfold k0_part26
  iintro ⟨I38, I39, I40, I41, HO, Hd⟩ Hk
  iapply (wp_outWait c d 𝒱 38 rfl) $$ [I38 HO]
  · isplitl [I38] <;> iassumption
  iintro ⟨I38, Hr, HO⟩
  ihave Hd := (out_join c d 38) $$ [Hd Hr]
  · isplitl [Hd] <;> iassumption
  iapply (wp_outWait c d 𝒱 39 rfl) $$ [I39 HO]
  · isplitl [I39] <;> iassumption
  iintro ⟨I39, Hr, HO⟩
  ihave Hd := (out_join c d 39) $$ [Hd Hr]
  · isplitl [Hd] <;> iassumption
  iapply (wp_outWait c d 𝒱 40 rfl) $$ [I40 HO]
  · isplitl [I40] <;> iassumption
  iintro ⟨I40, Hr, HO⟩
  ihave Hd := (out_join c d 40) $$ [Hd Hr]
  · isplitl [Hd] <;> iassumption
  iapply (wp_outWait c d 𝒱 41 rfl) $$ [I41 HO]
  · isplitl [I41] <;> iassumption
  iintro ⟨I41, Hr, HO⟩
  ihave Hd := (out_join c d 41) $$ [Hd Hr]
  · isplitl [Hd] <;> iassumption
  iapply (WP_pure c 𝒱)
  iapply Hk
  isplitl [I38]; · iexact I38
  isplitl [I39]; · iexact I39
  isplitl [I40]; · iexact I40
  isplitl [I41]; · iexact I41
  isplitl [HO] <;> iassumption

theorem part27_ok {Q : _ → sProp 𝕄} :
    iprop(outFl c d 42 ∗ outFl c d 43 ∗ outFl c d 44 ∗ outFl c d 45 ∗ owesE (F := F) c ∗ pt c mO (wOi 0 42) (OV c d))
    ⊢ iprop((iprop(accIdle c d 2 ∗ accIdle c d 3 ∗ accIdle c d 4 ∗ accIdle c d 5 ∗ owesE (F := F) c ∗ pt c mO (wOi 0 46) (OV c d)) -∗ Q ⟨⟩) -∗ WP c 𝒱 (k0_part27 m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10) Q) := by
  unfold k0_part27
  iintro ⟨I42, I43, I44, I45, HO, Hd⟩ Hk
  iapply (wp_outWait c d 𝒱 42 rfl) $$ [I42 HO]
  · isplitl [I42] <;> iassumption
  iintro ⟨I42, Hr, HO⟩
  ihave Hd := (out_join c d 42) $$ [Hd Hr]
  · isplitl [Hd] <;> iassumption
  iapply (wp_outWait c d 𝒱 43 rfl) $$ [I43 HO]
  · isplitl [I43] <;> iassumption
  iintro ⟨I43, Hr, HO⟩
  ihave Hd := (out_join c d 43) $$ [Hd Hr]
  · isplitl [Hd] <;> iassumption
  iapply (wp_outWait c d 𝒱 44 rfl) $$ [I44 HO]
  · isplitl [I44] <;> iassumption
  iintro ⟨I44, Hr, HO⟩
  ihave Hd := (out_join c d 44) $$ [Hd Hr]
  · isplitl [Hd] <;> iassumption
  iapply (wp_outWait c d 𝒱 45 rfl) $$ [I45 HO]
  · isplitl [I45] <;> iassumption
  iintro ⟨I45, Hr, HO⟩
  ihave Hd := (out_join c d 45) $$ [Hd Hr]
  · isplitl [Hd] <;> iassumption
  iapply (WP_pure c 𝒱)
  iapply Hk
  isplitl [I42]; · iexact I42
  isplitl [I43]; · iexact I43
  isplitl [I44]; · iexact I44
  isplitl [I45]; · iexact I45
  isplitl [HO] <;> iassumption

theorem wOi_none (a : ℕ) : wOi a a = ∅ := by
  refine Finset.eq_empty_of_forall_notMem fun i h => ?_
  have h' := (Finset.mem_filter.1 h).2
  exact absurd h'.1 (Nat.not_le.2 h'.2)
theorem wOi_all : wOi 0 48 = Finset.univ := by
  ext i
  have h : (i 0).val < 48 := (i 0).isLt
  exact ⟨fun _ => Finset.mem_univ _, fun _ => Finset.mem_filter.2 ⟨Finset.mem_univ _, Nat.zero_le _, h⟩⟩

/-- Past the last expert every position is at 48. -/
theorem sched_end {n : ℕ → ℕ} {p : ℕ} (h : AtE n 48 p) (i : ℕ) : (sched n (p + i)).1 = 48 := by
  induction i with
  | zero =>
    have h1 := nl_le n (lo := 48) (Nat.le_refl _)
    have h2 := h.1
    show (sched n p).1 = 48
    omega
  | succ i ih =>
    show (nxt n (sched n (p + i))).1 = 48
    unfold nxt
    rw [ih]
    rfl

def free5 : sProp 𝕄 := iprop(tokFree c d 0 ∗ tokFree c d 1 ∗ tokFree c d 2 ∗ tokFree c d 3 ∗ tokFree c d 4)
def idle10 : sProp 𝕄 := iprop(accIdle c d 0 ∗ accIdle c d 1 ∗ accIdle c d 2 ∗ accIdle c d 3 ∗ accIdle c d 4 ∗ accIdle c d 5 ∗ accIdle c d 6 ∗ accIdle c d 7 ∗ accIdle c d 8 ∗ accIdle c d 9)

theorem toks_end {p : ℕ} (h : AtE d.n 48 p) : toks c d p ⊢ free5 c d := by
  have e : ∀ i, tokAt c d (p + i) (p + i) = tokFree c d ((p + i) % 5) := fun i => by
    unfold tokAt; exact tokSt_none c d _ (by rw [sched_end h i]; decide)
  have e0 : tokAt c d p p = tokFree c d (p % 5) := e 0
  unfold toks free5
  rw [e0, e 1, e 2, e 3, e 4]
  obtain h0 | h0 | h0 | h0 | h0 : p % 5 = 0 ∨ p % 5 = 1 ∨ p % 5 = 2 ∨ p % 5 = 3 ∨ p % 5 = 4 := by omega
  · rw [h0, show (p + 1) % 5 = 1 by omega, show (p + 2) % 5 = 2 by omega, show (p + 3) % 5 = 3 by omega, show (p + 4) % 5 = 4 by omega]
  · rw [h0, show (p + 1) % 5 = 2 by omega, show (p + 2) % 5 = 3 by omega, show (p + 3) % 5 = 4 by omega, show (p + 4) % 5 = 0 by omega]
    iintro ⟨H0, H1, H2, H3, H4⟩
    iframe
  · rw [h0, show (p + 1) % 5 = 3 by omega, show (p + 2) % 5 = 4 by omega, show (p + 3) % 5 = 0 by omega, show (p + 4) % 5 = 1 by omega]
    iintro ⟨H0, H1, H2, H3, H4⟩
    iframe
  · rw [h0, show (p + 1) % 5 = 4 by omega, show (p + 2) % 5 = 0 by omega, show (p + 3) % 5 = 1 by omega, show (p + 4) % 5 = 2 by omega]
    iintro ⟨H0, H1, H2, H3, H4⟩
    iframe
  · rw [h0, show (p + 1) % 5 = 0 by omega, show (p + 2) % 5 = 1 by omega, show (p + 3) % 5 = 2 by omega, show (p + 4) % 5 = 3 by omega]
    iintro ⟨H0, H1, H2, H3, H4⟩
    iframe

theorem free5_open : free5 c d ⊢ iprop(tokFree c d 0 ∗ tokFree c d 1 ∗ tokFree c d 2 ∗ tokFree c d 3 ∗ tokFree c d 4) := by
  unfold free5; exact Entails.rfl
theorem accs_begin : iprop(gradFl c d 0 ∗ gradFl c d 1 ∗ gradFl c d 2 ∗ gradFl c d 3 ∗ gradFl c d 4 ∗ gradFl c d 5 ∗ gradFl c d 6 ∗ accIdle c d 7 ∗ accIdle c d 8 ∗ accIdle c d 9) ⊢ accs c d 7 0 := by
  unfold accs
  exact Entails.rfl
theorem accs_end : accs c d 55 48 ⊢ iprop(outFl c d 38 ∗ outFl c d 39 ∗ outFl c d 40 ∗ outFl c d 41 ∗ outFl c d 42 ∗ outFl c d 43 ∗ outFl c d 44 ∗ outFl c d 45 ∗ outFl c d 46 ∗ outFl c d 47) := by
  unfold accs
  exact Entails.rfl

set_option maxHeartbeats 1600000 in
/-- The body: every buffer idle before and after, and the results written. -/
theorem body_ok (fo : BufOf (F := F) c mO) {Q : _ → sProp 𝕄} :
    iprop(cnt (F := F) c m0 d.n ∗ owesE (F := F) c ∗ prep0 (F := F) c ∗ free5 c d ∗ idle10 c d ∗ pt c mO Finset.univ fo)
    ⊢ iprop((iprop(cnt (F := F) c m0 d.n ∗ owesE (F := F) c ∗ prep0 (F := F) c ∗ free5 c d ∗ idle10 c d ∗ pt c mO Finset.univ (OV c d)) -∗ Q ⟨⟩)
      -∗ WP c 𝒱 (cc0_moe_wgrad m0 hm0 mX (Memref.isWhole_whole _) mSX (Memref.isWhole_whole _) mDY (Memref.isWhole_whole _) mSY (Memref.isWhole_whole _) mG (Memref.isWhole_whole _) mO (Memref.isWhole_whole _) bX (Memref.isWhole_whole _) bDY (Memref.isWhole_whole _) bSX (Memref.isWhole_whole _) bSY (Memref.isWhole_whole _) bA (Memref.isWhole_whole _) bXS (Memref.isWhole_whole _) bDS (Memref.isWhole_whole _) cc0_scratch7 cc0_scratch8 cc0_scratch9 cc0_scratch10) Q) := by
  rw [← wOi_all]
  unfold cc0_moe_wgrad
  iintro ⟨Hc, HO, HP, HF, HI, Hf⟩ Hk
  irevert HF HI
  conv => unfold free5 idle10
  iintro ⟨F0, F1, F2, F3, F4⟩ ⟨A0, A1, A2, A3, A4, A5, A6, A7, A8, A9⟩
  iapply (WP_bind c 𝒱)
  iapply (part20_ok c d 𝒱 m0 hm0) $$ [A0 A1 A2 A3]
  · iframe
  iintro ⟨A0, A1, A2, A3⟩
  iapply (WP_bind c 𝒱)
  iapply (part21_ok c d 𝒱 m0 hm0) $$ [Hc A4 A5 A6 F0]
  · iframe
  iintro %r %hr ⟨Hc, A4, A5, A6, F0⟩
  obtain ⟨hw, hr⟩ := hr
  subst hr
  iapply (WP_bind c 𝒱)
  iapply (part22_ok c d 𝒱 m0 hm0) $$ [Hc F1]
  · isplitl [Hc] <;> iassumption
  iintro %r %hr ⟨Hc, F1⟩
  subst hr
  iapply (WP_bind c 𝒱)
  iapply (part23_ok c d 𝒱 m0 hm0) $$ [Hc F2]
  · isplitl [Hc] <;> iassumption
  iintro %r %hr ⟨Hc, F2⟩
  subst hr
  iapply (WP_bind c 𝒱)
  iapply (part24_ok c d 𝒱 m0 hm0) $$ [Hc F3]
  · isplitl [Hc] <;> iassumption
  iintro %r %hr ⟨Hc, F3⟩
  subst hr
  iapply (WP_bind c 𝒱)
  ihave HA := (accs_begin c d) $$ [A0 A1 A2 A3 A4 A5 A6 A7 A8 A9]
  · iframe
  iapply (part25_ok c d 𝒱 m0 hm0 fo) $$ [Hc F4 HO HP HA Hf F0 F1 F2 F3]
  · isplitl [Hc]; · iexact Hc
    isplitl [F4]; · iexact F4
    isplitl [HO]; · iexact HO
    isplitl [HP]; · iexact HP
    isplitl [HA]; · iexact HA
    isplitr
    · rw [wOi_none]; exact Entails.of_eq pointsTo_empty.symm
    isplitl [Hf]; · iexact Hf
    iframe
  iintro HL
  irevert HL
  conv => unfold left7
  iintro ⟨%p, Hc, HO, HP, HT, %hp, HA, Hd, -⟩
  ihave HT := (toks_end c d hp) $$ HT
  ihave HA := (accs_end c d) $$ HA
  icases HA with ⟨I38, I39, I40, I41, I42, I43, I44, I45, I46, I47⟩
  iapply (WP_bind c 𝒱)
  iapply (part26_ok c d 𝒱 m0 hm0) $$ [I38 I39 I40 I41 HO Hd]
  · iframe
  iintro ⟨I38, I39, I40, I41, HO, Hd⟩
  iapply (WP_bind c 𝒱)
  iapply (part27_ok c d 𝒱 m0 hm0) $$ [I42 I43 I44 I45 HO Hd]
  · iframe
  iintro ⟨I42, I43, I44, I45, HO, Hd⟩
  iapply (wp_outWait c d 𝒱 46 rfl) $$ [I46 HO]
  · isplitl [I46] <;> iassumption
  iintro ⟨I46, Hr, HO⟩
  ihave Hd := (out_join c d 46) $$ [Hd Hr]
  · isplitl [Hd] <;> iassumption
  iapply (wp_outWait c d 𝒱 47 rfl) $$ [I47 HO]
  · isplitl [I47] <;> iassumption
  iintro ⟨I47, Hr, HO⟩
  ihave Hd := (out_join c d 47) $$ [Hd Hr]
  · isplitl [Hd] <;> iassumption
  iapply (WP_pure c 𝒱)
  iapply Hk
  isplitl [Hc]; · iexact Hc
  isplitl [HO]; · iexact HO
  isplitl [HP]; · iexact HP
  isplitl [HT]; · iapply (free5_open c d) $$ HT
  isplitr [Hd]
  · isplitl [I40]; · iexact I40
    isplitl [I41]; · iexact I41
    isplitl [I42]; · iexact I42
    isplitl [I43]; · iexact I43
    isplitl [I44]; · iexact I44
    isplitl [I45]; · iexact I45
    isplitl [I46]; · iexact I46
    isplitl [I47]; · iexact I47
    isplitl [I38]; · iexact I38
    iexact I39
  iexact Hd

end Cert.KernelIdeal.Hand
-- ==== Proof.Split.lean ====
/-
  The kernel's memory, dealt out slot by slot before the body and put together again after it: the staging buffers
  by slot, the arrays the body reads into one share per copy that may be on its way.
-/
module

public import proofs.«01_k».proof.Proof.Body

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (c : Dev nD) (d : Data F c) (𝒱 : Variants)

/-- The thirty semaphores of the body: five for the tokens' copies, five for the second scales', ten for the
    gradients', ten for the results'. -/
abbrev osem0 : Fin 30 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30] : Fin 30 → SemLoc sig) j
theorem ownSemFacts0 : Pipeline.OwnSemFacts spec0 osem0 := by decide +kernel
/-- The semaphores one by one, at zero. -/
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (sT 0)) 0 ∗ semVal ((c : Thread nD τ), SemLoc.dma (sT 1)) 0 ∗ semVal ((c : Thread nD τ), SemLoc.dma (sT 2)) 0 ∗ semVal ((c : Thread nD τ), SemLoc.dma (sT 3)) 0 ∗ semVal ((c : Thread nD τ), SemLoc.dma (sT 4)) 0 ∗ semVal ((c : Thread nD τ), SemLoc.dma (sY 0)) 0 ∗ semVal ((c : Thread nD τ), SemLoc.dma (sY 1)) 0 ∗ semVal ((c : Thread nD τ), SemLoc.dma (sY 2)) 0 ∗ semVal ((c : Thread nD τ), SemLoc.dma (sY 3)) 0 ∗ semVal ((c : Thread nD τ), SemLoc.dma (sY 4)) 0 ∗ semVal ((c : Thread nD τ), SemLoc.dma (sG 0)) 0 ∗ semVal ((c : Thread nD τ), SemLoc.dma (sG 1)) 0 ∗ semVal ((c : Thread nD τ), SemLoc.dma (sG 2)) 0 ∗ semVal ((c : Thread nD τ), SemLoc.dma (sG 3)) 0 ∗ semVal ((c : Thread nD τ), SemLoc.dma (sG 4)) 0 ∗ semVal ((c : Thread nD τ), SemLoc.dma (sG 5)) 0 ∗ semVal ((c : Thread nD τ), SemLoc.dma (sG 6)) 0 ∗ semVal ((c : Thread nD τ), SemLoc.dma (sG 7)) 0 ∗ semVal ((c : Thread nD τ), SemLoc.dma (sG 8)) 0 ∗ semVal ((c : Thread nD τ), SemLoc.dma (sG 9)) 0 ∗ semVal ((c : Thread nD τ), SemLoc.dma (sO 0)) 0 ∗ semVal ((c : Thread nD τ), SemLoc.dma (sO 1)) 0 ∗ semVal ((c : Thread nD τ), SemLoc.dma (sO 2)) 0 ∗ semVal ((c : Thread nD τ), SemLoc.dma (sO 3)) 0 ∗ semVal ((c : Thread nD τ), SemLoc.dma (sO 4)) 0 ∗ semVal ((c : Thread nD τ), SemLoc.dma (sO 5)) 0 ∗ semVal ((c : Thread nD τ), SemLoc.dma (sO 6)) 0 ∗ semVal ((c : Thread nD τ), SemLoc.dma (sO 7)) 0 ∗ semVal ((c : Thread nD τ), SemLoc.dma (sO 8)) 0 ∗ semVal ((c : Thread nD τ), SemLoc.dma (sO 9)) 0) := by
  rw [Pipeline.ownSems0_eq_of_list c osem0 [0, 1, 2, 3, 4, 5, 6, 7, 8, 9, 10, 11, 12, 13, 14, 15, 16, 17, 18, 19, 20, 21, 22, 23, 24, 25, 26, 27, 28, 29] (by decide +kernel) (by decide +kernel)]; rfl

/-- The arrays the body reads. -/
def H0 : Finset (Ref sig .tc) := {main_arg0, main_arg1, main_v0, main_arg3, main_v1}
/-- The array it writes. -/
def R0 : Finset (Ref sig .tc) := {main_v2}
theorem H0_sub : H0 ⊆ Pipeline.restRefs sig spec0 := by decide
theorem R0_sub : R0 ⊆ Pipeline.restRefs sig spec0 \ H0 := by decide

section Split
variable {ℓ : Loc nD τ sig} {q : PosShare TreeShare}

theorem list5 (Φ : ℕ → sProp 𝕄) : bigSep (Finset.range 5) Φ = iprop(Φ 0 ∗ Φ 1 ∗ Φ 2 ∗ Φ 3 ∗ Φ 4) := by
  rw [BI.bigSep_eq_bigSepL_of_eq [0, 1, 2, 3, 4] (by decide) (by decide)]; rfl
/-- A buffer, whole at some contents, is its 5 slots, each at some contents. -/
theorem slots5 (K : ℕ → Finset (Idx ℓ)) (hd : ∀ t ∈ Finset.range 5, ∀ t' ∈ Finset.range 5, t ≠ t' → Disjoint (K t) (K t'))
    (hu : (Finset.range 5).biUnion K = Finset.univ) :
    (iprop(∃ f, ℓ ↦[Finset.univ]{q} f) : sProp 𝕄) ⊢ iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f)) := by
  iintro ⟨%f, H⟩
  ihave H := ((Entails.of_eq (by rw [← hu, pointsTo_biUnion _ K hd, list5])) :
    (ℓ ↦[Finset.univ]{q} f : sProp 𝕄) ⊢ iprop((ℓ ↦[K 0]{q} f) ∗ (ℓ ↦[K 1]{q} f) ∗ (ℓ ↦[K 2]{q} f) ∗ (ℓ ↦[K 3]{q} f) ∗ (ℓ ↦[K 4]{q} f))) $$ H
  icases H with ⟨H0, H1, H2, H3, H4⟩
  isplitl [H0]; · iexists f; iexact H0
  isplitl [H1]; · iexists f; iexact H1
  isplitl [H2]; · iexists f; iexact H2
  isplitl [H3]; · iexists f; iexact H3
  iexists f; iexact H4
/-- The 5 slots, each at some contents, are the buffer whole at some contents. -/
theorem unslots5 (K : ℕ → Finset (Idx ℓ)) (hd : ∀ t ∈ Finset.range 5, ∀ t' ∈ Finset.range 5, t ≠ t' → Disjoint (K t) (K t'))
    (hu : (Finset.range 5).biUnion K = Finset.univ) :
    (iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f)) : sProp 𝕄) ⊢ iprop(∃ f, ℓ ↦[Finset.univ]{q} f) := by
  iintro ⟨⟨%f0, H0⟩, ⟨%f1, H1⟩, ⟨%f2, H2⟩, ⟨%f3, H3⟩, ⟨%f4, H4⟩⟩
  let fs : ℕ → Buf (Elt F) ℓ := fun | 0 => f0 | 1 => f1 | 2 => f2 | 3 => f3 | _ => f4
  ihave H := ((Entails.of_eq (list5 _).symm).trans (pointsTo_biUnion_join (Finset.range 5) K fs f0 hd) :
    (iprop((ℓ ↦[K 0]{q} fs 0) ∗ (ℓ ↦[K 1]{q} fs 1) ∗ (ℓ ↦[K 2]{q} fs 2) ∗ (ℓ ↦[K 3]{q} fs 3) ∗ (ℓ ↦[K 4]{q} fs 4)) : sProp 𝕄) ⊢ _) $$ [H0 H1 H2 H3 H4]
  · isplitl [H0]; · iexact H0
    isplitl [H1]; · iexact H1
    isplitl [H2]; · iexact H2
    isplitl [H3]; · iexact H3
    iexact H4
  rw [hu]
  icases H with ⟨%g, -, H⟩
  iexists g; iexact H

theorem list10 (Φ : ℕ → sProp 𝕄) : bigSep (Finset.range 10) Φ = iprop(Φ 0 ∗ Φ 1 ∗ Φ 2 ∗ Φ 3 ∗ Φ 4 ∗ Φ 5 ∗ Φ 6 ∗ Φ 7 ∗ Φ 8 ∗ Φ 9) := by
  rw [BI.bigSep_eq_bigSepL_of_eq [0, 1, 2, 3, 4, 5, 6, 7, 8, 9] (by decide) (by decide)]; rfl
/-- A buffer, whole at some contents, is its 10 slots, each at some contents. -/
theorem slots10 (K : ℕ → Finset (Idx ℓ)) (hd : ∀ t ∈ Finset.range 10, ∀ t' ∈ Finset.range 10, t ≠ t' → Disjoint (K t) (K t'))
    (hu : (Finset.range 10).biUnion K = Finset.univ) :
    (iprop(∃ f, ℓ ↦[Finset.univ]{q} f) : sProp 𝕄) ⊢ iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f) ∗ (∃ f, ℓ ↦[K 5]{q} f) ∗ (∃ f, ℓ ↦[K 6]{q} f) ∗ (∃ f, ℓ ↦[K 7]{q} f) ∗ (∃ f, ℓ ↦[K 8]{q} f) ∗ (∃ f, ℓ ↦[K 9]{q} f)) := by
  iintro ⟨%f, H⟩
  ihave H := ((Entails.of_eq (by rw [← hu, pointsTo_biUnion _ K hd, list10])) :
    (ℓ ↦[Finset.univ]{q} f : sProp 𝕄) ⊢ iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f) ∗ (ℓ ↦[K 6]{q} f) ∗ (ℓ ↦[K 7]{q} f) ∗ (ℓ ↦[K 8]{q} f) ∗ (ℓ ↦[K 9]{q} f))) $$ H
  icases H with ⟨H0, H1, H2, H3, H4, H5, H6, H7, H8, H9⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  iexists f; iexact H9
/-- The 10 slots, each at some contents, are the buffer whole at some contents. -/
theorem unslots10 (K : ℕ → Finset (Idx ℓ)) (hd : ∀ t ∈ Finset.range 10, ∀ t' ∈ Finset.range 10, t ≠ t' → Disjoint (K t) (K t'))
    (hu : (Finset.range 10).biUnion K = Finset.univ) :
    (iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f) ∗ (∃ f, ℓ ↦[K 5]{q} f) ∗ (∃ f, ℓ ↦[K 6]{q} f) ∗ (∃ f, ℓ ↦[K 7]{q} f) ∗ (∃ f, ℓ ↦[K 8]{q} f) ∗ (∃ f, ℓ ↦[K 9]{q} f)) : sProp 𝕄) ⊢ iprop(∃ f, ℓ ↦[Finset.univ]{q} f) := by
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  let fs : ℕ → Buf (Elt F) ℓ := fun | 0 => f0 | 1 => f1 | 2 => f2 | 3 => f3 | 4 => f4 | 5 => f5 | 6 => f6 | 7 => f7 | 8 => f8 | _ => f9
  ihave H := ((Entails.of_eq (list10 _).symm).trans (pointsTo_biUnion_join (Finset.range 10) K fs f0 hd) :
    (iprop((ℓ ↦[K 0]{q} fs 0) ∗ (ℓ ↦[K 1]{q} fs 1) ∗ (ℓ ↦[K 2]{q} fs 2) ∗ (ℓ ↦[K 3]{q} fs 3) ∗ (ℓ ↦[K 4]{q} fs 4) ∗ (ℓ ↦[K 5]{q} fs 5) ∗ (ℓ ↦[K 6]{q} fs 6) ∗ (ℓ ↦[K 7]{q} fs 7) ∗ (ℓ ↦[K 8]{q} fs 8) ∗ (ℓ ↦[K 9]{q} fs 9)) : sProp 𝕄) ⊢ _) $$ [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [hu]
  icases H with ⟨%g, -, H⟩
  iexists g; iexact H

/-- A whole array is what stays after 5 shares, and the 5 shares. -/
theorem shares5 (f : Buf (Elt F) ℓ) : (ℓ ↦[Finset.univ]{fullShare} f : sProp 𝕄) ⊣⊢ iprop((ℓ ↦[Finset.univ]{shareDrop fullShare 5} f) ∗ (ℓ ↦[Finset.univ]{shareTokN fullShare 0} f) ∗ (ℓ ↦[Finset.univ]{shareTokN fullShare 1} f) ∗ (ℓ ↦[Finset.univ]{shareTokN fullShare 2} f) ∗ (ℓ ↦[Finset.univ]{shareTokN fullShare 3} f) ∗ (ℓ ↦[Finset.univ]{shareTokN fullShare 4} f)) := by
  have h := pointsTo_toks_range (nD := nD) (τ := τ) (sig := sig) (Ix := Unit) (Val := Elt F) (Name := ℕ) (U := Pipeline.UD sig nD τ) (Lvl := ℕ) (ℓ := ℓ) (S := Finset.univ) (f := f) fullShare 5
  rw [list5] at h
  exact h

/-- A whole array is what stays after 10 shares, and the 10 shares. -/
theorem shares10 (f : Buf (Elt F) ℓ) : (ℓ ↦[Finset.univ]{fullShare} f : sProp 𝕄) ⊣⊢ iprop((ℓ ↦[Finset.univ]{shareDrop fullShare 10} f) ∗ (ℓ ↦[Finset.univ]{shareTokN fullShare 0} f) ∗ (ℓ ↦[Finset.univ]{shareTokN fullShare 1} f) ∗ (ℓ ↦[Finset.univ]{shareTokN fullShare 2} f) ∗ (ℓ ↦[Finset.univ]{shareTokN fullShare 3} f) ∗ (ℓ ↦[Finset.univ]{shareTokN fullShare 4} f) ∗ (ℓ ↦[Finset.univ]{shareTokN fullShare 5} f) ∗ (ℓ ↦[Finset.univ]{shareTokN fullShare 6} f) ∗ (ℓ ↦[Finset.univ]{shareTokN fullShare 7} f) ∗ (ℓ ↦[Finset.univ]{shareTokN fullShare 8} f) ∗ (ℓ ↦[Finset.univ]{shareTokN fullShare 9} f)) := by
  have h := pointsTo_toks_range (nD := nD) (τ := τ) (sig := sig) (Ix := Unit) (Val := Elt F) (Name := ℕ) (U := Pipeline.UD sig nD τ) (Lvl := ℕ) (ℓ := ℓ) (S := Finset.univ) (f := f) fullShare 10
  rw [list10] at h
  exact h

theorem list20 (Φ : ℕ → sProp 𝕄) : bigSep (Finset.range 20) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [BI.bigSep_eq_bigSepL_of_eq [0, 1, 2, 3, 4, 5, 6, 7, 8, 9, 10, 11, 12, 13, 14, 15, 16, 17, 18, 19] (by decide) (by decide)]; rfl

/-- A whole array is what stays after 20 shares, and the 20 shares. -/
theorem shares20 (f : Buf (Elt F) ℓ) : (ℓ ↦[Finset.univ]{fullShare} f : sProp 𝕄) ⊣⊢ iprop((ℓ ↦[Finset.univ]{shareDrop fullShare 20} f) ∗ (ℓ ↦[Finset.univ]{shareTokN fullShare 0} f) ∗ (ℓ ↦[Finset.univ]{shareTokN fullShare 1} f) ∗ (ℓ ↦[Finset.univ]{shareTokN fullShare 2} f) ∗ (ℓ ↦[Finset.univ]{shareTokN fullShare 3} f) ∗ (ℓ ↦[Finset.univ]{shareTokN fullShare 4} f) ∗ (ℓ ↦[Finset.univ]{shareTokN fullShare 5} f) ∗ (ℓ ↦[Finset.univ]{shareTokN fullShare 6} f) ∗ (ℓ ↦[Finset.univ]{shareTokN fullShare 7} f) ∗ (ℓ ↦[Finset.univ]{shareTokN fullShare 8} f) ∗ (ℓ ↦[Finset.univ]{shareTokN fullShare 9} f) ∗ (ℓ ↦[Finset.univ]{shareTokN fullShare 10} f) ∗ (ℓ ↦[Finset.univ]{shareTokN fullShare 11} f) ∗ (ℓ ↦[Finset.univ]{shareTokN fullShare 12} f) ∗ (ℓ ↦[Finset.univ]{shareTokN fullShare 13} f) ∗ (ℓ ↦[Finset.univ]{shareTokN fullShare 14} f) ∗ (ℓ ↦[Finset.univ]{shareTokN fullShare 15} f) ∗ (ℓ ↦[Finset.univ]{shareTokN fullShare 16} f) ∗ (ℓ ↦[Finset.univ]{shareTokN fullShare 17} f) ∗ (ℓ ↦[Finset.univ]{shareTokN fullShare 18} f) ∗ (ℓ ↦[Finset.univ]{shareTokN fullShare 19} f)) := by
  have h := pointsTo_toks_range (nD := nD) (τ := τ) (sig := sig) (Ix := Unit) (Val := Elt F) (Name := ℕ) (U := Pipeline.UD sig nD τ) (Lvl := ℕ) (ℓ := ℓ) (S := Finset.univ) (f := f) fullShare 20
  rw [list20] at h
  exact h

end Split

theorem wX_apart : ∀ t ∈ Finset.range 5, ∀ t' ∈ Finset.range 5, t ≠ t' → Disjoint (wX t 0 1024) (wX t' 0 1024) := by
  intro t _ t' _ h
  refine Finset.disjoint_left.2 fun i hi hi' => h ?_
  have a := (Finset.mem_filter.1 hi).2
  have b := (Finset.mem_filter.1 hi').2
  exact a.1.symm.trans b.1
theorem wX_all : (Finset.range 5).biUnion (fun s => wX s 0 1024) = Finset.univ := by
  refine Finset.eq_univ_of_forall fun i => Finset.mem_biUnion.2 ⟨(i 0).val, Finset.mem_range.2 (i 0).isLt, Finset.mem_filter.2 ⟨Finset.mem_univ _, ?_⟩⟩
  exact ⟨rfl, Nat.zero_le _, (i 1).isLt⟩
theorem wDY_apart : ∀ t ∈ Finset.range 5, ∀ t' ∈ Finset.range 5, t ≠ t' → Disjoint (wDY t 0 1024) (wDY t' 0 1024) := by
  intro t _ t' _ h
  refine Finset.disjoint_left.2 fun i hi hi' => h ?_
  have a := (Finset.mem_filter.1 hi).2
  have b := (Finset.mem_filter.1 hi').2
  exact a.1.symm.trans b.1
theorem wDY_all : (Finset.range 5).biUnion (fun s => wDY s 0 1024) = Finset.univ := by
  refine Finset.eq_univ_of_forall fun i => Finset.mem_biUnion.2 ⟨(i 0).val, Finset.mem_range.2 (i 0).isLt, Finset.mem_filter.2 ⟨Finset.mem_univ _, ?_⟩⟩
  exact ⟨rfl, Nat.zero_le _, (i 2).isLt⟩
theorem wSX_apart : ∀ t ∈ Finset.range 5, ∀ t' ∈ Finset.range 5, t ≠ t' → Disjoint (wSX t ) (wSX t' ) := by
  intro t _ t' _ h
  refine Finset.disjoint_left.2 fun i hi hi' => h ?_
  have a := (Finset.mem_filter.1 hi).2
  have b := (Finset.mem_filter.1 hi').2
  exact a.symm.trans b
theorem wSX_all : (Finset.range 5).biUnion (fun s => wSX s ) = Finset.univ := by
  refine Finset.eq_univ_of_forall fun i => Finset.mem_biUnion.2 ⟨(i 0).val, Finset.mem_range.2 (i 0).isLt, Finset.mem_filter.2 ⟨Finset.mem_univ _, ?_⟩⟩
  exact rfl
theorem wSY_apart : ∀ t ∈ Finset.range 5, ∀ t' ∈ Finset.range 5, t ≠ t' → Disjoint (wSY t ) (wSY t' ) := by
  intro t _ t' _ h
  refine Finset.disjoint_left.2 fun i hi hi' => h ?_
  have a := (Finset.mem_filter.1 hi).2
  have b := (Finset.mem_filter.1 hi').2
  exact a.symm.trans b
theorem wSY_all : (Finset.range 5).biUnion (fun s => wSY s ) = Finset.univ := by
  refine Finset.eq_univ_of_forall fun i => Finset.mem_biUnion.2 ⟨(i 0).val, Finset.mem_range.2 (i 0).isLt, Finset.mem_filter.2 ⟨Finset.mem_univ _, ?_⟩⟩
  exact rfl
theorem wA_apart : ∀ t ∈ Finset.range 10, ∀ t' ∈ Finset.range 10, t ≠ t' → Disjoint (wA t ) (wA t' ) := by
  intro t _ t' _ h
  refine Finset.disjoint_left.2 fun i hi hi' => h ?_
  have a := (Finset.mem_filter.1 hi).2
  have b := (Finset.mem_filter.1 hi').2
  exact a.symm.trans b
theorem wA_all : (Finset.range 10).biUnion (fun s => wA s ) = Finset.univ := by
  refine Finset.eq_univ_of_forall fun i => Finset.mem_biUnion.2 ⟨(i 0).val, Finset.mem_range.2 (i 0).isLt, Finset.mem_filter.2 ⟨Finset.mem_univ _, ?_⟩⟩
  exact rfl
theorem bX_open : (iprop(∃ f : BufOf (F := F) c bX, pt c bX Finset.univ f) : sProp 𝕄) ⊢ iprop((∃ f, pt c bX (wX 0 0 1024) f) ∗ (∃ f, pt c bX (wX 1 0 1024) f) ∗ (∃ f, pt c bX (wX 2 0 1024) f) ∗ (∃ f, pt c bX (wX 3 0 1024) f) ∗ (∃ f, pt c bX (wX 4 0 1024) f)) :=
  slots5 (ℓ := bX.view.loc (c : Thread nD τ)) (q := fullShare) (fun s => wX s 0 1024) wX_apart wX_all
theorem bX_close : iprop((∃ f, pt c bX (wX 0 0 1024) f) ∗ (∃ f, pt c bX (wX 1 0 1024) f) ∗ (∃ f, pt c bX (wX 2 0 1024) f) ∗ (∃ f, pt c bX (wX 3 0 1024) f) ∗ (∃ f, pt c bX (wX 4 0 1024) f)) ⊢ (iprop(∃ f : BufOf (F := F) c bX, pt c bX Finset.univ f) : sProp 𝕄) :=
  unslots5 (ℓ := bX.view.loc (c : Thread nD τ)) (q := fullShare) (fun s => wX s 0 1024) wX_apart wX_all
theorem bDY_open : (iprop(∃ f : BufOf (F := F) c bDY, pt c bDY Finset.univ f) : sProp 𝕄) ⊢ iprop((∃ f, pt c bDY (wDY 0 0 1024) f) ∗ (∃ f, pt c bDY (wDY 1 0 1024) f) ∗ (∃ f, pt c bDY (wDY 2 0 1024) f) ∗ (∃ f, pt c bDY (wDY 3 0 1024) f) ∗ (∃ f, pt c bDY (wDY 4 0 1024) f)) :=
  slots5 (ℓ := bDY.view.loc (c : Thread nD τ)) (q := fullShare) (fun s => wDY s 0 1024) wDY_apart wDY_all
theorem bDY_close : iprop((∃ f, pt c bDY (wDY 0 0 1024) f) ∗ (∃ f, pt c bDY (wDY 1 0 1024) f) ∗ (∃ f, pt c bDY (wDY 2 0 1024) f) ∗ (∃ f, pt c bDY (wDY 3 0 1024) f) ∗ (∃ f, pt c bDY (wDY 4 0 1024) f)) ⊢ (iprop(∃ f : BufOf (F := F) c bDY, pt c bDY Finset.univ f) : sProp 𝕄) :=
  unslots5 (ℓ := bDY.view.loc (c : Thread nD τ)) (q := fullShare) (fun s => wDY s 0 1024) wDY_apart wDY_all
theorem bSX_open : (iprop(∃ f : BufOf (F := F) c bSX, pt c bSX Finset.univ f) : sProp 𝕄) ⊢ iprop((∃ f, pt c bSX (wSX 0 ) f) ∗ (∃ f, pt c bSX (wSX 1 ) f) ∗ (∃ f, pt c bSX (wSX 2 ) f) ∗ (∃ f, pt c bSX (wSX 3 ) f) ∗ (∃ f, pt c bSX (wSX 4 ) f)) :=
  slots5 (ℓ := bSX.view.loc (c : Thread nD τ)) (q := fullShare) (fun s => wSX s ) wSX_apart wSX_all
theorem bSX_close : iprop((∃ f, pt c bSX (wSX 0 ) f) ∗ (∃ f, pt c bSX (wSX 1 ) f) ∗ (∃ f, pt c bSX (wSX 2 ) f) ∗ (∃ f, pt c bSX (wSX 3 ) f) ∗ (∃ f, pt c bSX (wSX 4 ) f)) ⊢ (iprop(∃ f : BufOf (F := F) c bSX, pt c bSX Finset.univ f) : sProp 𝕄) :=
  unslots5 (ℓ := bSX.view.loc (c : Thread nD τ)) (q := fullShare) (fun s => wSX s ) wSX_apart wSX_all
theorem bSY_open : (iprop(∃ f : BufOf (F := F) c bSY, pt c bSY Finset.univ f) : sProp 𝕄) ⊢ iprop((∃ f, pt c bSY (wSY 0 ) f) ∗ (∃ f, pt c bSY (wSY 1 ) f) ∗ (∃ f, pt c bSY (wSY 2 ) f) ∗ (∃ f, pt c bSY (wSY 3 ) f) ∗ (∃ f, pt c bSY (wSY 4 ) f)) :=
  slots5 (ℓ := bSY.view.loc (c : Thread nD τ)) (q := fullShare) (fun s => wSY s ) wSY_apart wSY_all
theorem bSY_close : iprop((∃ f, pt c bSY (wSY 0 ) f) ∗ (∃ f, pt c bSY (wSY 1 ) f) ∗ (∃ f, pt c bSY (wSY 2 ) f) ∗ (∃ f, pt c bSY (wSY 3 ) f) ∗ (∃ f, pt c bSY (wSY 4 ) f)) ⊢ (iprop(∃ f : BufOf (F := F) c bSY, pt c bSY Finset.univ f) : sProp 𝕄) :=
  unslots5 (ℓ := bSY.view.loc (c : Thread nD τ)) (q := fullShare) (fun s => wSY s ) wSY_apart wSY_all
theorem bA_open : (iprop(∃ f : BufOf (F := F) c bA, pt c bA Finset.univ f) : sProp 𝕄) ⊢ iprop((∃ f, pt c bA (wA 0 ) f) ∗ (∃ f, pt c bA (wA 1 ) f) ∗ (∃ f, pt c bA (wA 2 ) f) ∗ (∃ f, pt c bA (wA 3 ) f) ∗ (∃ f, pt c bA (wA 4 ) f) ∗ (∃ f, pt c bA (wA 5 ) f) ∗ (∃ f, pt c bA (wA 6 ) f) ∗ (∃ f, pt c bA (wA 7 ) f) ∗ (∃ f, pt c bA (wA 8 ) f) ∗ (∃ f, pt c bA (wA 9 ) f)) :=
  slots10 (ℓ := bA.view.loc (c : Thread nD τ)) (q := fullShare) (fun s => wA s ) wA_apart wA_all
theorem bA_close : iprop((∃ f, pt c bA (wA 0 ) f) ∗ (∃ f, pt c bA (wA 1 ) f) ∗ (∃ f, pt c bA (wA 2 ) f) ∗ (∃ f, pt c bA (wA 3 ) f) ∗ (∃ f, pt c bA (wA 4 ) f) ∗ (∃ f, pt c bA (wA 5 ) f) ∗ (∃ f, pt c bA (wA 6 ) f) ∗ (∃ f, pt c bA (wA 7 ) f) ∗ (∃ f, pt c bA (wA 8 ) f) ∗ (∃ f, pt c bA (wA 9 ) f)) ⊢ (iprop(∃ f : BufOf (F := F) c bA, pt c bA Finset.univ f) : sProp 𝕄) :=
  unslots10 (ℓ := bA.view.loc (c : Thread nD τ)) (q := fullShare) (fun s => wA s ) wA_apart wA_all

/-- What stays behind of the arrays the body reads. -/
def left : sProp 𝕄 := iprop((mX.view.loc (c : Thread nD τ) ↦[Finset.univ]{shareDrop fullShare 20} d.X) ∗ (mSX.view.loc (c : Thread nD τ) ↦[Finset.univ]{shareDrop fullShare 5} d.SX) ∗ (mDY.view.loc (c : Thread nD τ) ↦[Finset.univ]{shareDrop fullShare 20} d.DY) ∗ (mSY.view.loc (c : Thread nD τ) ↦[Finset.univ]{shareDrop fullShare 5} d.SY) ∗ (mG.view.loc (c : Thread nD τ) ↦[Finset.univ]{shareDrop fullShare 10} d.G))

/-- All of the kernel's memory but the counts, as the launch hands it over, the output at `fo`. -/
def whole (fo : BufOf (F := F) c mO) : sProp 𝕄 :=
  iprop(((∃ f : BufOf (F := F) c bX, pt c bX Finset.univ f) ∗ (∃ f : BufOf (F := F) c bDY, pt c bDY Finset.univ f) ∗ (∃ f : BufOf (F := F) c bSX, pt c bSX Finset.univ f) ∗ (∃ f : BufOf (F := F) c bSY, pt c bSY Finset.univ f) ∗ (∃ f : BufOf (F := F) c bA, pt c bA Finset.univ f) ∗ (∃ f : BufOf (F := F) c bXS, pt c bXS Finset.univ f) ∗ (∃ f : BufOf (F := F) c bDS, pt c bDS Finset.univ f))
    ∗ (semVal ((c : Thread nD τ), SemLoc.dma (sT 0)) 0 ∗ semVal ((c : Thread nD τ), SemLoc.dma (sT 1)) 0 ∗ semVal ((c : Thread nD τ), SemLoc.dma (sT 2)) 0 ∗ semVal ((c : Thread nD τ), SemLoc.dma (sT 3)) 0 ∗ semVal ((c : Thread nD τ), SemLoc.dma (sT 4)) 0 ∗ semVal ((c : Thread nD τ), SemLoc.dma (sY 0)) 0 ∗ semVal ((c : Thread nD τ), SemLoc.dma (sY 1)) 0 ∗ semVal ((c : Thread nD τ), SemLoc.dma (sY 2)) 0 ∗ semVal ((c : Thread nD τ), SemLoc.dma (sY 3)) 0 ∗ semVal ((c : Thread nD τ), SemLoc.dma (sY 4)) 0 ∗ semVal ((c : Thread nD τ), SemLoc.dma (sG 0)) 0 ∗ semVal ((c : Thread nD τ), SemLoc.dma (sG 1)) 0 ∗ semVal ((c : Thread nD τ), SemLoc.dma (sG 2)) 0 ∗ semVal ((c : Thread nD τ), SemLoc.dma (sG 3)) 0 ∗ semVal ((c : Thread nD τ), SemLoc.dma (sG 4)) 0 ∗ semVal ((c : Thread nD τ), SemLoc.dma (sG 5)) 0 ∗ semVal ((c : Thread nD τ), SemLoc.dma (sG 6)) 0 ∗ semVal ((c : Thread nD τ), SemLoc.dma (sG 7)) 0 ∗ semVal ((c : Thread nD τ), SemLoc.dma (sG 8)) 0 ∗ semVal ((c : Thread nD τ), SemLoc.dma (sG 9)) 0 ∗ semVal ((c : Thread nD τ), SemLoc.dma (sO 0)) 0 ∗ semVal ((c : Thread nD τ), SemLoc.dma (sO 1)) 0 ∗ semVal ((c : Thread nD τ), SemLoc.dma (sO 2)) 0 ∗ semVal ((c : Thread nD τ), SemLoc.dma (sO 3)) 0 ∗ semVal ((c : Thread nD τ), SemLoc.dma (sO 4)) 0 ∗ semVal ((c : Thread nD τ), SemLoc.dma (sO 5)) 0 ∗ semVal ((c : Thread nD τ), SemLoc.dma (sO 6)) 0 ∗ semVal ((c : Thread nD τ), SemLoc.dma (sO 7)) 0 ∗ semVal ((c : Thread nD τ), SemLoc.dma (sO 8)) 0 ∗ semVal ((c : Thread nD τ), SemLoc.dma (sO 9)) 0)
    ∗ (pt c mX Finset.univ d.X ∗ pt c mSX Finset.univ d.SX ∗ pt c mDY Finset.univ d.DY ∗ pt c mSY Finset.univ d.SY ∗ pt c mG Finset.univ d.G) ∗ pt c mO Finset.univ fo)

theorem restFrom_zero (s : ℕ) : restFrom c d s 0 = iprop(bitRes c d s 0 ∗ bitRes c d s 1 ∗ bitRes c d s 2 ∗ bitRes c d s 3) := rfl

set_option maxRecDepth 16384 in
set_option maxHeartbeats 2000000 in
/-- The memory dealt out. -/
theorem whole_open (fo : BufOf (F := F) c mO) : whole c d fo ⊢ iprop(left c d ∗ prep0 (F := F) c ∗ free5 c d ∗ idle10 c d ∗ pt c mO Finset.univ fo) := by
  unfold whole
  iintro ⟨⟨BbX, BbDY, BbSX, BbSY, BbA, BbXS, BbDS⟩, ⟨SsT0, SsT1, SsT2, SsT3, SsT4, SsY0, SsY1, SsY2, SsY3, SsY4, SsG0, SsG1, SsG2, SsG3, SsG4, SsG5, SsG6, SsG7, SsG8, SsG9, SsO0, SsO1, SsO2, SsO3, SsO4, SsO5, SsO6, SsO7, SsO8, SsO9⟩, ⟨AX, ASX, ADY, ASY, AG⟩, HO⟩
  ihave BbX := (bX_open c) $$ BbX
  icases BbX with ⟨BbX0, BbX1, BbX2, BbX3, BbX4⟩
  ihave BbDY := (bDY_open c) $$ BbDY
  icases BbDY with ⟨BbDY0, BbDY1, BbDY2, BbDY3, BbDY4⟩
  ihave BbSX := (bSX_open c) $$ BbSX
  icases BbSX with ⟨BbSX0, BbSX1, BbSX2, BbSX3, BbSX4⟩
  ihave BbSY := (bSY_open c) $$ BbSY
  icases BbSY with ⟨BbSY0, BbSY1, BbSY2, BbSY3, BbSY4⟩
  ihave BbA := (bA_open c) $$ BbA
  icases BbA with ⟨BbA0, BbA1, BbA2, BbA3, BbA4, BbA5, BbA6, BbA7, BbA8, BbA9⟩
  ihave AX := (shares20 d.X).1 $$ AX
  icases AX with ⟨LX, TX0, TX1, TX2, TX3, TX4, TX5, TX6, TX7, TX8, TX9, TX10, TX11, TX12, TX13, TX14, TX15, TX16, TX17, TX18, TX19⟩
  ihave ASX := (shares5 d.SX).1 $$ ASX
  icases ASX with ⟨LSX, TSX0, TSX1, TSX2, TSX3, TSX4⟩
  ihave ADY := (shares20 d.DY).1 $$ ADY
  icases ADY with ⟨LDY, TDY0, TDY1, TDY2, TDY3, TDY4, TDY5, TDY6, TDY7, TDY8, TDY9, TDY10, TDY11, TDY12, TDY13, TDY14, TDY15, TDY16, TDY17, TDY18, TDY19⟩
  ihave ASY := (shares5 d.SY).1 $$ ASY
  icases ASY with ⟨LSY, TSY0, TSY1, TSY2, TSY3, TSY4⟩
  ihave AG := (shares10 d.G).1 $$ AG
  icases AG with ⟨LG, TG0, TG1, TG2, TG3, TG4, TG5, TG6, TG7, TG8, TG9⟩
  isplitl [LX LSX LDY LSY LG]
  · unfold left
    isplitl [LX]; · iexact LX
    isplitl [LSX]; · iexact LSX
    isplitl [LDY]; · iexact LDY
    isplitl [LSY]; · iexact LSY
    iexact LG
  isplitl [BbXS BbDS]
  · unfold prep0; isplitl [BbXS] <;> iassumption
  isplitl [SsT0 SsY0 TX0 TDY0 TX1 TDY1 TX2 TDY2 TX3 TDY3 TSX0 TSY0 BbX0 BbDY0 BbSX0 BbSY0 SsT1 SsY1 TX4 TDY4 TX5 TDY5 TX6 TDY6 TX7 TDY7 TSX1 TSY1 BbX1 BbDY1 BbSX1 BbSY1 SsT2 SsY2 TX8 TDY8 TX9 TDY9 TX10 TDY10 TX11 TDY11 TSX2 TSY2 BbX2 BbDY2 BbSX2 BbSY2 SsT3 SsY3 TX12 TDY12 TX13 TDY13 TX14 TDY14 TX15 TDY15 TSX3 TSY3 BbX3 BbDY3 BbSX3 BbSY3 SsT4 SsY4 TX16 TDY16 TX17 TDY17 TX18 TDY18 TX19 TDY19 TSX4 TSY4 BbX4 BbDY4 BbSX4 BbSY4]
  · unfold free5
    isplitl [SsT0 SsY0 TX0 TDY0 TX1 TDY1 TX2 TDY2 TX3 TDY3 TSX0 TSY0 BbX0 BbDY0 BbSX0 BbSY0]
    · unfold tokFree
      isplitl [SsT0]; · iexact SsT0
      isplitl [SsY0]; · iexact SsY0
      isplitl [TX0 TDY0 TX1 TDY1 TX2 TDY2 TX3 TDY3]
      · rw [restFrom_zero]
        isplitl [TX0 TDY0]
        · unfold bitRes; isplitl [TX0] <;> iassumption
        isplitl [TX1 TDY1]
        · unfold bitRes; isplitl [TX1] <;> iassumption
        isplitl [TX2 TDY2]
        · unfold bitRes; isplitl [TX2] <;> iassumption
        unfold bitRes; isplitl [TX3] <;> iassumption
      isplitl [TSX0]; · iexact TSX0
      isplitl [TSY0]; · iexact TSY0
      isplitl [BbX0]; · iexact BbX0
      isplitl [BbDY0]; · iexact BbDY0
      isplitl [BbSX0]; · iexact BbSX0
      iexact BbSY0
    isplitl [SsT1 SsY1 TX4 TDY4 TX5 TDY5 TX6 TDY6 TX7 TDY7 TSX1 TSY1 BbX1 BbDY1 BbSX1 BbSY1]
    · unfold tokFree
      isplitl [SsT1]; · iexact SsT1
      isplitl [SsY1]; · iexact SsY1
      isplitl [TX4 TDY4 TX5 TDY5 TX6 TDY6 TX7 TDY7]
      · rw [restFrom_zero]
        isplitl [TX4 TDY4]
        · unfold bitRes; isplitl [TX4] <;> iassumption
        isplitl [TX5 TDY5]
        · unfold bitRes; isplitl [TX5] <;> iassumption
        isplitl [TX6 TDY6]
        · unfold bitRes; isplitl [TX6] <;> iassumption
        unfold bitRes; isplitl [TX7] <;> iassumption
      isplitl [TSX1]; · iexact TSX1
      isplitl [TSY1]; · iexact TSY1
      isplitl [BbX1]; · iexact BbX1
      isplitl [BbDY1]; · iexact BbDY1
      isplitl [BbSX1]; · iexact BbSX1
      iexact BbSY1
    isplitl [SsT2 SsY2 TX8 TDY8 TX9 TDY9 TX10 TDY10 TX11 TDY11 TSX2 TSY2 BbX2 BbDY2 BbSX2 BbSY2]
    · unfold tokFree
      isplitl [SsT2]; · iexact SsT2
      isplitl [SsY2]; · iexact SsY2
      isplitl [TX8 TDY8 TX9 TDY9 TX10 TDY10 TX11 TDY11]
      · rw [restFrom_zero]
        isplitl [TX8 TDY8]
        · unfold bitRes; isplitl [TX8] <;> iassumption
        isplitl [TX9 TDY9]
        · unfold bitRes; isplitl [TX9] <;> iassumption
        isplitl [TX10 TDY10]
        · unfold bitRes; isplitl [TX10] <;> iassumption
        unfold bitRes; isplitl [TX11] <;> iassumption
      isplitl [TSX2]; · iexact TSX2
      isplitl [TSY2]; · iexact TSY2
      isplitl [BbX2]; · iexact BbX2
      isplitl [BbDY2]; · iexact BbDY2
      isplitl [BbSX2]; · iexact BbSX2
      iexact BbSY2
    isplitl [SsT3 SsY3 TX12 TDY12 TX13 TDY13 TX14 TDY14 TX15 TDY15 TSX3 TSY3 BbX3 BbDY3 BbSX3 BbSY3]
    · unfold tokFree
      isplitl [SsT3]; · iexact SsT3
      isplitl [SsY3]; · iexact SsY3
      isplitl [TX12 TDY12 TX13 TDY13 TX14 TDY14 TX15 TDY15]
      · rw [restFrom_zero]
        isplitl [TX12 TDY12]
        · unfold bitRes; isplitl [TX12] <;> iassumption
        isplitl [TX13 TDY13]
        · unfold bitRes; isplitl [TX13] <;> iassumption
        isplitl [TX14 TDY14]
        · unfold bitRes; isplitl [TX14] <;> iassumption
        unfold bitRes; isplitl [TX15] <;> iassumption
      isplitl [TSX3]; · iexact TSX3
      isplitl [TSY3]; · iexact TSY3
      isplitl [BbX3]; · iexact BbX3
      isplitl [BbDY3]; · iexact BbDY3
      isplitl [BbSX3]; · iexact BbSX3
      iexact BbSY3
    unfold tokFree
    isplitl [SsT4]; · iexact SsT4
    isplitl [SsY4]; · iexact SsY4
    isplitl [TX16 TDY16 TX17 TDY17 TX18 TDY18 TX19 TDY19]
    · rw [restFrom_zero]
      isplitl [TX16 TDY16]
      · unfold bitRes; isplitl [TX16] <;> iassumption
      isplitl [TX17 TDY17]
      · unfold bitRes; isplitl [TX17] <;> iassumption
      isplitl [TX18 TDY18]
      · unfold bitRes; isplitl [TX18] <;> iassumption
      unfold bitRes; isplitl [TX19] <;> iassumption
    isplitl [TSX4]; · iexact TSX4
    isplitl [TSY4]; · iexact TSY4
    isplitl [BbX4]; · iexact BbX4
    isplitl [BbDY4]; · iexact BbDY4
    isplitl [BbSX4]; · iexact BbSX4
    iexact BbSY4
  isplitl [SsG0 SsO0 TG0 BbA0 SsG1 SsO1 TG1 BbA1 SsG2 SsO2 TG2 BbA2 SsG3 SsO3 TG3 BbA3 SsG4 SsO4 TG4 BbA4 SsG5 SsO5 TG5 BbA5 SsG6 SsO6 TG6 BbA6 SsG7 SsO7 TG7 BbA7 SsG8 SsO8 TG8 BbA8 SsG9 SsO9 TG9 BbA9]
  · unfold idle10
    isplitl [SsG0 SsO0 TG0 BbA0]
    · unfold accIdle accHeld; isplitr [BbA0]
      · isplitl [SsG0]; · iexact SsG0
        isplitl [SsO0] <;> iassumption
      iexact BbA0
    isplitl [SsG1 SsO1 TG1 BbA1]
    · unfold accIdle accHeld; isplitr [BbA1]
      · isplitl [SsG1]; · iexact SsG1
        isplitl [SsO1] <;> iassumption
      iexact BbA1
    isplitl [SsG2 SsO2 TG2 BbA2]
    · unfold accIdle accHeld; isplitr [BbA2]
      · isplitl [SsG2]; · iexact SsG2
        isplitl [SsO2] <;> iassumption
      iexact BbA2
    isplitl [SsG3 SsO3 TG3 BbA3]
    · unfold accIdle accHeld; isplitr [BbA3]
      · isplitl [SsG3]; · iexact SsG3
        isplitl [SsO3] <;> iassumption
      iexact BbA3
    isplitl [SsG4 SsO4 TG4 BbA4]
    · unfold accIdle accHeld; isplitr [BbA4]
      · isplitl [SsG4]; · iexact SsG4
        isplitl [SsO4] <;> iassumption
      iexact BbA4
    isplitl [SsG5 SsO5 TG5 BbA5]
    · unfold accIdle accHeld; isplitr [BbA5]
      · isplitl [SsG5]; · iexact SsG5
        isplitl [SsO5] <;> iassumption
      iexact BbA5
    isplitl [SsG6 SsO6 TG6 BbA6]
    · unfold accIdle accHeld; isplitr [BbA6]
      · isplitl [SsG6]; · iexact SsG6
        isplitl [SsO6] <;> iassumption
      iexact BbA6
    isplitl [SsG7 SsO7 TG7 BbA7]
    · unfold accIdle accHeld; isplitr [BbA7]
      · isplitl [SsG7]; · iexact SsG7
        isplitl [SsO7] <;> iassumption
      iexact BbA7
    isplitl [SsG8 SsO8 TG8 BbA8]
    · unfold accIdle accHeld; isplitr [BbA8]
      · isplitl [SsG8]; · iexact SsG8
        isplitl [SsO8] <;> iassumption
      iexact BbA8
    unfold accIdle accHeld; isplitr [BbA9]
    · isplitl [SsG9]; · iexact SsG9
      isplitl [SsO9] <;> iassumption
    iexact BbA9
  iexact HO

set_option maxRecDepth 16384 in
set_option maxHeartbeats 2000000 in
/-- The memory put together again. -/
theorem whole_close (fo : BufOf (F := F) c mO) : iprop(left c d ∗ prep0 (F := F) c ∗ free5 c d ∗ idle10 c d ∗ pt c mO Finset.univ fo) ⊢ whole c d fo := by
  unfold whole left prep0 free5 idle10
  iintro ⟨⟨LX, LSX, LDY, LSY, LG⟩, ⟨BbXS, BbDS⟩, ⟨F0, F1, F2, F3, F4⟩, ⟨I0, I1, I2, I3, I4, I5, I6, I7, I8, I9⟩, HO⟩
  unfold tokFree accIdle accHeld
  simp only [restFrom_zero]
  unfold bitRes
  icases F0 with ⟨SsT0, SsY0, ⟨⟨TX0, TDY0⟩, ⟨TX1, TDY1⟩, ⟨TX2, TDY2⟩, ⟨TX3, TDY3⟩⟩, TSX0, TSY0, BbX0, BbDY0, BbSX0, BbSY0⟩
  icases F1 with ⟨SsT1, SsY1, ⟨⟨TX4, TDY4⟩, ⟨TX5, TDY5⟩, ⟨TX6, TDY6⟩, ⟨TX7, TDY7⟩⟩, TSX1, TSY1, BbX1, BbDY1, BbSX1, BbSY1⟩
  icases F2 with ⟨SsT2, SsY2, ⟨⟨TX8, TDY8⟩, ⟨TX9, TDY9⟩, ⟨TX10, TDY10⟩, ⟨TX11, TDY11⟩⟩, TSX2, TSY2, BbX2, BbDY2, BbSX2, BbSY2⟩
  icases F3 with ⟨SsT3, SsY3, ⟨⟨TX12, TDY12⟩, ⟨TX13, TDY13⟩, ⟨TX14, TDY14⟩, ⟨TX15, TDY15⟩⟩, TSX3, TSY3, BbX3, BbDY3, BbSX3, BbSY3⟩
  icases F4 with ⟨SsT4, SsY4, ⟨⟨TX16, TDY16⟩, ⟨TX17, TDY17⟩, ⟨TX18, TDY18⟩, ⟨TX19, TDY19⟩⟩, TSX4, TSY4, BbX4, BbDY4, BbSX4, BbSY4⟩
  icases I0 with ⟨⟨SsG0, SsO0, TG0⟩, BbA0⟩
  icases I1 with ⟨⟨SsG1, SsO1, TG1⟩, BbA1⟩
  icases I2 with ⟨⟨SsG2, SsO2, TG2⟩, BbA2⟩
  icases I3 with ⟨⟨SsG3, SsO3, TG3⟩, BbA3⟩
  icases I4 with ⟨⟨SsG4, SsO4, TG4⟩, BbA4⟩
  icases I5 with ⟨⟨SsG5, SsO5, TG5⟩, BbA5⟩
  icases I6 with ⟨⟨SsG6, SsO6, TG6⟩, BbA6⟩
  icases I7 with ⟨⟨SsG7, SsO7, TG7⟩, BbA7⟩
  icases I8 with ⟨⟨SsG8, SsO8, TG8⟩, BbA8⟩
  icases I9 with ⟨⟨SsG9, SsO9, TG9⟩, BbA9⟩
  ihave BbX := (bX_close c) $$ [BbX0 BbX1 BbX2 BbX3 BbX4]
  · isplitl [BbX0]; · iexact BbX0
    isplitl [BbX1]; · iexact BbX1
    isplitl [BbX2]; · iexact BbX2
    isplitl [BbX3]; · iexact BbX3
    iexact BbX4
  ihave BbDY := (bDY_close c) $$ [BbDY0 BbDY1 BbDY2 BbDY3 BbDY4]
  · isplitl [BbDY0]; · iexact BbDY0
    isplitl [BbDY1]; · iexact BbDY1
    isplitl [BbDY2]; · iexact BbDY2
    isplitl [BbDY3]; · iexact BbDY3
    iexact BbDY4
  ihave BbSX := (bSX_close c) $$ [BbSX0 BbSX1 BbSX2 BbSX3 BbSX4]
  · isplitl [BbSX0]; · iexact BbSX0
    isplitl [BbSX1]; · iexact BbSX1
    isplitl [BbSX2]; · iexact BbSX2
    isplitl [BbSX3]; · iexact BbSX3
    iexact BbSX4
  ihave BbSY := (bSY_close c) $$ [BbSY0 BbSY1 BbSY2 BbSY3 BbSY4]
  · isplitl [BbSY0]; · iexact BbSY0
    isplitl [BbSY1]; · iexact BbSY1
    isplitl [BbSY2]; · iexact BbSY2
    isplitl [BbSY3]; · iexact BbSY3
    iexact BbSY4
  ihave BbA := (bA_close c) $$ [BbA0 BbA1 BbA2 BbA3 BbA4 BbA5 BbA6 BbA7 BbA8 BbA9]
  · isplitl [BbA0]; · iexact BbA0
    isplitl [BbA1]; · iexact BbA1
    isplitl [BbA2]; · iexact BbA2
    isplitl [BbA3]; · iexact BbA3
    isplitl [BbA4]; · iexact BbA4
    isplitl [BbA5]; · iexact BbA5
    isplitl [BbA6]; · iexact BbA6
    isplitl [BbA7]; · iexact BbA7
    isplitl [BbA8]; · iexact BbA8
    iexact BbA9
  ihave AX := (shares20 d.X).2 $$ [LX TX0 TX1 TX2 TX3 TX4 TX5 TX6 TX7 TX8 TX9 TX10 TX11 TX12 TX13 TX14 TX15 TX16 TX17 TX18 TX19]
  · isplitl [LX]; · iexact LX
    isplitl [TX0]; · iexact TX0
    isplitl [TX1]; · iexact TX1
    isplitl [TX2]; · iexact TX2
    isplitl [TX3]; · iexact TX3
    isplitl [TX4]; · iexact TX4
    isplitl [TX5]; · iexact TX5
    isplitl [TX6]; · iexact TX6
    isplitl [TX7]; · iexact TX7
    isplitl [TX8]; · iexact TX8
    isplitl [TX9]; · iexact TX9
    isplitl [TX10]; · iexact TX10
    isplitl [TX11]; · iexact TX11
    isplitl [TX12]; · iexact TX12
    isplitl [TX13]; · iexact TX13
    isplitl [TX14]; · iexact TX14
    isplitl [TX15]; · iexact TX15
    isplitl [TX16]; · iexact TX16
    isplitl [TX17]; · iexact TX17
    isplitl [TX18]; · iexact TX18
    iexact TX19
  ihave ASX := (shares5 d.SX).2 $$ [LSX TSX0 TSX1 TSX2 TSX3 TSX4]
  · isplitl [LSX]; · iexact LSX
    isplitl [TSX0]; · iexact TSX0
    isplitl [TSX1]; · iexact TSX1
    isplitl [TSX2]; · iexact TSX2
    isplitl [TSX3]; · iexact TSX3
    iexact TSX4
  ihave ADY := (shares20 d.DY).2 $$ [LDY TDY0 TDY1 TDY2 TDY3 TDY4 TDY5 TDY6 TDY7 TDY8 TDY9 TDY10 TDY11 TDY12 TDY13 TDY14 TDY15 TDY16 TDY17 TDY18 TDY19]
  · isplitl [LDY]; · iexact LDY
    isplitl [TDY0]; · iexact TDY0
    isplitl [TDY1]; · iexact TDY1
    isplitl [TDY2]; · iexact TDY2
    isplitl [TDY3]; · iexact TDY3
    isplitl [TDY4]; · iexact TDY4
    isplitl [TDY5]; · iexact TDY5
    isplitl [TDY6]; · iexact TDY6
    isplitl [TDY7]; · iexact TDY7
    isplitl [TDY8]; · iexact TDY8
    isplitl [TDY9]; · iexact TDY9
    isplitl [TDY10]; · iexact TDY10
    isplitl [TDY11]; · iexact TDY11
    isplitl [TDY12]; · iexact TDY12
    isplitl [TDY13]; · iexact TDY13
    isplitl [TDY14]; · iexact TDY14
    isplitl [TDY15]; · iexact TDY15
    isplitl [TDY16]; · iexact TDY16
    isplitl [TDY17]; · iexact TDY17
    isplitl [TDY18]; · iexact TDY18
    iexact TDY19
  ihave ASY := (shares5 d.SY).2 $$ [LSY TSY0 TSY1 TSY2 TSY3 TSY4]
  · isplitl [LSY]; · iexact LSY
    isplitl [TSY0]; · iexact TSY0
    isplitl [TSY1]; · iexact TSY1
    isplitl [TSY2]; · iexact TSY2
    isplitl [TSY3]; · iexact TSY3
    iexact TSY4
  ihave AG := (shares10 d.G).2 $$ [LG TG0 TG1 TG2 TG3 TG4 TG5 TG6 TG7 TG8 TG9]
  · isplitl [LG]; · iexact LG
    isplitl [TG0]; · iexact TG0
    isplitl [TG1]; · iexact TG1
    isplitl [TG2]; · iexact TG2
    isplitl [TG3]; · iexact TG3
    isplitl [TG4]; · iexact TG4
    isplitl [TG5]; · iexact TG5
    isplitl [TG6]; · iexact TG6
    isplitl [TG7]; · iexact TG7
    isplitl [TG8]; · iexact TG8
    iexact TG9
  isplitl [BbX BbDY BbSX BbSY BbA BbXS BbDS]
  · isplitl [BbX]; · iexact BbX
    isplitl [BbDY]; · iexact BbDY
    isplitl [BbSX]; · iexact BbSX
    isplitl [BbSY]; · iexact BbSY
    isplitl [BbA]; · iexact BbA
    isplitl [BbXS]; · iexact BbXS
    iexact BbDS
  isplitl [SsT0 SsT1 SsT2 SsT3 SsT4 SsY0 SsY1 SsY2 SsY3 SsY4 SsG0 SsG1 SsG2 SsG3 SsG4 SsG5 SsG6 SsG7 SsG8 SsG9 SsO0 SsO1 SsO2 SsO3 SsO4 SsO5 SsO6 SsO7 SsO8 SsO9]
  · isplitl [SsT0]; · iexact SsT0
    isplitl [SsT1]; · iexact SsT1
    isplitl [SsT2]; · iexact SsT2
    isplitl [SsT3]; · iexact SsT3
    isplitl [SsT4]; · iexact SsT4
    isplitl [SsY0]; · iexact SsY0
    isplitl [SsY1]; · iexact SsY1
    isplitl [SsY2]; · iexact SsY2
    isplitl [SsY3]; · iexact SsY3
    isplitl [SsY4]; · iexact SsY4
    isplitl [SsG0]; · iexact SsG0
    isplitl [SsG1]; · iexact SsG1
    isplitl [SsG2]; · iexact SsG2
    isplitl [SsG3]; · iexact SsG3
    isplitl [SsG4]; · iexact SsG4
    isplitl [SsG5]; · iexact SsG5
    isplitl [SsG6]; · iexact SsG6
    isplitl [SsG7]; · iexact SsG7
    isplitl [SsG8]; · iexact SsG8
    isplitl [SsG9]; · iexact SsG9
    isplitl [SsO0]; · iexact SsO0
    isplitl [SsO1]; · iexact SsO1
    isplitl [SsO2]; · iexact SsO2
    isplitl [SsO3]; · iexact SsO3
    isplitl [SsO4]; · iexact SsO4
    isplitl [SsO5]; · iexact SsO5
    isplitl [SsO6]; · iexact SsO6
    isplitl [SsO7]; · iexact SsO7
    isplitl [SsO8]; · iexact SsO8
    iexact SsO9
  isplitl [AX ASX ADY ASY AG]
  · isplitl [AX]; · iexact AX
    isplitl [ASX]; · iexact ASX
    isplitl [ADY]; · iexact ADY
    isplitl [ASY]; · iexact ASY
    iexact AG
  iexact HO

end Cert.KernelIdeal.Hand

end
-- ==== Proof.Launch.lean ====
/-
  The kernel's run: the launch around the body, the values the arguments give it, what every reachable final state
  holds.
-/
module

public import proofs.«01_k».proof.Proof.Split
public import proofs.«01_k».proof.Proof.Gen.KernelIdeal.Points
public import Idealize.ShloMosaic.Lib.Pipeline.FrameSuffixV
public import Idealize.ShloMosaic.Lib.Pipeline.FrameBody

@[expose] public section

noncomputable section

namespace Cert.KernelIdeal.Hand

open Cert.KernelIdeal Cert.KernelIdeal.Gen Cert.Ring Cert.Geo Cert.Words
open Idealize.ShloMosaic Idealize.ShloMosaic.TcCoe Idealize.ShloMosaic.Tactic Idealize.ShloMosaic.ValueIdx
open Idealize.SL Idealize.SL.RA
open Idealize.SL.BI (sProp Storable bigSep bigSep_insert bigSep_empty bigSep_map)
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "ℂ" => Cell nD τ sig (Elt F) (Pipeline.UD sig nD τ)

variable (m : (ℓ : Loc nD τ sig) → Buf (Elt F) ℓ) (ρ : Dev nD → PrngReg)

/-- Core `c`'s arrays when the kernel is entered: after the two transpositions of `@main`. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- `@main` is the transpositions, the kernel, the last transposition. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)

/-! ## The values the arguments give -/

theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.Forall, StableHlo.unary_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.Forall, StableHlo.unary_writes, Finset.mem_singleton]
      repeat' apply And.intro
      all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.Forall, StableHlo.unary_writes, Finset.mem_singleton]
      repeat' apply And.intro
      all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.Forall, StableHlo.unary_writes, Finset.mem_singleton]
      repeat' apply And.intro
      all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
      simp only [hostOps0, List.flatten_cons, List.flatten_nil, List.append_nil, List.Forall, StableHlo.unary_writes, Finset.mem_singleton]
      repeat' apply And.intro
      all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.Forall, StableHlo.unary_writes, Finset.mem_singleton]
      repeat' apply And.intro
      all_goals exact StableHlo.devRef_ne_of_ne (by decide)))
theorem V_main_v0 (c : Dev nD) : V m c main_v0
    = transpose S48x960x8192 [0, 2, 1] (m ((c : Thread nD τ).loc main_arg2) : Vec F S48x8192x960 .fp8e5m2) transposes_S48x8192x960_S48x960x8192_0_2_1 := by
  simp only [V, V0, hostOps0, List.flatten_cons, List.flatten_nil, List.append_nil]
  after_results <;> rfl
theorem V_main_v1 (c : Dev nD) : V m c main_v1
    = transpose S48x960x896 [0, 2, 1] (m ((c : Thread nD τ).loc main_arg4) : Vec F S48x896x960 .f32) transposes_S48x896x960_S48x960x896_0_2_1 := by
  simp only [V, V0, hostOps0, List.flatten_cons, List.flatten_nil, List.append_nil]
  after_results <;> rfl

/-- The counts, as words. -/
abbrev cts (c : Dev nD) : S48.Idx → BitVec 32 := m ((c : Thread nD τ).loc main_arg5)

/-- What the kernel computes from. -/
def dat (c : Dev nD) : Data F c where
  n e := min (cts m c (ix1 ⟨e % 48, m48 e⟩)).toNat 8192
  hn _ := Nat.min_le_right _ _
  X := V m c main_arg0
  SX := V m c main_arg1
  DY := V m c main_v0
  SY := V m c main_arg3
  G := V m c main_v1

/-- The arrays after the kernel: its output array at the result. -/
def Gv (c : Dev nD) (b : Ref sig .tc) : Buf (Elt F) ((c : Thread nD τ).loc b) :=
  if h : main_v2 = b then h ▸ (OV c (dat m c)) else V m c b
theorem Gv_v2 (c : Dev nD) : Gv m c main_v2 = OV c (dat m c) := by unfold Gv; rw [dif_pos rfl]

/-- The kernel's only window at its only point: the counts. -/
def iblk (c : Dev nD) (t : Fin cfg0.N) : Vec F S48 .i32 := ((cfg0.win 0).blk t).view.read (Elt F) (V m c (Pipeline.arrRef spec0 0))

/-- The data of the launch: the counts staged and left as they are, all other memory held by the body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c t
  Φ t := if t.val = 0 then Pipeline.ΦDRV osem0 spec0 H0 R0 (V m) (V m) c else Pipeline.ΦDRV osem0 spec0 H0 R0 (V m) (Gv m) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c t := by dsimp only [dats]
theorem before0 (c : Dev nD) (t : Fin cfg0.N) (x) : (dats m 0 c).before 0 t x = iblk m c t :=
  ((dats m 0 c).before_in_eq_fetched 0 rfl (fun _ => rfl) (fun _ _ _ => rfl) (fun t => by rw [after0]; unfold Dat.blockOf iblk; rw [A_eq]; try rfl) t x).trans
    (by unfold Dat.fetched Dat.blockOf iblk; rw [A_eq]; try rfl)

theorem iblk_eq (c : Dev nD) (t : Fin cfg0.N) (x : S48.Idx) : iblk m c t x = cts m c x := by
  obtain rfl : t = t0_0 := fin_N0 t
  unfold iblk
  rw [show V m c (Pipeline.arrRef spec0 0) = m ((c : Thread nD τ).loc main_arg5) from V_main_arg5 m c]
  show cts m c _ = cts m c x
  refine congrArg (cts m c) (funext fun a => Fin.ext ?_)
  match a with
  | ⟨0, _⟩ =>
    refine (Nat.zero_add _).trans ?_
    exact Nat.one_mul _

/-! ## The memory around the body -/

theorem phi_whole (c : Dev nD) (G : (c : Dev nD) → (b : Ref sig .tc) → Buf (Elt F) ((c : Thread nD τ).loc b)) :
    (Pipeline.ΦDRV osem0 spec0 H0 R0 (V m) G c : sProp 𝕄)
      = iprop(((∃ f, ((c : Thread nD τ).loc cc0_scratch0) ↦[Finset.univ]{fullShare} f) ∗ (∃ f, ((c : Thread nD τ).loc cc0_scratch1) ↦[Finset.univ]{fullShare} f) ∗ (∃ f, ((c : Thread nD τ).loc cc0_scratch2) ↦[Finset.univ]{fullShare} f) ∗ (∃ f, ((c : Thread nD τ).loc cc0_scratch3) ↦[Finset.univ]{fullShare} f) ∗ (∃ f, ((c : Thread nD τ).loc cc0_scratch4) ↦[Finset.univ]{fullShare} f) ∗ (∃ f, ((c : Thread nD τ).loc cc0_scratch5) ↦[Finset.univ]{fullShare} f) ∗ (∃ f, ((c : Thread nD τ).loc cc0_scratch6) ↦[Finset.univ]{fullShare} f)) ∗ (semVal ((c : Thread nD τ), SemLoc.dma (sT 0)) 0 ∗ semVal ((c : Thread nD τ), SemLoc.dma (sT 1)) 0 ∗ semVal ((c : Thread nD τ), SemLoc.dma (sT 2)) 0 ∗ semVal ((c : Thread nD τ), SemLoc.dma (sT 3)) 0 ∗ semVal ((c : Thread nD τ), SemLoc.dma (sT 4)) 0 ∗ semVal ((c : Thread nD τ), SemLoc.dma (sY 0)) 0 ∗ semVal ((c : Thread nD τ), SemLoc.dma (sY 1)) 0 ∗ semVal ((c : Thread nD τ), SemLoc.dma (sY 2)) 0 ∗ semVal ((c : Thread nD τ), SemLoc.dma (sY 3)) 0 ∗ semVal ((c : Thread nD τ), SemLoc.dma (sY 4)) 0 ∗ semVal ((c : Thread nD τ), SemLoc.dma (sG 0)) 0 ∗ semVal ((c : Thread nD τ), SemLoc.dma (sG 1)) 0 ∗ semVal ((c : Thread nD τ), SemLoc.dma (sG 2)) 0 ∗ semVal ((c : Thread nD τ), SemLoc.dma (sG 3)) 0 ∗ semVal ((c : Thread nD τ), SemLoc.dma (sG 4)) 0 ∗ semVal ((c : Thread nD τ), SemLoc.dma (sG 5)) 0 ∗ semVal ((c : Thread nD τ), SemLoc.dma (sG 6)) 0 ∗ semVal ((c : Thread nD τ), SemLoc.dma (sG 7)) 0 ∗ semVal ((c : Thread nD τ), SemLoc.dma (sG 8)) 0 ∗ semVal ((c : Thread nD τ), SemLoc.dma (sG 9)) 0 ∗ semVal ((c : Thread nD τ), SemLoc.dma (sO 0)) 0 ∗ semVal ((c : Thread nD τ), SemLoc.dma (sO 1)) 0 ∗ semVal ((c : Thread nD τ), SemLoc.dma (sO 2)) 0 ∗ semVal ((c : Thread nD τ), SemLoc.dma (sO 3)) 0 ∗ semVal ((c : Thread nD τ), SemLoc.dma (sO 4)) 0 ∗ semVal ((c : Thread nD τ), SemLoc.dma (sO 5)) 0 ∗ semVal ((c : Thread nD τ), SemLoc.dma (sO 6)) 0 ∗ semVal ((c : Thread nD τ), SemLoc.dma (sO 7)) 0 ∗ semVal ((c : Thread nD τ), SemLoc.dma (sO 8)) 0 ∗ semVal ((c : Thread nD τ), SemLoc.dma (sO 9)) 0) ∗ ((((c : Thread nD τ).loc main_arg0) ↦[Finset.univ]{fullShare} V m c main_arg0) ∗ (((c : Thread nD τ).loc main_arg1) ↦[Finset.univ]{fullShare} V m c main_arg1) ∗ (((c : Thread nD τ).loc main_v0) ↦[Finset.univ]{fullShare} V m c main_v0) ∗ (((c : Thread nD τ).loc main_arg3) ↦[Finset.univ]{fullShare} V m c main_arg3) ∗ (((c : Thread nD τ).loc main_v1) ↦[Finset.univ]{fullShare} V m c main_v1)) ∗ (((c : Thread nD τ).loc main_v2) ↦[Finset.univ]{fullShare} G c main_v2)) := by
  unfold Pipeline.ΦDRV
  rw [scopedRest0_eq, ownSems00_eq,
    BI.bigSep_eq_bigSepL_of_eq (S := H0) [main_arg0, main_arg1, main_v0, main_arg3, main_v1] (by decide) (by decide),
    BI.bigSep_eq_bigSepL_of_eq (S := R0) [main_v2] (by decide) (by decide)]
  rfl

/-- The invariant of the launch is the kernel's memory. -/
theorem phi_eq (c : Dev nD) (G : (c : Dev nD) → (b : Ref sig .tc) → Buf (Elt F) ((c : Thread nD τ).loc b)) :
    (Pipeline.ΦDRV osem0 spec0 H0 R0 (V m) G c : sProp 𝕄) = whole c (dat m c) (G c main_v2) := by
  rw [phi_whole]; unfold whole; rfl

def bodyPre (c : Dev nD) (t : Fin cfg0.N) : sProp 𝕄 :=
  iprop((dats m 0 c).Φ t.castSucc ∗ (dats m 0 c).owesAt () t.castSucc
    ∗ (∃ x, owns (c : Thread nD τ) (st0_0 t) fullShare ((dats m 0 c).before 0 t x)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem phi_first (c : Dev nD) (t : Fin cfg0.N) : (dats m 0 c).Φ t.castSucc = whole c (dat m c) (V m c main_v2) := by
  obtain rfl : t = t0_0 := fin_N0 t
  rw [← phi_eq m c (V m)]; rfl
theorem phi_last (c : Dev nD) (t : Fin cfg0.N) : (dats m 0 c).Φ t.succ = whole c (dat m c) (OV c (dat m c)) := by
  obtain rfl : t = t0_0 := fin_N0 t
  rw [← Gv_v2 m c, ← phi_eq m c (Gv m)]; rfl

/-- The counts the launch has staged are the counts. -/
theorem cts_W (hc : ∀ c x, (cts m c x).toNat ≤ 8192) (c : Dev nD) (t : Fin cfg0.N) (x : S48.Idx) : iblk m c t x = W ((dat m c).n (x 0).val) := by
  have e : (ix1 ⟨(x 0).val % 48, m48 _⟩ : S48.Idx) = x := by
    funext a
    match a with
    | ⟨0, _⟩ => exact Fin.ext (Nat.mod_eq_of_lt (x 0).isLt)
  rw [iblk_eq]
  show _ = BitVec.ofNat 32 (min (cts m c (ix1 ⟨(x 0).val % 48, m48 _⟩)).toNat 8192)
  rw [e, Nat.min_eq_left (hc c x), BitVec.ofNat_toNat, BitVec.setWidth_eq]

/-- The body's triple, as the launch asks for it. -/
theorem sound_body (hc : ∀ c x, (cts m c x).toNat ≤ 8192) (c : Dev nD) (t : Fin cfg0.N) :
    bodyPre m c t ⊢ wp frame (wpE (defs₀ (F := F)) Variants.none c none) Set.univ (bodyAt0 t) (fun _ => bodyPost m c t) := by
  unfold bodyPre bodyPost
  rw [phi_first, phi_last, after0]
  simp only [before0]
  unfold Dat.owesAt Pipeline.owesWithin
  rw [show (dats m 0 c).owed t.castSucc = 0 from rfl, show (dats m 0 c).owed t.succ = 0 from rfl]
  iintro ⟨HM, ⟨%W, -, HW⟩, ⟨%x, H0⟩⟩
  ihave HM := (whole_open c (dat m c) _) $$ HM
  icases HM with ⟨HL, HP, HT, HA, HO⟩
  iapply (body_ok c (dat m c) Variants.none (st0_0 t) (hstage0_0 0) (V m c main_v2)) $$ [H0 HW HP HT HA HO]
  · isplitl [H0]
    · unfold owns cnt
      icases H0 with ⟨%f, %hf, H0⟩
      iexists f
      isplitr
      · ipureintro; intro x; rw [hf]; exact cts_W m hc c t x
      iexact H0
    isplitl [HW]; · unfold owesE; iexists W; iexact HW
    isplitl [HP]; · iexact HP
    isplitl [HT]; · iexact HT
    isplitl [HA] <;> iassumption
  iintro ⟨H0, HW, HP, HT, HA, HO⟩
  isplitl [HL HP HT HA HO]
  · iapply (whole_close c (dat m c) _)
    isplitl [HL]; · iexact HL
    isplitl [HP]; · iexact HP
    isplitl [HT]; · iexact HT
    isplitl [HA] <;> iassumption
  isplitl [HW]
  · unfold owesE
    icases HW with ⟨%W', HW⟩
    iexists W'; isplitr; · ipureintro; exact fun _ _ => Or.inl trivial
    iexact HW
  unfold owns cnt
  icases H0 with ⟨%f, %hf, H0⟩
  iexists f
  isplitr
  · ipureintro; funext x; rw [hf]; exact (cts_W m hc c t x).symm
  iexact H0

theorem defs₀_row (t : Fin cfg0.N) :
    defs₀ (F := F) .tc cfg0.body (cfg0.bodyArgs t (cfg0.slots t)) = bodyAt0 t := by
  unfold defs₀; rw [Defs.onTc_tc]

theorem body_obligation (hc : ∀ c x, (cts m c x).toNat ≤ 8192) (c : Dev nD) : BodyObligation (dats (F := F) m 0 c) (defs₀ (F := F)) Variants.none () Set.univ := fun t => by
  rw [bigSep_W0, bigSep_W0, defs₀_row]
  exact triple_restated (sound_body m hc c t) rfl .rfl fun _ => .rfl

/-! ## The run -/

/-- What `@main` leaves in the buffers outside the kernel. -/
def finV (c : Dev nD) (b : Ref sig .tc) : Buf (Elt F) ((c.tc : Thread nD τ).loc b) :=
  StableHlo.after (List.flatten [hostOps1]) (Pipeline.withArrays spec0 c (Pipeline.withR (V0 m c) R0 c (Gv m c)) fun w => (dats m 0 c).arrAt w cfg0.N) (Proc.devRef .tc b)

set_option backward.isDefEq.respectTransparency.types false in
/-- Every run ends, with the counts' array as the launch leaves it, every other buffer at `finV`, every semaphore at zero. -/
theorem run_main (hc : ∀ c x, (cts m c x).toNat ≤ 8192) : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = finV m c b) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m hc c).loose) (hshare := fun c => (dats m 0 c).share_full fun _ => rfl)
    (howed := fun _ _ => rfl) (V₀ := V0 m) (opss := [hostOps1]) (hsub := sfx_sub) (hfresh := sfx_fresh) (hkeep := sfx_keeps)
    (G := Gv m) (hmain := hmain m Variants.none) (hA := A_eq m)
    (hin := fun _ => .rfl) (hout := fun _ => .rfl) (hQ' := fun _ h => h)

/-- The output array when the kernel is left. -/
theorem fin_main_v3 (c : Dev nD) : finV m c main_v3
    = transpose S48x896x960 [0, 2, 1] (OV c (dat m c) : Vec F S48x960x896 .f32) transposes_S48x960x896_S48x896x960_0_2_1 := by
  unfold finV
  simp only [hostOps1, List.flatten_cons, List.flatten_nil, List.append_nil]
  have e : Pipeline.withArrays spec0 c (Pipeline.withR (V0 m c) R0 c (Gv m c)) (fun w => (dats m 0 c).arrAt w cfg0.N) (Proc.devRef .tc main_v2)
      = OV c (dat m c) := by
    rw [Pipeline.withArrays_of_ne _ c _ _ main_v2 (by exact (by decide : ∀ w, Pipeline.arrRef spec0 w ≠ main_v2)),
      Pipeline.withR_of_mem _ _ _ _ main_v2 (by decide), Gv_v2]
  rw [← e]
  after_results <;> rfl
theorem fin_main_arg0 (c : Dev nD) : finV m c main_arg0 = m ((c.tc : Thread nD τ).loc main_arg0) := by
  unfold finV
  rw [StableHlo.after_of_forall_not_mem (b := Proc.devRef .tc main_arg0) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c
theorem fin_main_arg1 (c : Dev nD) : finV m c main_arg1 = m ((c.tc : Thread nD τ).loc main_arg1) := by
  unfold finV
  rw [StableHlo.after_of_forall_not_mem (b := Proc.devRef .tc main_arg1) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg1 (by exact (by decide : ∀ w, Pipeline.arrRef spec0 w ≠ main_arg1)),
    Pipeline.withR_of_not_mem _ _ _ _ main_arg1 (by decide)]
  exact V_main_arg1 m c
theorem fin_main_arg2 (c : Dev nD) : finV m c main_arg2 = m ((c.tc : Thread nD τ).loc main_arg2) := by
  unfold finV
  rw [StableHlo.after_of_forall_not_mem (b := Proc.devRef .tc main_arg2) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg2 (by exact (by decide : ∀ w, Pipeline.arrRef spec0 w ≠ main_arg2)),
    Pipeline.withR_of_not_mem _ _ _ _ main_arg2 (by decide)]
  exact V_main_arg2 m c
theorem fin_main_arg3 (c : Dev nD) : finV m c main_arg3 = m ((c.tc : Thread nD τ).loc main_arg3) := by
  unfold finV
  rw [StableHlo.after_of_forall_not_mem (b := Proc.devRef .tc main_arg3) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg3 (by exact (by decide : ∀ w, Pipeline.arrRef spec0 w ≠ main_arg3)),
    Pipeline.withR_of_not_mem _ _ _ _ main_arg3 (by decide)]
  exact V_main_arg3 m c
theorem fin_main_arg4 (c : Dev nD) : finV m c main_arg4 = m ((c.tc : Thread nD τ).loc main_arg4) := by
  unfold finV
  rw [StableHlo.after_of_forall_not_mem (b := Proc.devRef .tc main_arg4) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg4 (by exact (by decide : ∀ w, Pipeline.arrRef spec0 w ≠ main_arg4)),
    Pipeline.withR_of_not_mem _ _ _ _ main_arg4 (by decide)]
  exact V_main_arg4 m c

/-- Every run ends with the arguments as they were and every semaphore at zero. -/
theorem frame_ok (hc : ∀ c x, (cts m c x).toNat ≤ 8192) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (fin_main_arg0 m c),
    ((h.1 c).2 main_arg1 (Pipeline.mem_restRefs_of main_arg1 (by decide) (by decide))).trans (fin_main_arg1 m c),
    ((h.1 c).2 main_arg2 (Pipeline.mem_restRefs_of main_arg2 (by decide) (by decide))).trans (fin_main_arg2 m c),
    ((h.1 c).2 main_arg3 (Pipeline.mem_restRefs_of main_arg3 (by decide) (by decide))).trans (fin_main_arg3 m c),
    ((h.1 c).2 main_arg4 (Pipeline.mem_restRefs_of main_arg4 (by decide) (by decide))).trans (fin_main_arg4 m c),
    ((h.1 c).1 0).trans (((dats m 0 c).arrAt_in 0 rfl _).trans ((A_eq m c 0).trans (V_main_arg5 m c)))⟩, h.2⟩) (run_main m ρ hc)

/-- Every run ends with the result at the kernel's value and the arguments as they were. -/
theorem value_ok (hc : ∀ c x, (cts m c x).toNat ≤ 8192) : θ_run defs (onTc (τ := τ) (main (F := F))) ⟨m, fun _ => 0, ρ⟩ (fun r => ∀ c : Dev nD,
      r.2.mem ((c.tc : Thread nD τ).loc main_v3) = transpose S48x896x960 [0, 2, 1] (OV c (dat m c) : Vec F S48x960x896 .f32) transposes_S48x960x896_S48x896x960_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v3 (Pipeline.mem_restRefs_of main_v3 (by decide) (by decide))).trans (fin_main_v3 m c),
    ((h.1 c).2 main_arg0 (Pipeline.mem_restRefs_of main_arg0 (by decide) (by decide))).trans (fin_main_arg0 m c),
    ((h.1 c).2 main_arg1 (Pipeline.mem_restRefs_of main_arg1 (by decide) (by decide))).trans (fin_main_arg1 m c),
    ((h.1 c).2 main_arg2 (Pipeline.mem_restRefs_of main_arg2 (by decide) (by decide))).trans (fin_main_arg2 m c),
    ((h.1 c).2 main_arg3 (Pipeline.mem_restRefs_of main_arg3 (by decide) (by decide))).trans (fin_main_arg3 m c),
    ((h.1 c).2 main_arg4 (Pipeline.mem_restRefs_of main_arg4 (by decide) (by decide))).trans (fin_main_arg4 m c),
    ((h.1 c).1 0).trans (((dats m 0 c).arrAt_in 0 rfl _).trans ((A_eq m c 0).trans (V_main_arg5 m c)))⟩) (run_main m ρ hc)

end Cert.KernelIdeal.Hand

end
-- ==== Proof.Value.lean ====
/-
  The kernel's accumulators at the ideal values: the gradient there was plus the sum, over the expert's tokens, of the
  scaled products.
-/
module

public import proofs.«01_k».proof.Proof.Launch
public import Idealize.ShloMosaic.Lib.MatmulPlain
public import Idealize.ShloMosaic.Lib.ValueLayout
public import Idealize.ShloMosaic.Lib.ValueIdx
public import Idealize.ShloMosaic.PureOps.Ideal.Laws

@[expose] public section

noncomputable section

namespace Cert.Spec

open Idealize.ShloMosaic Idealize.ShloMosaic.ValueIdx

/-- The weight gradient of expert `e` at input `i` and output `o`: the gradient there was plus the sum, over the token
    positions below the expert's count, of the scaled output gradient times the scaled token. -/
def wgrad (x : (⟨3, ![48, 8192, 896]⟩ : Shape).Idx → EReal) (sx : (⟨3, ![48, 64, 896]⟩ : Shape).Idx → EReal)
    (y : (⟨3, ![48, 8192, 960]⟩ : Shape).Idx → EReal) (sy : (⟨3, ![48, 64, 960]⟩ : Shape).Idx → EReal)
    (g : (⟨3, ![48, 896, 960]⟩ : Shape).Idx → EReal) (n : (⟨1, ![48]⟩ : Shape).Idx → BitVec 32)
    (e : Fin 48) (i : Fin 896) (o : Fin 960) : EReal :=
  g (ix3 e i o) + ∑ a : Fin 64, ∑ b : Fin 128,
    if 128 * a.val + b.val < (n (ix1 e)).toNat then
      y (ix3 e ⟨128 * a.val + b.val, by omega⟩ o) * sy (ix3 e a o) * (x (ix3 e ⟨128 * a.val + b.val, by omega⟩ i) * sx (ix3 e a i))
    else 0

end Cert.Spec

namespace Cert.KernelIdeal.Hand

open Cert.KernelIdeal Cert.KernelIdeal.Gen Cert.Ring Cert.Geo Cert.Words
open Idealize.ShloMosaic Idealize.ShloMosaic.TcCoe Idealize.ShloMosaic.ValueIdx
open Idealize.SL.Sem

/-- A sum of `w * n` terms, `w` at a time. -/
theorem sum_blocks {M : Type*} [AddCommMonoid M] (f : ℕ → M) (w : ℕ) : ∀ n : ℕ,
    ∑ t ∈ Finset.range (w * n), f t = ∑ a ∈ Finset.range n, ∑ b ∈ Finset.range w, f (w * a + b)
  | 0 => by simp
  | n + 1 => by rw [Nat.mul_succ, Finset.sum_range_add, sum_blocks f w n, Finset.sum_range_succ]

/-- Terms that vanish from `n` on add nothing. -/
theorem sum_tail {M : Type*} [AddCommMonoid M] (f : ℕ → M) {n a b : ℕ} (h : ∀ t, n ≤ t → f t = 0) (ha : n ≤ a) (hab : a ≤ b) :
    ∑ t ∈ Finset.range a, f t = ∑ t ∈ Finset.range b, f t := by
  obtain ⟨q, rfl⟩ := Nat.exists_eq_add_of_le hab
  rw [Finset.sum_range_add, Finset.sum_eq_zero (fun x _ => h (a + x) (by omega)), add_zero]

theorem zero_bf16 : (FloatOps.ofBits .bf16 0#16 : Ideal .bf16) = (0 : EReal) := by
  show Ideal.ofBits .bf16 0#16 = 0
  simp [Ideal.ofBits, Ideal.ieee]

variable (c : Dev nD) (d : Data Ideal c)

/-- Token `t`'s term of expert `e`'s sum at output `o` and input `i`: zero from the expert's last token on. -/
def T (e : ℕ) (o : Fin 960) (i : Fin 896) (t : ℕ) : EReal :=
  if t < d.n e then
    (show EReal from d.DY (ix3 ⟨e % 48, m48 e⟩ o ⟨t % 8192, m8192 t⟩ : S48x960x8192.Idx))
        * (show EReal from d.SY (ix3 ⟨e % 48, m48 e⟩ ⟨t / 128 % 64, m64 _⟩ o : S48x64x960.Idx))
      * ((show EReal from d.X (ix3 ⟨e % 48, m48 e⟩ ⟨t % 8192, m8192 t⟩ i : S48x8192x896.Idx))
        * (show EReal from d.SX (ix3 ⟨e % 48, m48 e⟩ ⟨t / 128 % 64, m64 _⟩ i : S48x64x896.Idx)))
  else 0

theorem T_zero (e : ℕ) (o : Fin 960) (i : Fin 896) (t : ℕ) (h : d.n e ≤ t) : T c d e o i t = 0 := if_neg (Nat.not_lt.2 h)

/-- The product of a chunk's two operands at one of its tokens. -/
theorem prod_T (e k : ℕ) (o : Fin 960) (i : Fin 896) (j : Fin 1024) :
    (show EReal from DP c d e k (ix2 o j : S960x1024.Idx)) * (show EReal from XP c d e k (ix2 j i : S1024x896.Idx)) = T c d e o i (1024 * k + j.val) := by
  have hj := j.isLt
  have ht : (1024 * k + j.val) % 8192 = (k * 1024 + j.val) % 8192 := by omega
  have hb : (1024 * k + j.val) / 128 % 64 = (k * 8 + j.val / 128 % 8) % 64 := by omega
  unfold T
  by_cases h : 1024 * k + j.val < d.n e
  · have hn : j.val / 128 < nb (d.n e) k := by unfold nb; omega
    rw [if_pos h]
    have e1 : DP c d e k (ix2 o j : S960x1024.Idx) = _ := if_pos ⟨hn, by show k * 1024 + j.val < d.n e; omega⟩
    have e2 : XP c d e k (ix2 j i : S1024x896.Idx) = _ := if_pos hn
    rw [e1, e2]
    simp only [ht, hb]
    rfl
  · rw [if_neg h]
    have e1 : DP c d e k (ix2 o j : S960x1024.Idx) = _ := if_neg (fun hh => h (by have h2 : k * 1024 + j.val < d.n e := hh.2; omega))
    rw [e1]
    exact (congrArg (· * (show EReal from XP c d e k (ix2 j i : S1024x896.Idx))) zero_bf16).trans (zero_mul _)

theorem plain256 : dot_S960x256_S256x896_S960x896_1_0_0_1_n_n = DotDims.plain 960 256 896 := rfl
theorem plain1024 : dot_S960x1024_S1024x896_S960x896_1_0_0_1_n_n = DotDims.plain 960 1024 896 := rfl

/-- A product of `w` tokens from the chunk's token `s` on, at an entry. -/
theorem mm_T (e k w s : ℕ) (hs : s + w ≤ 1024) (o : Fin 960) (i : Fin 896) :
    (show EReal from FloatOps.matmul (DotDims.plain 960 w 896) none (dOp c d e k w s) (xOp c d e k w s) (constant S960x896 .f32 0x00000000#32 : FVec Ideal S960x896 .f32) (ix2 o i : S960x896.Idx))
      = ∑ q ∈ Finset.range w, T c d e o i (1024 * k + (s + q)) := by
  refine (Ideal.matmul_plain_apply none _ _ _ o i).trans ?_
  have h0 : (constant S960x896 .f32 0x00000000#32 : FVec Ideal S960x896 .f32) (ix2 o i : S960x896.Idx) = (0 : EReal) := Ideal.ofBits_zero_f32
  rw [Finset.sum_range]
  refine (congrArg (· + _) h0).trans ((zero_add _).trans ?_)
  refine Finset.sum_congr rfl fun q _ => ?_
  have hq := q.isLt
  refine (prod_T c d e k o i ⟨(s + q.val) % 1024, m1024 _⟩).trans ?_
  show T c d e o i (1024 * k + (s + q.val) % 1024) = _
  rw [Nat.mod_eq_of_lt (by omega)]

/-- Two blocks' product added, or left out where no token is: either way the two blocks' terms are added. -/
theorem stp_T (e k j : ℕ) (hj : j < 4) (v : FVec Ideal S960x896 .f32) (o : Fin 960) (i : Fin 896) :
    (show EReal from stp c d e k j v (ix2 o i : S960x896.Idx))
      = (show EReal from v (ix2 o i : S960x896.Idx)) + ∑ q ∈ Finset.range 256, T c d e o i (1024 * k + (256 * j + q)) := by
  unfold stp
  split
  · exact congrArg ((show EReal from v (ix2 o i : S960x896.Idx)) + ·) (mm_T c d e k 256 (256 * j) (by omega) o i)
  · rename_i h
    rw [Finset.sum_eq_zero (fun q hq => T_zero c d e o i _ (by
      have := Finset.mem_range.mp hq
      unfold nb at h
      omega)), add_zero]

/-- One chunk adds its 1024 tokens' terms. -/
theorem accK_T (e k : ℕ) (v : FVec Ideal S960x896 .f32) (o : Fin 960) (i : Fin 896) :
    (show EReal from accK c d e k v (ix2 o i : S960x896.Idx))
      = (show EReal from v (ix2 o i : S960x896.Idx)) + ∑ q ∈ Finset.range 1024, T c d e o i (1024 * k + q) := by
  unfold accK
  split
  · refine (congrArg ((show EReal from v (ix2 o i : S960x896.Idx)) + ·) (mm_T c d e k 1024 0 (by omega) o i)).trans ?_
    simp only [Nat.zero_add]
  · rename_i h
    have hz : ∑ q ∈ Finset.range 256, T c d e o i (1024 * k + (256 * 3 + q)) = 0 :=
      Finset.sum_eq_zero fun q hq => T_zero c d e o i _ (by
        have := Finset.mem_range.mp hq
        unfold nb at h
        omega)
    have hs := sum_blocks (fun q => T c d e o i (1024 * k + q)) 256 4
    have h4 : ∀ g : ℕ → EReal, ∑ a ∈ Finset.range 4, g a = g 0 + g 1 + g 2 + g 3 := fun g => by
      rw [Finset.sum_range_succ, Finset.sum_range_succ, Finset.sum_range_succ, Finset.sum_range_succ, Finset.sum_range_zero, zero_add]
    rw [h4, hz, add_zero] at hs
    refine (stp_T c d e k 2 (by omega) _ o i).trans ?_
    refine (congrArg (· + _) ((stp_T c d e k 1 (by omega) _ o i).trans (congrArg (· + _) (stp_T c d e k 0 (by omega) v o i)))).trans ?_
    rw [show (1024 : ℕ) = 256 * 4 from rfl, hs, add_assoc, add_assoc, ← add_assoc (∑ q ∈ Finset.range 256, _)]

/-- The accumulator after `k` chunks at an entry. -/
theorem ACC_T (e : ℕ) (o : Fin 960) (i : Fin 896) : ∀ k : ℕ,
    (show EReal from ACC c d e k (ix2 o i : S960x896.Idx))
      = (show EReal from d.G (ix3 ⟨e % 48, m48 e⟩ o i : S48x960x896.Idx)) + ∑ t ∈ Finset.range (1024 * k), T c d e o i t
  | 0 => by
    rw [Nat.mul_zero, Finset.sum_range_zero, add_zero]
    rfl
  | k + 1 => by
    refine (accK_T c d e k (ACC c d e k) o i).trans ?_
    rw [ACC_T e o i k, Nat.mul_succ, Finset.sum_range_add, add_assoc]

/-- The kernel's result at an entry: the gradient there was plus the sum over all the token positions. -/
theorem OV_T (e : Fin 48) (o : Fin 960) (i : Fin 896) :
    (show EReal from OV c d (ix3 e o i : S48x960x896.Idx))
      = (show EReal from d.G (ix3 e o i : S48x960x896.Idx)) + ∑ a : Fin 64, ∑ b : Fin 128, T c d e.val o i (128 * a.val + b.val) := by
  have hn := d.hn e.val
  have he : (⟨e.val % 48, m48 e.val⟩ : Fin 48) = e := Fin.ext (Nat.mod_eq_of_lt e.isLt)
  refine (ACC_T c d e.val o i (nch (d.n e.val))).trans ?_
  rw [he, sum_tail (T c d e.val o i) (T_zero c d e.val o i) (a := 1024 * nch (d.n e.val)) (b := 128 * 64) (by unfold nch; omega) (by unfold nch; omega),
    sum_blocks (T c d e.val o i) 128 64, Finset.sum_range]
  simp only [Finset.sum_range]

variable (m : (ℓ : Loc nD τ sig) → Buf (Elt Ideal) ℓ)

/-- One term, from the arguments. -/
theorem T_dat (hc : ∀ x, (cts m c x).toNat ≤ 8192) (e : Fin 48) (i : Fin 896) (o : Fin 960) (a : Fin 64) (b : Fin 128) :
    T c (dat m c) e.val o i (128 * a.val + b.val)
      = if 128 * a.val + b.val < (cts m c (ix1 e : S48.Idx)).toNat then
          (show EReal from (m ((c : Thread nD τ).loc main_arg2) : Vec Ideal S48x8192x960 .fp8e5m2) (ix3 e ⟨128 * a.val + b.val, by omega⟩ o : S48x8192x960.Idx))
              * (show EReal from (m ((c : Thread nD τ).loc main_arg3) : Vec Ideal S48x64x960 .f32) (ix3 e a o : S48x64x960.Idx))
            * ((show EReal from (m ((c : Thread nD τ).loc main_arg0) : Vec Ideal S48x8192x896 .fp8e4m3) (ix3 e ⟨128 * a.val + b.val, by omega⟩ i : S48x8192x896.Idx))
              * (show EReal from (m ((c : Thread nD τ).loc main_arg1) : Vec Ideal S48x64x896 .f32) (ix3 e a i : S48x64x896.Idx)))
        else 0 := by
  have he : (⟨e.val % 48, m48 e.val⟩ : Fin 48) = e := Fin.ext (Nat.mod_eq_of_lt e.isLt)
  have ht : (⟨(128 * a.val + b.val) % 8192, m8192 _⟩ : Fin 8192) = ⟨128 * a.val + b.val, by omega⟩ := Fin.ext (Nat.mod_eq_of_lt (by omega))
  have hb : (⟨(128 * a.val + b.val) / 128 % 64, m64 _⟩ : Fin 64) = a := Fin.ext (by show (128 * a.val + b.val) / 128 % 64 = a.val; omega)
  have hn : (dat m c).n e.val = (cts m c (ix1 e : S48.Idx)).toNat := by
    show min (cts m c (ix1 ⟨e.val % 48, m48 e.val⟩ : S48.Idx)).toNat 8192 = _
    rw [he]
    exact Nat.min_eq_left (hc _)
  unfold T
  rw [hn, he, ht, hb]
  show (if _ then (show EReal from V m c main_v0 _) * (show EReal from V m c main_arg3 _) * ((show EReal from V m c main_arg0 _) * (show EReal from V m c main_arg1 _)) else 0) = _
  rw [V_main_v0, V_main_arg0, V_main_arg1, V_main_arg3, transpose_ix3_021_apply]

/-- **The kernel's result at an entry, from the arguments.** -/
theorem ker_apply (hc : ∀ x, (cts m c x).toNat ≤ 8192) (e : Fin 48) (i : Fin 896) (o : Fin 960) :
    (show EReal from (transpose S48x896x960 [0, 2, 1] (OV c (dat m c) : Vec Ideal S48x960x896 .f32) transposes_S48x960x896_S48x896x960_0_2_1 : Vec Ideal S48x896x960 .f32) (ix3 e i o : S48x896x960.Idx))
      = Cert.Spec.wgrad (m ((c : Thread nD τ).loc main_arg0) : Vec Ideal S48x8192x896 .fp8e4m3) (m ((c : Thread nD τ).loc main_arg1) : Vec Ideal S48x64x896 .f32)
        (m ((c : Thread nD τ).loc main_arg2) : Vec Ideal S48x8192x960 .fp8e5m2) (m ((c : Thread nD τ).loc main_arg3) : Vec Ideal S48x64x960 .f32)
        (m ((c : Thread nD τ).loc main_arg4) : Vec Ideal S48x896x960 .f32) (cts m c) e i o := by
  have hg : (dat m c).G (ix3 e o i : S48x960x896.Idx) = (m ((c : Thread nD τ).loc main_arg4) : Vec Ideal S48x896x960 .f32) (ix3 e i o : S48x896x960.Idx) := by
    show V m c main_v1 _ = _
    rw [V_main_v1]
    exact transpose_ix3_021_apply _ _ e o i
  refine (transpose_ix3_021_apply _ _ e i o).trans ((OV_T c (dat m c) e o i).trans ?_)
  unfold Cert.Spec.wgrad
  refine (congrArg (fun w : EReal => w + _) hg).trans (congrArg (fun w : EReal => _ + w) ?_)
  exact Finset.sum_congr rfl fun a _ => Finset.sum_congr rfl fun b _ => T_dat c m hc e i o a b

end Cert.KernelIdeal.Hand

end
-- ==== Proof.RefVal.lean ====
/-
  The reference's result at an entry, at the ideal values: the gradient there was plus the sum, over the token positions,
  of the scaled products, a position from the expert's last token on counting nothing.
-/
module

public import proofs.«01_k».proof.Proof.Gen.ReferenceIdeal.Run
public import proofs.«01_k».proof.Proof.Gen.ReferenceIdeal.Read
public import Idealize.ShloMosaic.Lib.Pipeline.ValueKit
public import Idealize.ShloMosaic.Lib.TwoAxisContraction
public import Idealize.ShloMosaic.Lib.ValueIdx
public import Idealize.ShloMosaic.PureOps.Ideal.Laws

@[expose] public section

noncomputable section

namespace Cert.ReferenceIdeal.Hand

open Cert.ReferenceIdeal Cert.ReferenceIdeal.Gen Cert.ReferenceIdeal.Value Cert.ReferenceIdeal.Read
open Idealize.ShloMosaic hiding ix1 ix3 ix4
open Idealize.ShloMosaic.TcCoe Idealize.ShloMosaic.ValueIdx
open Idealize.SL.Sem

section Region
variable {F : FTy → Type} [FloatOps F] (m : (ℓ : Loc nD τ sig) → Buf (Elt F) ℓ)

theorem zero3 : (![0, 0, 0] : Fin 3 → ℕ) = fun _ => 0 := by
  funext a
  match a with
  | ⟨0, _⟩ => rfl
  | ⟨1, _⟩ => rfl
  | ⟨2, _⟩ => rfl

theorem idx0_0 : ∀ a, win0_0.index t0_0 a = 0 := by decide +kernel
theorem idx0_1 : ∀ a, win0_1.index t0_0 a = 0 := by decide +kernel

theorem iblk0 (c : Dev nD) : iblk m c 0 t0_0 = (m ((c.tc : Thread nD τ).loc main_arg0) : Vec F S48x8192x896 .fp8e4m3) := by
  funext j
  show V m c main_arg0 _ = _
  refine (congrFun (Gen.V_main_arg0 m c) _).trans (congrArg _ ?_)
  funext a
  apply Fin.ext
  exact Pipeline.Window.rect_emb_val_of_index_zero win0_0 t0_0 a (idx0_0 a) j
theorem iblk1 (c : Dev nD) : iblk m c 1 t0_0 = (m ((c.tc : Thread nD τ).loc main_arg2) : Vec F S48x8192x960 .fp8e5m2) := by
  funext j
  show V m c main_arg2 _ = _
  refine (congrFun (Gen.V_main_arg2 m c) _).trans (congrArg _ ?_)
  funext a
  apply Fin.ext
  exact Pipeline.Window.rect_emb_val_of_index_zero win0_1 t0_0 a (idx0_1 a) j

/-- The first result of the widening region: the tokens widened. -/
theorem reg0 (c : Dev nD) : reg_main_v0_0 m c = (extf .bf16 (m ((c.tc : Thread nD τ).loc main_arg0) : FVec F S48x8192x896 .fp8e4m3) bitsLt_fp8e4m3_bf16 : FVec F S48x8192x896 .bf16) := by
  unfold reg_main_v0_0
  refine (dats m 0 c).arrAt_eq_of_after_last 2 t0_0 (by decide +kernel) _ ?_
  intro j
  have ho : out0_2 (iblk m c 0 t0_0) (iblk m c 1 t0_0) = extf .bf16 (m ((c.tc : Thread nD τ).loc main_arg0) : FVec F S48x8192x896 .fp8e4m3) bitsLt_fp8e4m3_bf16 := by
    unfold out0_2
    rw [View.canon_unit_zero zero3, View.ld_unit_zero zero3, iblk0]
    rfl
  rw [after0_2]
  exact (cast_eq _ _).trans (congrFun ho (fun a => j a))
/-- The second: the output gradients widened. -/
theorem reg1 (c : Dev nD) : reg_main_v0_1 m c = (extf .bf16 (m ((c.tc : Thread nD τ).loc main_arg2) : FVec F S48x8192x960 .fp8e5m2) bitsLt_fp8e5m2_bf16 : FVec F S48x8192x960 .bf16) := by
  unfold reg_main_v0_1
  refine (dats m 0 c).arrAt_eq_of_after_last 3 t0_0 (by decide +kernel) _ ?_
  intro j
  have ho : out0_3 (iblk m c 0 t0_0) (iblk m c 1 t0_0) = extf .bf16 (m ((c.tc : Thread nD τ).loc main_arg2) : FVec F S48x8192x960 .fp8e5m2) bitsLt_fp8e5m2_bf16 := by
    unfold out0_3
    rw [View.canon_unit_zero zero3, View.ld_unit_zero zero3, iblk1]
    rfl
  rw [after0_3]
  exact (cast_eq _ _).trans (congrFun ho (fun a => j a))

end Region

/-- The product over blocks and tokens at an entry. -/
theorem dot_apply (L : FVec Ideal S48x64x128x896 .bf16) (R : FVec Ideal S48x64x128x960 .bf16) (e : Fin 48) (i : Fin 896) (o : Fin 960) :
    (show EReal from (Host.dotGeneral dot_S48x64x128x896_S48x64x128x960_S48x896x960_12_12_3_3_0_0 none L R : FVec Ideal S48x896x960 .f32) (ix3 e i o : S48x896x960.Idx))
      = ∑ a : Fin 64, ∑ b : Fin 128, (show EReal from L (ix4 e a b i : S48x64x128x896.Idx)) * (show EReal from R (ix4 e a b o : S48x64x128x960.Idx)) := by
  let D := dot_S48x64x128x896_S48x64x128x960_S48x896x960_12_12_3_3_0_0
  have hr : D.contr.rank = 2 := rfl
  have c0 : D.contr.size ⟨0, by rw [hr]; omega⟩ = 64 := rfl
  have c1 : D.contr.size ⟨1, by rw [hr]; omega⟩ = 128 := rfl
  simp only [Host.dotGeneral]
  refine (Ideal.dotGeneral_apply D none _ L R _).trans ?_
  rw [← Equiv.sum_comp (contrEquiv2 D 64 128 hr c0 c1).symm, Fintype.sum_prod_type]
  refine Finset.sum_congr rfl fun a _ => Finset.sum_congr rfl fun b _ => ?_
  have h0 := contrEquiv2_symm_val0 D 64 128 hr c0 c1 (a, b)
  have h1 := contrEquiv2_symm_val1 D 64 128 hr c0 c1 (a, b)
  have el : D.lhsIdx (ix3 e i o : S48x896x960.Idx) ((contrEquiv2 D 64 128 hr c0 c1).symm (a, b)) = (ix4 e a b i : S48x64x128x896.Idx) := by
    funext z; apply Fin.ext
    match z with
    | ⟨0, _⟩ => rfl
    | ⟨1, _⟩ => exact h0
    | ⟨2, _⟩ => exact h1
    | ⟨3, _⟩ => rfl
  have er : D.rhsIdx (ix3 e i o : S48x896x960.Idx) ((contrEquiv2 D 64 128 hr c0 c1).symm (a, b)) = (ix4 e a b o : S48x64x128x960.Idx) := by
    funext z; apply Fin.ext
    match z with
    | ⟨0, _⟩ => rfl
    | ⟨1, _⟩ => exact h0
    | ⟨2, _⟩ => exact h1
    | ⟨3, _⟩ => rfl
  rw [el, er]

theorem tok_lt (a : Fin 64) (b : Fin 128) : 128 * a.val + b.val < 8192 := by omega

variable (x : FVec Ideal S48x8192x896 .bf16) (sx : FVec Ideal S48x64x896 .f32) (y : FVec Ideal S48x8192x960 .bf16)
  (sy : FVec Ideal S48x64x960 .f32) (g : FVec Ideal S48x896x960 .f32) (n : IVec S48 32)

/-- A scaled token entry. -/
theorem v5_apply (e : Fin 48) (a : Fin 64) (b : Fin 128) (i : Fin 896) :
    (show EReal from val_main_v5 (F := Ideal) sx x (ix4 e a b i : S48x64x128x896.Idx))
      = (show EReal from x (ix3 e ⟨128 * a.val + b.val, tok_lt a b⟩ i : S48x8192x896.Idx)) * (show EReal from sx (ix3 e a i : S48x64x896.Idx)) := by
  rw [val_main_v5_apply, val_main_v1_apply, val_main_v4_apply, val_main_v3_apply, val_main_v2_apply]
  have e1 : idx_main_v1 (ix4 e a b i : S48x64x128x896.Idx) = (ix3 e ⟨128 * a.val + b.val, tok_lt a b⟩ i : S48x8192x896.Idx) := by
    have he := e.isLt; have ha := a.isLt; have hb := b.isLt; have hi := i.isLt
    funext z; apply Fin.ext
    match z with
    | ⟨0, _⟩ => show (((e.val * 64 + a.val) * 128 + b.val) * 896 + i.val) / 7340032 = e.val; omega
    | ⟨1, _⟩ => show (((e.val * 64 + a.val) * 128 + b.val) * 896 + i.val) / 896 % 8192 = 128 * a.val + b.val; omega
    | ⟨2, _⟩ => show (((e.val * 64 + a.val) * 128 + b.val) * 896 + i.val) % 896 = i.val; omega
  have e2 : idx_main_v2 (idx_main_v4 (ix4 e a b i : S48x64x128x896.Idx)) = (ix3 e a i : S48x64x896.Idx) := by
    have he := e.isLt; have ha := a.isLt; have hi := i.isLt
    funext z; apply Fin.ext
    match z with
    | ⟨0, _⟩ => show (((e.val * 64 + a.val) * 1 + 0) * 896 + i.val) / 57344 = e.val; omega
    | ⟨1, _⟩ => show (((e.val * 64 + a.val) * 1 + 0) * 896 + i.val) / 896 % 64 = a.val; omega
    | ⟨2, _⟩ => show (((e.val * 64 + a.val) * 1 + 0) * 896 + i.val) % 896 = i.val; omega
  rw [e1, e2]
  rfl

/-- A scaled output-gradient entry, before the mask. -/
theorem v10_apply (e : Fin 48) (a : Fin 64) (b : Fin 128) (o : Fin 960) :
    (show EReal from val_main_v10 (F := Ideal) sy y (ix4 e a b o : S48x64x128x960.Idx))
      = (show EReal from y (ix3 e ⟨128 * a.val + b.val, tok_lt a b⟩ o : S48x8192x960.Idx)) * (show EReal from sy (ix3 e a o : S48x64x960.Idx)) := by
  rw [val_main_v10_apply, val_main_v6_apply, val_main_v9_apply, val_main_v8_apply, val_main_v7_apply]
  have e1 : idx_main_v6 (ix4 e a b o : S48x64x128x960.Idx) = (ix3 e ⟨128 * a.val + b.val, tok_lt a b⟩ o : S48x8192x960.Idx) := by
    have he := e.isLt; have ha := a.isLt; have hb := b.isLt; have hi := o.isLt
    funext z; apply Fin.ext
    match z with
    | ⟨0, _⟩ => show (((e.val * 64 + a.val) * 128 + b.val) * 960 + o.val) / 7864320 = e.val; omega
    | ⟨1, _⟩ => show (((e.val * 64 + a.val) * 128 + b.val) * 960 + o.val) / 960 % 8192 = 128 * a.val + b.val; omega
    | ⟨2, _⟩ => show (((e.val * 64 + a.val) * 128 + b.val) * 960 + o.val) % 960 = o.val; omega
  have e2 : idx_main_v7 (idx_main_v9 (ix4 e a b o : S48x64x128x960.Idx)) = (ix3 e a o : S48x64x960.Idx) := by
    have he := e.isLt; have ha := a.isLt; have hi := o.isLt
    funext z; apply Fin.ext
    match z with
    | ⟨0, _⟩ => show (((e.val * 64 + a.val) * 1 + 0) * 960 + o.val) / 61440 = e.val; omega
    | ⟨1, _⟩ => show (((e.val * 64 + a.val) * 1 + 0) * 960 + o.val) / 960 % 64 = a.val; omega
    | ⟨2, _⟩ => show (((e.val * 64 + a.val) * 1 + 0) * 960 + o.val) % 960 = o.val; omega
  rw [e1, e2]
  rfl

/-- The mask: whether the position is below the expert's count. -/
theorem mask_apply (hn : ∀ k, (n k).toNat ≤ 8192) (e : Fin 48) (a : Fin 64) (b : Fin 128) (o : Fin 960) :
    val_main_call0_v0 (F := Ideal) n (ix4 e a b o : S48x64x128x960.Idx) = BitVec.ofBool (decide (128 * a.val + b.val < (n (ix1 e : S48.Idx)).toNat)) := by
  rw [val_main_call0_v0_apply, val_main_v16_apply, val_main_v14_apply, val_main_v12_apply, val_main_v11_apply, val_main_v15_apply, val_main_v13_apply]
  have e1 : idx_main_v13 (idx_main_v15 (idx_main_call0_v0 (ix4 e a b o : S48x64x128x960.Idx))) = (ix1 e : S48.Idx) := by
    funext z; apply Fin.ext
    match z with
    | ⟨0, _⟩ => rfl
  have e2 : (idx_main_v12 (idx_main_v14 (idx_main_call0_v0 (ix4 e a b o : S48x64x128x960.Idx))) 0).val = 128 * a.val + b.val := by
    show ((0 * 64 + a.val) * 128 + b.val) * 1 + 0 = _
    omega
  rw [e1, e2]
  have h := hn (ix1 e : S48.Idx)
  have ht := tok_lt a b
  generalize n (ix1 e : S48.Idx) = w at h
  show BitVec.ofBool (BitVec.slt (BitVec.ofNat 32 (128 * a.val + b.val)) w) = _
  congr 1
  rw [BitVec.slt_eq_decide]
  refine decide_eq_decide.mpr ?_
  rw [BitVec.toInt_eq_toNat_of_lt (by rw [BitVec.toNat_ofNat]; omega), BitVec.toInt_eq_toNat_of_lt (by omega), BitVec.toNat_ofNat]
  omega

theorem zero_bf16 : (FloatOps.ofBits .bf16 0x0000#16 : Ideal .bf16) = (0 : EReal) := by
  show Ideal.ofBits .bf16 0x0000#16 = 0
  simp [Ideal.ofBits, Ideal.ieee]

/-- **The reference at an entry.** -/
theorem ref_apply (hn : ∀ k, (n k).toNat ≤ 8192) (e : Fin 48) (i : Fin 896) (o : Fin 960) :
    (show EReal from val_main_v19 (F := Ideal) sx sy g n x y (ix3 e i o : S48x896x960.Idx))
      = (show EReal from g (ix3 e i o : S48x896x960.Idx)) + ∑ a : Fin 64, ∑ b : Fin 128,
        if 128 * a.val + b.val < (n (ix1 e : S48.Idx)).toNat then
          (show EReal from y (ix3 e ⟨128 * a.val + b.val, tok_lt a b⟩ o : S48x8192x960.Idx)) * (show EReal from sy (ix3 e a o : S48x64x960.Idx))
            * ((show EReal from x (ix3 e ⟨128 * a.val + b.val, tok_lt a b⟩ i : S48x8192x896.Idx)) * (show EReal from sx (ix3 e a i : S48x64x896.Idx)))
        else 0 := by
  rw [val_main_v19_apply]
  refine congrArg ((show EReal from g (ix3 e i o : S48x896x960.Idx)) + ·) ?_
  refine (dot_apply _ _ e i o).trans ?_
  refine Finset.sum_congr rfl fun a _ => Finset.sum_congr rfl fun b _ => ?_
  rw [val_main_v17_apply, mask_apply n hn]
  refine (congrArg (· * _) (v5_apply x sx e a b i)).trans ?_
  split
  · rename_i h
    rw [decide_eq_true h]
    exact (congrArg _ (v10_apply y sy e a b o)).trans (mul_comm _ _)
  · rename_i h
    rw [decide_eq_false h]
    refine (congrArg _ ?_).trans (mul_zero _)
    show val_main_call0_v1 (F := Ideal) (ix4 e a b o : S48x64x128x960.Idx) = (0 : EReal)
    rw [val_main_call0_v1_apply, val_main_cst_apply]
    exact zero_bf16

end Cert.ReferenceIdeal.Hand

end
-- ==== Proof.lean ====
/-
  The proof of the claim: the kernel's run (module Launch) at the machine's words and at the ideal values, the
  reference's run, and the two results at the ideal values, entry by entry the same sum.
-/
module

public import proofs.«01_k».proof.Defs
public import proofs.«01_k».proof.Proof.Launch
public import proofs.«01_k».proof.Proof.Value
public import proofs.«01_k».proof.Proof.RefVal
public import proofs.«01_k».proof.Proof.Gen.Kernel
public import proofs.«01_k».proof.Proof.Gen.ReferenceIdeal.Frame
public import proofs.«01_k».proof.Proof.Gen.ReferenceIdeal.Run

@[expose] public section

noncomputable section

namespace Cert.Proof

open Idealize.ShloMosaic Idealize.ShloMosaic.TcCoe Idealize.ShloMosaic.Tactic Idealize.SL.Sem

/-- A word that is at least 0 and at most 8192 as a signed number is at most 8192 as a natural one. -/
theorem le_of_cmp {x : BitVec 32} (h : IntOp.andi (IntOp.cmpi .sge x 0#32) (IntOp.cmpi .sle x 8192#32) = 1#1) : x.toNat ≤ 8192 := by
  have hb : BitVec.sle 0#32 x = true ∧ BitVec.sle x 8192#32 = true := by
    revert h
    show (BitVec.ofBool (BitVec.sle 0#32 x) &&& BitVec.ofBool (BitVec.sle x 8192#32)) = 1#1 → _
    cases BitVec.sle 0#32 x <;> cases BitVec.sle x 8192#32 <;> decide
  obtain ⟨h1, h2⟩ := hb
  simp only [BitVec.sle, decide_eq_true_eq] at h1 h2
  have e0 : (0#32).toInt = 0 := by decide
  have e1 : (8192#32).toInt = 8192 := by decide
  rw [e0] at h1
  rw [e1] at h2
  rw [BitVec.toInt_eq_toNat_cond] at h1 h2
  have := x.isLt
  split at h1 <;> omega

/-- The precondition at one expert. -/
theorem counts_le {F : FTy → Type} [FloatOps F] [Cert.Pre_pre.Facts] {a0 a1 a2 a3 a4} {a5 : IVec Cert.Pre_pre.S48 32}
    (h : Cert.Pre_pre.fn (F := F) a0 a1 a2 a3 a4 a5 = fun _ => 1#1) (x : Cert.Pre_pre.S48.Idx) : (a5 x).toNat ≤ 8192 :=
  le_of_cmp (congrFun h x)

theorem quiescent_KernelIdeal [Cert.Pre_pre.Facts] : @Cert.quiescent_KernelIdeal Cert.KernelIdeal.Gen.facts _ := fun m g h =>
  Cert.KernelIdeal.Hand.frame_ok m g fun c x => counts_le (h c) x

/-- The kernel at the machine's words: the same program text, so the same proof. -/
theorem quiescent_Kernel [Cert.Pre_pre.Facts] : @Cert.quiescent_Kernel Cert.Kernel.Gen.facts _ := fun m g h =>
  have hc : ∀ c x, (Cert.KernelIdeal.Hand.cts (F := Bits) m c x).toNat ≤ 8192 := fun c x => counts_le (h c) x
  Eq.mp (by sl_kernel_rfl) (Cert.KernelIdeal.Hand.frame_ok (F := Bits) m g hc)

theorem quiescent_ReferenceIdeal [Cert.Pre_pre.Facts] : @Cert.quiescent_ReferenceIdeal Cert.ReferenceIdeal.Gen.facts _ := fun m g _ =>
  Cert.ReferenceIdeal.Gen.frame m g

section Algebraic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result is the kernel's, from the same arguments. -/
theorem result_eq (c : Dev Cert.KernelIdeal.nD) (hc : ∀ x, (Cert.KernelIdeal.Hand.cts m c x).toNat ≤ 8192)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Read.val_main_v19 (F := Ideal)
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (Cert.ReferenceIdeal.Value.reg_main_v0_0 m' c) (Cert.ReferenceIdeal.Value.reg_main_v0_1 m' c) : Vec Ideal Cert.KernelIdeal.S48x896x960 .f32)
      = transpose Cert.KernelIdeal.S48x896x960 [0, 2, 1] (Cert.KernelIdeal.Hand.OV c (Cert.KernelIdeal.Hand.dat m c) : Vec Ideal Cert.KernelIdeal.S48x960x896 .f32) Cert.KernelIdeal.Gen.transposes_S48x960x896_S48x896x960_0_2_1 := by
  rw [Cert.ReferenceIdeal.Hand.reg0, Cert.ReferenceIdeal.Hand.reg1, h0, h1, h2, h3, h4, h5]
  funext z
  have hz : z = (ValueIdx.ix3 (z 0) (z 1) (z 2) : Cert.KernelIdeal.S48x896x960.Idx) := ValueIdx.eq_ix3 z
  rw [hz]
  exact (Cert.ReferenceIdeal.Hand.ref_apply _ _ _ _ _ _ hc (z 0) (z 1) (z 2)).trans (Cert.KernelIdeal.Hand.ker_apply c m hc (z 0) (z 1) (z 2)).symm

end Algebraic

/-- The kernel and the reference, at the ideal values, leave the same result. -/
theorem algebraic [Cert.Pre_pre.Facts] :
    @Cert.algebraic_KernelIdeal_ReferenceIdeal Cert.KernelIdeal.Gen.facts Cert.ReferenceIdeal.Gen.facts _ := fun m g m' g' h hm =>
  have hc : ∀ c x, (Cert.KernelIdeal.Hand.cts m c x).toNat ≤ 8192 := fun c x => counts_le (h c) x
  ⟨_, Cert.KernelIdeal.Hand.value_ok m g hc,
    (θ_run _ _ _).mono (fun _ hr c => ⟨(hr c).1.trans (result_eq m m' c (hc c) (hm c).1 (hm c).2.1 (hm c).2.2.1 (hm c).2.2.2.1 (hm c).2.2.2.2.1 (hm c).2.2.2.2.2), (hr c).2⟩)
      (Cert.ReferenceIdeal.Value.run (F := Ideal) m' g')⟩

theorem pre_facts : Cert.Pre_pre.Facts := ⟨by decide⟩

/-- Everything claimed. -/
theorem claim : Cert.Claim :=
  ⟨Cert.Kernel.Gen.facts, Cert.KernelIdeal.Gen.facts, Cert.ReferenceIdeal.Gen.facts, pre_facts,
    @quiescent_Kernel pre_facts, @quiescent_KernelIdeal pre_facts, @quiescent_ReferenceIdeal pre_facts, trivial,
    @algebraic pre_facts⟩

end Cert.Proof

end
